-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_InU (m : (ℓ : Loc Cert.InU.nD Cert.InU.τ Cert.InU.sig) → Buf (Elt Bits) ℓ) : Prop :=
  True

def Pre_InUIdeal (m : (ℓ : Loc Cert.InUIdeal.nD Cert.InUIdeal.τ Cert.InUIdeal.sig) → Buf (Elt Ideal) ℓ) : Prop :=
  True

def Pre_InURefIdeal (m : (ℓ : Loc Cert.InURefIdeal.nD Cert.InURefIdeal.τ Cert.InURefIdeal.sig) → Buf (Elt Ideal) ℓ) : Prop :=
  True

def Pre_InL (m : (ℓ : Loc Cert.InL.nD Cert.InL.τ Cert.InL.sig) → Buf (Elt Bits) ℓ) : Prop :=
  True

def Pre_InLIdeal (m : (ℓ : Loc Cert.InLIdeal.nD Cert.InLIdeal.τ Cert.InLIdeal.sig) → Buf (Elt Ideal) ℓ) : Prop :=
  True

def Pre_InLRefIdeal (m : (ℓ : Loc Cert.InLRefIdeal.nD Cert.InLRefIdeal.τ Cert.InLRefIdeal.sig) → Buf (Elt Ideal) ℓ) : Prop :=
  True

def Pre_ProjX (m : (ℓ : Loc Cert.ProjX.nD Cert.ProjX.τ Cert.ProjX.sig) → Buf (Elt Bits) ℓ) : Prop :=
  True

def Pre_ProjXIdeal (m : (ℓ : Loc Cert.ProjXIdeal.nD Cert.ProjXIdeal.τ Cert.ProjXIdeal.sig) → Buf (Elt Ideal) ℓ) : Prop :=
  True

def Pre_ProjXRefIdeal (m : (ℓ : Loc Cert.ProjXRefIdeal.nD Cert.ProjXRefIdeal.τ Cert.ProjXRefIdeal.sig) → Buf (Elt Ideal) ℓ) : Prop :=
  True

def Pre_ProjW (m : (ℓ : Loc Cert.ProjW.nD Cert.ProjW.τ Cert.ProjW.sig) → Buf (Elt Bits) ℓ) : Prop :=
  True

def Pre_ProjWIdeal (m : (ℓ : Loc Cert.ProjWIdeal.nD Cert.ProjWIdeal.τ Cert.ProjWIdeal.sig) → Buf (Elt Ideal) ℓ) : Prop :=
  True

def Pre_ProjWRefIdeal (m : (ℓ : Loc Cert.ProjWRefIdeal.nD Cert.ProjWRefIdeal.τ Cert.ProjWRefIdeal.sig) → Buf (Elt Ideal) ℓ) : Prop :=
  True

def Pre_ProjY (m : (ℓ : Loc Cert.ProjY.nD Cert.ProjY.τ Cert.ProjY.sig) → Buf (Elt Bits) ℓ) : Prop :=
  True

def Pre_ProjYIdeal (m : (ℓ : Loc Cert.ProjYIdeal.nD Cert.ProjYIdeal.τ Cert.ProjYIdeal.sig) → Buf (Elt Ideal) ℓ) : Prop :=
  True

def Pre_ProjYRefIdeal (m : (ℓ : Loc Cert.ProjYRefIdeal.nD Cert.ProjYRefIdeal.τ Cert.ProjYRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_qkv [hPre_finite_qkv : Cert.Pre_finite_qkv.Facts] (m : (ℓ : Loc Cert.FwdIdeal.nD Cert.FwdIdeal.τ Cert.FwdIdeal.sig) → Buf (Elt Ideal) ℓ) : Prop :=
  ∀ c : Dev Cert.FwdIdeal.nD,
    (Cert.Pre_finite_qkv.fn (F := Ideal) (m ((c.tc : Thread Cert.FwdIdeal.nD Cert.FwdIdeal.τ).loc Cert.FwdIdeal.main_arg0))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_qkv [hPre_finite_qkv : Cert.Pre_finite_qkv.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_qkv.fn (F := Ideal) (m ((c.tc : Thread Cert.FwdRefIdeal.nD Cert.FwdRefIdeal.τ).loc Cert.FwdRefIdeal.main_arg0))) = (fun _ => 1#1)

def Pre_MergeF (m : (ℓ : Loc Cert.MergeF.nD Cert.MergeF.τ Cert.MergeF.sig) → Buf (Elt Bits) ℓ) : Prop :=
  True

def Pre_MergeFIdeal (m : (ℓ : Loc Cert.MergeFIdeal.nD Cert.MergeFIdeal.τ Cert.MergeFIdeal.sig) → Buf (Elt Ideal) ℓ) : Prop :=
  True

def Pre_MergeFRefIdeal (m : (ℓ : Loc Cert.MergeFRefIdeal.nD Cert.MergeFRefIdeal.τ Cert.MergeFRefIdeal.sig) → Buf (Elt Ideal) ℓ) : Prop :=
  True

def Pre_MergeB (m : (ℓ : Loc Cert.MergeB.nD Cert.MergeB.τ Cert.MergeB.sig) → Buf (Elt Bits) ℓ) : Prop :=
  True

def Pre_MergeBIdeal (m : (ℓ : Loc Cert.MergeBIdeal.nD Cert.MergeBIdeal.τ Cert.MergeBIdeal.sig) → Buf (Elt Ideal) ℓ) : Prop :=
  True

def Pre_MergeBRefIdeal (m : (ℓ : Loc Cert.MergeBRefIdeal.nD Cert.MergeBRefIdeal.τ Cert.MergeBRefIdeal.sig) → Buf (Elt Ideal) ℓ) : Prop :=
  True

def Pre_LnF (m : (ℓ : Loc Cert.LnF.nD Cert.LnF.τ Cert.LnF.sig) → Buf (Elt Bits) ℓ) : Prop :=
  True

def Pre_LnFIdeal (m : (ℓ : Loc Cert.LnFIdeal.nD Cert.LnFIdeal.τ Cert.LnFIdeal.sig) → Buf (Elt Ideal) ℓ) : Prop :=
  True

def Pre_LnFRefIdeal (m : (ℓ : Loc Cert.LnFRefIdeal.nD Cert.LnFRefIdeal.τ Cert.LnFRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamVec (m : (ℓ : Loc Cert.AdamVec.nD Cert.AdamVec.τ Cert.AdamVec.sig) → Buf (Elt Bits) ℓ) : Prop :=
  True

def Pre_AdamVecIdeal (m : (ℓ : Loc Cert.AdamVecIdeal.nD Cert.AdamVecIdeal.τ Cert.AdamVecIdeal.sig) → Buf (Elt Ideal) ℓ) : Prop :=
  True

def Pre_AdamVecRefIdeal (m : (ℓ : Loc Cert.AdamVecRefIdeal.nD Cert.AdamVecRefIdeal.τ Cert.AdamVecRefIdeal.sig) → Buf (Elt Ideal) ℓ) : Prop :=
  True

def Pre_LnB (m : (ℓ : Loc Cert.LnB.nD Cert.LnB.τ Cert.LnB.sig) → Buf (Elt Bits) ℓ) : Prop :=
  True

def Pre_LnBIdeal (m : (ℓ : Loc Cert.LnBIdeal.nD Cert.LnBIdeal.τ Cert.LnBIdeal.sig) → Buf (Elt Ideal) ℓ) : Prop :=
  True

def Pre_LnBIdeal_finite_gains [hPre_finite_gains : Cert.Pre_finite_gains.Facts] (m : (ℓ : Loc Cert.LnBIdeal.nD Cert.LnBIdeal.τ Cert.LnBIdeal.sig) → Buf (Elt Ideal) ℓ) : Prop :=
  ∀ c : Dev Cert.LnBIdeal.nD,
    (Cert.Pre_finite_gains.fn (F := Ideal) (m ((c.tc : Thread Cert.LnBIdeal.nD Cert.LnBIdeal.τ).loc Cert.LnBIdeal.main_arg0)) (m ((c.tc : Thread Cert.LnBIdeal.nD Cert.LnBIdeal.τ).loc Cert.LnBIdeal.main_arg1)) (m ((c.tc : Thread Cert.LnBIdeal.nD Cert.LnBIdeal.τ).loc Cert.LnBIdeal.main_arg2)) (m ((c.tc : Thread Cert.LnBIdeal.nD Cert.LnBIdeal.τ).loc Cert.LnBIdeal.main_arg3)) (m ((c.tc : Thread Cert.LnBIdeal.nD Cert.LnBIdeal.τ).loc Cert.LnBIdeal.main_arg4))) = (fun _ => 1#1)

def Pre_LnBRefIdeal (m : (ℓ : Loc Cert.LnBRefIdeal.nD Cert.LnBRefIdeal.τ Cert.LnBRefIdeal.sig) → Buf (Elt Ideal) ℓ) : Prop :=
  True

def Pre_LnBRefIdeal_finite_gains [hPre_finite_gains : Cert.Pre_finite_gains.Facts] (m : (ℓ : Loc Cert.LnBRefIdeal.nD Cert.LnBRefIdeal.τ Cert.LnBRefIdeal.sig) → Buf (Elt Ideal) ℓ) : Prop :=
  ∀ c : Dev Cert.LnBRefIdeal.nD,
    (Cert.Pre_finite_gains.fn (F := Ideal) (m ((c.tc : Thread Cert.LnBRefIdeal.nD Cert.LnBRefIdeal.τ).loc Cert.LnBRefIdeal.main_arg0)) (m ((c.tc : Thread Cert.LnBRefIdeal.nD Cert.LnBRefIdeal.τ).loc Cert.LnBRefIdeal.main_arg1)) (m ((c.tc : Thread Cert.LnBRefIdeal.nD Cert.LnBRefIdeal.τ).loc Cert.LnBRefIdeal.main_arg2)) (m ((c.tc : Thread Cert.LnBRefIdeal.nD Cert.LnBRefIdeal.τ).loc Cert.LnBRefIdeal.main_arg3)) (m ((c.tc : Thread Cert.LnBRefIdeal.nD Cert.LnBRefIdeal.τ).loc Cert.LnBRefIdeal.main_arg4))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_target [hPre_finite_target : Cert.Pre_finite_target.Facts] (m : (ℓ : Loc Cert.LossIdeal.nD Cert.LossIdeal.τ Cert.LossIdeal.sig) → Buf (Elt Ideal) ℓ) : Prop :=
  ∀ c : Dev Cert.LossIdeal.nD,
    (Cert.Pre_finite_target.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_target [hPre_finite_target : Cert.Pre_finite_target.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_target.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2))
      ∧ r.2.sem = fun _ => 0)

def quiescent_InU [hInU : Cert.InU.Facts] : Prop :=
  ∀ (m : (ℓ : Loc Cert.InU.nD Cert.InU.τ Cert.InU.sig) → Buf (Elt Bits) ℓ) (g : Dev Cert.InU.nD → PrngReg), Pre_InU m →
    θ_run (Cert.InU.defs (F := Bits)) (onTc (τ := Cert.InU.τ) (Cert.InU.main (F := Bits))) ⟨m, fun _ => 0, g⟩ (fun r => (∀ c : Dev Cert.InU.nD,
      r.2.mem ((c.tc : Thread Cert.InU.nD Cert.InU.τ).loc Cert.InU.main_arg0) = m ((c.tc : Thread Cert.InU.nD Cert.InU.τ).loc Cert.InU.main_arg0)
      ∧ r.2.mem ((c.tc : Thread Cert.InU.nD Cert.InU.τ).loc Cert.InU.main_arg1) = m ((c.tc : Thread Cert.InU.nD Cert.InU.τ).loc Cert.InU.main_arg1)
      ∧ r.2.mem ((c.tc : Thread Cert.InU.nD Cert.InU.τ).loc Cert.InU.main_arg2) = m ((c.tc : Thread Cert.InU.nD Cert.InU.τ).loc Cert.InU.main_arg2))
      ∧ r.2.sem = fun _ => 0)

def quiescent_InUIdeal [hInUIdeal : Cert.InUIdeal.Facts] : Prop :=
  ∀ (m : (ℓ : Loc Cert.InUIdeal.nD Cert.InUIdeal.τ Cert.InUIdeal.sig) → Buf (Elt Ideal) ℓ) (g : Dev Cert.InUIdeal.nD → PrngReg), Pre_InUIdeal m →
    θ_run (Cert.InUIdeal.defs (F := Ideal)) (onTc (τ := Cert.InUIdeal.τ) (Cert.InUIdeal.main (F := Ideal))) ⟨m, fun _ => 0, g⟩ (fun r => (∀ c : Dev Cert.InUIdeal.nD,
      r.2.mem ((c.tc : Thread Cert.InUIdeal.nD Cert.InUIdeal.τ).loc Cert.InUIdeal.main_arg0) = m ((c.tc : Thread Cert.InUIdeal.nD Cert.InUIdeal.τ).loc Cert.InUIdeal.main_arg0)
      ∧ r.2.mem ((c.tc : Thread Cert.InUIdeal.nD Cert.InUIdeal.τ).loc Cert.InUIdeal.main_arg1) = m ((c.tc : Thread Cert.InUIdeal.nD Cert.InUIdeal.τ).loc Cert.InUIdeal.main_arg1)
      ∧ r.2.mem ((c.tc : Thread Cert.InUIdeal.nD Cert.InUIdeal.τ).loc Cert.InUIdeal.main_arg2) = m ((c.tc : Thread Cert.InUIdeal.nD Cert.InUIdeal.τ).loc Cert.InUIdeal.main_arg2))
      ∧ r.2.sem = fun _ => 0)

def quiescent_InURefIdeal [hInURefIdeal : Cert.InURefIdeal.Facts] : Prop :=
  ∀ (m : (ℓ : Loc Cert.InURefIdeal.nD Cert.InURefIdeal.τ Cert.InURefIdeal.sig) → Buf (Elt Ideal) ℓ) (g : Dev Cert.InURefIdeal.nD → PrngReg), Pre_InURefIdeal m →
    θ_run (Cert.InURefIdeal.defs (F := Ideal)) (onTc (τ := Cert.InURefIdeal.τ) (Cert.InURefIdeal.main (F := Ideal))) ⟨m, fun _ => 0, g⟩ (fun r => (∀ c : Dev Cert.InURefIdeal.nD,
      r.2.mem ((c.tc : Thread Cert.InURefIdeal.nD Cert.InURefIdeal.τ).loc Cert.InURefIdeal.main_arg0) = m ((c.tc : Thread Cert.InURefIdeal.nD Cert.InURefIdeal.τ).loc Cert.InURefIdeal.main_arg0)
      ∧ r.2.mem ((c.tc : Thread Cert.InURefIdeal.nD Cert.InURefIdeal.τ).loc Cert.InURefIdeal.main_arg1) = m ((c.tc : Thread Cert.InURefIdeal.nD Cert.InURefIdeal.τ).loc Cert.InURefIdeal.main_arg1)
      ∧ r.2.mem ((c.tc : Thread Cert.InURefIdeal.nD Cert.InURefIdeal.τ).loc Cert.InURefIdeal.main_arg2) = m ((c.tc : Thread Cert.InURefIdeal.nD Cert.InURefIdeal.τ).loc Cert.InURefIdeal.main_arg2))
      ∧ r.2.sem = fun _ => 0)

def quiescent_InL [hInL : Cert.InL.Facts] : Prop :=
  ∀ (m : (ℓ : Loc Cert.InL.nD Cert.InL.τ Cert.InL.sig) → Buf (Elt Bits) ℓ) (g : Dev Cert.InL.nD → PrngReg), Pre_InL m →
    θ_run (Cert.InL.defs (F := Bits)) (onTc (τ := Cert.InL.τ) (Cert.InL.main (F := Bits))) ⟨m, fun _ => 0, g⟩ (fun r => (∀ c : Dev Cert.InL.nD,
      r.2.mem ((c.tc : Thread Cert.InL.nD Cert.InL.τ).loc Cert.InL.main_arg0) = m ((c.tc : Thread Cert.InL.nD Cert.InL.τ).loc Cert.InL.main_arg0)
      ∧ r.2.mem ((c.tc : Thread Cert.InL.nD Cert.InL.τ).loc Cert.InL.main_arg1) = m ((c.tc : Thread Cert.InL.nD Cert.InL.τ).loc Cert.InL.main_arg1)
      ∧ r.2.mem ((c.tc : Thread Cert.InL.nD Cert.InL.τ).loc Cert.InL.main_arg2) = m ((c.tc : Thread Cert.InL.nD Cert.InL.τ).loc Cert.InL.main_arg2))
      ∧ r.2.sem = fun _ => 0)

def quiescent_InLIdeal [hInLIdeal : Cert.InLIdeal.Facts] : Prop :=
  ∀ (m : (ℓ : Loc Cert.InLIdeal.nD Cert.InLIdeal.τ Cert.InLIdeal.sig) → Buf (Elt Ideal) ℓ) (g : Dev Cert.InLIdeal.nD → PrngReg), Pre_InLIdeal m →
    θ_run (Cert.InLIdeal.defs (F := Ideal)) (onTc (τ := Cert.InLIdeal.τ) (Cert.InLIdeal.main (F := Ideal))) ⟨m, fun _ => 0, g⟩ (fun r => (∀ c : Dev Cert.InLIdeal.nD,
      r.2.mem ((c.tc : Thread Cert.InLIdeal.nD Cert.InLIdeal.τ).loc Cert.InLIdeal.main_arg0) = m ((c.tc : Thread Cert.InLIdeal.nD Cert.InLIdeal.τ).loc Cert.InLIdeal.main_arg0)
      ∧ r.2.mem ((c.tc : Thread Cert.InLIdeal.nD Cert.InLIdeal.τ).loc Cert.InLIdeal.main_arg1) = m ((c.tc : Thread Cert.InLIdeal.nD Cert.InLIdeal.τ).loc Cert.InLIdeal.main_arg1)
      ∧ r.2.mem ((c.tc : Thread Cert.InLIdeal.nD Cert.InLIdeal.τ).loc Cert.InLIdeal.main_arg2) = m ((c.tc : Thread Cert.InLIdeal.nD Cert.InLIdeal.τ).loc Cert.InLIdeal.main_arg2))
      ∧ r.2.sem = fun _ => 0)

def quiescent_InLRefIdeal [hInLRefIdeal : Cert.InLRefIdeal.Facts] : Prop :=
  ∀ (m : (ℓ : Loc Cert.InLRefIdeal.nD Cert.InLRefIdeal.τ Cert.InLRefIdeal.sig) → Buf (Elt Ideal) ℓ) (g : Dev Cert.InLRefIdeal.nD → PrngReg), Pre_InLRefIdeal m →
    θ_run (Cert.InLRefIdeal.defs (F := Ideal)) (onTc (τ := Cert.InLRefIdeal.τ) (Cert.InLRefIdeal.main (F := Ideal))) ⟨m, fun _ => 0, g⟩ (fun r => (∀ c : Dev Cert.InLRefIdeal.nD,
      r.2.mem ((c.tc : Thread Cert.InLRefIdeal.nD Cert.InLRefIdeal.τ).loc Cert.InLRefIdeal.main_arg0) = m ((c.tc : Thread Cert.InLRefIdeal.nD Cert.InLRefIdeal.τ).loc Cert.InLRefIdeal.main_arg0)
      ∧ r.2.mem ((c.tc : Thread Cert.InLRefIdeal.nD Cert.InLRefIdeal.τ).loc Cert.InLRefIdeal.main_arg1) = m ((c.tc : Thread Cert.InLRefIdeal.nD Cert.InLRefIdeal.τ).loc Cert.InLRefIdeal.main_arg1)
      ∧ r.2.mem ((c.tc : Thread Cert.InLRefIdeal.nD Cert.InLRefIdeal.τ).loc Cert.InLRefIdeal.main_arg2) = m ((c.tc : Thread Cert.InLRefIdeal.nD Cert.InLRefIdeal.τ).loc Cert.InLRefIdeal.main_arg2))
      ∧ r.2.sem = fun _ => 0)

def quiescent_ProjX [hProjX : Cert.ProjX.Facts] : Prop :=
  ∀ (m : (ℓ : Loc Cert.ProjX.nD Cert.ProjX.τ Cert.ProjX.sig) → Buf (Elt Bits) ℓ) (g : Dev Cert.ProjX.nD → PrngReg), Pre_ProjX m →
    θ_run (Cert.ProjX.defs (F := Bits)) (onTc (τ := Cert.ProjX.τ) (Cert.ProjX.main (F := Bits))) ⟨m, fun _ => 0, g⟩ (fun r => (∀ c : Dev Cert.ProjX.nD,
      r.2.mem ((c.tc : Thread Cert.ProjX.nD Cert.ProjX.τ).loc Cert.ProjX.main_arg0) = m ((c.tc : Thread Cert.ProjX.nD Cert.ProjX.τ).loc Cert.ProjX.main_arg0)
      ∧ r.2.mem ((c.tc : Thread Cert.ProjX.nD Cert.ProjX.τ).loc Cert.ProjX.main_arg1) = m ((c.tc : Thread Cert.ProjX.nD Cert.ProjX.τ).loc Cert.ProjX.main_arg1)
      ∧ r.2.mem ((c.tc : Thread Cert.ProjX.nD Cert.ProjX.τ).loc Cert.ProjX.main_arg2) = m ((c.tc : Thread Cert.ProjX.nD Cert.ProjX.τ).loc Cert.ProjX.main_arg2))
      ∧ r.2.sem = fun _ => 0)

def quiescent_ProjXIdeal [hProjXIdeal : Cert.ProjXIdeal.Facts] : Prop :=
  ∀ (m : (ℓ : Loc Cert.ProjXIdeal.nD Cert.ProjXIdeal.τ Cert.ProjXIdeal.sig) → Buf (Elt Ideal) ℓ) (g : Dev Cert.ProjXIdeal.nD → PrngReg), Pre_ProjXIdeal m →
    θ_run (Cert.ProjXIdeal.defs (F := Ideal)) (onTc (τ := Cert.ProjXIdeal.τ) (Cert.ProjXIdeal.main (F := Ideal))) ⟨m, fun _ => 0, g⟩ (fun r => (∀ c : Dev Cert.ProjXIdeal.nD,
      r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
      ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1)
      ∧ r.2.mem ((c.tc : Thread Cert.ProjXIdeal.nD Cert.ProjXIdeal.τ).loc Cert.ProjXIdeal.main_arg2) = m ((c.tc : Thread Cert.ProjXIdeal.nD Cert.ProjXIdeal.τ).loc Cert.ProjXIdeal.main_arg2))
      ∧ r.2.sem = fun _ => 0)

def quiescent_ProjXRefIdeal [hProjXRefIdeal : Cert.ProjXRefIdeal.Facts] : Prop :=
  ∀ (m : (ℓ : Loc Cert.ProjXRefIdeal.nD Cert.ProjXRefIdeal.τ Cert.ProjXRefIdeal.sig) → Buf (Elt Ideal) ℓ) (g : Dev Cert.ProjXRefIdeal.nD → PrngReg), Pre_ProjXRefIdeal m →
    θ_run (Cert.ProjXRefIdeal.defs (F := Ideal)) (onTc (τ := Cert.ProjXRefIdeal.τ) (Cert.ProjXRefIdeal.main (F := Ideal))) ⟨m, fun _ => 0, g⟩ (fun r => (∀ c : Dev Cert.ProjXRefIdeal.nD,
      r.2.mem ((c.tc : Thread Cert.ProjXRefIdeal.nD Cert.ProjXRefIdeal.τ).loc Cert.ProjXRefIdeal.main_arg0) = m ((c.tc : Thread Cert.ProjXRefIdeal.nD Cert.ProjXRefIdeal.τ).loc Cert.ProjXRefIdeal.main_arg0)
      ∧ r.2.mem ((c.tc : Thread Cert.ProjXRefIdeal.nD Cert.ProjXRefIdeal.τ).loc Cert.ProjXRefIdeal.main_arg1) = m ((c.tc : Thread Cert.ProjXRefIdeal.nD Cert.ProjXRefIdeal.τ).loc Cert.ProjXRefIdeal.main_arg1)
      ∧ r.2.mem ((c.tc : Thread Cert.ProjXRefIdeal.nD Cert.ProjXRefIdeal.τ).loc Cert.ProjXRefIdeal.main_arg2) = m ((c.tc : Thread Cert.ProjXRefIdeal.nD Cert.ProjXRefIdeal.τ).loc Cert.ProjXRefIdeal.main_arg2))
      ∧ r.2.sem = fun _ => 0)

def quiescent_ProjW [hProjW : Cert.ProjW.Facts] : Prop :=
  ∀ (m : (ℓ : Loc Cert.ProjW.nD Cert.ProjW.τ Cert.ProjW.sig) → Buf (Elt Bits) ℓ) (g : Dev Cert.ProjW.nD → PrngReg), Pre_ProjW m →
    θ_run (Cert.ProjW.defs (F := Bits)) (onTc (τ := Cert.ProjW.τ) (Cert.ProjW.main (F := Bits))) ⟨m, fun _ => 0, g⟩ (fun r => (∀ c : Dev Cert.ProjW.nD,
      r.2.mem ((c.tc : Thread Cert.ProjW.nD Cert.ProjW.τ).loc Cert.ProjW.main_arg0) = m ((c.tc : Thread Cert.ProjW.nD Cert.ProjW.τ).loc Cert.ProjW.main_arg0)
      ∧ r.2.mem ((c.tc : Thread Cert.ProjW.nD Cert.ProjW.τ).loc Cert.ProjW.main_arg1) = m ((c.tc : Thread Cert.ProjW.nD Cert.ProjW.τ).loc Cert.ProjW.main_arg1)
      ∧ r.2.mem ((c.tc : Thread Cert.ProjW.nD Cert.ProjW.τ).loc Cert.ProjW.main_arg2) = m ((c.tc : Thread Cert.ProjW.nD Cert.ProjW.τ).loc Cert.ProjW.main_arg2))
      ∧ r.2.sem = fun _ => 0)

def quiescent_ProjWIdeal [hProjWIdeal : Cert.ProjWIdeal.Facts] : Prop :=
  ∀ (m : (ℓ : Loc Cert.ProjWIdeal.nD Cert.ProjWIdeal.τ Cert.ProjWIdeal.sig) → Buf (Elt Ideal) ℓ) (g : Dev Cert.ProjWIdeal.nD → PrngReg), Pre_ProjWIdeal m →
    θ_run (Cert.ProjWIdeal.defs (F := Ideal)) (onTc (τ := Cert.ProjWIdeal.τ) (Cert.ProjWIdeal.main (F := Ideal))) ⟨m, fun _ => 0, g⟩ (fun r => (∀ c : Dev Cert.ProjWIdeal.nD,
      r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
      ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1)
      ∧ r.2.mem ((c.tc : Thread Cert.ProjWIdeal.nD Cert.ProjWIdeal.τ).loc Cert.ProjWIdeal.main_arg2) = m ((c.tc : Thread Cert.ProjWIdeal.nD Cert.ProjWIdeal.τ).loc Cert.ProjWIdeal.main_arg2))
      ∧ r.2.sem = fun _ => 0)

def quiescent_ProjWRefIdeal [hProjWRefIdeal : Cert.ProjWRefIdeal.Facts] : Prop :=
  ∀ (m : (ℓ : Loc Cert.ProjWRefIdeal.nD Cert.ProjWRefIdeal.τ Cert.ProjWRefIdeal.sig) → Buf (Elt Ideal) ℓ) (g : Dev Cert.ProjWRefIdeal.nD → PrngReg), Pre_ProjWRefIdeal m →
    θ_run (Cert.ProjWRefIdeal.defs (F := Ideal)) (onTc (τ := Cert.ProjWRefIdeal.τ) (Cert.ProjWRefIdeal.main (F := Ideal))) ⟨m, fun _ => 0, g⟩ (fun r => (∀ c : Dev Cert.ProjWRefIdeal.nD,
      r.2.mem ((c.tc : Thread Cert.ProjWRefIdeal.nD Cert.ProjWRefIdeal.τ).loc Cert.ProjWRefIdeal.main_arg0) = m ((c.tc : Thread Cert.ProjWRefIdeal.nD Cert.ProjWRefIdeal.τ).loc Cert.ProjWRefIdeal.main_arg0)
      ∧ r.2.mem ((c.tc : Thread Cert.ProjWRefIdeal.nD Cert.ProjWRefIdeal.τ).loc Cert.ProjWRefIdeal.main_arg1) = m ((c.tc : Thread Cert.ProjWRefIdeal.nD Cert.ProjWRefIdeal.τ).loc Cert.ProjWRefIdeal.main_arg1)
      ∧ r.2.mem ((c.tc : Thread Cert.ProjWRefIdeal.nD Cert.ProjWRefIdeal.τ).loc Cert.ProjWRefIdeal.main_arg2) = m ((c.tc : Thread Cert.ProjWRefIdeal.nD Cert.ProjWRefIdeal.τ).loc Cert.ProjWRefIdeal.main_arg2))
      ∧ r.2.sem = fun _ => 0)

def quiescent_ProjY [hProjY : Cert.ProjY.Facts] : Prop :=
  ∀ (m : (ℓ : Loc Cert.ProjY.nD Cert.ProjY.τ Cert.ProjY.sig) → Buf (Elt Bits) ℓ) (g : Dev Cert.ProjY.nD → PrngReg), Pre_ProjY m →
    θ_run (Cert.ProjY.defs (F := Bits)) (onTc (τ := Cert.ProjY.τ) (Cert.ProjY.main (F := Bits))) ⟨m, fun _ => 0, g⟩ (fun r => (∀ c : Dev Cert.ProjY.nD,
      r.2.mem ((c.tc : Thread Cert.ProjY.nD Cert.ProjY.τ).loc Cert.ProjY.main_arg0) = m ((c.tc : Thread Cert.ProjY.nD Cert.ProjY.τ).loc Cert.ProjY.main_arg0)
      ∧ r.2.mem ((c.tc : Thread Cert.ProjY.nD Cert.ProjY.τ).loc Cert.ProjY.main_arg1) = m ((c.tc : Thread Cert.ProjY.nD Cert.ProjY.τ).loc Cert.ProjY.main_arg1))
      ∧ r.2.sem = fun _ => 0)

def quiescent_ProjYIdeal [hProjYIdeal : Cert.ProjYIdeal.Facts] : Prop :=
  ∀ (m : (ℓ : Loc Cert.ProjYIdeal.nD Cert.ProjYIdeal.τ Cert.ProjYIdeal.sig) → Buf (Elt Ideal) ℓ) (g : Dev Cert.ProjYIdeal.nD → PrngReg), Pre_ProjYIdeal m →
    θ_run (Cert.ProjYIdeal.defs (F := Ideal)) (onTc (τ := Cert.ProjYIdeal.τ) (Cert.ProjYIdeal.main (F := Ideal))) ⟨m, fun _ => 0, g⟩ (fun r => (∀ c : Dev Cert.ProjYIdeal.nD,
      r.2.mem ((c.tc : Thread Cert.ProjYIdeal.nD Cert.ProjYIdeal.τ).loc Cert.ProjYIdeal.main_arg0) = m ((c.tc : Thread Cert.ProjYIdeal.nD Cert.ProjYIdeal.τ).loc Cert.ProjYIdeal.main_arg0)
      ∧ r.2.mem ((c.tc : Thread Cert.ProjYIdeal.nD Cert.ProjYIdeal.τ).loc Cert.ProjYIdeal.main_arg1) = m ((c.tc : Thread Cert.ProjYIdeal.nD Cert.ProjYIdeal.τ).loc Cert.ProjYIdeal.main_arg1))
      ∧ r.2.sem = fun _ => 0)

def quiescent_ProjYRefIdeal [hProjYRefIdeal : Cert.ProjYRefIdeal.Facts] : Prop :=
  ∀ (m : (ℓ : Loc Cert.ProjYRefIdeal.nD Cert.ProjYRefIdeal.τ Cert.ProjYRefIdeal.sig) → Buf (Elt Ideal) ℓ) (g : Dev Cert.ProjYRefIdeal.nD → PrngReg), Pre_ProjYRefIdeal m →
    θ_run (Cert.ProjYRefIdeal.defs (F := Ideal)) (onTc (τ := Cert.ProjYRefIdeal.τ) (Cert.ProjYRefIdeal.main (F := Ideal))) ⟨m, fun _ => 0, g⟩ (fun r => (∀ c : Dev Cert.ProjYRefIdeal.nD,
      r.2.mem ((c.tc : Thread Cert.ProjYRefIdeal.nD Cert.ProjYRefIdeal.τ).loc Cert.ProjYRefIdeal.main_arg0) = m ((c.tc : Thread Cert.ProjYRefIdeal.nD Cert.ProjYRefIdeal.τ).loc Cert.ProjYRefIdeal.main_arg0)
      ∧ r.2.mem ((c.tc : Thread Cert.ProjYRefIdeal.nD Cert.ProjYRefIdeal.τ).loc Cert.ProjYRefIdeal.main_arg1) = m ((c.tc : Thread Cert.ProjYRefIdeal.nD Cert.ProjYRefIdeal.τ).loc Cert.ProjYRefIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0))
      ∧ r.2.sem = fun _ => 0)

def quiescent_FwdIdeal_pre_finite_qkv [hFwdIdeal : Cert.FwdIdeal.Facts] [hPre_finite_qkv : Cert.Pre_finite_qkv.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_qkv m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0))
      ∧ r.2.sem = fun _ => 0)

def quiescent_FwdRefIdeal_pre_finite_qkv [hFwdRefIdeal : Cert.FwdRefIdeal.Facts] [hPre_finite_qkv : Cert.Pre_finite_qkv.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_qkv m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0))
      ∧ r.2.sem = fun _ => 0)

def quiescent_MergeF [hMergeF : Cert.MergeF.Facts] : Prop :=
  ∀ (m : (ℓ : Loc Cert.MergeF.nD Cert.MergeF.τ Cert.MergeF.sig) → Buf (Elt Bits) ℓ) (g : Dev Cert.MergeF.nD → PrngReg), Pre_MergeF m →
    θ_run (Cert.MergeF.defs (F := Bits)) (onTc (τ := Cert.MergeF.τ) (Cert.MergeF.main (F := Bits))) ⟨m, fun _ => 0, g⟩ (fun r => (∀ c : Dev Cert.MergeF.nD,
      r.2.mem ((c.tc : Thread Cert.MergeF.nD Cert.MergeF.τ).loc Cert.MergeF.main_arg0) = m ((c.tc : Thread Cert.MergeF.nD Cert.MergeF.τ).loc Cert.MergeF.main_arg0)
      ∧ r.2.mem ((c.tc : Thread Cert.MergeF.nD Cert.MergeF.τ).loc Cert.MergeF.main_arg1) = m ((c.tc : Thread Cert.MergeF.nD Cert.MergeF.τ).loc Cert.MergeF.main_arg1)
      ∧ r.2.mem ((c.tc : Thread Cert.MergeF.nD Cert.MergeF.τ).loc Cert.MergeF.main_arg2) = m ((c.tc : Thread Cert.MergeF.nD Cert.MergeF.τ).loc Cert.MergeF.main_arg2))
      ∧ r.2.sem = fun _ => 0)

def quiescent_MergeFIdeal [hMergeFIdeal : Cert.MergeFIdeal.Facts] : Prop :=
  ∀ (m : (ℓ : Loc Cert.MergeFIdeal.nD Cert.MergeFIdeal.τ Cert.MergeFIdeal.sig) → Buf (Elt Ideal) ℓ) (g : Dev Cert.MergeFIdeal.nD → PrngReg), Pre_MergeFIdeal m →
    θ_run (Cert.MergeFIdeal.defs (F := Ideal)) (onTc (τ := Cert.MergeFIdeal.τ) (Cert.MergeFIdeal.main (F := Ideal))) ⟨m, fun _ => 0, g⟩ (fun r => (∀ c : Dev Cert.MergeFIdeal.nD,
      r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
      ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
      ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2))
      ∧ r.2.sem = fun _ => 0)

def quiescent_MergeFRefIdeal [hMergeFRefIdeal : Cert.MergeFRefIdeal.Facts] : Prop :=
  ∀ (m : (ℓ : Loc Cert.MergeFRefIdeal.nD Cert.MergeFRefIdeal.τ Cert.MergeFRefIdeal.sig) → Buf (Elt Ideal) ℓ) (g : Dev Cert.MergeFRefIdeal.nD → PrngReg), Pre_MergeFRefIdeal m →
    θ_run (Cert.MergeFRefIdeal.defs (F := Ideal)) (onTc (τ := Cert.MergeFRefIdeal.τ) (Cert.MergeFRefIdeal.main (F := Ideal))) ⟨m, fun _ => 0, g⟩ (fun r => (∀ c : Dev Cert.MergeFRefIdeal.nD,
      r.2.mem ((c.tc : Thread Cert.MergeFRefIdeal.nD Cert.MergeFRefIdeal.τ).loc Cert.MergeFRefIdeal.main_arg0) = m ((c.tc : Thread Cert.MergeFRefIdeal.nD Cert.MergeFRefIdeal.τ).loc Cert.MergeFRefIdeal.main_arg0)
      ∧ r.2.mem ((c.tc : Thread Cert.MergeFRefIdeal.nD Cert.MergeFRefIdeal.τ).loc Cert.MergeFRefIdeal.main_arg1) = m ((c.tc : Thread Cert.MergeFRefIdeal.nD Cert.MergeFRefIdeal.τ).loc Cert.MergeFRefIdeal.main_arg1)
      ∧ r.2.mem ((c.tc : Thread Cert.MergeFRefIdeal.nD Cert.MergeFRefIdeal.τ).loc Cert.MergeFRefIdeal.main_arg2) = m ((c.tc : Thread Cert.MergeFRefIdeal.nD Cert.MergeFRefIdeal.τ).loc Cert.MergeFRefIdeal.main_arg2))
      ∧ r.2.sem = fun _ => 0)

def quiescent_MergeB [hMergeB : Cert.MergeB.Facts] : Prop :=
  ∀ (m : (ℓ : Loc Cert.MergeB.nD Cert.MergeB.τ Cert.MergeB.sig) → Buf (Elt Bits) ℓ) (g : Dev Cert.MergeB.nD → PrngReg), Pre_MergeB m →
    θ_run (Cert.MergeB.defs (F := Bits)) (onTc (τ := Cert.MergeB.τ) (Cert.MergeB.main (F := Bits))) ⟨m, fun _ => 0, g⟩ (fun r => (∀ c : Dev Cert.MergeB.nD,
      r.2.mem ((c.tc : Thread Cert.MergeB.nD Cert.MergeB.τ).loc Cert.MergeB.main_arg0) = m ((c.tc : Thread Cert.MergeB.nD Cert.MergeB.τ).loc Cert.MergeB.main_arg0)
      ∧ r.2.mem ((c.tc : Thread Cert.MergeB.nD Cert.MergeB.τ).loc Cert.MergeB.main_arg1) = m ((c.tc : Thread Cert.MergeB.nD Cert.MergeB.τ).loc Cert.MergeB.main_arg1)
      ∧ r.2.mem ((c.tc : Thread Cert.MergeB.nD Cert.MergeB.τ).loc Cert.MergeB.main_arg2) = m ((c.tc : Thread Cert.MergeB.nD Cert.MergeB.τ).loc Cert.MergeB.main_arg2)
      ∧ r.2.mem ((c.tc : Thread Cert.MergeB.nD Cert.MergeB.τ).loc Cert.MergeB.main_arg3) = m ((c.tc : Thread Cert.MergeB.nD Cert.MergeB.τ).loc Cert.MergeB.main_arg3))
      ∧ r.2.sem = fun _ => 0)

def quiescent_MergeBIdeal [hMergeBIdeal : Cert.MergeBIdeal.Facts] : Prop :=
  ∀ (m : (ℓ : Loc Cert.MergeBIdeal.nD Cert.MergeBIdeal.τ Cert.MergeBIdeal.sig) → Buf (Elt Ideal) ℓ) (g : Dev Cert.MergeBIdeal.nD → PrngReg), Pre_MergeBIdeal m →
    θ_run (Cert.MergeBIdeal.defs (F := Ideal)) (onTc (τ := Cert.MergeBIdeal.τ) (Cert.MergeBIdeal.main (F := Ideal))) ⟨m, fun _ => 0, g⟩ (fun r => (∀ c : Dev Cert.MergeBIdeal.nD,
      r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
      ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
      ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
      ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3))
      ∧ r.2.sem = fun _ => 0)

def quiescent_MergeBRefIdeal [hMergeBRefIdeal : Cert.MergeBRefIdeal.Facts] : Prop :=
  ∀ (m : (ℓ : Loc Cert.MergeBRefIdeal.nD Cert.MergeBRefIdeal.τ Cert.MergeBRefIdeal.sig) → Buf (Elt Ideal) ℓ) (g : Dev Cert.MergeBRefIdeal.nD → PrngReg), Pre_MergeBRefIdeal m →
    θ_run (Cert.MergeBRefIdeal.defs (F := Ideal)) (onTc (τ := Cert.MergeBRefIdeal.τ) (Cert.MergeBRefIdeal.main (F := Ideal))) ⟨m, fun _ => 0, g⟩ (fun r => (∀ c : Dev Cert.MergeBRefIdeal.nD,
      r.2.mem ((c.tc : Thread Cert.MergeBRefIdeal.nD Cert.MergeBRefIdeal.τ).loc Cert.MergeBRefIdeal.main_arg0) = m ((c.tc : Thread Cert.MergeBRefIdeal.nD Cert.MergeBRefIdeal.τ).loc Cert.MergeBRefIdeal.main_arg0)
      ∧ r.2.mem ((c.tc : Thread Cert.MergeBRefIdeal.nD Cert.MergeBRefIdeal.τ).loc Cert.MergeBRefIdeal.main_arg1) = m ((c.tc : Thread Cert.MergeBRefIdeal.nD Cert.MergeBRefIdeal.τ).loc Cert.MergeBRefIdeal.main_arg1)
      ∧ r.2.mem ((c.tc : Thread Cert.MergeBRefIdeal.nD Cert.MergeBRefIdeal.τ).loc Cert.MergeBRefIdeal.main_arg2) = m ((c.tc : Thread Cert.MergeBRefIdeal.nD Cert.MergeBRefIdeal.τ).loc Cert.MergeBRefIdeal.main_arg2)
      ∧ r.2.mem ((c.tc : Thread Cert.MergeBRefIdeal.nD Cert.MergeBRefIdeal.τ).loc Cert.MergeBRefIdeal.main_arg3) = m ((c.tc : Thread Cert.MergeBRefIdeal.nD Cert.MergeBRefIdeal.τ).loc Cert.MergeBRefIdeal.main_arg3))
      ∧ r.2.sem = fun _ => 0)

def quiescent_LnF [hLnF : Cert.LnF.Facts] : Prop :=
  ∀ (m : (ℓ : Loc Cert.LnF.nD Cert.LnF.τ Cert.LnF.sig) → Buf (Elt Bits) ℓ) (g : Dev Cert.LnF.nD → PrngReg), Pre_LnF m →
    θ_run (Cert.LnF.defs (F := Bits)) (onTc (τ := Cert.LnF.τ) (Cert.LnF.main (F := Bits))) ⟨m, fun _ => 0, g⟩ (fun r => (∀ c : Dev Cert.LnF.nD,
      r.2.mem ((c.tc : Thread Cert.LnF.nD Cert.LnF.τ).loc Cert.LnF.main_arg0) = m ((c.tc : Thread Cert.LnF.nD Cert.LnF.τ).loc Cert.LnF.main_arg0)
      ∧ r.2.mem ((c.tc : Thread Cert.LnF.nD Cert.LnF.τ).loc Cert.LnF.main_arg1) = m ((c.tc : Thread Cert.LnF.nD Cert.LnF.τ).loc Cert.LnF.main_arg1)
      ∧ r.2.mem ((c.tc : Thread Cert.LnF.nD Cert.LnF.τ).loc Cert.LnF.main_arg2) = m ((c.tc : Thread Cert.LnF.nD Cert.LnF.τ).loc Cert.LnF.main_arg2))
      ∧ r.2.sem = fun _ => 0)

def quiescent_LnFIdeal [hLnFIdeal : Cert.LnFIdeal.Facts] : Prop :=
  ∀ (m : (ℓ : Loc Cert.LnFIdeal.nD Cert.LnFIdeal.τ Cert.LnFIdeal.sig) → Buf (Elt Ideal) ℓ) (g : Dev Cert.LnFIdeal.nD → PrngReg), Pre_LnFIdeal m →
    θ_run (Cert.LnFIdeal.defs (F := Ideal)) (onTc (τ := Cert.LnFIdeal.τ) (Cert.LnFIdeal.main (F := Ideal))) ⟨m, fun _ => 0, g⟩ (fun r => (∀ c : Dev Cert.LnFIdeal.nD,
      r.2.mem ((c.tc : Thread Cert.LnFIdeal.nD Cert.LnFIdeal.τ).loc Cert.LnFIdeal.main_arg0) = m ((c.tc : Thread Cert.LnFIdeal.nD Cert.LnFIdeal.τ).loc Cert.LnFIdeal.main_arg0)
      ∧ r.2.mem ((c.tc : Thread Cert.LnFIdeal.nD Cert.LnFIdeal.τ).loc Cert.LnFIdeal.main_arg1) = m ((c.tc : Thread Cert.LnFIdeal.nD Cert.LnFIdeal.τ).loc Cert.LnFIdeal.main_arg1)
      ∧ r.2.mem ((c.tc : Thread Cert.LnFIdeal.nD Cert.LnFIdeal.τ).loc Cert.LnFIdeal.main_arg2) = m ((c.tc : Thread Cert.LnFIdeal.nD Cert.LnFIdeal.τ).loc Cert.LnFIdeal.main_arg2))
      ∧ r.2.sem = fun _ => 0)

def quiescent_LnFRefIdeal [hLnFRefIdeal : Cert.LnFRefIdeal.Facts] : Prop :=
  ∀ (m : (ℓ : Loc Cert.LnFRefIdeal.nD Cert.LnFRefIdeal.τ Cert.LnFRefIdeal.sig) → Buf (Elt Ideal) ℓ) (g : Dev Cert.LnFRefIdeal.nD → PrngReg), Pre_LnFRefIdeal m →
    θ_run (Cert.LnFRefIdeal.defs (F := Ideal)) (onTc (τ := Cert.LnFRefIdeal.τ) (Cert.LnFRefIdeal.main (F := Ideal))) ⟨m, fun _ => 0, g⟩ (fun r => (∀ c : Dev Cert.LnFRefIdeal.nD,
      r.2.mem ((c.tc : Thread Cert.LnFRefIdeal.nD Cert.LnFRefIdeal.τ).loc Cert.LnFRefIdeal.main_arg0) = m ((c.tc : Thread Cert.LnFRefIdeal.nD Cert.LnFRefIdeal.τ).loc Cert.LnFRefIdeal.main_arg0)
      ∧ r.2.mem ((c.tc : Thread Cert.LnFRefIdeal.nD Cert.LnFRefIdeal.τ).loc Cert.LnFRefIdeal.main_arg1) = m ((c.tc : Thread Cert.LnFRefIdeal.nD Cert.LnFRefIdeal.τ).loc Cert.LnFRefIdeal.main_arg1)
      ∧ r.2.mem ((c.tc : Thread Cert.LnFRefIdeal.nD Cert.LnFRefIdeal.τ).loc Cert.LnFRefIdeal.main_arg2) = m ((c.tc : Thread Cert.LnFRefIdeal.nD Cert.LnFRefIdeal.τ).loc Cert.LnFRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamVec [hAdamVec : Cert.AdamVec.Facts] : Prop :=
  ∀ (m : (ℓ : Loc Cert.AdamVec.nD Cert.AdamVec.τ Cert.AdamVec.sig) → Buf (Elt Bits) ℓ) (g : Dev Cert.AdamVec.nD → PrngReg), Pre_AdamVec m →
    θ_run (Cert.AdamVec.defs (F := Bits)) (onTc (τ := Cert.AdamVec.τ) (Cert.AdamVec.main (F := Bits))) ⟨m, fun _ => 0, g⟩ (fun r => (∀ c : Dev Cert.AdamVec.nD,
      r.2.mem ((c.tc : Thread Cert.AdamVec.nD Cert.AdamVec.τ).loc Cert.AdamVec.main_arg0) = m ((c.tc : Thread Cert.AdamVec.nD Cert.AdamVec.τ).loc Cert.AdamVec.main_arg0)
      ∧ r.2.mem ((c.tc : Thread Cert.AdamVec.nD Cert.AdamVec.τ).loc Cert.AdamVec.main_arg1) = m ((c.tc : Thread Cert.AdamVec.nD Cert.AdamVec.τ).loc Cert.AdamVec.main_arg1)
      ∧ r.2.mem ((c.tc : Thread Cert.AdamVec.nD Cert.AdamVec.τ).loc Cert.AdamVec.main_arg2) = m ((c.tc : Thread Cert.AdamVec.nD Cert.AdamVec.τ).loc Cert.AdamVec.main_arg2)
      ∧ r.2.mem ((c.tc : Thread Cert.AdamVec.nD Cert.AdamVec.τ).loc Cert.AdamVec.main_arg3) = m ((c.tc : Thread Cert.AdamVec.nD Cert.AdamVec.τ).loc Cert.AdamVec.main_arg3))
      ∧ r.2.sem = fun _ => 0)

def quiescent_AdamVecIdeal [hAdamVecIdeal : Cert.AdamVecIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg), Pre_AdamVecIdeal m →
    θ_run (Cert.AdamVecIdeal.defs (F := Ideal)) (onTc (τ := Cert.AdamVecIdeal.τ) (Cert.AdamVecIdeal.main (F := Ideal))) ⟨m, fun _ => 0, g⟩ (fun r => (∀ c : Dev Cert.AdamVecIdeal.nD,
      r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
      ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
      ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
      ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ r.2.sem = fun _ => 0)

def quiescent_AdamVecRefIdeal [hAdamVecRefIdeal : Cert.AdamVecRefIdeal.Facts] : Prop :=
  ∀ (m : (ℓ : Loc Cert.AdamVecRefIdeal.nD Cert.AdamVecRefIdeal.τ Cert.AdamVecRefIdeal.sig) → Buf (Elt Ideal) ℓ) (g : Dev Cert.AdamVecRefIdeal.nD → PrngReg), Pre_AdamVecRefIdeal m →
    θ_run (Cert.AdamVecRefIdeal.defs (F := Ideal)) (onTc (τ := Cert.AdamVecRefIdeal.τ) (Cert.AdamVecRefIdeal.main (F := Ideal))) ⟨m, fun _ => 0, g⟩ (fun r => (∀ c : Dev Cert.AdamVecRefIdeal.nD,
      r.2.mem ((c.tc : Thread Cert.AdamVecRefIdeal.nD Cert.AdamVecRefIdeal.τ).loc Cert.AdamVecRefIdeal.main_arg0) = m ((c.tc : Thread Cert.AdamVecRefIdeal.nD Cert.AdamVecRefIdeal.τ).loc Cert.AdamVecRefIdeal.main_arg0)
      ∧ r.2.mem ((c.tc : Thread Cert.AdamVecRefIdeal.nD Cert.AdamVecRefIdeal.τ).loc Cert.AdamVecRefIdeal.main_arg1) = m ((c.tc : Thread Cert.AdamVecRefIdeal.nD Cert.AdamVecRefIdeal.τ).loc Cert.AdamVecRefIdeal.main_arg1)
      ∧ r.2.mem ((c.tc : Thread Cert.AdamVecRefIdeal.nD Cert.AdamVecRefIdeal.τ).loc Cert.AdamVecRefIdeal.main_arg2) = m ((c.tc : Thread Cert.AdamVecRefIdeal.nD Cert.AdamVecRefIdeal.τ).loc Cert.AdamVecRefIdeal.main_arg2)
      ∧ r.2.mem ((c.tc : Thread Cert.AdamVecRefIdeal.nD Cert.AdamVecRefIdeal.τ).loc Cert.AdamVecRefIdeal.main_arg3) = m ((c.tc : Thread Cert.AdamVecRefIdeal.nD Cert.AdamVecRefIdeal.τ).loc Cert.AdamVecRefIdeal.main_arg3))
      ∧ r.2.sem = fun _ => 0)

def quiescent_LnB [hLnB : Cert.LnB.Facts] : Prop :=
  ∀ (m : (ℓ : Loc Cert.LnB.nD Cert.LnB.τ Cert.LnB.sig) → Buf (Elt Bits) ℓ) (g : Dev Cert.LnB.nD → PrngReg), Pre_LnB m →
    θ_run (Cert.LnB.defs (F := Bits)) (onTc (τ := Cert.LnB.τ) (Cert.LnB.main (F := Bits))) ⟨m, fun _ => 0, g⟩ (fun r => (∀ c : Dev Cert.LnB.nD,
      r.2.mem ((c.tc : Thread Cert.LnB.nD Cert.LnB.τ).loc Cert.LnB.main_arg0) = m ((c.tc : Thread Cert.LnB.nD Cert.LnB.τ).loc Cert.LnB.main_arg0)
      ∧ r.2.mem ((c.tc : Thread Cert.LnB.nD Cert.LnB.τ).loc Cert.LnB.main_arg1) = m ((c.tc : Thread Cert.LnB.nD Cert.LnB.τ).loc Cert.LnB.main_arg1)
      ∧ r.2.mem ((c.tc : Thread Cert.LnB.nD Cert.LnB.τ).loc Cert.LnB.main_arg2) = m ((c.tc : Thread Cert.LnB.nD Cert.LnB.τ).loc Cert.LnB.main_arg2)
      ∧ r.2.mem ((c.tc : Thread Cert.LnB.nD Cert.LnB.τ).loc Cert.LnB.main_arg3) = m ((c.tc : Thread Cert.LnB.nD Cert.LnB.τ).loc Cert.LnB.main_arg3)
      ∧ r.2.mem ((c.tc : Thread Cert.LnB.nD Cert.LnB.τ).loc Cert.LnB.main_arg4) = m ((c.tc : Thread Cert.LnB.nD Cert.LnB.τ).loc Cert.LnB.main_arg4))
      ∧ r.2.sem = fun _ => 0)

def quiescent_LnBIdeal [hLnBIdeal : Cert.LnBIdeal.Facts] : Prop :=
  ∀ (m : (ℓ : Loc Cert.LnBIdeal.nD Cert.LnBIdeal.τ Cert.LnBIdeal.sig) → Buf (Elt Ideal) ℓ) (g : Dev Cert.LnBIdeal.nD → PrngReg), Pre_LnBIdeal m →
    θ_run (Cert.LnBIdeal.defs (F := Ideal)) (onTc (τ := Cert.LnBIdeal.τ) (Cert.LnBIdeal.main (F := Ideal))) ⟨m, fun _ => 0, g⟩ (fun r => (∀ c : Dev Cert.LnBIdeal.nD,
      r.2.mem ((c.tc : Thread Cert.LnBIdeal.nD Cert.LnBIdeal.τ).loc Cert.LnBIdeal.main_arg0) = m ((c.tc : Thread Cert.LnBIdeal.nD Cert.LnBIdeal.τ).loc Cert.LnBIdeal.main_arg0)
      ∧ r.2.mem ((c.tc : Thread Cert.LnBIdeal.nD Cert.LnBIdeal.τ).loc Cert.LnBIdeal.main_arg1) = m ((c.tc : Thread Cert.LnBIdeal.nD Cert.LnBIdeal.τ).loc Cert.LnBIdeal.main_arg1)
      ∧ r.2.mem ((c.tc : Thread Cert.LnBIdeal.nD Cert.LnBIdeal.τ).loc Cert.LnBIdeal.main_arg2) = m ((c.tc : Thread Cert.LnBIdeal.nD Cert.LnBIdeal.τ).loc Cert.LnBIdeal.main_arg2)
      ∧ r.2.mem ((c.tc : Thread Cert.LnBIdeal.nD Cert.LnBIdeal.τ).loc Cert.LnBIdeal.main_arg3) = m ((c.tc : Thread Cert.LnBIdeal.nD Cert.LnBIdeal.τ).loc Cert.LnBIdeal.main_arg3)
      ∧ r.2.mem ((c.tc : Thread Cert.LnBIdeal.nD Cert.LnBIdeal.τ).loc Cert.LnBIdeal.main_arg4) = m ((c.tc : Thread Cert.LnBIdeal.nD Cert.LnBIdeal.τ).loc Cert.LnBIdeal.main_arg4))
      ∧ r.2.sem = fun _ => 0)

def quiescent_LnBIdeal_pre_finite_gains [hLnBIdeal : Cert.LnBIdeal.Facts] [hPre_finite_gains : Cert.Pre_finite_gains.Facts] : Prop :=
  ∀ (m : (ℓ : Loc Cert.LnBIdeal.nD Cert.LnBIdeal.τ Cert.LnBIdeal.sig) → Buf (Elt Ideal) ℓ) (g : Dev Cert.LnBIdeal.nD → PrngReg), Pre_LnBIdeal_finite_gains m →
    θ_run (Cert.LnBIdeal.defs (F := Ideal)) (onTc (τ := Cert.LnBIdeal.τ) (Cert.LnBIdeal.main (F := Ideal))) ⟨m, fun _ => 0, g⟩ (fun r => (∀ c : Dev Cert.LnBIdeal.nD,
      r.2.mem ((c.tc : Thread Cert.LnBIdeal.nD Cert.LnBIdeal.τ).loc Cert.LnBIdeal.main_arg0) = m ((c.tc : Thread Cert.LnBIdeal.nD Cert.LnBIdeal.τ).loc Cert.LnBIdeal.main_arg0)
      ∧ r.2.mem ((c.tc : Thread Cert.LnBIdeal.nD Cert.LnBIdeal.τ).loc Cert.LnBIdeal.main_arg1) = m ((c.tc : Thread Cert.LnBIdeal.nD Cert.LnBIdeal.τ).loc Cert.LnBIdeal.main_arg1)
      ∧ r.2.mem ((c.tc : Thread Cert.LnBIdeal.nD Cert.LnBIdeal.τ).loc Cert.LnBIdeal.main_arg2) = m ((c.tc : Thread Cert.LnBIdeal.nD Cert.LnBIdeal.τ).loc Cert.LnBIdeal.main_arg2)
      ∧ r.2.mem ((c.tc : Thread Cert.LnBIdeal.nD Cert.LnBIdeal.τ).loc Cert.LnBIdeal.main_arg3) = m ((c.tc : Thread Cert.LnBIdeal.nD Cert.LnBIdeal.τ).loc Cert.LnBIdeal.main_arg3)
      ∧ r.2.mem ((c.tc : Thread Cert.LnBIdeal.nD Cert.LnBIdeal.τ).loc Cert.LnBIdeal.main_arg4) = m ((c.tc : Thread Cert.LnBIdeal.nD Cert.LnBIdeal.τ).loc Cert.LnBIdeal.main_arg4))
      ∧ r.2.sem = fun _ => 0)

def quiescent_LnBRefIdeal [hLnBRefIdeal : Cert.LnBRefIdeal.Facts] : Prop :=
  ∀ (m : (ℓ : Loc Cert.LnBRefIdeal.nD Cert.LnBRefIdeal.τ Cert.LnBRefIdeal.sig) → Buf (Elt Ideal) ℓ) (g : Dev Cert.LnBRefIdeal.nD → PrngReg), Pre_LnBRefIdeal m →
    θ_run (Cert.LnBRefIdeal.defs (F := Ideal)) (onTc (τ := Cert.LnBRefIdeal.τ) (Cert.LnBRefIdeal.main (F := Ideal))) ⟨m, fun _ => 0, g⟩ (fun r => (∀ c : Dev Cert.LnBRefIdeal.nD,
      r.2.mem ((c.tc : Thread Cert.LnBRefIdeal.nD Cert.LnBRefIdeal.τ).loc Cert.LnBRefIdeal.main_arg0) = m ((c.tc : Thread Cert.LnBRefIdeal.nD Cert.LnBRefIdeal.τ).loc Cert.LnBRefIdeal.main_arg0)
      ∧ r.2.mem ((c.tc : Thread Cert.LnBRefIdeal.nD Cert.LnBRefIdeal.τ).loc Cert.LnBRefIdeal.main_arg1) = m ((c.tc : Thread Cert.LnBRefIdeal.nD Cert.LnBRefIdeal.τ).loc Cert.LnBRefIdeal.main_arg1)
      ∧ r.2.mem ((c.tc : Thread Cert.LnBRefIdeal.nD Cert.LnBRefIdeal.τ).loc Cert.LnBRefIdeal.main_arg2) = m ((c.tc : Thread Cert.LnBRefIdeal.nD Cert.LnBRefIdeal.τ).loc Cert.LnBRefIdeal.main_arg2)
      ∧ r.2.mem ((c.tc : Thread Cert.LnBRefIdeal.nD Cert.LnBRefIdeal.τ).loc Cert.LnBRefIdeal.main_arg3) = m ((c.tc : Thread Cert.LnBRefIdeal.nD Cert.LnBRefIdeal.τ).loc Cert.LnBRefIdeal.main_arg3)
      ∧ r.2.mem ((c.tc : Thread Cert.LnBRefIdeal.nD Cert.LnBRefIdeal.τ).loc Cert.LnBRefIdeal.main_arg4) = m ((c.tc : Thread Cert.LnBRefIdeal.nD Cert.LnBRefIdeal.τ).loc Cert.LnBRefIdeal.main_arg4))
      ∧ r.2.sem = fun _ => 0)

def quiescent_LnBRefIdeal_pre_finite_gains [hLnBRefIdeal : Cert.LnBRefIdeal.Facts] [hPre_finite_gains : Cert.Pre_finite_gains.Facts] : Prop :=
  ∀ (m : (ℓ : Loc Cert.LnBRefIdeal.nD Cert.LnBRefIdeal.τ Cert.LnBRefIdeal.sig) → Buf (Elt Ideal) ℓ) (g : Dev Cert.LnBRefIdeal.nD → PrngReg), Pre_LnBRefIdeal_finite_gains m →
    θ_run (Cert.LnBRefIdeal.defs (F := Ideal)) (onTc (τ := Cert.LnBRefIdeal.τ) (Cert.LnBRefIdeal.main (F := Ideal))) ⟨m, fun _ => 0, g⟩ (fun r => (∀ c : Dev Cert.LnBRefIdeal.nD,
      r.2.mem ((c.tc : Thread Cert.LnBRefIdeal.nD Cert.LnBRefIdeal.τ).loc Cert.LnBRefIdeal.main_arg0) = m ((c.tc : Thread Cert.LnBRefIdeal.nD Cert.LnBRefIdeal.τ).loc Cert.LnBRefIdeal.main_arg0)
      ∧ r.2.mem ((c.tc : Thread Cert.LnBRefIdeal.nD Cert.LnBRefIdeal.τ).loc Cert.LnBRefIdeal.main_arg1) = m ((c.tc : Thread Cert.LnBRefIdeal.nD Cert.LnBRefIdeal.τ).loc Cert.LnBRefIdeal.main_arg1)
      ∧ r.2.mem ((c.tc : Thread Cert.LnBRefIdeal.nD Cert.LnBRefIdeal.τ).loc Cert.LnBRefIdeal.main_arg2) = m ((c.tc : Thread Cert.LnBRefIdeal.nD Cert.LnBRefIdeal.τ).loc Cert.LnBRefIdeal.main_arg2)
      ∧ r.2.mem ((c.tc : Thread Cert.LnBRefIdeal.nD Cert.LnBRefIdeal.τ).loc Cert.LnBRefIdeal.main_arg3) = m ((c.tc : Thread Cert.LnBRefIdeal.nD Cert.LnBRefIdeal.τ).loc Cert.LnBRefIdeal.main_arg3)
      ∧ r.2.mem ((c.tc : Thread Cert.LnBRefIdeal.nD Cert.LnBRefIdeal.τ).loc Cert.LnBRefIdeal.main_arg4) = m ((c.tc : Thread Cert.LnBRefIdeal.nD Cert.LnBRefIdeal.τ).loc Cert.LnBRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_finite_target [hLossIdeal : Cert.LossIdeal.Facts] [hPre_finite_target : Cert.Pre_finite_target.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_target m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_finite_target [hLossRefIdeal : Cert.LossRefIdeal.Facts] [hPre_finite_target : Cert.Pre_finite_target.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_target m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1)
      ∧ r.2.mem ((c.tc : Thread Cert.ConvF.nD Cert.ConvF.τ).loc Cert.ConvF.main_arg2) = m ((c.tc : Thread Cert.ConvF.nD Cert.ConvF.τ).loc Cert.ConvF.main_arg2)
      ∧ r.2.mem ((c.tc : Thread Cert.ConvF.nD Cert.ConvF.τ).loc Cert.ConvF.main_arg3) = m ((c.tc : Thread Cert.ConvF.nD Cert.ConvF.τ).loc Cert.ConvF.main_arg3)
      ∧ r.2.mem ((c.tc : Thread Cert.ConvF.nD Cert.ConvF.τ).loc Cert.ConvF.main_arg4) = m ((c.tc : Thread Cert.ConvF.nD Cert.ConvF.τ).loc Cert.ConvF.main_arg4))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
      ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2)
      ∧ r.2.mem ((c.tc : Thread Cert.ConvFIdeal.nD Cert.ConvFIdeal.τ).loc Cert.ConvFIdeal.main_arg3) = m ((c.tc : Thread Cert.ConvFIdeal.nD Cert.ConvFIdeal.τ).loc Cert.ConvFIdeal.main_arg3)
      ∧ r.2.mem ((c.tc : Thread Cert.ConvFIdeal.nD Cert.ConvFIdeal.τ).loc Cert.ConvFIdeal.main_arg4) = m ((c.tc : Thread Cert.ConvFIdeal.nD Cert.ConvFIdeal.τ).loc Cert.ConvFIdeal.main_arg4))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1)
      ∧ r.2.mem ((c.tc : Thread Cert.ConvFRefIdeal.nD Cert.ConvFRefIdeal.τ).loc Cert.ConvFRefIdeal.main_arg2) = m ((c.tc : Thread Cert.ConvFRefIdeal.nD Cert.ConvFRefIdeal.τ).loc Cert.ConvFRefIdeal.main_arg2)
      ∧ r.2.mem ((c.tc : Thread Cert.ConvFRefIdeal.nD Cert.ConvFRefIdeal.τ).loc Cert.ConvFRefIdeal.main_arg3) = m ((c.tc : Thread Cert.ConvFRefIdeal.nD Cert.ConvFRefIdeal.τ).loc Cert.ConvFRefIdeal.main_arg3)
      ∧ r.2.mem ((c.tc : Thread Cert.ConvFRefIdeal.nD Cert.ConvFRefIdeal.τ).loc Cert.ConvFRefIdeal.main_arg4) = m ((c.tc : Thread Cert.ConvFRefIdeal.nD Cert.ConvFRefIdeal.τ).loc Cert.ConvFRefIdeal.main_arg4))
      ∧ r.2.sem = fun _ => 0)

def preserves_Kernel_KernelIdeal : Prop :=
  IdealRules.named_const.Statement Cert.KernelIdeal.κ "minus_log2_e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)) (v3 : (c : Dev Cert.KernelIdeal.nD) → Buf (Elt Ideal) ((c.tc : Thread Cert.KernelIdeal.nD Cert.KernelIdeal.τ).loc Cert.KernelIdeal.main_v48_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_v48_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)) →
    ∃ (v0 : (c : Dev Cert.InXIdeal.nD) → Buf (Elt Ideal) ((c.tc : Thread Cert.InXIdeal.nD Cert.InXIdeal.τ).loc Cert.InXIdeal.main_v5)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v5) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v1) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2))

def preserves_InU_InUIdeal : Prop :=
  True

def algebraic_InUIdeal_InURefIdeal [hInUIdeal : Cert.InUIdeal.Facts] [hInURefIdeal : Cert.InURefIdeal.Facts] : Prop :=
  ∀ (m : (ℓ : Loc Cert.InUIdeal.nD Cert.InUIdeal.τ Cert.InUIdeal.sig) → Buf (Elt Ideal) ℓ) (g : Dev Cert.InUIdeal.nD → PrngReg)
    (m' : (ℓ : Loc Cert.InURefIdeal.nD Cert.InURefIdeal.τ Cert.InURefIdeal.sig) → Buf (Elt Ideal) ℓ) (g' : Dev Cert.InURefIdeal.nD → PrngReg), Pre_InUIdeal m →
    (∀ c : Dev Cert.InUIdeal.nD,
      m' ((c.tc : Thread Cert.InURefIdeal.nD Cert.InURefIdeal.τ).loc Cert.InURefIdeal.main_arg0) = m ((c.tc : Thread Cert.InUIdeal.nD Cert.InUIdeal.τ).loc Cert.InUIdeal.main_arg0)
      ∧ m' ((c.tc : Thread Cert.InURefIdeal.nD Cert.InURefIdeal.τ).loc Cert.InURefIdeal.main_arg1) = m ((c.tc : Thread Cert.InUIdeal.nD Cert.InUIdeal.τ).loc Cert.InUIdeal.main_arg1)
      ∧ m' ((c.tc : Thread Cert.InURefIdeal.nD Cert.InURefIdeal.τ).loc Cert.InURefIdeal.main_arg2) = m ((c.tc : Thread Cert.InUIdeal.nD Cert.InUIdeal.τ).loc Cert.InUIdeal.main_arg2)) →
    ∃ (v0 : (c : Dev Cert.InUIdeal.nD) → Buf (Elt Ideal) ((c.tc : Thread Cert.InUIdeal.nD Cert.InUIdeal.τ).loc Cert.InUIdeal.main_v2)),
      θ_run (Cert.InUIdeal.defs (F := Ideal)) (onTc (τ := Cert.InUIdeal.τ) (Cert.InUIdeal.main (F := Ideal))) ⟨m, fun _ => 0, g⟩ (fun r => ∀ c : Dev Cert.InUIdeal.nD,
          r.2.mem ((c.tc : Thread Cert.InUIdeal.nD Cert.InUIdeal.τ).loc Cert.InUIdeal.main_v2) = v0 c
          ∧ r.2.mem ((c.tc : Thread Cert.InUIdeal.nD Cert.InUIdeal.τ).loc Cert.InUIdeal.main_arg0) = m ((c.tc : Thread Cert.InUIdeal.nD Cert.InUIdeal.τ).loc Cert.InUIdeal.main_arg0)
          ∧ r.2.mem ((c.tc : Thread Cert.InUIdeal.nD Cert.InUIdeal.τ).loc Cert.InUIdeal.main_arg1) = m ((c.tc : Thread Cert.InUIdeal.nD Cert.InUIdeal.τ).loc Cert.InUIdeal.main_arg1)
          ∧ r.2.mem ((c.tc : Thread Cert.InUIdeal.nD Cert.InUIdeal.τ).loc Cert.InUIdeal.main_arg2) = m ((c.tc : Thread Cert.InUIdeal.nD Cert.InUIdeal.τ).loc Cert.InUIdeal.main_arg2))
      ∧ θ_run (Cert.InURefIdeal.defs (F := Ideal)) (onTc (τ := Cert.InURefIdeal.τ) (Cert.InURefIdeal.main (F := Ideal))) ⟨m', fun _ => 0, g'⟩ (fun r => ∀ c : Dev Cert.InURefIdeal.nD,
          r.2.mem ((c.tc : Thread Cert.InURefIdeal.nD Cert.InURefIdeal.τ).loc Cert.InURefIdeal.main_v6) = v0 c
          ∧ r.2.mem ((c.tc : Thread Cert.InURefIdeal.nD Cert.InURefIdeal.τ).loc Cert.InURefIdeal.main_arg0) = m' ((c.tc : Thread Cert.InURefIdeal.nD Cert.InURefIdeal.τ).loc Cert.InURefIdeal.main_arg0)
          ∧ r.2.mem ((c.tc : Thread Cert.InURefIdeal.nD Cert.InURefIdeal.τ).loc Cert.InURefIdeal.main_arg1) = m' ((c.tc : Thread Cert.InURefIdeal.nD Cert.InURefIdeal.τ).loc Cert.InURefIdeal.main_arg1)
          ∧ r.2.mem ((c.tc : Thread Cert.InURefIdeal.nD Cert.InURefIdeal.τ).loc Cert.InURefIdeal.main_arg2) = m' ((c.tc : Thread Cert.InURefIdeal.nD Cert.InURefIdeal.τ).loc Cert.InURefIdeal.main_arg2))

def preserves_InL_InLIdeal : Prop :=
  True

def algebraic_InLIdeal_InLRefIdeal [hInLIdeal : Cert.InLIdeal.Facts] [hInLRefIdeal : Cert.InLRefIdeal.Facts] : Prop :=
  ∀ (m : (ℓ : Loc Cert.InLIdeal.nD Cert.InLIdeal.τ Cert.InLIdeal.sig) → Buf (Elt Ideal) ℓ) (g : Dev Cert.InLIdeal.nD → PrngReg)
    (m' : (ℓ : Loc Cert.InLRefIdeal.nD Cert.InLRefIdeal.τ Cert.InLRefIdeal.sig) → Buf (Elt Ideal) ℓ) (g' : Dev Cert.InLRefIdeal.nD → PrngReg), Pre_InLIdeal m →
    (∀ c : Dev Cert.InLIdeal.nD,
      m' ((c.tc : Thread Cert.InLRefIdeal.nD Cert.InLRefIdeal.τ).loc Cert.InLRefIdeal.main_arg0) = m ((c.tc : Thread Cert.InLIdeal.nD Cert.InLIdeal.τ).loc Cert.InLIdeal.main_arg0)
      ∧ m' ((c.tc : Thread Cert.InLRefIdeal.nD Cert.InLRefIdeal.τ).loc Cert.InLRefIdeal.main_arg1) = m ((c.tc : Thread Cert.InLIdeal.nD Cert.InLIdeal.τ).loc Cert.InLIdeal.main_arg1)
      ∧ m' ((c.tc : Thread Cert.InLRefIdeal.nD Cert.InLRefIdeal.τ).loc Cert.InLRefIdeal.main_arg2) = m ((c.tc : Thread Cert.InLIdeal.nD Cert.InLIdeal.τ).loc Cert.InLIdeal.main_arg2)) →
    ∃ (v0 : (c : Dev Cert.InLIdeal.nD) → Buf (Elt Ideal) ((c.tc : Thread Cert.InLIdeal.nD Cert.InLIdeal.τ).loc Cert.InLIdeal.main_v3)),
      θ_run (Cert.InLIdeal.defs (F := Ideal)) (onTc (τ := Cert.InLIdeal.τ) (Cert.InLIdeal.main (F := Ideal))) ⟨m, fun _ => 0, g⟩ (fun r => ∀ c : Dev Cert.InLIdeal.nD,
          r.2.mem ((c.tc : Thread Cert.InLIdeal.nD Cert.InLIdeal.τ).loc Cert.InLIdeal.main_v3) = v0 c
          ∧ r.2.mem ((c.tc : Thread Cert.InLIdeal.nD Cert.InLIdeal.τ).loc Cert.InLIdeal.main_arg0) = m ((c.tc : Thread Cert.InLIdeal.nD Cert.InLIdeal.τ).loc Cert.InLIdeal.main_arg0)
          ∧ r.2.mem ((c.tc : Thread Cert.InLIdeal.nD Cert.InLIdeal.τ).loc Cert.InLIdeal.main_arg1) = m ((c.tc : Thread Cert.InLIdeal.nD Cert.InLIdeal.τ).loc Cert.InLIdeal.main_arg1)
          ∧ r.2.mem ((c.tc : Thread Cert.InLIdeal.nD Cert.InLIdeal.τ).loc Cert.InLIdeal.main_arg2) = m ((c.tc : Thread Cert.InLIdeal.nD Cert.InLIdeal.τ).loc Cert.InLIdeal.main_arg2))
      ∧ θ_run (Cert.InLRefIdeal.defs (F := Ideal)) (onTc (τ := Cert.InLRefIdeal.τ) (Cert.InLRefIdeal.main (F := Ideal))) ⟨m', fun _ => 0, g'⟩ (fun r => ∀ c : Dev Cert.InLRefIdeal.nD,
          r.2.mem ((c.tc : Thread Cert.InLRefIdeal.nD Cert.InLRefIdeal.τ).loc Cert.InLRefIdeal.main_v6) = v0 c
          ∧ r.2.mem ((c.tc : Thread Cert.InLRefIdeal.nD Cert.InLRefIdeal.τ).loc Cert.InLRefIdeal.main_arg0) = m' ((c.tc : Thread Cert.InLRefIdeal.nD Cert.InLRefIdeal.τ).loc Cert.InLRefIdeal.main_arg0)
          ∧ r.2.mem ((c.tc : Thread Cert.InLRefIdeal.nD Cert.InLRefIdeal.τ).loc Cert.InLRefIdeal.main_arg1) = m' ((c.tc : Thread Cert.InLRefIdeal.nD Cert.InLRefIdeal.τ).loc Cert.InLRefIdeal.main_arg1)
          ∧ r.2.mem ((c.tc : Thread Cert.InLRefIdeal.nD Cert.InLRefIdeal.τ).loc Cert.InLRefIdeal.main_arg2) = m' ((c.tc : Thread Cert.InLRefIdeal.nD Cert.InLRefIdeal.τ).loc Cert.InLRefIdeal.main_arg2))

def preserves_ProjX_ProjXIdeal : Prop :=
  True

def algebraic_ProjXIdeal_ProjXRefIdeal [hProjXIdeal : Cert.ProjXIdeal.Facts] [hProjXRefIdeal : Cert.ProjXRefIdeal.Facts] : Prop :=
  ∀ (m : (ℓ : Loc Cert.ProjXIdeal.nD Cert.ProjXIdeal.τ Cert.ProjXIdeal.sig) → Buf (Elt Ideal) ℓ) (g : Dev Cert.ProjXIdeal.nD → PrngReg)
    (m' : (ℓ : Loc Cert.ProjXRefIdeal.nD Cert.ProjXRefIdeal.τ Cert.ProjXRefIdeal.sig) → Buf (Elt Ideal) ℓ) (g' : Dev Cert.ProjXRefIdeal.nD → PrngReg), Pre_ProjXIdeal m →
    (∀ c : Dev Cert.ProjXIdeal.nD,
      m' ((c.tc : Thread Cert.ProjXRefIdeal.nD Cert.ProjXRefIdeal.τ).loc Cert.ProjXRefIdeal.main_arg0) = m ((c.tc : Thread Cert.ProjXIdeal.nD Cert.ProjXIdeal.τ).loc Cert.ProjXIdeal.main_arg0)
      ∧ m' ((c.tc : Thread Cert.ProjXRefIdeal.nD Cert.ProjXRefIdeal.τ).loc Cert.ProjXRefIdeal.main_arg1) = m ((c.tc : Thread Cert.ProjXIdeal.nD Cert.ProjXIdeal.τ).loc Cert.ProjXIdeal.main_arg1)
      ∧ m' ((c.tc : Thread Cert.ProjXRefIdeal.nD Cert.ProjXRefIdeal.τ).loc Cert.ProjXRefIdeal.main_arg2) = m ((c.tc : Thread Cert.ProjXIdeal.nD Cert.ProjXIdeal.τ).loc Cert.ProjXIdeal.main_arg2)) →
    ∃ (v0 : (c : Dev Cert.ProjXIdeal.nD) → Buf (Elt Ideal) ((c.tc : Thread Cert.ProjXIdeal.nD Cert.ProjXIdeal.τ).loc Cert.ProjXIdeal.main_v2)),
      θ_run (Cert.ProjXIdeal.defs (F := Ideal)) (onTc (τ := Cert.ProjXIdeal.τ) (Cert.ProjXIdeal.main (F := Ideal))) ⟨m, fun _ => 0, g⟩ (fun r => ∀ c : Dev Cert.ProjXIdeal.nD,
          r.2.mem ((c.tc : Thread Cert.ProjXIdeal.nD Cert.ProjXIdeal.τ).loc Cert.ProjXIdeal.main_v2) = v0 c
          ∧ r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
          ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1)
          ∧ r.2.mem ((c.tc : Thread Cert.ProjXIdeal.nD Cert.ProjXIdeal.τ).loc Cert.ProjXIdeal.main_arg2) = m ((c.tc : Thread Cert.ProjXIdeal.nD Cert.ProjXIdeal.τ).loc Cert.ProjXIdeal.main_arg2))
      ∧ θ_run (Cert.ProjXRefIdeal.defs (F := Ideal)) (onTc (τ := Cert.ProjXRefIdeal.τ) (Cert.ProjXRefIdeal.main (F := Ideal))) ⟨m', fun _ => 0, g'⟩ (fun r => ∀ c : Dev Cert.ProjXRefIdeal.nD,
          r.2.mem ((c.tc : Thread Cert.ProjXRefIdeal.nD Cert.ProjXRefIdeal.τ).loc Cert.ProjXRefIdeal.main_v1) = v0 c
          ∧ r.2.mem ((c.tc : Thread Cert.ProjXRefIdeal.nD Cert.ProjXRefIdeal.τ).loc Cert.ProjXRefIdeal.main_arg0) = m' ((c.tc : Thread Cert.ProjXRefIdeal.nD Cert.ProjXRefIdeal.τ).loc Cert.ProjXRefIdeal.main_arg0)
          ∧ r.2.mem ((c.tc : Thread Cert.ProjXRefIdeal.nD Cert.ProjXRefIdeal.τ).loc Cert.ProjXRefIdeal.main_arg1) = m' ((c.tc : Thread Cert.ProjXRefIdeal.nD Cert.ProjXRefIdeal.τ).loc Cert.ProjXRefIdeal.main_arg1)
          ∧ r.2.mem ((c.tc : Thread Cert.ProjXRefIdeal.nD Cert.ProjXRefIdeal.τ).loc Cert.ProjXRefIdeal.main_arg2) = m' ((c.tc : Thread Cert.ProjXRefIdeal.nD Cert.ProjXRefIdeal.τ).loc Cert.ProjXRefIdeal.main_arg2))

def preserves_ProjW_ProjWIdeal : Prop :=
  True

def algebraic_ProjWIdeal_ProjWRefIdeal [hProjWIdeal : Cert.ProjWIdeal.Facts] [hProjWRefIdeal : Cert.ProjWRefIdeal.Facts] : Prop :=
  ∀ (m : (ℓ : Loc Cert.ProjWIdeal.nD Cert.ProjWIdeal.τ Cert.ProjWIdeal.sig) → Buf (Elt Ideal) ℓ) (g : Dev Cert.ProjWIdeal.nD → PrngReg)
    (m' : (ℓ : Loc Cert.ProjWRefIdeal.nD Cert.ProjWRefIdeal.τ Cert.ProjWRefIdeal.sig) → Buf (Elt Ideal) ℓ) (g' : Dev Cert.ProjWRefIdeal.nD → PrngReg), Pre_ProjWIdeal m →
    (∀ c : Dev Cert.ProjWIdeal.nD,
      m' ((c.tc : Thread Cert.ProjWRefIdeal.nD Cert.ProjWRefIdeal.τ).loc Cert.ProjWRefIdeal.main_arg0) = m ((c.tc : Thread Cert.ProjWIdeal.nD Cert.ProjWIdeal.τ).loc Cert.ProjWIdeal.main_arg0)
      ∧ m' ((c.tc : Thread Cert.ProjWRefIdeal.nD Cert.ProjWRefIdeal.τ).loc Cert.ProjWRefIdeal.main_arg1) = m ((c.tc : Thread Cert.ProjWIdeal.nD Cert.ProjWIdeal.τ).loc Cert.ProjWIdeal.main_arg1)
      ∧ m' ((c.tc : Thread Cert.ProjWRefIdeal.nD Cert.ProjWRefIdeal.τ).loc Cert.ProjWRefIdeal.main_arg2) = m ((c.tc : Thread Cert.ProjWIdeal.nD Cert.ProjWIdeal.τ).loc Cert.ProjWIdeal.main_arg2)) →
    ∃ (v0 : (c : Dev Cert.ProjWIdeal.nD) → Buf (Elt Ideal) ((c.tc : Thread Cert.ProjWIdeal.nD Cert.ProjWIdeal.τ).loc Cert.ProjWIdeal.main_v2)),
      θ_run (Cert.ProjWIdeal.defs (F := Ideal)) (onTc (τ := Cert.ProjWIdeal.τ) (Cert.ProjWIdeal.main (F := Ideal))) ⟨m, fun _ => 0, g⟩ (fun r => ∀ c : Dev Cert.ProjWIdeal.nD,
          r.2.mem ((c.tc : Thread Cert.ProjWIdeal.nD Cert.ProjWIdeal.τ).loc Cert.ProjWIdeal.main_v2) = v0 c
          ∧ r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
          ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1)
          ∧ r.2.mem ((c.tc : Thread Cert.ProjWIdeal.nD Cert.ProjWIdeal.τ).loc Cert.ProjWIdeal.main_arg2) = m ((c.tc : Thread Cert.ProjWIdeal.nD Cert.ProjWIdeal.τ).loc Cert.ProjWIdeal.main_arg2))
      ∧ θ_run (Cert.ProjWRefIdeal.defs (F := Ideal)) (onTc (τ := Cert.ProjWRefIdeal.τ) (Cert.ProjWRefIdeal.main (F := Ideal))) ⟨m', fun _ => 0, g'⟩ (fun r => ∀ c : Dev Cert.ProjWRefIdeal.nD,
          r.2.mem ((c.tc : Thread Cert.ProjWRefIdeal.nD Cert.ProjWRefIdeal.τ).loc Cert.ProjWRefIdeal.main_v3) = v0 c
          ∧ r.2.mem ((c.tc : Thread Cert.ProjWRefIdeal.nD Cert.ProjWRefIdeal.τ).loc Cert.ProjWRefIdeal.main_arg0) = m' ((c.tc : Thread Cert.ProjWRefIdeal.nD Cert.ProjWRefIdeal.τ).loc Cert.ProjWRefIdeal.main_arg0)
          ∧ r.2.mem ((c.tc : Thread Cert.ProjWRefIdeal.nD Cert.ProjWRefIdeal.τ).loc Cert.ProjWRefIdeal.main_arg1) = m' ((c.tc : Thread Cert.ProjWRefIdeal.nD Cert.ProjWRefIdeal.τ).loc Cert.ProjWRefIdeal.main_arg1)
          ∧ r.2.mem ((c.tc : Thread Cert.ProjWRefIdeal.nD Cert.ProjWRefIdeal.τ).loc Cert.ProjWRefIdeal.main_arg2) = m' ((c.tc : Thread Cert.ProjWRefIdeal.nD Cert.ProjWRefIdeal.τ).loc Cert.ProjWRefIdeal.main_arg2))

def preserves_ProjY_ProjYIdeal : Prop :=
  True

def algebraic_ProjYIdeal_ProjYRefIdeal [hProjYIdeal : Cert.ProjYIdeal.Facts] [hProjYRefIdeal : Cert.ProjYRefIdeal.Facts] : Prop :=
  ∀ (m : (ℓ : Loc Cert.ProjYIdeal.nD Cert.ProjYIdeal.τ Cert.ProjYIdeal.sig) → Buf (Elt Ideal) ℓ) (g : Dev Cert.ProjYIdeal.nD → PrngReg)
    (m' : (ℓ : Loc Cert.ProjYRefIdeal.nD Cert.ProjYRefIdeal.τ Cert.ProjYRefIdeal.sig) → Buf (Elt Ideal) ℓ) (g' : Dev Cert.ProjYRefIdeal.nD → PrngReg), Pre_ProjYIdeal m →
    (∀ c : Dev Cert.ProjYIdeal.nD,
      m' ((c.tc : Thread Cert.ProjYRefIdeal.nD Cert.ProjYRefIdeal.τ).loc Cert.ProjYRefIdeal.main_arg0) = m ((c.tc : Thread Cert.ProjYIdeal.nD Cert.ProjYIdeal.τ).loc Cert.ProjYIdeal.main_arg0)
      ∧ m' ((c.tc : Thread Cert.ProjYRefIdeal.nD Cert.ProjYRefIdeal.τ).loc Cert.ProjYRefIdeal.main_arg1) = m ((c.tc : Thread Cert.ProjYIdeal.nD Cert.ProjYIdeal.τ).loc Cert.ProjYIdeal.main_arg1)) →
    ∃ (v0 : (c : Dev Cert.ProjYIdeal.nD) → Buf (Elt Ideal) ((c.tc : Thread Cert.ProjYIdeal.nD Cert.ProjYIdeal.τ).loc Cert.ProjYIdeal.main_v2)),
      θ_run (Cert.ProjYIdeal.defs (F := Ideal)) (onTc (τ := Cert.ProjYIdeal.τ) (Cert.ProjYIdeal.main (F := Ideal))) ⟨m, fun _ => 0, g⟩ (fun r => ∀ c : Dev Cert.ProjYIdeal.nD,
          r.2.mem ((c.tc : Thread Cert.ProjYIdeal.nD Cert.ProjYIdeal.τ).loc Cert.ProjYIdeal.main_v2) = v0 c
          ∧ r.2.mem ((c.tc : Thread Cert.ProjYIdeal.nD Cert.ProjYIdeal.τ).loc Cert.ProjYIdeal.main_arg0) = m ((c.tc : Thread Cert.ProjYIdeal.nD Cert.ProjYIdeal.τ).loc Cert.ProjYIdeal.main_arg0)
          ∧ r.2.mem ((c.tc : Thread Cert.ProjYIdeal.nD Cert.ProjYIdeal.τ).loc Cert.ProjYIdeal.main_arg1) = m ((c.tc : Thread Cert.ProjYIdeal.nD Cert.ProjYIdeal.τ).loc Cert.ProjYIdeal.main_arg1))
      ∧ θ_run (Cert.ProjYRefIdeal.defs (F := Ideal)) (onTc (τ := Cert.ProjYRefIdeal.τ) (Cert.ProjYRefIdeal.main (F := Ideal))) ⟨m', fun _ => 0, g'⟩ (fun r => ∀ c : Dev Cert.ProjYRefIdeal.nD,
          r.2.mem ((c.tc : Thread Cert.ProjYRefIdeal.nD Cert.ProjYRefIdeal.τ).loc Cert.ProjYRefIdeal.main_v0) = v0 c
          ∧ r.2.mem ((c.tc : Thread Cert.ProjYRefIdeal.nD Cert.ProjYRefIdeal.τ).loc Cert.ProjYRefIdeal.main_arg0) = m' ((c.tc : Thread Cert.ProjYRefIdeal.nD Cert.ProjYRefIdeal.τ).loc Cert.ProjYRefIdeal.main_arg0)
          ∧ r.2.mem ((c.tc : Thread Cert.ProjYRefIdeal.nD Cert.ProjYRefIdeal.τ).loc Cert.ProjYRefIdeal.main_arg1) = m' ((c.tc : Thread Cert.ProjYRefIdeal.nD Cert.ProjYRefIdeal.τ).loc Cert.ProjYRefIdeal.main_arg1))

def preserves_Fwd_FwdIdeal : Prop :=
  IdealRules.named_const.Statement Cert.FwdIdeal.κ "minus_log2_e" .f32 0xBFB8AA3B#32 ((-((Real.log 2)⁻¹) : ℝ) : EReal)

def algebraic_FwdIdeal_FwdRefIdeal_pre_finite_qkv [hFwdIdeal : Cert.FwdIdeal.Facts] [hFwdRefIdeal : Cert.FwdRefIdeal.Facts] [hPre_finite_qkv : Cert.Pre_finite_qkv.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_qkv m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)) →
    ∃ (v0 : (c : Dev Cert.FwdIdeal.nD) → Buf (Elt Ideal) ((c.tc : Thread Cert.FwdIdeal.nD Cert.FwdIdeal.τ).loc Cert.FwdIdeal.main_v2_0)) (v1 : (c : Dev Cert.FwdIdeal.nD) → Buf (Elt Ideal) ((c.tc : Thread Cert.FwdIdeal.nD Cert.FwdIdeal.τ).loc Cert.FwdIdeal.main_v2_1)) (v2 : (c : Dev Cert.FwdIdeal.nD) → Buf (Elt Ideal) ((c.tc : Thread Cert.FwdIdeal.nD Cert.FwdIdeal.τ).loc Cert.FwdIdeal.main_v2_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v2_0) = v0 c
          ∧ r.2.mem ((c.tc : Thread Cert.FwdIdeal.nD Cert.FwdIdeal.τ).loc Cert.FwdIdeal.main_v2_1) = v1 c
          ∧ r.2.mem ((c.tc : Thread Cert.FwdIdeal.nD Cert.FwdIdeal.τ).loc Cert.FwdIdeal.main_v2_2) = v2 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v44) = v0 c
          ∧ r.2.mem ((c.tc : Thread Cert.FwdRefIdeal.nD Cert.FwdRefIdeal.τ).loc Cert.FwdRefIdeal.main_v49) = v1 c
          ∧ r.2.mem ((c.tc : Thread Cert.FwdRefIdeal.nD Cert.FwdRefIdeal.τ).loc Cert.FwdRefIdeal.main_v45) = v2 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0))

def preserves_MergeF_MergeFIdeal : Prop :=
  True

def algebraic_MergeFIdeal_MergeFRefIdeal [hMergeFIdeal : Cert.MergeFIdeal.Facts] [hMergeFRefIdeal : Cert.MergeFRefIdeal.Facts] : Prop :=
  ∀ (m : (ℓ : Loc Cert.MergeFIdeal.nD Cert.MergeFIdeal.τ Cert.MergeFIdeal.sig) → Buf (Elt Ideal) ℓ) (g : Dev Cert.MergeFIdeal.nD → PrngReg)
    (m' : (ℓ : Loc Cert.MergeFRefIdeal.nD Cert.MergeFRefIdeal.τ Cert.MergeFRefIdeal.sig) → Buf (Elt Ideal) ℓ) (g' : Dev Cert.MergeFRefIdeal.nD → PrngReg), Pre_MergeFIdeal m →
    (∀ c : Dev Cert.MergeFIdeal.nD,
      m' ((c.tc : Thread Cert.MergeFRefIdeal.nD Cert.MergeFRefIdeal.τ).loc Cert.MergeFRefIdeal.main_arg0) = m ((c.tc : Thread Cert.MergeFIdeal.nD Cert.MergeFIdeal.τ).loc Cert.MergeFIdeal.main_arg0)
      ∧ m' ((c.tc : Thread Cert.MergeFRefIdeal.nD Cert.MergeFRefIdeal.τ).loc Cert.MergeFRefIdeal.main_arg1) = m ((c.tc : Thread Cert.MergeFIdeal.nD Cert.MergeFIdeal.τ).loc Cert.MergeFIdeal.main_arg1)
      ∧ m' ((c.tc : Thread Cert.MergeFRefIdeal.nD Cert.MergeFRefIdeal.τ).loc Cert.MergeFRefIdeal.main_arg2) = m ((c.tc : Thread Cert.MergeFIdeal.nD Cert.MergeFIdeal.τ).loc Cert.MergeFIdeal.main_arg2)) →
    ∃ (v0 : (c : Dev Cert.MergeFIdeal.nD) → Buf (Elt Ideal) ((c.tc : Thread Cert.MergeFIdeal.nD Cert.MergeFIdeal.τ).loc Cert.MergeFIdeal.main_v0)),
      θ_run (Cert.MergeFIdeal.defs (F := Ideal)) (onTc (τ := Cert.MergeFIdeal.τ) (Cert.MergeFIdeal.main (F := Ideal))) ⟨m, fun _ => 0, g⟩ (fun r => ∀ c : Dev Cert.MergeFIdeal.nD,
          r.2.mem ((c.tc : Thread Cert.MergeFIdeal.nD Cert.MergeFIdeal.τ).loc Cert.MergeFIdeal.main_v0) = v0 c
          ∧ r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
          ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
          ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2))
      ∧ θ_run (Cert.MergeFRefIdeal.defs (F := Ideal)) (onTc (τ := Cert.MergeFRefIdeal.τ) (Cert.MergeFRefIdeal.main (F := Ideal))) ⟨m', fun _ => 0, g'⟩ (fun r => ∀ c : Dev Cert.MergeFRefIdeal.nD,
          r.2.mem ((c.tc : Thread Cert.MergeFRefIdeal.nD Cert.MergeFRefIdeal.τ).loc Cert.MergeFRefIdeal.main_v17) = v0 c
          ∧ r.2.mem ((c.tc : Thread Cert.MergeFRefIdeal.nD Cert.MergeFRefIdeal.τ).loc Cert.MergeFRefIdeal.main_arg0) = m' ((c.tc : Thread Cert.MergeFRefIdeal.nD Cert.MergeFRefIdeal.τ).loc Cert.MergeFRefIdeal.main_arg0)
          ∧ r.2.mem ((c.tc : Thread Cert.MergeFRefIdeal.nD Cert.MergeFRefIdeal.τ).loc Cert.MergeFRefIdeal.main_arg1) = m' ((c.tc : Thread Cert.MergeFRefIdeal.nD Cert.MergeFRefIdeal.τ).loc Cert.MergeFRefIdeal.main_arg1)
          ∧ r.2.mem ((c.tc : Thread Cert.MergeFRefIdeal.nD Cert.MergeFRefIdeal.τ).loc Cert.MergeFRefIdeal.main_arg2) = m' ((c.tc : Thread Cert.MergeFRefIdeal.nD Cert.MergeFRefIdeal.τ).loc Cert.MergeFRefIdeal.main_arg2))

def preserves_MergeB_MergeBIdeal : Prop :=
  True

def algebraic_MergeBIdeal_MergeBRefIdeal [hMergeBIdeal : Cert.MergeBIdeal.Facts] [hMergeBRefIdeal : Cert.MergeBRefIdeal.Facts] : Prop :=
  ∀ (m : (ℓ : Loc Cert.MergeBIdeal.nD Cert.MergeBIdeal.τ Cert.MergeBIdeal.sig) → Buf (Elt Ideal) ℓ) (g : Dev Cert.MergeBIdeal.nD → PrngReg)
    (m' : (ℓ : Loc Cert.MergeBRefIdeal.nD Cert.MergeBRefIdeal.τ Cert.MergeBRefIdeal.sig) → Buf (Elt Ideal) ℓ) (g' : Dev Cert.MergeBRefIdeal.nD → PrngReg), Pre_MergeBIdeal m →
    (∀ c : Dev Cert.MergeBIdeal.nD,
      m' ((c.tc : Thread Cert.MergeBRefIdeal.nD Cert.MergeBRefIdeal.τ).loc Cert.MergeBRefIdeal.main_arg0) = m ((c.tc : Thread Cert.MergeBIdeal.nD Cert.MergeBIdeal.τ).loc Cert.MergeBIdeal.main_arg0)
      ∧ m' ((c.tc : Thread Cert.MergeBRefIdeal.nD Cert.MergeBRefIdeal.τ).loc Cert.MergeBRefIdeal.main_arg1) = m ((c.tc : Thread Cert.MergeBIdeal.nD Cert.MergeBIdeal.τ).loc Cert.MergeBIdeal.main_arg1)
      ∧ m' ((c.tc : Thread Cert.MergeBRefIdeal.nD Cert.MergeBRefIdeal.τ).loc Cert.MergeBRefIdeal.main_arg2) = m ((c.tc : Thread Cert.MergeBIdeal.nD Cert.MergeBIdeal.τ).loc Cert.MergeBIdeal.main_arg2)
      ∧ m' ((c.tc : Thread Cert.MergeBRefIdeal.nD Cert.MergeBRefIdeal.τ).loc Cert.MergeBRefIdeal.main_arg3) = m ((c.tc : Thread Cert.MergeBIdeal.nD Cert.MergeBIdeal.τ).loc Cert.MergeBIdeal.main_arg3)) →
    ∃ (v0 : (c : Dev Cert.MergeBIdeal.nD) → Buf (Elt Ideal) ((c.tc : Thread Cert.MergeBIdeal.nD Cert.MergeBIdeal.τ).loc Cert.MergeBIdeal.main_v0_0)) (v1 : (c : Dev Cert.MergeBIdeal.nD) → Buf (Elt Ideal) ((c.tc : Thread Cert.MergeBIdeal.nD Cert.MergeBIdeal.τ).loc Cert.MergeBIdeal.main_v0_1)) (v2 : (c : Dev Cert.MergeBIdeal.nD) → Buf (Elt Ideal) ((c.tc : Thread Cert.MergeBIdeal.nD Cert.MergeBIdeal.τ).loc Cert.MergeBIdeal.main_v0_2)),
      θ_run (Cert.MergeBIdeal.defs (F := Ideal)) (onTc (τ := Cert.MergeBIdeal.τ) (Cert.MergeBIdeal.main (F := Ideal))) ⟨m, fun _ => 0, g⟩ (fun r => ∀ c : Dev Cert.MergeBIdeal.nD,
          r.2.mem ((c.tc : Thread Cert.MergeBIdeal.nD Cert.MergeBIdeal.τ).loc Cert.MergeBIdeal.main_v0_0) = v0 c
          ∧ r.2.mem ((c.tc : Thread Cert.MergeBIdeal.nD Cert.MergeBIdeal.τ).loc Cert.MergeBIdeal.main_v0_1) = v1 c
          ∧ r.2.mem ((c.tc : Thread Cert.MergeBIdeal.nD Cert.MergeBIdeal.τ).loc Cert.MergeBIdeal.main_v0_2) = v2 c
          ∧ r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
          ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
          ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
          ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3))
      ∧ θ_run (Cert.MergeBRefIdeal.defs (F := Ideal)) (onTc (τ := Cert.MergeBRefIdeal.τ) (Cert.MergeBRefIdeal.main (F := Ideal))) ⟨m', fun _ => 0, g'⟩ (fun r => ∀ c : Dev Cert.MergeBRefIdeal.nD,
          r.2.mem ((c.tc : Thread Cert.MergeBRefIdeal.nD Cert.MergeBRefIdeal.τ).loc Cert.MergeBRefIdeal.main_v31) = v0 c
          ∧ r.2.mem ((c.tc : Thread Cert.MergeBRefIdeal.nD Cert.MergeBRefIdeal.τ).loc Cert.MergeBRefIdeal.main_v32) = v1 c
          ∧ r.2.mem ((c.tc : Thread Cert.MergeBRefIdeal.nD Cert.MergeBRefIdeal.τ).loc Cert.MergeBRefIdeal.main_v34) = v2 c
          ∧ r.2.mem ((c.tc : Thread Cert.MergeBRefIdeal.nD Cert.MergeBRefIdeal.τ).loc Cert.MergeBRefIdeal.main_arg0) = m' ((c.tc : Thread Cert.MergeBRefIdeal.nD Cert.MergeBRefIdeal.τ).loc Cert.MergeBRefIdeal.main_arg0)
          ∧ r.2.mem ((c.tc : Thread Cert.MergeBRefIdeal.nD Cert.MergeBRefIdeal.τ).loc Cert.MergeBRefIdeal.main_arg1) = m' ((c.tc : Thread Cert.MergeBRefIdeal.nD Cert.MergeBRefIdeal.τ).loc Cert.MergeBRefIdeal.main_arg1)
          ∧ r.2.mem ((c.tc : Thread Cert.MergeBRefIdeal.nD Cert.MergeBRefIdeal.τ).loc Cert.MergeBRefIdeal.main_arg2) = m' ((c.tc : Thread Cert.MergeBRefIdeal.nD Cert.MergeBRefIdeal.τ).loc Cert.MergeBRefIdeal.main_arg2)
          ∧ r.2.mem ((c.tc : Thread Cert.MergeBRefIdeal.nD Cert.MergeBRefIdeal.τ).loc Cert.MergeBRefIdeal.main_arg3) = m' ((c.tc : Thread Cert.MergeBRefIdeal.nD Cert.MergeBRefIdeal.τ).loc Cert.MergeBRefIdeal.main_arg3))

def preserves_LnF_LnFIdeal : Prop :=
  True

def algebraic_LnFIdeal_LnFRefIdeal [hLnFIdeal : Cert.LnFIdeal.Facts] [hLnFRefIdeal : Cert.LnFRefIdeal.Facts] : Prop :=
  ∀ (m : (ℓ : Loc Cert.LnFIdeal.nD Cert.LnFIdeal.τ Cert.LnFIdeal.sig) → Buf (Elt Ideal) ℓ) (g : Dev Cert.LnFIdeal.nD → PrngReg)
    (m' : (ℓ : Loc Cert.LnFRefIdeal.nD Cert.LnFRefIdeal.τ Cert.LnFRefIdeal.sig) → Buf (Elt Ideal) ℓ) (g' : Dev Cert.LnFRefIdeal.nD → PrngReg), Pre_LnFIdeal m →
    (∀ c : Dev Cert.LnFIdeal.nD,
      m' ((c.tc : Thread Cert.LnFRefIdeal.nD Cert.LnFRefIdeal.τ).loc Cert.LnFRefIdeal.main_arg0) = m ((c.tc : Thread Cert.LnFIdeal.nD Cert.LnFIdeal.τ).loc Cert.LnFIdeal.main_arg0)
      ∧ m' ((c.tc : Thread Cert.LnFRefIdeal.nD Cert.LnFRefIdeal.τ).loc Cert.LnFRefIdeal.main_arg1) = m ((c.tc : Thread Cert.LnFIdeal.nD Cert.LnFIdeal.τ).loc Cert.LnFIdeal.main_arg1)
      ∧ m' ((c.tc : Thread Cert.LnFRefIdeal.nD Cert.LnFRefIdeal.τ).loc Cert.LnFRefIdeal.main_arg2) = m ((c.tc : Thread Cert.LnFIdeal.nD Cert.LnFIdeal.τ).loc Cert.LnFIdeal.main_arg2)) →
    ∃ (v0 : (c : Dev Cert.LnFIdeal.nD) → Buf (Elt Ideal) ((c.tc : Thread Cert.LnFIdeal.nD Cert.LnFIdeal.τ).loc Cert.LnFIdeal.main_v2_0)) (v1 : (c : Dev Cert.LnFIdeal.nD) → Buf (Elt Ideal) ((c.tc : Thread Cert.LnFIdeal.nD Cert.LnFIdeal.τ).loc Cert.LnFIdeal.main_v2_1)),
      θ_run (Cert.LnFIdeal.defs (F := Ideal)) (onTc (τ := Cert.LnFIdeal.τ) (Cert.LnFIdeal.main (F := Ideal))) ⟨m, fun _ => 0, g⟩ (fun r => ∀ c : Dev Cert.LnFIdeal.nD,
          r.2.mem ((c.tc : Thread Cert.LnFIdeal.nD Cert.LnFIdeal.τ).loc Cert.LnFIdeal.main_v2_0) = v0 c
          ∧ r.2.mem ((c.tc : Thread Cert.LnFIdeal.nD Cert.LnFIdeal.τ).loc Cert.LnFIdeal.main_v2_1) = v1 c
          ∧ r.2.mem ((c.tc : Thread Cert.LnFIdeal.nD Cert.LnFIdeal.τ).loc Cert.LnFIdeal.main_arg0) = m ((c.tc : Thread Cert.LnFIdeal.nD Cert.LnFIdeal.τ).loc Cert.LnFIdeal.main_arg0)
          ∧ r.2.mem ((c.tc : Thread Cert.LnFIdeal.nD Cert.LnFIdeal.τ).loc Cert.LnFIdeal.main_arg1) = m ((c.tc : Thread Cert.LnFIdeal.nD Cert.LnFIdeal.τ).loc Cert.LnFIdeal.main_arg1)
          ∧ r.2.mem ((c.tc : Thread Cert.LnFIdeal.nD Cert.LnFIdeal.τ).loc Cert.LnFIdeal.main_arg2) = m ((c.tc : Thread Cert.LnFIdeal.nD Cert.LnFIdeal.τ).loc Cert.LnFIdeal.main_arg2))
      ∧ θ_run (Cert.LnFRefIdeal.defs (F := Ideal)) (onTc (τ := Cert.LnFRefIdeal.τ) (Cert.LnFRefIdeal.main (F := Ideal))) ⟨m', fun _ => 0, g'⟩ (fun r => ∀ c : Dev Cert.LnFRefIdeal.nD,
          r.2.mem ((c.tc : Thread Cert.LnFRefIdeal.nD Cert.LnFRefIdeal.τ).loc Cert.LnFRefIdeal.main_v23) = v0 c
          ∧ r.2.mem ((c.tc : Thread Cert.LnFRefIdeal.nD Cert.LnFRefIdeal.τ).loc Cert.LnFRefIdeal.main_v24) = v1 c
          ∧ r.2.mem ((c.tc : Thread Cert.LnFRefIdeal.nD Cert.LnFRefIdeal.τ).loc Cert.LnFRefIdeal.main_arg0) = m' ((c.tc : Thread Cert.LnFRefIdeal.nD Cert.LnFRefIdeal.τ).loc Cert.LnFRefIdeal.main_arg0)
          ∧ r.2.mem ((c.tc : Thread Cert.LnFRefIdeal.nD Cert.LnFRefIdeal.τ).loc Cert.LnFRefIdeal.main_arg1) = m' ((c.tc : Thread Cert.LnFRefIdeal.nD Cert.LnFRefIdeal.τ).loc Cert.LnFRefIdeal.main_arg1)
          ∧ r.2.mem ((c.tc : Thread Cert.LnFRefIdeal.nD Cert.LnFRefIdeal.τ).loc Cert.LnFRefIdeal.main_arg2) = m' ((c.tc : Thread Cert.LnFRefIdeal.nD Cert.LnFRefIdeal.τ).loc Cert.LnFRefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v2) = v0 c
          ∧ r.2.mem ((c.tc : Thread Cert.AdamInRefIdeal.nD Cert.AdamInRefIdeal.τ).loc Cert.AdamInRefIdeal.main_v26) = v1 c
          ∧ r.2.mem ((c.tc : Thread Cert.AdamInRefIdeal.nD Cert.AdamInRefIdeal.τ).loc Cert.AdamInRefIdeal.main_v7) = v2 c
          ∧ r.2.mem ((c.tc : Thread Cert.AdamInRefIdeal.nD Cert.AdamInRefIdeal.τ).loc Cert.AdamInRefIdeal.main_v13) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)) (v3 : (c : Dev Cert.AdamProjIdeal.nD) → Buf (Elt Ideal) ((c.tc : Thread Cert.AdamProjIdeal.nD Cert.AdamProjIdeal.τ).loc Cert.AdamProjIdeal.main_v0_3)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_v0_3) = v3 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v1) = v0 c
          ∧ r.2.mem ((c.tc : Thread Cert.AdamProjRefIdeal.nD Cert.AdamProjRefIdeal.τ).loc Cert.AdamProjRefIdeal.main_v25) = v1 c
          ∧ r.2.mem ((c.tc : Thread Cert.AdamProjRefIdeal.nD Cert.AdamProjRefIdeal.τ).loc Cert.AdamProjRefIdeal.main_v6) = v2 c
          ∧ r.2.mem ((c.tc : Thread Cert.AdamProjRefIdeal.nD Cert.AdamProjRefIdeal.τ).loc Cert.AdamProjRefIdeal.main_v12) = v3 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v0) = v0 c
          ∧ r.2.mem ((c.tc : Thread Cert.AdamConvRefIdeal.nD Cert.AdamConvRefIdeal.τ).loc Cert.AdamConvRefIdeal.main_v24) = v1 c
          ∧ r.2.mem ((c.tc : Thread Cert.AdamConvRefIdeal.nD Cert.AdamConvRefIdeal.τ).loc Cert.AdamConvRefIdeal.main_v5) = v2 c
          ∧ r.2.mem ((c.tc : Thread Cert.AdamConvRefIdeal.nD Cert.AdamConvRefIdeal.τ).loc Cert.AdamConvRefIdeal.main_v11) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamVec_AdamVecIdeal : Prop :=
  True

def algebraic_AdamVecIdeal_AdamVecRefIdeal [hAdamVecIdeal : Cert.AdamVecIdeal.Facts] [hAdamVecRefIdeal : Cert.AdamVecRefIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg)
    (m' : (ℓ : Loc Cert.AdamVecRefIdeal.nD Cert.AdamVecRefIdeal.τ Cert.AdamVecRefIdeal.sig) → Buf (Elt Ideal) ℓ) (g' : Dev Cert.AdamVecRefIdeal.nD → PrngReg), Pre_AdamVecIdeal m →
    (∀ c : Dev Cert.AdamVecIdeal.nD,
      m' ((c.tc : Thread Cert.AdamVecRefIdeal.nD Cert.AdamVecRefIdeal.τ).loc Cert.AdamVecRefIdeal.main_arg0) = m ((c.tc : Thread Cert.AdamVecIdeal.nD Cert.AdamVecIdeal.τ).loc Cert.AdamVecIdeal.main_arg0)
      ∧ m' ((c.tc : Thread Cert.AdamVecRefIdeal.nD Cert.AdamVecRefIdeal.τ).loc Cert.AdamVecRefIdeal.main_arg1) = m ((c.tc : Thread Cert.AdamVecIdeal.nD Cert.AdamVecIdeal.τ).loc Cert.AdamVecIdeal.main_arg1)
      ∧ m' ((c.tc : Thread Cert.AdamVecRefIdeal.nD Cert.AdamVecRefIdeal.τ).loc Cert.AdamVecRefIdeal.main_arg2) = m ((c.tc : Thread Cert.AdamVecIdeal.nD Cert.AdamVecIdeal.τ).loc Cert.AdamVecIdeal.main_arg2)
      ∧ m' ((c.tc : Thread Cert.AdamVecRefIdeal.nD Cert.AdamVecRefIdeal.τ).loc Cert.AdamVecRefIdeal.main_arg3) = m ((c.tc : Thread Cert.AdamVecIdeal.nD Cert.AdamVecIdeal.τ).loc Cert.AdamVecIdeal.main_arg3)) →
    ∃ (v0 : (c : Dev Cert.AdamVecIdeal.nD) → Buf (Elt Ideal) ((c.tc : Thread Cert.AdamVecIdeal.nD Cert.AdamVecIdeal.τ).loc Cert.AdamVecIdeal.main_v0_0)) (v1 : (c : Dev Cert.AdamVecIdeal.nD) → Buf (Elt Ideal) ((c.tc : Thread Cert.AdamVecIdeal.nD Cert.AdamVecIdeal.τ).loc Cert.AdamVecIdeal.main_v0_1)) (v2 : (c : Dev Cert.AdamVecIdeal.nD) → Buf (Elt Ideal) ((c.tc : Thread Cert.AdamVecIdeal.nD Cert.AdamVecIdeal.τ).loc Cert.AdamVecIdeal.main_v0_2)) (v3 : (c : Dev Cert.AdamVecIdeal.nD) → Buf (Elt Ideal) ((c.tc : Thread Cert.AdamVecIdeal.nD Cert.AdamVecIdeal.τ).loc Cert.AdamVecIdeal.main_v0_3)),
      θ_run (Cert.AdamVecIdeal.defs (F := Ideal)) (onTc (τ := Cert.AdamVecIdeal.τ) (Cert.AdamVecIdeal.main (F := Ideal))) ⟨m, fun _ => 0, g⟩ (fun r => ∀ c : Dev Cert.AdamVecIdeal.nD,
          r.2.mem ((c.tc : Thread Cert.AdamVecIdeal.nD Cert.AdamVecIdeal.τ).loc Cert.AdamVecIdeal.main_v0_0) = v0 c
          ∧ r.2.mem ((c.tc : Thread Cert.AdamVecIdeal.nD Cert.AdamVecIdeal.τ).loc Cert.AdamVecIdeal.main_v0_1) = v1 c
          ∧ r.2.mem ((c.tc : Thread Cert.AdamVecIdeal.nD Cert.AdamVecIdeal.τ).loc Cert.AdamVecIdeal.main_v0_2) = v2 c
          ∧ r.2.mem ((c.tc : Thread Cert.AdamVecIdeal.nD Cert.AdamVecIdeal.τ).loc Cert.AdamVecIdeal.main_v0_3) = v3 c
          ∧ r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
          ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
          ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
          ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ θ_run (Cert.AdamVecRefIdeal.defs (F := Ideal)) (onTc (τ := Cert.AdamVecRefIdeal.τ) (Cert.AdamVecRefIdeal.main (F := Ideal))) ⟨m', fun _ => 0, g'⟩ (fun r => ∀ c : Dev Cert.AdamVecRefIdeal.nD,
          r.2.mem ((c.tc : Thread Cert.AdamVecRefIdeal.nD Cert.AdamVecRefIdeal.τ).loc Cert.AdamVecRefIdeal.main_v0) = v0 c
          ∧ r.2.mem ((c.tc : Thread Cert.AdamVecRefIdeal.nD Cert.AdamVecRefIdeal.τ).loc Cert.AdamVecRefIdeal.main_v24) = v1 c
          ∧ r.2.mem ((c.tc : Thread Cert.AdamVecRefIdeal.nD Cert.AdamVecRefIdeal.τ).loc Cert.AdamVecRefIdeal.main_v5) = v2 c
          ∧ r.2.mem ((c.tc : Thread Cert.AdamVecRefIdeal.nD Cert.AdamVecRefIdeal.τ).loc Cert.AdamVecRefIdeal.main_v11) = v3 c
          ∧ r.2.mem ((c.tc : Thread Cert.AdamVecRefIdeal.nD Cert.AdamVecRefIdeal.τ).loc Cert.AdamVecRefIdeal.main_arg0) = m' ((c.tc : Thread Cert.AdamVecRefIdeal.nD Cert.AdamVecRefIdeal.τ).loc Cert.AdamVecRefIdeal.main_arg0)
          ∧ r.2.mem ((c.tc : Thread Cert.AdamVecRefIdeal.nD Cert.AdamVecRefIdeal.τ).loc Cert.AdamVecRefIdeal.main_arg1) = m' ((c.tc : Thread Cert.AdamVecRefIdeal.nD Cert.AdamVecRefIdeal.τ).loc Cert.AdamVecRefIdeal.main_arg1)
          ∧ r.2.mem ((c.tc : Thread Cert.AdamVecRefIdeal.nD Cert.AdamVecRefIdeal.τ).loc Cert.AdamVecRefIdeal.main_arg2) = m' ((c.tc : Thread Cert.AdamVecRefIdeal.nD Cert.AdamVecRefIdeal.τ).loc Cert.AdamVecRefIdeal.main_arg2)
          ∧ r.2.mem ((c.tc : Thread Cert.AdamVecRefIdeal.nD Cert.AdamVecRefIdeal.τ).loc Cert.AdamVecRefIdeal.main_arg3) = m' ((c.tc : Thread Cert.AdamVecRefIdeal.nD Cert.AdamVecRefIdeal.τ).loc Cert.AdamVecRefIdeal.main_arg3))

def preserves_LnB_LnBIdeal : Prop :=
  True

def algebraic_LnBIdeal_LnBRefIdeal_pre_finite_gains [hLnBIdeal : Cert.LnBIdeal.Facts] [hLnBRefIdeal : Cert.LnBRefIdeal.Facts] [hPre_finite_gains : Cert.Pre_finite_gains.Facts] : Prop :=
  ∀ (m : (ℓ : Loc Cert.LnBIdeal.nD Cert.LnBIdeal.τ Cert.LnBIdeal.sig) → Buf (Elt Ideal) ℓ) (g : Dev Cert.LnBIdeal.nD → PrngReg)
    (m' : (ℓ : Loc Cert.LnBRefIdeal.nD Cert.LnBRefIdeal.τ Cert.LnBRefIdeal.sig) → Buf (Elt Ideal) ℓ) (g' : Dev Cert.LnBRefIdeal.nD → PrngReg), Pre_LnBIdeal_finite_gains m →
    (∀ c : Dev Cert.LnBIdeal.nD,
      m' ((c.tc : Thread Cert.LnBRefIdeal.nD Cert.LnBRefIdeal.τ).loc Cert.LnBRefIdeal.main_arg0) = m ((c.tc : Thread Cert.LnBIdeal.nD Cert.LnBIdeal.τ).loc Cert.LnBIdeal.main_arg0)
      ∧ m' ((c.tc : Thread Cert.LnBRefIdeal.nD Cert.LnBRefIdeal.τ).loc Cert.LnBRefIdeal.main_arg1) = m ((c.tc : Thread Cert.LnBIdeal.nD Cert.LnBIdeal.τ).loc Cert.LnBIdeal.main_arg1)
      ∧ m' ((c.tc : Thread Cert.LnBRefIdeal.nD Cert.LnBRefIdeal.τ).loc Cert.LnBRefIdeal.main_arg2) = m ((c.tc : Thread Cert.LnBIdeal.nD Cert.LnBIdeal.τ).loc Cert.LnBIdeal.main_arg2)
      ∧ m' ((c.tc : Thread Cert.LnBRefIdeal.nD Cert.LnBRefIdeal.τ).loc Cert.LnBRefIdeal.main_arg3) = m ((c.tc : Thread Cert.LnBIdeal.nD Cert.LnBIdeal.τ).loc Cert.LnBIdeal.main_arg3)
      ∧ m' ((c.tc : Thread Cert.LnBRefIdeal.nD Cert.LnBRefIdeal.τ).loc Cert.LnBRefIdeal.main_arg4) = m ((c.tc : Thread Cert.LnBIdeal.nD Cert.LnBIdeal.τ).loc Cert.LnBIdeal.main_arg4)) →
    ∃ (v0 : (c : Dev Cert.LnBIdeal.nD) → Buf (Elt Ideal) ((c.tc : Thread Cert.LnBIdeal.nD Cert.LnBIdeal.τ).loc Cert.LnBIdeal.main_v1_0)) (v1 : (c : Dev Cert.LnBIdeal.nD) → Buf (Elt Ideal) ((c.tc : Thread Cert.LnBIdeal.nD Cert.LnBIdeal.τ).loc Cert.LnBIdeal.main_v1_1)) (v2 : (c : Dev Cert.LnBIdeal.nD) → Buf (Elt Ideal) ((c.tc : Thread Cert.LnBIdeal.nD Cert.LnBIdeal.τ).loc Cert.LnBIdeal.main_v1_2)),
      θ_run (Cert.LnBIdeal.defs (F := Ideal)) (onTc (τ := Cert.LnBIdeal.τ) (Cert.LnBIdeal.main (F := Ideal))) ⟨m, fun _ => 0, g⟩ (fun r => ∀ c : Dev Cert.LnBIdeal.nD,
          r.2.mem ((c.tc : Thread Cert.LnBIdeal.nD Cert.LnBIdeal.τ).loc Cert.LnBIdeal.main_v1_0) = v0 c
          ∧ r.2.mem ((c.tc : Thread Cert.LnBIdeal.nD Cert.LnBIdeal.τ).loc Cert.LnBIdeal.main_v1_1) = v1 c
          ∧ r.2.mem ((c.tc : Thread Cert.LnBIdeal.nD Cert.LnBIdeal.τ).loc Cert.LnBIdeal.main_v1_2) = v2 c
          ∧ r.2.mem ((c.tc : Thread Cert.LnBIdeal.nD Cert.LnBIdeal.τ).loc Cert.LnBIdeal.main_arg0) = m ((c.tc : Thread Cert.LnBIdeal.nD Cert.LnBIdeal.τ).loc Cert.LnBIdeal.main_arg0)
          ∧ r.2.mem ((c.tc : Thread Cert.LnBIdeal.nD Cert.LnBIdeal.τ).loc Cert.LnBIdeal.main_arg1) = m ((c.tc : Thread Cert.LnBIdeal.nD Cert.LnBIdeal.τ).loc Cert.LnBIdeal.main_arg1)
          ∧ r.2.mem ((c.tc : Thread Cert.LnBIdeal.nD Cert.LnBIdeal.τ).loc Cert.LnBIdeal.main_arg2) = m ((c.tc : Thread Cert.LnBIdeal.nD Cert.LnBIdeal.τ).loc Cert.LnBIdeal.main_arg2)
          ∧ r.2.mem ((c.tc : Thread Cert.LnBIdeal.nD Cert.LnBIdeal.τ).loc Cert.LnBIdeal.main_arg3) = m ((c.tc : Thread Cert.LnBIdeal.nD Cert.LnBIdeal.τ).loc Cert.LnBIdeal.main_arg3)
          ∧ r.2.mem ((c.tc : Thread Cert.LnBIdeal.nD Cert.LnBIdeal.τ).loc Cert.LnBIdeal.main_arg4) = m ((c.tc : Thread Cert.LnBIdeal.nD Cert.LnBIdeal.τ).loc Cert.LnBIdeal.main_arg4))
      ∧ θ_run (Cert.LnBRefIdeal.defs (F := Ideal)) (onTc (τ := Cert.LnBRefIdeal.τ) (Cert.LnBRefIdeal.main (F := Ideal))) ⟨m', fun _ => 0, g'⟩ (fun r => ∀ c : Dev Cert.LnBRefIdeal.nD,
          r.2.mem ((c.tc : Thread Cert.LnBRefIdeal.nD Cert.LnBRefIdeal.τ).loc Cert.LnBRefIdeal.main_v64) = v0 c
          ∧ r.2.mem ((c.tc : Thread Cert.LnBRefIdeal.nD Cert.LnBRefIdeal.τ).loc Cert.LnBRefIdeal.main_v65) = v1 c
          ∧ r.2.mem ((c.tc : Thread Cert.LnBRefIdeal.nD Cert.LnBRefIdeal.τ).loc Cert.LnBRefIdeal.main_v66) = v2 c
          ∧ r.2.mem ((c.tc : Thread Cert.LnBRefIdeal.nD Cert.LnBRefIdeal.τ).loc Cert.LnBRefIdeal.main_arg0) = m' ((c.tc : Thread Cert.LnBRefIdeal.nD Cert.LnBRefIdeal.τ).loc Cert.LnBRefIdeal.main_arg0)
          ∧ r.2.mem ((c.tc : Thread Cert.LnBRefIdeal.nD Cert.LnBRefIdeal.τ).loc Cert.LnBRefIdeal.main_arg1) = m' ((c.tc : Thread Cert.LnBRefIdeal.nD Cert.LnBRefIdeal.τ).loc Cert.LnBRefIdeal.main_arg1)
          ∧ r.2.mem ((c.tc : Thread Cert.LnBRefIdeal.nD Cert.LnBRefIdeal.τ).loc Cert.LnBRefIdeal.main_arg2) = m' ((c.tc : Thread Cert.LnBRefIdeal.nD Cert.LnBRefIdeal.τ).loc Cert.LnBRefIdeal.main_arg2)
          ∧ r.2.mem ((c.tc : Thread Cert.LnBRefIdeal.nD Cert.LnBRefIdeal.τ).loc Cert.LnBRefIdeal.main_arg3) = m' ((c.tc : Thread Cert.LnBRefIdeal.nD Cert.LnBRefIdeal.τ).loc Cert.LnBRefIdeal.main_arg3)
          ∧ r.2.mem ((c.tc : Thread Cert.LnBRefIdeal.nD Cert.LnBRefIdeal.τ).loc Cert.LnBRefIdeal.main_arg4) = m' ((c.tc : Thread Cert.LnBRefIdeal.nD Cert.LnBRefIdeal.τ).loc Cert.LnBRefIdeal.main_arg4))

def preserves_Loss_LossIdeal : Prop :=
  True

def algebraic_LossIdeal_LossRefIdeal_pre_finite_target [hLossIdeal : Cert.LossIdeal.Facts] [hLossRefIdeal : Cert.LossRefIdeal.Facts] [hPre_finite_target : Cert.Pre_finite_target.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_target m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)) (v3 : (c : Dev Cert.LossIdeal.nD) → Buf (Elt Ideal) ((c.tc : Thread Cert.LossIdeal.nD Cert.LossIdeal.τ).loc Cert.LossIdeal.main_v2_3)) (v4 : (c : Dev Cert.LossIdeal.nD) → Buf (Elt Ideal) ((c.tc : Thread Cert.LossIdeal.nD Cert.LossIdeal.τ).loc Cert.LossIdeal.main_v2_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_v2_3) = v3 c
          ∧ r.2.mem ((c.tc : Thread Cert.LossIdeal.nD Cert.LossIdeal.τ).loc Cert.LossIdeal.main_v2_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v80) = v0 c
          ∧ r.2.mem ((c.tc : Thread Cert.LossRefIdeal.nD Cert.LossRefIdeal.τ).loc Cert.LossRefIdeal.main_v79) = v1 c
          ∧ r.2.mem ((c.tc : Thread Cert.LossRefIdeal.nD Cert.LossRefIdeal.τ).loc Cert.LossRefIdeal.main_v81) = v2 c
          ∧ r.2.mem ((c.tc : Thread Cert.LossRefIdeal.nD Cert.LossRefIdeal.τ).loc Cert.LossRefIdeal.main_v82) = v3 c
          ∧ r.2.mem ((c.tc : Thread Cert.LossRefIdeal.nD Cert.LossRefIdeal.τ).loc Cert.LossRefIdeal.main_v83) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_ConvF_ConvFIdeal : Prop :=
  True

def algebraic_ConvFIdeal_ConvFRefIdeal [hConvFIdeal : Cert.ConvFIdeal.Facts] [hConvFRefIdeal : Cert.ConvFRefIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFIdeal m →
    (∀ c : Dev Cert.ConvFIdeal.nD,
      m' ((c.tc : Thread Cert.ConvFRefIdeal.nD Cert.ConvFRefIdeal.τ).loc Cert.ConvFRefIdeal.main_arg0) = m ((c.tc : Thread Cert.ConvFIdeal.nD Cert.ConvFIdeal.τ).loc Cert.ConvFIdeal.main_arg0)
      ∧ m' ((c.tc : Thread Cert.ConvFRefIdeal.nD Cert.ConvFRefIdeal.τ).loc Cert.ConvFRefIdeal.main_arg1) = m ((c.tc : Thread Cert.ConvFIdeal.nD Cert.ConvFIdeal.τ).loc Cert.ConvFIdeal.main_arg1)
      ∧ m' ((c.tc : Thread Cert.ConvFRefIdeal.nD Cert.ConvFRefIdeal.τ).loc Cert.ConvFRefIdeal.main_arg2) = m ((c.tc : Thread Cert.ConvFIdeal.nD Cert.ConvFIdeal.τ).loc Cert.ConvFIdeal.main_arg2)
      ∧ m' ((c.tc : Thread Cert.ConvFRefIdeal.nD Cert.ConvFRefIdeal.τ).loc Cert.ConvFRefIdeal.main_arg3) = m ((c.tc : Thread Cert.ConvFIdeal.nD Cert.ConvFIdeal.τ).loc Cert.ConvFIdeal.main_arg3)
      ∧ m' ((c.tc : Thread Cert.ConvFRefIdeal.nD Cert.ConvFRefIdeal.τ).loc Cert.ConvFRefIdeal.main_arg4) = m ((c.tc : Thread Cert.ConvFIdeal.nD Cert.ConvFIdeal.τ).loc Cert.ConvFIdeal.main_arg4)) →
    ∃ (v0 : (c : Dev Cert.ConvFIdeal.nD) → Buf (Elt Ideal) ((c.tc : Thread Cert.ConvFIdeal.nD Cert.ConvFIdeal.τ).loc Cert.ConvFIdeal.main_v4)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v4) = v0 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
          ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2)
          ∧ r.2.mem ((c.tc : Thread Cert.ConvFIdeal.nD Cert.ConvFIdeal.τ).loc Cert.ConvFIdeal.main_arg3) = m ((c.tc : Thread Cert.ConvFIdeal.nD Cert.ConvFIdeal.τ).loc Cert.ConvFIdeal.main_arg3)
          ∧ r.2.mem ((c.tc : Thread Cert.ConvFIdeal.nD Cert.ConvFIdeal.τ).loc Cert.ConvFIdeal.main_arg4) = m ((c.tc : Thread Cert.ConvFIdeal.nD Cert.ConvFIdeal.τ).loc Cert.ConvFIdeal.main_arg4))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v261) = v0 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1)
          ∧ r.2.mem ((c.tc : Thread Cert.ConvFRefIdeal.nD Cert.ConvFRefIdeal.τ).loc Cert.ConvFRefIdeal.main_arg2) = m' ((c.tc : Thread Cert.ConvFRefIdeal.nD Cert.ConvFRefIdeal.τ).loc Cert.ConvFRefIdeal.main_arg2)
          ∧ r.2.mem ((c.tc : Thread Cert.ConvFRefIdeal.nD Cert.ConvFRefIdeal.τ).loc Cert.ConvFRefIdeal.main_arg3) = m' ((c.tc : Thread Cert.ConvFRefIdeal.nD Cert.ConvFRefIdeal.τ).loc Cert.ConvFRefIdeal.main_arg3)
          ∧ r.2.mem ((c.tc : Thread Cert.ConvFRefIdeal.nD Cert.ConvFRefIdeal.τ).loc Cert.ConvFRefIdeal.main_arg4) = m' ((c.tc : Thread Cert.ConvFRefIdeal.nD Cert.ConvFRefIdeal.τ).loc Cert.ConvFRefIdeal.main_arg4))

def Claim : Prop :=
  ∃ (hKernel : Cert.Kernel.Facts) (hKernelIdeal : Cert.KernelIdeal.Facts) (hReferenceIdeal : Cert.ReferenceIdeal.Facts) (hInX : Cert.InX.Facts) (hInXIdeal : Cert.InXIdeal.Facts) (hInXRefIdeal : Cert.InXRefIdeal.Facts) (hInU : Cert.InU.Facts) (hInUIdeal : Cert.InUIdeal.Facts) (hInURefIdeal : Cert.InURefIdeal.Facts) (hInL : Cert.InL.Facts) (hInLIdeal : Cert.InLIdeal.Facts) (hInLRefIdeal : Cert.InLRefIdeal.Facts) (hProjX : Cert.ProjX.Facts) (hProjXIdeal : Cert.ProjXIdeal.Facts) (hProjXRefIdeal : Cert.ProjXRefIdeal.Facts) (hProjW : Cert.ProjW.Facts) (hProjWIdeal : Cert.ProjWIdeal.Facts) (hProjWRefIdeal : Cert.ProjWRefIdeal.Facts) (hProjY : Cert.ProjY.Facts) (hProjYIdeal : Cert.ProjYIdeal.Facts) (hProjYRefIdeal : Cert.ProjYRefIdeal.Facts) (hFwd : Cert.Fwd.Facts) (hFwdIdeal : Cert.FwdIdeal.Facts) (hFwdRefIdeal : Cert.FwdRefIdeal.Facts) (hMergeF : Cert.MergeF.Facts) (hMergeFIdeal : Cert.MergeFIdeal.Facts) (hMergeFRefIdeal : Cert.MergeFRefIdeal.Facts) (hMergeB : Cert.MergeB.Facts) (hMergeBIdeal : Cert.MergeBIdeal.Facts) (hMergeBRefIdeal : Cert.MergeBRefIdeal.Facts) (hLnF : Cert.LnF.Facts) (hLnFIdeal : Cert.LnFIdeal.Facts) (hLnFRefIdeal : Cert.LnFRefIdeal.Facts) (hAdamIn : Cert.AdamIn.Facts) (hAdamInIdeal : Cert.AdamInIdeal.Facts) (hAdamInRefIdeal : Cert.AdamInRefIdeal.Facts) (hAdamProj : Cert.AdamProj.Facts) (hAdamProjIdeal : Cert.AdamProjIdeal.Facts) (hAdamProjRefIdeal : Cert.AdamProjRefIdeal.Facts) (hAdamConv : Cert.AdamConv.Facts) (hAdamConvIdeal : Cert.AdamConvIdeal.Facts) (hAdamConvRefIdeal : Cert.AdamConvRefIdeal.Facts) (hAdamVec : Cert.AdamVec.Facts) (hAdamVecIdeal : Cert.AdamVecIdeal.Facts) (hAdamVecRefIdeal : Cert.AdamVecRefIdeal.Facts) (hLnB : Cert.LnB.Facts) (hLnBIdeal : Cert.LnBIdeal.Facts) (hLnBRefIdeal : Cert.LnBRefIdeal.Facts) (hLoss : Cert.Loss.Facts) (hLossIdeal : Cert.LossIdeal.Facts) (hLossRefIdeal : Cert.LossRefIdeal.Facts) (hConvF : Cert.ConvF.Facts) (hConvFIdeal : Cert.ConvFIdeal.Facts) (hConvFRefIdeal : Cert.ConvFRefIdeal.Facts) (hPre_finite : Cert.Pre_finite.Facts) (hPre_finite_qkv : Cert.Pre_finite_qkv.Facts) (hPre_finite_gains : Cert.Pre_finite_gains.Facts) (hPre_finite_target : Cert.Pre_finite_target.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InX (hInX := hInX)
    ∧ quiescent_InXIdeal (hInXIdeal := hInXIdeal)
    ∧ quiescent_InXRefIdeal (hInXRefIdeal := hInXRefIdeal)
    ∧ quiescent_InU (hInU := hInU)
    ∧ quiescent_InUIdeal (hInUIdeal := hInUIdeal)
    ∧ quiescent_InURefIdeal (hInURefIdeal := hInURefIdeal)
    ∧ quiescent_InL (hInL := hInL)
    ∧ quiescent_InLIdeal (hInLIdeal := hInLIdeal)
    ∧ quiescent_InLRefIdeal (hInLRefIdeal := hInLRefIdeal)
    ∧ quiescent_ProjX (hProjX := hProjX)
    ∧ quiescent_ProjXIdeal (hProjXIdeal := hProjXIdeal)
    ∧ quiescent_ProjXRefIdeal (hProjXRefIdeal := hProjXRefIdeal)
    ∧ quiescent_ProjW (hProjW := hProjW)
    ∧ quiescent_ProjWIdeal (hProjWIdeal := hProjWIdeal)
    ∧ quiescent_ProjWRefIdeal (hProjWRefIdeal := hProjWRefIdeal)
    ∧ quiescent_ProjY (hProjY := hProjY)
    ∧ quiescent_ProjYIdeal (hProjYIdeal := hProjYIdeal)
    ∧ quiescent_ProjYRefIdeal (hProjYRefIdeal := hProjYRefIdeal)
    ∧ quiescent_Fwd (hFwd := hFwd)
    ∧ quiescent_FwdIdeal (hFwdIdeal := hFwdIdeal)
    ∧ quiescent_FwdIdeal_pre_finite_qkv (hFwdIdeal := hFwdIdeal) (hPre_finite_qkv := hPre_finite_qkv)
    ∧ quiescent_FwdRefIdeal (hFwdRefIdeal := hFwdRefIdeal)
    ∧ quiescent_FwdRefIdeal_pre_finite_qkv (hFwdRefIdeal := hFwdRefIdeal) (hPre_finite_qkv := hPre_finite_qkv)
    ∧ quiescent_MergeF (hMergeF := hMergeF)
    ∧ quiescent_MergeFIdeal (hMergeFIdeal := hMergeFIdeal)
    ∧ quiescent_MergeFRefIdeal (hMergeFRefIdeal := hMergeFRefIdeal)
    ∧ quiescent_MergeB (hMergeB := hMergeB)
    ∧ quiescent_MergeBIdeal (hMergeBIdeal := hMergeBIdeal)
    ∧ quiescent_MergeBRefIdeal (hMergeBRefIdeal := hMergeBRefIdeal)
    ∧ quiescent_LnF (hLnF := hLnF)
    ∧ quiescent_LnFIdeal (hLnFIdeal := hLnFIdeal)
    ∧ quiescent_LnFRefIdeal (hLnFRefIdeal := hLnFRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamVec (hAdamVec := hAdamVec)
    ∧ quiescent_AdamVecIdeal (hAdamVecIdeal := hAdamVecIdeal)
    ∧ quiescent_AdamVecRefIdeal (hAdamVecRefIdeal := hAdamVecRefIdeal)
    ∧ quiescent_LnB (hLnB := hLnB)
    ∧ quiescent_LnBIdeal (hLnBIdeal := hLnBIdeal)
    ∧ quiescent_LnBIdeal_pre_finite_gains (hLnBIdeal := hLnBIdeal) (hPre_finite_gains := hPre_finite_gains)
    ∧ quiescent_LnBRefIdeal (hLnBRefIdeal := hLnBRefIdeal)
    ∧ quiescent_LnBRefIdeal_pre_finite_gains (hLnBRefIdeal := hLnBRefIdeal) (hPre_finite_gains := hPre_finite_gains)
    ∧ quiescent_Loss (hLoss := hLoss)
    ∧ quiescent_LossIdeal (hLossIdeal := hLossIdeal)
    ∧ quiescent_LossIdeal_pre_finite_target (hLossIdeal := hLossIdeal) (hPre_finite_target := hPre_finite_target)
    ∧ quiescent_LossRefIdeal (hLossRefIdeal := hLossRefIdeal)
    ∧ quiescent_LossRefIdeal_pre_finite_target (hLossRefIdeal := hLossRefIdeal) (hPre_finite_target := hPre_finite_target)
    ∧ quiescent_ConvF (hConvF := hConvF)
    ∧ quiescent_ConvFIdeal (hConvFIdeal := hConvFIdeal)
    ∧ quiescent_ConvFRefIdeal (hConvFRefIdeal := hConvFRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InX_InXIdeal
    ∧ algebraic_InXIdeal_InXRefIdeal (hInXIdeal := hInXIdeal) (hInXRefIdeal := hInXRefIdeal)
    ∧ preserves_InU_InUIdeal
    ∧ algebraic_InUIdeal_InURefIdeal (hInUIdeal := hInUIdeal) (hInURefIdeal := hInURefIdeal)
    ∧ preserves_InL_InLIdeal
    ∧ algebraic_InLIdeal_InLRefIdeal (hInLIdeal := hInLIdeal) (hInLRefIdeal := hInLRefIdeal)
    ∧ preserves_ProjX_ProjXIdeal
    ∧ algebraic_ProjXIdeal_ProjXRefIdeal (hProjXIdeal := hProjXIdeal) (hProjXRefIdeal := hProjXRefIdeal)
    ∧ preserves_ProjW_ProjWIdeal
    ∧ algebraic_ProjWIdeal_ProjWRefIdeal (hProjWIdeal := hProjWIdeal) (hProjWRefIdeal := hProjWRefIdeal)
    ∧ preserves_ProjY_ProjYIdeal
    ∧ algebraic_ProjYIdeal_ProjYRefIdeal (hProjYIdeal := hProjYIdeal) (hProjYRefIdeal := hProjYRefIdeal)
    ∧ preserves_Fwd_FwdIdeal
    ∧ algebraic_FwdIdeal_FwdRefIdeal_pre_finite_qkv (hFwdIdeal := hFwdIdeal) (hFwdRefIdeal := hFwdRefIdeal) (hPre_finite_qkv := hPre_finite_qkv)
    ∧ preserves_MergeF_MergeFIdeal
    ∧ algebraic_MergeFIdeal_MergeFRefIdeal (hMergeFIdeal := hMergeFIdeal) (hMergeFRefIdeal := hMergeFRefIdeal)
    ∧ preserves_MergeB_MergeBIdeal
    ∧ algebraic_MergeBIdeal_MergeBRefIdeal (hMergeBIdeal := hMergeBIdeal) (hMergeBRefIdeal := hMergeBRefIdeal)
    ∧ preserves_LnF_LnFIdeal
    ∧ algebraic_LnFIdeal_LnFRefIdeal (hLnFIdeal := hLnFIdeal) (hLnFRefIdeal := hLnFRefIdeal)
    ∧ preserves_AdamIn_AdamInIdeal
    ∧ algebraic_AdamInIdeal_AdamInRefIdeal (hAdamInIdeal := hAdamInIdeal) (hAdamInRefIdeal := hAdamInRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamVec_AdamVecIdeal
    ∧ algebraic_AdamVecIdeal_AdamVecRefIdeal (hAdamVecIdeal := hAdamVecIdeal) (hAdamVecRefIdeal := hAdamVecRefIdeal)
    ∧ preserves_LnB_LnBIdeal
    ∧ algebraic_LnBIdeal_LnBRefIdeal_pre_finite_gains (hLnBIdeal := hLnBIdeal) (hLnBRefIdeal := hLnBRefIdeal) (hPre_finite_gains := hPre_finite_gains)
    ∧ preserves_Loss_LossIdeal
    ∧ algebraic_LossIdeal_LossRefIdeal_pre_finite_target (hLossIdeal := hLossIdeal) (hLossRefIdeal := hLossRefIdeal) (hPre_finite_target := hPre_finite_target)
    ∧ preserves_ConvF_ConvFIdeal
    ∧ algebraic_ConvFIdeal_ConvFRefIdeal (hConvFIdeal := hConvFIdeal) (hConvFRefIdeal := hConvFRefIdeal)
-- ==== Pre_finite.lean ====
abbrev S4096x9216 : Shape := ⟨2, ![4096, 9216]⟩
abbrev S4096x1024 : Shape := ⟨2, ![4096, 1024]⟩
abbrev S4096x4096 : Shape := ⟨2, ![4096, 4096]⟩
abbrev S_ : Shape := ⟨0, ![]⟩

class Facts : Prop where
  slices_S4096x9216_S4096x4096_0_0 : S4096x9216.Slices ![0, 0] S4096x4096
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x9216 .f32) (main_arg1 : FVec F S4096x1024 .f32) : IVec S_ 1 :=
  let main_v0 : FVec F S4096x4096 .f32 := (extractStridedSlice S4096x4096 ![0, 0] · slices_S4096x9216_S4096x4096_0_0) main_arg0
  let main_v1 : FVec F S4096x4096 .f32 := subf main_v0 main_v0
  let main_cst : FVec F S_ .f32 := constant S_ .f32 0x00000000#32
  let main_v2 : FVec F S4096x4096 .f32 := broadcastInDim S4096x4096 ![] bcast_S_S4096x4096 main_cst
  let main_v3 : IVec S4096x4096 1 := cmpf .oeq main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S4096x1024 .f32 := subf main_arg1 main_arg1
  let main_cst_0 : FVec F S_ .f32 := constant S_ .f32 0x00000000#32
  let main_v6 : FVec F S4096x1024 .f32 := broadcastInDim S4096x1024 ![] bcast_S_S4096x1024 main_cst_0
  let main_v7 : IVec S4096x1024 1 := cmpf .oeq main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v4 main_v8
  main_v9
-- ==== Pre_finite_gains.lean ====
abbrev S4096x1024 : Shape := ⟨2, ![4096, 1024]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x1024 .f32) (main_arg1 : FVec F S1024 .f32) (main_arg2 : FVec F S1024 .f32) (main_arg3 : FVec F S4096x1024 .f32) (main_arg4 : FVec F S4096x1024 .f32) : IVec S_ 1 :=
  let main_v0 : FVec F S1024 .f32 := subf main_arg1 main_arg1
  let main_cst : FVec F S_ .f32 := constant S_ .f32 0x00000000#32
  let main_v1 : FVec F S1024 .f32 := broadcastInDim S1024 ![] bcast_S_S1024 main_cst
  let main_v2 : IVec S1024 1 := cmpf .oeq main_v0 main_v1
  let main_c : IVec S_ 1 := constantI S_ 1 1#1
  let main_v3 : IVec S_ 1 := (fun x v => Host.reduce IntOp.andi x v reducesTo_S1024_S_d0 h_S_) main_v2 main_c
  let main_v4 : FVec F S4096x1024 .f32 := subf main_arg3 main_arg3
  let main_cst_0 : FVec F S_ .f32 := constant S_ .f32 0x00000000#32
  let main_v5 : FVec F S4096x1024 .f32 := broadcastInDim S4096x1024 ![] bcast_S_S4096x1024 main_cst_0
  let main_v6 : IVec S4096x1024 1 := cmpf .oeq main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := subf main_arg4 main_arg4
  let main_cst_2 : FVec F S_ .f32 := constant S_ .f32 0x00000000#32
  let main_v10 : FVec F S4096x1024 .f32 := broadcastInDim S4096x1024 ![] bcast_S_S4096x1024 main_cst_2
  let main_v11 : IVec S4096x1024 1 := cmpf .oeq main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_finite_qkv.lean ====
abbrev S4096x9216 : Shape := ⟨2, ![4096, 9216]⟩
abbrev S4096x3072 : Shape := ⟨2, ![4096, 3072]⟩
abbrev S_ : Shape := ⟨0, ![]⟩

class Facts : Prop where
  slices_S4096x9216_S4096x3072_0_0 : S4096x9216.Slices ![0, 0] S4096x3072
  bcast_S_S4096x3072 : S_.BroadcastsInDim S4096x3072 (![] : Fin 0 → Fin S4096x3072.rank)
  reducesTo_S4096x3072_S_d0_1 : S4096x3072.ReducesTo [0, 1] S_
  h_S_ : 0 < S_.numel

variable [Facts]

def fn {F : FTy → Type} [FloatOps F] (main_arg0 : FVec F S4096x9216 .f32) : IVec S_ 1 :=
  let main_v0 : FVec F S4096x3072 .f32 := (extractStridedSlice S4096x3072 ![0, 0] · slices_S4096x9216_S4096x3072_0_0) main_arg0
  let main_v1 : FVec F S4096x3072 .f32 := subf main_v0 main_v0
  let main_cst : FVec F S_ .f32 := constant S_ .f32 0x00000000#32
  let main_v2 : FVec F S4096x3072 .f32 := broadcastInDim S4096x3072 ![] bcast_S_S4096x3072 main_cst
  let main_v3 : IVec S4096x3072 1 := cmpf .oeq main_v1 main_v2
  let main_c : IVec S_ 1 := constantI S_ 1 1#1
  let main_v4 : IVec S_ 1 := (fun x v => Host.reduce IntOp.andi x v reducesTo_S4096x3072_S_d0_1 h_S_) main_v3 main_c
  main_v4
-- ==== Pre_finite_target.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S4096x1024 .f32) (main_arg2 : FVec F S4096x1024 .f32) (main_arg3 : FVec F S1024 .f32) (main_arg4 : FVec F S1024 .f32) : IVec S_ 1 :=
  let main_v0 : FVec F S4096x1024 .f32 := subf main_arg2 main_arg2
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := subf main_arg3 main_arg3
  let main_cst_0 : FVec F S_ .f32 := constant S_ .f32 0x00000000#32
  let main_v5 : FVec F S1024 .f32 := broadcastInDim S1024 ![] bcast_S_S1024 main_cst_0
  let main_v6 : IVec S1024 1 := cmpf .oeq main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := subf main_arg4 main_arg4
  let main_cst_2 : FVec F S_ .f32 := constant S_ .f32 0x00000000#32
  let main_v10 : FVec F S1024 .f32 := broadcastInDim S1024 ![] bcast_S_S1024 main_cst_2
  let main_v11 : IVec S1024 1 := cmpf .oeq main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4096x9216 : Shape := ⟨2, ![4096, 9216]⟩
abbrev S4096x1024 : Shape := ⟨2, ![4096, 1024]⟩
abbrev S2x2048x16x64 : Shape := ⟨4, ![2, 2048, 16, 64]⟩
abbrev S_ : Shape := ⟨0, ![]⟩
abbrev S2x16x2048x2048 : Shape := ⟨4, ![2, 16, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x16x64x2048 : Shape := ⟨4, ![2, 16, 64, 2048]⟩
abbrev S64 : Shape := ⟨1, ![64]⟩
abbrev S1x64 : Shape := ⟨2, ![1, 64]⟩
abbrev S2048x64 : Shape := ⟨2, ![2048, 64]⟩
abbrev S2x16x2048x2048x1 : Shape := ⟨5, ![2, 16, 2048, 2048, 1]⟩
abbrev S2x16x2048x2048x64 : Shape := ⟨5, ![2, 16, 2048, 2048, 64]⟩
abbrev S2x16x2048x64 : Shape := ⟨4, ![2, 16, 2048, 64]⟩
abbrev S2x8x2x2048x64 : Shape := ⟨5, ![2, 8, 2, 2048, 64]⟩
abbrev S8x2x2048x2x64 : Shape := ⟨5, ![8, 2, 2048, 2, 64]⟩
abbrev S8x4096x128 : Shape := ⟨3, ![8, 4096, 128]⟩
abbrev S8x128 : Shape := ⟨2, ![8, 128]⟩
abbrev S1024x128 : Shape := ⟨2, ![1024, 128]⟩
abbrev S2048x128 : Shape := ⟨2, ![2048, 128]⟩
abbrev S1x1024x128 : Shape := ⟨3, ![1, 1024, 128]⟩
abbrev S2x1024x1 : Shape := ⟨3, ![2, 1024, 1]⟩
abbrev S256x256 : Shape := ⟨2, ![256, 256]⟩
abbrev S512x256 : Shape := ⟨2, ![512, 256]⟩
abbrev S1024x64 : Shape := ⟨2, ![1024, 64]⟩
abbrev S256x64 : Shape := ⟨2, ![256, 64]⟩
abbrev S1024x256 : Shape := ⟨2, ![1024, 256]⟩
abbrev S1024 : Shape := ⟨1, ![1024]⟩
abbrev S1024x1 : Shape := ⟨2, ![1024, 1]⟩
abbrev S1024x512 : Shape := ⟨2, ![1024, 512]⟩
abbrev S1x1024x1 : Shape := ⟨3, ![1, 1024, 1]⟩
abbrev S768x128 : Shape := ⟨2, ![768, 128]⟩
abbrev S768x256 : Shape := ⟨2, ![768, 256]⟩
abbrev S768x64 : Shape := ⟨2, ![768, 64]⟩
abbrev S1x768x128 : Shape := ⟨3, ![1, 768, 128]⟩
abbrev S768 : Shape := ⟨1, ![768]⟩
abbrev S768x1 : Shape := ⟨2, ![768, 1]⟩
abbrev S768x512 : Shape := ⟨2, ![768, 512]⟩
abbrev S1x768x1 : Shape := ⟨3, ![1, 768, 1]⟩
abbrev S512x128 : Shape := ⟨2, ![512, 128]⟩
abbrev S512x64 : Shape := ⟨2, ![512, 64]⟩
abbrev S1x512x128 : Shape := ⟨3, ![1, 512, 128]⟩
abbrev S512 : Shape := ⟨1, ![512]⟩
abbrev S512x1 : Shape := ⟨2, ![512, 1]⟩
abbrev S512x512 : Shape := ⟨2, ![512, 512]⟩
abbrev S1x512x1 : Shape := ⟨3, ![1, 512, 1]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S256x512 : Shape := ⟨2, ![256, 512]⟩
abbrev S1x256x1 : Shape := ⟨3, ![1, 256, 1]⟩

abbrev nBuf : Space → Nat
  | .hbm => 104
  | .vmem => 27
  | .smem => 0
  | _ => 0

abbrev bufTy : (tb : Table) → Fin (tcTables nBuf tb) → BufTy
  | .hbm, ⟨0, _⟩ => ⟨S4096x9216, .f32⟩
  | .hbm, ⟨1, _⟩ => ⟨S4096x1024, .f32⟩
  | .hbm, ⟨2, _⟩ => ⟨S4096x1024, .f32⟩
  | .hbm, ⟨3, _⟩ => ⟨S2x2048x16x64, .f32⟩
  | .hbm, ⟨4, _⟩ => ⟨S4096x1024, .f32⟩
  | .hbm, ⟨5, _⟩ => ⟨S2x2048x16x64, .f32⟩
  | .hbm, ⟨6, _⟩ => ⟨S4096x1024, .f32⟩
  | .hbm, ⟨7, _⟩ => ⟨S2x2048x16x64, .f32⟩
  | .hbm, ⟨8, _⟩ => ⟨S_, .f32⟩
  | .hbm, ⟨9, _⟩ => ⟨S2x2048x16x64, .f32⟩
  | .hbm, ⟨10, _⟩ => ⟨S2x2048x16x64, .f32⟩
  | .hbm, ⟨11, _⟩ => ⟨S2x16x2048x2048, .f32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .i1⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S2x16x2048x2048, .f32⟩
  | .hbm, ⟨35, _⟩ => ⟨S2x16x2048x2048, .f32⟩
  | .hbm, ⟨36, _⟩ => ⟨S_, .f32⟩
  | .hbm, ⟨37, _⟩ => ⟨S_, .f32⟩
  | .hbm, ⟨38, _⟩ => ⟨S2x16x2048x2048, .i1⟩
  | .hbm, ⟨39, _⟩ => ⟨S2x16x2048x2048, .f32⟩
  | .hbm, ⟨40, _⟩ => ⟨S2x16x2048x2048, .f32⟩
  | .hbm, ⟨41, _⟩ => ⟨S_, .f32⟩
  | .hbm, ⟨42, _⟩ => ⟨S_, .f32⟩
  | .hbm, ⟨43, _⟩ => ⟨S2x16x2048x2048, .f32⟩
  | .hbm, ⟨44, _⟩ => ⟨S2x16x2048x2048, .f32⟩
  | .hbm, ⟨45, _⟩ => ⟨S2x16x2048x2048, .f32⟩
  | .hbm, ⟨46, _⟩ => ⟨S_, .f32⟩
  | .hbm, ⟨47, _⟩ => ⟨S2x16x2048x2048, .f32⟩
  | .hbm, ⟨48, _⟩ => ⟨S2x16x2048x2048, .f32⟩
  | .hbm, ⟨49, _⟩ => ⟨S2x16x2048x2048, .f32⟩
  | .hbm, ⟨50, _⟩ => ⟨S2x16x2048x2048, .f32⟩
  | .hbm, ⟨51, _⟩ => ⟨S2x16x2048x2048, .i1⟩
  | .hbm, ⟨52, _⟩ => ⟨S2x16x2048x2048, .f32⟩
  | .hbm, ⟨53, _⟩ => ⟨S2x16x2048x2048, .f32⟩
  | .hbm, ⟨54, _⟩ => ⟨S2x16x2048x2048, .f32⟩
  | .hbm, ⟨55, _⟩ => ⟨S2x16x2048x2048, .f32⟩
  | .hbm, ⟨56, _⟩ => ⟨S2x16x2048x2048, .f32⟩
  | .hbm, ⟨57, _⟩ => ⟨S2x16x2048x2048, .f32⟩
  | .hbm, ⟨58, _⟩ => ⟨S2x16x2048x2048, .f32⟩
  | .hbm, ⟨59, _⟩ => ⟨S2x16x2048x2048, .f32⟩
  | .hbm, ⟨60, _⟩ => ⟨S2x16x2048x2048, .f32⟩
  | .hbm, ⟨61, _⟩ => ⟨S2x16x2048x2048, .f32⟩
  | .hbm, ⟨62, _⟩ => ⟨S2x16x2048x2048, .f32⟩
  | .hbm, ⟨63, _⟩ => ⟨S_, .f32⟩
  | .hbm, ⟨64, _⟩ => ⟨S_, .f32⟩
  | .hbm, ⟨65, _⟩ => ⟨S2x16x2048x2048, .i1⟩
  | .hbm, ⟨66, _⟩ => ⟨S2x16x2048x2048, .f32⟩
  | .hbm, ⟨67, _⟩ => ⟨S2x16x2048x2048, .f32⟩
  | .hbm, ⟨68, _⟩ => ⟨S2x16x64x2048, .f32⟩
  | .hbm, ⟨69, _⟩ => ⟨S2x2048x16x64, .f32⟩
  | .hbm, ⟨70, _⟩ => ⟨S2048, .i32⟩
  | .hbm, ⟨71, _⟩ => ⟨S2048x1, .i32⟩
  | .hbm, ⟨72, _⟩ => ⟨S64, .i32⟩
  | .hbm, ⟨73, _⟩ => ⟨S1x64, .i32⟩
  | .hbm, ⟨74, _⟩ => ⟨S_, .i32⟩
  | .hbm, ⟨75, _⟩ => ⟨S1x64, .i32⟩
  | .hbm, ⟨76, _⟩ => ⟨S1x64, .i32⟩
  | .hbm, ⟨77, _⟩ => ⟨S_, .i32⟩
  | .hbm, ⟨78, _⟩ => ⟨S1x64, .i32⟩
  | .hbm, ⟨79, _⟩ => ⟨S1x64, .i32⟩
  | .hbm, ⟨80, _⟩ => ⟨S2048x64, .i32⟩
  | .hbm, ⟨81, _⟩ => ⟨S2048x64, .i32⟩
  | .hbm, ⟨82, _⟩ => ⟨S2048x64, .i1⟩
  | .hbm, ⟨83, _⟩ => ⟨S2x16x2048x2048x1, .f32⟩
  | .hbm, ⟨84, _⟩ => ⟨S2x16x2048x2048x1, .f32⟩
  | .hbm, ⟨85, _⟩ => ⟨S_, .f32⟩
  | .hbm, ⟨86, _⟩ => ⟨S_, .f32⟩
  | .hbm, ⟨87, _⟩ => ⟨S2x16x2048x2048x64, .i1⟩
  | .hbm, ⟨88, _⟩ => ⟨S2x16x2048x2048x64, .f32⟩
  | .hbm, ⟨89, _⟩ => ⟨S2x16x2048x2048x64, .f32⟩
  | .hbm, ⟨90, _⟩ => ⟨S2x16x2048x2048x64, .f32⟩
  | .hbm, ⟨91, _⟩ => ⟨S_, .f32⟩
  | .hbm, ⟨92, _⟩ => ⟨S2x16x2048x64, .f32⟩
  | .hbm, ⟨93, _⟩ => ⟨S2x8x2x2048x64, .f32⟩
  | .hbm, ⟨94, _⟩ => ⟨S8x2x2048x2x64, .f32⟩
  | .hbm, ⟨95, _⟩ => ⟨S4096x1024, .f32⟩
  | .hbm, ⟨96, _⟩ => ⟨S8x4096x128, .f32⟩
  | .hbm, ⟨97, _⟩ => ⟨S4096x9216, .bf16⟩
  | .hbm, ⟨98, _⟩ => ⟨S_, .f32⟩
  | .hbm, ⟨99, _⟩ => ⟨S8x128, .f32⟩
  | .hbm, ⟨100, _⟩ => ⟨S4096x1024, .bf16⟩
  | .hbm, ⟨101, _⟩ => ⟨S4096x1024, .bf16⟩
  | .hbm, ⟨102, _⟩ => ⟨S4096x1024, .bf16⟩
  | .hbm, ⟨103, _⟩ => ⟨S4096x1024, .bf16⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x1024x128, .f32⟩
  | .local _ .vmem, ⟨11, _⟩ => ⟨S1x1024x128, .f32⟩
  | .local _ .vmem, ⟨12, _⟩ => ⟨S1024x128, .f32⟩
  | .local _ .vmem, ⟨13, _⟩ => ⟨S1024x128, .f32⟩
  | .local _ .vmem, ⟨14, _⟩ => ⟨S8x128, .f32⟩
  | .local _ .vmem, ⟨15, _⟩ => ⟨S1024x128, .bf16⟩
  | .local _ .vmem, ⟨16, _⟩ => ⟨S1024x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S1024x128, .bf16⟩
  | .local _ .vmem, ⟨22, _⟩ => ⟨S1024x128, .bf16⟩
  | .local _ .vmem, ⟨23, _⟩ => ⟨S2048x128, .f32⟩
  | .local _ .vmem, ⟨24, _⟩ => ⟨S2048x128, .f32⟩
  | .local _ .vmem, ⟨25, _⟩ => ⟨S1024x128, .f32⟩
  | .local _ .vmem, ⟨26, _⟩ => ⟨S2x1024x1, .f32⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_call2_cst : Ref sig .tc := ⟨.hbm, 41, rfl⟩
abbrev main_call2_v0 : Ref sig .tc := ⟨.hbm, 42, rfl⟩
abbrev main_v19 : Ref sig .tc := ⟨.hbm, 43, rfl⟩
abbrev main_v20 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_c : Ref sig .tc := ⟨.hbm, 74, rfl⟩
abbrev main_v31 : Ref sig .tc := ⟨.hbm, 75, rfl⟩
abbrev main_v32 : Ref sig .tc := ⟨.hbm, 76, rfl⟩
abbrev main_c_2 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_3 : Ref sig .tc := ⟨.hbm, 85, rfl⟩
abbrev main_call5_v0 : Ref sig .tc := ⟨.hbm, 86, rfl⟩
abbrev main_call5_v1 : Ref sig .tc := ⟨.hbm, 87, rfl⟩
abbrev main_call5_v2 : Ref sig .tc := ⟨.hbm, 88, rfl⟩
abbrev main_call5_v3 : Ref sig .tc := ⟨.hbm, 89, rfl⟩
abbrev main_v40 : Ref sig .tc := ⟨.hbm, 90, rfl⟩
abbrev main_cst_4 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_cst_5 : Ref sig .tc := ⟨.hbm, 98, rfl⟩
abbrev main_v47 : Ref sig .tc := ⟨.hbm, 99, rfl⟩
abbrev main_v48_0 : Ref sig .tc := ⟨.hbm, 100, rfl⟩
abbrev main_v48_1 : Ref sig .tc := ⟨.hbm, 101, rfl⟩
abbrev main_v48_2 : Ref sig .tc := ⟨.hbm, 102, rfl⟩
abbrev main_v48_3 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨3, ![2, 8, 2], ![false, false, false]⟩

@[reducible] def k0_t1_loop (i : grid0.Coords) : Scf.Loop 32 :=
  let c0_i32_24 : BitVec 32 := 0#32
  let c4_i32 : BitVec 32 := 4#32
  let arg2 : BitVec 32 := BitVec.ofNat 32 (i 2).val
  let v61 : BitVec 32 := Scalar.muli c4_i32 arg2
  let v62 : BitVec 32 := Scalar.subi v61 c0_i32_24
  let c1_i32 : BitVec 32 := 1#32
  let v64 : BitVec 32 := Scalar.divsi v62 c1_i32
  let v65 : BitVec 32 := Scalar.muli v64 c1_i32
  let v66 : BitVec 32 := Scalar.addi c0_i32_24 v65
  let c1_i32_26 : BitVec 32 := 1#32
  ⟨c0_i32_24, v66, c1_i32_26⟩
def k0_mult1 (i : grid0.Coords) (k0_t1 : Fin (k0_t1_loop i).trips) : BitVec 32 :=
  let c0_i32_24 : BitVec 32 := 0#32
  let c1_i32_26 : BitVec 32 := 1#32
  let arg19 : BitVec 32 := Scf.iv c0_i32_24 c1_i32_26 k0_t1
  let c256_i32_327 : BitVec 32 := 256#32
  let v865 : BitVec 32 := Scalar.muli arg19 c256_i32_327
  v865
def k0_off1 (i : grid0.Coords) (k0_t1 : Fin (k0_t1_loop i).trips) : Fin 2 → Nat :=
  let c0_i32_24 : BitVec 32 := 0#32
  let c1_i32_26 : BitVec 32 := 1#32
  let arg19 : BitVec 32 := Scf.iv c0_i32_24 c1_i32_26 k0_t1
  let c256_i32_327 : BitVec 32 := 256#32
  let v865 : BitVec 32 := Scalar.muli arg19 c256_i32_327
  let v866 : BitVec 32 := v865
  let v868 : Index := Scalar.indexCast v866
  let c0_328 : Index := 0#32
  ![v868.toNat, 0]
def k0_off2 (i : grid0.Coords) (k0_t1 : Fin (k0_t1_loop i).trips) : Fin 2 → Nat :=
  let c0_i32_24 : BitVec 32 := 0#32
  let c1_i32_26 : BitVec 32 := 1#32
  let arg19 : BitVec 32 := Scf.iv c0_i32_24 c1_i32_26 k0_t1
  let c256_i32_327 : BitVec 32 := 256#32
  let v865 : BitVec 32 := Scalar.muli arg19 c256_i32_327
  let v866 : BitVec 32 := v865
  let v955 : Index := Scalar.indexCast v866
  let c64_361 : Index := 64#32
  ![v955.toNat, 64]
@[reducible] def k0_t2_loop (i : grid0.Coords) : Scf.Loop 32 :=
  let c0_i32_24 : BitVec 32 := 0#32
  let c4_i32 : BitVec 32 := 4#32
  let arg2 : BitVec 32 := BitVec.ofNat 32 (i 2).val
  let v61 : BitVec 32 := Scalar.muli c4_i32 arg2
  let v62 : BitVec 32 := Scalar.subi v61 c0_i32_24
  let c1_i32 : BitVec 32 := 1#32
  let v64 : BitVec 32 := Scalar.divsi v62 c1_i32
  let v65 : BitVec 32 := Scalar.muli v64 c1_i32
  let v66 : BitVec 32 := Scalar.addi c0_i32_24 v65
  let v63 : BitVec 32 := Scalar.addi c0_i32_24 v62
  let c1_i32_27 : BitVec 32 := 1#32
  ⟨v66, v63, c1_i32_27⟩
def k0_mult2 (i : grid0.Coords) (k0_t2 : Fin (k0_t2_loop i).trips) : BitVec 32 :=
  let c0_i32_24 : BitVec 32 := 0#32
  let c4_i32 : BitVec 32 := 4#32
  let arg2 : BitVec 32 := BitVec.ofNat 32 (i 2).val
  let v61 : BitVec 32 := Scalar.muli c4_i32 arg2
  let v62 : BitVec 32 := Scalar.subi v61 c0_i32_24
  let c1_i32 : BitVec 32 := 1#32
  let v64 : BitVec 32 := Scalar.divsi v62 c1_i32
  let v65 : BitVec 32 := Scalar.muli v64 c1_i32
  let v66 : BitVec 32 := Scalar.addi c0_i32_24 v65
  let c1_i32_27 : BitVec 32 := 1#32
  let arg19 : BitVec 32 := Scf.iv v66 c1_i32_27 k0_t2
  let c256_i32_327 : BitVec 32 := 256#32
  let v865 : BitVec 32 := Scalar.muli arg19 c256_i32_327
  v865
def k0_off3 (i : grid0.Coords) (k0_t2 : Fin (k0_t2_loop i).trips) : Fin 2 → Nat :=
  let c0_i32_24 : BitVec 32 := 0#32
  let c4_i32 : BitVec 32 := 4#32
  let arg2 : BitVec 32 := BitVec.ofNat 32 (i 2).val
  let v61 : BitVec 32 := Scalar.muli c4_i32 arg2
  let v62 : BitVec 32 := Scalar.subi v61 c0_i32_24
  let c1_i32 : BitVec 32 := 1#32
  let v64 : BitVec 32 := Scalar.divsi v62 c1_i32
  let v65 : BitVec 32 := Scalar.muli v64 c1_i32
  let v66 : BitVec 32 := Scalar.addi c0_i32_24 v65
  let c1_i32_27 : BitVec 32 := 1#32
  let arg19 : BitVec 32 := Scf.iv v66 c1_i32_27 k0_t2
  let c256_i32_327 : BitVec 32 := 256#32
  let v865 : BitVec 32 := Scalar.muli arg19 c256_i32_327
  let v866 : BitVec 32 := v865
  let v868 : Index := Scalar.indexCast v866
  let c0_328 : Index := 0#32
  ![v868.toNat, 0]
def k0_off4 (i : grid0.Coords) (k0_t2 : Fin (k0_t2_loop i).trips) : Fin 2 → Nat :=
  let c0_i32_24 : BitVec 32 := 0#32
  let c4_i32 : BitVec 32 := 4#32
  let arg2 : BitVec 32 := BitVec.ofNat 32 (i 2).val
  let v61 : BitVec 32 := Scalar.muli c4_i32 arg2
  let v62 : BitVec 32 := Scalar.subi v61 c0_i32_24
  let c1_i32 : BitVec 32 := 1#32
  let v64 : BitVec 32 := Scalar.divsi v62 c1_i32
  let v65 : BitVec 32 := Scalar.muli v64 c1_i32
  let v66 : BitVec 32 := Scalar.addi c0_i32_24 v65
  let c1_i32_27 : BitVec 32 := 1#32
  let arg19 : BitVec 32 := Scf.iv v66 c1_i32_27 k0_t2
  let c256_i32_327 : BitVec 32 := 256#32
  let v865 : BitVec 32 := Scalar.muli arg19 c256_i32_327
  let v866 : BitVec 32 := v865
  let v955 : Index := Scalar.indexCast v866
  let c64_361 : Index := 64#32
  ![v955.toNat, 64]
def k0_mult3 (i : grid0.Coords) : BitVec 32 :=
  let c4_i32_28 : BitVec 32 := 4#32
  let arg2 : BitVec 32 := BitVec.ofNat 32 (i 2).val
  let v69 : BitVec 32 := Scalar.muli c4_i32_28 arg2
  let c0_i32_29 : BitVec 32 := 0#32
  let v70 : BitVec 32 := Scalar.addi v69 c0_i32_29
  let c256_i32 : BitVec 32 := 256#32
  let v71 : BitVec 32 := Scalar.muli v70 c256_i32
  v71
def k0_off5 (i : grid0.Coords) (c0_i32_29 : BitVec 32) : Fin 2 → Nat :=
  let c4_i32_28 : BitVec 32 := 4#32
  let arg2 : BitVec 32 := BitVec.ofNat 32 (i 2).val
  let v69 : BitVec 32 := Scalar.muli c4_i32_28 arg2
  let v70 : BitVec 32 := Scalar.addi v69 c0_i32_29
  let c256_i32 : BitVec 32 := 256#32
  let v71 : BitVec 32 := Scalar.muli v70 c256_i32
  let v72 : BitVec 32 := v71
  let v77 : Index := Scalar.indexCast v72
  let c0_30 : Index := 0#32
  ![v77.toNat, 0]
def k0_off6 (i : grid0.Coords) (c0_i32_29 : BitVec 32) : Fin 2 → Nat :=
  let c4_i32_28 : BitVec 32 := 4#32
  let arg2 : BitVec 32 := BitVec.ofNat 32 (i 2).val
  let v69 : BitVec 32 := Scalar.muli c4_i32_28 arg2
  let v70 : BitVec 32 := Scalar.addi v69 c0_i32_29
  let c256_i32 : BitVec 32 := 256#32
  let v71 : BitVec 32 := Scalar.muli v70 c256_i32
  let v72 : BitVec 32 := v71
  let v170 : Index := Scalar.indexCast v72
  let c64_66 : Index := 64#32
  ![v170.toNat, 64]
def k0_mult4 (i : grid0.Coords) : BitVec 32 :=
  let c4_i32_100 : BitVec 32 := 4#32
  let arg2 : BitVec 32 := BitVec.ofNat 32 (i 2).val
  let v263 : BitVec 32 := Scalar.muli c4_i32_100 arg2
  let c1_i32_101 : BitVec 32 := 1#32
  let v264 : BitVec 32 := Scalar.addi v263 c1_i32_101
  let c256_i32_102 : BitVec 32 := 256#32
  let v265 : BitVec 32 := Scalar.muli v264 c256_i32_102
  v265
def k0_mult5 (i : grid0.Coords) : BitVec 32 :=
  let c4_i32_174 : BitVec 32 := 4#32
  let arg2 : BitVec 32 := BitVec.ofNat 32 (i 2).val
  let v461 : BitVec 32 := Scalar.muli c4_i32_174 arg2
  let c2_i32 : BitVec 32 := 2#32
  let v462 : BitVec 32 := Scalar.addi v461 c2_i32
  let c256_i32_175 : BitVec 32 := 256#32
  let v463 : BitVec 32 := Scalar.muli v462 c256_i32_175
  v463
def k0_mult6 (i : grid0.Coords) : BitVec 32 :=
  let c4_i32_247 : BitVec 32 := 4#32
  let arg2 : BitVec 32 := BitVec.ofNat 32 (i 2).val
  let v659 : BitVec 32 := Scalar.muli c4_i32_247 arg2
  let c3_i32 : BitVec 32 := 3#32
  let v660 : BitVec 32 := Scalar.addi v659 c3_i32
  let c256_i32_248 : BitVec 32 := 256#32
  let v661 : BitVec 32 := Scalar.muli v660 c256_i32_248
  v661
def k0_cond2 (i : grid0.Coords) : BitVec 1 :=
  let arg2 : BitVec 32 := BitVec.ofNat 32 (i 2).val
  let c1_i32_325 : BitVec 32 := 1#32
  let v862 : BitVec 1 := Scalar.cmpi .eq arg2 c1_i32_325
  let v863 : BitVec 32 := Scalar.extui v862
  let c0_i32_326 : BitVec 32 := 0#32
  let v864 : BitVec 1 := Scalar.cmpi .ne v863 c0_i32_326
  v864

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![arg1.toNat, v1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== KernelIdeal.lean ====
variable {F : FTy → Type} [FloatOps F] [Named F]
def κ : String → Option EReal := fun
  | "minus_log2_e" => some ((-((Real.log 2)⁻¹) : ℝ) : EReal)
  | _ => none
-- ==== ReferenceIdeal.lean ====
abbrev S4096x9216 : Shape := ⟨2, ![4096, 9216]⟩
abbrev S4096x1024 : Shape := ⟨2, ![4096, 1024]⟩
abbrev S4096x4096 : Shape := ⟨2, ![4096, 4096]⟩
abbrev S2x2048x16x64 : Shape := ⟨4, ![2, 2048, 16, 64]⟩
abbrev S_ : Shape := ⟨0, ![]⟩
abbrev S2x16x2048x2048 : Shape := ⟨4, ![2, 16, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x16x64x2048 : Shape := ⟨4, ![2, 16, 64, 2048]⟩
abbrev S2x16x2048x64 : Shape := ⟨4, ![2, 16, 2048, 64]⟩

abbrev nBuf : Space → Nat
  | .hbm => 200
  | .vmem => 0
  | .smem => 0
  | _ => 0

abbrev hbmTy0_0 (i : Nat) : BufTy := match i % 128 with
  | 0 => ⟨S4096x9216, .f32⟩
  | 1 => ⟨S4096x1024, .f32⟩
  | 2 => ⟨S4096x4096, .f32⟩
  | 3 => ⟨S4096x1024, .f32⟩
  | 4 => ⟨S4096x1024, .f32⟩
  | 5 => ⟨S4096x1024, .f32⟩
  | 6 => ⟨S4096x1024, .f32⟩
  | 7 => ⟨S2x2048x16x64, .f32⟩
  | 8 => ⟨S2x2048x16x64, .f32⟩
  | 9 => ⟨S2x2048x16x64, .f32⟩
  | 10 => ⟨S_, .f32⟩
  | 11 => ⟨S2x2048x16x64, .f32⟩
  | 12 => ⟨S2x2048x16x64, .f32⟩
  | 13 => ⟨S2x16x2048x2048, .f32⟩
  | 14 => ⟨S2048, .i32⟩
  | 15 => ⟨S2048x1, .i32⟩
  | 16 => ⟨S2048, .i32⟩
  | 17 => ⟨S1x2048, .i32⟩
  | 18 => ⟨S2048x2048, .i32⟩
  | 19 => ⟨S2048x2048, .i32⟩
  | 20 => ⟨S2048x2048, .i1⟩
  | 21 => ⟨S2x16x2048x2048, .f32⟩
  | 22 => ⟨S2x16x2048x2048, .f32⟩
  | 23 => ⟨S_, .f32⟩
  | 24 => ⟨S2x16x2048x2048, .f32⟩
  | 25 => ⟨S2x16x2048x2048, .f32⟩
  | 26 => ⟨S2x16x2048x2048, .f32⟩
  | 27 => ⟨S2x16x2048x2048, .f32⟩
  | 28 => ⟨S2x16x2048x2048, .i1⟩
  | 29 => ⟨S2x16x2048x2048, .f32⟩
  | 30 => ⟨S2x16x2048x2048, .f32⟩
  | 31 => ⟨S2x16x2048x2048, .f32⟩
  | 32 => ⟨S2x16x2048x2048, .f32⟩
  | 33 => ⟨S2x16x2048x2048, .f32⟩
  | 34 => ⟨S2x16x2048x2048, .f32⟩
  | 35 => ⟨S2x16x2048x2048, .f32⟩
  | 36 => ⟨S2x16x2048x2048, .f32⟩
  | 37 => ⟨S_, .f32⟩
  | 38 => ⟨S2x16x2048x2048, .f32⟩
  | 39 => ⟨S2x16x2048x2048, .i1⟩
  | 40 => ⟨S_, .f32⟩
  | 41 => ⟨S2x16x2048x2048, .f32⟩
  | 42 => ⟨S2x16x2048x2048, .f32⟩
  | 43 => ⟨S_, .f32⟩
  | 44 => ⟨S2x16x2048x2048, .f32⟩
  | 45 => ⟨S2x16x2048x2048, .i1⟩
  | 46 => ⟨S_, .f32⟩
  | 47 => ⟨S2x16x2048x2048, .f32⟩
  | 48 => ⟨S2x16x2048x2048, .f32⟩
  | 49 => ⟨S2x16x2048x2048, .f32⟩
  | 50 => ⟨S2x16x2048x2048, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S2x16x2048x2048, .f32⟩
  | 59 => ⟨S2x16x2048x2048, .i1⟩
  | 60 => ⟨S_, .f32⟩
  | 61 => ⟨S2x16x2048x2048, .f32⟩
  | 62 => ⟨S2x16x2048x2048, .f32⟩
  | 63 => ⟨S2x16x2048x2048, .f32⟩
  | 64 => ⟨S2x16x2048x2048, .f32⟩
  | 65 => ⟨S2x16x2048x2048, .f32⟩
  | 66 => ⟨S_, .f32⟩
  | 67 => ⟨S2x16x2048x2048, .f32⟩
  | 68 => ⟨S2x16x2048x2048, .f32⟩
  | 69 => ⟨S2x16x2048x2048, .f32⟩
  | 70 => ⟨S_, .f32⟩
  | 71 => ⟨S_, .f32⟩
  | 72 => ⟨S2x16x2048x2048, .i1⟩
  | 73 => ⟨S2x16x2048x2048, .f32⟩
  | 74 => ⟨S2x16x2048x2048, .f32⟩
  | 75 => ⟨S_, .f32⟩
  | 76 => ⟨S2x16x2048x2048, .f32⟩
  | 77 => ⟨S_, .f32⟩
  | 78 => ⟨S_, .f32⟩
  | 79 => ⟨S2x16x2048x2048, .f32⟩
  | 80 => ⟨S2x16x2048x2048, .f32⟩
  | 81 => ⟨S2x16x2048x2048, .f32⟩
  | 82 => ⟨S_, .f32⟩
  | 83 => ⟨S2x16x2048x2048, .f32⟩
  | 84 => ⟨S2x16x2048x2048, .f32⟩
  | 85 => ⟨S2x16x2048x2048, .f32⟩
  | 86 => ⟨S2x16x2048x2048, .f32⟩
  | 87 => ⟨S2x16x2048x2048, .i1⟩
  | 88 => ⟨S2x16x2048x2048, .f32⟩
  | 89 => ⟨S2x16x2048x2048, .f32⟩
  | 90 => ⟨S2x16x2048x2048, .f32⟩
  | 91 => ⟨S2x16x2048x2048, .f32⟩
  | 92 => ⟨S2x16x2048x2048, .f32⟩
  | 93 => ⟨S2x16x2048x2048, .f32⟩
  | 94 => ⟨S2x16x2048x2048, .f32⟩
  | 95 => ⟨S2x16x2048x2048, .f32⟩
  | 96 => ⟨S_, .f32⟩
  | 97 => ⟨S2x16x2048x2048, .f32⟩
  | 98 => ⟨S2x16x2048x2048, .i1⟩
  | 99 => ⟨S_, .f32⟩
  | 100 => ⟨S2x16x2048x2048, .f32⟩
  | 101 => ⟨S2x16x2048x2048, .f32⟩
  | 102 => ⟨S_, .f32⟩
  | 103 => ⟨S2x16x2048x2048, .f32⟩
  | 104 => ⟨S2x16x2048x2048, .i1⟩
  | 105 => ⟨S_, .f32⟩
  | 106 => ⟨S2x16x2048x2048, .f32⟩
  | 107 => ⟨S2x16x2048x2048, .f32⟩
  | 108 => ⟨S2x16x2048x2048, .f32⟩
  | 109 => ⟨S2x16x2048x2048, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S2x16x2048x2048, .f32⟩
  | 118 => ⟨S2x16x2048x2048, .i1⟩
  | 119 => ⟨S_, .f32⟩
  | 120 => ⟨S2x16x2048x2048, .f32⟩
  | 121 => ⟨S2x16x2048x2048, .f32⟩
  | 122 => ⟨S2x16x2048x2048, .f32⟩
  | 123 => ⟨S2x16x2048x2048, .f32⟩
  | 124 => ⟨S2x16x2048x2048, .f32⟩
  | 125 => ⟨S_, .f32⟩
  | 126 => ⟨S2x16x2048x2048, .f32⟩
  | 127 => ⟨S2x16x2048x2048, .f32⟩
  | _ => ⟨S4096x9216, .f32⟩

abbrev hbmTy0_1 (i : Nat) : BufTy := match i % 128 with
  | 0 => ⟨S2x16x2048x2048, .f32⟩
  | 1 => ⟨S2x16x2048x2048, .f32⟩
  | 2 => ⟨S2x16x2048x2048, .f32⟩
  | 3 => ⟨S_, .f32⟩
  | 4 => ⟨S_, .f32⟩
  | 5 => ⟨S2x16x2048x2048, .i1⟩
  | 6 => ⟨S2x16x2048x2048, .f32⟩
  | 7 => ⟨S2x16x2048x2048, .f32⟩
  | 8 => ⟨S_, .f32⟩
  | 9 => ⟨S2x16x2048x2048, .f32⟩
  | 10 => ⟨S2x16x64x2048, .f32⟩
  | 11 => ⟨S2x2048x16x64, .f32⟩
  | 12 => ⟨S4096x1024, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S2x2048x16x64, .f32⟩
  | 34 => ⟨S2x16x64x2048, .f32⟩
  | 35 => ⟨S2x16x2048x2048, .f32⟩
  | 36 => ⟨S2x16x64x2048, .f32⟩
  | 37 => ⟨S2x2048x16x64, .f32⟩
  | 38 => ⟨S_, .f32⟩
  | 39 => ⟨S2x16x2048x2048, .f32⟩
  | 40 => ⟨S2x16x2048x2048, .f32⟩
  | 41 => ⟨S2x16x2048x2048, .f32⟩
  | 42 => ⟨S2x16x2048x2048, .f32⟩
  | 43 => ⟨S2x16x2048x2048, .f32⟩
  | 44 => ⟨S2x16x2048x2048, .f32⟩
  | 45 => ⟨S2x16x2048x2048, .f32⟩
  | 46 => ⟨S_, .f32⟩
  | 47 => ⟨S_, .f32⟩
  | 48 => ⟨S2x16x2048x2048, .f32⟩
  | 49 => ⟨S2x16x2048x2048, .f32⟩
  | 50 => ⟨S_, .f32⟩
  | 51 => ⟨S2x16x2048x2048, .f32⟩
  | 52 => ⟨S2x16x2048x2048, .f32⟩
  | 53 => ⟨S2x16x2048x2048, .f32⟩
  | 54 => ⟨S2x16x2048x2048, .f32⟩
  | 55 => ⟨S2x16x2048x2048, .f32⟩
  | 56 => ⟨S2x16x2048x2048, .f32⟩
  | 57 => ⟨S2x16x2048x2048, .f32⟩
  | 58 => ⟨S2x16x2048x64, .f32⟩
  | 59 => ⟨S2x2048x16x64, .f32⟩
  | 60 => ⟨S2x16x2048x64, .f32⟩
  | 61 => ⟨S2x2048x16x64, .f32⟩
  | 62 => ⟨S_, .f32⟩
  | 63 => ⟨S2x2048x16x64, .f32⟩
  | 64 => ⟨S2x2048x16x64, .f32⟩
  | 65 => ⟨S4096x1024, .f32⟩
  | 66 => ⟨S4096x1024, .f32⟩
  | 67 => ⟨S4096x1024, .f32⟩
  | 68 => ⟨S4096x1024, .bf16⟩
  | 69 => ⟨S4096x1024, .bf16⟩
  | 70 => ⟨S4096x1024, .bf16⟩
  | 71 => ⟨S4096x1024, .bf16⟩
  | _ => ⟨S4096x9216, .f32⟩

abbrev hbmTy (i : Nat) : BufTy := match i / 128 with
  | 0 => hbmTy0_0 i
  | 1 => hbmTy0_1 i
  | _ => ⟨S4096x9216, .f32⟩

abbrev bufTy : (tb : Table) → Fin (tcTables nBuf tb) → BufTy
  | .hbm, ⟨i, _⟩ => hbmTy i
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_cst_0 : Ref sig .tc := ⟨.hbm, 70, rfl⟩
abbrev main_call1_v0 : Ref sig .tc := ⟨.hbm, 71, rfl⟩
abbrev main_v20_1 : Ref sig .tc := ⟨.hbm, 72, rfl⟩
abbrev main_call1_v2 : Ref sig .tc := ⟨.hbm, 73, rfl⟩
abbrev main_v20_0 : Ref sig .tc := ⟨.hbm, 74, rfl⟩
abbrev main_call1_cst : Ref sig .tc := ⟨.hbm, 75, rfl⟩
abbrev main_v20_2 : Ref sig .tc := ⟨.hbm, 76, rfl⟩
abbrev main_call2_cst : Ref sig .tc := ⟨.hbm, 77, rfl⟩
abbrev main_call2_v0 : Ref sig .tc := ⟨.hbm, 78, rfl⟩
abbrev main_v21 : Ref sig .tc := ⟨.hbm, 79, rfl⟩
abbrev main_v22 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v23_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v23_2 : Ref sig .tc := ⟨.hbm, 127, rfl⟩
abbrev main_v23_0 : Ref sig .tc := ⟨.hbm, 128, rfl⟩
abbrev main_v24 : Ref sig .tc := ⟨.hbm, 129, rfl⟩
abbrev main_v25 : Ref sig .tc := ⟨.hbm, 130, rfl⟩
abbrev main_cst_1 : Ref sig .tc := ⟨.hbm, 131, rfl⟩
abbrev main_call4_v0 : Ref sig .tc := ⟨.hbm, 132, rfl⟩
abbrev main_v26_1 : Ref sig .tc := ⟨.hbm, 133, rfl⟩
abbrev main_call4_v2 : Ref sig .tc := ⟨.hbm, 134, rfl⟩
abbrev main_v26_0 : Ref sig .tc := ⟨.hbm, 135, rfl⟩
abbrev main_call4_cst : Ref sig .tc := ⟨.hbm, 136, rfl⟩
abbrev main_v26_2 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_call5_v0 : Ref sig .tc := ⟨.hbm, 141, rfl⟩
abbrev main_call5_v1 : Ref sig .tc := ⟨.hbm, 142, rfl⟩
abbrev main_call5_cst : Ref sig .tc := ⟨.hbm, 143, rfl⟩
abbrev main_call5_v2 : Ref sig .tc := ⟨.hbm, 144, rfl⟩
abbrev main_call5_v3 : Ref sig .tc := ⟨.hbm, 145, rfl⟩
abbrev main_call5_cst_0 : Ref sig .tc := ⟨.hbm, 146, rfl⟩
abbrev main_call5_v4 : Ref sig .tc := ⟨.hbm, 147, rfl⟩
abbrev main_v30_2 : Ref sig .tc := ⟨.hbm, 148, rfl⟩
abbrev main_call5_cst_1 : Ref sig .tc := ⟨.hbm, 149, rfl⟩
abbrev main_call5_v6 : Ref sig .tc := ⟨.hbm, 150, rfl⟩
abbrev main_call5_v7 : Ref sig .tc := ⟨.hbm, 151, rfl⟩
abbrev main_v30_1 : Ref sig .tc := ⟨.hbm, 152, rfl⟩
abbrev main_v30_0 : Ref sig .tc := ⟨.hbm, 153, rfl⟩
abbrev main_v31 : Ref sig .tc := ⟨.hbm, 154, rfl⟩
abbrev main_v32 : Ref sig .tc := ⟨.hbm, 155, rfl⟩
abbrev main_v33 : Ref sig .tc := ⟨.hbm, 156, rfl⟩
abbrev main_call6_v0 : Ref sig .tc := ⟨.hbm, 157, rfl⟩
abbrev main_call6_v1 : Ref sig .tc := ⟨.hbm, 158, rfl⟩
abbrev main_call6_v2 : Ref sig .tc := ⟨.hbm, 159, rfl⟩
abbrev main_v34 : Ref sig .tc := ⟨.hbm, 160, rfl⟩
abbrev main_v35 : Ref sig .tc := ⟨.hbm, 161, rfl⟩
abbrev main_v36 : Ref sig .tc := ⟨.hbm, 162, rfl⟩
abbrev main_v37 : Ref sig .tc := ⟨.hbm, 163, rfl⟩
abbrev main_v38 : Ref sig .tc := ⟨.hbm, 164, rfl⟩
abbrev main_v39 : Ref sig .tc := ⟨.hbm, 165, rfl⟩
abbrev main_call7_cst : Ref sig .tc := ⟨.hbm, 166, rfl⟩
abbrev main_call7_v0 : Ref sig .tc := ⟨.hbm, 167, rfl⟩
abbrev main_v40 : Ref sig .tc := ⟨.hbm, 168, rfl⟩
abbrev main_v41 : Ref sig .tc := ⟨.hbm, 169, rfl⟩
abbrev main_call8_v0 : Ref sig .tc := ⟨.hbm, 170, rfl⟩
abbrev main_call8_v1 : Ref sig .tc := ⟨.hbm, 171, rfl⟩
abbrev main_v42 : Ref sig .tc := ⟨.hbm, 172, rfl⟩
abbrev main_v43 : Ref sig .tc := ⟨.hbm, 173, rfl⟩
abbrev main_call9_cst : Ref sig .tc := ⟨.hbm, 174, rfl⟩
abbrev main_call9_v0 : Ref sig .tc := ⟨.hbm, 175, rfl⟩
abbrev main_v44 : Ref sig .tc := ⟨.hbm, 176, rfl⟩
abbrev main_v45 : Ref sig .tc := ⟨.hbm, 177, rfl⟩
abbrev main_call10_cst : Ref sig .tc := ⟨.hbm, 178, rfl⟩
abbrev main_call10_v0 : Ref sig .tc := ⟨.hbm, 179, rfl⟩
abbrev main_v46 : Ref sig .tc := ⟨.hbm, 180, rfl⟩
abbrev main_call11_v0 : Ref sig .tc := ⟨.hbm, 181, rfl⟩
abbrev main_call11_v1 : Ref sig .tc := ⟨.hbm, 182, rfl⟩
abbrev main_v47 : Ref sig .tc := ⟨.hbm, 183, rfl⟩
abbrev main_v48 : Ref sig .tc := ⟨.hbm, 184, rfl⟩
abbrev main_v49 : Ref sig .tc := ⟨.hbm, 185, rfl⟩
abbrev main_v50 : Ref sig .tc := ⟨.hbm, 186, rfl⟩
abbrev main_v51 : Ref sig .tc := ⟨.hbm, 187, rfl⟩
abbrev main_v52 : Ref sig .tc := ⟨.hbm, 188, rfl⟩
abbrev main_v53 : Ref sig .tc := ⟨.hbm, 189, rfl⟩
abbrev main_cst_2 : Ref sig .tc := ⟨.hbm, 190, rfl⟩
abbrev main_v54 : Ref sig .tc := ⟨.hbm, 191, rfl⟩
abbrev main_v55 : Ref sig .tc := ⟨.hbm, 192, rfl⟩
abbrev main_v56 : Ref sig .tc := ⟨.hbm, 193, rfl⟩
abbrev main_v57 : Ref sig .tc := ⟨.hbm, 194, rfl⟩
abbrev main_v58 : Ref sig .tc := ⟨.hbm, 195, rfl⟩
abbrev main_v59 : Ref sig .tc := ⟨.hbm, 196, rfl⟩
abbrev main_v60 : Ref sig .tc := ⟨.hbm, 197, rfl⟩
abbrev main_v61 : Ref sig .tc := ⟨.hbm, 198, rfl⟩
abbrev main_v62 : Ref sig .tc := ⟨.hbm, 199, rfl⟩

abbrev nD : Nat := 1
abbrev τ : Topo := Topo.v7x

variable {F : FTy → Type} [FloatOps F]
-- ==== InX.lean ====
abbrev S4096x1024 : Shape := ⟨2, ![4096, 1024]⟩
abbrev S1024x9216 : Shape := ⟨2, ![1024, 9216]⟩
abbrev S4096x9216 : Shape := ⟨2, ![4096, 9216]⟩
abbrev S1024x8x1152 : Shape := ⟨3, ![1024, 8, 1152]⟩
abbrev S8x1024x1152 : Shape := ⟨3, ![8, 1024, 1152]⟩
abbrev S_ : Shape := ⟨0, ![]⟩
abbrev S8x128 : Shape := ⟨2, ![8, 128]⟩
abbrev S1024x1152 : Shape := ⟨2, ![1024, 1152]⟩
abbrev S1x1024x1152 : Shape := ⟨3, ![1, 1024, 1152]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S1024x8x1152, .f32⟩
  | .hbm, ⟨4, _⟩ => ⟨S8x1024x1152, .f32⟩
  | .hbm, ⟨5, _⟩ => ⟨S8x1024x1152, .bf16⟩
  | .hbm, ⟨6, _⟩ => ⟨S4096x9216, .bf16⟩
  | .hbm, ⟨7, _⟩ => ⟨S_, .f32⟩
  | .hbm, ⟨8, _⟩ => ⟨S8x128, .f32⟩
  | .hbm, ⟨9, _⟩ => ⟨S4096x1024, .f32⟩
  | .local _ .vmem, ⟨0, _⟩ => ⟨S1024x1152, .bf16⟩
  | .local _ .vmem, ⟨1, _⟩ => ⟨S1024x1152, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== InXRefIdeal.lean ====
abbrev S4096x1024 : Shape := ⟨2, ![4096, 1024]⟩
abbrev S1024x9216 : Shape := ⟨2, ![1024, 9216]⟩
abbrev S4096x9216 : Shape := ⟨2, ![4096, 9216]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4096x9216, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== InU.lean ====
abbrev S4096x1024 : Shape := ⟨2, ![4096, 1024]⟩
abbrev S1024x9216 : Shape := ⟨2, ![1024, 9216]⟩
abbrev S4096x9216 : Shape := ⟨2, ![4096, 9216]⟩
abbrev S8x512x1152 : Shape := ⟨3, ![8, 512, 1152]⟩
abbrev S1024x512 : Shape := ⟨2, ![1024, 512]⟩
abbrev S1024x1152 : Shape := ⟨2, ![1024, 1152]⟩
abbrev S1x512x1152 : Shape := ⟨3, ![1, 512, 1152]⟩
abbrev S512x1152 : Shape := ⟨2, ![512, 1152]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4096x1024, .bf16⟩
  | .hbm, ⟨4, _⟩ => ⟨S4096x9216, .bf16⟩
  | .hbm, ⟨5, _⟩ => ⟨S8x512x1152, .bf16⟩
  | .local _ .vmem, ⟨0, _⟩ => ⟨S1024x512, .bf16⟩
  | .local _ .vmem, ⟨1, _⟩ => ⟨S1024x512, .bf16⟩
  | .local _ .vmem, ⟨2, _⟩ => ⟨S1024x1152, .bf16⟩
  | .local _ .vmem, ⟨3, _⟩ => ⟨S1024x1152, .bf16⟩
  | .local _ .vmem, ⟨4, _⟩ => ⟨S1x512x1152, .bf16⟩
  | .local _ .vmem, ⟨5, _⟩ => ⟨S1x512x1152, .bf16⟩
  | .local _ .vmem, ⟨6, _⟩ => ⟨S512x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InURefIdeal.lean ====
abbrev S4096x1024 : Shape := ⟨2, ![4096, 1024]⟩
abbrev S1024x9216 : Shape := ⟨2, ![1024, 9216]⟩
abbrev S4096x9216 : Shape := ⟨2, ![4096, 9216]⟩
abbrev S9216x1024 : Shape := ⟨2, ![9216, 1024]⟩
abbrev S1024x8x1152 : Shape := ⟨3, ![1024, 8, 1152]⟩
abbrev S8x1024x1152 : Shape := ⟨3, ![8, 1024, 1152]⟩
abbrev S8x512x1152 : Shape := ⟨3, ![8, 512, 1152]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4096x9216, .f32⟩
  | .hbm, ⟨4, _⟩ => ⟨S9216x1024, .f32⟩
  | .hbm, ⟨5, _⟩ => ⟨S1024x9216, .f32⟩
  | .hbm, ⟨6, _⟩ => ⟨S1024x9216, .bf16⟩
  | .hbm, ⟨7, _⟩ => ⟨S1024x8x1152, .bf16⟩
  | .hbm, ⟨8, _⟩ => ⟨S8x1024x1152, .bf16⟩
  | .hbm, ⟨9, _⟩ => ⟨S8x512x1152, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InL.lean ====
abbrev S4096x1024 : Shape := ⟨2, ![4096, 1024]⟩
abbrev S1024x9216 : Shape := ⟨2, ![1024, 9216]⟩
abbrev S4096x9216 : Shape := ⟨2, ![4096, 9216]⟩
abbrev S_ : Shape := ⟨0, ![]⟩
abbrev S8x128 : Shape := ⟨2, ![8, 128]⟩
abbrev S8x512x1152 : Shape := ⟨3, ![8, 512, 1152]⟩
abbrev S1024x512 : Shape := ⟨2, ![1024, 512]⟩
abbrev S1024x1152 : Shape := ⟨2, ![1024, 1152]⟩
abbrev S1x512x1152 : Shape := ⟨3, ![1, 512, 1152]⟩
abbrev S512x1152 : Shape := ⟨2, ![512, 1152]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4096x1024, .bf16⟩
  | .hbm, ⟨4, _⟩ => ⟨S4096x9216, .bf16⟩
  | .hbm, ⟨5, _⟩ => ⟨S_, .f32⟩
  | .hbm, ⟨6, _⟩ => ⟨S8x128, .f32⟩
  | .hbm, ⟨7, _⟩ => ⟨S8x512x1152, .bf16⟩
  | .local _ .vmem, ⟨0, _⟩ => ⟨S1024x512, .bf16⟩
  | .local _ .vmem, ⟨1, _⟩ => ⟨S1024x512, .bf16⟩
  | .local _ .vmem, ⟨2, _⟩ => ⟨S1024x1152, .bf16⟩
  | .local _ .vmem, ⟨3, _⟩ => ⟨S1024x1152, .bf16⟩
  | .local _ .vmem, ⟨4, _⟩ => ⟨S8x128, .f32⟩
  | .local _ .vmem, ⟨5, _⟩ => ⟨S1x512x1152, .bf16⟩
  | .local _ .vmem, ⟨6, _⟩ => ⟨S1x512x1152, .bf16⟩
  | .local _ .vmem, ⟨7, _⟩ => ⟨S512x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== InLRefIdeal.lean ====
abbrev S4096x1024 : Shape := ⟨2, ![4096, 1024]⟩
abbrev S1024x9216 : Shape := ⟨2, ![1024, 9216]⟩
abbrev S4096x9216 : Shape := ⟨2, ![4096, 9216]⟩
abbrev S9216x1024 : Shape := ⟨2, ![9216, 1024]⟩
abbrev S1024x8x1152 : Shape := ⟨3, ![1024, 8, 1152]⟩
abbrev S8x1024x1152 : Shape := ⟨3, ![8, 1024, 1152]⟩
abbrev S8x512x1152 : Shape := ⟨3, ![8, 512, 1152]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x9216, .f32⟩
  | .hbm, ⟨3, _⟩ => ⟨S4096x9216, .f32⟩
  | .hbm, ⟨4, _⟩ => ⟨S9216x1024, .f32⟩
  | .hbm, ⟨5, _⟩ => ⟨S1024x9216, .f32⟩
  | .hbm, ⟨6, _⟩ => ⟨S1024x9216, .bf16⟩
  | .hbm, ⟨7, _⟩ => ⟨S1024x8x1152, .bf16⟩
  | .hbm, ⟨8, _⟩ => ⟨S8x1024x1152, .bf16⟩
  | .hbm, ⟨9, _⟩ => ⟨S8x512x1152, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjX.lean ====
abbrev S4096x1024 : Shape := ⟨2, ![4096, 1024]⟩
abbrev S1024x1024 : Shape := ⟨2, ![1024, 1024]⟩
abbrev S512x1024 : Shape := ⟨2, ![512, 1024]⟩
abbrev S8x128 : Shape := ⟨2, ![8, 128]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjXRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== ProjW.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ProjWRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjY.lean ====
abbrev S4096x1024 : Shape := ⟨2, ![4096, 1024]⟩
abbrev S1024x1024 : Shape := ⟨2, ![1024, 1024]⟩
abbrev S512x1024 : Shape := ⟨2, ![512, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjYRefIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Fwd.lean ====
abbrev S4096x9216 : Shape := ⟨2, ![4096, 9216]⟩
abbrev S_ : Shape := ⟨0, ![]⟩
abbrev S8x128 : Shape := ⟨2, ![8, 128]⟩
abbrev S4096x1024 : Shape := ⟨2, ![4096, 1024]⟩
abbrev S8x4096x128 : Shape := ⟨3, ![8, 4096, 128]⟩
abbrev S1024x128 : Shape := ⟨2, ![1024, 128]⟩
abbrev S2048x128 : Shape := ⟨2, ![2048, 128]⟩
abbrev S1x1024x128 : Shape := ⟨3, ![1, 1024, 128]⟩
abbrev S2x1024x1 : Shape := ⟨3, ![2, 1024, 1]⟩
abbrev S256x256 : Shape := ⟨2, ![256, 256]⟩
abbrev S512x256 : Shape := ⟨2, ![512, 256]⟩
abbrev S1024x64 : Shape := ⟨2, ![1024, 64]⟩
abbrev S256x128 : Shape := ⟨2, ![256, 128]⟩
abbrev S1x256x1 : Shape := ⟨3, ![1, 256, 1]⟩
abbrev S256x1 : Shape := ⟨2, ![256, 1]⟩
abbrev S256x64 : Shape := ⟨2, ![256, 64]⟩
abbrev S256x512 : Shape := ⟨2, ![256, 512]⟩
abbrev S1x256x128 : Shape := ⟨3, ![1, 256, 128]⟩
abbrev S512x128 : Shape := ⟨2, ![512, 128]⟩
abbrev S1x512x1 : Shape := ⟨3, ![1, 512, 1]⟩
abbrev S512x1 : Shape := ⟨2, ![512, 1]⟩
abbrev S512x64 : Shape := ⟨2, ![512, 64]⟩
abbrev S512x512 : Shape := ⟨2, ![512, 512]⟩
abbrev S1x512x128 : Shape := ⟨3, ![1, 512, 128]⟩
abbrev S768x128 : Shape := ⟨2, ![768, 128]⟩
abbrev S768x256 : Shape := ⟨2, ![768, 256]⟩
abbrev S1x768x1 : Shape := ⟨3, ![1, 768, 1]⟩
abbrev S768x1 : Shape := ⟨2, ![768, 1]⟩
abbrev S768x64 : Shape := ⟨2, ![768, 64]⟩
abbrev S768x512 : Shape := ⟨2, ![768, 512]⟩
abbrev S1x768x128 : Shape := ⟨3, ![1, 768, 128]⟩
abbrev S1024x256 : Shape := ⟨2, ![1024, 256]⟩
abbrev S1x1024x1 : Shape := ⟨3, ![1, 1024, 1]⟩
abbrev S1024x1 : Shape := ⟨2, ![1024, 1]⟩
abbrev S1024x512 : Shape := ⟨2, ![1024, 512]⟩

abbrev nBuf : Space → Nat
  | .hbm => 7
  | .vmem => 17
  | .smem => 0
  | _ => 0

abbrev bufTy : (tb : Table) → Fin (tcTables nBuf tb) → BufTy
  | .hbm, ⟨0, _⟩ => ⟨S4096x9216, .f32⟩
  | .hbm, ⟨1, _⟩ => ⟨S4096x9216, .bf16⟩
  | .hbm, ⟨2, _⟩ => ⟨S_, .f32⟩
  | .hbm, ⟨3, _⟩ => ⟨S8x128, .f32⟩
  | .hbm, ⟨4, _⟩ => ⟨S4096x1024, .f32⟩
  | .hbm, ⟨5, _⟩ => ⟨S4096x1024, .bf16⟩
  | .hbm, ⟨6, _⟩ => ⟨S8x4096x128, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .f32⟩
  | .local _ .vmem, ⟨7, _⟩ => ⟨S1024x128, .f32⟩
  | .local _ .vmem, ⟨8, _⟩ => ⟨S8x128, .f32⟩
  | .local _ .vmem, ⟨9, _⟩ => ⟨S1024x128, .f32⟩
  | .local _ .vmem, ⟨10, _⟩ => ⟨S1024x128, .f32⟩
  | .local _ .vmem, ⟨11, _⟩ => ⟨S1024x128, .bf16⟩
  | .local _ .vmem, ⟨12, _⟩ => ⟨S1024x128, .bf16⟩
  | .local _ .vmem, ⟨13, _⟩ => ⟨S1x1024x128, .f32⟩
  | .local _ .vmem, ⟨14, _⟩ => ⟨S1x1024x128, .f32⟩
  | .local _ .vmem, ⟨15, _⟩ => ⟨S2x1024x1, .f32⟩
  | .local _ .vmem, ⟨16, _⟩ => ⟨S1024x128, .f32⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 8, 2], ![false, false, false]⟩

def k0_mult1 (i : grid0.Coords) : BitVec 32 :=
  let c4_i32 : BitVec 32 := 4#32
  let arg2 : BitVec 32 := BitVec.ofNat 32 (i 2).val
  let v31 : BitVec 32 := Scalar.muli c4_i32 arg2
  let c3_i32 : BitVec 32 := 3#32
  let v32 : BitVec 32 := Scalar.addi v31 c3_i32
  let c256_i32 : BitVec 32 := 256#32
  let v33 : BitVec 32 := Scalar.muli v32 c256_i32
  v33
def k0_off1 (i : grid0.Coords) (c3_i32 : BitVec 32) : Fin 2 → Nat :=
  let c4_i32 : BitVec 32 := 4#32
  let arg2 : BitVec 32 := BitVec.ofNat 32 (i 2).val
  let v31 : BitVec 32 := Scalar.muli c4_i32 arg2
  let v32 : BitVec 32 := Scalar.addi v31 c3_i32
  let c256_i32 : BitVec 32 := 256#32
  let v33 : BitVec 32 := Scalar.muli v32 c256_i32
  let v34 : BitVec 32 := v33
  let v42 : Index := Scalar.indexCast v34
  let c0_16 : Index := 0#32
  ![v42.toNat, 0]
def k0_off2 (i : grid0.Coords) (c3_i32 : BitVec 32) : Fin 2 → Nat :=
  let c4_i32 : BitVec 32 := 4#32
  let arg2 : BitVec 32 := BitVec.ofNat 32 (i 2).val
  let v31 : BitVec 32 := Scalar.muli c4_i32 arg2
  let v32 : BitVec 32 := Scalar.addi v31 c3_i32
  let c256_i32 : BitVec 32 := 256#32
  let v33 : BitVec 32 := Scalar.muli v32 c256_i32
  let v34 : BitVec 32 := v33
  let v103 : Index := Scalar.indexCast v34
  let c64_42 : Index := 64#32
  ![v103.toNat, 64]
def k0_mult2 (i : grid0.Coords) : BitVec 32 :=
  let c4_i32_66 : BitVec 32 := 4#32
  let arg2 : BitVec 32 := BitVec.ofNat 32 (i 2).val
  let v161 : BitVec 32 := Scalar.muli c4_i32_66 arg2
  let c2_i32 : BitVec 32 := 2#32
  let v162 : BitVec 32 := Scalar.addi v161 c2_i32
  let c256_i32_67 : BitVec 32 := 256#32
  let v163 : BitVec 32 := Scalar.muli v162 c256_i32_67
  v163
def k0_mult3 (i : grid0.Coords) : BitVec 32 :=
  let c4_i32_123 : BitVec 32 := 4#32
  let arg2 : BitVec 32 := BitVec.ofNat 32 (i 2).val
  let v291 : BitVec 32 := Scalar.muli c4_i32_123 arg2
  let c1_i32 : BitVec 32 := 1#32
  let v292 : BitVec 32 := Scalar.addi v291 c1_i32
  let c256_i32_124 : BitVec 32 := 256#32
  let v293 : BitVec 32 := Scalar.muli v292 c256_i32_124
  v293
def k0_mult4 (i : grid0.Coords) : BitVec 32 :=
  let c4_i32_180 : BitVec 32 := 4#32
  let arg2 : BitVec 32 := BitVec.ofNat 32 (i 2).val
  let v421 : BitVec 32 := Scalar.muli c4_i32_180 arg2
  let c0_i32_181 : BitVec 32 := 0#32
  let v422 : BitVec 32 := Scalar.addi v421 c0_i32_181
  let c256_i32_182 : BitVec 32 := 256#32
  let v423 : BitVec 32 := Scalar.muli v422 c256_i32_182
  v423
@[reducible] def k0_t1_loop (i : grid0.Coords) : Scf.Loop 32 :=
  let c0_i32_240 : BitVec 32 := 0#32
  let c4_i32_239 : BitVec 32 := 4#32
  let arg2 : BitVec 32 := BitVec.ofNat 32 (i 2).val
  let v549 : BitVec 32 := Scalar.muli c4_i32_239 arg2
  let v550 : BitVec 32 := Scalar.subi v549 c0_i32_240
  let c1_i32_242 : BitVec 32 := 1#32
  let v552 : BitVec 32 := Scalar.divsi v550 c1_i32_242
  let v553 : BitVec 32 := Scalar.muli v552 c1_i32_242
  let v554 : BitVec 32 := Scalar.addi c0_i32_240 v553
  let c1_i32_243 : BitVec 32 := 1#32
  ⟨c0_i32_240, v554, c1_i32_243⟩
def k0_mult5 (i : grid0.Coords) (k0_t1 : Fin (k0_t1_loop i).trips) : BitVec 32 :=
  let c4_i32_256 : BitVec 32 := 4#32
  let arg2 : BitVec 32 := BitVec.ofNat 32 (i 2).val
  let v571 : BitVec 32 := Scalar.muli c4_i32_256 arg2
  let c1_i32_257 : BitVec 32 := 1#32
  let v572 : BitVec 32 := Scalar.subi v571 c1_i32_257
  let c0_i32_240 : BitVec 32 := 0#32
  let c1_i32_243 : BitVec 32 := 1#32
  let arg13 : BitVec 32 := Scf.iv c0_i32_240 c1_i32_243 k0_t1
  let v573 : BitVec 32 := Scalar.subi v572 arg13
  let c256_i32_258 : BitVec 32 := 256#32
  let v574 : BitVec 32 := Scalar.muli v573 c256_i32_258
  v574
def k0_off3 (i : grid0.Coords) (k0_t1 : Fin (k0_t1_loop i).trips) : Fin 2 → Nat :=
  let c4_i32_256 : BitVec 32 := 4#32
  let arg2 : BitVec 32 := BitVec.ofNat 32 (i 2).val
  let v571 : BitVec 32 := Scalar.muli c4_i32_256 arg2
  let c1_i32_257 : BitVec 32 := 1#32
  let v572 : BitVec 32 := Scalar.subi v571 c1_i32_257
  let c0_i32_240 : BitVec 32 := 0#32
  let c1_i32_243 : BitVec 32 := 1#32
  let arg13 : BitVec 32 := Scf.iv c0_i32_240 c1_i32_243 k0_t1
  let v573 : BitVec 32 := Scalar.subi v572 arg13
  let c256_i32_258 : BitVec 32 := 256#32
  let v574 : BitVec 32 := Scalar.muli v573 c256_i32_258
  let v575 : BitVec 32 := v574
  let v579 : Index := Scalar.indexCast v575
  let c0_262 : Index := 0#32
  ![v579.toNat, 0]
def k0_off4 (i : grid0.Coords) (k0_t1 : Fin (k0_t1_loop i).trips) : Fin 2 → Nat :=
  let c4_i32_256 : BitVec 32 := 4#32
  let arg2 : BitVec 32 := BitVec.ofNat 32 (i 2).val
  let v571 : BitVec 32 := Scalar.muli c4_i32_256 arg2
  let c1_i32_257 : BitVec 32 := 1#32
  let v572 : BitVec 32 := Scalar.subi v571 c1_i32_257
  let c0_i32_240 : BitVec 32 := 0#32
  let c1_i32_243 : BitVec 32 := 1#32
  let arg13 : BitVec 32 := Scf.iv c0_i32_240 c1_i32_243 k0_t1
  let v573 : BitVec 32 := Scalar.subi v572 arg13
  let c256_i32_258 : BitVec 32 := 256#32
  let v574 : BitVec 32 := Scalar.muli v573 c256_i32_258
  let v575 : BitVec 32 := v574
  let v635 : Index := Scalar.indexCast v575
  let c64_288 : Index := 64#32
  ![v635.toNat, 64]
@[reducible] def k0_t2_loop (i : grid0.Coords) : Scf.Loop 32 :=
  let c0_i32_240 : BitVec 32 := 0#32
  let c4_i32_239 : BitVec 32 := 4#32
  let arg2 : BitVec 32 := BitVec.ofNat 32 (i 2).val
  let v549 : BitVec 32 := Scalar.muli c4_i32_239 arg2
  let v550 : BitVec 32 := Scalar.subi v549 c0_i32_240
  let c1_i32_242 : BitVec 32 := 1#32
  let v552 : BitVec 32 := Scalar.divsi v550 c1_i32_242
  let v553 : BitVec 32 := Scalar.muli v552 c1_i32_242
  let v554 : BitVec 32 := Scalar.addi c0_i32_240 v553
  let v551 : BitVec 32 := Scalar.addi c0_i32_240 v550
  let c1_i32_244 : BitVec 32 := 1#32
  ⟨v554, v551, c1_i32_244⟩
def k0_mult6 (i : grid0.Coords) (k0_t2 : Fin (k0_t2_loop i).trips) : BitVec 32 :=
  let c4_i32_256 : BitVec 32 := 4#32
  let arg2 : BitVec 32 := BitVec.ofNat 32 (i 2).val
  let v571 : BitVec 32 := Scalar.muli c4_i32_256 arg2
  let c1_i32_257 : BitVec 32 := 1#32
  let v572 : BitVec 32 := Scalar.subi v571 c1_i32_257
  let c0_i32_240 : BitVec 32 := 0#32
  let c4_i32_239 : BitVec 32 := 4#32
  let v549 : BitVec 32 := Scalar.muli c4_i32_239 arg2
  let v550 : BitVec 32 := Scalar.subi v549 c0_i32_240
  let c1_i32_242 : BitVec 32 := 1#32
  let v552 : BitVec 32 := Scalar.divsi v550 c1_i32_242
  let v553 : BitVec 32 := Scalar.muli v552 c1_i32_242
  let v554 : BitVec 32 := Scalar.addi c0_i32_240 v553
  let c1_i32_244 : BitVec 32 := 1#32
  let arg13 : BitVec 32 := Scf.iv v554 c1_i32_244 k0_t2
  let v573 : BitVec 32 := Scalar.subi v572 arg13
  let c256_i32_258 : BitVec 32 := 256#32
  let v574 : BitVec 32 := Scalar.muli v573 c256_i32_258
  v574
def k0_off5 (i : grid0.Coords) (k0_t2 : Fin (k0_t2_loop i).trips) : Fin 2 → Nat :=
  let c4_i32_256 : BitVec 32 := 4#32
  let arg2 : BitVec 32 := BitVec.ofNat 32 (i 2).val
  let v571 : BitVec 32 := Scalar.muli c4_i32_256 arg2
  let c1_i32_257 : BitVec 32 := 1#32
  let v572 : BitVec 32 := Scalar.subi v571 c1_i32_257
  let c0_i32_240 : BitVec 32 := 0#32
  let c4_i32_239 : BitVec 32 := 4#32
  let v549 : BitVec 32 := Scalar.muli c4_i32_239 arg2
  let v550 : BitVec 32 := Scalar.subi v549 c0_i32_240
  let c1_i32_242 : BitVec 32 := 1#32
  let v552 : BitVec 32 := Scalar.divsi v550 c1_i32_242
  let v553 : BitVec 32 := Scalar.muli v552 c1_i32_242
  let v554 : BitVec 32 := Scalar.addi c0_i32_240 v553
  let c1_i32_244 : BitVec 32 := 1#32
  let arg13 : BitVec 32 := Scf.iv v554 c1_i32_244 k0_t2
  let v573 : BitVec 32 := Scalar.subi v572 arg13
  let c256_i32_258 : BitVec 32 := 256#32
  let v574 : BitVec 32 := Scalar.muli v573 c256_i32_258
  let v575 : BitVec 32 := v574
  let v579 : Index := Scalar.indexCast v575
  let c0_262 : Index := 0#32
  ![v579.toNat, 0]
def k0_off6 (i : grid0.Coords) (k0_t2 : Fin (k0_t2_loop i).trips) : Fin 2 → Nat :=
  let c4_i32_256 : BitVec 32 := 4#32
  let arg2 : BitVec 32 := BitVec.ofNat 32 (i 2).val
  let v571 : BitVec 32 := Scalar.muli c4_i32_256 arg2
  let c1_i32_257 : BitVec 32 := 1#32
  let v572 : BitVec 32 := Scalar.subi v571 c1_i32_257
  let c0_i32_240 : BitVec 32 := 0#32
  let c4_i32_239 : BitVec 32 := 4#32
  let v549 : BitVec 32 := Scalar.muli c4_i32_239 arg2
  let v550 : BitVec 32 := Scalar.subi v549 c0_i32_240
  let c1_i32_242 : BitVec 32 := 1#32
  let v552 : BitVec 32 := Scalar.divsi v550 c1_i32_242
  let v553 : BitVec 32 := Scalar.muli v552 c1_i32_242
  let v554 : BitVec 32 := Scalar.addi c0_i32_240 v553
  let c1_i32_244 : BitVec 32 := 1#32
  let arg13 : BitVec 32 := Scf.iv v554 c1_i32_244 k0_t2
  let v573 : BitVec 32 := Scalar.subi v572 arg13
  let c256_i32_258 : BitVec 32 := 256#32
  let v574 : BitVec 32 := Scalar.muli v573 c256_i32_258
  let v575 : BitVec 32 := v574
  let v635 : Index := Scalar.indexCast v575
  let c64_288 : Index := 64#32
  ![v635.toNat, 64]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![arg1.toNat, v1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== FwdIdeal.lean ====
variable {F : FTy → Type} [FloatOps F] [Named F]
def κ : String → Option EReal := fun
  | "minus_log2_e" => some ((-((Real.log 2)⁻¹) : ℝ) : EReal)
  | _ => none
-- ==== FwdRefIdeal.lean ====
abbrev S4096x9216 : Shape := ⟨2, ![4096, 9216]⟩
abbrev S4096x1024 : Shape := ⟨2, ![4096, 1024]⟩
abbrev S2x2048x16x64 : Shape := ⟨4, ![2, 2048, 16, 64]⟩
abbrev S_ : Shape := ⟨0, ![]⟩
abbrev S2x16x2048x2048 : Shape := ⟨4, ![2, 16, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x16x64x2048 : Shape := ⟨4, ![2, 16, 64, 2048]⟩
abbrev S64 : Shape := ⟨1, ![64]⟩
abbrev S1x64 : Shape := ⟨2, ![1, 64]⟩
abbrev S2048x64 : Shape := ⟨2, ![2048, 64]⟩
abbrev S2x16x2048x2048x1 : Shape := ⟨5, ![2, 16, 2048, 2048, 1]⟩
abbrev S2x16x2048x2048x64 : Shape := ⟨5, ![2, 16, 2048, 2048, 64]⟩
abbrev S2x16x2048x64 : Shape := ⟨4, ![2, 16, 2048, 64]⟩
abbrev S2x8x2x2048x64 : Shape := ⟨5, ![2, 8, 2, 2048, 64]⟩
abbrev S8x2x2048x2x64 : Shape := ⟨5, ![8, 2, 2048, 2, 64]⟩
abbrev S8x4096x128 : Shape := ⟨3, ![8, 4096, 128]⟩

abbrev nBuf : Space → Nat
  | .hbm => 108
  | .vmem => 0
  | .smem => 0
  | _ => 0

abbrev bufTy : (tb : Table) → Fin (tcTables nBuf tb) → BufTy
  | .hbm, ⟨0, _⟩ => ⟨S4096x9216, .f32⟩
  | .hbm, ⟨1, _⟩ => ⟨S4096x1024, .f32⟩
  | .hbm, ⟨2, _⟩ => ⟨S2x2048x16x64, .f32⟩
  | .hbm, ⟨3, _⟩ => ⟨S4096x1024, .f32⟩
  | .hbm, ⟨4, _⟩ => ⟨S2x2048x16x64, .f32⟩
  | .hbm, ⟨5, _⟩ => ⟨S4096x1024, .f32⟩
  | .hbm, ⟨6, _⟩ => ⟨S2x2048x16x64, .f32⟩
  | .hbm, ⟨7, _⟩ => ⟨S_, .f32⟩
  | .hbm, ⟨8, _⟩ => ⟨S2x2048x16x64, .f32⟩
  | .hbm, ⟨9, _⟩ => ⟨S2x2048x16x64, .f32⟩
  | .hbm, ⟨10, _⟩ => ⟨S2x16x2048x2048, .f32⟩
  | .hbm, ⟨11, _⟩ => ⟨S2048, .i32⟩
  | .hbm, ⟨12, _⟩ => ⟨S2048x1, .i32⟩
  | .hbm, ⟨13, _⟩ => ⟨S2048, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S2x16x2048x2048, .f32⟩
  | .hbm, ⟨19, _⟩ => ⟨S2x16x2048x2048, .f32⟩
  | .hbm, ⟨20, _⟩ => ⟨S_, .f32⟩
  | .hbm, ⟨21, _⟩ => ⟨S2x16x2048x2048, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .i1⟩
  | .hbm, ⟨26, _⟩ => ⟨S2x16x2048x2048, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S2x16x2048x2048, .f32⟩
  | .hbm, ⟨35, _⟩ => ⟨S_, .f32⟩
  | .hbm, ⟨36, _⟩ => ⟨S_, .f32⟩
  | .hbm, ⟨37, _⟩ => ⟨S2x16x2048x2048, .i1⟩
  | .hbm, ⟨38, _⟩ => ⟨S2x16x2048x2048, .f32⟩
  | .hbm, ⟨39, _⟩ => ⟨S2x16x2048x2048, .f32⟩
  | .hbm, ⟨40, _⟩ => ⟨S_, .f32⟩
  | .hbm, ⟨41, _⟩ => ⟨S_, .f32⟩
  | .hbm, ⟨42, _⟩ => ⟨S2x16x2048x2048, .f32⟩
  | .hbm, ⟨43, _⟩ => ⟨S2x16x2048x2048, .f32⟩
  | .hbm, ⟨44, _⟩ => ⟨S2x16x2048x2048, .f32⟩
  | .hbm, ⟨45, _⟩ => ⟨S_, .f32⟩
  | .hbm, ⟨46, _⟩ => ⟨S2x16x2048x2048, .f32⟩
  | .hbm, ⟨47, _⟩ => ⟨S2x16x2048x2048, .f32⟩
  | .hbm, ⟨48, _⟩ => ⟨S2x16x2048x2048, .f32⟩
  | .hbm, ⟨49, _⟩ => ⟨S2x16x2048x2048, .f32⟩
  | .hbm, ⟨50, _⟩ => ⟨S2x16x2048x2048, .i1⟩
  | .hbm, ⟨51, _⟩ => ⟨S2x16x2048x2048, .f32⟩
  | .hbm, ⟨52, _⟩ => ⟨S2x16x2048x2048, .f32⟩
  | .hbm, ⟨53, _⟩ => ⟨S2x16x2048x2048, .f32⟩
  | .hbm, ⟨54, _⟩ => ⟨S2x16x2048x2048, .f32⟩
  | .hbm, ⟨55, _⟩ => ⟨S2x16x2048x2048, .f32⟩
  | .hbm, ⟨56, _⟩ => ⟨S2x16x2048x2048, .f32⟩
  | .hbm, ⟨57, _⟩ => ⟨S2x16x2048x2048, .f32⟩
  | .hbm, ⟨58, _⟩ => ⟨S2x16x2048x2048, .f32⟩
  | .hbm, ⟨59, _⟩ => ⟨S2x16x2048x2048, .f32⟩
  | .hbm, ⟨60, _⟩ => ⟨S2x16x2048x2048, .f32⟩
  | .hbm, ⟨61, _⟩ => ⟨S2x16x2048x2048, .f32⟩
  | .hbm, ⟨62, _⟩ => ⟨S_, .f32⟩
  | .hbm, ⟨63, _⟩ => ⟨S_, .f32⟩
  | .hbm, ⟨64, _⟩ => ⟨S2x16x2048x2048, .i1⟩
  | .hbm, ⟨65, _⟩ => ⟨S2x16x2048x2048, .f32⟩
  | .hbm, ⟨66, _⟩ => ⟨S2x16x2048x2048, .f32⟩
  | .hbm, ⟨67, _⟩ => ⟨S2x16x64x2048, .f32⟩
  | .hbm, ⟨68, _⟩ => ⟨S2x2048x16x64, .f32⟩
  | .hbm, ⟨69, _⟩ => ⟨S2048, .i32⟩
  | .hbm, ⟨70, _⟩ => ⟨S2048x1, .i32⟩
  | .hbm, ⟨71, _⟩ => ⟨S64, .i32⟩
  | .hbm, ⟨72, _⟩ => ⟨S1x64, .i32⟩
  | .hbm, ⟨73, _⟩ => ⟨S_, .i32⟩
  | .hbm, ⟨74, _⟩ => ⟨S1x64, .i32⟩
  | .hbm, ⟨75, _⟩ => ⟨S1x64, .i32⟩
  | .hbm, ⟨76, _⟩ => ⟨S_, .i32⟩
  | .hbm, ⟨77, _⟩ => ⟨S1x64, .i32⟩
  | .hbm, ⟨78, _⟩ => ⟨S1x64, .i32⟩
  | .hbm, ⟨79, _⟩ => ⟨S2048x64, .i32⟩
  | .hbm, ⟨80, _⟩ => ⟨S2048x64, .i32⟩
  | .hbm, ⟨81, _⟩ => ⟨S2048x64, .i1⟩
  | .hbm, ⟨82, _⟩ => ⟨S2x16x2048x2048x1, .f32⟩
  | .hbm, ⟨83, _⟩ => ⟨S2x16x2048x2048x1, .f32⟩
  | .hbm, ⟨84, _⟩ => ⟨S_, .f32⟩
  | .hbm, ⟨85, _⟩ => ⟨S_, .f32⟩
  | .hbm, ⟨86, _⟩ => ⟨S2x16x2048x2048x64, .i1⟩
  | .hbm, ⟨87, _⟩ => ⟨S2x16x2048x2048x64, .f32⟩
  | .hbm, ⟨88, _⟩ => ⟨S2x16x2048x2048x64, .f32⟩
  | .hbm, ⟨89, _⟩ => ⟨S2x16x2048x2048x64, .f32⟩
  | .hbm, ⟨90, _⟩ => ⟨S_, .f32⟩
  | .hbm, ⟨91, _⟩ => ⟨S2x16x2048x64, .f32⟩
  | .hbm, ⟨92, _⟩ => ⟨S2x8x2x2048x64, .f32⟩
  | .hbm, ⟨93, _⟩ => ⟨S8x2x2048x2x64, .f32⟩
  | .hbm, ⟨94, _⟩ => ⟨S4096x1024, .f32⟩
  | .hbm, ⟨95, _⟩ => ⟨S8x4096x128, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S_, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .bf16⟩
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v17 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_c : Ref sig .tc := ⟨.hbm, 73, rfl⟩
abbrev main_v31 : Ref sig .tc := ⟨.hbm, 74, rfl⟩
abbrev main_v32 : Ref sig .tc := ⟨.hbm, 75, rfl⟩
abbrev main_c_2 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst_3 : Ref sig .tc := ⟨.hbm, 84, rfl⟩
abbrev main_call5_v0 : Ref sig .tc := ⟨.hbm, 85, rfl⟩
abbrev main_call5_v1 : Ref sig .tc := ⟨.hbm, 86, rfl⟩
abbrev main_call5_v2 : Ref sig .tc := ⟨.hbm, 87, rfl⟩
abbrev main_call5_v3 : Ref sig .tc := ⟨.hbm, 88, rfl⟩
abbrev main_v40 : Ref sig .tc := ⟨.hbm, 89, rfl⟩
abbrev main_cst_4 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_call6_v0 : Ref sig .tc := ⟨.hbm, 97, rfl⟩
abbrev main_call6_v1 : Ref sig .tc := ⟨.hbm, 98, rfl⟩
abbrev main_call6_cst : Ref sig .tc := ⟨.hbm, 99, rfl⟩
abbrev main_call6_v2 : Ref sig .tc := ⟨.hbm, 100, rfl⟩
abbrev main_call6_v3 : Ref sig .tc := ⟨.hbm, 101, rfl⟩
abbrev main_call6_cst_0 : Ref sig .tc := ⟨.hbm, 102, rfl⟩
abbrev main_call6_v4 : Ref sig .tc := ⟨.hbm, 103, rfl⟩
abbrev main_call6_v5 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩

abbrev nD : Nat := 1
abbrev τ : Topo := Topo.v7x

variable {F : FTy → Type} [FloatOps F]
-- ==== MergeF.lean ====
abbrev S4096x9216 : Shape := ⟨2, ![4096, 9216]⟩
abbrev S4096x1024 : Shape := ⟨2, ![4096, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x9216, .f32⟩
  | .hbm, ⟨1, _⟩ => ⟨S4096x1024, .f32⟩
  | .hbm, ⟨2, _⟩ => ⟨S4096x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeFRefIdeal.lean ====
abbrev S4096x9216 : Shape := ⟨2, ![4096, 9216]⟩
abbrev S4096x1024 : Shape := ⟨2, ![4096, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x9216, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== MergeB.lean ====
abbrev S4096x9216 : Shape := ⟨2, ![4096, 9216]⟩
abbrev S4096x1024 : Shape := ⟨2, ![4096, 1024]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 7
  | .vmem => 16
  | .smem => 0
  | _ => 0

abbrev bufTy : (tb : Table) → Fin (tcTables nBuf tb) → BufTy
  | .hbm, ⟨0, _⟩ => ⟨S4096x9216, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S4096x1024, .bf16⟩
  | .hbm, ⟨6, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeBRefIdeal.lean ====
abbrev S4096x9216 : Shape := ⟨2, ![4096, 9216]⟩
abbrev S4096x1024 : Shape := ⟨2, ![4096, 1024]⟩
abbrev S_ : Shape := ⟨0, ![]⟩
abbrev S4096x2048 : Shape := ⟨2, ![4096, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4096x9216, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | .hbm, ⟨42, _⟩ => ⟨S4096x1024, .bf16⟩
  | .hbm, ⟨43, _⟩ => ⟨S4096x2048, .f32⟩
  | .hbm, ⟨44, _⟩ => ⟨S4096x2048, .bf16⟩
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== LnF.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnFRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== AdamIn.lean ====
abbrev S8x512x1152 : Shape := ⟨3, ![8, 512, 1152]⟩
abbrev S1024x1152 : Shape := ⟨2, ![1024, 1152]⟩
abbrev S8x128x1152 : Shape := ⟨3, ![8, 128, 1152]⟩
abbrev S128x1152 : Shape := ⟨2, ![128, 1152]⟩
abbrev S1x128x1152 : Shape := ⟨3, ![1, 128, 1152]⟩

abbrev nBuf : Space → Nat
  | .hbm => 9
  | .vmem => 18
  | .smem => 0
  | _ => 0

abbrev bufTy : (tb : Table) → Fin (tcTables nBuf tb) → BufTy
  | .hbm, ⟨0, _⟩ => ⟨S8x512x1152, .bf16⟩
  | .hbm, ⟨1, _⟩ => ⟨S8x512x1152, .bf16⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .hbm, ⟨8, _⟩ => ⟨S1024x1152, .f32⟩
  | .local _ .vmem, ⟨0, _⟩ => ⟨S8x128x1152, .bf16⟩
  | .local _ .vmem, ⟨1, _⟩ => ⟨S8x128x1152, .bf16⟩
  | .local _ .vmem, ⟨2, _⟩ => ⟨S8x128x1152, .bf16⟩
  | .local _ .vmem, ⟨3, _⟩ => ⟨S8x128x1152, .bf16⟩
  | .local _ .vmem, ⟨4, _⟩ => ⟨S128x1152, .f32⟩
  | .local _ .vmem, ⟨5, _⟩ => ⟨S128x1152, .f32⟩
  | .local _ .vmem, ⟨6, _⟩ => ⟨S128x1152, .f32⟩
  | .local _ .vmem, ⟨7, _⟩ => ⟨S128x1152, .f32⟩
  | .local _ .vmem, ⟨8, _⟩ => ⟨S128x1152, .f32⟩
  | .local _ .vmem, ⟨9, _⟩ => ⟨S128x1152, .f32⟩
  | .local _ .vmem, ⟨10, _⟩ => ⟨S128x1152, .f32⟩
  | .local _ .vmem, ⟨11, _⟩ => ⟨S128x1152, .f32⟩
  | .local _ .vmem, ⟨12, _⟩ => ⟨S128x1152, .f32⟩
  | .local _ .vmem, ⟨13, _⟩ => ⟨S128x1152, .f32⟩
  | .local _ .vmem, ⟨14, _⟩ => ⟨S128x1152, .f32⟩
  | .local _ .vmem, ⟨15, _⟩ => ⟨S128x1152, .f32⟩
  | .local _ .vmem, ⟨16, _⟩ => ⟨S128x1152, .f32⟩
  | .local _ .vmem, ⟨17, _⟩ => ⟨S128x1152, .f32⟩
  | _, _ => ⟨S8x512x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S8x512x1152 : Shape := ⟨3, ![8, 512, 1152]⟩
abbrev S1024x1152 : Shape := ⟨2, ![1024, 1152]⟩
abbrev S8x1024x1152 : Shape := ⟨3, ![8, 1024, 1152]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x512x1152, .bf16⟩
  | .hbm, ⟨1, _⟩ => ⟨S8x512x1152, .bf16⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S8x1024x1152, .bf16⟩
  | .hbm, ⟨6, _⟩ => ⟨S8x1024x1152, .f32⟩
  | .hbm, ⟨7, _⟩ => ⟨S_, .f32⟩
  | .hbm, ⟨8, _⟩ => ⟨S1024x1152, .f32⟩
  | .hbm, ⟨9, _⟩ => ⟨S_, .f32⟩
  | .hbm, ⟨10, _⟩ => ⟨S1024x1152, .f32⟩
  | .hbm, ⟨11, _⟩ => ⟨S1024x1152, .f32⟩
  | .hbm, ⟨12, _⟩ => ⟨S_, .f32⟩
  | .hbm, ⟨13, _⟩ => ⟨S1024x1152, .f32⟩
  | .hbm, ⟨14, _⟩ => ⟨S1024x1152, .f32⟩
  | .hbm, ⟨15, _⟩ => ⟨S1024x1152, .f32⟩
  | .hbm, ⟨16, _⟩ => ⟨S_, .f32⟩
  | .hbm, ⟨17, _⟩ => ⟨S1024x1152, .f32⟩
  | .hbm, ⟨18, _⟩ => ⟨S1024x1152, .f32⟩
  | .hbm, ⟨19, _⟩ => ⟨S1024x1152, .f32⟩
  | .hbm, ⟨20, _⟩ => ⟨S_, .f32⟩
  | .hbm, ⟨21, _⟩ => ⟨S1024x1152, .f32⟩
  | .hbm, ⟨22, _⟩ => ⟨S1024x1152, .f32⟩
  | .hbm, ⟨23, _⟩ => ⟨S1024x1152, .f32⟩
  | .hbm, ⟨24, _⟩ => ⟨S_, .f32⟩
  | .hbm, ⟨25, _⟩ => ⟨S1024x1152, .f32⟩
  | .hbm, ⟨26, _⟩ => ⟨S1024x1152, .f32⟩
  | .hbm, ⟨27, _⟩ => ⟨S_, .f32⟩
  | .hbm, ⟨28, _⟩ => ⟨S1024x1152, .f32⟩
  | .hbm, ⟨29, _⟩ => ⟨S1024x1152, .f32⟩
  | .hbm, ⟨30, _⟩ => ⟨S1024x1152, .f32⟩
  | .hbm, ⟨31, _⟩ => ⟨S_, .f32⟩
  | .hbm, ⟨32, _⟩ => ⟨S1024x1152, .f32⟩
  | .hbm, ⟨33, _⟩ => ⟨S1024x1152, .f32⟩
  | .hbm, ⟨34, _⟩ => ⟨S1024x1152, .f32⟩
  | .hbm, ⟨35, _⟩ => ⟨S_, .f32⟩
  | .hbm, ⟨36, _⟩ => ⟨S1024x1152, .f32⟩
  | .hbm, ⟨37, _⟩ => ⟨S1024x1152, .f32⟩
  | .hbm, ⟨38, _⟩ => ⟨S1024x1152, .f32⟩
  | .hbm, ⟨39, _⟩ => ⟨S_, .f32⟩
  | .hbm, ⟨40, _⟩ => ⟨S1024x1152, .f32⟩
  | .hbm, ⟨41, _⟩ => ⟨S1024x1152, .f32⟩
  | _, _ => ⟨S8x512x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamProj.lean ====
abbrev S8x384x1024 : Shape := ⟨3, ![8, 384, 1024]⟩
abbrev S384x1024 : Shape := ⟨2, ![384, 1024]⟩
abbrev S1x384x1024 : Shape := ⟨3, ![1, 384, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x384x1024, .bf16⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S384x1024, .f32⟩
  | .hbm, ⟨5, _⟩ => ⟨S384x1024, .f32⟩
  | .hbm, ⟨6, _⟩ => ⟨S384x1024, .f32⟩
  | .hbm, ⟨7, _⟩ => ⟨S384x1024, .f32⟩
  | .local _ .vmem, ⟨0, _⟩ => ⟨S8x384x1024, .bf16⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | _, _ => ⟨S8x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x384x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S384x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S384x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S384x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S384x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S384x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S384x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamProjRefIdeal.lean ====
abbrev S8x384x1024 : Shape := ⟨3, ![8, 384, 1024]⟩
abbrev S384x1024 : Shape := ⟨2, ![384, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x384x1024, .bf16⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S8x384x1024, .f32⟩
  | .hbm, ⟨5, _⟩ => ⟨S_, .f32⟩
  | .hbm, ⟨6, _⟩ => ⟨S384x1024, .f32⟩
  | .hbm, ⟨7, _⟩ => ⟨S_, .f32⟩
  | .hbm, ⟨8, _⟩ => ⟨S384x1024, .f32⟩
  | .hbm, ⟨9, _⟩ => ⟨S384x1024, .f32⟩
  | .hbm, ⟨10, _⟩ => ⟨S_, .f32⟩
  | .hbm, ⟨11, _⟩ => ⟨S384x1024, .f32⟩
  | .hbm, ⟨12, _⟩ => ⟨S384x1024, .f32⟩
  | .hbm, ⟨13, _⟩ => ⟨S384x1024, .f32⟩
  | .hbm, ⟨14, _⟩ => ⟨S_, .f32⟩
  | .hbm, ⟨15, _⟩ => ⟨S384x1024, .f32⟩
  | .hbm, ⟨16, _⟩ => ⟨S384x1024, .f32⟩
  | .hbm, ⟨17, _⟩ => ⟨S384x1024, .f32⟩
  | .hbm, ⟨18, _⟩ => ⟨S_, .f32⟩
  | .hbm, ⟨19, _⟩ => ⟨S384x1024, .f32⟩
  | .hbm, ⟨20, _⟩ => ⟨S384x1024, .f32⟩
  | .hbm, ⟨21, _⟩ => ⟨S384x1024, .f32⟩
  | .hbm, ⟨22, _⟩ => ⟨S_, .f32⟩
  | .hbm, ⟨23, _⟩ => ⟨S384x1024, .f32⟩
  | .hbm, ⟨24, _⟩ => ⟨S384x1024, .f32⟩
  | .hbm, ⟨25, _⟩ => ⟨S_, .f32⟩
  | .hbm, ⟨26, _⟩ => ⟨S384x1024, .f32⟩
  | .hbm, ⟨27, _⟩ => ⟨S384x1024, .f32⟩
  | .hbm, ⟨28, _⟩ => ⟨S384x1024, .f32⟩
  | .hbm, ⟨29, _⟩ => ⟨S_, .f32⟩
  | .hbm, ⟨30, _⟩ => ⟨S384x1024, .f32⟩
  | .hbm, ⟨31, _⟩ => ⟨S384x1024, .f32⟩
  | .hbm, ⟨32, _⟩ => ⟨S384x1024, .f32⟩
  | .hbm, ⟨33, _⟩ => ⟨S_, .f32⟩
  | .hbm, ⟨34, _⟩ => ⟨S384x1024, .f32⟩
  | .hbm, ⟨35, _⟩ => ⟨S384x1024, .f32⟩
  | .hbm, ⟨36, _⟩ => ⟨S384x1024, .f32⟩
  | .hbm, ⟨37, _⟩ => ⟨S_, .f32⟩
  | .hbm, ⟨38, _⟩ => ⟨S384x1024, .f32⟩
  | .hbm, ⟨39, _⟩ => ⟨S384x1024, .f32⟩
  | _, _ => ⟨S8x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamConv.lean ====
abbrev S8x32x128 : Shape := ⟨3, ![8, 32, 128]⟩
abbrev S32x128 : Shape := ⟨2, ![32, 128]⟩
abbrev S1x32x128 : Shape := ⟨3, ![1, 32, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S32x128, .f32⟩
  | .hbm, ⟨6, _⟩ => ⟨S32x128, .f32⟩
  | .hbm, ⟨7, _⟩ => ⟨S32x128, .f32⟩
  | .local _ .vmem, ⟨0, _⟩ => ⟨S8x32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | _, _ => ⟨S8x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvRefIdeal.lean ====
abbrev S8x32x128 : Shape := ⟨3, ![8, 32, 128]⟩
abbrev S32x128 : Shape := ⟨2, ![32, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S_, .f32⟩
  | .hbm, ⟨5, _⟩ => ⟨S32x128, .f32⟩
  | .hbm, ⟨6, _⟩ => ⟨S_, .f32⟩
  | .hbm, ⟨7, _⟩ => ⟨S32x128, .f32⟩
  | .hbm, ⟨8, _⟩ => ⟨S32x128, .f32⟩
  | .hbm, ⟨9, _⟩ => ⟨S_, .f32⟩
  | .hbm, ⟨10, _⟩ => ⟨S32x128, .f32⟩
  | .hbm, ⟨11, _⟩ => ⟨S32x128, .f32⟩
  | .hbm, ⟨12, _⟩ => ⟨S32x128, .f32⟩
  | .hbm, ⟨13, _⟩ => ⟨S_, .f32⟩
  | .hbm, ⟨14, _⟩ => ⟨S32x128, .f32⟩
  | .hbm, ⟨15, _⟩ => ⟨S32x128, .f32⟩
  | .hbm, ⟨16, _⟩ => ⟨S32x128, .f32⟩
  | .hbm, ⟨17, _⟩ => ⟨S_, .f32⟩
  | .hbm, ⟨18, _⟩ => ⟨S32x128, .f32⟩
  | .hbm, ⟨19, _⟩ => ⟨S32x128, .f32⟩
  | .hbm, ⟨20, _⟩ => ⟨S32x128, .f32⟩
  | .hbm, ⟨21, _⟩ => ⟨S_, .f32⟩
  | .hbm, ⟨22, _⟩ => ⟨S32x128, .f32⟩
  | .hbm, ⟨23, _⟩ => ⟨S32x128, .f32⟩
  | .hbm, ⟨24, _⟩ => ⟨S_, .f32⟩
  | .hbm, ⟨25, _⟩ => ⟨S32x128, .f32⟩
  | .hbm, ⟨26, _⟩ => ⟨S32x128, .f32⟩
  | .hbm, ⟨27, _⟩ => ⟨S32x128, .f32⟩
  | .hbm, ⟨28, _⟩ => ⟨S_, .f32⟩
  | .hbm, ⟨29, _⟩ => ⟨S32x128, .f32⟩
  | .hbm, ⟨30, _⟩ => ⟨S32x128, .f32⟩
  | .hbm, ⟨31, _⟩ => ⟨S32x128, .f32⟩
  | .hbm, ⟨32, _⟩ => ⟨S_, .f32⟩
  | .hbm, ⟨33, _⟩ => ⟨S32x128, .f32⟩
  | .hbm, ⟨34, _⟩ => ⟨S32x128, .f32⟩
  | .hbm, ⟨35, _⟩ => ⟨S32x128, .f32⟩
  | .hbm, ⟨36, _⟩ => ⟨S_, .f32⟩
  | .hbm, ⟨37, _⟩ => ⟨S32x128, .f32⟩
  | .hbm, ⟨38, _⟩ => ⟨S32x128, .f32⟩
  | _, _ => ⟨S8x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamVec.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamVecRefIdeal.lean ====
abbrev S8x8x1024 : Shape := ⟨3, ![8, 8, 1024]⟩
abbrev S8x1024 : Shape := ⟨2, ![8, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S8x1024, .f32⟩
  | .hbm, ⟨38, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== LnB.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnBRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1024, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S1x1024, .f32⟩
  | .hbm, ⟨90, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_cst_14 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_cst_17 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Loss.lean ====
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1, .f32⟩
  | .hbm, ⟨8, _⟩ => ⟨S4096x1024, .f32⟩
  | .hbm, ⟨9, _⟩ => ⟨S4096x1024, .bf16⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4096, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S_, .f32⟩
  | .hbm, ⟨72, _⟩ => ⟨S1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S_, .f32⟩
  | .hbm, ⟨101, _⟩ => ⟨S4096, .f32⟩
  | .hbm, ⟨102, _⟩ => ⟨S4096x1, .f32⟩
  | .hbm, ⟨103, _⟩ => ⟨S4096x1024, .f32⟩
  | .hbm, ⟨104, _⟩ => ⟨S4096x1, .f32⟩
  | .hbm, ⟨105, _⟩ => ⟨S_, .f32⟩
  | .hbm, ⟨106, _⟩ => ⟨S4096x1, .f32⟩
  | .hbm, ⟨107, _⟩ => ⟨S4096x1, .f32⟩
  | .hbm, ⟨108, _⟩ => ⟨S_, .f32⟩
  | .hbm, ⟨109, _⟩ => ⟨S4096, .f32⟩
  | .hbm, ⟨110, _⟩ => ⟨S4096x1024, .f32⟩
  | .hbm, ⟨111, _⟩ => ⟨S4096x1024, .f32⟩
  | .hbm, ⟨112, _⟩ => ⟨S1x1, .f32⟩
  | .hbm, ⟨113, _⟩ => ⟨S4096x1024, .bf16⟩
  | .hbm, ⟨114, _⟩ => ⟨S1x1024, .f32⟩
  | .hbm, ⟨115, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_cst_12 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_cst_17 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_18 : Ref sig .tc := ⟨.hbm, 79, rfl⟩
abbrev main_v55 : Ref sig .tc := ⟨.hbm, 80, rfl⟩
abbrev main_v56 : Ref sig .tc := ⟨.hbm, 81, rfl⟩
abbrev main_cst_19 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_20 : Ref sig .tc := ⟨.hbm, 89, rfl⟩
abbrev main_v63 : Ref sig .tc := ⟨.hbm, 90, rfl⟩
abbrev main_v64 : Ref sig .tc := ⟨.hbm, 91, rfl⟩
abbrev main_cst_21 : Ref sig .tc := ⟨.hbm, 92, rfl⟩
abbrev main_v65 : Ref sig .tc := ⟨.hbm, 93, rfl⟩
abbrev main_v66 : Ref sig .tc := ⟨.hbm, 94, rfl⟩
abbrev main_cst_22 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_23 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_24 : Ref sig .tc := ⟨.hbm, 105, rfl⟩
abbrev main_v75 : Ref sig .tc := ⟨.hbm, 106, rfl⟩
abbrev main_v76 : Ref sig .tc := ⟨.hbm, 107, rfl⟩
abbrev main_cst_25 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]
-- ==== ConvF.lean ====
abbrev S4096x9216 : Shape := ⟨2, ![4096, 9216]⟩
abbrev S31x1024 : Shape := ⟨2, ![31, 1024]⟩
abbrev S1024 : Shape := ⟨1, ![1024]⟩
abbrev S_ : Shape := ⟨0, ![]⟩
abbrev S32x1024 : Shape := ⟨2, ![32, 1024]⟩
abbrev S1x1024 : Shape := ⟨2, ![1, 1024]⟩
abbrev S4096x1024 : Shape := ⟨2, ![4096, 1024]⟩
abbrev S256x1024 : Shape := ⟨2, ![256, 1024]⟩
abbrev S288x1024 : Shape := ⟨2, ![288, 1024]⟩
abbrev S2x288x1024 : Shape := ⟨3, ![2, 288, 1024]⟩
abbrev S280x1024 : Shape := ⟨2, ![280, 1024]⟩
abbrev S1x288x1024 : Shape := ⟨3, ![1, 288, 1024]⟩
abbrev S256 : Shape := ⟨1, ![256]⟩
abbrev S256x1 : Shape := ⟨2, ![256, 1]⟩

abbrev nBuf : Space → Nat
  | .hbm => 12
  | .vmem => 18
  | .smem => 0
  | _ => 0

abbrev bufTy : (tb : Table) → Fin (tcTables nBuf tb) → BufTy
  | .hbm, ⟨0, _⟩ => ⟨S4096x9216, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S32x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S256x1024, .f32⟩
  | .local _ .vmem, ⟨9, _⟩ => ⟨S256x1024, .f32⟩
  | .local _ .vmem, ⟨10, _⟩ => ⟨S32x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S288x1024, .f32⟩
  | .local _ .vmem, ⟨17, _⟩ => ⟨S2x288x1024, .f32⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvFRefIdeal.lean ====
abbrev S4096x9216 : Shape := ⟨2, ![4096, 9216]⟩
abbrev S31x1024 : Shape := ⟨2, ![31, 1024]⟩
abbrev S1024 : Shape := ⟨1, ![1024]⟩
abbrev S2x2048x9216 : Shape := ⟨3, ![2, 2048, 9216]⟩
abbrev S2x2048x1024 : Shape := ⟨3, ![2, 2048, 1024]⟩
abbrev S_ : Shape := ⟨0, ![]⟩
abbrev S2x2078x1024 : Shape := ⟨3, ![2, 2078, 1024]⟩
abbrev S1x1024 : Shape := ⟨2, ![1, 1024]⟩
abbrev S1x1x1024 : Shape := ⟨3, ![1, 1, 1024]⟩
abbrev S2x2048 : Shape := ⟨2, ![2, 2048]⟩
abbrev S2x2048x1 : Shape := ⟨3, ![2, 2048, 1]⟩
abbrev S4096x1024 : Shape := ⟨2, ![4096, 1024]⟩

abbrev nBuf : Space → Nat
  | .hbm => 293
  | .vmem => 0
  | .smem => 0
  | _ => 0

abbrev hbmTy0_0 (i : Nat) : BufTy := match i % 128 with
  | 0 => ⟨S4096x9216, .f32⟩
  | 1 => ⟨S31x1024, .f32⟩
  | 2 => ⟨S1024, .f32⟩
  | 3 => ⟨S1024, .f32⟩
  | 4 => ⟨S1024, .f32⟩
  | 5 => ⟨S2x2048x9216, .f32⟩
  | 6 => ⟨S2x2048x1024, .f32⟩
  | 7 => ⟨S2x2048x1024, .f32⟩
  | 8 => ⟨S2x2048x1024, .f32⟩
  | 9 => ⟨S2x2048x1024, .f32⟩
  | 10 => ⟨S2x2048x1024, .f32⟩
  | 11 => ⟨S_, .f32⟩
  | 12 => ⟨S2x2048x1024, .f32⟩
  | 13 => ⟨S2x2048x1024, .f32⟩
  | 14 => ⟨S_, .f32⟩
  | 15 => ⟨S2x2048x1024, .f32⟩
  | 16 => ⟨S2x2048x1024, .f32⟩
  | 17 => ⟨S2x2048x1024, .f32⟩
  | 18 => ⟨S_, .i32⟩
  | 19 => ⟨S_, .f32⟩
  | 20 => ⟨S2x2078x1024, .f32⟩
  | 21 => ⟨S1x1024, .f32⟩
  | 22 => ⟨S1024, .f32⟩
  | 23 => ⟨S2x2048x1024, .f32⟩
  | 24 => ⟨S1x1x1024, .f32⟩
  | 25 => ⟨S2x2048x1024, .f32⟩
  | 26 => ⟨S2x2048x1024, .f32⟩
  | 27 => ⟨S_, .f32⟩
  | 28 => ⟨S2x2048x1024, .f32⟩
  | 29 => ⟨S2x2048x1024, .f32⟩
  | 30 => ⟨S1x1024, .f32⟩
  | 31 => ⟨S1024, .f32⟩
  | 32 => ⟨S2x2048x1024, .f32⟩
  | 33 => ⟨S1x1x1024, .f32⟩
  | 34 => ⟨S2x2048x1024, .f32⟩
  | 35 => ⟨S2x2048x1024, .f32⟩
  | 36 => ⟨S2x2048x1024, .f32⟩
  | 37 => ⟨S1x1024, .f32⟩
  | 38 => ⟨S1024, .f32⟩
  | 39 => ⟨S2x2048x1024, .f32⟩
  | 40 => ⟨S1x1x1024, .f32⟩
  | 41 => ⟨S2x2048x1024, .f32⟩
  | 42 => ⟨S2x2048x1024, .f32⟩
  | 43 => ⟨S2x2048x1024, .f32⟩
  | 44 => ⟨S1x1024, .f32⟩
  | 45 => ⟨S1024, .f32⟩
  | 46 => ⟨S2x2048x1024, .f32⟩
  | 47 => ⟨S1x1x1024, .f32⟩
  | 48 => ⟨S2x2048x1024, .f32⟩
  | 49 => ⟨S2x2048x1024, .f32⟩
  | 50 => ⟨S2x2048x1024, .f32⟩
  | 51 => ⟨S1x1024, .f32⟩
  | 52 => ⟨S1024, .f32⟩
  | 53 => ⟨S2x2048x1024, .f32⟩
  | 54 => ⟨S1x1x1024, .f32⟩
  | 55 => ⟨S2x2048x1024, .f32⟩
  | 56 => ⟨S2x2048x1024, .f32⟩
  | 57 => ⟨S2x2048x1024, .f32⟩
  | 58 => ⟨S1x1024, .f32⟩
  | 59 => ⟨S1024, .f32⟩
  | 60 => ⟨S2x2048x1024, .f32⟩
  | 61 => ⟨S1x1x1024, .f32⟩
  | 62 => ⟨S2x2048x1024, .f32⟩
  | 63 => ⟨S2x2048x1024, .f32⟩
  | 64 => ⟨S2x2048x1024, .f32⟩
  | 65 => ⟨S1x1024, .f32⟩
  | 66 => ⟨S1024, .f32⟩
  | 67 => ⟨S2x2048x1024, .f32⟩
  | 68 => ⟨S1x1x1024, .f32⟩
  | 69 => ⟨S2x2048x1024, .f32⟩
  | 70 => ⟨S2x2048x1024, .f32⟩
  | 71 => ⟨S2x2048x1024, .f32⟩
  | 72 => ⟨S1x1024, .f32⟩
  | 73 => ⟨S1024, .f32⟩
  | 74 => ⟨S2x2048x1024, .f32⟩
  | 75 => ⟨S1x1x1024, .f32⟩
  | 76 => ⟨S2x2048x1024, .f32⟩
  | 77 => ⟨S2x2048x1024, .f32⟩
  | 78 => ⟨S2x2048x1024, .f32⟩
  | 79 => ⟨S1x1024, .f32⟩
  | 80 => ⟨S1024, .f32⟩
  | 81 => ⟨S2x2048x1024, .f32⟩
  | 82 => ⟨S1x1x1024, .f32⟩
  | 83 => ⟨S2x2048x1024, .f32⟩
  | 84 => ⟨S2x2048x1024, .f32⟩
  | 85 => ⟨S2x2048x1024, .f32⟩
  | 86 => ⟨S1x1024, .f32⟩
  | 87 => ⟨S1024, .f32⟩
  | 88 => ⟨S2x2048x1024, .f32⟩
  | 89 => ⟨S1x1x1024, .f32⟩
  | 90 => ⟨S2x2048x1024, .f32⟩
  | 91 => ⟨S2x2048x1024, .f32⟩
  | 92 => ⟨S2x2048x1024, .f32⟩
  | 93 => ⟨S1x1024, .f32⟩
  | 94 => ⟨S1024, .f32⟩
  | 95 => ⟨S2x2048x1024, .f32⟩
  | 96 => ⟨S1x1x1024, .f32⟩
  | 97 => ⟨S2x2048x1024, .f32⟩
  | 98 => ⟨S2x2048x1024, .f32⟩
  | 99 => ⟨S2x2048x1024, .f32⟩
  | 100 => ⟨S1x1024, .f32⟩
  | 101 => ⟨S1024, .f32⟩
  | 102 => ⟨S2x2048x1024, .f32⟩
  | 103 => ⟨S1x1x1024, .f32⟩
  | 104 => ⟨S2x2048x1024, .f32⟩
  | 105 => ⟨S2x2048x1024, .f32⟩
  | 106 => ⟨S2x2048x1024, .f32⟩
  | 107 => ⟨S1x1024, .f32⟩
  | 108 => ⟨S1024, .f32⟩
  | 109 => ⟨S2x2048x1024, .f32⟩
  | 110 => ⟨S1x1x1024, .f32⟩
  | 111 => ⟨S2x2048x1024, .f32⟩
  | 112 => ⟨S2x2048x1024, .f32⟩
  | 113 => ⟨S2x2048x1024, .f32⟩
  | 114 => ⟨S1x1024, .f32⟩
  | 115 => ⟨S1024, .f32⟩
  | 116 => ⟨S2x2048x1024, .f32⟩
  | 117 => ⟨S1x1x1024, .f32⟩
  | 118 => ⟨S2x2048x1024, .f32⟩
  | 119 => ⟨S2x2048x1024, .f32⟩
  | 120 => ⟨S2x2048x1024, .f32⟩
  | 121 => ⟨S1x1024, .f32⟩
  | 122 => ⟨S1024, .f32⟩
  | 123 => ⟨S2x2048x1024, .f32⟩
  | 124 => ⟨S1x1x1024, .f32⟩
  | 125 => ⟨S2x2048x1024, .f32⟩
  | 126 => ⟨S2x2048x1024, .f32⟩
  | 127 => ⟨S2x2048x1024, .f32⟩
  | _ => ⟨S4096x9216, .f32⟩

abbrev hbmTy0_1 (i : Nat) : BufTy := match i % 128 with
  | 0 => ⟨S1x1024, .f32⟩
  | 1 => ⟨S1024, .f32⟩
  | 2 => ⟨S2x2048x1024, .f32⟩
  | 3 => ⟨S1x1x1024, .f32⟩
  | 4 => ⟨S2x2048x1024, .f32⟩
  | 5 => ⟨S2x2048x1024, .f32⟩
  | 6 => ⟨S2x2048x1024, .f32⟩
  | 7 => ⟨S1x1024, .f32⟩
  | 8 => ⟨S1024, .f32⟩
  | 9 => ⟨S2x2048x1024, .f32⟩
  | 10 => ⟨S1x1x1024, .f32⟩
  | 11 => ⟨S2x2048x1024, .f32⟩
  | 12 => ⟨S2x2048x1024, .f32⟩
  | 13 => ⟨S2x2048x1024, .f32⟩
  | 14 => ⟨S1x1024, .f32⟩
  | 15 => ⟨S1024, .f32⟩
  | 16 => ⟨S2x2048x1024, .f32⟩
  | 17 => ⟨S1x1x1024, .f32⟩
  | 18 => ⟨S2x2048x1024, .f32⟩
  | 19 => ⟨S2x2048x1024, .f32⟩
  | 20 => ⟨S2x2048x1024, .f32⟩
  | 21 => ⟨S1x1024, .f32⟩
  | 22 => ⟨S1024, .f32⟩
  | 23 => ⟨S2x2048x1024, .f32⟩
  | 24 => ⟨S1x1x1024, .f32⟩
  | 25 => ⟨S2x2048x1024, .f32⟩
  | 26 => ⟨S2x2048x1024, .f32⟩
  | 27 => ⟨S2x2048x1024, .f32⟩
  | 28 => ⟨S1x1024, .f32⟩
  | 29 => ⟨S1024, .f32⟩
  | 30 => ⟨S2x2048x1024, .f32⟩
  | 31 => ⟨S1x1x1024, .f32⟩
  | 32 => ⟨S2x2048x1024, .f32⟩
  | 33 => ⟨S2x2048x1024, .f32⟩
  | 34 => ⟨S2x2048x1024, .f32⟩
  | 35 => ⟨S1x1024, .f32⟩
  | 36 => ⟨S1024, .f32⟩
  | 37 => ⟨S2x2048x1024, .f32⟩
  | 38 => ⟨S1x1x1024, .f32⟩
  | 39 => ⟨S2x2048x1024, .f32⟩
  | 40 => ⟨S2x2048x1024, .f32⟩
  | 41 => ⟨S2x2048x1024, .f32⟩
  | 42 => ⟨S1x1024, .f32⟩
  | 43 => ⟨S1024, .f32⟩
  | 44 => ⟨S2x2048x1024, .f32⟩
  | 45 => ⟨S1x1x1024, .f32⟩
  | 46 => ⟨S2x2048x1024, .f32⟩
  | 47 => ⟨S2x2048x1024, .f32⟩
  | 48 => ⟨S2x2048x1024, .f32⟩
  | 49 => ⟨S1x1024, .f32⟩
  | 50 => ⟨S1024, .f32⟩
  | 51 => ⟨S2x2048x1024, .f32⟩
  | 52 => ⟨S1x1x1024, .f32⟩
  | 53 => ⟨S2x2048x1024, .f32⟩
  | 54 => ⟨S2x2048x1024, .f32⟩
  | 55 => ⟨S2x2048x1024, .f32⟩
  | 56 => ⟨S1x1024, .f32⟩
  | 57 => ⟨S1024, .f32⟩
  | 58 => ⟨S2x2048x1024, .f32⟩
  | 59 => ⟨S1x1x1024, .f32⟩
  | 60 => ⟨S2x2048x1024, .f32⟩
  | 61 => ⟨S2x2048x1024, .f32⟩
  | 62 => ⟨S2x2048x1024, .f32⟩
  | 63 => ⟨S1x1024, .f32⟩
  | 64 => ⟨S1024, .f32⟩
  | 65 => ⟨S2x2048x1024, .f32⟩
  | 66 => ⟨S1x1x1024, .f32⟩
  | 67 => ⟨S2x2048x1024, .f32⟩
  | 68 => ⟨S2x2048x1024, .f32⟩
  | 69 => ⟨S2x2048x1024, .f32⟩
  | 70 => ⟨S1x1024, .f32⟩
  | 71 => ⟨S1024, .f32⟩
  | 72 => ⟨S2x2048x1024, .f32⟩
  | 73 => ⟨S1x1x1024, .f32⟩
  | 74 => ⟨S2x2048x1024, .f32⟩
  | 75 => ⟨S2x2048x1024, .f32⟩
  | 76 => ⟨S2x2048x1024, .f32⟩
  | 77 => ⟨S1x1024, .f32⟩
  | 78 => ⟨S1024, .f32⟩
  | 79 => ⟨S2x2048x1024, .f32⟩
  | 80 => ⟨S1x1x1024, .f32⟩
  | 81 => ⟨S2x2048x1024, .f32⟩
  | 82 => ⟨S2x2048x1024, .f32⟩
  | 83 => ⟨S2x2048x1024, .f32⟩
  | 84 => ⟨S1x1024, .f32⟩
  | 85 => ⟨S1024, .f32⟩
  | 86 => ⟨S2x2048x1024, .f32⟩
  | 87 => ⟨S1x1x1024, .f32⟩
  | 88 => ⟨S2x2048x1024, .f32⟩
  | 89 => ⟨S2x2048x1024, .f32⟩
  | 90 => ⟨S2x2048x1024, .f32⟩
  | 91 => ⟨S1x1024, .f32⟩
  | 92 => ⟨S1024, .f32⟩
  | 93 => ⟨S2x2048x1024, .f32⟩
  | 94 => ⟨S1x1x1024, .f32⟩
  | 95 => ⟨S2x2048x1024, .f32⟩
  | 96 => ⟨S2x2048x1024, .f32⟩
  | 97 => ⟨S2x2048x1024, .f32⟩
  | 98 => ⟨S1x1024, .f32⟩
  | 99 => ⟨S1024, .f32⟩
  | 100 => ⟨S2x2048x1024, .f32⟩
  | 101 => ⟨S1x1x1024, .f32⟩
  | 102 => ⟨S2x2048x1024, .f32⟩
  | 103 => ⟨S2x2048x1024, .f32⟩
  | 104 => ⟨S2x2048x1024, .f32⟩
  | 105 => ⟨S1x1024, .f32⟩
  | 106 => ⟨S1024, .f32⟩
  | 107 => ⟨S2x2048x1024, .f32⟩
  | 108 => ⟨S1x1x1024, .f32⟩
  | 109 => ⟨S2x2048x1024, .f32⟩
  | 110 => ⟨S2x2048x1024, .f32⟩
  | 111 => ⟨S2x2048x1024, .f32⟩
  | 112 => ⟨S1x1x1024, .f32⟩
  | 113 => ⟨S2x2048x1024, .f32⟩
  | 114 => ⟨S2x2048x1024, .f32⟩
  | 115 => ⟨S_, .f32⟩
  | 116 => ⟨S2x2048, .f32⟩
  | 117 => ⟨S2x2048x1, .f32⟩
  | 118 => ⟨S_, .f32⟩
  | 119 => ⟨S2x2048x1, .f32⟩
  | 120 => ⟨S2x2048x1, .f32⟩
  | 121 => ⟨S2x2048x1024, .f32⟩
  | 122 => ⟨S2x2048x1024, .f32⟩
  | 123 => ⟨S2x2048x1024, .f32⟩
  | 124 => ⟨S_, .f32⟩
  | 125 => ⟨S2x2048, .f32⟩
  | 126 => ⟨S2x2048x1, .f32⟩
  | 127 => ⟨S_, .f32⟩
  | _ => ⟨S4096x9216, .f32⟩

abbrev hbmTy0_2 (i : Nat) : BufTy := match i % 128 with
  | 0 => ⟨S2x2048x1, .f32⟩
  | 1 => ⟨S2x2048x1, .f32⟩
  | 2 => ⟨S2x2048x1024, .f32⟩
  | 3 => ⟨S2x2048x1024, .f32⟩
  | 4 => ⟨S_, .f32⟩
  | 5 => ⟨S2x2048x1, .f32⟩
  | 6 => ⟨S2x2048x1, .f32⟩
  | 7 => ⟨S2x2048x1, .f32⟩
  | 8 => ⟨S2x2048x1024, .f32⟩
  | 9 => ⟨S2x2048x1024, .f32⟩
  | 10 => ⟨S1x1x1024, .f32⟩
  | 11 => ⟨S2x2048x1024, .f32⟩
  | 12 => ⟨S2x2048x1024, .f32⟩
  | 13 => ⟨S1x1x1024, .f32⟩
  | 14 => ⟨S2x2048x1024, .f32⟩
  | 15 => ⟨S2x2048x1024, .f32⟩
  | 16 => ⟨S2x2048x1024, .f32⟩
  | 17 => ⟨S2x2048x1024, .f32⟩
  | 18 => ⟨S_, .f32⟩
  | 19 => ⟨S2x2048x1024, .f32⟩
  | 20 => ⟨S2x2048x1024, .f32⟩
  | 21 => ⟨S_, .f32⟩
  | 22 => ⟨S2x2048x1024, .f32⟩
  | 23 => ⟨S2x2048x1024, .f32⟩
  | 24 => ⟨S2x2048x1024, .f32⟩
  | 25 => ⟨S2x2048x1024, .f32⟩
  | 26 => ⟨S2x2048x1024, .f32⟩
  | 27 => ⟨S_, .f32⟩
  | 28 => ⟨S2x2048x1024, .f32⟩
  | 29 => ⟨S2x2048x1024, .f32⟩
  | 30 => ⟨S_, .f32⟩
  | 31 => ⟨S2x2048x1024, .f32⟩
  | 32 => ⟨S2x2048x1024, .f32⟩
  | 33 => ⟨S2x2048x1024, .f32⟩
  | 34 => ⟨S2x2048x1024, .f32⟩
  | 35 => ⟨S2x2048x1024, .bf16⟩
  | 36 => ⟨S4096x1024, .bf16⟩
  | _ => ⟨S4096x9216, .f32⟩

abbrev hbmTy (i : Nat) : BufTy := match i / 128 with
  | 0 => hbmTy0_0 i
  | 1 => hbmTy0_1 i
  | 2 => hbmTy0_2 i
  | _ => ⟨S4096x9216, .f32⟩

abbrev bufTy : (tb : Table) → Fin (tcTables nBuf tb) → BufTy
  | .hbm, ⟨i, _⟩ => hbmTy i
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_cst_2 : Ref sig .tc := ⟨.hbm, 243, rfl⟩
abbrev main_v233 : Ref sig .tc := ⟨.hbm, 244, rfl⟩
abbrev main_v234 : Ref sig .tc := ⟨.hbm, 245, rfl⟩
abbrev main_cst_3 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_cst_4 : Ref sig .tc := ⟨.hbm, 252, rfl⟩
abbrev main_v240 : Ref sig .tc := ⟨.hbm, 253, rfl⟩
abbrev main_v241 : Ref sig .tc := ⟨.hbm, 254, rfl⟩
abbrev main_cst_5 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_cst_6 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_call1_v0 : Ref sig .tc := ⟨.hbm, 272, rfl⟩
abbrev main_call1_v1 : Ref sig .tc := ⟨.hbm, 273, rfl⟩
abbrev main_call1_cst : Ref sig .tc := ⟨.hbm, 274, rfl⟩
abbrev main_call1_v2 : Ref sig .tc := ⟨.hbm, 275, rfl⟩
abbrev main_call1_v3 : Ref sig .tc := ⟨.hbm, 276, rfl⟩
abbrev main_call1_cst_0 : Ref sig .tc := ⟨.hbm, 277, rfl⟩
abbrev main_call1_v4 : Ref sig .tc := ⟨.hbm, 278, rfl⟩
abbrev main_call1_v5 : Ref sig .tc := ⟨.hbm, 279, rfl⟩
abbrev main_v257 : Ref sig .tc := ⟨.hbm, 280, rfl⟩
abbrev main_call2_v0 : Ref sig .tc := ⟨.hbm, 281, rfl⟩
abbrev main_call2_v1 : Ref sig .tc := ⟨.hbm, 282, rfl⟩
abbrev main_call2_cst : Ref sig .tc := ⟨.hbm, 283, rfl⟩
abbrev main_call2_v2 : Ref sig .tc := ⟨.hbm, 284, rfl⟩
abbrev main_call2_v3 : Ref sig .tc := ⟨.hbm, 285, rfl⟩
abbrev main_call2_cst_0 : Ref sig .tc := ⟨.hbm, 286, rfl⟩
abbrev main_call2_v4 : Ref sig .tc := ⟨.hbm, 287, rfl⟩
abbrev main_call2_v5 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩

abbrev nD : Nat := 1
abbrev τ : Topo := Topo.v7x

variable {F : FTy → Type} [FloatOps F]
-- ==== Proof.Attn.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Claim
public import Idealize.ShloMosaic.Lib.Quiescent

/-! # The frames of the attention's gradient, and the name of its constant -/

set_option maxRecDepth 16384

@[expose] public section

noncomputable section

open Idealize.ShloMosaic Idealize.ShloMosaic.TcCoe Idealize.SL.Sem

namespace Cert.Attn

theorem frame : Cert.quiescent_Kernel := fun m ρ _ => Cert.Kernel.Gen.frame m ρ

theorem frame_ideal : Cert.quiescent_KernelIdeal := fun m ρ _ => Cert.KernelIdeal.Gen.frame m ρ

theorem frame_ref : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The constant's name stands for `-1 / log 2`. -/
theorem preserves : Cert.preserves_Kernel_KernelIdeal :=
  IdealRules.named_const.statement Cert.KernelIdeal.κ "minus_log2_e" .f32 0xBFB8AA3B#32 ((-((Real.log 2)⁻¹) : ℝ) : EReal) rfl

end Cert.Attn
-- ==== Proof.Block.lean ====
module

public import proofs.«01_k».proof.Proof.Gen.KernelIdeal.Frame
public import Idealize.ShloMosaic.Lib.Pipeline.ValueKit
public import Idealize.ShloMosaic.Lib.Pipeline.ReadBack

/-! # One block of keys in the attention's backward kernel

For a tile of query rows and a block of 256 keys the kernel computes, head by head, the logits, their softplus, the
weights, the weights' gradients, and adds three products to its accumulators.  The same lines are met at four row counts:
the whole tile of 1024 rows, and its last 768, 512 and 256 rows on the diagonal.  Each definition below is one of those
lines at one row count (the number in its name); a name with an `m` is the masked form. -/

set_option maxRecDepth 16384

@[expose] public section

noncomputable section

open Idealize.ShloMosaic Idealize.ShloMosaic.TcCoe Idealize.SL.Sem

namespace Cert.Attn

open Cert.KernelIdeal Cert.KernelIdeal.Gen

variable {F : FTy → Type} [FloatOps F] [Named F]

/-- The lane of the saved sums that belongs to a head and a block of keys of the tile's diagonal. -/
def laneOf (h : BitVec 32) (i : grid0.Coords) (j : BitVec 32) : BitVec 32 :=
  Scalar.addi h (Scalar.addi (Scalar.muli 4#32 (BitVec.ofNat 32 (i 2).val)) j)

/-! ## 1024 rows -/

/-- The keys' positions in the block against the rows' positions below the diagonal block's first row. -/
def mask1024 : IVec S1024x256 1 :=
  cmpi .slt (iota .tc S1024x256 32 [1] iota_S1024x256_d1_w32) (iota .tc S1024x256 32 [0] iota_S1024x256_d0_w32)
/-- The logits. -/
def lg1024 (q : FVec F S1024x64 .bf16) (ks : Vec F S256x64 .bf16) : FVec F S1024x256 .f32 :=
  matmul dot_S1024x64_S256x64_S1024x256_1_1_0_0_n_n none q (shapeCast S256x64 ks shapeCasts_S256x64_S256x64) (constant S1024x256 .f32 0x00000000#32)
/-- The exponential of minus the logit's size. -/
def ex1024 (l : FVec F S1024x256 .f32) : FVec F S1024x256 .f32 :=
  exp2 (mulf (absf l) (broadcast S1024x256 (Named.named κ "minus_log2_e" 0xBFB8AA3B#32)))
/-- One more than that. -/
def ox1024 (l : FVec F S1024x256 .f32) : FVec F S1024x256 .f32 := addf (broadcast S1024x256 (Scalar.ofBits .f32 0x3F800000#32 : F .f32)) (ex1024 l)
/-- The softplus. -/
def sp1024 (l : FVec F S1024x256 .f32) : FVec F S1024x256 .f32 := addf (maximumf l (broadcast S1024x256 (Scalar.ofBits .f32 0x00000000#32 : F .f32))) (log (ox1024 l))
/-- The softplus where the mask holds. -/
def spm1024 (l : FVec F S1024x256 .f32) : FVec F S1024x256 .f32 := select mask1024 (sp1024 l) (broadcast S1024x256 (Scalar.ofBits .f32 0x00000000#32 : F .f32))
/-- The saved sum of a row, picked by its lane. -/
def car1024 (lane : BitVec 32) (x : Vec F S1x1024x128 .f32) : FVec F S1024x1 .f32 :=
  shapeCast S1024x1 (multiReduction .add [1] S1024
    (select (cmpi .eq (iota .tc S1024x128 32 [1] iota_S1024x128_d1_w32) (broadcast S1024x128 lane))
      (shapeCast S1024x128 x shapeCasts_S1x1024x128_S1024x128)
      (broadcast S1024x128 (Scalar.ofBits .f32 0x00000000#32 : F .f32)))
    0x00000000#32 reduces_S1024x128_S1024 (.inl rfl) rfl) shapeCasts_S1024_S1024x1
/-- The product with a 0/1 matrix, the operand split in two halves set side by side. -/
def hl1024 (x : FVec F S1024x256 .f32) (u : FVec F S512x256 .bf16) : FVec F S1024x256 .f32 :=
  matmul dot_S1024x512_S512x256_S1024x256_1_0_0_1_n_n none
    (concatenate S1024x512 1 [⟨S1024x256, truncf .bf16 x bitsLt_bf16_f32⟩,
      ⟨S1024x256, truncf .bf16 (subf x (extf .f32 (truncf .bf16 x bitsLt_bf16_f32) bitsLt_bf16_f32)) bitsLt_bf16_f32⟩]
      concatenates_S1024x256_S1024x256_S1024x512_d1) u (constant S1024x256 .f32 0x00000000#32)
/-- The weights, from the logits, the softplus and the saved sums. -/
def wt1024 (l sp : FVec F S1024x256 .f32) (lane : BitVec 32) (x : Vec F S1x1024x128 .f32) (u : FVec F S512x256 .bf16) : FVec F S1024x256 .f32 :=
  exp (subf l (addf sp (addf (broadcastTo S1024x256 (car1024 lane x) broadcasts_S1024x1_S1024x256) (hl1024 sp u))))
/-- The weights where the mask holds. -/
def wtm1024 (l : FVec F S1024x256 .f32) (lane : BitVec 32) (x : Vec F S1x1024x128 .f32) (u : FVec F S512x256 .bf16) : FVec F S1024x256 .f32 :=
  select mask1024 (wt1024 l (spm1024 l) lane x u) (broadcast S1024x256 (Scalar.ofBits .f32 0x00000000#32 : F .f32))
/-- An accumulator of a block of keys with a product over the rows added. -/
def tn1024 (a : FVec F S1024x256 .f32) (d : FVec F S1024x64 .bf16) (old : Vec F S256x64 .f32) : FVec F S256x64 .f32 :=
  shapeCast S256x64 (addf old (matmul dot_S1024x256_S1024x64_S256x64_0_0_1_1_n_n none (truncf .bf16 a bitsLt_bf16_f32) d
    (constant S256x64 .f32 0x00000000#32))) shapeCasts_S256x64_S256x64
/-- The weights times the weights' gradient. -/
def gr1024 (a : FVec F S1024x256 .f32) (d : FVec F S1024x64 .bf16) (vs : Vec F S256x64 .bf16) : FVec F S1024x256 .f32 := mulf a (lg1024 d vs)
/-- The sum of those over the earlier keys. -/
def cu1024 (g : FVec F S1024x256 .f32) (u : FVec F S512x256 .bf16) (gc : Vec F S1x1024x1 .f32) : FVec F S1024x256 .f32 :=
  addf (broadcastTo S1024x256 (shapeCast S1024x1 gc shapeCasts_S1x1024x1_S1024x1) broadcasts_S1024x1_S1024x256) (hl1024 g u)
/-- The logistic of the logits. -/
def bt1024 (l : FVec F S1024x256 .f32) : FVec F S1024x256 .f32 :=
  select (cmpf .oge l (broadcast S1024x256 (Scalar.ofBits .f32 0x00000000#32 : F .f32))) (reciprocal true (ox1024 l)) (mulf (ex1024 l) (reciprocal true (ox1024 l)))
/-- The logits' gradient. -/
def dl1024 (l g c : FVec F S1024x256 .f32) : FVec F S1024x256 .f32 := subf g (mulf (addf g c) (bt1024 l))
/-- The logits' gradient where the mask holds. -/
def dlm1024 (l g c : FVec F S1024x256 .f32) : FVec F S1024x256 .f32 := select mask1024 (dl1024 l g c) (broadcast S1024x256 (Scalar.ofBits .f32 0x00000000#32 : F .f32))
/-- The accumulator of the rows with a product over the block's keys added. -/
def nn1024 (a : FVec F S1024x256 .f32) (ks : Vec F S256x64 .bf16) (old : Vec F S1024x64 .f32) : FVec F S1024x64 .f32 :=
  shapeCast S1024x64 (addf old (matmul dot_S1024x256_S256x64_S1024x64_1_0_0_1_n_n none (truncf .bf16 a bitsLt_bf16_f32)
    (shapeCast S256x64 ks shapeCasts_S256x64_S256x64) (constant S1024x64 .f32 0x00000000#32))) shapeCasts_S1024x64_S1024x64
/-- The running sum after the block: the last column's. -/
def gc1024 (g c : FVec F S1024x256 .f32) : FVec F S1x1024x1 .f32 :=
  shapeCast S1x1024x1 (addf (extractStridedSlice S1024x1 ![0, 255] c slices_S1024x256_o0_255_S1024x1)
    (extractStridedSlice S1024x1 ![0, 255] g slices_S1024x256_o0_255_S1024x1)) shapeCasts_S1024x1_S1x1024x1

/-! ## 768 rows -/

/-- The keys' positions in the block against the rows' positions below the diagonal block's first row. -/
def mask768 : IVec S768x256 1 :=
  cmpi .slt (iota .tc S768x256 32 [1] iota_S768x256_d1_w32) (iota .tc S768x256 32 [0] iota_S768x256_d0_w32)
/-- The logits. -/
def lg768 (q : FVec F S768x64 .bf16) (ks : Vec F S256x64 .bf16) : FVec F S768x256 .f32 :=
  matmul dot_S768x64_S256x64_S768x256_1_1_0_0_n_n none q (shapeCast S256x64 ks shapeCasts_S256x64_S256x64) (constant S768x256 .f32 0x00000000#32)
/-- The exponential of minus the logit's size. -/
def ex768 (l : FVec F S768x256 .f32) : FVec F S768x256 .f32 :=
  exp2 (mulf (absf l) (broadcast S768x256 (Named.named κ "minus_log2_e" 0xBFB8AA3B#32)))
/-- One more than that. -/
def ox768 (l : FVec F S768x256 .f32) : FVec F S768x256 .f32 := addf (broadcast S768x256 (Scalar.ofBits .f32 0x3F800000#32 : F .f32)) (ex768 l)
/-- The softplus. -/
def sp768 (l : FVec F S768x256 .f32) : FVec F S768x256 .f32 := addf (maximumf l (broadcast S768x256 (Scalar.ofBits .f32 0x00000000#32 : F .f32))) (log (ox768 l))
/-- The softplus where the mask holds. -/
def spm768 (l : FVec F S768x256 .f32) : FVec F S768x256 .f32 := select mask768 (sp768 l) (broadcast S768x256 (Scalar.ofBits .f32 0x00000000#32 : F .f32))
/-- The saved sum of a row, picked by its lane. -/
def car768 (lane : BitVec 32) (x : Vec F S1x768x128 .f32) : FVec F S768x1 .f32 :=
  shapeCast S768x1 (multiReduction .add [1] S768
    (select (cmpi .eq (iota .tc S768x128 32 [1] iota_S768x128_d1_w32) (broadcast S768x128 lane))
      (shapeCast S768x128 x shapeCasts_S1x768x128_S768x128)
      (broadcast S768x128 (Scalar.ofBits .f32 0x00000000#32 : F .f32)))
    0x00000000#32 reduces_S768x128_S768 (.inl rfl) rfl) shapeCasts_S768_S768x1
/-- The product with a 0/1 matrix, the operand split in two halves set side by side. -/
def hl768 (x : FVec F S768x256 .f32) (u : FVec F S512x256 .bf16) : FVec F S768x256 .f32 :=
  matmul dot_S768x512_S512x256_S768x256_1_0_0_1_n_n none
    (concatenate S768x512 1 [⟨S768x256, truncf .bf16 x bitsLt_bf16_f32⟩,
      ⟨S768x256, truncf .bf16 (subf x (extf .f32 (truncf .bf16 x bitsLt_bf16_f32) bitsLt_bf16_f32)) bitsLt_bf16_f32⟩]
      concatenates_S768x256_S768x256_S768x512_d1) u (constant S768x256 .f32 0x00000000#32)
/-- The weights, from the logits, the softplus and the saved sums. -/
def wt768 (l sp : FVec F S768x256 .f32) (lane : BitVec 32) (x : Vec F S1x768x128 .f32) (u : FVec F S512x256 .bf16) : FVec F S768x256 .f32 :=
  exp (subf l (addf sp (addf (broadcastTo S768x256 (car768 lane x) broadcasts_S768x1_S768x256) (hl768 sp u))))
/-- The weights where the mask holds. -/
def wtm768 (l : FVec F S768x256 .f32) (lane : BitVec 32) (x : Vec F S1x768x128 .f32) (u : FVec F S512x256 .bf16) : FVec F S768x256 .f32 :=
  select mask768 (wt768 l (spm768 l) lane x u) (broadcast S768x256 (Scalar.ofBits .f32 0x00000000#32 : F .f32))
/-- An accumulator of a block of keys with a product over the rows added. -/
def tn768 (a : FVec F S768x256 .f32) (d : FVec F S768x64 .bf16) (old : Vec F S256x64 .f32) : FVec F S256x64 .f32 :=
  shapeCast S256x64 (addf old (matmul dot_S768x256_S768x64_S256x64_0_0_1_1_n_n none (truncf .bf16 a bitsLt_bf16_f32) d
    (constant S256x64 .f32 0x00000000#32))) shapeCasts_S256x64_S256x64
/-- The weights times the weights' gradient. -/
def gr768 (a : FVec F S768x256 .f32) (d : FVec F S768x64 .bf16) (vs : Vec F S256x64 .bf16) : FVec F S768x256 .f32 := mulf a (lg768 d vs)
/-- The sum of those over the earlier keys. -/
def cu768 (g : FVec F S768x256 .f32) (u : FVec F S512x256 .bf16) (gc : Vec F S1x768x1 .f32) : FVec F S768x256 .f32 :=
  addf (broadcastTo S768x256 (shapeCast S768x1 gc shapeCasts_S1x768x1_S768x1) broadcasts_S768x1_S768x256) (hl768 g u)
/-- The logistic of the logits. -/
def bt768 (l : FVec F S768x256 .f32) : FVec F S768x256 .f32 :=
  select (cmpf .oge l (broadcast S768x256 (Scalar.ofBits .f32 0x00000000#32 : F .f32))) (reciprocal true (ox768 l)) (mulf (ex768 l) (reciprocal true (ox768 l)))
/-- The logits' gradient. -/
def dl768 (l g c : FVec F S768x256 .f32) : FVec F S768x256 .f32 := subf g (mulf (addf g c) (bt768 l))
/-- The logits' gradient where the mask holds. -/
def dlm768 (l g c : FVec F S768x256 .f32) : FVec F S768x256 .f32 := select mask768 (dl768 l g c) (broadcast S768x256 (Scalar.ofBits .f32 0x00000000#32 : F .f32))
/-- The accumulator of the rows with a product over the block's keys added. -/
def nn768 (a : FVec F S768x256 .f32) (ks : Vec F S256x64 .bf16) (old : Vec F S768x64 .f32) : FVec F S768x64 .f32 :=
  shapeCast S768x64 (addf old (matmul dot_S768x256_S256x64_S768x64_1_0_0_1_n_n none (truncf .bf16 a bitsLt_bf16_f32)
    (shapeCast S256x64 ks shapeCasts_S256x64_S256x64) (constant S768x64 .f32 0x00000000#32))) shapeCasts_S768x64_S768x64
/-- The running sum after the block: the last column's. -/
def gc768 (g c : FVec F S768x256 .f32) : FVec F S1x768x1 .f32 :=
  shapeCast S1x768x1 (addf (extractStridedSlice S768x1 ![0, 255] c slices_S768x256_o0_255_S768x1)
    (extractStridedSlice S768x1 ![0, 255] g slices_S768x256_o0_255_S768x1)) shapeCasts_S768x1_S1x768x1

/-! ## 512 rows -/

/-- The keys' positions in the block against the rows' positions below the diagonal block's first row. -/
def mask512 : IVec S512x256 1 :=
  cmpi .slt (iota .tc S512x256 32 [1] iota_S512x256_d1_w32) (iota .tc S512x256 32 [0] iota_S512x256_d0_w32)
/-- The logits. -/
def lg512 (q : FVec F S512x64 .bf16) (ks : Vec F S256x64 .bf16) : FVec F S512x256 .f32 :=
  matmul dot_S512x64_S256x64_S512x256_1_1_0_0_n_n none q (shapeCast S256x64 ks shapeCasts_S256x64_S256x64) (constant S512x256 .f32 0x00000000#32)
/-- The exponential of minus the logit's size. -/
def ex512 (l : FVec F S512x256 .f32) : FVec F S512x256 .f32 :=
  exp2 (mulf (absf l) (broadcast S512x256 (Named.named κ "minus_log2_e" 0xBFB8AA3B#32)))
/-- One more than that. -/
def ox512 (l : FVec F S512x256 .f32) : FVec F S512x256 .f32 := addf (broadcast S512x256 (Scalar.ofBits .f32 0x3F800000#32 : F .f32)) (ex512 l)
/-- The softplus. -/
def sp512 (l : FVec F S512x256 .f32) : FVec F S512x256 .f32 := addf (maximumf l (broadcast S512x256 (Scalar.ofBits .f32 0x00000000#32 : F .f32))) (log (ox512 l))
/-- The softplus where the mask holds. -/
def spm512 (l : FVec F S512x256 .f32) : FVec F S512x256 .f32 := select mask512 (sp512 l) (broadcast S512x256 (Scalar.ofBits .f32 0x00000000#32 : F .f32))
/-- The saved sum of a row, picked by its lane. -/
def car512 (lane : BitVec 32) (x : Vec F S1x512x128 .f32) : FVec F S512x1 .f32 :=
  shapeCast S512x1 (multiReduction .add [1] S512
    (select (cmpi .eq (iota .tc S512x128 32 [1] iota_S512x128_d1_w32) (broadcast S512x128 lane))
      (shapeCast S512x128 x shapeCasts_S1x512x128_S512x128)
      (broadcast S512x128 (Scalar.ofBits .f32 0x00000000#32 : F .f32)))
    0x00000000#32 reduces_S512x128_S512 (.inl rfl) rfl) shapeCasts_S512_S512x1
/-- The product with a 0/1 matrix, the operand split in two halves set side by side. -/
def hl512 (x : FVec F S512x256 .f32) (u : FVec F S512x256 .bf16) : FVec F S512x256 .f32 :=
  matmul dot_S512x512_S512x256_S512x256_1_0_0_1_n_n none
    (concatenate S512x512 1 [⟨S512x256, truncf .bf16 x bitsLt_bf16_f32⟩,
      ⟨S512x256, truncf .bf16 (subf x (extf .f32 (truncf .bf16 x bitsLt_bf16_f32) bitsLt_bf16_f32)) bitsLt_bf16_f32⟩]
      concatenates_S512x256_S512x256_S512x512_d1) u (constant S512x256 .f32 0x00000000#32)
/-- The weights, from the logits, the softplus and the saved sums. -/
def wt512 (l sp : FVec F S512x256 .f32) (lane : BitVec 32) (x : Vec F S1x512x128 .f32) (u : FVec F S512x256 .bf16) : FVec F S512x256 .f32 :=
  exp (subf l (addf sp (addf (broadcastTo S512x256 (car512 lane x) broadcasts_S512x1_S512x256) (hl512 sp u))))
/-- The weights where the mask holds. -/
def wtm512 (l : FVec F S512x256 .f32) (lane : BitVec 32) (x : Vec F S1x512x128 .f32) (u : FVec F S512x256 .bf16) : FVec F S512x256 .f32 :=
  select mask512 (wt512 l (spm512 l) lane x u) (broadcast S512x256 (Scalar.ofBits .f32 0x00000000#32 : F .f32))
/-- An accumulator of a block of keys with a product over the rows added. -/
def tn512 (a : FVec F S512x256 .f32) (d : FVec F S512x64 .bf16) (old : Vec F S256x64 .f32) : FVec F S256x64 .f32 :=
  shapeCast S256x64 (addf old (matmul dot_S512x256_S512x64_S256x64_0_0_1_1_n_n none (truncf .bf16 a bitsLt_bf16_f32) d
    (constant S256x64 .f32 0x00000000#32))) shapeCasts_S256x64_S256x64
/-- The weights times the weights' gradient. -/
def gr512 (a : FVec F S512x256 .f32) (d : FVec F S512x64 .bf16) (vs : Vec F S256x64 .bf16) : FVec F S512x256 .f32 := mulf a (lg512 d vs)
/-- The sum of those over the earlier keys. -/
def cu512 (g : FVec F S512x256 .f32) (u : FVec F S512x256 .bf16) (gc : Vec F S1x512x1 .f32) : FVec F S512x256 .f32 :=
  addf (broadcastTo S512x256 (shapeCast S512x1 gc shapeCasts_S1x512x1_S512x1) broadcasts_S512x1_S512x256) (hl512 g u)
/-- The logistic of the logits. -/
def bt512 (l : FVec F S512x256 .f32) : FVec F S512x256 .f32 :=
  select (cmpf .oge l (broadcast S512x256 (Scalar.ofBits .f32 0x00000000#32 : F .f32))) (reciprocal true (ox512 l)) (mulf (ex512 l) (reciprocal true (ox512 l)))
/-- The logits' gradient. -/
def dl512 (l g c : FVec F S512x256 .f32) : FVec F S512x256 .f32 := subf g (mulf (addf g c) (bt512 l))
/-- The logits' gradient where the mask holds. -/
def dlm512 (l g c : FVec F S512x256 .f32) : FVec F S512x256 .f32 := select mask512 (dl512 l g c) (broadcast S512x256 (Scalar.ofBits .f32 0x00000000#32 : F .f32))
/-- The accumulator of the rows with a product over the block's keys added. -/
def nn512 (a : FVec F S512x256 .f32) (ks : Vec F S256x64 .bf16) (old : Vec F S512x64 .f32) : FVec F S512x64 .f32 :=
  shapeCast S512x64 (addf old (matmul dot_S512x256_S256x64_S512x64_1_0_0_1_n_n none (truncf .bf16 a bitsLt_bf16_f32)
    (shapeCast S256x64 ks shapeCasts_S256x64_S256x64) (constant S512x64 .f32 0x00000000#32))) shapeCasts_S512x64_S512x64
/-- The running sum after the block: the last column's. -/
def gc512 (g c : FVec F S512x256 .f32) : FVec F S1x512x1 .f32 :=
  shapeCast S1x512x1 (addf (extractStridedSlice S512x1 ![0, 255] c slices_S512x256_o0_255_S512x1)
    (extractStridedSlice S512x1 ![0, 255] g slices_S512x256_o0_255_S512x1)) shapeCasts_S512x1_S1x512x1

/-! ## 256 rows -/

/-- The keys' positions in the block against the rows' positions below the diagonal block's first row. -/
def mask256 : IVec S256x256 1 :=
  cmpi .slt (iota .tc S256x256 32 [1] iota_S256x256_d1_w32) (iota .tc S256x256 32 [0] iota_S256x256_d0_w32)
/-- The logits. -/
def lg256 (q : FVec F S256x64 .bf16) (ks : Vec F S256x64 .bf16) : FVec F S256x256 .f32 :=
  matmul dot_S256x64_S256x64_S256x256_1_1_0_0_n_n none q (shapeCast S256x64 ks shapeCasts_S256x64_S256x64) (constant S256x256 .f32 0x00000000#32)
/-- The exponential of minus the logit's size. -/
def ex256 (l : FVec F S256x256 .f32) : FVec F S256x256 .f32 :=
  exp2 (mulf (absf l) (broadcast S256x256 (Named.named κ "minus_log2_e" 0xBFB8AA3B#32)))
/-- One more than that. -/
def ox256 (l : FVec F S256x256 .f32) : FVec F S256x256 .f32 := addf (broadcast S256x256 (Scalar.ofBits .f32 0x3F800000#32 : F .f32)) (ex256 l)
/-- The softplus. -/
def sp256 (l : FVec F S256x256 .f32) : FVec F S256x256 .f32 := addf (maximumf l (broadcast S256x256 (Scalar.ofBits .f32 0x00000000#32 : F .f32))) (log (ox256 l))
/-- The softplus where the mask holds. -/
def spm256 (l : FVec F S256x256 .f32) : FVec F S256x256 .f32 := select mask256 (sp256 l) (broadcast S256x256 (Scalar.ofBits .f32 0x00000000#32 : F .f32))
/-- The saved sum of a row, picked by its lane. -/
def car256 (lane : BitVec 32) (x : Vec F S1x256x128 .f32) : FVec F S256x1 .f32 :=
  shapeCast S256x1 (multiReduction .add [1] S256
    (select (cmpi .eq (iota .tc S256x128 32 [1] iota_S256x128_d1_w32) (broadcast S256x128 lane))
      (shapeCast S256x128 x shapeCasts_S1x256x128_S256x128)
      (broadcast S256x128 (Scalar.ofBits .f32 0x00000000#32 : F .f32)))
    0x00000000#32 reduces_S256x128_S256 (.inl rfl) rfl) shapeCasts_S256_S256x1
/-- The product with a 0/1 matrix, the operand split in two halves set side by side. -/
def hl256 (x : FVec F S256x256 .f32) (u : FVec F S512x256 .bf16) : FVec F S256x256 .f32 :=
  matmul dot_S256x512_S512x256_S256x256_1_0_0_1_n_n none
    (concatenate S256x512 1 [⟨S256x256, truncf .bf16 x bitsLt_bf16_f32⟩,
      ⟨S256x256, truncf .bf16 (subf x (extf .f32 (truncf .bf16 x bitsLt_bf16_f32) bitsLt_bf16_f32)) bitsLt_bf16_f32⟩]
      concatenates_S256x256_S256x256_S256x512_d1) u (constant S256x256 .f32 0x00000000#32)
/-- The weights, from the logits, the softplus and the saved sums. -/
def wt256 (l sp : FVec F S256x256 .f32) (lane : BitVec 32) (x : Vec F S1x256x128 .f32) (u : FVec F S512x256 .bf16) : FVec F S256x256 .f32 :=
  exp (subf l (addf sp (addf (broadcastTo S256x256 (car256 lane x) broadcasts_S256x1_S256x256) (hl256 sp u))))
/-- The weights where the mask holds. -/
def wtm256 (l : FVec F S256x256 .f32) (lane : BitVec 32) (x : Vec F S1x256x128 .f32) (u : FVec F S512x256 .bf16) : FVec F S256x256 .f32 :=
  select mask256 (wt256 l (spm256 l) lane x u) (broadcast S256x256 (Scalar.ofBits .f32 0x00000000#32 : F .f32))
/-- An accumulator of a block of keys with a product over the rows added. -/
def tn256 (a : FVec F S256x256 .f32) (d : FVec F S256x64 .bf16) (old : Vec F S256x64 .f32) : FVec F S256x64 .f32 :=
  shapeCast S256x64 (addf old (matmul dot_S256x256_S256x64_S256x64_0_0_1_1_n_n none (truncf .bf16 a bitsLt_bf16_f32) d
    (constant S256x64 .f32 0x00000000#32))) shapeCasts_S256x64_S256x64
/-- The weights times the weights' gradient. -/
def gr256 (a : FVec F S256x256 .f32) (d : FVec F S256x64 .bf16) (vs : Vec F S256x64 .bf16) : FVec F S256x256 .f32 := mulf a (lg256 d vs)
/-- The sum of those over the earlier keys. -/
def cu256 (g : FVec F S256x256 .f32) (u : FVec F S512x256 .bf16) (gc : Vec F S1x256x1 .f32) : FVec F S256x256 .f32 :=
  addf (broadcastTo S256x256 (shapeCast S256x1 gc shapeCasts_S1x256x1_S256x1) broadcasts_S256x1_S256x256) (hl256 g u)
/-- The logistic of the logits. -/
def bt256 (l : FVec F S256x256 .f32) : FVec F S256x256 .f32 :=
  select (cmpf .oge l (broadcast S256x256 (Scalar.ofBits .f32 0x00000000#32 : F .f32))) (reciprocal true (ox256 l)) (mulf (ex256 l) (reciprocal true (ox256 l)))
/-- The logits' gradient. -/
def dl256 (l g c : FVec F S256x256 .f32) : FVec F S256x256 .f32 := subf g (mulf (addf g c) (bt256 l))
/-- The logits' gradient where the mask holds. -/
def dlm256 (l g c : FVec F S256x256 .f32) : FVec F S256x256 .f32 := select mask256 (dl256 l g c) (broadcast S256x256 (Scalar.ofBits .f32 0x00000000#32 : F .f32))
/-- The accumulator of the rows with a product over the block's keys added. -/
def nn256 (a : FVec F S256x256 .f32) (ks : Vec F S256x64 .bf16) (old : Vec F S256x64 .f32) : FVec F S256x64 .f32 :=
  shapeCast S256x64 (addf old (matmul dot_S256x256_S256x64_S256x64_1_0_0_1_n_n none (truncf .bf16 a bitsLt_bf16_f32)
    (shapeCast S256x64 ks shapeCasts_S256x64_S256x64) (constant S256x64 .f32 0x00000000#32))) shapeCasts_S256x64_S256x64
/-- The running sum after the block: the last column's. -/
def gc256 (g c : FVec F S256x256 .f32) : FVec F S1x256x1 .f32 :=
  shapeCast S1x256x1 (addf (extractStridedSlice S256x1 ![0, 255] c slices_S256x256_o0_255_S256x1)
    (extractStridedSlice S256x1 ![0, 255] g slices_S256x256_o0_255_S256x1)) shapeCasts_S256x1_S1x256x1

end Cert.Attn
-- ==== Proof.Finite.lean ====
module

public import proofs.«01_k».proof.Proof.Block
public import Idealize.ShloMosaic.Lib.Pointwise
public import Idealize.ShloMosaic.Lib.WordCmp

/-! # Vectors of finite values

A vector all of whose elements are real numbers, given by a function of its coordinates; and the kernel's scalar
formulas at a real number. -/

set_option maxRecDepth 16384

@[expose] public section

noncomputable section

open Idealize.ShloMosaic Idealize.ShloMosaic.TcCoe Idealize.SL.Sem

namespace Cert.Attn

open Cert.KernelIdeal Cert.KernelIdeal.Gen

/-- Every element of a matrix is the real number `f` gives for its coordinates. -/
def Is2 {a b : ℕ} (X : (⟨2, ![a, b]⟩ : Shape).Idx → EReal) (f : ℕ → ℕ → ℝ) : Prop :=
  ∀ (r : Fin a) (s : Fin b), X (ix2 r s) = ((f r s : ℝ) : EReal)

/-- The same of a stack of matrices. -/
def Is3 {a b c : ℕ} (X : (⟨3, ![a, b, c]⟩ : Shape).Idx → EReal) (f : ℕ → ℕ → ℕ → ℝ) : Prop :=
  ∀ (r : Fin a) (s : Fin b) (t : Fin c), X (ix3 r s t) = ((f r s t : ℝ) : EReal)

/-- The same of a stack of stacks. -/
def Is4 {a b c d : ℕ} (X : (⟨4, ![a, b, c, d]⟩ : Shape).Idx → EReal) (f : ℕ → ℕ → ℕ → ℕ → ℝ) : Prop :=
  ∀ (r : Fin a) (s : Fin b) (t : Fin c) (u : Fin d), X (ix4 r s t u) = ((f r s t u : ℝ) : EReal)

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of real numbers over the coordinates of an axis. -/
theorem sum_fin (n : ℕ) (f : ℕ → ℝ) : (∑ k : Fin n, ((f k : ℝ) : EReal)) = ((∑ k ∈ Finset.range n, f k : ℝ) : EReal) := by
  rw [coe_sum, Finset.sum_range]

/-- The softplus. -/
def spR (x : ℝ) : ℝ := Real.log (1 + Real.exp x)
/-- The logistic. -/
def sgR (x : ℝ) : ℝ := (1 + Real.exp (-x))⁻¹

theorem one_add_exp_pos (x : ℝ) : 0 < 1 + Real.exp x := by positivity

/-- The exponential of minus a number's size, as the kernel takes it: a power of two. -/
theorem ex_real (x : ℝ) :
    FloatOps.exp2 (F := Ideal) (φ := .f32) ((FloatOps.absf (F := Ideal) (φ := .f32) ((x : ℝ) : EReal) : EReal) * Named.named κ "minus_log2_e" 0xBFB8AA3B#32)
      = ((Real.exp (-|x|) : ℝ) : EReal) := by
  have h1 : (FloatOps.absf (F := Ideal) (φ := .f32) ((x : ℝ) : EReal) : EReal) = ((|x| : ℝ) : EReal) := by
    show max (x : EReal) (-(x : EReal)) = _
    rw [← EReal.coe_neg, abs_eq_max_neg]
    exact (EReal.coe_strictMono.monotone.map_max).symm
  have h2 : (Named.named (F := Ideal) (φ := .f32) κ "minus_log2_e" 0xBFB8AA3B#32 : EReal) = ((-((Real.log 2)⁻¹) : ℝ) : EReal) := rfl
  rw [h1, h2, ← EReal.coe_mul]
  show Ideal.exp2 _ = _
  rw [Ideal.exp2_coe]
  refine congrArg Real.toEReal ?_
  rw [Real.rpow_eq_pow, Real.rpow_def_of_pos (by norm_num)]
  congr 1
  have : Real.log 2 ≠ 0 := (Real.log_pos (by norm_num)).ne'
  field_simp

/-- The softplus from the larger of the number and zero and the logarithm of one more than the exponential of minus its size. -/
theorem sp_real (x : ℝ) : max (x : EReal) 0 + Ideal.log (1 + ((Real.exp (-|x|) : ℝ) : EReal)) = ((spR x : ℝ) : EReal) := by
  rw [← EReal.coe_one, ← EReal.coe_add, Ideal.log_coe, if_neg (not_le.mpr (one_add_exp_pos _)), ← EReal.coe_zero,
    ← EReal.coe_strictMono.monotone.map_max, ← EReal.coe_add]
  congr 1
  unfold spR
  rcases le_total 0 x with h | h
  · rw [max_eq_left h, abs_of_nonneg h]
    have : 1 + Real.exp x = Real.exp x * (1 + Real.exp (-x)) := by
      rw [mul_add, ← Real.exp_add]; simp [add_comm]
    rw [this, Real.log_mul (Real.exp_pos x).ne' (one_add_exp_pos _).ne', Real.log_exp]
  · rw [max_eq_right h, abs_of_nonpos h, neg_neg, zero_add]

theorem div_one_real (y : ℝ) (h : 0 < y) : Ideal.div 1 ((y : ℝ) : EReal) = ((y⁻¹ : ℝ) : EReal) := by
  rw [Ideal.div_coe h.ne', one_mul, one_div]

/-- The logistic from the reciprocal of one more than the exponential of minus the number's size. -/
theorem bt_real (x : ℝ) :
    (if (0 : EReal) ≤ (x : EReal) then Ideal.div 1 (1 + ((Real.exp (-|x|) : ℝ) : EReal))
      else ((Real.exp (-|x|) : ℝ) : EReal) * Ideal.div 1 (1 + ((Real.exp (-|x|) : ℝ) : EReal))) = ((sgR x : ℝ) : EReal) := by
  rw [← EReal.coe_one, ← EReal.coe_add, EReal.coe_one, div_one_real _ (one_add_exp_pos _), ← EReal.coe_mul]
  unfold sgR
  split_ifs with h
  · have h : 0 ≤ x := by exact_mod_cast h
    rw [abs_of_nonneg h]
  · have h : x ≤ 0 := by
      have : ¬ 0 ≤ x := fun h' => h (by exact_mod_cast h')
      linarith
    rw [abs_of_nonpos h, neg_neg]
    congr 1
    have h1 := one_add_exp_pos x
    have h2 := one_add_exp_pos (-x)
    rw [← div_eq_mul_inv, div_eq_iff h1.ne', inv_mul_eq_div, eq_div_iff h2.ne', mul_add, ← Real.exp_add]
    simp [add_comm]

end Cert.Attn
-- ==== Proof.Ops.lean ====
module

public import proofs.«01_k».proof.Proof.Finite
public import Idealize.ShloMosaic.Lib.StableHlo.RunRead

/-! # Host operations on finite arrays of rank four

What each elementwise operation, a masked choice, a running sum and the softplus make of arrays of real numbers. -/

set_option maxRecDepth 16384

@[expose] public section

noncomputable section

open Idealize.ShloMosaic Idealize.ShloMosaic.TcCoe Idealize.SL.Sem

namespace Cert.Attn

section
variable {a b c d : ℕ} {X Y Z : FVec Ideal ⟨4, ![a, b, c, d]⟩ .f32} {f g : ℕ → ℕ → ℕ → ℕ → ℝ}

theorem Is4.congr {X : (⟨4, ![a, b, c, d]⟩ : Shape).Idx → EReal} (h : Is4 X f) (e : ∀ r < a, ∀ s < b, ∀ t < c, ∀ u < d, f r s t u = g r s t u) : Is4 X g :=
  fun r s t u => (h r s t u).trans (congrArg _ (e r r.isLt s s.isLt t t.isLt u u.isLt))

theorem neg4 (h : Is4 X f) : Is4 (Host.negf X) (fun r s t u => -f r s t u) := fun r s t u => by
  have := h r s t u
  show -(X (ix4 r s t u) : EReal) = _
  rw [this, ← EReal.coe_neg]

theorem add4 (h : Is4 X f) (k : Is4 Y g) : Is4 (addf X Y) (fun r s t u => f r s t u + g r s t u) := fun r s t u => by
  show (X (ix4 r s t u) : EReal) + Y (ix4 r s t u) = _
  rw [h r s t u, k r s t u, ← EReal.coe_add]

theorem sub4 (h : Is4 X f) (k : Is4 Y g) : Is4 (subf X Y) (fun r s t u => f r s t u - g r s t u) := fun r s t u => by
  show (X (ix4 r s t u) : EReal) - Y (ix4 r s t u) = _
  rw [h r s t u, k r s t u, ← EReal.coe_sub]

theorem mul4 (h : Is4 X f) (k : Is4 Y g) : Is4 (mulf X Y) (fun r s t u => f r s t u * g r s t u) := fun r s t u => by
  show (X (ix4 r s t u) : EReal) * Y (ix4 r s t u) = _
  rw [h r s t u, k r s t u, ← EReal.coe_mul]

theorem exp4 (h : Is4 X f) : Is4 (Host.exp X) (fun r s t u => Real.exp (f r s t u)) := fun r s t u => by
  show Ideal.exp (X (ix4 r s t u) : EReal) = _
  rw [h r s t u, Ideal.exp_coe]

/-- The choice by a mask. -/
theorem sel4 {M : IVec ⟨4, ![a, b, c, d]⟩ 1} (p : ℕ → ℕ → ℕ → ℕ → Prop) [∀ r s t u, Decidable (p r s t u)]
    (hm : ∀ (r : Fin a) (s : Fin b) (t : Fin c) (u : Fin d), M (ix4 r s t u) = if p r s t u then 1#1 else 0#1) (h : Is4 X f) (k : Is4 Y g) :
    Is4 (select M X Y) (fun r s t u => if p r s t u then f r s t u else g r s t u) := fun r s t u => by
  show (if M (ix4 r s t u) = 1#1 then (X (ix4 r s t u) : EReal) else Y (ix4 r s t u)) = _
  rw [hm]
  by_cases hp : p r s t u
  · simp only [if_pos hp, if_true]; exact h r s t u
  · simp only [if_neg hp]; rw [if_neg (by decide)]; exact k r s t u

/-- The softplus as the host takes it. -/
theorem softplus4 (h : Is4 X f) (k : Is4 Z fun _ _ _ _ => 0) :
    Is4 (select (cmpf .une (subf X Z) (subf X Z)) (addf X Z) (addf (maximumf X Z) (Host.log1p (Host.exp (Host.negf (Host.absf (subf X Z)))))))
      (fun r s t u => spR (f r s t u)) := fun r s t u => by
  have e1 : (subf X Z (ix4 r s t u) : EReal) = ((f r s t u : ℝ) : EReal) := by
    have := sub4 h k r s t u
    simpa using this
  show (if Ideal.cmp .une (subf X Z (ix4 r s t u) : EReal) (subf X Z (ix4 r s t u) : EReal) = 1#1 then (X (ix4 r s t u) + Z (ix4 r s t u) : EReal)
    else max (X (ix4 r s t u) : EReal) (Z (ix4 r s t u)) + Ideal.log (1 + Ideal.exp (-(max (subf X Z (ix4 r s t u) : EReal) (-(subf X Z (ix4 r s t u) : EReal)))))) = _
  rw [e1, if_neg (by simp [Ideal.cmp]), h r s t u, k r s t u, EReal.coe_zero, ← sp_real (f r s t u)]
  congr 3

/-- The derivative of the softplus as the host takes it, guarded against an infinite argument that finite arrays do not hold. -/
theorem guard4 {W : FVec Ideal ⟨4, ![a, b, c, d]⟩ .f32} (hw : ∀ j, (W j : EReal) = ⊤) (h : Is4 X f) : Is4 (select (cmpf .oeq X W) Y X) f := fun r s t u => by
  show (if Ideal.cmp .oeq (X (ix4 r s t u) : EReal) (W (ix4 r s t u)) = 1#1 then (Y (ix4 r s t u) : EReal) else X (ix4 r s t u)) = _
  rw [hw, h r s t u, if_neg (by simp [Ideal.cmp])]

end

theorem foldl_add {ι : Type} (l : List ι) (F : ι → EReal) (v : EReal) : l.foldl (fun r n => r + F n) v = v + (l.map F).sum := by
  induction l generalizing v with
  | nil => simp
  | cons x l ih => rw [List.foldl_cons, ih, List.map_cons, List.sum_cons, add_assoc]

/-- A sum over windows at an index: the initial value and the window's elements, the initial value standing for each
place outside the array. -/
theorem window_apply {s t u : Shape} (window strides lo hi : Fin s.rank → ℕ) (x : FVec Ideal s .f32) (i : u.Idx → Ideal .f32)
    (h : s.ReduceWindows window strides lo hi t) (hu : 0 < u.numel) (j : t.Idx) :
    (Host.reduceWindowAdd window strides lo hi x i h hu j : EReal) = i (Shape.Idx.first hu) + ∑ p : (⟨s.rank, window⟩ : Shape).Idx,
      if hin : ∀ q, lo q ≤ (j (q.cast h.1.symm)).val * strides q + (p q).val ∧ (j (q.cast h.1.symm)).val * strides q + (p q).val - lo q < s.size q
      then (x fun q => ⟨(j (q.cast h.1.symm)).val * strides q + (p q).val - lo q, (hin q).2⟩ : EReal) else i (Shape.Idx.first hu) := by
  unfold Host.reduceWindowAdd
  rw [Ideal.hostReduceWindowAdd_def]
  unfold Ideal.hostReduceWindowAdd Host.reduceWindow
  dsimp only
  rw [foldl_add, ← Fin.sum_univ_def]
  congr 1
  refine (Finset.sum_congr rfl fun m _ => ?_).trans (Equiv.sum_comp (⟨s.rank, window⟩ : Shape).rowMajor.symm (fun p : (⟨s.rank, window⟩ : Shape).Idx =>
    if hin : ∀ q, lo q ≤ (j (q.cast h.1.symm)).val * strides q + (p q).val ∧ (j (q.cast h.1.symm)).val * strides q + (p q).val - lo q < s.size q
      then (x fun q => ⟨(j (q.cast h.1.symm)).val * strides q + (p q).val - lo q, (hin q).2⟩ : EReal) else i (Shape.Idx.first hu)))
  congr

theorem sum_row (n : ℕ) (F : (⟨4, ![1, 1, 1, n]⟩ : Shape).Idx → EReal) : ∑ p, F p = ∑ k : Fin n, F (ix4 0 0 0 k) := by
  rw [sum_idx4]
  simp

section
variable {a b n : ℕ} {X : FVec Ideal ⟨4, ![a, b, n, 2048]⟩ .f32} {f : ℕ → ℕ → ℕ → ℕ → ℝ}

/-- The sums from each place to the end of its row. -/
theorem sufsum4 {u : Shape} (i : u.Idx → Ideal .f32) (hw) (hu : 0 < u.numel) (hi : (i (Shape.Idx.first hu) : EReal) = 0) (h : Is4 X f) :
    Is4 (a := a) (b := b) (c := n) (d := 2048)
      (Host.reduceWindowAdd (t := ⟨4, ![a, b, n, 2048]⟩) ![1, 1, 1, 2048] ![1, 1, 1, 1] ![0, 0, 0, 0] ![0, 0, 0, 2047] X i hw hu)
      (fun r s t l => ∑ k ∈ Finset.range 2048, if l ≤ k then f r s t k else 0) := fun r s t l => by
  rw [window_apply, hi, zero_add]
  refine (sum_row 2048 _).trans ?_
  have e : ∀ k : Fin 2048, (if hin : ∀ q : Fin 4, ((![0, 0, 0, 0] : Fin 4 → ℕ) q) ≤ ((ix4 r s t l : (⟨4, ![a, b, n, 2048]⟩ : Shape).Idx) q).val * (![1, 1, 1, 1] : Fin 4 → ℕ) q + ((ix4 0 0 0 k : (⟨4, ![1, 1, 1, 2048]⟩ : Shape).Idx) q).val
      ∧ ((ix4 r s t l : (⟨4, ![a, b, n, 2048]⟩ : Shape).Idx) q).val * (![1, 1, 1, 1] : Fin 4 → ℕ) q + ((ix4 0 0 0 k : (⟨4, ![1, 1, 1, 2048]⟩ : Shape).Idx) q).val - (![0, 0, 0, 0] : Fin 4 → ℕ) q < (⟨4, ![a, b, n, 2048]⟩ : Shape).size q
      then (X (fun q => ⟨((ix4 r s t l : (⟨4, ![a, b, n, 2048]⟩ : Shape).Idx) q).val * (![1, 1, 1, 1] : Fin 4 → ℕ) q + ((ix4 0 0 0 k : (⟨4, ![1, 1, 1, 2048]⟩ : Shape).Idx) q).val - (![0, 0, 0, 0] : Fin 4 → ℕ) q, (hin q).2⟩) : EReal) else 0)
      = (((if (l : ℕ) + k < 2048 then f r s t (l + k) else 0 : ℝ)) : EReal) := fun k => by
    by_cases hk : (l : ℕ) + k < 2048
    · rw [dif_pos, if_pos hk]
      · rw [← h r s t ⟨l + k, hk⟩]
        congr 1
        funext q
        fin_cases q <;> simp [ix4]
      · intro q
        fin_cases q <;> simp [ix4] <;> omega
    · rw [dif_neg, if_neg hk, EReal.coe_zero]
      intro hh
      have := (hh 3).2
      simp [ix4] at this
      omega
  refine (Finset.sum_congr rfl fun k _ => e k).trans ?_
  refine (sum_fin 2048 fun k => if (l : ℕ) + k < 2048 then f r s t (l + k) else 0).trans (congrArg _ ?_)
  beta_reduce
  rw [← Finset.sum_filter, ← Finset.sum_filter]
  refine Finset.sum_nbij' (fun k => l + k) (fun k => k - l) ?_ ?_ ?_ ?_ ?_ <;> intro k hk <;> simp only [Finset.mem_filter, Finset.mem_range] at hk ⊢ <;> first | omega | rfl

/-- The sums from the start of each row to each place. -/
theorem presum4 {u : Shape} (i : u.Idx → Ideal .f32) (hw) (hu : 0 < u.numel) (hi : (i (Shape.Idx.first hu) : EReal) = 0) (h : Is4 X f) :
    Is4 (a := a) (b := b) (c := n) (d := 2048)
      (Host.reduceWindowAdd (t := ⟨4, ![a, b, n, 2048]⟩) ![1, 1, 1, 2048] ![1, 1, 1, 1] ![0, 0, 0, 2047] ![0, 0, 0, 0] X i hw hu)
      (fun r s t l => ∑ k ∈ Finset.range (l + 1), f r s t k) := fun r s t l => by
  rw [window_apply, hi, zero_add]
  refine (sum_row 2048 _).trans ?_
  have e : ∀ k : Fin 2048, (if hin : ∀ q : Fin 4, ((![0, 0, 0, 2047] : Fin 4 → ℕ) q) ≤ ((ix4 r s t l : (⟨4, ![a, b, n, 2048]⟩ : Shape).Idx) q).val * (![1, 1, 1, 1] : Fin 4 → ℕ) q + ((ix4 0 0 0 k : (⟨4, ![1, 1, 1, 2048]⟩ : Shape).Idx) q).val
      ∧ ((ix4 r s t l : (⟨4, ![a, b, n, 2048]⟩ : Shape).Idx) q).val * (![1, 1, 1, 1] : Fin 4 → ℕ) q + ((ix4 0 0 0 k : (⟨4, ![1, 1, 1, 2048]⟩ : Shape).Idx) q).val - (![0, 0, 0, 2047] : Fin 4 → ℕ) q < (⟨4, ![a, b, n, 2048]⟩ : Shape).size q
      then (X (fun q => ⟨((ix4 r s t l : (⟨4, ![a, b, n, 2048]⟩ : Shape).Idx) q).val * (![1, 1, 1, 1] : Fin 4 → ℕ) q + ((ix4 0 0 0 k : (⟨4, ![1, 1, 1, 2048]⟩ : Shape).Idx) q).val - (![0, 0, 0, 2047] : Fin 4 → ℕ) q, (hin q).2⟩) : EReal) else 0)
      = (((if 2047 ≤ (l : ℕ) + k then f r s t (l + k - 2047) else 0 : ℝ)) : EReal) := fun k => by
    have hk' := k.isLt
    have hl' := l.isLt
    by_cases hk : 2047 ≤ (l : ℕ) + k
    · rw [dif_pos, if_pos hk]
      · rw [← h r s t ⟨l + k - 2047, by omega⟩]
        congr 1
        funext q
        fin_cases q <;> simp [ix4]
      · intro q
        fin_cases q <;> simp [ix4] <;> omega
    · rw [dif_neg, if_neg hk, EReal.coe_zero]
      intro hh
      have := (hh 3).1
      simp [ix4] at this
      omega
  refine (Finset.sum_congr rfl fun k _ => e k).trans ?_
  refine (sum_fin 2048 fun k => if 2047 ≤ (l : ℕ) + k then f r s t (l + k - 2047) else 0).trans (congrArg _ ?_)
  beta_reduce
  rw [← Finset.sum_filter]
  have hl' := l.isLt
  refine Finset.sum_nbij' (fun k => l + k - 2047) (fun k => k + 2047 - l) ?_ ?_ ?_ ?_ ?_ <;> intro k hk <;> simp only [Finset.mem_filter, Finset.mem_range] at hk ⊢ <;> first | omega | rfl

end

end Cert.Attn
-- ==== Proof.Glob.lean ====
module

public import proofs.«01_k».proof.Proof.Ops

/-! # The attention over real numbers

Of the rows of the projected tokens and of the incoming gradient, read as real numbers: the stick-breaking attention's
weights, its result, and the gradients, head by head over whole sequences. -/

set_option maxRecDepth 16384

@[expose] public section

noncomputable section

open Idealize.ShloMosaic Idealize.ShloMosaic.TcCoe Idealize.SL.Sem

namespace Cert.Attn

namespace Whole

variable (H D : ℕ → ℕ → ℝ)

/-- The scaled query of batch `b`, row `t`, head `h`. -/
def q (b t h c : ℕ) : ℝ := H (2048 * b + t) (64 * h + c) * (1 / 8)
/-- The key. -/
def k (b t h c : ℕ) : ℝ := H (2048 * b + t) (1024 + (64 * h + c))
/-- The value. -/
def v (b t h c : ℕ) : ℝ := H (2048 * b + t) (2048 + (64 * h + c))
/-- The gate's argument. -/
def z (r c : ℕ) : ℝ := H r (3072 + c)
/-- The logit. -/
def l (b h t s : ℕ) : ℝ := ∑ c ∈ Finset.range 64, q H b t h c * k H b s h c
/-- The softplus of the logit where the key precedes the query. -/
def sp (b h t s : ℕ) : ℝ := if s < t then spR (l H b h t s) else 0
/-- Its sum over the keys from one on. -/
def suf (b h t s : ℕ) : ℝ := ∑ k ∈ Finset.range 2048, if s ≤ k then sp H b h t k else 0
/-- The attention weight. -/
def a (b h t s : ℕ) : ℝ := if s < t then Real.exp (l H b h t s - suf H b h t s) else 0
/-- The attention's result before the gate. -/
def o (b h t c : ℕ) : ℝ := ∑ s ∈ Finset.range 2048, v H b s h c * a H b h t s
/-- The gradient that passes the gate. -/
def d (r c : ℕ) : ℝ := D r c * (z H r c * (1 + Real.exp (-z H r c))⁻¹)
/-- The weight times its gradient. -/
def g (b h t s : ℕ) : ℝ := a H b h t s * ∑ c ∈ Finset.range 64, d H D (2048 * b + t) (64 * h + c) * v H b s h c
/-- The gradient of the logit. -/
def dl (b h t s : ℕ) : ℝ :=
  if s < t then g H D b h t s - (g H D b h t s + ∑ k ∈ Finset.range s, g H D b h t k) * sgR (l H b h t s) else 0
/-- The gradient of the query. -/
def dq (b t h c : ℕ) : ℝ := (∑ s ∈ Finset.range 2048, dl H D b h t s * k H b s h c) * (1 / 8)
/-- The gradient of the key. -/
def dk (b s h c : ℕ) : ℝ := ∑ t ∈ Finset.range 2048, dl H D b h t s * q H b t h c
/-- The gradient of the value. -/
def dv (b s h c : ℕ) : ℝ := ∑ t ∈ Finset.range 2048, a H b h t s * d H D (2048 * b + t) (64 * h + c)

end Whole

end Cert.Attn
-- ==== Proof.Ref.lean ====
module

public import proofs.«01_k».proof.Proof.Glob
public import proofs.«01_k».proof.Proof.Gen.ReferenceIdeal.Run

/-! # The reference on finite arrays

Each named term of the reference, of arguments whose elements are real numbers, as the function over real numbers it computes. -/

set_option maxRecDepth 16384

@[expose] public section

noncomputable section

open Idealize.ShloMosaic Idealize.ShloMosaic.TcCoe Idealize.SL.Sem Idealize.ShloMosaic.StableHlo

namespace Cert.Attn.Ref

open Cert.Attn Cert.ReferenceIdeal Cert.ReferenceIdeal.Gen Cert.ReferenceIdeal.Value

variable {V0 : Valuation τ sig (Elt Ideal)} {H D : ℕ → ℕ → ℝ}

/-- The elements of the projected tokens that the attention reads are real numbers. -/
def Fin0 (V0 : Valuation τ sig (Elt Ideal)) (H : ℕ → ℕ → ℝ) : Prop :=
  ∀ (r : Fin 4096) (c : ℕ) (h : c < 4096), (V0 (Proc.devRef .tc main_arg0) (ix2 r ⟨c, by omega⟩) : EReal) = ((H r c : ℝ) : EReal)

theorem ofBits_eighth : Ideal.ofBits .f32 0x3E000000#32 = ((1 / 8 : ℝ) : EReal) := by
  simp [Ideal.ofBits, Ideal.ieee, -EReal.coe_mul]; norm_num

theorem v4 (h : Fin0 V0 H) : Is2 (a := 4096) (b := 1024) (res_main_v4 V0) (Whole.z H) := fun r c => by
  refine Eq.trans ?_ (h r (3072 + c) (by omega))
  pointwise [res_main_v4, res_main_v0]

theorem v6 (h : Fin0 V0 H) : Is4 (a := 2) (b := 2048) (c := 16) (d := 64) (res_main_v6 V0) (Whole.k H) := fun b t e c => by
  refine Eq.trans ?_ (h ⟨2048 * b + t, by omega⟩ (1024 + (64 * e + c)) (by omega))
  pointwise [res_main_v6, res_main_v0]
  congr 2 <;> apply Fin.ext <;> dsimp only <;> omega

theorem v7 (h : Fin0 V0 H) : Is4 (a := 2) (b := 2048) (c := 16) (d := 64) (res_main_v7 V0) (Whole.v H) := fun b t e c => by
  refine Eq.trans ?_ (h ⟨2048 * b + t, by omega⟩ (2048 + (64 * e + c)) (by omega))
  pointwise [res_main_v7, res_main_v0]
  congr 2 <;> apply Fin.ext <;> dsimp only <;> omega

theorem v9 (h : Fin0 V0 H) : Is4 (a := 2) (b := 2048) (c := 16) (d := 64) (res_main_v9 V0) (Whole.q H) := fun b t e c => by
  unfold Whole.q
  rw [EReal.coe_mul]
  refine Eq.trans ?_ (congrArg (· * _) (h ⟨2048 * b + t, by omega⟩ ((64 * e + c)) (by omega)))
  pointwise [res_main_v9, res_main_v0]
  rw [ofBits_eighth]
  congr 3 <;> apply Fin.ext <;> dsimp only <;> omega

/-- A sum of products of real numbers. -/
theorem dot_fin (n : ℕ) (X Y : Fin n → EReal) (f g : ℕ → ℝ) (h : ∀ k, X k = ((f k : ℝ) : EReal)) (e : ∀ k, Y k = ((g k : ℝ) : EReal)) :
    ∑ k, X k * Y k = ((∑ k ∈ Finset.range n, f k * g k : ℝ) : EReal) :=
  (Finset.sum_congr rfl fun k _ => by rw [h, e, ← EReal.coe_mul]).trans (sum_fin n fun k => f k * g k)

/-- Queries against keys. -/
theorem dot_logit {X : FVec Ideal S2x2048x16x64 .f32} {Y : FVec Ideal S2x2048x16x64 .f32} {f g : ℕ → ℕ → ℕ → ℕ → ℝ} (h : Is4 (a := 2) (b := 2048) (c := 16) (d := 64) X f) (k : Is4 (a := 2) (b := 2048) (c := 16) (d := 64) Y g) :
    Is4 (a := 2) (b := 16) (c := 2048) (d := 2048) (Host.dotGeneral dot_S2x2048x16x64_S2x2048x16x64_S2x16x2048x2048_3_3_1_1_02_02 none X Y : FVec Ideal S2x16x2048x2048 .f32)
      (fun b e t s => ∑ j ∈ Finset.range 64, f b t e j * g b s e j) := fun b e t s => by
  refine Eq.trans ?_ (dot_fin 64 _ _ _ _ (fun j => h b t e j) (fun j => k b s e j))
  pointwise

/-- Values against weights. -/
theorem dot_out {X : FVec Ideal S2x2048x16x64 .f32} {Y : FVec Ideal S2x16x2048x2048 .f32} {f g : ℕ → ℕ → ℕ → ℕ → ℝ} (h : Is4 (a := 2) (b := 2048) (c := 16) (d := 64) X f) (k : Is4 (a := 2) (b := 16) (c := 2048) (d := 2048) Y g) :
    Is4 (a := 2) (b := 16) (c := 64) (d := 2048) (Host.dotGeneral dot_S2x2048x16x64_S2x16x2048x2048_S2x16x64x2048_1_3_3_2_02_01 none X Y : FVec Ideal S2x16x64x2048 .f32)
      (fun b e c t => ∑ j ∈ Finset.range 2048, f b j e c * g b e t j) := fun b e c t => by
  refine Eq.trans ?_ (dot_fin 2048 _ _ _ _ (fun j => h b j e c) (fun j => k b e t j))
  pointwise

/-- The incoming gradient against the values. -/
theorem dot_da {X : FVec Ideal S2x16x64x2048 .f32} {Y : FVec Ideal S2x2048x16x64 .f32} {f g : ℕ → ℕ → ℕ → ℕ → ℝ} (h : Is4 (a := 2) (b := 16) (c := 64) (d := 2048) X f) (k : Is4 (a := 2) (b := 2048) (c := 16) (d := 64) Y g) :
    Is4 (a := 2) (b := 16) (c := 2048) (d := 2048) (Host.dotGeneral dot_S2x16x64x2048_S2x2048x16x64_S2x16x2048x2048_2_3_3_1_01_02 none X Y : FVec Ideal S2x16x2048x2048 .f32)
      (fun b e t s => ∑ j ∈ Finset.range 64, f b e j t * g b s e j) := fun b e t s => by
  refine Eq.trans ?_ (dot_fin 64 _ _ _ _ (fun j => h b e j t) (fun j => k b s e j))
  pointwise

/-- The gradient of the logits against the keys. -/
theorem dot_dq {X : FVec Ideal S2x16x2048x2048 .f32} {Y : FVec Ideal S2x2048x16x64 .f32} {f g : ℕ → ℕ → ℕ → ℕ → ℝ} (h : Is4 (a := 2) (b := 16) (c := 2048) (d := 2048) X f) (k : Is4 (a := 2) (b := 2048) (c := 16) (d := 64) Y g) :
    Is4 (a := 2) (b := 16) (c := 2048) (d := 64) (Host.dotGeneral dot_S2x16x2048x2048_S2x2048x16x64_S2x16x2048x64_3_1_2_3_01_02 none X Y : FVec Ideal S2x16x2048x64 .f32)
      (fun b e t c => ∑ j ∈ Finset.range 2048, f b e t j * g b j e c) := fun b e t c => by
  refine Eq.trans ?_ (dot_fin 2048 _ _ _ _ (fun j => h b e t j) (fun j => k b j e c))
  pointwise

/-- The gradient of the logits against the queries. -/
theorem dot_dk {X : FVec Ideal S2x16x2048x2048 .f32} {Y : FVec Ideal S2x2048x16x64 .f32} {f g : ℕ → ℕ → ℕ → ℕ → ℝ} (h : Is4 (a := 2) (b := 16) (c := 2048) (d := 2048) X f) (k : Is4 (a := 2) (b := 2048) (c := 16) (d := 64) Y g) :
    Is4 (a := 2) (b := 16) (c := 2048) (d := 64) (Host.dotGeneral dot_S2x16x2048x2048_S2x2048x16x64_S2x16x2048x64_2_1_3_3_01_02 none X Y : FVec Ideal S2x16x2048x64 .f32)
      (fun b e s c => ∑ j ∈ Finset.range 2048, f b e j s * g b j e c) := fun b e s c => by
  refine Eq.trans ?_ (dot_fin 2048 _ _ _ _ (fun j => h b e j s) (fun j => k b j e c))
  pointwise

/-- The incoming gradient against the weights. -/
theorem dot_dv {X : FVec Ideal S2x16x64x2048 .f32} {Y : FVec Ideal S2x16x2048x2048 .f32} {f g : ℕ → ℕ → ℕ → ℕ → ℝ} (h : Is4 (a := 2) (b := 16) (c := 64) (d := 2048) X f) (k : Is4 (a := 2) (b := 16) (c := 2048) (d := 2048) Y g) :
    Is4 (a := 2) (b := 16) (c := 64) (d := 2048) (Host.dotGeneral dot_S2x16x64x2048_S2x16x2048x2048_S2x16x64x2048_3_2_2_3_01_01 none X Y : FVec Ideal S2x16x64x2048 .f32)
      (fun b e c s => ∑ j ∈ Finset.range 2048, f b e c j * g b e j s) := fun b e c s => by
  refine Eq.trans ?_ (dot_fin 2048 _ _ _ _ (fun j => h b e c j) (fun j => k b e j s))
  pointwise

theorem zero_is : Is4 (a := 2) (b := 16) (c := 2048) (d := 2048) (broadcastInDim S2x16x2048x2048 ![] bcast_S_S2x16x2048x2048 (constant (F := Ideal) S_ .f32 0x00000000#32) : FVec Ideal S2x16x2048x2048 .f32) (fun _ _ _ _ => 0) := fun b e t s => by
  pointwise
  rw [EReal.coe_zero]

theorem zero_init : ((broadcastInDim S_ ![] bcast_S_S_ (constant (F := Ideal) S_ .f32 0x00000000#32) : FVec Ideal S_ .f32) (Shape.Idx.first h_S_) : EReal) = 0 := by
  pointwise

theorem top_is (j : S2x16x2048x2048.Idx) : ((broadcastInDim S2x16x2048x2048 ![] bcast_S_S2x16x2048x2048 (constant (F := Ideal) S_ .f32 0x7F800000#32) : FVec Ideal S2x16x2048x2048 .f32) j : EReal) = ⊤ := by
  show Ideal.ofBits .f32 0x7F800000#32 = ⊤
  simp [Ideal.ofBits, Ideal.ieee]

theorem mask20 (b : Fin 2) (e : Fin 16) (t s : Fin 2048) : res_main_v20_1 V0 (ix4 b e t s) = if (s : ℕ) < t then 1#1 else 0#1 := by
  pointwise [res_main_v20_1, res_main_v17]
  rw [WordCmp.cmpi_slt_ofNat (by omega) (by omega)]
  by_cases h : (s : ℕ) < t
  · rw [if_pos h, decide_eq_true h]; rfl
  · rw [if_neg h, decide_eq_false h]; rfl

theorem mask26 (b : Fin 2) (e : Fin 16) (t s : Fin 2048) : res_main_v26_1 V0 (ix4 b e t s) = if (s : ℕ) < t then 1#1 else 0#1 := mask20 b e t s

theorem v10 (h : Fin0 V0 H) : Is4 (a := 2) (b := 16) (c := 2048) (d := 2048) (res_main_v10 V0) (Whole.l H) := dot_logit (v9 h) (v6 h)

theorem sp_neg (h : Fin0 V0 H) : Is4 (a := 2) (b := 16) (c := 2048) (d := 2048) (res_main_call3_v1_0 V0) (fun b e t s => spR (-Whole.l H b e t s)) :=
  softplus4 (neg4 (v10 h)) zero_is

theorem sp_pos (h : Fin0 V0 H) : Is4 (a := 2) (b := 16) (c := 2048) (d := 2048) (res_main_call0_v1_0 V0) (fun b e t s => spR (Whole.l H b e t s)) :=
  (softplus4 (neg4 (neg4 (v10 h))) zero_is).congr fun b _ e _ t _ s _ => by simp only [neg_neg]

theorem v20 (h : Fin0 V0 H) : Is4 (a := 2) (b := 16) (c := 2048) (d := 2048) (res_main_v20_0 V0) (fun b e t s => -Whole.sp H b e t s) :=
  (sel4 (fun _ _ t s => s < t) mask20 (neg4 (sp_pos h)) zero_is).congr fun b _ e _ t _ s _ => by
    unfold Whole.sp; split_ifs <;> simp

theorem v25 (h : Fin0 V0 H) : Is4 (a := 2) (b := 16) (c := 2048) (d := 2048) (res_main_v25 V0)
    (fun b e t s => Real.exp (-spR (-Whole.l H b e t s) + ((∑ k ∈ Finset.range 2048, if s ≤ k then -Whole.sp H b e t k else 0) - -Whole.sp H b e t s))) :=
  exp4 (add4 (neg4 (sp_neg h)) (sub4 (sufsum4 _ _ _ zero_init (v20 h)) (v20 h)))

theorem spR_neg (x : ℝ) : spR (-x) = spR x - x := by
  unfold spR
  have : 1 + Real.exp x = Real.exp x * (1 + Real.exp (-x)) := by
    rw [mul_add, ← Real.exp_add]; simp [add_comm]
  rw [this, Real.log_mul (Real.exp_pos x).ne' (one_add_exp_pos _).ne', Real.log_exp]
  ring

theorem exp_sub_spR (x : ℝ) : Real.exp (x - spR x) = sgR x := by
  unfold spR sgR
  rw [Real.exp_sub, Real.exp_log (one_add_exp_pos x), div_eq_iff (one_add_exp_pos x).ne', inv_mul_eq_div, eq_div_iff (one_add_exp_pos _).ne', mul_add, ← Real.exp_add]
  simp [add_comm]

theorem sgR_neg (x : ℝ) : sgR (-x) = 1 - sgR x := by
  unfold sgR
  have h1 := (one_add_exp_pos x).ne'
  have h2 := (one_add_exp_pos (-x)).ne'
  rw [neg_neg, eq_sub_iff_add_eq, ← one_div, ← one_div, div_add_div _ _ h1 h2, div_eq_one_iff_eq (mul_ne_zero h1 h2)]
  have : Real.exp x * Real.exp (-x) = 1 := by rw [← Real.exp_add]; simp
  linear_combination -this

/-- Where the key precedes the query the reference's exponential is the attention weight. -/
theorem weight (b e t s : ℕ) (hs : s < t) :
    Real.exp (-spR (-Whole.l H b e t s) + ((∑ k ∈ Finset.range 2048, if s ≤ k then -Whole.sp H b e t k else 0) - -Whole.sp H b e t s)) = Whole.a H b e t s := by
  unfold Whole.a
  rw [if_pos hs, spR_neg]
  congr 1
  have : (∑ k ∈ Finset.range 2048, if s ≤ k then -Whole.sp H b e t k else 0) = -Whole.suf H b e t s := by
    unfold Whole.suf
    rw [← Finset.sum_neg_distrib]
    exact Finset.sum_congr rfl fun k _ => by split_ifs <;> simp
  rw [this]
  conv_lhs => rw [Whole.sp, if_pos hs]
  ring

theorem v26 (h : Fin0 V0 H) : Is4 (a := 2) (b := 16) (c := 2048) (d := 2048) (res_main_v26_0 V0) (Whole.a H) :=
  (sel4 (fun _ _ t s => s < t) mask26 (v25 h) zero_is).congr fun b _ e _ t _ s _ => by
    by_cases hs : s < t
    · rw [if_pos hs, weight b e t s hs]
    · rw [if_neg hs, Whole.a, if_neg hs]

/-- The result before the gate, row by row. -/
theorem v29 (h : Fin0 V0 H) : Is2 (a := 4096) (b := 1024) (res_main_v29 V0) (fun r c => Whole.o H (r / 2048) (c / 64) (r % 2048) (c % 64)) := fun r c => by
  refine Eq.trans ?_ (dot_out (v7 h) (v26 h) ⟨r / 2048, by omega⟩ ⟨c / 64, by omega⟩ ⟨c % 64, by omega⟩ ⟨r % 2048, by omega⟩)
  have hr : r = ⟨2048 * (r / 2048) + r % 2048, by omega⟩ := Fin.ext (Nat.div_add_mod _ _).symm
  have hc : c = ⟨64 * (c / 64) + c % 64, by omega⟩ := Fin.ext (Nat.div_add_mod _ _).symm
  pointwise [res_main_v29]

/-- The logistic of the gate's argument, as the host takes it. -/
theorem v30_2 (h : Fin0 V0 H) : Is2 (a := 4096) (b := 1024) (res_main_v30_2 V0) (fun r c => (1 + Real.exp (-Whole.z H r c))⁻¹) := fun r c => by
  have hz := v4 h r c
  pointwise [res_main_v30_2]
  rw [hz, ← EReal.coe_neg, Ideal.exp_coe, ← EReal.coe_one, ← EReal.coe_add, EReal.coe_one, div_one_real _ (one_add_exp_pos _)]

/-- The second argument's elements are real numbers. -/
def Fin1 (V0 : Valuation τ sig (Elt Ideal)) (D : ℕ → ℕ → ℝ) : Prop := Is2 (a := 4096) (b := 1024) (V0 (Proc.devRef .tc main_arg1)) D

theorem v32 (h : Fin0 V0 H) (h' : Fin1 V0 D) : Is2 (a := 4096) (b := 1024) (res_main_v32 V0)
    (fun r c => Whole.o H (r / 2048) (c / 64) (r % 2048) (c % 64) * D r c) := fun r c => by
  have h1 := v29 h r c
  have h2 := h' r c
  show @HMul.hMul EReal EReal EReal _ (res_main_v29 V0 (ix2 r c)) (V0 (Proc.devRef .tc main_arg1) (ix2 r c)) = _
  rw [h1, h2, ← EReal.coe_mul]

theorem v36 (h : Fin0 V0 H) (h' : Fin1 V0 D) : Is4 (a := 2) (b := 16) (c := 64) (d := 2048) (res_main_v36 V0)
    (fun b e c t => Whole.d H D (2048 * b + t) (64 * e + c)) := fun b e c t => by
  have hz := v4 h ⟨2048 * b + t, by omega⟩ ⟨64 * e + c, by omega⟩
  have hs := v30_2 h ⟨2048 * b + t, by omega⟩ ⟨64 * e + c, by omega⟩
  have hd := h' ⟨2048 * b + t, by omega⟩ ⟨64 * e + c, by omega⟩
  unfold Whole.d
  dsimp only at hs hz hd
  rw [EReal.coe_mul, EReal.coe_mul, ← hs, ← hz, ← hd]
  have er : (⟨2048 * b + t, by omega⟩ : Fin 4096) = ⟨b * 2048 + t, by omega⟩ := Fin.ext (by dsimp only; omega)
  have ec : (⟨64 * e + c, by omega⟩ : Fin 1024) = ⟨e * 64 + c, by omega⟩ := Fin.ext (by dsimp only; omega)
  rw [er, ec]
  pointwise [res_main_v36, res_main_v30_0]

theorem v41 (h : Fin0 V0 H) (h' : Fin1 V0 D) : Is4 (a := 2) (b := 16) (c := 2048) (d := 2048) (res_main_v41 V0) (Whole.g H D) :=
  (mul4 (sel4 (fun _ _ t s => s < t) mask26 (dot_da (v36 h h') (v7 h)) zero_is) (v25 h)).congr fun b _ e _ t _ s _ => by
    unfold Whole.g
    by_cases hs : s < t
    · rw [if_pos hs, weight b e t s hs, mul_comm]
    · rw [if_neg hs, Whole.a, if_neg hs, zero_mul, zero_mul]

theorem v49 (h : Fin0 V0 H) (h' : Fin1 V0 D) : Is4 (a := 2) (b := 16) (c := 2048) (d := 2048) (res_main_v49 V0) (Whole.dl H D) :=
  (add4 (neg4 (mul4 (neg4 (v41 h h')) (exp4 (sub4 (guard4 top_is (neg4 (v10 h))) (guard4 top_is (sp_neg h))))))
    (neg4 (neg4 (mul4 (neg4 (sel4 (fun _ _ t s => s < t) mask20 (add4 (neg4 (v41 h h')) (presum4 _ _ _ zero_init (v41 h h'))) zero_is))
      (exp4 (sub4 (guard4 top_is (neg4 (neg4 (v10 h)))) (guard4 top_is (sp_pos h)))))))).congr fun b _ e _ t _ s _ => by
    rw [exp_sub_spR, sgR_neg, neg_neg (Whole.l H b e t s), exp_sub_spR, Finset.sum_range_succ]
    unfold Whole.dl
    by_cases hs : s < t
    · rw [if_pos hs, if_pos hs]; ring
    · rw [if_neg hs, if_neg hs]
      have : Whole.g H D b e t s = 0 := by rw [Whole.g, Whole.a, if_neg hs, zero_mul]
      rw [this]; ring

/-- The gradient of the queries, in the layout of the tokens. -/
def res59 (V0 : Valuation τ sig (Elt Ideal)) : FVec Ideal S4096x1024 .bf16 :=
  truncf .bf16 (shapeCast _ (mulf (transpose S2x2048x16x64 [0, 2, 1, 3] (Host.dotGeneral (φ₁ := .f32) (φ₂ := .f32) dot_S2x16x2048x2048_S2x2048x16x64_S2x16x2048x64_3_1_2_3_01_02 none (res_main_v49 V0) (res_main_v6 V0)) transposes_S2x16x2048x64_S2x2048x16x64_0_2_1_3) (broadcastInDim S2x2048x16x64 ![] bcast_S_S2x2048x16x64 (constant S_ .f32 0x3E000000#32))) shapeCasts_S2x2048x16x64_S4096x1024) bitsLt_bf16_f32
/-- The gradient of the keys. -/
def res60 (V0 : Valuation τ sig (Elt Ideal)) : FVec Ideal S4096x1024 .bf16 :=
  truncf .bf16 (shapeCast _ (transpose S2x2048x16x64 [0, 2, 1, 3] (Host.dotGeneral (φ₁ := .f32) (φ₂ := .f32) dot_S2x16x2048x2048_S2x2048x16x64_S2x16x2048x64_2_1_3_3_01_02 none (res_main_v49 V0) (res_main_v9 V0)) transposes_S2x16x2048x64_S2x2048x16x64_0_2_1_3) shapeCasts_S2x2048x16x64_S4096x1024) bitsLt_bf16_f32
/-- The gradient of the values. -/
def res61 (V0 : Valuation τ sig (Elt Ideal)) : FVec Ideal S4096x1024 .bf16 :=
  truncf .bf16 (shapeCast _ (transpose S2x2048x16x64 [0, 3, 1, 2] (Host.dotGeneral (φ₁ := .f32) (φ₂ := .f32) dot_S2x16x64x2048_S2x16x2048x2048_S2x16x64x2048_3_2_2_3_01_01 none (res_main_v36 V0) (res_main_v26_0 V0)) transposes_S2x16x64x2048_S2x2048x16x64_0_3_1_2) shapeCasts_S2x2048x16x64_S4096x1024) bitsLt_bf16_f32
/-- The gradient of the gate's argument. -/
def res62 (V0 : Valuation τ sig (Elt Ideal)) : FVec Ideal S4096x1024 .bf16 :=
  truncf .bf16 (addf (mulf (res_main_v32 V0) (res_main_v30_2 V0)) (mulf (mulf (res_main_v4 V0) (res_main_v32 V0)) (mulf (res_main_v30_2 V0) (subf (broadcastInDim S4096x1024 ![] bcast_S_S4096x1024 (constant S_ .f32 0x3F800000#32)) (res_main_v30_2 V0))))) bitsLt_bf16_f32

theorem dq_is (h : Fin0 V0 H) (h' : Fin1 V0 D) : Is2 (a := 4096) (b := 1024) (res59 V0) (fun r c => Whole.dq H D (r / 2048) (r % 2048) (c / 64) (c % 64)) := fun r c => by
  unfold Whole.dq
  rw [EReal.coe_mul, ← ofBits_eighth]
  refine Eq.trans ?_ (congrArg (· * _) (dot_dq (v49 h h') (v6 h) ⟨r / 2048, by omega⟩ ⟨c / 64, by omega⟩ ⟨r % 2048, by omega⟩ ⟨c % 64, by omega⟩))
  pointwise [res59]

theorem dk_is (h : Fin0 V0 H) (h' : Fin1 V0 D) : Is2 (a := 4096) (b := 1024) (res60 V0) (fun r c => Whole.dk H D (r / 2048) (r % 2048) (c / 64) (c % 64)) := fun r c => by
  refine Eq.trans ?_ (dot_dk (v49 h h') (v9 h) ⟨r / 2048, by omega⟩ ⟨c / 64, by omega⟩ ⟨r % 2048, by omega⟩ ⟨c % 64, by omega⟩)
  pointwise [res60]

theorem dv_is (h : Fin0 V0 H) (h' : Fin1 V0 D) : Is2 (a := 4096) (b := 1024) (res61 V0) (fun r c => Whole.dv H D (r / 2048) (r % 2048) (c / 64) (c % 64)) := fun r c => by
  have := dot_dv (v36 h h') (v26 h) ⟨r / 2048, by omega⟩ ⟨c / 64, by omega⟩ ⟨c % 64, by omega⟩ ⟨r % 2048, by omega⟩
  refine Eq.trans ?_ (this.trans (congrArg _ (Finset.sum_congr rfl fun k _ => mul_comm _ _)))
  pointwise [res61]

theorem dz_is (h : Fin0 V0 H) (h' : Fin1 V0 D) : Is2 (a := 4096) (b := 1024) (res62 V0)
    (fun r c => Whole.o H (r / 2048) (c / 64) (r % 2048) (c % 64) * D r c * (1 + Real.exp (-Whole.z H r c))⁻¹
      + Whole.z H r c * (Whole.o H (r / 2048) (c / 64) (r % 2048) (c % 64) * D r c) * ((1 + Real.exp (-Whole.z H r c))⁻¹ * (1 - (1 + Real.exp (-Whole.z H r c))⁻¹))) := fun r c => by
  have h1 := v32 h h' r c
  have h2 := v30_2 h r c
  have h3 := v4 h r c
  pointwise [res62]
  rw [h1, h2, h3, ← EReal.coe_one]
  simp only [← EReal.coe_mul, ← EReal.coe_add, ← EReal.coe_sub]

end Cert.Attn.Ref
-- ==== Proof.Host.lean ====
module

public import proofs.«01_k».proof.Proof.Ref
public import proofs.«01_k».proof.Proof.Gen.KernelIdeal.Frame
public import Idealize.ShloMosaic.Lib.StableHlo.Run

/-! # What the attention's call is given

The result before the gate and the suffix sums over blocks of keys, as the host computes them from the projected tokens. -/

set_option maxRecDepth 16384

@[expose] public section

noncomputable section

open Idealize.ShloMosaic Idealize.ShloMosaic.TcCoe Idealize.SL.Sem Idealize.ShloMosaic.StableHlo

namespace Cert.Attn.Host

open Cert.Attn Cert.KernelIdeal Cert.KernelIdeal.Gen

/-- Zeros. -/
def zr : FVec Ideal S2x16x2048x2048 .f32 := broadcastInDim S2x16x2048x2048 ![] bcast_S_S2x16x2048x2048 (constant S_ .f32 0x00000000#32)
/-- The queries before their scale, the keys and the values, by batch, row and head. -/
def hq (x : FVec Ideal S4096x9216 .f32) : FVec Ideal S2x2048x16x64 .f32 :=
  mulf (shapeCast S2x2048x16x64 (extractStridedSlice S4096x1024 ![0, 0] x slices_S4096x9216_S4096x1024_0_0) shapeCasts_S4096x1024_S2x2048x16x64)
    (broadcastInDim S2x2048x16x64 ![] bcast_S_S2x2048x16x64 (constant S_ .f32 0x3E000000#32))
@[inherit_doc hq] def hk (x : FVec Ideal S4096x9216 .f32) : FVec Ideal S2x2048x16x64 .f32 :=
  shapeCast S2x2048x16x64 (extractStridedSlice S4096x1024 ![0, 1024] x slices_S4096x9216_S4096x1024_0_1024) shapeCasts_S4096x1024_S2x2048x16x64
@[inherit_doc hq] def hv (x : FVec Ideal S4096x9216 .f32) : FVec Ideal S2x2048x16x64 .f32 :=
  shapeCast S2x2048x16x64 (extractStridedSlice S4096x1024 ![0, 2048] x slices_S4096x9216_S4096x1024_0_2048) shapeCasts_S4096x1024_S2x2048x16x64
/-- The logits. -/
def hl (x : FVec Ideal S4096x9216 .f32) : FVec Ideal S2x16x2048x2048 .f32 :=
  Host.dotGeneral dot_S2x2048x16x64_S2x2048x16x64_S2x16x2048x2048_3_3_1_1_02_02 none (hq x) (hk x)
/-- The softplus. -/
def spl (y : FVec Ideal S2x16x2048x2048 .f32) : FVec Ideal S2x16x2048x2048 .f32 :=
  select (cmpf .une (subf y zr) (subf y zr)) (addf y zr) (addf (maximumf y zr) (Host.log1p (Host.exp (Host.negf (Host.absf (subf y zr))))))
/-- Where the key precedes the query. -/
def msk : IVec S2x16x2048x2048 1 :=
  broadcastInDim S2x16x2048x2048 ![2, 3] bcast_S2048x2048_S2x16x2048x2048_2_3
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))
/-- Minus the softplus there. -/
def hsp (x : FVec Ideal S4096x9216 .f32) : FVec Ideal S2x16x2048x2048 .f32 := select msk (Host.negf (spl (Host.negf (Host.negf (hl x))))) zr
/-- The attention weights. -/
def ha (x : FVec Ideal S4096x9216 .f32) : FVec Ideal S2x16x2048x2048 .f32 :=
  select msk (Host.exp (addf (Host.negf (spl (Host.negf (hl x)))) (subf (Host.reduceWindowAdd ![1, 1, 1, 2048] ![1, 1, 1, 1] ![0, 0, 0, 0] ![0, 0, 0, 2047] (hsp x)
    (broadcastInDim S_ ![] bcast_S_S_ (constant S_ .f32 0x00000000#32)) reduceWindows_S2x16x2048x2048_S2x16x2048x2048_w1s1p0_0_w1s1p0_0_w1s1p0_0_w2048s1p0_2047 h_S_) (hsp x)))) zr
/-- The result before the gate. -/
def ho (x : FVec Ideal S4096x9216 .f32) : FVec Ideal S4096x1024 .f32 :=
  shapeCast S4096x1024 (transpose S2x2048x16x64 [0, 3, 1, 2] (Host.dotGeneral dot_S2x2048x16x64_S2x16x2048x2048_S2x16x64x2048_1_3_3_2_02_01 none (hv x) (ha x) : FVec Ideal S2x16x64x2048 .f32)
    transposes_S2x16x64x2048_S2x2048x16x64_0_3_1_2) shapeCasts_S2x2048x16x64_S4096x1024
/-- The keys from the end of each block on. -/
def mskc : IVec S2x16x2048x2048x64 1 :=
  broadcastInDim S2x16x2048x2048x64 ![3, 4] bcast_S2048x64_S2x16x2048x2048x64_3_4
    (cmpi .sge (broadcastInDim S2048x64 ![0, 1] bcast_S2048x1_S2048x64_0_1 (broadcastInDim S2048x1 ![0] bcast_S2048_S2048x1_0 (iotaInDim S2048 32 0)))
      (broadcastInDim S2048x64 ![0, 1] bcast_S1x64_S2048x64_0_1 (muli (broadcastInDim S1x64 ![] bcast_S_S1x64 (constantI S_ 32 256#32))
        (addi (broadcastInDim S1x64 ![1] bcast_S64_S1x64_1 (iotaInDim S64 32 0)) (broadcastInDim S1x64 ![] bcast_S_S1x64 (constantI S_ 32 1#32))))))
/-- The softplus summed over them. -/
def hc (y : FVec Ideal S2x16x2048x2048 .f32) : FVec Ideal S2x16x2048x64 .f32 :=
  Host.reduceAdd (select mskc (broadcastInDim S2x16x2048x2048x64 ![0, 1, 2, 3, 4] bcast_S2x16x2048x2048x1_S2x16x2048x2048x64_0_1_2_3_4
      (Host.negf (broadcastInDim S2x16x2048x2048x1 ![0, 1, 2, 3] bcast_S2x16x2048x2048_S2x16x2048x2048x1_0_1_2_3 y)))
    (broadcastInDim S2x16x2048x2048x64 ![] bcast_S_S2x16x2048x2048x64 (constant S_ .f32 0x00000000#32))) (constant S_ .f32 0x00000000#32) reducesTo_S2x16x2048x2048x64_S2x16x2048x64_d3 h_S_
/-- The same in the layout of the call. -/
def hcar (y : FVec Ideal S2x16x2048x64 .f32) : FVec Ideal S8x4096x128 .f32 :=
  shapeCast S8x4096x128 (transpose S8x2x2048x2x64 [1, 0, 3, 2, 4] (shapeCast S2x8x2x2048x64 y shapeCasts_S2x16x2048x64_S2x8x2x2048x64) transposes_S2x8x2x2048x64_S8x2x2048x2x64_1_0_3_2_4)
    shapeCasts_S8x2x2048x2x64_S8x4096x128

section
variable (m : (ℓ : Loc nD τ sig) → Buf (Elt Ideal) ℓ) (c : Dev nD)

theorem V_v46 : V m c main_v46 = (truncf .bf16 (m ((c : Thread nD τ).loc main_arg0) : FVec Ideal S4096x9216 .f32) bitsLt_bf16_f32 : FVec Ideal S4096x9216 .bf16) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, TRef.binary, TRef.nullary, TRef.unary, TRef.ternary, TRef.toBuf, TRef.ofBuf, cast_eq]
  after_results_simp

theorem V_v44 : V m c main_v44 = ho (m ((c : Thread nD τ).loc main_arg0)) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, TRef.binary, TRef.nullary, TRef.unary, TRef.ternary, TRef.toBuf, TRef.ofBuf, cast_eq]
  after_results_simp
  rfl

theorem V_v45 : V m c main_v45 = hcar (hc (hsp (m ((c : Thread nD τ).loc main_arg0)))) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, TRef.binary, TRef.nullary, TRef.unary, TRef.ternary, TRef.toBuf, TRef.ofBuf, cast_eq]
  after_results_simp
  rfl

end

section
variable {x : FVec Ideal S4096x9216 .f32} {H : ℕ → ℕ → ℝ}

/-- The elements of the projected tokens that the attention reads are real numbers. -/
def FinX (x : FVec Ideal S4096x9216 .f32) (H : ℕ → ℕ → ℝ) : Prop :=
  ∀ (r : Fin 4096) (c : ℕ) (h : c < 4096), (x (ix2 r ⟨c, by omega⟩) : EReal) = ((H r c : ℝ) : EReal)

/-- The queries, keys and values among them are. -/
def FinQ (x : FVec Ideal S4096x9216 .f32) (H : ℕ → ℕ → ℝ) : Prop :=
  ∀ (r : Fin 4096) (c : ℕ) (h : c < 3072), (x (ix2 r ⟨c, by omega⟩) : EReal) = ((H r c : ℝ) : EReal)

theorem FinX.q (h : FinX x H) : FinQ x H := fun r c hc => h r c (by omega)

theorem hq_is (h : FinQ x H) : Is4 (a := 2) (b := 2048) (c := 16) (d := 64) (hq x) (Whole.q H) := fun b t e c => by
  unfold Whole.q
  rw [EReal.coe_mul]
  refine Eq.trans ?_ (congrArg (· * _) (h ⟨2048 * b + t, by omega⟩ ((64 * e + c)) (by omega)))
  pointwise [hq]
  rw [Ref.ofBits_eighth]
  congr 3 <;> apply Fin.ext <;> dsimp only <;> omega

theorem hk_is (h : FinQ x H) : Is4 (a := 2) (b := 2048) (c := 16) (d := 64) (hk x) (Whole.k H) := fun b t e c => by
  refine Eq.trans ?_ (h ⟨2048 * b + t, by omega⟩ (1024 + (64 * e + c)) (by omega))
  pointwise [hk]
  congr 2 <;> apply Fin.ext <;> dsimp only <;> omega

theorem hv_is (h : FinQ x H) : Is4 (a := 2) (b := 2048) (c := 16) (d := 64) (hv x) (Whole.v H) := fun b t e c => by
  refine Eq.trans ?_ (h ⟨2048 * b + t, by omega⟩ (2048 + (64 * e + c)) (by omega))
  pointwise [hv]
  congr 2 <;> apply Fin.ext <;> dsimp only <;> omega

theorem zr_is : Is4 (a := 2) (b := 16) (c := 2048) (d := 2048) zr (fun _ _ _ _ => 0) := fun b e t s => by
  pointwise [zr]
  rw [EReal.coe_zero]

theorem zero_init : ((broadcastInDim S_ ![] bcast_S_S_ (constant (F := Ideal) S_ .f32 0x00000000#32) : FVec Ideal S_ .f32) (Shape.Idx.first h_S_) : EReal) = 0 := by
  pointwise

theorem msk_is (b : Fin 2) (e : Fin 16) (t s : Fin 2048) : msk (ix4 b e t s) = if (s : ℕ) < t then 1#1 else 0#1 := by
  pointwise [msk]
  rw [WordCmp.cmpi_slt_ofNat (by omega) (by omega)]
  by_cases h : (s : ℕ) < t
  · rw [if_pos h, decide_eq_true h]; rfl
  · rw [if_neg h, decide_eq_false h]; rfl

theorem hl_is (h : FinQ x H) : Is4 (a := 2) (b := 16) (c := 2048) (d := 2048) (hl x) (Whole.l H) := fun b e t s => by
  refine Eq.trans ?_ (Ref.dot_fin 64 _ _ _ _ (fun j => hq_is h b t e j) (fun j => hk_is h b s e j))
  pointwise [hl]

theorem hsp_is (h : FinQ x H) : Is4 (a := 2) (b := 16) (c := 2048) (d := 2048) (hsp x) (fun b e t s => -Whole.sp H b e t s) :=
  (sel4 (fun _ _ t s => s < t) msk_is (neg4 (softplus4 (neg4 (neg4 (hl_is h))) zr_is)) zr_is).congr fun b _ e _ t _ s _ => by
    unfold Whole.sp; split_ifs <;> simp

theorem ha_is (h : FinQ x H) : Is4 (a := 2) (b := 16) (c := 2048) (d := 2048) (ha x) (Whole.a H) :=
  (sel4 (fun _ _ t s => s < t) msk_is (exp4 (add4 (neg4 (softplus4 (neg4 (hl_is h)) zr_is)) (sub4 (sufsum4 _ _ _ zero_init (hsp_is h)) (hsp_is h)))) zr_is).congr fun b _ e _ t _ s _ => by
    by_cases hs : s < t
    · rw [if_pos hs, Ref.weight b e t s hs]
    · rw [if_neg hs, Whole.a, if_neg hs]

/-- The result before the gate, row by row. -/
theorem ho_is (h : FinQ x H) : Is2 (a := 4096) (b := 1024) (ho x) (fun r c => Whole.o H (r / 2048) (c / 64) (r % 2048) (c % 64)) := fun r c => by
  have := Ref.dot_fin 2048 _ _ (fun j => Whole.v H (r / 2048) j (c / 64) (c % 64)) (fun j => Whole.a H (r / 2048) (c / 64) (r % 2048) j) (fun j => hv_is h ⟨r / 2048, by omega⟩ j ⟨c / 64, by omega⟩ ⟨c % 64, by omega⟩)
    (fun j => ha_is h ⟨r / 2048, by omega⟩ ⟨c / 64, by omega⟩ ⟨r % 2048, by omega⟩ j)
  refine Eq.trans ?_ this
  pointwise [ho]

theorem mskc_is (b : Fin 2) (e : Fin 16) (t s : Fin 2048) (q : Fin 64) : mskc (ix5 b e t s q) = if 256 * ((q : ℕ) + 1) ≤ s then 1#1 else 0#1 := by
  pointwise [mskc]
  show IntOp.cmpi .sge (BitVec.ofNat 32 s) (BitVec.ofNat 32 256 * (BitVec.ofNat 32 q + BitVec.ofNat 32 1)) = _
  rw [← BitVec.ofNat_add, ← BitVec.ofNat_mul, WordCmp.cmpi_sge_ofNat (by omega) (by omega)]
  by_cases h : 256 * ((q : ℕ) + 1) ≤ s
  · rw [if_pos h, decide_eq_true h]; rfl
  · rw [if_neg h, decide_eq_false h]; rfl

theorem hc_is {y : FVec Ideal S2x16x2048x2048 .f32} {f : ℕ → ℕ → ℕ → ℕ → ℝ} (h : Is4 (a := 2) (b := 16) (c := 2048) (d := 2048) y f) :
    Is4 (a := 2) (b := 16) (c := 2048) (d := 64) (hc y) (fun b e t q => ∑ s ∈ Finset.range 2048, if 256 * (q + 1) ≤ s then -f b e t s else 0) := fun b e t q => by
  refine Eq.trans ?_ (sum_fin 2048 fun s => if 256 * ((q : ℕ) + 1) ≤ s then -f b e t s else 0)
  pointwise [hc]
  refine Finset.sum_congr rfl fun s _ => ?_
  rw [mskc_is]
  by_cases hs : 256 * ((q : ℕ) + 1) ≤ s
  · rw [if_pos hs, if_pos hs]
    refine (if_pos rfl).trans ?_
    rw [h b e t s, ← EReal.coe_neg]
  · rw [if_neg hs, if_neg hs]
    refine (if_neg (by decide)).trans ?_
    rw [EReal.coe_zero]

/-- The sums over the keys from the end of each block on, as the call reads them. -/
theorem hcar_is {y : FVec Ideal S2x16x2048x64 .f32} {f : ℕ → ℕ → ℕ → ℕ → ℝ} (h : Is4 (a := 2) (b := 16) (c := 2048) (d := 64) y f) :
    Is3 (a := 8) (b := 4096) (c := 128) (hcar y) (fun p r j => f (r / 2048) (2 * p + j / 64) (r % 2048) (j % 64)) := fun p r j => by
  refine Eq.trans ?_ (h ⟨r / 2048, by omega⟩ ⟨2 * p + j / 64, by omega⟩ ⟨r % 2048, by omega⟩ ⟨j % 64, by omega⟩)
  pointwise [hcar]
  have : (⟨p * 2 + j / 64, by omega⟩ : Fin 16) = ⟨2 * p + j / 64, by omega⟩ := Fin.ext (by dsimp only; omega)
  rw [this]
end

end Cert.Attn.Host
-- ==== Proof.Pt.lean ====
module

public import proofs.«01_k».proof.Proof.Finite

/-! # The block's lines at finite values

Each line of the block, its operands finite, is the matrix of real numbers that the same formula gives. -/

set_option maxRecDepth 16384

@[expose] public section

noncomputable section

open Idealize.ShloMosaic Idealize.ShloMosaic.TcCoe Idealize.SL.Sem
open Finset (range)

namespace Cert.Attn

open Cert.KernelIdeal Cert.KernelIdeal.Gen

theorem sel_slt {α : Type} {a b : ℕ} (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb]
  by_cases h : a < b <;> simp [h, Scalar.select]

theorem sel_eq {α : Type} {a b : ℕ} (ha : a < 2 ^ 32) (hb : b < 2 ^ 32) (x y : α) :
    Scalar.select (IntOp.cmpi .eq (BitVec.ofNat 32 a) (BitVec.ofNat 32 b)) x y = if a = b then x else y := by
  rw [WordCmp.cmpi_eq_ofNat ha hb]
  by_cases h : a = b <;> simp [h, Scalar.select]

theorem coe_ite (p : Prop) [Decidable p] (x : ℝ) : (if p then (x : EReal) else 0) = ((if p then x else 0 : ℝ) : EReal) := by
  split_ifs <;> rfl

theorem bit_slt {a b : ℕ} (ha : a < 2 ^ 31) (hb : b < 2 ^ 31) :
    FloatOps.sitofp (F := Ideal) FTy.f32 (BitVec.setWidth 32 (IntOp.cmpi .slt (BitVec.ofNat 32 a) (BitVec.ofNat 32 b)))
      = (((if a < b then 1 else 0 : ℝ)) : EReal) := by
  rw [WordCmp.cmpi_slt_ofNat ha hb]
  by_cases h : a < b
  · rw [if_pos h, decide_eq_true h]; show ((((1 : ℤ)) : ℝ) : EReal) = _; norm_num
  · rw [if_neg h, decide_eq_false h]; show ((((0 : ℤ)) : ℝ) : EReal) = _; norm_num

theorem bit_sgt {a b : ℕ} (ha : a < 2 ^ 31) (hb : b < 2 ^ 31) :
    FloatOps.sitofp (F := Ideal) FTy.f32 (BitVec.setWidth 32 (IntOp.cmpi .sgt (BitVec.ofNat 32 a) (BitVec.ofNat 32 b)))
      = (((if b < a then 1 else 0 : ℝ)) : EReal) := by
  rw [WordCmp.cmpi_sgt_ofNat ha hb]
  by_cases h : b < a
  · rw [if_pos h, decide_eq_true h]; show ((((1 : ℤ)) : ℝ) : EReal) = _; norm_num
  · rw [if_neg h, decide_eq_false h]; show ((((0 : ℤ)) : ℝ) : EReal) = _; norm_num

/-- The 0/1 matrix of the later keys of a block, twice. -/
theorem after_is : Is2 (k0_pay57 (F := Ideal)) (fun k s => if s < k % 256 then 1 else 0) := by
  intro k s
  pointwise [k0_pay57]
  by_cases h : (k : ℕ) < 256
  · rw [dif_pos h, bit_sgt (by omega) (by omega), Nat.mod_eq_of_lt h]
  · rw [dif_neg h, bit_sgt (by omega) (by omega)]
    have : (k : ℕ) % 256 = k - 256 := by omega
    rw [this]

/-- The 0/1 matrix of the earlier keys of a block, twice. -/
theorem before_is : Is2 (k0_pay58 (F := Ideal)) (fun k s => if k % 256 < s then 1 else 0) := by
  intro k s
  pointwise [k0_pay58]
  by_cases h : (k : ℕ) < 256
  · rw [dif_pos h, bit_slt (by omega) (by omega), Nat.mod_eq_of_lt h]
  · rw [dif_neg h, bit_slt (by omega) (by omega)]
    have : (k : ℕ) % 256 = k - 256 := by omega
    rw [this]

/-! ## 1024 rows -/

theorem lg1024_is {q : FVec Ideal S1024x64 .bf16} {ks : Vec Ideal S256x64 .bf16} {Q K : ℕ → ℕ → ℝ} (hq : Is2 q Q) (hk : Is2 ks K) :
    Is2 (lg1024 (F := Ideal) q ks) (fun r s => ∑ c ∈ range 64, Q r c * K s c) := by
  intro r s
  have e : lg1024 (F := Ideal) q ks (ix2 r s) = ∑ k : Fin 64, q (ix2 r k) * ks (ix2 s k) := by pointwise [lg1024]
  rw [e, ← sum_fin]
  exact Finset.sum_congr rfl fun k _ => by rw [hq, hk, EReal.coe_mul]

theorem ex1024_is {l : FVec Ideal S1024x256 .f32} {L : ℕ → ℕ → ℝ} (hl : Is2 l L) :
    Is2 (ex1024 (F := Ideal) l) (fun r s => Real.exp (-|L r s|)) := by
  intro r s
  pointwise [ex1024]
  rw [hl]; exact ex_real _

theorem ox1024_at (l : FVec Ideal S1024x256 .f32) (r : Fin 1024) (s : Fin 256) :
    ox1024 (F := Ideal) l (ix2 r s) = 1 + ex1024 (F := Ideal) l (ix2 r s) := by
  pointwise [ox1024]

theorem sp1024_is {l : FVec Ideal S1024x256 .f32} {L : ℕ → ℕ → ℝ} (hl : Is2 l L) :
    Is2 (sp1024 (F := Ideal) l) (fun r s => spR (L r s)) := by
  intro r s
  have e : sp1024 (F := Ideal) l (ix2 r s) = max (l (ix2 r s)) 0 + Ideal.log (ox1024 (F := Ideal) l (ix2 r s)) := by pointwise [sp1024]
  rw [e, ox1024_at, ex1024_is hl, hl, sp_real]

theorem spm1024_is {l : FVec Ideal S1024x256 .f32} {L : ℕ → ℕ → ℝ} (hl : Is2 l L) :
    Is2 (spm1024 (F := Ideal) l) (fun r s => if s < r then spR (L r s) else 0) := by
  intro r s
  have e : spm1024 (F := Ideal) l (ix2 r s) = Scalar.select (IntOp.cmpi .slt (BitVec.ofNat 32 s) (BitVec.ofNat 32 r)) (sp1024 (F := Ideal) l (ix2 r s)) 0 := by
    pointwise [spm1024, mask1024]
  rw [e, sp1024_is hl, sel_slt (by omega) (by omega)]
  exact coe_ite _ _

theorem car1024_is {x : Vec Ideal S1x1024x128 .f32} {X : ℕ → ℕ → ℕ → ℝ} (hx : Is3 x X) (p : ℕ) (hp : p < 128) :
    Is2 (car1024 (F := Ideal) (BitVec.ofNat 32 p) x) (fun r _ => X 0 r p) := by
  intro r s
  have e : car1024 (F := Ideal) (BitVec.ofNat 32 p) x (ix2 r s)
      = ∑ k : Fin 128, Scalar.select (IntOp.cmpi .eq (BitVec.ofNat 32 k) (BitVec.ofNat 32 p)) (x (ix3 0 r k)) 0 := by pointwise [car1024]
  rw [e]
  rw [Finset.sum_eq_single (⟨p, hp⟩ : Fin 128)]
  · rw [sel_eq (by omega) (by omega), if_pos rfl, hx]; rfl
  · intro k _ hk
    rw [sel_eq (by omega) (by omega), if_neg fun h => hk (Fin.ext h)]
  · intro h; exact absurd (Finset.mem_univ _) h

theorem hl1024_is {x : FVec Ideal S1024x256 .f32} {u : FVec Ideal S512x256 .bf16} {X U : ℕ → ℕ → ℝ} (hx : Is2 x X) (hu : Is2 u U) :
    Is2 (hl1024 (F := Ideal) x u) (fun r s => ∑ k ∈ range 256, X r k * U k s) := by
  intro r s
  have e : hl1024 (F := Ideal) x u (ix2 r s)
      = ∑ k : Fin 256, x (ix2 r k) * u (ix2 (⟨k, by omega⟩ : Fin 512) s)
        + ∑ k : Fin 256, (x (ix2 r k) - x (ix2 r k)) * u (ix2 (⟨256 + k, by omega⟩ : Fin 512) s) := by pointwise [hl1024]
  rw [e, ← sum_fin, Finset.sum_eq_zero (s := Finset.univ) (f := fun k : Fin 256 => (x (ix2 r k) - x (ix2 r k)) * u (ix2 (⟨256 + k, by omega⟩ : Fin 512) s)), add_zero]
  · exact Finset.sum_congr rfl fun k _ => by rw [hx, hu, EReal.coe_mul]
  · intro k _
    rw [hx, ← EReal.coe_sub, sub_self, EReal.coe_zero, zero_mul]

theorem wt1024_is {l sp : FVec Ideal S1024x256 .f32} {x : Vec Ideal S1x1024x128 .f32} {u : FVec Ideal S512x256 .bf16} {L SP U : ℕ → ℕ → ℝ}
    {X : ℕ → ℕ → ℕ → ℝ} (hl : Is2 l L) (hsp : Is2 sp SP) (hx : Is3 x X) (hu : Is2 u U) (p : ℕ) (hp : p < 128) :
    Is2 (wt1024 (F := Ideal) l sp (BitVec.ofNat 32 p) x u)
      (fun r s => Real.exp (L r s - (SP r s + (X 0 r p + ∑ k ∈ range 256, SP r k * U k s)))) := by
  intro r s
  have e : wt1024 (F := Ideal) l sp (BitVec.ofNat 32 p) x u (ix2 r s)
      = Ideal.exp (l (ix2 r s) - (sp (ix2 r s) + (car1024 (F := Ideal) (BitVec.ofNat 32 p) x (ix2 r 0) + hl1024 (F := Ideal) sp u (ix2 r s)))) := by
    pointwise [wt1024]
  rw [e, car1024_is hx p hp, hl1024_is hsp hu, hl, hsp, ← EReal.coe_add, ← EReal.coe_add, ← EReal.coe_sub, Ideal.exp_coe]

theorem wtm1024_is {l : FVec Ideal S1024x256 .f32} {x : Vec Ideal S1x1024x128 .f32} {u : FVec Ideal S512x256 .bf16} {L U : ℕ → ℕ → ℝ}
    {X : ℕ → ℕ → ℕ → ℝ} (hl : Is2 l L) (hx : Is3 x X) (hu : Is2 u U) (p : ℕ) (hp : p < 128) :
    Is2 (wtm1024 (F := Ideal) l (BitVec.ofNat 32 p) x u)
      (fun r s => if s < r then Real.exp (L r s - ((if s < r then spR (L r s) else 0) + (X 0 r p + ∑ k ∈ range 256, (if k < r then spR (L r k) else 0) * U k s))) else 0) := by
  intro r s
  have e : wtm1024 (F := Ideal) l (BitVec.ofNat 32 p) x u (ix2 r s)
      = Scalar.select (IntOp.cmpi .slt (BitVec.ofNat 32 s) (BitVec.ofNat 32 r)) (wt1024 (F := Ideal) l (spm1024 (F := Ideal) l) (BitVec.ofNat 32 p) x u (ix2 r s)) 0 := by
    pointwise [wtm1024, mask1024]
  rw [e, wt1024_is hl (spm1024_is hl) hx hu p hp, sel_slt (by omega) (by omega)]
  by_cases h : (s : ℕ) < r <;> simp [h]

theorem tn1024_is {a : FVec Ideal S1024x256 .f32} {d : FVec Ideal S1024x64 .bf16} {old : Vec Ideal S256x64 .f32} {A D O : ℕ → ℕ → ℝ}
    (ha : Is2 a A) (hd : Is2 d D) (ho : Is2 old O) :
    Is2 (tn1024 (F := Ideal) a d old) (fun s c => O s c + ∑ r ∈ range 1024, A r s * D r c) := by
  intro s c
  have e : tn1024 (F := Ideal) a d old (ix2 s c) = old (ix2 s c) + ∑ k : Fin 1024, a (ix2 k s) * d (ix2 k c) := by pointwise [tn1024]
  rw [e, ho, EReal.coe_add, ← sum_fin]
  exact congrArg _ (Finset.sum_congr rfl fun k _ => by rw [ha, hd, EReal.coe_mul])

theorem nn1024_is {a : FVec Ideal S1024x256 .f32} {ks : Vec Ideal S256x64 .bf16} {old : Vec Ideal S1024x64 .f32} {A K O : ℕ → ℕ → ℝ}
    (ha : Is2 a A) (hk : Is2 ks K) (ho : Is2 old O) :
    Is2 (nn1024 (F := Ideal) a ks old) (fun r c => O r c + ∑ s ∈ range 256, A r s * K s c) := by
  intro r c
  have e : nn1024 (F := Ideal) a ks old (ix2 r c) = old (ix2 r c) + ∑ k : Fin 256, a (ix2 r k) * ks (ix2 k c) := by pointwise [nn1024]
  rw [e, ho, EReal.coe_add, ← sum_fin]
  exact congrArg _ (Finset.sum_congr rfl fun k _ => by rw [ha, hk, EReal.coe_mul])

theorem gr1024_is {a : FVec Ideal S1024x256 .f32} {d : FVec Ideal S1024x64 .bf16} {vs : Vec Ideal S256x64 .bf16} {A D V : ℕ → ℕ → ℝ}
    (ha : Is2 a A) (hd : Is2 d D) (hv : Is2 vs V) :
    Is2 (gr1024 (F := Ideal) a d vs) (fun r s => A r s * ∑ c ∈ range 64, D r c * V s c) := by
  intro r s
  have e : gr1024 (F := Ideal) a d vs (ix2 r s) = a (ix2 r s) * lg1024 (F := Ideal) d vs (ix2 r s) := by pointwise [gr1024]
  rw [e, ha, lg1024_is hd hv, EReal.coe_mul]

theorem cu1024_is {g : FVec Ideal S1024x256 .f32} {u : FVec Ideal S512x256 .bf16} {gc : Vec Ideal S1x1024x1 .f32} {G U : ℕ → ℕ → ℝ} {C : ℕ → ℕ → ℕ → ℝ}
    (hg : Is2 g G) (hu : Is2 u U) (hc : Is3 gc C) :
    Is2 (cu1024 (F := Ideal) g u gc) (fun r s => C 0 r 0 + ∑ k ∈ range 256, G r k * U k s) := by
  intro r s
  have e : cu1024 (F := Ideal) g u gc (ix2 r s) = gc (ix3 0 r 0) + hl1024 (F := Ideal) g u (ix2 r s) := by pointwise [cu1024]
  rw [e, hl1024_is hg hu, hc, EReal.coe_add]; rfl

theorem bt1024_is {l : FVec Ideal S1024x256 .f32} {L : ℕ → ℕ → ℝ} (hl : Is2 l L) :
    Is2 (bt1024 (F := Ideal) l) (fun r s => sgR (L r s)) := by
  intro r s
  have e : bt1024 (F := Ideal) l (ix2 r s) = if 0 ≤ l (ix2 r s) then Ideal.div 1 (ox1024 (F := Ideal) l (ix2 r s))
      else ex1024 (F := Ideal) l (ix2 r s) * Ideal.div 1 (ox1024 (F := Ideal) l (ix2 r s)) := by pointwise [bt1024]
  rw [e, ox1024_at, ex1024_is hl, hl]
  exact bt_real _

theorem dl1024_is {l g c : FVec Ideal S1024x256 .f32} {L G C : ℕ → ℕ → ℝ} (hl : Is2 l L) (hg : Is2 g G) (hc : Is2 c C) :
    Is2 (dl1024 (F := Ideal) l g c) (fun r s => G r s - (G r s + C r s) * sgR (L r s)) := by
  intro r s
  have e : dl1024 (F := Ideal) l g c (ix2 r s) = g (ix2 r s) - (g (ix2 r s) + c (ix2 r s)) * bt1024 (F := Ideal) l (ix2 r s) := by pointwise [dl1024]
  rw [e, bt1024_is hl, hg, hc, ← EReal.coe_add, ← EReal.coe_mul, ← EReal.coe_sub]

theorem dlm1024_is {l g c : FVec Ideal S1024x256 .f32} {L G C : ℕ → ℕ → ℝ} (hl : Is2 l L) (hg : Is2 g G) (hc : Is2 c C) :
    Is2 (dlm1024 (F := Ideal) l g c) (fun r s => if s < r then G r s - (G r s + C r s) * sgR (L r s) else 0) := by
  intro r s
  have e : dlm1024 (F := Ideal) l g c (ix2 r s)
      = Scalar.select (IntOp.cmpi .slt (BitVec.ofNat 32 s) (BitVec.ofNat 32 r)) (dl1024 (F := Ideal) l g c (ix2 r s)) 0 := by
    pointwise [dlm1024, mask1024]
  rw [e, dl1024_is hl hg hc, sel_slt (by omega) (by omega)]
  exact coe_ite _ _

theorem gc1024_is {g c : FVec Ideal S1024x256 .f32} {G C : ℕ → ℕ → ℝ} (hg : Is2 g G) (hc : Is2 c C) :
    Is3 (gc1024 (F := Ideal) g c) (fun _ r _ => C r 255 + G r 255) := by
  intro i r t
  have e : gc1024 (F := Ideal) g c (ix3 i r t) = c (ix2 r 255) + g (ix2 r 255) := by pointwise [gc1024]
  rw [e, hg, hc, EReal.coe_add]; rfl

/-! ## 768 rows -/

theorem lg768_is {q : FVec Ideal S768x64 .bf16} {ks : Vec Ideal S256x64 .bf16} {Q K : ℕ → ℕ → ℝ} (hq : Is2 q Q) (hk : Is2 ks K) :
    Is2 (lg768 (F := Ideal) q ks) (fun r s => ∑ c ∈ range 64, Q r c * K s c) := by
  intro r s
  have e : lg768 (F := Ideal) q ks (ix2 r s) = ∑ k : Fin 64, q (ix2 r k) * ks (ix2 s k) := by pointwise [lg768]
  rw [e, ← sum_fin]
  exact Finset.sum_congr rfl fun k _ => by rw [hq, hk, EReal.coe_mul]

theorem ex768_is {l : FVec Ideal S768x256 .f32} {L : ℕ → ℕ → ℝ} (hl : Is2 l L) :
    Is2 (ex768 (F := Ideal) l) (fun r s => Real.exp (-|L r s|)) := by
  intro r s
  pointwise [ex768]
  rw [hl]; exact ex_real _

theorem ox768_at (l : FVec Ideal S768x256 .f32) (r : Fin 768) (s : Fin 256) :
    ox768 (F := Ideal) l (ix2 r s) = 1 + ex768 (F := Ideal) l (ix2 r s) := by
  pointwise [ox768]

theorem sp768_is {l : FVec Ideal S768x256 .f32} {L : ℕ → ℕ → ℝ} (hl : Is2 l L) :
    Is2 (sp768 (F := Ideal) l) (fun r s => spR (L r s)) := by
  intro r s
  have e : sp768 (F := Ideal) l (ix2 r s) = max (l (ix2 r s)) 0 + Ideal.log (ox768 (F := Ideal) l (ix2 r s)) := by pointwise [sp768]
  rw [e, ox768_at, ex768_is hl, hl, sp_real]

theorem spm768_is {l : FVec Ideal S768x256 .f32} {L : ℕ → ℕ → ℝ} (hl : Is2 l L) :
    Is2 (spm768 (F := Ideal) l) (fun r s => if s < r then spR (L r s) else 0) := by
  intro r s
  have e : spm768 (F := Ideal) l (ix2 r s) = Scalar.select (IntOp.cmpi .slt (BitVec.ofNat 32 s) (BitVec.ofNat 32 r)) (sp768 (F := Ideal) l (ix2 r s)) 0 := by
    pointwise [spm768, mask768]
  rw [e, sp768_is hl, sel_slt (by omega) (by omega)]
  exact coe_ite _ _

theorem car768_is {x : Vec Ideal S1x768x128 .f32} {X : ℕ → ℕ → ℕ → ℝ} (hx : Is3 x X) (p : ℕ) (hp : p < 128) :
    Is2 (car768 (F := Ideal) (BitVec.ofNat 32 p) x) (fun r _ => X 0 r p) := by
  intro r s
  have e : car768 (F := Ideal) (BitVec.ofNat 32 p) x (ix2 r s)
      = ∑ k : Fin 128, Scalar.select (IntOp.cmpi .eq (BitVec.ofNat 32 k) (BitVec.ofNat 32 p)) (x (ix3 0 r k)) 0 := by pointwise [car768]
  rw [e]
  rw [Finset.sum_eq_single (⟨p, hp⟩ : Fin 128)]
  · rw [sel_eq (by omega) (by omega), if_pos rfl, hx]; rfl
  · intro k _ hk
    rw [sel_eq (by omega) (by omega), if_neg fun h => hk (Fin.ext h)]
  · intro h; exact absurd (Finset.mem_univ _) h

theorem hl768_is {x : FVec Ideal S768x256 .f32} {u : FVec Ideal S512x256 .bf16} {X U : ℕ → ℕ → ℝ} (hx : Is2 x X) (hu : Is2 u U) :
    Is2 (hl768 (F := Ideal) x u) (fun r s => ∑ k ∈ range 256, X r k * U k s) := by
  intro r s
  have e : hl768 (F := Ideal) x u (ix2 r s)
      = ∑ k : Fin 256, x (ix2 r k) * u (ix2 (⟨k, by omega⟩ : Fin 512) s)
        + ∑ k : Fin 256, (x (ix2 r k) - x (ix2 r k)) * u (ix2 (⟨256 + k, by omega⟩ : Fin 512) s) := by pointwise [hl768]
  rw [e, ← sum_fin, Finset.sum_eq_zero (s := Finset.univ) (f := fun k : Fin 256 => (x (ix2 r k) - x (ix2 r k)) * u (ix2 (⟨256 + k, by omega⟩ : Fin 512) s)), add_zero]
  · exact Finset.sum_congr rfl fun k _ => by rw [hx, hu, EReal.coe_mul]
  · intro k _
    rw [hx, ← EReal.coe_sub, sub_self, EReal.coe_zero, zero_mul]

theorem wt768_is {l sp : FVec Ideal S768x256 .f32} {x : Vec Ideal S1x768x128 .f32} {u : FVec Ideal S512x256 .bf16} {L SP U : ℕ → ℕ → ℝ}
    {X : ℕ → ℕ → ℕ → ℝ} (hl : Is2 l L) (hsp : Is2 sp SP) (hx : Is3 x X) (hu : Is2 u U) (p : ℕ) (hp : p < 128) :
    Is2 (wt768 (F := Ideal) l sp (BitVec.ofNat 32 p) x u)
      (fun r s => Real.exp (L r s - (SP r s + (X 0 r p + ∑ k ∈ range 256, SP r k * U k s)))) := by
  intro r s
  have e : wt768 (F := Ideal) l sp (BitVec.ofNat 32 p) x u (ix2 r s)
      = Ideal.exp (l (ix2 r s) - (sp (ix2 r s) + (car768 (F := Ideal) (BitVec.ofNat 32 p) x (ix2 r 0) + hl768 (F := Ideal) sp u (ix2 r s)))) := by
    pointwise [wt768]
  rw [e, car768_is hx p hp, hl768_is hsp hu, hl, hsp, ← EReal.coe_add, ← EReal.coe_add, ← EReal.coe_sub, Ideal.exp_coe]

theorem wtm768_is {l : FVec Ideal S768x256 .f32} {x : Vec Ideal S1x768x128 .f32} {u : FVec Ideal S512x256 .bf16} {L U : ℕ → ℕ → ℝ}
    {X : ℕ → ℕ → ℕ → ℝ} (hl : Is2 l L) (hx : Is3 x X) (hu : Is2 u U) (p : ℕ) (hp : p < 128) :
    Is2 (wtm768 (F := Ideal) l (BitVec.ofNat 32 p) x u)
      (fun r s => if s < r then Real.exp (L r s - ((if s < r then spR (L r s) else 0) + (X 0 r p + ∑ k ∈ range 256, (if k < r then spR (L r k) else 0) * U k s))) else 0) := by
  intro r s
  have e : wtm768 (F := Ideal) l (BitVec.ofNat 32 p) x u (ix2 r s)
      = Scalar.select (IntOp.cmpi .slt (BitVec.ofNat 32 s) (BitVec.ofNat 32 r)) (wt768 (F := Ideal) l (spm768 (F := Ideal) l) (BitVec.ofNat 32 p) x u (ix2 r s)) 0 := by
    pointwise [wtm768, mask768]
  rw [e, wt768_is hl (spm768_is hl) hx hu p hp, sel_slt (by omega) (by omega)]
  by_cases h : (s : ℕ) < r <;> simp [h]

theorem tn768_is {a : FVec Ideal S768x256 .f32} {d : FVec Ideal S768x64 .bf16} {old : Vec Ideal S256x64 .f32} {A D O : ℕ → ℕ → ℝ}
    (ha : Is2 a A) (hd : Is2 d D) (ho : Is2 old O) :
    Is2 (tn768 (F := Ideal) a d old) (fun s c => O s c + ∑ r ∈ range 768, A r s * D r c) := by
  intro s c
  have e : tn768 (F := Ideal) a d old (ix2 s c) = old (ix2 s c) + ∑ k : Fin 768, a (ix2 k s) * d (ix2 k c) := by pointwise [tn768]
  rw [e, ho, EReal.coe_add, ← sum_fin]
  exact congrArg _ (Finset.sum_congr rfl fun k _ => by rw [ha, hd, EReal.coe_mul])

theorem nn768_is {a : FVec Ideal S768x256 .f32} {ks : Vec Ideal S256x64 .bf16} {old : Vec Ideal S768x64 .f32} {A K O : ℕ → ℕ → ℝ}
    (ha : Is2 a A) (hk : Is2 ks K) (ho : Is2 old O) :
    Is2 (nn768 (F := Ideal) a ks old) (fun r c => O r c + ∑ s ∈ range 256, A r s * K s c) := by
  intro r c
  have e : nn768 (F := Ideal) a ks old (ix2 r c) = old (ix2 r c) + ∑ k : Fin 256, a (ix2 r k) * ks (ix2 k c) := by pointwise [nn768]
  rw [e, ho, EReal.coe_add, ← sum_fin]
  exact congrArg _ (Finset.sum_congr rfl fun k _ => by rw [ha, hk, EReal.coe_mul])

theorem gr768_is {a : FVec Ideal S768x256 .f32} {d : FVec Ideal S768x64 .bf16} {vs : Vec Ideal S256x64 .bf16} {A D V : ℕ → ℕ → ℝ}
    (ha : Is2 a A) (hd : Is2 d D) (hv : Is2 vs V) :
    Is2 (gr768 (F := Ideal) a d vs) (fun r s => A r s * ∑ c ∈ range 64, D r c * V s c) := by
  intro r s
  have e : gr768 (F := Ideal) a d vs (ix2 r s) = a (ix2 r s) * lg768 (F := Ideal) d vs (ix2 r s) := by pointwise [gr768]
  rw [e, ha, lg768_is hd hv, EReal.coe_mul]

theorem cu768_is {g : FVec Ideal S768x256 .f32} {u : FVec Ideal S512x256 .bf16} {gc : Vec Ideal S1x768x1 .f32} {G U : ℕ → ℕ → ℝ} {C : ℕ → ℕ → ℕ → ℝ}
    (hg : Is2 g G) (hu : Is2 u U) (hc : Is3 gc C) :
    Is2 (cu768 (F := Ideal) g u gc) (fun r s => C 0 r 0 + ∑ k ∈ range 256, G r k * U k s) := by
  intro r s
  have e : cu768 (F := Ideal) g u gc (ix2 r s) = gc (ix3 0 r 0) + hl768 (F := Ideal) g u (ix2 r s) := by pointwise [cu768]
  rw [e, hl768_is hg hu, hc, EReal.coe_add]; rfl

theorem bt768_is {l : FVec Ideal S768x256 .f32} {L : ℕ → ℕ → ℝ} (hl : Is2 l L) :
    Is2 (bt768 (F := Ideal) l) (fun r s => sgR (L r s)) := by
  intro r s
  have e : bt768 (F := Ideal) l (ix2 r s) = if 0 ≤ l (ix2 r s) then Ideal.div 1 (ox768 (F := Ideal) l (ix2 r s))
      else ex768 (F := Ideal) l (ix2 r s) * Ideal.div 1 (ox768 (F := Ideal) l (ix2 r s)) := by pointwise [bt768]
  rw [e, ox768_at, ex768_is hl, hl]
  exact bt_real _

theorem dl768_is {l g c : FVec Ideal S768x256 .f32} {L G C : ℕ → ℕ → ℝ} (hl : Is2 l L) (hg : Is2 g G) (hc : Is2 c C) :
    Is2 (dl768 (F := Ideal) l g c) (fun r s => G r s - (G r s + C r s) * sgR (L r s)) := by
  intro r s
  have e : dl768 (F := Ideal) l g c (ix2 r s) = g (ix2 r s) - (g (ix2 r s) + c (ix2 r s)) * bt768 (F := Ideal) l (ix2 r s) := by pointwise [dl768]
  rw [e, bt768_is hl, hg, hc, ← EReal.coe_add, ← EReal.coe_mul, ← EReal.coe_sub]

theorem dlm768_is {l g c : FVec Ideal S768x256 .f32} {L G C : ℕ → ℕ → ℝ} (hl : Is2 l L) (hg : Is2 g G) (hc : Is2 c C) :
    Is2 (dlm768 (F := Ideal) l g c) (fun r s => if s < r then G r s - (G r s + C r s) * sgR (L r s) else 0) := by
  intro r s
  have e : dlm768 (F := Ideal) l g c (ix2 r s)
      = Scalar.select (IntOp.cmpi .slt (BitVec.ofNat 32 s) (BitVec.ofNat 32 r)) (dl768 (F := Ideal) l g c (ix2 r s)) 0 := by
    pointwise [dlm768, mask768]
  rw [e, dl768_is hl hg hc, sel_slt (by omega) (by omega)]
  exact coe_ite _ _

theorem gc768_is {g c : FVec Ideal S768x256 .f32} {G C : ℕ → ℕ → ℝ} (hg : Is2 g G) (hc : Is2 c C) :
    Is3 (gc768 (F := Ideal) g c) (fun _ r _ => C r 255 + G r 255) := by
  intro i r t
  have e : gc768 (F := Ideal) g c (ix3 i r t) = c (ix2 r 255) + g (ix2 r 255) := by pointwise [gc768]
  rw [e, hg, hc, EReal.coe_add]; rfl

/-! ## 512 rows -/

theorem lg512_is {q : FVec Ideal S512x64 .bf16} {ks : Vec Ideal S256x64 .bf16} {Q K : ℕ → ℕ → ℝ} (hq : Is2 q Q) (hk : Is2 ks K) :
    Is2 (lg512 (F := Ideal) q ks) (fun r s => ∑ c ∈ range 64, Q r c * K s c) := by
  intro r s
  have e : lg512 (F := Ideal) q ks (ix2 r s) = ∑ k : Fin 64, q (ix2 r k) * ks (ix2 s k) := by pointwise [lg512]
  rw [e, ← sum_fin]
  exact Finset.sum_congr rfl fun k _ => by rw [hq, hk, EReal.coe_mul]

theorem ex512_is {l : FVec Ideal S512x256 .f32} {L : ℕ → ℕ → ℝ} (hl : Is2 l L) :
    Is2 (ex512 (F := Ideal) l) (fun r s => Real.exp (-|L r s|)) := by
  intro r s
  pointwise [ex512]
  rw [hl]; exact ex_real _

theorem ox512_at (l : FVec Ideal S512x256 .f32) (r : Fin 512) (s : Fin 256) :
    ox512 (F := Ideal) l (ix2 r s) = 1 + ex512 (F := Ideal) l (ix2 r s) := by
  pointwise [ox512]

theorem sp512_is {l : FVec Ideal S512x256 .f32} {L : ℕ → ℕ → ℝ} (hl : Is2 l L) :
    Is2 (sp512 (F := Ideal) l) (fun r s => spR (L r s)) := by
  intro r s
  have e : sp512 (F := Ideal) l (ix2 r s) = max (l (ix2 r s)) 0 + Ideal.log (ox512 (F := Ideal) l (ix2 r s)) := by pointwise [sp512]
  rw [e, ox512_at, ex512_is hl, hl, sp_real]

theorem spm512_is {l : FVec Ideal S512x256 .f32} {L : ℕ → ℕ → ℝ} (hl : Is2 l L) :
    Is2 (spm512 (F := Ideal) l) (fun r s => if s < r then spR (L r s) else 0) := by
  intro r s
  have e : spm512 (F := Ideal) l (ix2 r s) = Scalar.select (IntOp.cmpi .slt (BitVec.ofNat 32 s) (BitVec.ofNat 32 r)) (sp512 (F := Ideal) l (ix2 r s)) 0 := by
    pointwise [spm512, mask512]
  rw [e, sp512_is hl, sel_slt (by omega) (by omega)]
  exact coe_ite _ _

theorem car512_is {x : Vec Ideal S1x512x128 .f32} {X : ℕ → ℕ → ℕ → ℝ} (hx : Is3 x X) (p : ℕ) (hp : p < 128) :
    Is2 (car512 (F := Ideal) (BitVec.ofNat 32 p) x) (fun r _ => X 0 r p) := by
  intro r s
  have e : car512 (F := Ideal) (BitVec.ofNat 32 p) x (ix2 r s)
      = ∑ k : Fin 128, Scalar.select (IntOp.cmpi .eq (BitVec.ofNat 32 k) (BitVec.ofNat 32 p)) (x (ix3 0 r k)) 0 := by pointwise [car512]
  rw [e]
  rw [Finset.sum_eq_single (⟨p, hp⟩ : Fin 128)]
  · rw [sel_eq (by omega) (by omega), if_pos rfl, hx]; rfl
  · intro k _ hk
    rw [sel_eq (by omega) (by omega), if_neg fun h => hk (Fin.ext h)]
  · intro h; exact absurd (Finset.mem_univ _) h

theorem hl512_is {x : FVec Ideal S512x256 .f32} {u : FVec Ideal S512x256 .bf16} {X U : ℕ → ℕ → ℝ} (hx : Is2 x X) (hu : Is2 u U) :
    Is2 (hl512 (F := Ideal) x u) (fun r s => ∑ k ∈ range 256, X r k * U k s) := by
  intro r s
  have e : hl512 (F := Ideal) x u (ix2 r s)
      = ∑ k : Fin 256, x (ix2 r k) * u (ix2 (⟨k, by omega⟩ : Fin 512) s)
        + ∑ k : Fin 256, (x (ix2 r k) - x (ix2 r k)) * u (ix2 (⟨256 + k, by omega⟩ : Fin 512) s) := by pointwise [hl512]
  rw [e, ← sum_fin, Finset.sum_eq_zero (s := Finset.univ) (f := fun k : Fin 256 => (x (ix2 r k) - x (ix2 r k)) * u (ix2 (⟨256 + k, by omega⟩ : Fin 512) s)), add_zero]
  · exact Finset.sum_congr rfl fun k _ => by rw [hx, hu, EReal.coe_mul]
  · intro k _
    rw [hx, ← EReal.coe_sub, sub_self, EReal.coe_zero, zero_mul]

theorem wt512_is {l sp : FVec Ideal S512x256 .f32} {x : Vec Ideal S1x512x128 .f32} {u : FVec Ideal S512x256 .bf16} {L SP U : ℕ → ℕ → ℝ}
    {X : ℕ → ℕ → ℕ → ℝ} (hl : Is2 l L) (hsp : Is2 sp SP) (hx : Is3 x X) (hu : Is2 u U) (p : ℕ) (hp : p < 128) :
    Is2 (wt512 (F := Ideal) l sp (BitVec.ofNat 32 p) x u)
      (fun r s => Real.exp (L r s - (SP r s + (X 0 r p + ∑ k ∈ range 256, SP r k * U k s)))) := by
  intro r s
  have e : wt512 (F := Ideal) l sp (BitVec.ofNat 32 p) x u (ix2 r s)
      = Ideal.exp (l (ix2 r s) - (sp (ix2 r s) + (car512 (F := Ideal) (BitVec.ofNat 32 p) x (ix2 r 0) + hl512 (F := Ideal) sp u (ix2 r s)))) := by
    pointwise [wt512]
  rw [e, car512_is hx p hp, hl512_is hsp hu, hl, hsp, ← EReal.coe_add, ← EReal.coe_add, ← EReal.coe_sub, Ideal.exp_coe]

theorem wtm512_is {l : FVec Ideal S512x256 .f32} {x : Vec Ideal S1x512x128 .f32} {u : FVec Ideal S512x256 .bf16} {L U : ℕ → ℕ → ℝ}
    {X : ℕ → ℕ → ℕ → ℝ} (hl : Is2 l L) (hx : Is3 x X) (hu : Is2 u U) (p : ℕ) (hp : p < 128) :
    Is2 (wtm512 (F := Ideal) l (BitVec.ofNat 32 p) x u)
      (fun r s => if s < r then Real.exp (L r s - ((if s < r then spR (L r s) else 0) + (X 0 r p + ∑ k ∈ range 256, (if k < r then spR (L r k) else 0) * U k s))) else 0) := by
  intro r s
  have e : wtm512 (F := Ideal) l (BitVec.ofNat 32 p) x u (ix2 r s)
      = Scalar.select (IntOp.cmpi .slt (BitVec.ofNat 32 s) (BitVec.ofNat 32 r)) (wt512 (F := Ideal) l (spm512 (F := Ideal) l) (BitVec.ofNat 32 p) x u (ix2 r s)) 0 := by
    pointwise [wtm512, mask512]
  rw [e, wt512_is hl (spm512_is hl) hx hu p hp, sel_slt (by omega) (by omega)]
  by_cases h : (s : ℕ) < r <;> simp [h]

theorem tn512_is {a : FVec Ideal S512x256 .f32} {d : FVec Ideal S512x64 .bf16} {old : Vec Ideal S256x64 .f32} {A D O : ℕ → ℕ → ℝ}
    (ha : Is2 a A) (hd : Is2 d D) (ho : Is2 old O) :
    Is2 (tn512 (F := Ideal) a d old) (fun s c => O s c + ∑ r ∈ range 512, A r s * D r c) := by
  intro s c
  have e : tn512 (F := Ideal) a d old (ix2 s c) = old (ix2 s c) + ∑ k : Fin 512, a (ix2 k s) * d (ix2 k c) := by pointwise [tn512]
  rw [e, ho, EReal.coe_add, ← sum_fin]
  exact congrArg _ (Finset.sum_congr rfl fun k _ => by rw [ha, hd, EReal.coe_mul])

theorem nn512_is {a : FVec Ideal S512x256 .f32} {ks : Vec Ideal S256x64 .bf16} {old : Vec Ideal S512x64 .f32} {A K O : ℕ → ℕ → ℝ}
    (ha : Is2 a A) (hk : Is2 ks K) (ho : Is2 old O) :
    Is2 (nn512 (F := Ideal) a ks old) (fun r c => O r c + ∑ s ∈ range 256, A r s * K s c) := by
  intro r c
  have e : nn512 (F := Ideal) a ks old (ix2 r c) = old (ix2 r c) + ∑ k : Fin 256, a (ix2 r k) * ks (ix2 k c) := by pointwise [nn512]
  rw [e, ho, EReal.coe_add, ← sum_fin]
  exact congrArg _ (Finset.sum_congr rfl fun k _ => by rw [ha, hk, EReal.coe_mul])

theorem gr512_is {a : FVec Ideal S512x256 .f32} {d : FVec Ideal S512x64 .bf16} {vs : Vec Ideal S256x64 .bf16} {A D V : ℕ → ℕ → ℝ}
    (ha : Is2 a A) (hd : Is2 d D) (hv : Is2 vs V) :
    Is2 (gr512 (F := Ideal) a d vs) (fun r s => A r s * ∑ c ∈ range 64, D r c * V s c) := by
  intro r s
  have e : gr512 (F := Ideal) a d vs (ix2 r s) = a (ix2 r s) * lg512 (F := Ideal) d vs (ix2 r s) := by pointwise [gr512]
  rw [e, ha, lg512_is hd hv, EReal.coe_mul]

theorem cu512_is {g : FVec Ideal S512x256 .f32} {u : FVec Ideal S512x256 .bf16} {gc : Vec Ideal S1x512x1 .f32} {G U : ℕ → ℕ → ℝ} {C : ℕ → ℕ → ℕ → ℝ}
    (hg : Is2 g G) (hu : Is2 u U) (hc : Is3 gc C) :
    Is2 (cu512 (F := Ideal) g u gc) (fun r s => C 0 r 0 + ∑ k ∈ range 256, G r k * U k s) := by
  intro r s
  have e : cu512 (F := Ideal) g u gc (ix2 r s) = gc (ix3 0 r 0) + hl512 (F := Ideal) g u (ix2 r s) := by pointwise [cu512]
  rw [e, hl512_is hg hu, hc, EReal.coe_add]; rfl

theorem bt512_is {l : FVec Ideal S512x256 .f32} {L : ℕ → ℕ → ℝ} (hl : Is2 l L) :
    Is2 (bt512 (F := Ideal) l) (fun r s => sgR (L r s)) := by
  intro r s
  have e : bt512 (F := Ideal) l (ix2 r s) = if 0 ≤ l (ix2 r s) then Ideal.div 1 (ox512 (F := Ideal) l (ix2 r s))
      else ex512 (F := Ideal) l (ix2 r s) * Ideal.div 1 (ox512 (F := Ideal) l (ix2 r s)) := by pointwise [bt512]
  rw [e, ox512_at, ex512_is hl, hl]
  exact bt_real _

theorem dl512_is {l g c : FVec Ideal S512x256 .f32} {L G C : ℕ → ℕ → ℝ} (hl : Is2 l L) (hg : Is2 g G) (hc : Is2 c C) :
    Is2 (dl512 (F := Ideal) l g c) (fun r s => G r s - (G r s + C r s) * sgR (L r s)) := by
  intro r s
  have e : dl512 (F := Ideal) l g c (ix2 r s) = g (ix2 r s) - (g (ix2 r s) + c (ix2 r s)) * bt512 (F := Ideal) l (ix2 r s) := by pointwise [dl512]
  rw [e, bt512_is hl, hg, hc, ← EReal.coe_add, ← EReal.coe_mul, ← EReal.coe_sub]

theorem dlm512_is {l g c : FVec Ideal S512x256 .f32} {L G C : ℕ → ℕ → ℝ} (hl : Is2 l L) (hg : Is2 g G) (hc : Is2 c C) :
    Is2 (dlm512 (F := Ideal) l g c) (fun r s => if s < r then G r s - (G r s + C r s) * sgR (L r s) else 0) := by
  intro r s
  have e : dlm512 (F := Ideal) l g c (ix2 r s)
      = Scalar.select (IntOp.cmpi .slt (BitVec.ofNat 32 s) (BitVec.ofNat 32 r)) (dl512 (F := Ideal) l g c (ix2 r s)) 0 := by
    pointwise [dlm512, mask512]
  rw [e, dl512_is hl hg hc, sel_slt (by omega) (by omega)]
  exact coe_ite _ _

theorem gc512_is {g c : FVec Ideal S512x256 .f32} {G C : ℕ → ℕ → ℝ} (hg : Is2 g G) (hc : Is2 c C) :
    Is3 (gc512 (F := Ideal) g c) (fun _ r _ => C r 255 + G r 255) := by
  intro i r t
  have e : gc512 (F := Ideal) g c (ix3 i r t) = c (ix2 r 255) + g (ix2 r 255) := by pointwise [gc512]
  rw [e, hg, hc, EReal.coe_add]; rfl

/-! ## 256 rows -/

theorem lg256_is {q : FVec Ideal S256x64 .bf16} {ks : Vec Ideal S256x64 .bf16} {Q K : ℕ → ℕ → ℝ} (hq : Is2 q Q) (hk : Is2 ks K) :
    Is2 (lg256 (F := Ideal) q ks) (fun r s => ∑ c ∈ range 64, Q r c * K s c) := by
  intro r s
  have e : lg256 (F := Ideal) q ks (ix2 r s) = ∑ k : Fin 64, q (ix2 r k) * ks (ix2 s k) := by pointwise [lg256]
  rw [e, ← sum_fin]
  exact Finset.sum_congr rfl fun k _ => by rw [hq, hk, EReal.coe_mul]

theorem ex256_is {l : FVec Ideal S256x256 .f32} {L : ℕ → ℕ → ℝ} (hl : Is2 l L) :
    Is2 (ex256 (F := Ideal) l) (fun r s => Real.exp (-|L r s|)) := by
  intro r s
  pointwise [ex256]
  rw [hl]; exact ex_real _

theorem ox256_at (l : FVec Ideal S256x256 .f32) (r : Fin 256) (s : Fin 256) :
    ox256 (F := Ideal) l (ix2 r s) = 1 + ex256 (F := Ideal) l (ix2 r s) := by
  pointwise [ox256]

theorem sp256_is {l : FVec Ideal S256x256 .f32} {L : ℕ → ℕ → ℝ} (hl : Is2 l L) :
    Is2 (sp256 (F := Ideal) l) (fun r s => spR (L r s)) := by
  intro r s
  have e : sp256 (F := Ideal) l (ix2 r s) = max (l (ix2 r s)) 0 + Ideal.log (ox256 (F := Ideal) l (ix2 r s)) := by pointwise [sp256]
  rw [e, ox256_at, ex256_is hl, hl, sp_real]

theorem spm256_is {l : FVec Ideal S256x256 .f32} {L : ℕ → ℕ → ℝ} (hl : Is2 l L) :
    Is2 (spm256 (F := Ideal) l) (fun r s => if s < r then spR (L r s) else 0) := by
  intro r s
  have e : spm256 (F := Ideal) l (ix2 r s) = Scalar.select (IntOp.cmpi .slt (BitVec.ofNat 32 s) (BitVec.ofNat 32 r)) (sp256 (F := Ideal) l (ix2 r s)) 0 := by
    pointwise [spm256, mask256]
  rw [e, sp256_is hl, sel_slt (by omega) (by omega)]
  exact coe_ite _ _

theorem car256_is {x : Vec Ideal S1x256x128 .f32} {X : ℕ → ℕ → ℕ → ℝ} (hx : Is3 x X) (p : ℕ) (hp : p < 128) :
    Is2 (car256 (F := Ideal) (BitVec.ofNat 32 p) x) (fun r _ => X 0 r p) := by
  intro r s
  have e : car256 (F := Ideal) (BitVec.ofNat 32 p) x (ix2 r s)
      = ∑ k : Fin 128, Scalar.select (IntOp.cmpi .eq (BitVec.ofNat 32 k) (BitVec.ofNat 32 p)) (x (ix3 0 r k)) 0 := by pointwise [car256]
  rw [e]
  rw [Finset.sum_eq_single (⟨p, hp⟩ : Fin 128)]
  · rw [sel_eq (by omega) (by omega), if_pos rfl, hx]; rfl
  · intro k _ hk
    rw [sel_eq (by omega) (by omega), if_neg fun h => hk (Fin.ext h)]
  · intro h; exact absurd (Finset.mem_univ _) h

theorem hl256_is {x : FVec Ideal S256x256 .f32} {u : FVec Ideal S512x256 .bf16} {X U : ℕ → ℕ → ℝ} (hx : Is2 x X) (hu : Is2 u U) :
    Is2 (hl256 (F := Ideal) x u) (fun r s => ∑ k ∈ range 256, X r k * U k s) := by
  intro r s
  have e : hl256 (F := Ideal) x u (ix2 r s)
      = ∑ k : Fin 256, x (ix2 r k) * u (ix2 (⟨k, by omega⟩ : Fin 512) s)
        + ∑ k : Fin 256, (x (ix2 r k) - x (ix2 r k)) * u (ix2 (⟨256 + k, by omega⟩ : Fin 512) s) := by pointwise [hl256]
  rw [e, ← sum_fin, Finset.sum_eq_zero (s := Finset.univ) (f := fun k : Fin 256 => (x (ix2 r k) - x (ix2 r k)) * u (ix2 (⟨256 + k, by omega⟩ : Fin 512) s)), add_zero]
  · exact Finset.sum_congr rfl fun k _ => by rw [hx, hu, EReal.coe_mul]
  · intro k _
    rw [hx, ← EReal.coe_sub, sub_self, EReal.coe_zero, zero_mul]

theorem wt256_is {l sp : FVec Ideal S256x256 .f32} {x : Vec Ideal S1x256x128 .f32} {u : FVec Ideal S512x256 .bf16} {L SP U : ℕ → ℕ → ℝ}
    {X : ℕ → ℕ → ℕ → ℝ} (hl : Is2 l L) (hsp : Is2 sp SP) (hx : Is3 x X) (hu : Is2 u U) (p : ℕ) (hp : p < 128) :
    Is2 (wt256 (F := Ideal) l sp (BitVec.ofNat 32 p) x u)
      (fun r s => Real.exp (L r s - (SP r s + (X 0 r p + ∑ k ∈ range 256, SP r k * U k s)))) := by
  intro r s
  have e : wt256 (F := Ideal) l sp (BitVec.ofNat 32 p) x u (ix2 r s)
      = Ideal.exp (l (ix2 r s) - (sp (ix2 r s) + (car256 (F := Ideal) (BitVec.ofNat 32 p) x (ix2 r 0) + hl256 (F := Ideal) sp u (ix2 r s)))) := by
    pointwise [wt256]
  rw [e, car256_is hx p hp, hl256_is hsp hu, hl, hsp, ← EReal.coe_add, ← EReal.coe_add, ← EReal.coe_sub, Ideal.exp_coe]

theorem wtm256_is {l : FVec Ideal S256x256 .f32} {x : Vec Ideal S1x256x128 .f32} {u : FVec Ideal S512x256 .bf16} {L U : ℕ → ℕ → ℝ}
    {X : ℕ → ℕ → ℕ → ℝ} (hl : Is2 l L) (hx : Is3 x X) (hu : Is2 u U) (p : ℕ) (hp : p < 128) :
    Is2 (wtm256 (F := Ideal) l (BitVec.ofNat 32 p) x u)
      (fun r s => if s < r then Real.exp (L r s - ((if s < r then spR (L r s) else 0) + (X 0 r p + ∑ k ∈ range 256, (if k < r then spR (L r k) else 0) * U k s))) else 0) := by
  intro r s
  have e : wtm256 (F := Ideal) l (BitVec.ofNat 32 p) x u (ix2 r s)
      = Scalar.select (IntOp.cmpi .slt (BitVec.ofNat 32 s) (BitVec.ofNat 32 r)) (wt256 (F := Ideal) l (spm256 (F := Ideal) l) (BitVec.ofNat 32 p) x u (ix2 r s)) 0 := by
    pointwise [wtm256, mask256]
  rw [e, wt256_is hl (spm256_is hl) hx hu p hp, sel_slt (by omega) (by omega)]
  by_cases h : (s : ℕ) < r <;> simp [h]

theorem tn256_is {a : FVec Ideal S256x256 .f32} {d : FVec Ideal S256x64 .bf16} {old : Vec Ideal S256x64 .f32} {A D O : ℕ → ℕ → ℝ}
    (ha : Is2 a A) (hd : Is2 d D) (ho : Is2 old O) :
    Is2 (tn256 (F := Ideal) a d old) (fun s c => O s c + ∑ r ∈ range 256, A r s * D r c) := by
  intro s c
  have e : tn256 (F := Ideal) a d old (ix2 s c) = old (ix2 s c) + ∑ k : Fin 256, a (ix2 k s) * d (ix2 k c) := by pointwise [tn256]
  rw [e, ho, EReal.coe_add, ← sum_fin]
  exact congrArg _ (Finset.sum_congr rfl fun k _ => by rw [ha, hd, EReal.coe_mul])

theorem nn256_is {a : FVec Ideal S256x256 .f32} {ks : Vec Ideal S256x64 .bf16} {old : Vec Ideal S256x64 .f32} {A K O : ℕ → ℕ → ℝ}
    (ha : Is2 a A) (hk : Is2 ks K) (ho : Is2 old O) :
    Is2 (nn256 (F := Ideal) a ks old) (fun r c => O r c + ∑ s ∈ range 256, A r s * K s c) := by
  intro r c
  have e : nn256 (F := Ideal) a ks old (ix2 r c) = old (ix2 r c) + ∑ k : Fin 256, a (ix2 r k) * ks (ix2 k c) := by pointwise [nn256]
  rw [e, ho, EReal.coe_add, ← sum_fin]
  exact congrArg _ (Finset.sum_congr rfl fun k _ => by rw [ha, hk, EReal.coe_mul])

theorem gr256_is {a : FVec Ideal S256x256 .f32} {d : FVec Ideal S256x64 .bf16} {vs : Vec Ideal S256x64 .bf16} {A D V : ℕ → ℕ → ℝ}
    (ha : Is2 a A) (hd : Is2 d D) (hv : Is2 vs V) :
    Is2 (gr256 (F := Ideal) a d vs) (fun r s => A r s * ∑ c ∈ range 64, D r c * V s c) := by
  intro r s
  have e : gr256 (F := Ideal) a d vs (ix2 r s) = a (ix2 r s) * lg256 (F := Ideal) d vs (ix2 r s) := by pointwise [gr256]
  rw [e, ha, lg256_is hd hv, EReal.coe_mul]

theorem cu256_is {g : FVec Ideal S256x256 .f32} {u : FVec Ideal S512x256 .bf16} {gc : Vec Ideal S1x256x1 .f32} {G U : ℕ → ℕ → ℝ} {C : ℕ → ℕ → ℕ → ℝ}
    (hg : Is2 g G) (hu : Is2 u U) (hc : Is3 gc C) :
    Is2 (cu256 (F := Ideal) g u gc) (fun r s => C 0 r 0 + ∑ k ∈ range 256, G r k * U k s) := by
  intro r s
  have e : cu256 (F := Ideal) g u gc (ix2 r s) = gc (ix3 0 r 0) + hl256 (F := Ideal) g u (ix2 r s) := by pointwise [cu256]
  rw [e, hl256_is hg hu, hc, EReal.coe_add]; rfl

theorem bt256_is {l : FVec Ideal S256x256 .f32} {L : ℕ → ℕ → ℝ} (hl : Is2 l L) :
    Is2 (bt256 (F := Ideal) l) (fun r s => sgR (L r s)) := by
  intro r s
  have e : bt256 (F := Ideal) l (ix2 r s) = if 0 ≤ l (ix2 r s) then Ideal.div 1 (ox256 (F := Ideal) l (ix2 r s))
      else ex256 (F := Ideal) l (ix2 r s) * Ideal.div 1 (ox256 (F := Ideal) l (ix2 r s)) := by pointwise [bt256]
  rw [e, ox256_at, ex256_is hl, hl]
  exact bt_real _

theorem dl256_is {l g c : FVec Ideal S256x256 .f32} {L G C : ℕ → ℕ → ℝ} (hl : Is2 l L) (hg : Is2 g G) (hc : Is2 c C) :
    Is2 (dl256 (F := Ideal) l g c) (fun r s => G r s - (G r s + C r s) * sgR (L r s)) := by
  intro r s
  have e : dl256 (F := Ideal) l g c (ix2 r s) = g (ix2 r s) - (g (ix2 r s) + c (ix2 r s)) * bt256 (F := Ideal) l (ix2 r s) := by pointwise [dl256]
  rw [e, bt256_is hl, hg, hc, ← EReal.coe_add, ← EReal.coe_mul, ← EReal.coe_sub]

theorem dlm256_is {l g c : FVec Ideal S256x256 .f32} {L G C : ℕ → ℕ → ℝ} (hl : Is2 l L) (hg : Is2 g G) (hc : Is2 c C) :
    Is2 (dlm256 (F := Ideal) l g c) (fun r s => if s < r then G r s - (G r s + C r s) * sgR (L r s) else 0) := by
  intro r s
  have e : dlm256 (F := Ideal) l g c (ix2 r s)
      = Scalar.select (IntOp.cmpi .slt (BitVec.ofNat 32 s) (BitVec.ofNat 32 r)) (dl256 (F := Ideal) l g c (ix2 r s)) 0 := by
    pointwise [dlm256, mask256]
  rw [e, dl256_is hl hg hc, sel_slt (by omega) (by omega)]
  exact coe_ite _ _

theorem gc256_is {g c : FVec Ideal S256x256 .f32} {G C : ℕ → ℕ → ℝ} (hg : Is2 g G) (hc : Is2 c C) :
    Is3 (gc256 (F := Ideal) g c) (fun _ r _ => C r 255 + G r 255) := by
  intro i r t
  have e : gc256 (F := Ideal) g c (ix3 i r t) = c (ix2 r 255) + g (ix2 r 255) := by pointwise [gc256]
  rw [e, hg, hc, EReal.coe_add]; rfl

end Cert.Attn
-- ==== Proof.Step.lean ====
module

public import proofs.«01_k».proof.Proof.Block
public import Idealize.ShloMosaic.Lib.WritesUnit

/-! # The four accumulators, one block and one head at a time

The state of a grid point is its four accumulators: the keys' and the values' gradients (2048 keys), the queries'
gradients (1024 rows) and the running sum of each head and row.  A block of keys and a head change one rectangle of
each.  `diagK` is the state after the first `K` of the eight steps of the diagonal, and `full` a step before it. -/

set_option maxRecDepth 16384

@[expose] public section

noncomputable section

open Idealize.ShloMosaic Idealize.ShloMosaic.TcCoe Idealize.SL.Sem

namespace Cert.Attn

open Cert.KernelIdeal Cert.KernelIdeal.Gen

variable {F : FTy → Type} [FloatOps F] [Named F]

/-- The four accumulators. -/
structure Acc (F : FTy → Type) where
  dk : Vec F S2048x128 .f32
  dv : Vec F S2048x128 .f32
  dq : Vec F S1024x128 .f32
  gc : Vec F S2x1024x1 .f32

/-- `X` with the rectangle of sizes `size` at `off` replaced by `w`. -/
def put {s : Shape} {e : EltTy} (X : s.Idx → Elt F e) (off size : Fin s.rank → ℕ)
    (w : (⟨s.rank, size⟩ : Shape).Idx → Elt F e) : s.Idx → Elt F e :=
  fun y => if h : ∀ a, off a ≤ (y a).val ∧ (y a).val < off a + size a then
    w (Rect.unitLocal (s := s) (off := off) (size := size) y h) else X y

/-- A buffer read after one more store is what was read before with the stored rectangle replaced. -/
theorem read_put {sig : RefSig} {κ : Kind} {sp : Space} {s : Shape} {e : EltTy} (v : View sig κ sp s e)
    (f : v.ty.Contents (Elt F)) {off size : Fin s.rank → ℕ} (inb : ∀ a, off a + size a ≤ s.size a)
    (w : (Rect.unit off size inb).shape.Idx → Elt F e) (L : List (View.Piece (Elt F) s e)) :
    v.read (Elt F) (v.writes (Elt F) f ((⟨Rect.unit off size inb, w⟩ : View.Piece (Elt F) s e) :: L))
      = put (v.read (Elt F) (v.writes (Elt F) f L)) off size w :=
  funext fun y => View.read_writes_cons_unit v f inb w L y rfl

/-- The queries of a head, scaled. -/
def qh0 (x : Vec F S1024x128 .bf16) : FVec F S1024x64 .bf16 :=
  k0_pay62 (View.ld x (Rect.unit ![0, 0] S1024x64.size inb_S1024x128_S1024x64_0_0))
/-- The same of the other head. -/
def qh1 (x : Vec F S1024x128 .bf16) : FVec F S1024x64 .bf16 :=
  k0_pay63 (View.ld x (Rect.unit ![0, 64] S1024x64.size inb_S1024x128_S1024x64_0_64))
/-- The incoming gradient with the gate's derivative taken off. -/
def dof (z da : Vec F S1024x128 .f32) : FVec F S1024x128 .bf16 :=
  k0_pay61 (View.ld z (Rect.unit ![0, 0] S1024x128.size inb_S1024x128_S1024x128_0_0))
    (View.ld da (Rect.unit ![0, 0] S1024x128.size inb_S1024x128_S1024x128_0_0))

/-- One block of keys and one head at 1024 rows of the diagonal. -/
def step1024 (q d : FVec F S1024x64 .bf16) (lane : BitVec 32) (k v : Vec F S2048x128 .bf16) (x : Vec F S1x1024x128 .f32)
    (ko : Fin 2 → ℕ) (hk : ∀ a, ko a + S256x64.size a ≤ S2048x128.size a)
    (qo : Fin 2 → ℕ) (hq : ∀ a, qo a + S1024x64.size a ≤ S1024x128.size a)
    (xo : Fin 3 → ℕ) (hx : ∀ a, xo a + S1x1024x128.size a ≤ S1x1024x128.size a)
    (go : Fin 3 → ℕ) (hg : ∀ a, go a + S1x1024x1.size a ≤ S2x1024x1.size a) (s : Acc F) : Acc F :=
  let ks := View.ld k (Rect.unit ko S256x64.size hk)
  let l := lg1024 q ks
  let a := wtm1024 l lane (View.ld x (Rect.unit xo S1x1024x128.size hx)) k0_pay57
  let g := gr1024 a d (View.ld v (Rect.unit ko S256x64.size hk))
  let c := cu1024 g k0_pay58 (View.ld s.gc (Rect.unit go S1x1024x1.size hg))
  let dl := dlm1024 l g c
  { dk := put s.dk ko S256x64.size (tn1024 dl q (View.ld s.dk (Rect.unit ko S256x64.size hk)))
    dv := put s.dv ko S256x64.size (tn1024 a d (View.ld s.dv (Rect.unit ko S256x64.size hk)))
    dq := put s.dq qo S1024x64.size (nn1024 dl ks (View.ld s.dq (Rect.unit qo S1024x64.size hq)))
    gc := put s.gc go S1x1024x1.size (gc1024 g c) }

/-- One block of keys and one head at 768 rows of the diagonal. -/
def step768 (q d : FVec F S768x64 .bf16) (lane : BitVec 32) (k v : Vec F S2048x128 .bf16) (x : Vec F S1x1024x128 .f32)
    (ko : Fin 2 → ℕ) (hk : ∀ a, ko a + S256x64.size a ≤ S2048x128.size a)
    (qo : Fin 2 → ℕ) (hq : ∀ a, qo a + S768x64.size a ≤ S1024x128.size a)
    (xo : Fin 3 → ℕ) (hx : ∀ a, xo a + S1x768x128.size a ≤ S1x1024x128.size a)
    (go : Fin 3 → ℕ) (hg : ∀ a, go a + S1x768x1.size a ≤ S2x1024x1.size a) (s : Acc F) : Acc F :=
  let ks := View.ld k (Rect.unit ko S256x64.size hk)
  let l := lg768 q ks
  let a := wtm768 l lane (View.ld x (Rect.unit xo S1x768x128.size hx)) k0_pay57
  let g := gr768 a d (View.ld v (Rect.unit ko S256x64.size hk))
  let c := cu768 g k0_pay58 (View.ld s.gc (Rect.unit go S1x768x1.size hg))
  let dl := dlm768 l g c
  { dk := put s.dk ko S256x64.size (tn768 dl q (View.ld s.dk (Rect.unit ko S256x64.size hk)))
    dv := put s.dv ko S256x64.size (tn768 a d (View.ld s.dv (Rect.unit ko S256x64.size hk)))
    dq := put s.dq qo S768x64.size (nn768 dl ks (View.ld s.dq (Rect.unit qo S768x64.size hq)))
    gc := put s.gc go S1x768x1.size (gc768 g c) }

/-- One block of keys and one head at 512 rows of the diagonal. -/
def step512 (q d : FVec F S512x64 .bf16) (lane : BitVec 32) (k v : Vec F S2048x128 .bf16) (x : Vec F S1x1024x128 .f32)
    (ko : Fin 2 → ℕ) (hk : ∀ a, ko a + S256x64.size a ≤ S2048x128.size a)
    (qo : Fin 2 → ℕ) (hq : ∀ a, qo a + S512x64.size a ≤ S1024x128.size a)
    (xo : Fin 3 → ℕ) (hx : ∀ a, xo a + S1x512x128.size a ≤ S1x1024x128.size a)
    (go : Fin 3 → ℕ) (hg : ∀ a, go a + S1x512x1.size a ≤ S2x1024x1.size a) (s : Acc F) : Acc F :=
  let ks := View.ld k (Rect.unit ko S256x64.size hk)
  let l := lg512 q ks
  let a := wtm512 l lane (View.ld x (Rect.unit xo S1x512x128.size hx)) k0_pay57
  let g := gr512 a d (View.ld v (Rect.unit ko S256x64.size hk))
  let c := cu512 g k0_pay58 (View.ld s.gc (Rect.unit go S1x512x1.size hg))
  let dl := dlm512 l g c
  { dk := put s.dk ko S256x64.size (tn512 dl q (View.ld s.dk (Rect.unit ko S256x64.size hk)))
    dv := put s.dv ko S256x64.size (tn512 a d (View.ld s.dv (Rect.unit ko S256x64.size hk)))
    dq := put s.dq qo S512x64.size (nn512 dl ks (View.ld s.dq (Rect.unit qo S512x64.size hq)))
    gc := put s.gc go S1x512x1.size (gc512 g c) }

/-- One block of keys and one head at 256 rows of the diagonal. -/
def step256 (q d : FVec F S256x64 .bf16) (lane : BitVec 32) (k v : Vec F S2048x128 .bf16) (x : Vec F S1x1024x128 .f32)
    (ko : Fin 2 → ℕ) (hk : ∀ a, ko a + S256x64.size a ≤ S2048x128.size a)
    (qo : Fin 2 → ℕ) (hq : ∀ a, qo a + S256x64.size a ≤ S1024x128.size a)
    (xo : Fin 3 → ℕ) (hx : ∀ a, xo a + S1x256x128.size a ≤ S1x1024x128.size a)
    (go : Fin 3 → ℕ) (hg : ∀ a, go a + S1x256x1.size a ≤ S2x1024x1.size a) (s : Acc F) : Acc F :=
  let ks := View.ld k (Rect.unit ko S256x64.size hk)
  let l := lg256 q ks
  let a := wtm256 l lane (View.ld x (Rect.unit xo S1x256x128.size hx)) k0_pay57
  let g := gr256 a d (View.ld v (Rect.unit ko S256x64.size hk))
  let c := cu256 g k0_pay58 (View.ld s.gc (Rect.unit go S1x256x1.size hg))
  let dl := dlm256 l g c
  { dk := put s.dk ko S256x64.size (tn256 dl q (View.ld s.dk (Rect.unit ko S256x64.size hk)))
    dv := put s.dv ko S256x64.size (tn256 a d (View.ld s.dv (Rect.unit ko S256x64.size hk)))
    dq := put s.dq qo S256x64.size (nn256 dl ks (View.ld s.dq (Rect.unit qo S256x64.size hq)))
    gc := put s.gc go S1x256x1.size (gc256 g c) }

/-- One block of keys and one head at 1024 rows. -/
def stepF (q d : FVec F S1024x64 .bf16) (lane : BitVec 32) (k v : Vec F S2048x128 .bf16) (x : Vec F S1x1024x128 .f32)
    (ko : Fin 2 → ℕ) (hk : ∀ a, ko a + S256x64.size a ≤ S2048x128.size a)
    (qo : Fin 2 → ℕ) (hq : ∀ a, qo a + S1024x64.size a ≤ S1024x128.size a)
    (xo : Fin 3 → ℕ) (hx : ∀ a, xo a + S1x1024x128.size a ≤ S1x1024x128.size a)
    (go : Fin 3 → ℕ) (hg : ∀ a, go a + S1x1024x1.size a ≤ S2x1024x1.size a) (s : Acc F) : Acc F :=
  let ks := View.ld k (Rect.unit ko S256x64.size hk)
  let l := lg1024 q ks
  let a := wt1024 l (sp1024 l) lane (View.ld x (Rect.unit xo S1x1024x128.size hx)) k0_pay57
  let g := gr1024 a d (View.ld v (Rect.unit ko S256x64.size hk))
  let c := cu1024 g k0_pay58 (View.ld s.gc (Rect.unit go S1x1024x1.size hg))
  let dl := dl1024 l g c
  { dk := put s.dk ko S256x64.size (tn1024 dl q (View.ld s.dk (Rect.unit ko S256x64.size hk)))
    dv := put s.dv ko S256x64.size (tn1024 a d (View.ld s.dv (Rect.unit ko S256x64.size hk)))
    dq := put s.dq qo S1024x64.size (nn1024 dl ks (View.ld s.dq (Rect.unit qo S1024x64.size hq)))
    gc := put s.gc go S1x1024x1.size (gc1024 g c) }

/-- The state after the diagonal's first 1 steps. -/
def diag1 (i : grid0.Coords) (x0 : Vec F S1024x128 .bf16) (x1 x2 : Vec F S2048x128 .bf16) (x3 : Vec F S1024x128 .f32) (x5 : Vec F S1x1024x128 .f32) (x6 : Vec F S1024x128 .f32) (s : Acc F) : Acc F :=
  step1024 (qh0 x0)
    (k0_pay64 (dof x3 x6)) (laneOf 0#32 i 0#32) x1 x2 x5
    (k0_off5 i 0#32) (k0_off5_inb i 0) ![0, 0] inb_S1024x128_S1024x64_0_0 ![0, 0, 0] inb_S1x1024x128_S1x1024x128_0_0_0
    ![0, 0, 0] inb_S2x1024x1_S1x1024x1_0_0_0 s

/-- The state after the diagonal's first 2 steps. -/
def diag2 (i : grid0.Coords) (x0 : Vec F S1024x128 .bf16) (x1 x2 : Vec F S2048x128 .bf16) (x3 : Vec F S1024x128 .f32) (x5 : Vec F S1x1024x128 .f32) (x6 : Vec F S1024x128 .f32) (s : Acc F) : Acc F :=
  step1024 (qh1 x0)
    (k0_pay65 (dof x3 x6)) (laneOf 64#32 i 0#32) x1 x2 x5
    (k0_off6 i 0#32) (k0_off6_inb i 0) ![0, 64] inb_S1024x128_S1024x64_0_64 ![0, 0, 0] inb_S1x1024x128_S1x1024x128_0_0_0
    ![1, 0, 0] inb_S2x1024x1_S1x1024x1_1_0_0 (diag1 i x0 x1 x2 x3 x5 x6 s)

/-- The state after the diagonal's first 3 steps. -/
def diag3 (i : grid0.Coords) (x0 : Vec F S1024x128 .bf16) (x1 x2 : Vec F S2048x128 .bf16) (x3 : Vec F S1024x128 .f32) (x5 : Vec F S1x1024x128 .f32) (x6 : Vec F S1024x128 .f32) (s : Acc F) : Acc F :=
  step768 (extractStridedSlice S768x64 ![256, 0] (qh0 x0) slices_S1024x64_o256_0_S768x64)
    (extractStridedSlice S768x64 ![256, 0] (k0_pay64 (dof x3 x6)) slices_S1024x64_o256_0_S768x64) (laneOf 0#32 i 1#32) x1 x2 x5
    (k0_off5 i 1#32) (k0_off5_inb i 1) ![256, 0] inb_S1024x128_S768x64_256_0 ![0, 256, 0] inb_S1x1024x128_S1x768x128_0_256_0
    ![0, 256, 0] inb_S2x1024x1_S1x768x1_0_256_0 (diag2 i x0 x1 x2 x3 x5 x6 s)

/-- The state after the diagonal's first 4 steps. -/
def diag4 (i : grid0.Coords) (x0 : Vec F S1024x128 .bf16) (x1 x2 : Vec F S2048x128 .bf16) (x3 : Vec F S1024x128 .f32) (x5 : Vec F S1x1024x128 .f32) (x6 : Vec F S1024x128 .f32) (s : Acc F) : Acc F :=
  step768 (extractStridedSlice S768x64 ![256, 0] (qh1 x0) slices_S1024x64_o256_0_S768x64)
    (extractStridedSlice S768x64 ![256, 0] (k0_pay65 (dof x3 x6)) slices_S1024x64_o256_0_S768x64) (laneOf 64#32 i 1#32) x1 x2 x5
    (k0_off6 i 1#32) (k0_off6_inb i 1) ![256, 64] inb_S1024x128_S768x64_256_64 ![0, 256, 0] inb_S1x1024x128_S1x768x128_0_256_0
    ![1, 256, 0] inb_S2x1024x1_S1x768x1_1_256_0 (diag3 i x0 x1 x2 x3 x5 x6 s)

/-- The state after the diagonal's first 5 steps. -/
def diag5 (i : grid0.Coords) (x0 : Vec F S1024x128 .bf16) (x1 x2 : Vec F S2048x128 .bf16) (x3 : Vec F S1024x128 .f32) (x5 : Vec F S1x1024x128 .f32) (x6 : Vec F S1024x128 .f32) (s : Acc F) : Acc F :=
  step512 (extractStridedSlice S512x64 ![512, 0] (qh0 x0) slices_S1024x64_o512_0_S512x64)
    (extractStridedSlice S512x64 ![512, 0] (k0_pay64 (dof x3 x6)) slices_S1024x64_o512_0_S512x64) (laneOf 0#32 i 2#32) x1 x2 x5
    (k0_off5 i 2#32) (k0_off5_inb i 2) ![512, 0] inb_S1024x128_S512x64_512_0 ![0, 512, 0] inb_S1x1024x128_S1x512x128_0_512_0
    ![0, 512, 0] inb_S2x1024x1_S1x512x1_0_512_0 (diag4 i x0 x1 x2 x3 x5 x6 s)

/-- The state after the diagonal's first 6 steps. -/
def diag6 (i : grid0.Coords) (x0 : Vec F S1024x128 .bf16) (x1 x2 : Vec F S2048x128 .bf16) (x3 : Vec F S1024x128 .f32) (x5 : Vec F S1x1024x128 .f32) (x6 : Vec F S1024x128 .f32) (s : Acc F) : Acc F :=
  step512 (extractStridedSlice S512x64 ![512, 0] (qh1 x0) slices_S1024x64_o512_0_S512x64)
    (extractStridedSlice S512x64 ![512, 0] (k0_pay65 (dof x3 x6)) slices_S1024x64_o512_0_S512x64) (laneOf 64#32 i 2#32) x1 x2 x5
    (k0_off6 i 2#32) (k0_off6_inb i 2) ![512, 64] inb_S1024x128_S512x64_512_64 ![0, 512, 0] inb_S1x1024x128_S1x512x128_0_512_0
    ![1, 512, 0] inb_S2x1024x1_S1x512x1_1_512_0 (diag5 i x0 x1 x2 x3 x5 x6 s)

/-- The state after the diagonal's first 7 steps. -/
def diag7 (i : grid0.Coords) (x0 : Vec F S1024x128 .bf16) (x1 x2 : Vec F S2048x128 .bf16) (x3 : Vec F S1024x128 .f32) (x5 : Vec F S1x1024x128 .f32) (x6 : Vec F S1024x128 .f32) (s : Acc F) : Acc F :=
  step256 (extractStridedSlice S256x64 ![768, 0] (qh0 x0) slices_S1024x64_o768_0_S256x64)
    (extractStridedSlice S256x64 ![768, 0] (k0_pay64 (dof x3 x6)) slices_S1024x64_o768_0_S256x64) (laneOf 0#32 i 3#32) x1 x2 x5
    (k0_off5 i 3#32) (k0_off5_inb i 3) ![768, 0] inb_S1024x128_S256x64_768_0 ![0, 768, 0] inb_S1x1024x128_S1x256x128_0_768_0
    ![0, 768, 0] inb_S2x1024x1_S1x256x1_0_768_0 (diag6 i x0 x1 x2 x3 x5 x6 s)

/-- The state after the diagonal's first 8 steps. -/
def diag8 (i : grid0.Coords) (x0 : Vec F S1024x128 .bf16) (x1 x2 : Vec F S2048x128 .bf16) (x3 : Vec F S1024x128 .f32) (x5 : Vec F S1x1024x128 .f32) (x6 : Vec F S1024x128 .f32) (s : Acc F) : Acc F :=
  step256 (extractStridedSlice S256x64 ![768, 0] (qh1 x0) slices_S1024x64_o768_0_S256x64)
    (extractStridedSlice S256x64 ![768, 0] (k0_pay65 (dof x3 x6)) slices_S1024x64_o768_0_S256x64) (laneOf 64#32 i 3#32) x1 x2 x5
    (k0_off6 i 3#32) (k0_off6_inb i 3) ![768, 64] inb_S1024x128_S256x64_768_64 ![0, 768, 0] inb_S1x1024x128_S1x256x128_0_768_0
    ![1, 768, 0] inb_S2x1024x1_S1x256x1_1_768_0 (diag7 i x0 x1 x2 x3 x5 x6 s)

/-- The state after head 0 of a full block. -/
def fullA (i : grid0.Coords) (x0 : Vec F S1024x128 .bf16) (x1 x2 : Vec F S2048x128 .bf16) (x3 : Vec F S1024x128 .f32) (x5 : Vec F S1x1024x128 .f32) (x6 : Vec F S1024x128 .f32) (k : Fin (k0_t1_loop i).trips) (s : Acc F) : Acc F :=
  stepF (qh0 x0) (k0_pay64 (dof x3 x6)) (Scalar.addi 0#32 (Scf.iv 0#32 1#32 k)) x1 x2 x5
    (k0_off1 i k) (k0_off1_inb i k) ![0, 0] inb_S1024x128_S1024x64_0_0 ![0, 0, 0] inb_S1x1024x128_S1x1024x128_0_0_0
    ![0, 0, 0] inb_S2x1024x1_S1x1024x1_0_0_0 s

/-- The state after head 1 of a full block. -/
def fullB (i : grid0.Coords) (x0 : Vec F S1024x128 .bf16) (x1 x2 : Vec F S2048x128 .bf16) (x3 : Vec F S1024x128 .f32) (x5 : Vec F S1x1024x128 .f32) (x6 : Vec F S1024x128 .f32) (k : Fin (k0_t1_loop i).trips) (s : Acc F) : Acc F :=
  stepF (qh1 x0) (k0_pay65 (dof x3 x6)) (Scalar.addi 64#32 (Scf.iv 0#32 1#32 k)) x1 x2 x5
    (k0_off2 i k) (k0_off2_inb i k) ![0, 64] inb_S1024x128_S1024x64_0_64 ![0, 0, 0] inb_S1x1024x128_S1x1024x128_0_0_0
    ![1, 0, 0] inb_S2x1024x1_S1x1024x1_1_0_0 (fullA i x0 x1 x2 x3 x5 x6 k s)

end Cert.Attn
-- ==== Proof.Inv.lean ====
module

public import proofs.«01_k».proof.Proof.Pt
public import proofs.«01_k».proof.Proof.Step

/-! # What the accumulators hold

The attention's gradient of one grid point over the real numbers: the logits, the weights, the gradients of the logits,
all as sums over whole rows; and the accumulators after any number of blocks of each head. -/

set_option maxRecDepth 16384

@[expose] public section

noncomputable section

open Idealize.ShloMosaic Idealize.ShloMosaic.TcCoe Idealize.SL.Sem
open Finset (range)

namespace Cert.Attn

open Cert.KernelIdeal Cert.KernelIdeal.Gen

theorem Is2.congr {a b : ℕ} {X : (⟨2, ![a, b]⟩ : Shape).Idx → EReal} {f g : ℕ → ℕ → ℝ} (h : Is2 X f)
    (e : ∀ r < a, ∀ s < b, f r s = g r s) : Is2 X g :=
  fun r s => by rw [h r s, e r r.2 s s.2]

theorem Is3.congr {a b c : ℕ} {X : (⟨3, ![a, b, c]⟩ : Shape).Idx → EReal} {f g : ℕ → ℕ → ℕ → ℝ} (h : Is3 X f)
    (e : ∀ r < a, ∀ s < b, ∀ t < c, f r s t = g r s t) : Is3 X g :=
  fun r s t => by rw [h r s t, e r r.2 s s.2 t t.2]

/-- A rectangle of a matrix. -/
theorem ld2_bf16 {a b n m o p : ℕ} {off : Fin 2 → ℕ} {X : Vec Ideal (⟨2, ![a, b]⟩ : Shape) .bf16} {f : ℕ → ℕ → ℝ} (hX : Is2 X f) (hoff : off = ![o, p])
    (inb : ∀ i, off i + (![n, m] : Fin 2 → ℕ) i ≤ (⟨2, ![a, b]⟩ : Shape).size i) :
    Is2 (a := n) (b := m) (View.ld X (Rect.unit (s := ⟨2, ![a, b]⟩) off ![n, m] inb)) (fun r s => f (o + r) (p + s)) := by
  subst hoff
  intro r s
  have h0 : o + n ≤ a := inb 0
  have h1 : p + m ≤ b := inb 1
  have e := hX ⟨o + r, by omega⟩ ⟨p + s, by omega⟩
  refine Eq.trans ?_ e
  refine View.ld_unit_apply_of _ _ _ _ _ _ fun i => ?_
  fin_cases i <;> rfl

/-- A rectangle of a matrix. -/
theorem ld2_f32 {a b n m o p : ℕ} {off : Fin 2 → ℕ} {X : Vec Ideal (⟨2, ![a, b]⟩ : Shape) .f32} {f : ℕ → ℕ → ℝ} (hX : Is2 X f) (hoff : off = ![o, p])
    (inb : ∀ i, off i + (![n, m] : Fin 2 → ℕ) i ≤ (⟨2, ![a, b]⟩ : Shape).size i) :
    Is2 (a := n) (b := m) (View.ld X (Rect.unit (s := ⟨2, ![a, b]⟩) off ![n, m] inb)) (fun r s => f (o + r) (p + s)) := by
  subst hoff
  intro r s
  have h0 : o + n ≤ a := inb 0
  have h1 : p + m ≤ b := inb 1
  have e := hX ⟨o + r, by omega⟩ ⟨p + s, by omega⟩
  refine Eq.trans ?_ e
  refine View.ld_unit_apply_of _ _ _ _ _ _ fun i => ?_
  fin_cases i <;> rfl

/-- A rectangle of a stack of matrices. -/
theorem ld3_f32 {a b c n m l o p q : ℕ} {off : Fin 3 → ℕ} {X : Vec Ideal (⟨3, ![a, b, c]⟩ : Shape) .f32} {f : ℕ → ℕ → ℕ → ℝ} (hX : Is3 X f)
    (hoff : off = ![o, p, q])
    (inb : ∀ i, off i + (![n, m, l] : Fin 3 → ℕ) i ≤ (⟨3, ![a, b, c]⟩ : Shape).size i) :
    Is3 (a := n) (b := m) (c := l) (View.ld X (Rect.unit (s := ⟨3, ![a, b, c]⟩) off ![n, m, l] inb)) (fun r s t => f (o + r) (p + s) (q + t)) := by
  subst hoff
  intro r s t
  have h0 : o + n ≤ a := inb 0
  have h1 : p + m ≤ b := inb 1
  have h2 : q + l ≤ c := inb 2
  have e := hX ⟨o + r, by omega⟩ ⟨p + s, by omega⟩ ⟨q + t, by omega⟩
  refine Eq.trans ?_ e
  refine View.ld_unit_apply_of _ _ _ _ _ _ fun i => ?_
  fin_cases i <;> rfl

/-- A matrix with one rectangle replaced. -/
theorem put2_is {a b n m o p : ℕ} {off : Fin 2 → ℕ} {X : Vec Ideal (⟨2, ![a, b]⟩ : Shape) .f32} {w : Vec Ideal (⟨2, ![n, m]⟩ : Shape) .f32}
    {f g : ℕ → ℕ → ℝ} (hX : Is2 X f) (hw : Is2 w g) (hoff : off = ![o, p]) :
    Is2 (a := a) (b := b) (put (F := Ideal) (s := ⟨2, ![a, b]⟩) (e := .f32) X off ![n, m] w)
      (fun r s => if (o ≤ r ∧ r < o + n) ∧ (p ≤ s ∧ s < p + m) then g (r - o) (s - p) else f r s) := by
  subst hoff
  intro r s
  unfold put
  beta_reduce
  by_cases h : (o ≤ (r : ℕ) ∧ (r : ℕ) < o + n) ∧ (p ≤ (s : ℕ) ∧ (s : ℕ) < p + m)
  · have h' : ∀ i : Fin 2, (![o, p] : Fin 2 → ℕ) i ≤ ((ix2 r s : (⟨2, ![a, b]⟩ : Shape).Idx) i).val ∧ ((ix2 r s : (⟨2, ![a, b]⟩ : Shape).Idx) i).val < (![o, p] : Fin 2 → ℕ) i + (![n, m] : Fin 2 → ℕ) i := by
      intro i; fin_cases i
      · exact h.1
      · exact h.2
    rw [dif_pos h', if_pos h]
    refine Eq.trans (congrArg w ?_) (hw ⟨r - o, by omega⟩ ⟨s - p, by omega⟩)
    funext i; fin_cases i <;> rfl
  · rw [if_neg h, dif_neg]
    · exact hX r s
    · intro h'; exact h ⟨h' 0, h' 1⟩

/-- A stack with one box replaced. -/
theorem put3_is {a b c n m l o p q : ℕ} {off : Fin 3 → ℕ} {X : Vec Ideal (⟨3, ![a, b, c]⟩ : Shape) .f32} {w : Vec Ideal (⟨3, ![n, m, l]⟩ : Shape) .f32}
    {f g : ℕ → ℕ → ℕ → ℝ} (hX : Is3 X f) (hw : Is3 w g) (hoff : off = ![o, p, q]) :
    Is3 (a := a) (b := b) (c := c) (put (F := Ideal) (s := ⟨3, ![a, b, c]⟩) (e := .f32) X off ![n, m, l] w)
      (fun r s t => if (o ≤ r ∧ r < o + n) ∧ (p ≤ s ∧ s < p + m) ∧ (q ≤ t ∧ t < q + l) then g (r - o) (s - p) (t - q) else f r s t) := by
  subst hoff
  intro r s t
  unfold put
  beta_reduce
  by_cases h : (o ≤ (r : ℕ) ∧ (r : ℕ) < o + n) ∧ (p ≤ (s : ℕ) ∧ (s : ℕ) < p + m) ∧ (q ≤ (t : ℕ) ∧ (t : ℕ) < q + l)
  · have h' : ∀ i : Fin 3, (![o, p, q] : Fin 3 → ℕ) i ≤ ((ix3 r s t : (⟨3, ![a, b, c]⟩ : Shape).Idx) i).val ∧ ((ix3 r s t : (⟨3, ![a, b, c]⟩ : Shape).Idx) i).val < (![o, p, q] : Fin 3 → ℕ) i + (![n, m, l] : Fin 3 → ℕ) i := by
      intro i; fin_cases i
      · exact h.1
      · exact h.2.1
      · exact h.2.2
    rw [dif_pos h', if_pos h]
    refine Eq.trans (congrArg w ?_) (hw ⟨r - o, by omega⟩ ⟨s - p, by omega⟩ ⟨t - q, by omega⟩)
    funext i; fin_cases i <;> rfl
  · rw [if_neg h, dif_neg]
    · exact hX r s t
    · intro h'; exact h ⟨h' 0, h' 1, h' 2⟩

/-! ## The real numbers of one grid point -/

/-- One grid point's operands: the number of earlier query tiles, the scaled queries, the keys, the values, the incoming
gradient, and each row's sum of the later blocks' softplus, by lane. -/
structure Data where
  qi : ℕ
  Q : ℕ → ℕ → ℝ
  K : ℕ → ℕ → ℝ
  V : ℕ → ℕ → ℝ
  D : ℕ → ℕ → ℝ
  X : ℕ → ℕ → ℝ

namespace Data

variable (T : Data)

/-- The logits of head `h`. -/
def L (h r s : ℕ) : ℝ := ∑ c ∈ range 64, T.Q r (64 * h + c) * T.K s (64 * h + c)
/-- The softplus of the logits of the keys before the row, 0 at the other keys. -/
def SP (h r s : ℕ) : ℝ := if s < 1024 * T.qi + r then spR (T.L h r s) else 0
/-- The attention's weights. -/
def A (h r s : ℕ) : ℝ :=
  if s < 1024 * T.qi + r then
    Real.exp (T.L h r s - (T.SP h r s + (T.X r (64 * h + s / 256)
      + ∑ k ∈ range 256, T.SP h r (256 * (s / 256) + k) * (if s % 256 < k % 256 then 1 else 0)))) else 0
/-- The weights times their gradients. -/
def G (h r s : ℕ) : ℝ := T.A h r s * ∑ c ∈ range 64, T.D r (64 * h + c) * T.V s (64 * h + c)
/-- Their sum over the earlier keys. -/
def C (h r s : ℕ) : ℝ := ∑ k ∈ range s, T.G h r k
/-- The gradients of the logits. -/
def DL (h r s : ℕ) : ℝ := if s < 1024 * T.qi + r then T.G h r s - (T.G h r s + T.C h r s) * sgR (T.L h r s) else 0

/-- The gradients of the keys after `N h` blocks of head `h`. -/
def dk (N : ℕ → ℕ) (z : ℕ → ℕ → ℝ) (s c : ℕ) : ℝ :=
  z s c + if s / 256 < N (c / 64) then ∑ r ∈ range 1024, T.DL (c / 64) r s * T.Q r c else 0
/-- The gradients of the values. -/
def dv (N : ℕ → ℕ) (z : ℕ → ℕ → ℝ) (s c : ℕ) : ℝ :=
  z s c + if s / 256 < N (c / 64) then ∑ r ∈ range 1024, T.A (c / 64) r s * T.D r c else 0
/-- The gradients of the queries. -/
def dq (N : ℕ → ℕ) (r c : ℕ) : ℝ := ∑ s ∈ range (256 * N (c / 64)), T.DL (c / 64) r s * T.K s c
/-- The running sums. -/
def gc (N : ℕ → ℕ) (h r _t : ℕ) : ℝ := ∑ s ∈ range (256 * N h), T.G h r s

end Data

/-- The accumulators after `N h` blocks of each head `h`, the keys' and values' gradients starting from `z` and `z'`. -/
structure IsAcc (T : Data) (N : ℕ → ℕ) (z z' : ℕ → ℕ → ℝ) (s : Acc Ideal) : Prop where
  dk : Is2 s.dk (T.dk N z)
  dv : Is2 s.dv (T.dv N z')
  dq : Is2 s.dq (T.dq N)
  gc : Is3 s.gc (T.gc N)

theorem rows (r0 n : ℕ) (f : ℕ → ℝ) (hz : ∀ r < r0, f r = 0) (h : r0 + n = 1024) :
    ∑ r ∈ range n, f (r0 + r) = ∑ r ∈ range 1024, f r := by
  rw [← h, Finset.sum_range_add, Finset.sum_eq_zero (s := range r0) (fun r hr => hz r (Finset.mem_range.mp hr)), zero_add]

theorem pre_sum (f : ℕ → ℝ) (s : ℕ) (hs : s ≤ 256) :
    ∑ k ∈ range 256, f k * (if k % 256 < s then 1 else 0) = ∑ k ∈ range s, f k := by
  have : (256 : ℕ) = s + (256 - s) := by omega
  rw [this, Finset.sum_range_add, ← this, Finset.sum_eq_zero (s := range (256 - s)), add_zero]
  · refine Finset.sum_congr rfl fun k hk => ?_
    have := Finset.mem_range.mp hk
    rw [if_pos (by omega), mul_one]
  · intro k hk
    have := Finset.mem_range.mp hk
    rw [if_neg (by omega), mul_zero]

/-- The accumulators after one more block `kb` of head `h`, from what is stored. -/
theorem IsAcc.step {T : Data} {N : ℕ → ℕ} {z z' : ℕ → ℕ → ℝ} {s : Acc Ideal} (hs : IsAcc T N z z' s) {kb h r0 n : ℕ}
    (hn : r0 + n = 1024) (hqi : 256 * kb = 1024 * T.qi + r0 ∨ r0 = 0) (hh : h < 2) (hN : N h = kb)
    {ko qo : Fin 2 → ℕ} {go : Fin 3 → ℕ} (hko : ko = ![256 * kb, 64 * h]) (hqo : qo = ![r0, 64 * h]) (hgo : go = ![h, r0, 0])
    {wk wv : Vec Ideal (⟨2, ![256, 64]⟩ : Shape) .f32} {wq : Vec Ideal (⟨2, ![n, 64]⟩ : Shape) .f32} {wg : Vec Ideal (⟨3, ![1, n, 1]⟩ : Shape) .f32}
    (hwk : Is2 wk (fun s c => T.dk N z (256 * kb + s) (64 * h + c) + ∑ r ∈ range n, T.DL h (r0 + r) (256 * kb + s) * T.Q (r0 + r) (64 * h + c)))
    (hwv : Is2 wv (fun s c => T.dv N z' (256 * kb + s) (64 * h + c) + ∑ r ∈ range n, T.A h (r0 + r) (256 * kb + s) * T.D (r0 + r) (64 * h + c)))
    (hwq : Is2 wq (fun r c => T.dq N (r0 + r) (64 * h + c) + ∑ s ∈ range 256, T.DL h (r0 + r) (256 * kb + s) * T.K (256 * kb + s) (64 * h + c)))
    (hwg : Is3 wg (fun _ r _ => T.C h (r0 + r) (256 * kb + 255) + T.G h (r0 + r) (256 * kb + 255))) :
    IsAcc T (fun j => if j = h then kb + 1 else N j) z z'
      { dk := put (F := Ideal) (s := ⟨2, ![2048, 128]⟩) (e := .f32) s.dk ko ![256, 64] wk
        dv := put (F := Ideal) (s := ⟨2, ![2048, 128]⟩) (e := .f32) s.dv ko ![256, 64] wv
        dq := put (F := Ideal) (s := ⟨2, ![1024, 128]⟩) (e := .f32) s.dq qo ![n, 64] wq
        gc := put (F := Ideal) (s := ⟨3, ![2, 1024, 1]⟩) (e := .f32) s.gc go ![1, n, 1] wg } := by
  have hz1 : ∀ r < r0, ∀ s, 256 * kb ≤ s → T.DL h r s = 0 := fun r hr s hs => by
    unfold Data.DL; rw [if_neg (by omega)]
  have hz2 : ∀ r < r0, ∀ s, 256 * kb ≤ s → T.A h r s = 0 := fun r hr s hs => by
    unfold Data.A; rw [if_neg (by omega)]
  have hz3 : ∀ r < r0, ∀ s, 256 * kb ≤ s → T.G h r s = 0 := fun r hr s hs => by
    unfold Data.G; rw [hz2 r hr s hs, zero_mul]
  refine ⟨?_, ?_, ?_, ?_⟩
  · refine (put2_is hs.dk hwk hko).congr fun s hs c hc => ?_
    by_cases hb : (256 * kb ≤ s ∧ s < 256 * kb + 256) ∧ (64 * h ≤ c ∧ c < 64 * h + 64)
    · have e1 : 256 * kb + (s - 256 * kb) = s := by omega
      have e2 : 64 * h + (c - 64 * h) = c := by omega
      have e3 : c / 64 = h := by omega
      have e4 : s / 256 = kb := by omega
      rw [if_pos hb, e1, e2]
      unfold Data.dk
      beta_reduce
      rw [e3, e4, hN, if_neg (by omega), if_pos rfl, if_pos (by omega), add_zero]
      rw [rows r0 n (fun r => T.DL h r s * T.Q r c) (fun r hr => by show T.DL h r s * _ = 0; rw [hz1 r hr s (by omega), zero_mul]) hn]
    · rw [if_neg hb]
      unfold Data.dk
      beta_reduce
      have e : (s / 256 < N (c / 64)) ↔ (s / 256 < if c / 64 = h then kb + 1 else N (c / 64)) := by
        split_ifs with hc
        · rw [hc, hN]; omega
        · rfl
      simp only [e]
  · refine (put2_is hs.dv hwv hko).congr fun s hs c hc => ?_
    by_cases hb : (256 * kb ≤ s ∧ s < 256 * kb + 256) ∧ (64 * h ≤ c ∧ c < 64 * h + 64)
    · have e1 : 256 * kb + (s - 256 * kb) = s := by omega
      have e2 : 64 * h + (c - 64 * h) = c := by omega
      have e3 : c / 64 = h := by omega
      have e4 : s / 256 = kb := by omega
      rw [if_pos hb, e1, e2]
      unfold Data.dv
      beta_reduce
      rw [e3, e4, hN, if_neg (by omega), if_pos rfl, if_pos (by omega), add_zero]
      rw [rows r0 n (fun r => T.A h r s * T.D r c) (fun r hr => by show T.A h r s * _ = 0; rw [hz2 r hr s (by omega), zero_mul]) hn]
    · rw [if_neg hb]
      unfold Data.dv
      beta_reduce
      have e : (s / 256 < N (c / 64)) ↔ (s / 256 < if c / 64 = h then kb + 1 else N (c / 64)) := by
        split_ifs with hc
        · rw [hc, hN]; omega
        · rfl
      simp only [e]
  · refine (put2_is hs.dq hwq hqo).congr fun r hr c hc => ?_
    unfold Data.dq
    beta_reduce
    by_cases hc' : c / 64 = h
    · by_cases hb : (r0 ≤ r ∧ r < r0 + n) ∧ (64 * h ≤ c ∧ c < 64 * h + 64)
      · have e1 : r0 + (r - r0) = r := by omega
        have e2 : 64 * h + (c - 64 * h) = c := by omega
        rw [if_pos hb, e1, e2, hc', hN, if_pos rfl, mul_add, mul_one, Finset.sum_range_add]
      · rw [if_neg hb, hc', hN, if_pos rfl, mul_add, mul_one, Finset.sum_range_add, left_eq_add]
        refine Finset.sum_eq_zero fun s _ => ?_
        rw [hz1 r (by omega) _ (by omega), zero_mul]
    · rw [if_neg (by omega), if_neg hc']
  · refine (put3_is hs.gc hwg hgo).congr fun j hj r hr t ht => ?_
    unfold Data.gc
    beta_reduce
    by_cases hj' : j = h
    · subst hj'
      rw [if_pos rfl]
      by_cases hb : (j ≤ j ∧ j < j + 1) ∧ (r0 ≤ r ∧ r < r0 + n) ∧ (0 ≤ t ∧ t < 0 + 1)
      · have e1 : r0 + (r - r0) = r := by omega
        rw [if_pos hb, e1]
        unfold Data.C
        rw [← Finset.sum_range_succ, show 256 * kb + 255 + 1 = 256 * (kb + 1) by omega]
      · rw [if_neg hb, hN, mul_add, mul_one, Finset.sum_range_add, left_eq_add]
        exact Finset.sum_eq_zero fun s _ => hz3 r (by omega) _ (by omega)
    · rw [if_neg (by omega), if_neg hj']

/-- One step of the diagonal at 1024 rows. -/
theorem step1024_acc {T : Data} {N : ℕ → ℕ} {z z' : ℕ → ℕ → ℝ} {s : Acc Ideal} (hs : IsAcc T N z z' s) {kb h r0 : ℕ} (hn : r0 + 1024 = 1024)
    (hqi : 256 * kb = 1024 * T.qi + r0) (hh : h < 2) (hkb : kb < 8) (hN : N h = kb)
    {q d : FVec Ideal S1024x64 .bf16} {lane : BitVec 32} {k v : Vec Ideal S2048x128 .bf16} {x : Vec Ideal S1x1024x128 .f32}
    {ko qo : Fin 2 → ℕ} {xo go : Fin 3 → ℕ} (hko : ko = ![256 * kb, 64 * h]) (hqo : qo = ![r0, 64 * h]) (hxo : xo = ![0, r0, 0]) (hgo : go = ![h, r0, 0])
    (ik : ∀ a, ko a + S256x64.size a ≤ S2048x128.size a) (iq : ∀ a, qo a + S1024x64.size a ≤ S1024x128.size a)
    (ix : ∀ a, xo a + S1x1024x128.size a ≤ S1x1024x128.size a) (ig : ∀ a, go a + S1x1024x1.size a ≤ S2x1024x1.size a)
    (hlane : lane = BitVec.ofNat 32 (64 * h + kb)) (hq : Is2 q (fun r c => T.Q (r0 + r) (64 * h + c))) (hd : Is2 d (fun r c => T.D (r0 + r) (64 * h + c)))
    (hk : Is2 k T.K) (hv : Is2 v T.V) (hx : Is3 x (fun _ => T.X)) :
    IsAcc T (fun j => if j = h then kb + 1 else N j) z z' (step1024 (F := Ideal) q d lane k v x ko ik qo iq xo ix go ig s) := by
  subst hlane
  have hp : 64 * h + kb < 128 := by omega
  have hK := ld2_bf16 hk hko ik
  have hV := ld2_bf16 hv hko ik
  have hX := ld3_f32 hx hxo ix
  have hl := lg1024_is hq hK
  have hA : Is2 _ (fun r s => T.A h (r0 + r) (256 * kb + s)) := (wtm1024_is hl hX after_is (64 * h + kb) hp).congr fun r hr s hs => by
    have e1 : (256 * kb + s) / 256 = kb := by omega
    have e2 : (256 * kb + s) % 256 = s := by omega
    unfold Data.A Data.SP Data.L
    rw [e1, e2]
    have e3 : ∀ k, (256 * kb + k < 1024 * T.qi + (r0 + r)) = (k < r) := fun k => by rw [eq_iff_iff]; omega
    simp only [e3, zero_add]
  have hG : Is2 _ (fun r s => T.G h (r0 + r) (256 * kb + s)) := gr1024_is hA hd hV
  have hC : Is2 _ (fun r s => T.C h (r0 + r) (256 * kb + s)) := (cu1024_is hG before_is (ld3_f32 hs.gc hgo ig)).congr fun r hr s hs => by
    rw [pre_sum (fun k => T.G h (r0 + r) (256 * kb + k)) s hs.le]
    unfold Data.C Data.gc
    rw [Finset.sum_range_add]
    simp only [add_zero, hN]
  have hDL : Is2 _ (fun r s => T.DL h (r0 + r) (256 * kb + s)) := (dlm1024_is hl hG hC).congr fun r hr s hs => by
    unfold Data.DL Data.L
    have e3 : (256 * kb + s < 1024 * T.qi + (r0 + r)) = (s < r) := by rw [eq_iff_iff]; omega
    simp only [e3]
  exact hs.step (n := 1024) (r0 := r0) hn (Or.inl hqi) hh hN hko hqo hgo
    (tn1024_is hDL hq (ld2_f32 hs.dk hko ik)) (tn1024_is hA hd (ld2_f32 hs.dv hko ik)) (nn1024_is hDL hK (ld2_f32 hs.dq hqo iq)) (gc1024_is hG hC)

/-- One step of the diagonal at 768 rows. -/
theorem step768_acc {T : Data} {N : ℕ → ℕ} {z z' : ℕ → ℕ → ℝ} {s : Acc Ideal} (hs : IsAcc T N z z' s) {kb h r0 : ℕ} (hn : r0 + 768 = 1024)
    (hqi : 256 * kb = 1024 * T.qi + r0) (hh : h < 2) (hkb : kb < 8) (hN : N h = kb)
    {q d : FVec Ideal S768x64 .bf16} {lane : BitVec 32} {k v : Vec Ideal S2048x128 .bf16} {x : Vec Ideal S1x1024x128 .f32}
    {ko qo : Fin 2 → ℕ} {xo go : Fin 3 → ℕ} (hko : ko = ![256 * kb, 64 * h]) (hqo : qo = ![r0, 64 * h]) (hxo : xo = ![0, r0, 0]) (hgo : go = ![h, r0, 0])
    (ik : ∀ a, ko a + S256x64.size a ≤ S2048x128.size a) (iq : ∀ a, qo a + S768x64.size a ≤ S1024x128.size a)
    (ix : ∀ a, xo a + S1x768x128.size a ≤ S1x1024x128.size a) (ig : ∀ a, go a + S1x768x1.size a ≤ S2x1024x1.size a)
    (hlane : lane = BitVec.ofNat 32 (64 * h + kb)) (hq : Is2 q (fun r c => T.Q (r0 + r) (64 * h + c))) (hd : Is2 d (fun r c => T.D (r0 + r) (64 * h + c)))
    (hk : Is2 k T.K) (hv : Is2 v T.V) (hx : Is3 x (fun _ => T.X)) :
    IsAcc T (fun j => if j = h then kb + 1 else N j) z z' (step768 (F := Ideal) q d lane k v x ko ik qo iq xo ix go ig s) := by
  subst hlane
  have hp : 64 * h + kb < 128 := by omega
  have hK := ld2_bf16 hk hko ik
  have hV := ld2_bf16 hv hko ik
  have hX := ld3_f32 hx hxo ix
  have hl := lg768_is hq hK
  have hA : Is2 _ (fun r s => T.A h (r0 + r) (256 * kb + s)) := (wtm768_is hl hX after_is (64 * h + kb) hp).congr fun r hr s hs => by
    have e1 : (256 * kb + s) / 256 = kb := by omega
    have e2 : (256 * kb + s) % 256 = s := by omega
    unfold Data.A Data.SP Data.L
    rw [e1, e2]
    have e3 : ∀ k, (256 * kb + k < 1024 * T.qi + (r0 + r)) = (k < r) := fun k => by rw [eq_iff_iff]; omega
    simp only [e3, zero_add]
  have hG : Is2 _ (fun r s => T.G h (r0 + r) (256 * kb + s)) := gr768_is hA hd hV
  have hC : Is2 _ (fun r s => T.C h (r0 + r) (256 * kb + s)) := (cu768_is hG before_is (ld3_f32 hs.gc hgo ig)).congr fun r hr s hs => by
    rw [pre_sum (fun k => T.G h (r0 + r) (256 * kb + k)) s hs.le]
    unfold Data.C Data.gc
    rw [Finset.sum_range_add]
    simp only [add_zero, hN]
  have hDL : Is2 _ (fun r s => T.DL h (r0 + r) (256 * kb + s)) := (dlm768_is hl hG hC).congr fun r hr s hs => by
    unfold Data.DL Data.L
    have e3 : (256 * kb + s < 1024 * T.qi + (r0 + r)) = (s < r) := by rw [eq_iff_iff]; omega
    simp only [e3]
  exact hs.step (n := 768) (r0 := r0) hn (Or.inl hqi) hh hN hko hqo hgo
    (tn768_is hDL hq (ld2_f32 hs.dk hko ik)) (tn768_is hA hd (ld2_f32 hs.dv hko ik)) (nn768_is hDL hK (ld2_f32 hs.dq hqo iq)) (gc768_is hG hC)

/-- One step of the diagonal at 512 rows. -/
theorem step512_acc {T : Data} {N : ℕ → ℕ} {z z' : ℕ → ℕ → ℝ} {s : Acc Ideal} (hs : IsAcc T N z z' s) {kb h r0 : ℕ} (hn : r0 + 512 = 1024)
    (hqi : 256 * kb = 1024 * T.qi + r0) (hh : h < 2) (hkb : kb < 8) (hN : N h = kb)
    {q d : FVec Ideal S512x64 .bf16} {lane : BitVec 32} {k v : Vec Ideal S2048x128 .bf16} {x : Vec Ideal S1x1024x128 .f32}
    {ko qo : Fin 2 → ℕ} {xo go : Fin 3 → ℕ} (hko : ko = ![256 * kb, 64 * h]) (hqo : qo = ![r0, 64 * h]) (hxo : xo = ![0, r0, 0]) (hgo : go = ![h, r0, 0])
    (ik : ∀ a, ko a + S256x64.size a ≤ S2048x128.size a) (iq : ∀ a, qo a + S512x64.size a ≤ S1024x128.size a)
    (ix : ∀ a, xo a + S1x512x128.size a ≤ S1x1024x128.size a) (ig : ∀ a, go a + S1x512x1.size a ≤ S2x1024x1.size a)
    (hlane : lane = BitVec.ofNat 32 (64 * h + kb)) (hq : Is2 q (fun r c => T.Q (r0 + r) (64 * h + c))) (hd : Is2 d (fun r c => T.D (r0 + r) (64 * h + c)))
    (hk : Is2 k T.K) (hv : Is2 v T.V) (hx : Is3 x (fun _ => T.X)) :
    IsAcc T (fun j => if j = h then kb + 1 else N j) z z' (step512 (F := Ideal) q d lane k v x ko ik qo iq xo ix go ig s) := by
  subst hlane
  have hp : 64 * h + kb < 128 := by omega
  have hK := ld2_bf16 hk hko ik
  have hV := ld2_bf16 hv hko ik
  have hX := ld3_f32 hx hxo ix
  have hl := lg512_is hq hK
  have hA : Is2 _ (fun r s => T.A h (r0 + r) (256 * kb + s)) := (wtm512_is hl hX after_is (64 * h + kb) hp).congr fun r hr s hs => by
    have e1 : (256 * kb + s) / 256 = kb := by omega
    have e2 : (256 * kb + s) % 256 = s := by omega
    unfold Data.A Data.SP Data.L
    rw [e1, e2]
    have e3 : ∀ k, (256 * kb + k < 1024 * T.qi + (r0 + r)) = (k < r) := fun k => by rw [eq_iff_iff]; omega
    simp only [e3, zero_add]
  have hG : Is2 _ (fun r s => T.G h (r0 + r) (256 * kb + s)) := gr512_is hA hd hV
  have hC : Is2 _ (fun r s => T.C h (r0 + r) (256 * kb + s)) := (cu512_is hG before_is (ld3_f32 hs.gc hgo ig)).congr fun r hr s hs => by
    rw [pre_sum (fun k => T.G h (r0 + r) (256 * kb + k)) s hs.le]
    unfold Data.C Data.gc
    rw [Finset.sum_range_add]
    simp only [add_zero, hN]
  have hDL : Is2 _ (fun r s => T.DL h (r0 + r) (256 * kb + s)) := (dlm512_is hl hG hC).congr fun r hr s hs => by
    unfold Data.DL Data.L
    have e3 : (256 * kb + s < 1024 * T.qi + (r0 + r)) = (s < r) := by rw [eq_iff_iff]; omega
    simp only [e3]
  exact hs.step (n := 512) (r0 := r0) hn (Or.inl hqi) hh hN hko hqo hgo
    (tn512_is hDL hq (ld2_f32 hs.dk hko ik)) (tn512_is hA hd (ld2_f32 hs.dv hko ik)) (nn512_is hDL hK (ld2_f32 hs.dq hqo iq)) (gc512_is hG hC)

/-- One step of the diagonal at 256 rows. -/
theorem step256_acc {T : Data} {N : ℕ → ℕ} {z z' : ℕ → ℕ → ℝ} {s : Acc Ideal} (hs : IsAcc T N z z' s) {kb h r0 : ℕ} (hn : r0 + 256 = 1024)
    (hqi : 256 * kb = 1024 * T.qi + r0) (hh : h < 2) (hkb : kb < 8) (hN : N h = kb)
    {q d : FVec Ideal S256x64 .bf16} {lane : BitVec 32} {k v : Vec Ideal S2048x128 .bf16} {x : Vec Ideal S1x1024x128 .f32}
    {ko qo : Fin 2 → ℕ} {xo go : Fin 3 → ℕ} (hko : ko = ![256 * kb, 64 * h]) (hqo : qo = ![r0, 64 * h]) (hxo : xo = ![0, r0, 0]) (hgo : go = ![h, r0, 0])
    (ik : ∀ a, ko a + S256x64.size a ≤ S2048x128.size a) (iq : ∀ a, qo a + S256x64.size a ≤ S1024x128.size a)
    (ix : ∀ a, xo a + S1x256x128.size a ≤ S1x1024x128.size a) (ig : ∀ a, go a + S1x256x1.size a ≤ S2x1024x1.size a)
    (hlane : lane = BitVec.ofNat 32 (64 * h + kb)) (hq : Is2 q (fun r c => T.Q (r0 + r) (64 * h + c))) (hd : Is2 d (fun r c => T.D (r0 + r) (64 * h + c)))
    (hk : Is2 k T.K) (hv : Is2 v T.V) (hx : Is3 x (fun _ => T.X)) :
    IsAcc T (fun j => if j = h then kb + 1 else N j) z z' (step256 (F := Ideal) q d lane k v x ko ik qo iq xo ix go ig s) := by
  subst hlane
  have hp : 64 * h + kb < 128 := by omega
  have hK := ld2_bf16 hk hko ik
  have hV := ld2_bf16 hv hko ik
  have hX := ld3_f32 hx hxo ix
  have hl := lg256_is hq hK
  have hA : Is2 _ (fun r s => T.A h (r0 + r) (256 * kb + s)) := (wtm256_is hl hX after_is (64 * h + kb) hp).congr fun r hr s hs => by
    have e1 : (256 * kb + s) / 256 = kb := by omega
    have e2 : (256 * kb + s) % 256 = s := by omega
    unfold Data.A Data.SP Data.L
    rw [e1, e2]
    have e3 : ∀ k, (256 * kb + k < 1024 * T.qi + (r0 + r)) = (k < r) := fun k => by rw [eq_iff_iff]; omega
    simp only [e3, zero_add]
  have hG : Is2 _ (fun r s => T.G h (r0 + r) (256 * kb + s)) := gr256_is hA hd hV
  have hC : Is2 _ (fun r s => T.C h (r0 + r) (256 * kb + s)) := (cu256_is hG before_is (ld3_f32 hs.gc hgo ig)).congr fun r hr s hs => by
    rw [pre_sum (fun k => T.G h (r0 + r) (256 * kb + k)) s hs.le]
    unfold Data.C Data.gc
    rw [Finset.sum_range_add]
    simp only [add_zero, hN]
  have hDL : Is2 _ (fun r s => T.DL h (r0 + r) (256 * kb + s)) := (dlm256_is hl hG hC).congr fun r hr s hs => by
    unfold Data.DL Data.L
    have e3 : (256 * kb + s < 1024 * T.qi + (r0 + r)) = (s < r) := by rw [eq_iff_iff]; omega
    simp only [e3]
  exact hs.step (n := 256) (r0 := r0) hn (Or.inl hqi) hh hN hko hqo hgo
    (tn256_is hDL hq (ld2_f32 hs.dk hko ik)) (tn256_is hA hd (ld2_f32 hs.dv hko ik)) (nn256_is hDL hK (ld2_f32 hs.dq hqo iq)) (gc256_is hG hC)

/-- One step before the diagonal at 1024 rows. -/
theorem stepF_acc {T : Data} {N : ℕ → ℕ} {z z' : ℕ → ℕ → ℝ} {s : Acc Ideal} (hs : IsAcc T N z z' s) {kb h : ℕ}
    (hqi : 256 * kb + 256 ≤ 1024 * T.qi) (hh : h < 2) (hkb : kb < 8) (hN : N h = kb)
    {q d : FVec Ideal S1024x64 .bf16} {lane : BitVec 32} {k v : Vec Ideal S2048x128 .bf16} {x : Vec Ideal S1x1024x128 .f32}
    {ko qo : Fin 2 → ℕ} {xo go : Fin 3 → ℕ} (hko : ko = ![256 * kb, 64 * h]) (hqo : qo = ![0, 64 * h]) (hxo : xo = ![0, 0, 0]) (hgo : go = ![h, 0, 0])
    (ik : ∀ a, ko a + S256x64.size a ≤ S2048x128.size a) (iq : ∀ a, qo a + S1024x64.size a ≤ S1024x128.size a)
    (ix : ∀ a, xo a + S1x1024x128.size a ≤ S1x1024x128.size a) (ig : ∀ a, go a + S1x1024x1.size a ≤ S2x1024x1.size a)
    (hlane : lane = BitVec.ofNat 32 (64 * h + kb)) (hq : Is2 q (fun r c => T.Q (0 + r) (64 * h + c))) (hd : Is2 d (fun r c => T.D (0 + r) (64 * h + c)))
    (hk : Is2 k T.K) (hv : Is2 v T.V) (hx : Is3 x (fun _ => T.X)) :
    IsAcc T (fun j => if j = h then kb + 1 else N j) z z' (stepF (F := Ideal) q d lane k v x ko ik qo iq xo ix go ig s) := by
  subst hlane
  have hp : 64 * h + kb < 128 := by omega
  have hK := ld2_bf16 hk hko ik
  have hV := ld2_bf16 hv hko ik
  have hX := ld3_f32 hx hxo ix
  have hl := lg1024_is hq hK
  have hA : Is2 _ (fun r s => T.A h (0 + r) (256 * kb + s)) := (wt1024_is hl (sp1024_is hl) hX after_is (64 * h + kb) hp).congr fun r hr s hs => by
    have e1 : (256 * kb + s) / 256 = kb := by omega
    have e2 : (256 * kb + s) % 256 = s := by omega
    unfold Data.A Data.SP Data.L
    rw [e1, e2]
    have e3 : ∀ k ∈ range 256, 256 * kb + k < 1024 * T.qi + (0 + r) := fun k hk => by have := Finset.mem_range.mp hk; omega
    rw [if_pos (e3 s (Finset.mem_range.mpr hs)), if_pos (e3 s (Finset.mem_range.mpr hs))]
    simp only [zero_add] at e3 ⊢
    refine congrArg Real.exp (congrArg (_ - ·) (congrArg (_ + ·) (congrArg (_ + ·) (Finset.sum_congr rfl fun k hk => ?_))))
    rw [if_pos (e3 k hk)]
  have hG : Is2 _ (fun r s => T.G h (0 + r) (256 * kb + s)) := gr1024_is hA hd hV
  have hC : Is2 _ (fun r s => T.C h (0 + r) (256 * kb + s)) := (cu1024_is hG before_is (ld3_f32 hs.gc hgo ig)).congr fun r hr s hs => by
    rw [pre_sum (fun k => T.G h (0 + r) (256 * kb + k)) s hs.le]
    unfold Data.C Data.gc
    rw [Finset.sum_range_add]
    simp only [add_zero, hN]
  have hDL : Is2 _ (fun r s => T.DL h (0 + r) (256 * kb + s)) := (dl1024_is hl hG hC).congr fun r hr s hs => by
    unfold Data.DL Data.L
    rw [if_pos (by omega)]
  exact hs.step (n := 1024) (r0 := 0) rfl (Or.inr rfl) hh hN hko hqo hgo
    (tn1024_is hDL hq (ld2_f32 hs.dk hko ik)) (tn1024_is hA hd (ld2_f32 hs.dv hko ik)) (nn1024_is hDL hK (ld2_f32 hs.dq hqo iq)) (gc1024_is hG hC)

end Cert.Attn
-- ==== Proof.Point.lean ====
module

public import proofs.«01_k».proof.Proof.Inv

/-! # One grid point's accumulators

The steps of a grid point in order: the blocks before the diagonal, then the four blocks of the diagonal. -/

set_option maxRecDepth 16384

@[expose] public section

noncomputable section

open Idealize.ShloMosaic Idealize.ShloMosaic.TcCoe Idealize.SL.Sem
open Finset (range)

namespace Cert.Attn

open Cert.KernelIdeal Cert.KernelIdeal.Gen

/-- Only the two heads' numbers of blocks matter. -/
theorem IsAcc.congrN {T : Data} {N N' : ℕ → ℕ} {z z' : ℕ → ℕ → ℝ} {s : Acc Ideal} (hs : IsAcc T N z z' s) (h0 : N 0 = N' 0) (h1 : N 1 = N' 1) :
    IsAcc T N' z z' s := by
  have e : ∀ h < 2, N h = N' h := fun h hh => by interval_cases h <;> assumption
  refine ⟨hs.dk.congr fun s hs c hc => ?_, hs.dv.congr fun s hs c hc => ?_, hs.dq.congr fun r hr c hc => ?_, hs.gc.congr fun h hh r hr t ht => ?_⟩
  · unfold Data.dk; rw [e (c / 64) (by omega)]
  · unfold Data.dv; rw [e (c / 64) (by omega)]
  · unfold Data.dq; rw [e (c / 64) (by omega)]
  · unfold Data.gc; rw [e h hh]

/-- `a` blocks of head 0 and `b` of head 1. -/
def two (a b : ℕ) (h : ℕ) : ℕ := if h = 0 then a else b

theorem lane_eq (i : grid0.Coords) (h j : ℕ) :
    laneOf (BitVec.ofNat 32 (64 * h)) i (BitVec.ofNat 32 j) = BitVec.ofNat 32 (64 * h + (4 * (i 2 : ℕ) + j)) := by
  unfold laneOf
  simp only [Scalar.addi, Scalar.muli, IntOp.addi, IntOp.muli]
  simp only [BitVec.ofNat_add, BitVec.ofNat_mul]

theorem slice_is {n o : ℕ} {q : FVec Ideal S1024x64 .bf16} {f : ℕ → ℕ → ℝ} (hq : Is2 q f) (hs) :
    Is2 (a := n) (b := 64) (extractStridedSlice (s := S1024x64) (⟨2, ![n, 64]⟩ : Shape) ![o, 0] q hs) (fun r c => f (o + r) c) := by
  intro r c
  have h0 : o + n ≤ 1024 := hs.2 0
  refine Eq.trans ?_ (hq ⟨o + r, by omega⟩ c)
  unfold extractStridedSlice
  refine congrArg q (funext fun i => ?_)
  fin_cases i <;> ext <;> simp [ix2]

/-- A grid point's windows at finite values. -/
structure IsPoint (T : Data) (i : grid0.Coords) (x0 : Vec Ideal S1024x128 .bf16) (x1 x2 : Vec Ideal S2048x128 .bf16) (x3 : Vec Ideal S1024x128 .f32)
    (x5 : Vec Ideal S1x1024x128 .f32) (x6 : Vec Ideal S1024x128 .f32) : Prop where
  qi : T.qi = (i 2 : ℕ)
  q0 : Is2 (qh0 x0) (fun r c => T.Q r c)
  q1 : Is2 (qh1 x0) (fun r c => T.Q r (64 + c))
  d0 : Is2 (k0_pay64 (dof x3 x6)) (fun r c => T.D r c)
  d1 : Is2 (k0_pay65 (dof x3 x6)) (fun r c => T.D r (64 + c))
  k : Is2 x1 T.K
  v : Is2 x2 T.V
  x : Is3 x5 (fun _ => T.X)

variable {T : Data} {i : grid0.Coords} {x0 : Vec Ideal S1024x128 .bf16} {x1 x2 : Vec Ideal S2048x128 .bf16} {x3 : Vec Ideal S1024x128 .f32}
    {x5 : Vec Ideal S1x1024x128 .f32} {x6 : Vec Ideal S1024x128 .f32} {z z' : ℕ → ℕ → ℝ} {s : Acc Ideal}

theorem diag1_acc (hp : IsPoint T i x0 x1 x2 x3 x5 x6) (hs : IsAcc T (two (4 * T.qi) (4 * T.qi)) z z' s) :
    IsAcc T (two (4 * T.qi + 1) (4 * T.qi + 0)) z z' (diag1 (F := Ideal) i x0 x1 x2 x3 x5 x6 s) := by
  have hi : (i 2 : ℕ) < 2 := (i 2).isLt
  have hqi := hp.qi
  refine (step1024_acc hs (kb := 4 * T.qi + 0) (h := 0) (r0 := 0) (by rfl) (by omega) (by omega) (by omega) (by rfl)
    (by rw [show k0_off5 i 0#32 = _ from k0_off5_eq i 0, hqi]; refine congrArg₂ (fun a b => ![a, b]) ?_ (by rfl); show 1024 * (i 2 : ℕ) + 256 * 0 = _; omega)
    (by rfl) (by rfl) (by rfl) _ _ _ _ (by rw [hqi]; exact lane_eq i 0 0) ((hp.q0 : Is2 _ _).congr fun r _ c _ => ?_) ((hp.d0 : Is2 _ _).congr fun r _ c _ => ?_) hp.k hp.v hp.x).congrN (by rfl) (by rfl)
  · congr 1 <;> omega
  · congr 1 <;> omega

theorem diag2_acc (hp : IsPoint T i x0 x1 x2 x3 x5 x6) (hs : IsAcc T (two (4 * T.qi) (4 * T.qi)) z z' s) :
    IsAcc T (two (4 * T.qi + 1) (4 * T.qi + 1)) z z' (diag2 (F := Ideal) i x0 x1 x2 x3 x5 x6 s) := by
  have hi : (i 2 : ℕ) < 2 := (i 2).isLt
  have hqi := hp.qi
  refine (step1024_acc (diag1_acc hp hs) (kb := 4 * T.qi + 0) (h := 1) (r0 := 0) (by rfl) (by omega) (by omega) (by omega) (by rfl)
    (by rw [show k0_off6 i 0#32 = _ from k0_off6_eq i 0, hqi]; refine congrArg₂ (fun a b => ![a, b]) ?_ (by rfl); show 1024 * (i 2 : ℕ) + 256 * 0 = _; omega)
    (by rfl) (by rfl) (by rfl) _ _ _ _ (by rw [hqi]; exact lane_eq i 1 0) ((hp.q1 : Is2 _ _).congr fun r _ c _ => ?_) ((hp.d1 : Is2 _ _).congr fun r _ c _ => ?_) hp.k hp.v hp.x).congrN (by rfl) (by rfl)
  · congr 1 <;> omega
  · congr 1 <;> omega

theorem diag3_acc (hp : IsPoint T i x0 x1 x2 x3 x5 x6) (hs : IsAcc T (two (4 * T.qi) (4 * T.qi)) z z' s) :
    IsAcc T (two (4 * T.qi + 2) (4 * T.qi + 1)) z z' (diag3 (F := Ideal) i x0 x1 x2 x3 x5 x6 s) := by
  have hi : (i 2 : ℕ) < 2 := (i 2).isLt
  have hqi := hp.qi
  refine (step768_acc (diag2_acc hp hs) (kb := 4 * T.qi + 1) (h := 0) (r0 := 256) (by rfl) (by omega) (by omega) (by omega) (by rfl)
    (by rw [show k0_off5 i 1#32 = _ from k0_off5_eq i 1, hqi]; refine congrArg₂ (fun a b => ![a, b]) ?_ (by rfl); show 1024 * (i 2 : ℕ) + 256 * 1 = _; omega)
    (by rfl) (by rfl) (by rfl) _ _ _ _ (by rw [hqi]; exact lane_eq i 0 1) (((slice_is hp.q0 _) : Is2 _ _).congr fun r _ c _ => ?_) (((slice_is hp.d0 _) : Is2 _ _).congr fun r _ c _ => ?_) hp.k hp.v hp.x).congrN (by rfl) (by rfl)
  · congr 1 <;> omega
  · congr 1 <;> omega

theorem diag4_acc (hp : IsPoint T i x0 x1 x2 x3 x5 x6) (hs : IsAcc T (two (4 * T.qi) (4 * T.qi)) z z' s) :
    IsAcc T (two (4 * T.qi + 2) (4 * T.qi + 2)) z z' (diag4 (F := Ideal) i x0 x1 x2 x3 x5 x6 s) := by
  have hi : (i 2 : ℕ) < 2 := (i 2).isLt
  have hqi := hp.qi
  refine (step768_acc (diag3_acc hp hs) (kb := 4 * T.qi + 1) (h := 1) (r0 := 256) (by rfl) (by omega) (by omega) (by omega) (by rfl)
    (by rw [show k0_off6 i 1#32 = _ from k0_off6_eq i 1, hqi]; refine congrArg₂ (fun a b => ![a, b]) ?_ (by rfl); show 1024 * (i 2 : ℕ) + 256 * 1 = _; omega)
    (by rfl) (by rfl) (by rfl) _ _ _ _ (by rw [hqi]; exact lane_eq i 1 1) (((slice_is hp.q1 _) : Is2 _ _).congr fun r _ c _ => ?_) (((slice_is hp.d1 _) : Is2 _ _).congr fun r _ c _ => ?_) hp.k hp.v hp.x).congrN (by rfl) (by rfl)
  · congr 1 <;> omega
  · congr 1 <;> omega

theorem diag5_acc (hp : IsPoint T i x0 x1 x2 x3 x5 x6) (hs : IsAcc T (two (4 * T.qi) (4 * T.qi)) z z' s) :
    IsAcc T (two (4 * T.qi + 3) (4 * T.qi + 2)) z z' (diag5 (F := Ideal) i x0 x1 x2 x3 x5 x6 s) := by
  have hi : (i 2 : ℕ) < 2 := (i 2).isLt
  have hqi := hp.qi
  refine (step512_acc (diag4_acc hp hs) (kb := 4 * T.qi + 2) (h := 0) (r0 := 512) (by rfl) (by omega) (by omega) (by omega) (by rfl)
    (by rw [show k0_off5 i 2#32 = _ from k0_off5_eq i 2, hqi]; refine congrArg₂ (fun a b => ![a, b]) ?_ (by rfl); show 1024 * (i 2 : ℕ) + 256 * 2 = _; omega)
    (by rfl) (by rfl) (by rfl) _ _ _ _ (by rw [hqi]; exact lane_eq i 0 2) (((slice_is hp.q0 _) : Is2 _ _).congr fun r _ c _ => ?_) (((slice_is hp.d0 _) : Is2 _ _).congr fun r _ c _ => ?_) hp.k hp.v hp.x).congrN (by rfl) (by rfl)
  · congr 1 <;> omega
  · congr 1 <;> omega

theorem diag6_acc (hp : IsPoint T i x0 x1 x2 x3 x5 x6) (hs : IsAcc T (two (4 * T.qi) (4 * T.qi)) z z' s) :
    IsAcc T (two (4 * T.qi + 3) (4 * T.qi + 3)) z z' (diag6 (F := Ideal) i x0 x1 x2 x3 x5 x6 s) := by
  have hi : (i 2 : ℕ) < 2 := (i 2).isLt
  have hqi := hp.qi
  refine (step512_acc (diag5_acc hp hs) (kb := 4 * T.qi + 2) (h := 1) (r0 := 512) (by rfl) (by omega) (by omega) (by omega) (by rfl)
    (by rw [show k0_off6 i 2#32 = _ from k0_off6_eq i 2, hqi]; refine congrArg₂ (fun a b => ![a, b]) ?_ (by rfl); show 1024 * (i 2 : ℕ) + 256 * 2 = _; omega)
    (by rfl) (by rfl) (by rfl) _ _ _ _ (by rw [hqi]; exact lane_eq i 1 2) (((slice_is hp.q1 _) : Is2 _ _).congr fun r _ c _ => ?_) (((slice_is hp.d1 _) : Is2 _ _).congr fun r _ c _ => ?_) hp.k hp.v hp.x).congrN (by rfl) (by rfl)
  · congr 1 <;> omega
  · congr 1 <;> omega

theorem diag7_acc (hp : IsPoint T i x0 x1 x2 x3 x5 x6) (hs : IsAcc T (two (4 * T.qi) (4 * T.qi)) z z' s) :
    IsAcc T (two (4 * T.qi + 4) (4 * T.qi + 3)) z z' (diag7 (F := Ideal) i x0 x1 x2 x3 x5 x6 s) := by
  have hi : (i 2 : ℕ) < 2 := (i 2).isLt
  have hqi := hp.qi
  refine (step256_acc (diag6_acc hp hs) (kb := 4 * T.qi + 3) (h := 0) (r0 := 768) (by rfl) (by omega) (by omega) (by omega) (by rfl)
    (by rw [show k0_off5 i 3#32 = _ from k0_off5_eq i 3, hqi]; refine congrArg₂ (fun a b => ![a, b]) ?_ (by rfl); show 1024 * (i 2 : ℕ) + 256 * 3 = _; omega)
    (by rfl) (by rfl) (by rfl) _ _ _ _ (by rw [hqi]; exact lane_eq i 0 3) (((slice_is hp.q0 _) : Is2 _ _).congr fun r _ c _ => ?_) (((slice_is hp.d0 _) : Is2 _ _).congr fun r _ c _ => ?_) hp.k hp.v hp.x).congrN (by rfl) (by rfl)
  · congr 1 <;> omega
  · congr 1 <;> omega

theorem diag8_acc (hp : IsPoint T i x0 x1 x2 x3 x5 x6) (hs : IsAcc T (two (4 * T.qi) (4 * T.qi)) z z' s) :
    IsAcc T (two (4 * T.qi + 4) (4 * T.qi + 4)) z z' (diag8 (F := Ideal) i x0 x1 x2 x3 x5 x6 s) := by
  have hi : (i 2 : ℕ) < 2 := (i 2).isLt
  have hqi := hp.qi
  refine (step256_acc (diag7_acc hp hs) (kb := 4 * T.qi + 3) (h := 1) (r0 := 768) (by rfl) (by omega) (by omega) (by omega) (by rfl)
    (by rw [show k0_off6 i 3#32 = _ from k0_off6_eq i 3, hqi]; refine congrArg₂ (fun a b => ![a, b]) ?_ (by rfl); show 1024 * (i 2 : ℕ) + 256 * 3 = _; omega)
    (by rfl) (by rfl) (by rfl) _ _ _ _ (by rw [hqi]; exact lane_eq i 1 3) (((slice_is hp.q1 _) : Is2 _ _).congr fun r _ c _ => ?_) (((slice_is hp.d1 _) : Is2 _ _).congr fun r _ c _ => ?_) hp.k hp.v hp.x).congrN (by rfl) (by rfl)
  · congr 1 <;> omega
  · congr 1 <;> omega

theorem lane_full (h k : ℕ) :
    Scalar.addi (BitVec.ofNat 32 (64 * h)) (Scf.iv 0#32 1#32 k) = BitVec.ofNat 32 (64 * h + k) := by
  simp [Scalar.addi, IntOp.addi, Scf.iv, BitVec.ofNat_add]

theorem fullA_acc (hp : IsPoint T i x0 x1 x2 x3 x5 x6) (k : Fin (k0_t1_loop i).trips) (hb : (k : ℕ) < 4 * T.qi) (hs : IsAcc T (two k k) z z' s) :
    IsAcc T (two (k + 1) (k + 0)) z z' (fullA (F := Ideal) i x0 x1 x2 x3 x5 x6 k s) := by
  have hi : (i 2 : ℕ) < 2 := (i 2).isLt
  have hqi := hp.qi
  refine (stepF_acc hs (kb := k) (h := 0) (by omega) (by omega) (by omega) (by rfl)
    (k0_off1_eq i k) (by rfl) (by rfl) (by rfl) _ _ _ _ (lane_full 0 k) ((hp.q0 : Is2 _ _).congr fun r _ c _ => ?_) ((hp.d0 : Is2 _ _).congr fun r _ c _ => ?_) hp.k hp.v hp.x).congrN (by rfl) (by rfl)
  · congr 1 <;> omega
  · congr 1 <;> omega

theorem fullB_acc (hp : IsPoint T i x0 x1 x2 x3 x5 x6) (k : Fin (k0_t1_loop i).trips) (hb : (k : ℕ) < 4 * T.qi) (hs : IsAcc T (two k k) z z' s) :
    IsAcc T (two (k + 1) (k + 1)) z z' (fullB (F := Ideal) i x0 x1 x2 x3 x5 x6 k s) := by
  have hi : (i 2 : ℕ) < 2 := (i 2).isLt
  have hqi := hp.qi
  refine (stepF_acc (fullA_acc hp k hb hs) (kb := k) (h := 1) (by omega) (by omega) (by omega) (by rfl)
    (k0_off2_eq i k) (by rfl) (by rfl) (by rfl) _ _ _ _ (lane_full 1 k) ((hp.q1 : Is2 _ _).congr fun r _ c _ => ?_) ((hp.d1 : Is2 _ _).congr fun r _ c _ => ?_) hp.k hp.v hp.x).congrN (by rfl) (by rfl)
  · congr 1 <;> omega
  · congr 1 <;> omega

/-- The running sums and the queries' gradients start at zero. -/
theorem zero_acc (dk dv : Vec Ideal S2048x128 .f32) (hk : Is2 dk z) (hv : Is2 dv z') : IsAcc T (two 0 0) z z' ⟨dk, dv, k0_pay66 (F := Ideal), k0_pay67 (F := Ideal)⟩ := by
  refine ⟨hk.congr fun s _ c _ => ?_, hv.congr fun s _ c _ => ?_, fun r c => ?_, fun h r t => ?_⟩
  · simp [Data.dk, two]
  · simp [Data.dv, two]
  · have : (k0_pay66 (F := Ideal)) (ix2 r c) = 0 := by pointwise [k0_pay66]
    refine this.trans ?_; simp [Data.dq, two]
  · have : (k0_pay67 (F := Ideal)) (ix3 h r t) = 0 := by pointwise [k0_pay67]
    refine this.trans ?_; simp [Data.gc, two]

/-- The accumulators of a first query tile. -/
theorem first_acc (hp : IsPoint T i x0 x1 x2 x3 x5 x6) (h0 : (i 2 : ℕ) = 0) :
    IsAcc T (fun _ => 4) (fun _ _ => 0) (fun _ _ => 0) (diag8 (F := Ideal) i x0 x1 x2 x3 x5 x6 ⟨k0_pay55 (F := Ideal), k0_pay56 (F := Ideal), k0_pay66 (F := Ideal), k0_pay67 (F := Ideal)⟩) := by
  have hq : T.qi = 0 := hp.qi.trans h0
  have h55 : Is2 (k0_pay55 (F := Ideal)) (fun _ _ => 0) := fun s c => by
    have : (k0_pay55 (F := Ideal)) (ix2 s c) = 0 := by pointwise [k0_pay55]
    exact this.trans (by rfl)
  have h56 : Is2 (k0_pay56 (F := Ideal)) (fun _ _ => 0) := fun s c => by
    have : (k0_pay56 (F := Ideal)) (ix2 s c) = 0 := by pointwise [k0_pay56]
    exact this.trans (by rfl)
  have hz : IsAcc T (two 0 0) (fun _ _ => 0) (fun _ _ => 0) ⟨k0_pay55 (F := Ideal), k0_pay56 (F := Ideal), k0_pay66 (F := Ideal), k0_pay67 (F := Ideal)⟩ :=
    zero_acc (z := fun _ _ => 0) (z' := fun _ _ => 0) (k0_pay55 (F := Ideal)) (k0_pay56 (F := Ideal)) h55 h56
  exact (diag8_acc hp (hz.congrN (by simp [two, hq]) (by simp [two, hq]))).congrN (by simp [two, hq]) (by simp [two, hq])

/-- The accumulators of a second query tile. -/
theorem second_acc (hp : IsPoint T i x0 x1 x2 x3 x5 x6) (h1 : (i 2 : ℕ) = 1) (dk dv : Vec Ideal S2048x128 .f32) (hk : Is2 dk z) (hv : Is2 dv z')
    (k0 k1 k2 k3 : Fin (k0_t1_loop i).trips) (e0 : (k0 : ℕ) = 0) (e1 : (k1 : ℕ) = 1) (e2 : (k2 : ℕ) = 2) (e3 : (k3 : ℕ) = 3) :
    IsAcc T (fun _ => 8) z z' (diag8 (F := Ideal) i x0 x1 x2 x3 x5 x6 (fullB i x0 x1 x2 x3 x5 x6 k3 (fullB i x0 x1 x2 x3 x5 x6 k2
      (fullB i x0 x1 x2 x3 x5 x6 k1 (fullB i x0 x1 x2 x3 x5 x6 k0 ⟨dk, dv, k0_pay66 (F := Ideal), k0_pay67 (F := Ideal)⟩))))) := by
  have hq : T.qi = 1 := hp.qi.trans h1
  have s0 := fullB_acc hp k0 (by omega) ((zero_acc (T := T) dk dv hk hv).congrN (by simp [two, e0]) (by simp [two, e0]))
  have s1 := fullB_acc hp k1 (by omega) (s0.congrN (by simp [two, e0, e1]) (by simp [two, e0, e1]))
  have s2 := fullB_acc hp k2 (by omega) (s1.congrN (by simp [two, e1, e2]) (by simp [two, e1, e2]))
  have s3 := fullB_acc hp k3 (by omega) (s2.congrN (by simp [two, e2, e3]) (by simp [two, e2, e3]))
  exact (diag8_acc hp (s3.congrN (by simp [two, e3, hq]) (by simp [two, e3, hq]))).congrN (by simp [two, hq]) (by simp [two, hq])

end Cert.Attn
-- ==== Proof.Tile.lean ====
module

public import proofs.«01_k».proof.Proof.Glob
public import proofs.«01_k».proof.Proof.Inv

/-! # Blocks of rows within whole sequences

What one grid point computes of its block of rows is the whole computation's, restricted to those rows; the two blocks of rows
of a sequence together give the gradients of its keys and values. -/

set_option maxRecDepth 16384

@[expose] public section

noncomputable section

open Idealize.ShloMosaic Idealize.ShloMosaic.TcCoe Idealize.SL.Sem
open Finset (range)

namespace Cert.Attn

variable (H D : ℕ → ℕ → ℝ) (b hp qi : ℕ)

/-- The block `qi` of rows of batch `b`, heads `2 hp` and `2 hp + 1`. -/
def tile : Data where
  qi := qi
  Q r c := H (2048 * b + (1024 * qi + r)) (128 * hp + c) * (1 / 8)
  K s c := H (2048 * b + s) (1024 + (128 * hp + c))
  V s c := H (2048 * b + s) (2048 + (128 * hp + c))
  D r c := Whole.d H D (2048 * b + (1024 * qi + r)) (128 * hp + c)
  X r j := ∑ s ∈ range 2048, if 256 * (j % 64 + 1) ≤ s then Whole.sp H b (2 * hp + j / 64) (1024 * qi + r) s else 0

theorem lane (hp h c : ℕ) : 128 * hp + (64 * h + c) = 64 * (2 * hp + h) + c := by ring

theorem lane' (hp c : ℕ) : 128 * hp + c = 64 * (2 * hp + c / 64) + c % 64 := by omega

theorem tile_L (h r s : ℕ) : (tile H D b hp qi).L h r s = Whole.l H b (2 * hp + h) (1024 * qi + r) s := by
  unfold Data.L Whole.l
  refine Finset.sum_congr rfl fun c _ => ?_
  show H _ _ * _ * H _ _ = _
  rw [lane]
  rfl

theorem tile_SP (h r s : ℕ) : (tile H D b hp qi).SP h r s = Whole.sp H b (2 * hp + h) (1024 * qi + r) s := by
  unfold Data.SP Whole.sp
  rw [tile_L]
  rfl

/-- A sum over all keys from one on, cut at the key and at the end of its block. -/
theorem suffix (f : ℕ → ℝ) (s : ℕ) (hs : s < 2048) :
    (∑ k ∈ range 2048, if s ≤ k then f k else 0)
      = f s + ((∑ k ∈ range 2048, if 256 * (s / 256 + 1) ≤ k then f k else 0) + ∑ k ∈ range 256, f (256 * (s / 256) + k) * (if s % 256 < k % 256 then 1 else 0)) := by
  have hb : ∑ k ∈ range 256, f (256 * (s / 256) + k) * (if s % 256 < k % 256 then 1 else 0)
      = ∑ k ∈ range 2048, if s < k ∧ k < 256 * (s / 256 + 1) then f k else 0 := by
    have : (2048 : ℕ) = 256 * (s / 256) + (256 + (2048 - 256 * (s / 256) - 256)) := by omega
    rw [this, Finset.sum_range_add, Finset.sum_range_add, Finset.sum_eq_zero (s := range (256 * (s / 256))), zero_add,
      Finset.sum_eq_zero (s := range (2048 - 256 * (s / 256) - 256)), add_zero]
    · refine Finset.sum_congr rfl fun k hk => ?_
      have := Finset.mem_range.mp hk
      by_cases h : s % 256 < k % 256
      · rw [if_pos h, if_pos (by omega), mul_one]
      · rw [if_neg h, if_neg (by omega), mul_zero]
    · intro k hk
      rw [if_neg (by omega)]
    · intro k hk
      have := Finset.mem_range.mp hk
      rw [if_neg (by omega)]
  have hs' : f s = ∑ k ∈ range 2048, if k = s then f k else 0 := by
    rw [Finset.sum_ite_eq' (range 2048) s f, if_pos (Finset.mem_range.mpr hs)]
  rw [hb, hs', ← Finset.sum_add_distrib, ← Finset.sum_add_distrib]
  refine Finset.sum_congr rfl fun k hk => ?_
  by_cases h1 : k = s
  · rw [if_pos h1, if_pos (by omega), if_neg (by omega), if_neg (by omega)]; simp
  · by_cases h2 : s ≤ k
    · by_cases h3 : 256 * (s / 256 + 1) ≤ k
      · rw [if_neg h1, if_pos h2, if_pos h3, if_neg (by omega)]; simp
      · rw [if_neg h1, if_pos h2, if_neg h3, if_pos (by omega)]; simp
    · rw [if_neg h1, if_neg h2, if_neg (by omega), if_neg (by omega)]; simp

theorem tile_A (h r s : ℕ) (hs : s < 2048) : (tile H D b hp qi).A h r s = Whole.a H b (2 * hp + h) (1024 * qi + r) s := by
  unfold Data.A Whole.a Whole.suf
  rw [tile_L, suffix _ s hs, tile_SP]
  have hx : (tile H D b hp qi).X r (64 * h + s / 256) = ∑ k ∈ range 2048, if 256 * (s / 256 + 1) ≤ k then Whole.sp H b (2 * hp + h) (1024 * qi + r) k else 0 := by
    show (∑ k ∈ range 2048, if 256 * ((64 * h + s / 256) % 64 + 1) ≤ k then Whole.sp H b (2 * hp + (64 * h + s / 256) / 64) (1024 * qi + r) k else 0) = _
    rw [show (64 * h + s / 256) % 64 = s / 256 by omega, show (64 * h + s / 256) / 64 = h by omega]
  have hy : ∑ k ∈ range 256, (tile H D b hp qi).SP h r (256 * (s / 256) + k) * (if s % 256 < k % 256 then (1 : ℝ) else 0)
      = ∑ k ∈ range 256, Whole.sp H b (2 * hp + h) (1024 * qi + r) (256 * (s / 256) + k) * (if s % 256 < k % 256 then (1 : ℝ) else 0) :=
    Finset.sum_congr rfl fun k _ => by rw [tile_SP]
  rw [hx, hy]
  have hq : (tile H D b hp qi).qi = qi := rfl
  rw [hq]

theorem tile_G (h r s : ℕ) (hs : s < 2048) : (tile H D b hp qi).G h r s = Whole.g H D b (2 * hp + h) (1024 * qi + r) s := by
  unfold Data.G Whole.g
  rw [tile_A H D b hp qi h r s hs]
  congr 1
  refine Finset.sum_congr rfl fun c _ => ?_
  show Whole.d H D _ _ * H _ _ = _
  rw [lane]
  rfl

theorem tile_DL (h r s : ℕ) (hs : s < 2048) : (tile H D b hp qi).DL h r s = Whole.dl H D b (2 * hp + h) (1024 * qi + r) s := by
  unfold Data.DL Whole.dl Data.C
  rw [tile_L, tile_G H D b hp qi h r s hs, Finset.sum_congr rfl fun k hk => tile_G H D b hp qi h r k (by have := Finset.mem_range.mp hk; omega)]
  rfl

theorem dl_zero (h t s : ℕ) (hs : t ≤ s) : Whole.dl H D b h t s = 0 := by
  unfold Whole.dl
  rw [if_neg (by omega)]

theorem a_zero (h t s : ℕ) (hs : t ≤ s) : Whole.a H b h t s = 0 := by
  unfold Whole.a
  rw [if_neg (by omega)]

theorem two_halves (f : ℕ → ℝ) : ∑ t ∈ range 2048, f t = ∑ r ∈ range 1024, f (1024 * 0 + r) + ∑ r ∈ range 1024, f (1024 * 1 + r) := by
  rw [show (2048 : ℕ) = 1024 + 1024 by norm_num, Finset.sum_range_add]
  simp

/-- The gradients of the keys after both blocks of rows. -/
theorem total_dk (s c : ℕ) (hs : s < 2048) :
    (tile H D b hp 1).dk (fun _ => 8) ((tile H D b hp 0).dk (fun _ => 4) fun _ _ => 0) s c = Whole.dk H D b s (2 * hp + c / 64) (c % 64) := by
  unfold Data.dk Whole.dk
  rw [two_halves, if_pos (show s / 256 < 8 by omega), zero_add]
  congr 1
  · by_cases h : s / 256 < 4
    · rw [if_pos h]
      refine Finset.sum_congr rfl fun r _ => ?_
      rw [tile_DL H D b hp 0 _ _ _ hs]
      show _ * (H _ _ * _) = _
      rw [lane']
      rfl
    · rw [if_neg h, Finset.sum_eq_zero]
      intro r hr
      have := Finset.mem_range.mp hr
      rw [dl_zero H D b _ _ _ (by omega), zero_mul]
  · refine Finset.sum_congr rfl fun r _ => ?_
    rw [tile_DL H D b hp 1 _ _ _ hs]
    show _ * (H _ _ * _) = _
    rw [lane']
    rfl

/-- The gradients of the values after both blocks of rows. -/
theorem total_dv (s c : ℕ) (hs : s < 2048) :
    (tile H D b hp 1).dv (fun _ => 8) ((tile H D b hp 0).dv (fun _ => 4) fun _ _ => 0) s c = Whole.dv H D b s (2 * hp + c / 64) (c % 64) := by
  unfold Data.dv Whole.dv
  rw [two_halves, if_pos (show s / 256 < 8 by omega), zero_add]
  congr 1
  · by_cases h : s / 256 < 4
    · rw [if_pos h]
      refine Finset.sum_congr rfl fun r _ => ?_
      rw [tile_A H D b hp 0 _ _ _ hs]
      show _ * Whole.d H D _ _ = _
      rw [lane']
    · rw [if_neg h, Finset.sum_eq_zero]
      intro r hr
      have := Finset.mem_range.mp hr
      rw [a_zero H b _ _ _ (by omega), zero_mul]
  · refine Finset.sum_congr rfl fun r _ => ?_
    rw [tile_A H D b hp 1 _ _ _ hs]
    show _ * Whole.d H D _ _ = _
    rw [lane']

/-- The gradients of the queries of a block of rows. -/
theorem total_dq (N : ℕ) (hN : N = 4 * qi + 4) (hq : qi < 2) (r c : ℕ) (hr : r < 1024) :
    (tile H D b hp qi).dq (fun _ => N) r c * (1 / 8) = Whole.dq H D b (1024 * qi + r) (2 * hp + c / 64) (c % 64) := by
  unfold Data.dq Whole.dq
  congr 1
  have : (2048 : ℕ) = 256 * N + (2048 - 256 * N) := by omega
  rw [this, Finset.sum_range_add, Finset.sum_eq_zero (s := range (2048 - 256 * N)), add_zero]
  · refine Finset.sum_congr rfl fun s hs => ?_
    have := Finset.mem_range.mp hs
    rw [tile_DL H D b hp qi _ _ _ (by omega)]
    show _ * H _ _ = _
    rw [lane']
    rfl
  · intro s hs
    have := Finset.mem_range.mp hs
    rw [dl_zero H D b _ _ _ (by omega), zero_mul]

end Cert.Attn
-- ==== Proof.Slots.lean ====
module

public import proofs.«01_k».proof.Proof.Step

/-! # Names for the reads of a point's body

`wr` and `wo` are what a buffer reads after a list of writes, over anything and over an array; `Holds` says that the four
accumulators read a state's. `rd` is what a whole buffer reads that holds an array; `sl5R` and `sl6R` are the rectangles of the keys that the step of
a head and of the block `R` reads or changes, `slr` the whole of the sums of the rows. `srR` and `crR`
are what lies from the block `R` on, of the sums and of a head's rows. -/

@[expose] public section

noncomputable section

open Idealize.ShloMosaic Idealize.ShloMosaic.TcCoe Idealize.SL.Sem

namespace Cert.Attn

open Cert.KernelIdeal Cert.KernelIdeal.Gen

/-- What a whole buffer reads that holds `x`. -/
abbrev rd {F : FTy → Type} {s : Shape} {t : EltTy} {a : Memref sig .tc .vmem s t} (h : a.IsWhole) (x : Vec F s t) : Vec F s t :=
  a.view.read (Elt F) (h.unread x)

/-- What a buffer reads after the writes `L`. -/
abbrev wr {F : FTy → Type} [FloatOps F] [Named F] {s : Shape} {t : EltTy} (a : Memref sig .tc .vmem s t) (L : List (View.Piece (Elt F) s t)) : Vec F s t :=
  a.view.read (Elt F) (a.view.writes (Elt F) a.view.junk L)

/-- What a whole buffer that held `x` reads after the writes `L`. -/
abbrev wo {F : FTy → Type} {s : Shape} {t : EltTy} {a : Memref sig .tc .vmem s t} (h : a.IsWhole) (x : Vec F s t) (L : List (View.Piece (Elt F) s t)) : Vec F s t :=
  a.view.read (Elt F) (a.view.writes (Elt F) (h.unread x) L)

/-- The four accumulators read the state `s`. -/
abbrev Holds {F : FTy → Type} (k v : Vec F S2048x128 .f32) (q : Vec F S1024x128 .f32) (g : Vec F S2x1024x1 .f32) (s : Acc F) : Prop :=
  k = s.dk ∧ v = s.dv ∧ q = s.dq ∧ g = s.gc

abbrev sl50 (i : grid0.Coords) : Rect S2048x128 := Rect.unit (k0_off5 i 0#32) S256x64.size (k0_off5_inb i 0)

abbrev sl51 (i : grid0.Coords) : Rect S2048x128 := Rect.unit (k0_off5 i 1#32) S256x64.size (k0_off5_inb i 1)

abbrev sl52 (i : grid0.Coords) : Rect S2048x128 := Rect.unit (k0_off5 i 2#32) S256x64.size (k0_off5_inb i 2)

abbrev sl53 (i : grid0.Coords) : Rect S2048x128 := Rect.unit (k0_off5 i 3#32) S256x64.size (k0_off5_inb i 3)

abbrev sl60 (i : grid0.Coords) : Rect S2048x128 := Rect.unit (k0_off6 i 0#32) S256x64.size (k0_off6_inb i 0)

abbrev sl61 (i : grid0.Coords) : Rect S2048x128 := Rect.unit (k0_off6 i 1#32) S256x64.size (k0_off6_inb i 1)

abbrev sl62 (i : grid0.Coords) : Rect S2048x128 := Rect.unit (k0_off6 i 2#32) S256x64.size (k0_off6_inb i 2)

abbrev sl63 (i : grid0.Coords) : Rect S2048x128 := Rect.unit (k0_off6 i 3#32) S256x64.size (k0_off6_inb i 3)

abbrev slr : Rect S1x1024x128 := Rect.unit ![0, 0, 0] S1x1024x128.size inb_S1x1024x128_S1x1024x128_0_0_0

abbrev sr1 : Rect S1x1024x128 := Rect.unit ![0, 256, 0] S1x768x128.size inb_S1x1024x128_S1x768x128_0_256_0

abbrev cr1 {α : Type} (x : S1024x64.Idx → α) : S768x64.Idx → α := extractStridedSlice S768x64 ![256, 0] x slices_S1024x64_o256_0_S768x64

abbrev sr2 : Rect S1x1024x128 := Rect.unit ![0, 512, 0] S1x512x128.size inb_S1x1024x128_S1x512x128_0_512_0

abbrev cr2 {α : Type} (x : S1024x64.Idx → α) : S512x64.Idx → α := extractStridedSlice S512x64 ![512, 0] x slices_S1024x64_o512_0_S512x64

abbrev sr3 : Rect S1x1024x128 := Rect.unit ![0, 768, 0] S1x256x128.size inb_S1x1024x128_S1x256x128_0_768_0

abbrev cr3 {α : Type} (x : S1024x64.Idx → α) : S256x64.Idx → α := extractStridedSlice S256x64 ![768, 0] x slices_S1024x64_o768_0_S256x64

end Cert.Attn
-- ==== Proof.RunA.lean ====
module

public import proofs.«01_k».proof.Proof.Slots

/-! # The accumulators through the first tile's body

What each accumulator's buffer reads after each step of the diagonal, as the state of `Step.lean`. -/

set_option maxRecDepth 16384

@[expose] public section

noncomputable section

open Idealize.ShloMosaic Idealize.ShloMosaic.TcCoe Idealize.SL.Sem

namespace Cert.Attn.RunA

open Cert.KernelIdeal Cert.KernelIdeal.Gen Cert.KernelIdeal.Gen.kernelRun0_A.sl

variable {F : FTy → Type} [FloatOps F] [Named F]

variable (c : Dev nD) (i : grid0.Coords)
  (a3 : Memref sig .tc .vmem S1024x128 .bf16) (d : a3.IsWhole)
  (a4 : Memref sig .tc .vmem S2048x128 .bf16) (e : a4.IsWhole)
  (a5 : Memref sig .tc .vmem S2048x128 .bf16) (f : a5.IsWhole)
  (a6 : Memref sig .tc .vmem S1024x128 .f32) (g : a6.IsWhole)
  (a7 : Memref sig .tc .vmem S1024x128 .f32) (h : a7.IsWhole)
  (a8 : Memref sig .tc .vmem S1x1024x128 .f32) (j : a8.IsWhole)
  (a9 : Memref sig .tc .vmem S1024x128 .f32) (k : a9.IsWhole)
  (a10 : Memref sig .tc .vmem S8x128 .f32) (l : a10.IsWhole)
  (a11 : Memref sig .tc .vmem S1024x128 .bf16) (n : a11.IsWhole)
  (a12 : Memref sig .tc .vmem S2048x128 .bf16) (o : a12.IsWhole)
  (a13 : Memref sig .tc .vmem S2048x128 .bf16) (p : a13.IsWhole)
  (a14 : Memref sig .tc .vmem S1024x128 .bf16) (q : a14.IsWhole)
  (a15 : Memref sig .tc .vmem S2048x128 .f32) (r : a15.IsWhole)
  (a16 : Memref sig .tc .vmem S2048x128 .f32) (s : a16.IsWhole)
  (a17 : Memref sig .tc .vmem S1024x128 .f32) (t : a17.IsWhole)
  (a18 : Memref sig .tc .vmem S2x1024x1 .f32) (u : a18.IsWhole)
  (x0 : Vec F S1024x128 .bf16) (x1 x2 : Vec F S2048x128 .bf16) (x3 : Vec F S1024x128 .f32) (x5 : Vec F S1x1024x128 .f32) (x6 : Vec F S1024x128 .f32)

/-- The accumulators before the diagonal. -/
def base : Acc F :=
  ⟨(a15.view.read (Elt F) (a15.view.writes (Elt F) a15.view.junk (HS0_1_1 c i _ d _ e _ f _ g _ h _ j _ k _ l _ n _ o _ p _ q _ r _ s _ t _ u x0 x1 x2 x3 x5 x6).tail)),
   (a16.view.read (Elt F) (a16.view.writes (Elt F) a16.view.junk (HS1_1 c i _ d _ e _ f _ g _ h _ j _ k _ l _ n _ o _ p _ q _ r _ s _ t _ u x0 x1 x2 x3 x5 x6).tail)),
   (a17.view.read (Elt F) (a17.view.writes (Elt F) a17.view.junk (HS2_1_1 c i _ d _ e _ f _ g _ h _ j _ k _ l _ n _ o _ p _ q _ r _ s _ t _ u x0 x1 x2 x3 x5 x6).tail)),
   (a18.view.read (Elt F) (a18.view.writes (Elt F) a18.view.junk (HS3_1_1 c i _ d _ e _ f _ g _ h _ j _ k _ l _ n _ o _ p _ q _ r _ s _ t _ u x0 x1 x2 x3 x5 x6).tail))⟩

theorem l15_1 : (HS0_1_1 c i _ d _ e _ f _ g _ h _ j _ k _ l _ n _ o _ p _ q _ r _ s _ t _ u x0 x1 x2 x3 x5 x6)
    = ⟨(sl50 i), tn1024 (dlm1024 (lg1024 (qh0 (rd d x0)) (View.ld (rd e x1) (sl50 i))) (gr1024 (wtm1024 (lg1024 (qh0 (rd d x0)) (View.ld (rd e x1) (sl50 i))) (laneOf 0#32 i 0#32) (View.ld (rd j x5) slr) k0_pay57) (k0_pay64 (dof (rd g x3) (rd k x6))) (View.ld (rd f x2) (sl50 i))) (cu1024 (gr1024 (wtm1024 (lg1024 (qh0 (rd d x0)) (View.ld (rd e x1) (sl50 i))) (laneOf 0#32 i 0#32) (View.ld (rd j x5) slr) k0_pay57) (k0_pay64 (dof (rd g x3) (rd k x6))) (View.ld (rd f x2) (sl50 i))) k0_pay58 (View.ld (wr a18 (HS3_1_1 c i _ d _ e _ f _ g _ h _ j _ k _ l _ n _ o _ p _ q _ r _ s _ t _ u x0 x1 x2 x3 x5 x6).tail) (Rect.unit ![0, 0, 0] S1x1024x1.size inb_S2x1024x1_S1x1024x1_0_0_0)))) (qh0 (rd d x0)) (View.ld (wr a15 (HS0_1_1 c i _ d _ e _ f _ g _ h _ j _ k _ l _ n _ o _ p _ q _ r _ s _ t _ u x0 x1 x2 x3 x5 x6).tail) (sl50 i))⟩ :: (HS0_1_1 c i _ d _ e _ f _ g _ h _ j _ k _ l _ n _ o _ p _ q _ r _ s _ t _ u x0 x1 x2 x3 x5 x6).tail := rfl

theorem l16_1 : (HS1_1 c i _ d _ e _ f _ g _ h _ j _ k _ l _ n _ o _ p _ q _ r _ s _ t _ u x0 x1 x2 x3 x5 x6)
    = ⟨(sl50 i), tn1024 (wtm1024 (lg1024 (qh0 (rd d x0)) (View.ld (rd e x1) (sl50 i))) (laneOf 0#32 i 0#32) (View.ld (rd j x5) slr) k0_pay57) (k0_pay64 (dof (rd g x3) (rd k x6))) (View.ld (wr a16 (HS1_1 c i _ d _ e _ f _ g _ h _ j _ k _ l _ n _ o _ p _ q _ r _ s _ t _ u x0 x1 x2 x3 x5 x6).tail) (sl50 i))⟩ :: (HS1_1 c i _ d _ e _ f _ g _ h _ j _ k _ l _ n _ o _ p _ q _ r _ s _ t _ u x0 x1 x2 x3 x5 x6).tail := rfl

theorem l17_1 : (HS2_1_1 c i _ d _ e _ f _ g _ h _ j _ k _ l _ n _ o _ p _ q _ r _ s _ t _ u x0 x1 x2 x3 x5 x6)
    = ⟨(Rect.unit ![0, 0] S1024x64.size inb_S1024x128_S1024x64_0_0), nn1024 (dlm1024 (lg1024 (qh0 (rd d x0)) (View.ld (rd e x1) (sl50 i))) (gr1024 (wtm1024 (lg1024 (qh0 (rd d x0)) (View.ld (rd e x1) (sl50 i))) (laneOf 0#32 i 0#32) (View.ld (rd j x5) slr) k0_pay57) (k0_pay64 (dof (rd g x3) (rd k x6))) (View.ld (rd f x2) (sl50 i))) (cu1024 (gr1024 (wtm1024 (lg1024 (qh0 (rd d x0)) (View.ld (rd e x1) (sl50 i))) (laneOf 0#32 i 0#32) (View.ld (rd j x5) slr) k0_pay57) (k0_pay64 (dof (rd g x3) (rd k x6))) (View.ld (rd f x2) (sl50 i))) k0_pay58 (View.ld (wr a18 (HS3_1_1 c i _ d _ e _ f _ g _ h _ j _ k _ l _ n _ o _ p _ q _ r _ s _ t _ u x0 x1 x2 x3 x5 x6).tail) (Rect.unit ![0, 0, 0] S1x1024x1.size inb_S2x1024x1_S1x1024x1_0_0_0)))) (View.ld (rd e x1) (sl50 i)) (View.ld (wr a17 (HS2_1_1 c i _ d _ e _ f _ g _ h _ j _ k _ l _ n _ o _ p _ q _ r _ s _ t _ u x0 x1 x2 x3 x5 x6).tail) (Rect.unit ![0, 0] S1024x64.size inb_S1024x128_S1024x64_0_0))⟩ :: (HS2_1_1 c i _ d _ e _ f _ g _ h _ j _ k _ l _ n _ o _ p _ q _ r _ s _ t _ u x0 x1 x2 x3 x5 x6).tail := rfl

theorem l18_1 : (HS3_1_1 c i _ d _ e _ f _ g _ h _ j _ k _ l _ n _ o _ p _ q _ r _ s _ t _ u x0 x1 x2 x3 x5 x6)
    = ⟨(Rect.unit ![0, 0, 0] S1x1024x1.size inb_S2x1024x1_S1x1024x1_0_0_0), gc1024 (gr1024 (wtm1024 (lg1024 (qh0 (rd d x0)) (View.ld (rd e x1) (sl50 i))) (laneOf 0#32 i 0#32) (View.ld (rd j x5) slr) k0_pay57) (k0_pay64 (dof (rd g x3) (rd k x6))) (View.ld (rd f x2) (sl50 i))) (cu1024 (gr1024 (wtm1024 (lg1024 (qh0 (rd d x0)) (View.ld (rd e x1) (sl50 i))) (laneOf 0#32 i 0#32) (View.ld (rd j x5) slr) k0_pay57) (k0_pay64 (dof (rd g x3) (rd k x6))) (View.ld (rd f x2) (sl50 i))) k0_pay58 (View.ld (wr a18 (HS3_1_1 c i _ d _ e _ f _ g _ h _ j _ k _ l _ n _ o _ p _ q _ r _ s _ t _ u x0 x1 x2 x3 x5 x6).tail) (Rect.unit ![0, 0, 0] S1x1024x1.size inb_S2x1024x1_S1x1024x1_0_0_0)))⟩ :: (HS3_1_1 c i _ d _ e _ f _ g _ h _ j _ k _ l _ n _ o _ p _ q _ r _ s _ t _ u x0 x1 x2 x3 x5 x6).tail := rfl

theorem r1 : Holds (wr a15 (HS0_1_1 c i _ d _ e _ f _ g _ h _ j _ k _ l _ n _ o _ p _ q _ r _ s _ t _ u x0 x1 x2 x3 x5 x6))
    (wr a16 (HS1_1 c i _ d _ e _ f _ g _ h _ j _ k _ l _ n _ o _ p _ q _ r _ s _ t _ u x0 x1 x2 x3 x5 x6))
    (wr a17 (HS2_1_1 c i _ d _ e _ f _ g _ h _ j _ k _ l _ n _ o _ p _ q _ r _ s _ t _ u x0 x1 x2 x3 x5 x6))
    (wr a18 (HS3_1_1 c i _ d _ e _ f _ g _ h _ j _ k _ l _ n _ o _ p _ q _ r _ s _ t _ u x0 x1 x2 x3 x5 x6))
    (diag1 i x0 x1 x2 x3 x5 x6 (base c i _ d _ e _ f _ g _ h _ j _ k _ l _ n _ o _ p _ q _ r _ s _ t _ u x0 x1 x2 x3 x5 x6)) := by
  refine ⟨?_, ?_, ?_, ?_⟩
  · rw [wr, l15_1, read_put]; simp only [rd, Memref.IsWhole.read_unread]; rfl
  · rw [wr, l16_1, read_put]; simp only [rd, Memref.IsWhole.read_unread]; rfl
  · rw [wr, l17_1, read_put]; simp only [rd, Memref.IsWhole.read_unread]; rfl
  · rw [wr, l18_1, read_put]; simp only [rd, Memref.IsWhole.read_unread]; rfl

theorem l15_2 : (HS0_2 c i _ d _ e _ f _ g _ h _ j _ k _ l _ n _ o _ p _ q _ r _ s _ t _ u x0 x1 x2 x3 x5 x6)
    = ⟨(sl60 i), tn1024 (dlm1024 (lg1024 (qh1 (rd d x0)) (View.ld (rd e x1) (sl60 i))) (gr1024 (wtm1024 (lg1024 (qh1 (rd d x0)) (View.ld (rd e x1) (sl60 i))) (laneOf 64#32 i 0#32) (View.ld (rd j x5) slr) k0_pay57) (k0_pay65 (dof (rd g x3) (rd k x6))) (View.ld (rd f x2) (sl60 i))) (cu1024 (gr1024 (wtm1024 (lg1024 (qh1 (rd d x0)) (View.ld (rd e x1) (sl60 i))) (laneOf 64#32 i 0#32) (View.ld (rd j x5) slr) k0_pay57) (k0_pay65 (dof (rd g x3) (rd k x6))) (View.ld (rd f x2) (sl60 i))) k0_pay58 (View.ld (wr a18 (HS3_1_1 c i _ d _ e _ f _ g _ h _ j _ k _ l _ n _ o _ p _ q _ r _ s _ t _ u x0 x1 x2 x3 x5 x6)) (Rect.unit ![1, 0, 0] S1x1024x1.size inb_S2x1024x1_S1x1024x1_1_0_0)))) (qh1 (rd d x0)) (View.ld (wr a15 (HS0_1_1 c i _ d _ e _ f _ g _ h _ j _ k _ l _ n _ o _ p _ q _ r _ s _ t _ u x0 x1 x2 x3 x5 x6)) (sl60 i))⟩ :: (HS0_1_1 c i _ d _ e _ f _ g _ h _ j _ k _ l _ n _ o _ p _ q _ r _ s _ t _ u x0 x1 x2 x3 x5 x6) := rfl

theorem l16_2 : (HS1_2 c i _ d _ e _ f _ g _ h _ j _ k _ l _ n _ o _ p _ q _ r _ s _ t _ u x0 x1 x2 x3 x5 x6)
    = ⟨(sl60 i), tn1024 (wtm1024 (lg1024 (qh1 (rd d x0)) (View.ld (rd e x1) (sl60 i))) (laneOf 64#32 i 0#32) (View.ld (rd j x5) slr) k0_pay57) (k0_pay65 (dof (rd g x3) (rd k x6))) (View.ld (wr a16 (HS1_1 c i _ d _ e _ f _ g _ h _ j _ k _ l _ n _ o _ p _ q _ r _ s _ t _ u x0 x1 x2 x3 x5 x6)) (sl60 i))⟩ :: (HS1_1 c i _ d _ e _ f _ g _ h _ j _ k _ l _ n _ o _ p _ q _ r _ s _ t _ u x0 x1 x2 x3 x5 x6) := rfl

theorem l17_2 : (HS2_2 c i _ d _ e _ f _ g _ h _ j _ k _ l _ n _ o _ p _ q _ r _ s _ t _ u x0 x1 x2 x3 x5 x6)
    = ⟨(Rect.unit ![0, 64] S1024x64.size inb_S1024x128_S1024x64_0_64), nn1024 (dlm1024 (lg1024 (qh1 (rd d x0)) (View.ld (rd e x1) (sl60 i))) (gr1024 (wtm1024 (lg1024 (qh1 (rd d x0)) (View.ld (rd e x1) (sl60 i))) (laneOf 64#32 i 0#32) (View.ld (rd j x5) slr) k0_pay57) (k0_pay65 (dof (rd g x3) (rd k x6))) (View.ld (rd f x2) (sl60 i))) (cu1024 (gr1024 (wtm1024 (lg1024 (qh1 (rd d x0)) (View.ld (rd e x1) (sl60 i))) (laneOf 64#32 i 0#32) (View.ld (rd j x5) slr) k0_pay57) (k0_pay65 (dof (rd g x3) (rd k x6))) (View.ld (rd f x2) (sl60 i))) k0_pay58 (View.ld (wr a18 (HS3_1_1 c i _ d _ e _ f _ g _ h _ j _ k _ l _ n _ o _ p _ q _ r _ s _ t _ u x0 x1 x2 x3 x5 x6)) (Rect.unit ![1, 0, 0] S1x1024x1.size inb_S2x1024x1_S1x1024x1_1_0_0)))) (View.ld (rd e x1) (sl60 i)) (View.ld (wr a17 (HS2_1_1 c i _ d _ e _ f _ g _ h _ j _ k _ l _ n _ o _ p _ q _ r _ s _ t _ u x0 x1 x2 x3 x5 x6)) (Rect.unit ![0, 64] S1024x64.size inb_S1024x128_S1024x64_0_64))⟩ :: (HS2_1_1 c i _ d _ e _ f _ g _ h _ j _ k _ l _ n _ o _ p _ q _ r _ s _ t _ u x0 x1 x2 x3 x5 x6) := rfl

theorem l18_2 : (HS3_2 c i _ d _ e _ f _ g _ h _ j _ k _ l _ n _ o _ p _ q _ r _ s _ t _ u x0 x1 x2 x3 x5 x6)
    = ⟨(Rect.unit ![1, 0, 0] S1x1024x1.size inb_S2x1024x1_S1x1024x1_1_0_0), gc1024 (gr1024 (wtm1024 (lg1024 (qh1 (rd d x0)) (View.ld (rd e x1) (sl60 i))) (laneOf 64#32 i 0#32) (View.ld (rd j x5) slr) k0_pay57) (k0_pay65 (dof (rd g x3) (rd k x6))) (View.ld (rd f x2) (sl60 i))) (cu1024 (gr1024 (wtm1024 (lg1024 (qh1 (rd d x0)) (View.ld (rd e x1) (sl60 i))) (laneOf 64#32 i 0#32) (View.ld (rd j x5) slr) k0_pay57) (k0_pay65 (dof (rd g x3) (rd k x6))) (View.ld (rd f x2) (sl60 i))) k0_pay58 (View.ld (wr a18 (HS3_1_1 c i _ d _ e _ f _ g _ h _ j _ k _ l _ n _ o _ p _ q _ r _ s _ t _ u x0 x1 x2 x3 x5 x6)) (Rect.unit ![1, 0, 0] S1x1024x1.size inb_S2x1024x1_S1x1024x1_1_0_0)))⟩ :: (HS3_1_1 c i _ d _ e _ f _ g _ h _ j _ k _ l _ n _ o _ p _ q _ r _ s _ t _ u x0 x1 x2 x3 x5 x6) := rfl

theorem r2 : Holds (wr a15 (HS0_2 c i _ d _ e _ f _ g _ h _ j _ k _ l _ n _ o _ p _ q _ r _ s _ t _ u x0 x1 x2 x3 x5 x6))
    (wr a16 (HS1_2 c i _ d _ e _ f _ g _ h _ j _ k _ l _ n _ o _ p _ q _ r _ s _ t _ u x0 x1 x2 x3 x5 x6))
    (wr a17 (HS2_2 c i _ d _ e _ f _ g _ h _ j _ k _ l _ n _ o _ p _ q _ r _ s _ t _ u x0 x1 x2 x3 x5 x6))
    (wr a18 (HS3_2 c i _ d _ e _ f _ g _ h _ j _ k _ l _ n _ o _ p _ q _ r _ s _ t _ u x0 x1 x2 x3 x5 x6))
    (diag2 i x0 x1 x2 x3 x5 x6 (base c i _ d _ e _ f _ g _ h _ j _ k _ l _ n _ o _ p _ q _ r _ s _ t _ u x0 x1 x2 x3 x5 x6)) := by
  obtain ⟨e15, e16, e17, e18⟩ := r1 c i _ d _ e _ f _ g _ h _ j _ k _ l _ n _ o _ p _ q _ r _ s _ t _ u x0 x1 x2 x3 x5 x6
  refine ⟨?_, ?_, ?_, ?_⟩
  · rw [wr, l15_2, read_put]; simp only [rd, Memref.IsWhole.read_unread, e15, e16, e17, e18]; rfl
  · rw [wr, l16_2, read_put]; simp only [rd, Memref.IsWhole.read_unread, e15, e16, e17, e18]; rfl
  · rw [wr, l17_2, read_put]; simp only [rd, Memref.IsWhole.read_unread, e15, e16, e17, e18]; rfl
  · rw [wr, l18_2, read_put]; simp only [rd, Memref.IsWhole.read_unread, e15, e16, e17, e18]; rfl

theorem l15_3 : (HS0_3 c i _ d _ e _ f _ g _ h _ j _ k _ l _ n _ o _ p _ q _ r _ s _ t _ u x0 x1 x2 x3 x5 x6)
    = ⟨(sl51 i), tn768 (dlm768 (lg768 (cr1 (qh0 (rd d x0))) (View.ld (rd e x1) (sl51 i))) (gr768 (wtm768 (lg768 (cr1 (qh0 (rd d x0))) (View.ld (rd e x1) (sl51 i))) (laneOf 0#32 i 1#32) (View.ld (rd j x5) sr1) k0_pay57) (cr1 (k0_pay64 (dof (rd g x3) (rd k x6)))) (View.ld (rd f x2) (sl51 i))) (cu768 (gr768 (wtm768 (lg768 (cr1 (qh0 (rd d x0))) (View.ld (rd e x1) (sl51 i))) (laneOf 0#32 i 1#32) (View.ld (rd j x5) sr1) k0_pay57) (cr1 (k0_pay64 (dof (rd g x3) (rd k x6)))) (View.ld (rd f x2) (sl51 i))) k0_pay58 (View.ld (wr a18 (HS3_2 c i _ d _ e _ f _ g _ h _ j _ k _ l _ n _ o _ p _ q _ r _ s _ t _ u x0 x1 x2 x3 x5 x6)) (Rect.unit ![0, 256, 0] S1x768x1.size inb_S2x1024x1_S1x768x1_0_256_0)))) (cr1 (qh0 (rd d x0))) (View.ld (wr a15 (HS0_2 c i _ d _ e _ f _ g _ h _ j _ k _ l _ n _ o _ p _ q _ r _ s _ t _ u x0 x1 x2 x3 x5 x6)) (sl51 i))⟩ :: (HS0_2 c i _ d _ e _ f _ g _ h _ j _ k _ l _ n _ o _ p _ q _ r _ s _ t _ u x0 x1 x2 x3 x5 x6) := rfl

theorem l16_3 : (HS1_3 c i _ d _ e _ f _ g _ h _ j _ k _ l _ n _ o _ p _ q _ r _ s _ t _ u x0 x1 x2 x3 x5 x6)
    = ⟨(sl51 i), tn768 (wtm768 (lg768 (cr1 (qh0 (rd d x0))) (View.ld (rd e x1) (sl51 i))) (laneOf 0#32 i 1#32) (View.ld (rd j x5) sr1) k0_pay57) (cr1 (k0_pay64 (dof (rd g x3) (rd k x6)))) (View.ld (wr a16 (HS1_2 c i _ d _ e _ f _ g _ h _ j _ k _ l _ n _ o _ p _ q _ r _ s _ t _ u x0 x1 x2 x3 x5 x6)) (sl51 i))⟩ :: (HS1_2 c i _ d _ e _ f _ g _ h _ j _ k _ l _ n _ o _ p _ q _ r _ s _ t _ u x0 x1 x2 x3 x5 x6) := rfl

theorem l17_3 : (HS2_3 c i _ d _ e _ f _ g _ h _ j _ k _ l _ n _ o _ p _ q _ r _ s _ t _ u x0 x1 x2 x3 x5 x6)
    = ⟨(Rect.unit ![256, 0] S768x64.size inb_S1024x128_S768x64_256_0), nn768 (dlm768 (lg768 (cr1 (qh0 (rd d x0))) (View.ld (rd e x1) (sl51 i))) (gr768 (wtm768 (lg768 (cr1 (qh0 (rd d x0))) (View.ld (rd e x1) (sl51 i))) (laneOf 0#32 i 1#32) (View.ld (rd j x5) sr1) k0_pay57) (cr1 (k0_pay64 (dof (rd g x3) (rd k x6)))) (View.ld (rd f x2) (sl51 i))) (cu768 (gr768 (wtm768 (lg768 (cr1 (qh0 (rd d x0))) (View.ld (rd e x1) (sl51 i))) (laneOf 0#32 i 1#32) (View.ld (rd j x5) sr1) k0_pay57) (cr1 (k0_pay64 (dof (rd g x3) (rd k x6)))) (View.ld (rd f x2) (sl51 i))) k0_pay58 (View.ld (wr a18 (HS3_2 c i _ d _ e _ f _ g _ h _ j _ k _ l _ n _ o _ p _ q _ r _ s _ t _ u x0 x1 x2 x3 x5 x6)) (Rect.unit ![0, 256, 0] S1x768x1.size inb_S2x1024x1_S1x768x1_0_256_0)))) (View.ld (rd e x1) (sl51 i)) (View.ld (wr a17 (HS2_2 c i _ d _ e _ f _ g _ h _ j _ k _ l _ n _ o _ p _ q _ r _ s _ t _ u x0 x1 x2 x3 x5 x6)) (Rect.unit ![256, 0] S768x64.size inb_S1024x128_S768x64_256_0))⟩ :: (HS2_2 c i _ d _ e _ f _ g _ h _ j _ k _ l _ n _ o _ p _ q _ r _ s _ t _ u x0 x1 x2 x3 x5 x6) := rfl

theorem l18_3 : (HS3_3 c i _ d _ e _ f _ g _ h _ j _ k _ l _ n _ o _ p _ q _ r _ s _ t _ u x0 x1 x2 x3 x5 x6)
    = ⟨(Rect.unit ![0, 256, 0] S1x768x1.size inb_S2x1024x1_S1x768x1_0_256_0), gc768 (gr768 (wtm768 (lg768 (cr1 (qh0 (rd d x0))) (View.ld (rd e x1) (sl51 i))) (laneOf 0#32 i 1#32) (View.ld (rd j x5) sr1) k0_pay57) (cr1 (k0_pay64 (dof (rd g x3) (rd k x6)))) (View.ld (rd f x2) (sl51 i))) (cu768 (gr768 (wtm768 (lg768 (cr1 (qh0 (rd d x0))) (View.ld (rd e x1) (sl51 i))) (laneOf 0#32 i 1#32) (View.ld (rd j x5) sr1) k0_pay57) (cr1 (k0_pay64 (dof (rd g x3) (rd k x6)))) (View.ld (rd f x2) (sl51 i))) k0_pay58 (View.ld (wr a18 (HS3_2 c i _ d _ e _ f _ g _ h _ j _ k _ l _ n _ o _ p _ q _ r _ s _ t _ u x0 x1 x2 x3 x5 x6)) (Rect.unit ![0, 256, 0] S1x768x1.size inb_S2x1024x1_S1x768x1_0_256_0)))⟩ :: (HS3_2 c i _ d _ e _ f _ g _ h _ j _ k _ l _ n _ o _ p _ q _ r _ s _ t _ u x0 x1 x2 x3 x5 x6) := rfl

theorem r3 : Holds (wr a15 (HS0_3 c i _ d _ e _ f _ g _ h _ j _ k _ l _ n _ o _ p _ q _ r _ s _ t _ u x0 x1 x2 x3 x5 x6))
    (wr a16 (HS1_3 c i _ d _ e _ f _ g _ h _ j _ k _ l _ n _ o _ p _ q _ r _ s _ t _ u x0 x1 x2 x3 x5 x6))
    (wr a17 (HS2_3 c i _ d _ e _ f _ g _ h _ j _ k _ l _ n _ o _ p _ q _ r _ s _ t _ u x0 x1 x2 x3 x5 x6))
    (wr a18 (HS3_3 c i _ d _ e _ f _ g _ h _ j _ k _ l _ n _ o _ p _ q _ r _ s _ t _ u x0 x1 x2 x3 x5 x6))
    (diag3 i x0 x1 x2 x3 x5 x6 (base c i _ d _ e _ f _ g _ h _ j _ k _ l _ n _ o _ p _ q _ r _ s _ t _ u x0 x1 x2 x3 x5 x6)) := by
  obtain ⟨e15, e16, e17, e18⟩ := r2 c i _ d _ e _ f _ g _ h _ j _ k _ l _ n _ o _ p _ q _ r _ s _ t _ u x0 x1 x2 x3 x5 x6
  refine ⟨?_, ?_, ?_, ?_⟩
  · rw [wr, l15_3, read_put]; simp only [rd, Memref.IsWhole.read_unread, e15, e16, e17, e18]; rfl
  · rw [wr, l16_3, read_put]; simp only [rd, Memref.IsWhole.read_unread, e15, e16, e17, e18]; rfl
  · rw [wr, l17_3, read_put]; simp only [rd, Memref.IsWhole.read_unread, e15, e16, e17, e18]; rfl
  · rw [wr, l18_3, read_put]; simp only [rd, Memref.IsWhole.read_unread, e15, e16, e17, e18]; rfl

theorem l15_4 : (HS0_4 c i _ d _ e _ f _ g _ h _ j _ k _ l _ n _ o _ p _ q _ r _ s _ t _ u x0 x1 x2 x3 x5 x6)
    = ⟨(sl61 i), tn768 (dlm768 (lg768 (cr1 (qh1 (rd d x0))) (View.ld (rd e x1) (sl61 i))) (gr768 (wtm768 (lg768 (cr1 (qh1 (rd d x0))) (View.ld (rd e x1) (sl61 i))) (laneOf 64#32 i 1#32) (View.ld (rd j x5) sr1) k0_pay57) (cr1 (k0_pay65 (dof (rd g x3) (rd k x6)))) (View.ld (rd f x2) (sl61 i))) (cu768 (gr768 (wtm768 (lg768 (cr1 (qh1 (rd d x0))) (View.ld (rd e x1) (sl61 i))) (laneOf 64#32 i 1#32) (View.ld (rd j x5) sr1) k0_pay57) (cr1 (k0_pay65 (dof (rd g x3) (rd k x6)))) (View.ld (rd f x2) (sl61 i))) k0_pay58 (View.ld (wr a18 (HS3_3 c i _ d _ e _ f _ g _ h _ j _ k _ l _ n _ o _ p _ q _ r _ s _ t _ u x0 x1 x2 x3 x5 x6)) (Rect.unit ![1, 256, 0] S1x768x1.size inb_S2x1024x1_S1x768x1_1_256_0)))) (cr1 (qh1 (rd d x0))) (View.ld (wr a15 (HS0_3 c i _ d _ e _ f _ g _ h _ j _ k _ l _ n _ o _ p _ q _ r _ s _ t _ u x0 x1 x2 x3 x5 x6)) (sl61 i))⟩ :: (HS0_3 c i _ d _ e _ f _ g _ h _ j _ k _ l _ n _ o _ p _ q _ r _ s _ t _ u x0 x1 x2 x3 x5 x6) := rfl

theorem l16_4 : (HS1_4 c i _ d _ e _ f _ g _ h _ j _ k _ l _ n _ o _ p _ q _ r _ s _ t _ u x0 x1 x2 x3 x5 x6)
    = ⟨(sl61 i), tn768 (wtm768 (lg768 (cr1 (qh1 (rd d x0))) (View.ld (rd e x1) (sl61 i))) (laneOf 64#32 i 1#32) (View.ld (rd j x5) sr1) k0_pay57) (cr1 (k0_pay65 (dof (rd g x3) (rd k x6)))) (View.ld (wr a16 (HS1_3 c i _ d _ e _ f _ g _ h _ j _ k _ l _ n _ o _ p _ q _ r _ s _ t _ u x0 x1 x2 x3 x5 x6)) (sl61 i))⟩ :: (HS1_3 c i _ d _ e _ f _ g _ h _ j _ k _ l _ n _ o _ p _ q _ r _ s _ t _ u x0 x1 x2 x3 x5 x6) := rfl

theorem l17_4 : (HS2_4 c i _ d _ e _ f _ g _ h _ j _ k _ l _ n _ o _ p _ q _ r _ s _ t _ u x0 x1 x2 x3 x5 x6)
    = ⟨(Rect.unit ![256, 64] S768x64.size inb_S1024x128_S768x64_256_64), nn768 (dlm768 (lg768 (cr1 (qh1 (rd d x0))) (View.ld (rd e x1) (sl61 i))) (gr768 (wtm768 (lg768 (cr1 (qh1 (rd d x0))) (View.ld (rd e x1) (sl61 i))) (laneOf 64#32 i 1#32) (View.ld (rd j x5) sr1) k0_pay57) (cr1 (k0_pay65 (dof (rd g x3) (rd k x6)))) (View.ld (rd f x2) (sl61 i))) (cu768 (gr768 (wtm768 (lg768 (cr1 (qh1 (rd d x0))) (View.ld (rd e x1) (sl61 i))) (laneOf 64#32 i 1#32) (View.ld (rd j x5) sr1) k0_pay57) (cr1 (k0_pay65 (dof (rd g x3) (rd k x6)))) (View.ld (rd f x2) (sl61 i))) k0_pay58 (View.ld (wr a18 (HS3_3 c i _ d _ e _ f _ g _ h _ j _ k _ l _ n _ o _ p _ q _ r _ s _ t _ u x0 x1 x2 x3 x5 x6)) (Rect.unit ![1, 256, 0] S1x768x1.size inb_S2x1024x1_S1x768x1_1_256_0)))) (View.ld (rd e x1) (sl61 i)) (View.ld (wr a17 (HS2_3 c i _ d _ e _ f _ g _ h _ j _ k _ l _ n _ o _ p _ q _ r _ s _ t _ u x0 x1 x2 x3 x5 x6)) (Rect.unit ![256, 64] S768x64.size inb_S1024x128_S768x64_256_64))⟩ :: (HS2_3 c i _ d _ e _ f _ g _ h _ j _ k _ l _ n _ o _ p _ q _ r _ s _ t _ u x0 x1 x2 x3 x5 x6) := rfl

theorem l18_4 : (HS3_4 c i _ d _ e _ f _ g _ h _ j _ k _ l _ n _ o _ p _ q _ r _ s _ t _ u x0 x1 x2 x3 x5 x6)
    = ⟨(Rect.unit ![1, 256, 0] S1x768x1.size inb_S2x1024x1_S1x768x1_1_256_0), gc768 (gr768 (wtm768 (lg768 (cr1 (qh1 (rd d x0))) (View.ld (rd e x1) (sl61 i))) (laneOf 64#32 i 1#32) (View.ld (rd j x5) sr1) k0_pay57) (cr1 (k0_pay65 (dof (rd g x3) (rd k x6)))) (View.ld (rd f x2) (sl61 i))) (cu768 (gr768 (wtm768 (lg768 (cr1 (qh1 (rd d x0))) (View.ld (rd e x1) (sl61 i))) (laneOf 64#32 i 1#32) (View.ld (rd j x5) sr1) k0_pay57) (cr1 (k0_pay65 (dof (rd g x3) (rd k x6)))) (View.ld (rd f x2) (sl61 i))) k0_pay58 (View.ld (wr a18 (HS3_3 c i _ d _ e _ f _ g _ h _ j _ k _ l _ n _ o _ p _ q _ r _ s _ t _ u x0 x1 x2 x3 x5 x6)) (Rect.unit ![1, 256, 0] S1x768x1.size inb_S2x1024x1_S1x768x1_1_256_0)))⟩ :: (HS3_3 c i _ d _ e _ f _ g _ h _ j _ k _ l _ n _ o _ p _ q _ r _ s _ t _ u x0 x1 x2 x3 x5 x6) := rfl

theorem r4 : Holds (wr a15 (HS0_4 c i _ d _ e _ f _ g _ h _ j _ k _ l _ n _ o _ p _ q _ r _ s _ t _ u x0 x1 x2 x3 x5 x6))
    (wr a16 (HS1_4 c i _ d _ e _ f _ g _ h _ j _ k _ l _ n _ o _ p _ q _ r _ s _ t _ u x0 x1 x2 x3 x5 x6))
    (wr a17 (HS2_4 c i _ d _ e _ f _ g _ h _ j _ k _ l _ n _ o _ p _ q _ r _ s _ t _ u x0 x1 x2 x3 x5 x6))
    (wr a18 (HS3_4 c i _ d _ e _ f _ g _ h _ j _ k _ l _ n _ o _ p _ q _ r _ s _ t _ u x0 x1 x2 x3 x5 x6))
    (diag4 i x0 x1 x2 x3 x5 x6 (base c i _ d _ e _ f _ g _ h _ j _ k _ l _ n _ o _ p _ q _ r _ s _ t _ u x0 x1 x2 x3 x5 x6)) := by
  obtain ⟨e15, e16, e17, e18⟩ := r3 c i _ d _ e _ f _ g _ h _ j _ k _ l _ n _ o _ p _ q _ r _ s _ t _ u x0 x1 x2 x3 x5 x6
  refine ⟨?_, ?_, ?_, ?_⟩
  · rw [wr, l15_4, read_put]; simp only [rd, Memref.IsWhole.read_unread, e15, e16, e17, e18]; rfl
  · rw [wr, l16_4, read_put]; simp only [rd, Memref.IsWhole.read_unread, e15, e16, e17, e18]; rfl
  · rw [wr, l17_4, read_put]; simp only [rd, Memref.IsWhole.read_unread, e15, e16, e17, e18]; rfl
  · rw [wr, l18_4, read_put]; simp only [rd, Memref.IsWhole.read_unread, e15, e16, e17, e18]; rfl

theorem l15_5 : (HS0_5 c i _ d _ e _ f _ g _ h _ j _ k _ l _ n _ o _ p _ q _ r _ s _ t _ u x0 x1 x2 x3 x5 x6)
    = ⟨(sl52 i), tn512 (dlm512 (lg512 (cr2 (qh0 (rd d x0))) (View.ld (rd e x1) (sl52 i))) (gr512 (wtm512 (lg512 (cr2 (qh0 (rd d x0))) (View.ld (rd e x1) (sl52 i))) (laneOf 0#32 i 2#32) (View.ld (rd j x5) sr2) k0_pay57) (cr2 (k0_pay64 (dof (rd g x3) (rd k x6)))) (View.ld (rd f x2) (sl52 i))) (cu512 (gr512 (wtm512 (lg512 (cr2 (qh0 (rd d x0))) (View.ld (rd e x1) (sl52 i))) (laneOf 0#32 i 2#32) (View.ld (rd j x5) sr2) k0_pay57) (cr2 (k0_pay64 (dof (rd g x3) (rd k x6)))) (View.ld (rd f x2) (sl52 i))) k0_pay58 (View.ld (wr a18 (HS3_4 c i _ d _ e _ f _ g _ h _ j _ k _ l _ n _ o _ p _ q _ r _ s _ t _ u x0 x1 x2 x3 x5 x6)) (Rect.unit ![0, 512, 0] S1x512x1.size inb_S2x1024x1_S1x512x1_0_512_0)))) (cr2 (qh0 (rd d x0))) (View.ld (wr a15 (HS0_4 c i _ d _ e _ f _ g _ h _ j _ k _ l _ n _ o _ p _ q _ r _ s _ t _ u x0 x1 x2 x3 x5 x6)) (sl52 i))⟩ :: (HS0_4 c i _ d _ e _ f _ g _ h _ j _ k _ l _ n _ o _ p _ q _ r _ s _ t _ u x0 x1 x2 x3 x5 x6) := rfl

theorem l16_5 : (HS1_5 c i _ d _ e _ f _ g _ h _ j _ k _ l _ n _ o _ p _ q _ r _ s _ t _ u x0 x1 x2 x3 x5 x6)
    = ⟨(sl52 i), tn512 (wtm512 (lg512 (cr2 (qh0 (rd d x0))) (View.ld (rd e x1) (sl52 i))) (laneOf 0#32 i 2#32) (View.ld (rd j x5) sr2) k0_pay57) (cr2 (k0_pay64 (dof (rd g x3) (rd k x6)))) (View.ld (wr a16 (HS1_4 c i _ d _ e _ f _ g _ h _ j _ k _ l _ n _ o _ p _ q _ r _ s _ t _ u x0 x1 x2 x3 x5 x6)) (sl52 i))⟩ :: (HS1_4 c i _ d _ e _ f _ g _ h _ j _ k _ l _ n _ o _ p _ q _ r _ s _ t _ u x0 x1 x2 x3 x5 x6) := rfl

theorem l17_5 : (HS2_5 c i _ d _ e _ f _ g _ h _ j _ k _ l _ n _ o _ p _ q _ r _ s _ t _ u x0 x1 x2 x3 x5 x6)
    = ⟨(Rect.unit ![512, 0] S512x64.size inb_S1024x128_S512x64_512_0), nn512 (dlm512 (lg512 (cr2 (qh0 (rd d x0))) (View.ld (rd e x1) (sl52 i))) (gr512 (wtm512 (lg512 (cr2 (qh0 (rd d x0))) (View.ld (rd e x1) (sl52 i))) (laneOf 0#32 i 2#32) (View.ld (rd j x5) sr2) k0_pay57) (cr2 (k0_pay64 (dof (rd g x3) (rd k x6)))) (View.ld (rd f x2) (sl52 i))) (cu512 (gr512 (wtm512 (lg512 (cr2 (qh0 (rd d x0))) (View.ld (rd e x1) (sl52 i))) (laneOf 0#32 i 2#32) (View.ld (rd j x5) sr2) k0_pay57) (cr2 (k0_pay64 (dof (rd g x3) (rd k x6)))) (View.ld (rd f x2) (sl52 i))) k0_pay58 (View.ld (wr a18 (HS3_4 c i _ d _ e _ f _ g _ h _ j _ k _ l _ n _ o _ p _ q _ r _ s _ t _ u x0 x1 x2 x3 x5 x6)) (Rect.unit ![0, 512, 0] S1x512x1.size inb_S2x1024x1_S1x512x1_0_512_0)))) (View.ld (rd e x1) (sl52 i)) (View.ld (wr a17 (HS2_4 c i _ d _ e _ f _ g _ h _ j _ k _ l _ n _ o _ p _ q _ r _ s _ t _ u x0 x1 x2 x3 x5 x6)) (Rect.unit ![512, 0] S512x64.size inb_S1024x128_S512x64_512_0))⟩ :: (HS2_4 c i _ d _ e _ f _ g _ h _ j _ k _ l _ n _ o _ p _ q _ r _ s _ t _ u x0 x1 x2 x3 x5 x6) := rfl

theorem l18_5 : (HS3_5 c i _ d _ e _ f _ g _ h _ j _ k _ l _ n _ o _ p _ q _ r _ s _ t _ u x0 x1 x2 x3 x5 x6)
    = ⟨(Rect.unit ![0, 512, 0] S1x512x1.size inb_S2x1024x1_S1x512x1_0_512_0), gc512 (gr512 (wtm512 (lg512 (cr2 (qh0 (rd d x0))) (View.ld (rd e x1) (sl52 i))) (laneOf 0#32 i 2#32) (View.ld (rd j x5) sr2) k0_pay57) (cr2 (k0_pay64 (dof (rd g x3) (rd k x6)))) (View.ld (rd f x2) (sl52 i))) (cu512 (gr512 (wtm512 (lg512 (cr2 (qh0 (rd d x0))) (View.ld (rd e x1) (sl52 i))) (laneOf 0#32 i 2#32) (View.ld (rd j x5) sr2) k0_pay57) (cr2 (k0_pay64 (dof (rd g x3) (rd k x6)))) (View.ld (rd f x2) (sl52 i))) k0_pay58 (View.ld (wr a18 (HS3_4 c i _ d _ e _ f _ g _ h _ j _ k _ l _ n _ o _ p _ q _ r _ s _ t _ u x0 x1 x2 x3 x5 x6)) (Rect.unit ![0, 512, 0] S1x512x1.size inb_S2x1024x1_S1x512x1_0_512_0)))⟩ :: (HS3_4 c i _ d _ e _ f _ g _ h _ j _ k _ l _ n _ o _ p _ q _ r _ s _ t _ u x0 x1 x2 x3 x5 x6) := rfl

theorem r5 : Holds (wr a15 (HS0_5 c i _ d _ e _ f _ g _ h _ j _ k _ l _ n _ o _ p _ q _ r _ s _ t _ u x0 x1 x2 x3 x5 x6))
    (wr a16 (HS1_5 c i _ d _ e _ f _ g _ h _ j _ k _ l _ n _ o _ p _ q _ r _ s _ t _ u x0 x1 x2 x3 x5 x6))
    (wr a17 (HS2_5 c i _ d _ e _ f _ g _ h _ j _ k _ l _ n _ o _ p _ q _ r _ s _ t _ u x0 x1 x2 x3 x5 x6))
    (wr a18 (HS3_5 c i _ d _ e _ f _ g _ h _ j _ k _ l _ n _ o _ p _ q _ r _ s _ t _ u x0 x1 x2 x3 x5 x6))
    (diag5 i x0 x1 x2 x3 x5 x6 (base c i _ d _ e _ f _ g _ h _ j _ k _ l _ n _ o _ p _ q _ r _ s _ t _ u x0 x1 x2 x3 x5 x6)) := by
  obtain ⟨e15, e16, e17, e18⟩ := r4 c i _ d _ e _ f _ g _ h _ j _ k _ l _ n _ o _ p _ q _ r _ s _ t _ u x0 x1 x2 x3 x5 x6
  refine ⟨?_, ?_, ?_, ?_⟩
  · rw [wr, l15_5, read_put]; simp only [rd, Memref.IsWhole.read_unread, e15, e16, e17, e18]; rfl
  · rw [wr, l16_5, read_put]; simp only [rd, Memref.IsWhole.read_unread, e15, e16, e17, e18]; rfl
  · rw [wr, l17_5, read_put]; simp only [rd, Memref.IsWhole.read_unread, e15, e16, e17, e18]; rfl
  · rw [wr, l18_5, read_put]; simp only [rd, Memref.IsWhole.read_unread, e15, e16, e17, e18]; rfl

theorem l15_6 : (HS0_6 c i _ d _ e _ f _ g _ h _ j _ k _ l _ n _ o _ p _ q _ r _ s _ t _ u x0 x1 x2 x3 x5 x6)
    = ⟨(sl62 i), tn512 (dlm512 (lg512 (cr2 (qh1 (rd d x0))) (View.ld (rd e x1) (sl62 i))) (gr512 (wtm512 (lg512 (cr2 (qh1 (rd d x0))) (View.ld (rd e x1) (sl62 i))) (laneOf 64#32 i 2#32) (View.ld (rd j x5) sr2) k0_pay57) (cr2 (k0_pay65 (dof (rd g x3) (rd k x6)))) (View.ld (rd f x2) (sl62 i))) (cu512 (gr512 (wtm512 (lg512 (cr2 (qh1 (rd d x0))) (View.ld (rd e x1) (sl62 i))) (laneOf 64#32 i 2#32) (View.ld (rd j x5) sr2) k0_pay57) (cr2 (k0_pay65 (dof (rd g x3) (rd k x6)))) (View.ld (rd f x2) (sl62 i))) k0_pay58 (View.ld (wr a18 (HS3_5 c i _ d _ e _ f _ g _ h _ j _ k _ l _ n _ o _ p _ q _ r _ s _ t _ u x0 x1 x2 x3 x5 x6)) (Rect.unit ![1, 512, 0] S1x512x1.size inb_S2x1024x1_S1x512x1_1_512_0)))) (cr2 (qh1 (rd d x0))) (View.ld (wr a15 (HS0_5 c i _ d _ e _ f _ g _ h _ j _ k _ l _ n _ o _ p _ q _ r _ s _ t _ u x0 x1 x2 x3 x5 x6)) (sl62 i))⟩ :: (HS0_5 c i _ d _ e _ f _ g _ h _ j _ k _ l _ n _ o _ p _ q _ r _ s _ t _ u x0 x1 x2 x3 x5 x6) := rfl

theorem l16_6 : (HS1_6 c i _ d _ e _ f _ g _ h _ j _ k _ l _ n _ o _ p _ q _ r _ s _ t _ u x0 x1 x2 x3 x5 x6)
    = ⟨(sl62 i), tn512 (wtm512 (lg512 (cr2 (qh1 (rd d x0))) (View.ld (rd e x1) (sl62 i))) (laneOf 64#32 i 2#32) (View.ld (rd j x5) sr2) k0_pay57) (cr2 (k0_pay65 (dof (rd g x3) (rd k x6)))) (View.ld (wr a16 (HS1_5 c i _ d _ e _ f _ g _ h _ j _ k _ l _ n _ o _ p _ q _ r _ s _ t _ u x0 x1 x2 x3 x5 x6)) (sl62 i))⟩ :: (HS1_5 c i _ d _ e _ f _ g _ h _ j _ k _ l _ n _ o _ p _ q _ r _ s _ t _ u x0 x1 x2 x3 x5 x6) := rfl

theorem l17_6 : (HS2_6 c i _ d _ e _ f _ g _ h _ j _ k _ l _ n _ o _ p _ q _ r _ s _ t _ u x0 x1 x2 x3 x5 x6)
    = ⟨(Rect.unit ![512, 64] S512x64.size inb_S1024x128_S512x64_512_64), nn512 (dlm512 (lg512 (cr2 (qh1 (rd d x0))) (View.ld (rd e x1) (sl62 i))) (gr512 (wtm512 (lg512 (cr2 (qh1 (rd d x0))) (View.ld (rd e x1) (sl62 i))) (laneOf 64#32 i 2#32) (View.ld (rd j x5) sr2) k0_pay57) (cr2 (k0_pay65 (dof (rd g x3) (rd k x6)))) (View.ld (rd f x2) (sl62 i))) (cu512 (gr512 (wtm512 (lg512 (cr2 (qh1 (rd d x0))) (View.ld (rd e x1) (sl62 i))) (laneOf 64#32 i 2#32) (View.ld (rd j x5) sr2) k0_pay57) (cr2 (k0_pay65 (dof (rd g x3) (rd k x6)))) (View.ld (rd f x2) (sl62 i))) k0_pay58 (View.ld (wr a18 (HS3_5 c i _ d _ e _ f _ g _ h _ j _ k _ l _ n _ o _ p _ q _ r _ s _ t _ u x0 x1 x2 x3 x5 x6)) (Rect.unit ![1, 512, 0] S1x512x1.size inb_S2x1024x1_S1x512x1_1_512_0)))) (View.ld (rd e x1) (sl62 i)) (View.ld (wr a17 (HS2_5 c i _ d _ e _ f _ g _ h _ j _ k _ l _ n _ o _ p _ q _ r _ s _ t _ u x0 x1 x2 x3 x5 x6)) (Rect.unit ![512, 64] S512x64.size inb_S1024x128_S512x64_512_64))⟩ :: (HS2_5 c i _ d _ e _ f _ g _ h _ j _ k _ l _ n _ o _ p _ q _ r _ s _ t _ u x0 x1 x2 x3 x5 x6) := rfl

theorem l18_6 : (HS3_6 c i _ d _ e _ f _ g _ h _ j _ k _ l _ n _ o _ p _ q _ r _ s _ t _ u x0 x1 x2 x3 x5 x6)
    = ⟨(Rect.unit ![1, 512, 0] S1x512x1.size inb_S2x1024x1_S1x512x1_1_512_0), gc512 (gr512 (wtm512 (lg512 (cr2 (qh1 (rd d x0))) (View.ld (rd e x1) (sl62 i))) (laneOf 64#32 i 2#32) (View.ld (rd j x5) sr2) k0_pay57) (cr2 (k0_pay65 (dof (rd g x3) (rd k x6)))) (View.ld (rd f x2) (sl62 i))) (cu512 (gr512 (wtm512 (lg512 (cr2 (qh1 (rd d x0))) (View.ld (rd e x1) (sl62 i))) (laneOf 64#32 i 2#32) (View.ld (rd j x5) sr2) k0_pay57) (cr2 (k0_pay65 (dof (rd g x3) (rd k x6)))) (View.ld (rd f x2) (sl62 i))) k0_pay58 (View.ld (wr a18 (HS3_5 c i _ d _ e _ f _ g _ h _ j _ k _ l _ n _ o _ p _ q _ r _ s _ t _ u x0 x1 x2 x3 x5 x6)) (Rect.unit ![1, 512, 0] S1x512x1.size inb_S2x1024x1_S1x512x1_1_512_0)))⟩ :: (HS3_5 c i _ d _ e _ f _ g _ h _ j _ k _ l _ n _ o _ p _ q _ r _ s _ t _ u x0 x1 x2 x3 x5 x6) := rfl

theorem r6 : Holds (wr a15 (HS0_6 c i _ d _ e _ f _ g _ h _ j _ k _ l _ n _ o _ p _ q _ r _ s _ t _ u x0 x1 x2 x3 x5 x6))
    (wr a16 (HS1_6 c i _ d _ e _ f _ g _ h _ j _ k _ l _ n _ o _ p _ q _ r _ s _ t _ u x0 x1 x2 x3 x5 x6))
    (wr a17 (HS2_6 c i _ d _ e _ f _ g _ h _ j _ k _ l _ n _ o _ p _ q _ r _ s _ t _ u x0 x1 x2 x3 x5 x6))
    (wr a18 (HS3_6 c i _ d _ e _ f _ g _ h _ j _ k _ l _ n _ o _ p _ q _ r _ s _ t _ u x0 x1 x2 x3 x5 x6))
    (diag6 i x0 x1 x2 x3 x5 x6 (base c i _ d _ e _ f _ g _ h _ j _ k _ l _ n _ o _ p _ q _ r _ s _ t _ u x0 x1 x2 x3 x5 x6)) := by
  obtain ⟨e15, e16, e17, e18⟩ := r5 c i _ d _ e _ f _ g _ h _ j _ k _ l _ n _ o _ p _ q _ r _ s _ t _ u x0 x1 x2 x3 x5 x6
  refine ⟨?_, ?_, ?_, ?_⟩
  · rw [wr, l15_6, read_put]; simp only [rd, Memref.IsWhole.read_unread, e15, e16, e17, e18]; rfl
  · rw [wr, l16_6, read_put]; simp only [rd, Memref.IsWhole.read_unread, e15, e16, e17, e18]; rfl
  · rw [wr, l17_6, read_put]; simp only [rd, Memref.IsWhole.read_unread, e15, e16, e17, e18]; rfl
  · rw [wr, l18_6, read_put]; simp only [rd, Memref.IsWhole.read_unread, e15, e16, e17, e18]; rfl

theorem l15_7 : (HS0_7 c i _ d _ e _ f _ g _ h _ j _ k _ l _ n _ o _ p _ q _ r _ s _ t _ u x0 x1 x2 x3 x5 x6)
    = ⟨(sl53 i), tn256 (dlm256 (lg256 (cr3 (qh0 (rd d x0))) (View.ld (rd e x1) (sl53 i))) (gr256 (wtm256 (lg256 (cr3 (qh0 (rd d x0))) (View.ld (rd e x1) (sl53 i))) (laneOf 0#32 i 3#32) (View.ld (rd j x5) sr3) k0_pay57) (cr3 (k0_pay64 (dof (rd g x3) (rd k x6)))) (View.ld (rd f x2) (sl53 i))) (cu256 (gr256 (wtm256 (lg256 (cr3 (qh0 (rd d x0))) (View.ld (rd e x1) (sl53 i))) (laneOf 0#32 i 3#32) (View.ld (rd j x5) sr3) k0_pay57) (cr3 (k0_pay64 (dof (rd g x3) (rd k x6)))) (View.ld (rd f x2) (sl53 i))) k0_pay58 (View.ld (wr a18 (HS3_6 c i _ d _ e _ f _ g _ h _ j _ k _ l _ n _ o _ p _ q _ r _ s _ t _ u x0 x1 x2 x3 x5 x6)) (Rect.unit ![0, 768, 0] S1x256x1.size inb_S2x1024x1_S1x256x1_0_768_0)))) (cr3 (qh0 (rd d x0))) (View.ld (wr a15 (HS0_6 c i _ d _ e _ f _ g _ h _ j _ k _ l _ n _ o _ p _ q _ r _ s _ t _ u x0 x1 x2 x3 x5 x6)) (sl53 i))⟩ :: (HS0_6 c i _ d _ e _ f _ g _ h _ j _ k _ l _ n _ o _ p _ q _ r _ s _ t _ u x0 x1 x2 x3 x5 x6) := rfl

theorem l16_7 : (HS1_7 c i _ d _ e _ f _ g _ h _ j _ k _ l _ n _ o _ p _ q _ r _ s _ t _ u x0 x1 x2 x3 x5 x6)
    = ⟨(sl53 i), tn256 (wtm256 (lg256 (cr3 (qh0 (rd d x0))) (View.ld (rd e x1) (sl53 i))) (laneOf 0#32 i 3#32) (View.ld (rd j x5) sr3) k0_pay57) (cr3 (k0_pay64 (dof (rd g x3) (rd k x6)))) (View.ld (wr a16 (HS1_6 c i _ d _ e _ f _ g _ h _ j _ k _ l _ n _ o _ p _ q _ r _ s _ t _ u x0 x1 x2 x3 x5 x6)) (sl53 i))⟩ :: (HS1_6 c i _ d _ e _ f _ g _ h _ j _ k _ l _ n _ o _ p _ q _ r _ s _ t _ u x0 x1 x2 x3 x5 x6) := rfl

theorem l17_7 : (HS2_7 c i _ d _ e _ f _ g _ h _ j _ k _ l _ n _ o _ p _ q _ r _ s _ t _ u x0 x1 x2 x3 x5 x6)
    = ⟨(Rect.unit ![768, 0] S256x64.size inb_S1024x128_S256x64_768_0), nn256 (dlm256 (lg256 (cr3 (qh0 (rd d x0))) (View.ld (rd e x1) (sl53 i))) (gr256 (wtm256 (lg256 (cr3 (qh0 (rd d x0))) (View.ld (rd e x1) (sl53 i))) (laneOf 0#32 i 3#32) (View.ld (rd j x5) sr3) k0_pay57) (cr3 (k0_pay64 (dof (rd g x3) (rd k x6)))) (View.ld (rd f x2) (sl53 i))) (cu256 (gr256 (wtm256 (lg256 (cr3 (qh0 (rd d x0))) (View.ld (rd e x1) (sl53 i))) (laneOf 0#32 i 3#32) (View.ld (rd j x5) sr3) k0_pay57) (cr3 (k0_pay64 (dof (rd g x3) (rd k x6)))) (View.ld (rd f x2) (sl53 i))) k0_pay58 (View.ld (wr a18 (HS3_6 c i _ d _ e _ f _ g _ h _ j _ k _ l _ n _ o _ p _ q _ r _ s _ t _ u x0 x1 x2 x3 x5 x6)) (Rect.unit ![0, 768, 0] S1x256x1.size inb_S2x1024x1_S1x256x1_0_768_0)))) (View.ld (rd e x1) (sl53 i)) (View.ld (wr a17 (HS2_6 c i _ d _ e _ f _ g _ h _ j _ k _ l _ n _ o _ p _ q _ r _ s _ t _ u x0 x1 x2 x3 x5 x6)) (Rect.unit ![768, 0] S256x64.size inb_S1024x128_S256x64_768_0))⟩ :: (HS2_6 c i _ d _ e _ f _ g _ h _ j _ k _ l _ n _ o _ p _ q _ r _ s _ t _ u x0 x1 x2 x3 x5 x6) := rfl

theorem l18_7 : (HS3_7 c i _ d _ e _ f _ g _ h _ j _ k _ l _ n _ o _ p _ q _ r _ s _ t _ u x0 x1 x2 x3 x5 x6)
    = ⟨(Rect.unit ![0, 768, 0] S1x256x1.size inb_S2x1024x1_S1x256x1_0_768_0), gc256 (gr256 (wtm256 (lg256 (cr3 (qh0 (rd d x0))) (View.ld (rd e x1) (sl53 i))) (laneOf 0#32 i 3#32) (View.ld (rd j x5) sr3) k0_pay57) (cr3 (k0_pay64 (dof (rd g x3) (rd k x6)))) (View.ld (rd f x2) (sl53 i))) (cu256 (gr256 (wtm256 (lg256 (cr3 (qh0 (rd d x0))) (View.ld (rd e x1) (sl53 i))) (laneOf 0#32 i 3#32) (View.ld (rd j x5) sr3) k0_pay57) (cr3 (k0_pay64 (dof (rd g x3) (rd k x6)))) (View.ld (rd f x2) (sl53 i))) k0_pay58 (View.ld (wr a18 (HS3_6 c i _ d _ e _ f _ g _ h _ j _ k _ l _ n _ o _ p _ q _ r _ s _ t _ u x0 x1 x2 x3 x5 x6)) (Rect.unit ![0, 768, 0] S1x256x1.size inb_S2x1024x1_S1x256x1_0_768_0)))⟩ :: (HS3_6 c i _ d _ e _ f _ g _ h _ j _ k _ l _ n _ o _ p _ q _ r _ s _ t _ u x0 x1 x2 x3 x5 x6) := rfl

theorem r7 : Holds (wr a15 (HS0_7 c i _ d _ e _ f _ g _ h _ j _ k _ l _ n _ o _ p _ q _ r _ s _ t _ u x0 x1 x2 x3 x5 x6))
    (wr a16 (HS1_7 c i _ d _ e _ f _ g _ h _ j _ k _ l _ n _ o _ p _ q _ r _ s _ t _ u x0 x1 x2 x3 x5 x6))
    (wr a17 (HS2_7 c i _ d _ e _ f _ g _ h _ j _ k _ l _ n _ o _ p _ q _ r _ s _ t _ u x0 x1 x2 x3 x5 x6))
    (wr a18 (HS3_7 c i _ d _ e _ f _ g _ h _ j _ k _ l _ n _ o _ p _ q _ r _ s _ t _ u x0 x1 x2 x3 x5 x6))
    (diag7 i x0 x1 x2 x3 x5 x6 (base c i _ d _ e _ f _ g _ h _ j _ k _ l _ n _ o _ p _ q _ r _ s _ t _ u x0 x1 x2 x3 x5 x6)) := by
  obtain ⟨e15, e16, e17, e18⟩ := r6 c i _ d _ e _ f _ g _ h _ j _ k _ l _ n _ o _ p _ q _ r _ s _ t _ u x0 x1 x2 x3 x5 x6
  refine ⟨?_, ?_, ?_, ?_⟩
  · rw [wr, l15_7, read_put]; simp only [rd, Memref.IsWhole.read_unread, e15, e16, e17, e18]; rfl
  · rw [wr, l16_7, read_put]; simp only [rd, Memref.IsWhole.read_unread, e15, e16, e17, e18]; rfl
  · rw [wr, l17_7, read_put]; simp only [rd, Memref.IsWhole.read_unread, e15, e16, e17, e18]; rfl
  · rw [wr, l18_7, read_put]; simp only [rd, Memref.IsWhole.read_unread, e15, e16, e17, e18]; rfl

theorem l15_8 (hc0 : cond0_0 i) (hc1 : ¬cond0_1 i) (x4 : Vec F S1024x128 .f32) (x7 : Vec F S8x128 .f32) : (kernelRun0_A c i _ d _ e _ f _ g _ h _ j _ k _ l _ n _ o _ p _ q _ r _ s _ t _ u hc0 hc1 x0 x1 x2 x3 x4 x5 x6 x7).2.2.2.2.1
    = ⟨(sl63 i), tn256 (dlm256 (lg256 (cr3 (qh1 (rd d x0))) (View.ld (rd e x1) (sl63 i))) (gr256 (wtm256 (lg256 (cr3 (qh1 (rd d x0))) (View.ld (rd e x1) (sl63 i))) (laneOf 64#32 i 3#32) (View.ld (rd j x5) sr3) k0_pay57) (cr3 (k0_pay65 (dof (rd g x3) (rd k x6)))) (View.ld (rd f x2) (sl63 i))) (cu256 (gr256 (wtm256 (lg256 (cr3 (qh1 (rd d x0))) (View.ld (rd e x1) (sl63 i))) (laneOf 64#32 i 3#32) (View.ld (rd j x5) sr3) k0_pay57) (cr3 (k0_pay65 (dof (rd g x3) (rd k x6)))) (View.ld (rd f x2) (sl63 i))) k0_pay58 (View.ld (wr a18 (HS3_7 c i _ d _ e _ f _ g _ h _ j _ k _ l _ n _ o _ p _ q _ r _ s _ t _ u x0 x1 x2 x3 x5 x6)) (Rect.unit ![1, 768, 0] S1x256x1.size inb_S2x1024x1_S1x256x1_1_768_0)))) (cr3 (qh1 (rd d x0))) (View.ld (wr a15 (HS0_7 c i _ d _ e _ f _ g _ h _ j _ k _ l _ n _ o _ p _ q _ r _ s _ t _ u x0 x1 x2 x3 x5 x6)) (sl63 i))⟩ :: (HS0_7 c i _ d _ e _ f _ g _ h _ j _ k _ l _ n _ o _ p _ q _ r _ s _ t _ u x0 x1 x2 x3 x5 x6) := rfl

theorem l16_8 (hc0 : cond0_0 i) (hc1 : ¬cond0_1 i) (x4 : Vec F S1024x128 .f32) (x7 : Vec F S8x128 .f32) : (kernelRun0_A c i _ d _ e _ f _ g _ h _ j _ k _ l _ n _ o _ p _ q _ r _ s _ t _ u hc0 hc1 x0 x1 x2 x3 x4 x5 x6 x7).2.2.2.2.2.1
    = ⟨(sl63 i), tn256 (wtm256 (lg256 (cr3 (qh1 (rd d x0))) (View.ld (rd e x1) (sl63 i))) (laneOf 64#32 i 3#32) (View.ld (rd j x5) sr3) k0_pay57) (cr3 (k0_pay65 (dof (rd g x3) (rd k x6)))) (View.ld (wr a16 (HS1_7 c i _ d _ e _ f _ g _ h _ j _ k _ l _ n _ o _ p _ q _ r _ s _ t _ u x0 x1 x2 x3 x5 x6)) (sl63 i))⟩ :: (HS1_7 c i _ d _ e _ f _ g _ h _ j _ k _ l _ n _ o _ p _ q _ r _ s _ t _ u x0 x1 x2 x3 x5 x6) := rfl

theorem l17_8 (hc0 : cond0_0 i) (hc1 : ¬cond0_1 i) (x4 : Vec F S1024x128 .f32) (x7 : Vec F S8x128 .f32) : (HS2_8 c i _ d _ e _ f _ g _ h _ j _ k _ l _ n _ o _ p _ q _ r _ s _ t _ u x0 x1 x2 x3 x5 x6)
    = ⟨(Rect.unit ![768, 64] S256x64.size inb_S1024x128_S256x64_768_64), nn256 (dlm256 (lg256 (cr3 (qh1 (rd d x0))) (View.ld (rd e x1) (sl63 i))) (gr256 (wtm256 (lg256 (cr3 (qh1 (rd d x0))) (View.ld (rd e x1) (sl63 i))) (laneOf 64#32 i 3#32) (View.ld (rd j x5) sr3) k0_pay57) (cr3 (k0_pay65 (dof (rd g x3) (rd k x6)))) (View.ld (rd f x2) (sl63 i))) (cu256 (gr256 (wtm256 (lg256 (cr3 (qh1 (rd d x0))) (View.ld (rd e x1) (sl63 i))) (laneOf 64#32 i 3#32) (View.ld (rd j x5) sr3) k0_pay57) (cr3 (k0_pay65 (dof (rd g x3) (rd k x6)))) (View.ld (rd f x2) (sl63 i))) k0_pay58 (View.ld (wr a18 (HS3_7 c i _ d _ e _ f _ g _ h _ j _ k _ l _ n _ o _ p _ q _ r _ s _ t _ u x0 x1 x2 x3 x5 x6)) (Rect.unit ![1, 768, 0] S1x256x1.size inb_S2x1024x1_S1x256x1_1_768_0)))) (View.ld (rd e x1) (sl63 i)) (View.ld (wr a17 (HS2_7 c i _ d _ e _ f _ g _ h _ j _ k _ l _ n _ o _ p _ q _ r _ s _ t _ u x0 x1 x2 x3 x5 x6)) (Rect.unit ![768, 64] S256x64.size inb_S1024x128_S256x64_768_64))⟩ :: (HS2_7 c i _ d _ e _ f _ g _ h _ j _ k _ l _ n _ o _ p _ q _ r _ s _ t _ u x0 x1 x2 x3 x5 x6) := rfl

theorem r8 (hc0 : cond0_0 i) (hc1 : ¬cond0_1 i) (x4 : Vec F S1024x128 .f32) (x7 : Vec F S8x128 .f32) : (a15.view.read (Elt F) (a15.view.writes (Elt F) a15.view.junk (kernelRun0_A c i _ d _ e _ f _ g _ h _ j _ k _ l _ n _ o _ p _ q _ r _ s _ t _ u hc0 hc1 x0 x1 x2 x3 x4 x5 x6 x7).2.2.2.2.1)) = (diag8 i x0 x1 x2 x3 x5 x6 (base c i _ d _ e _ f _ g _ h _ j _ k _ l _ n _ o _ p _ q _ r _ s _ t _ u x0 x1 x2 x3 x5 x6)).dk
    ∧ (a16.view.read (Elt F) (a16.view.writes (Elt F) a16.view.junk (kernelRun0_A c i _ d _ e _ f _ g _ h _ j _ k _ l _ n _ o _ p _ q _ r _ s _ t _ u hc0 hc1 x0 x1 x2 x3 x4 x5 x6 x7).2.2.2.2.2.1)) = (diag8 i x0 x1 x2 x3 x5 x6 (base c i _ d _ e _ f _ g _ h _ j _ k _ l _ n _ o _ p _ q _ r _ s _ t _ u x0 x1 x2 x3 x5 x6)).dv
    ∧ (a17.view.read (Elt F) (a17.view.writes (Elt F) a17.view.junk (HS2_8 c i _ d _ e _ f _ g _ h _ j _ k _ l _ n _ o _ p _ q _ r _ s _ t _ u x0 x1 x2 x3 x5 x6))) = (diag8 i x0 x1 x2 x3 x5 x6 (base c i _ d _ e _ f _ g _ h _ j _ k _ l _ n _ o _ p _ q _ r _ s _ t _ u x0 x1 x2 x3 x5 x6)).dq := by
  obtain ⟨e15, e16, e17, e18⟩ := r7 c i _ d _ e _ f _ g _ h _ j _ k _ l _ n _ o _ p _ q _ r _ s _ t _ u x0 x1 x2 x3 x5 x6
  refine ⟨?_, ?_, ?_⟩
  · rw [l15_8 (hc0 := hc0) (hc1 := hc1) (x4 := x4) (x7 := x7), read_put]; simp only [rd, Memref.IsWhole.read_unread, e15, e16, e17, e18]; rfl
  · rw [l16_8 (hc0 := hc0) (hc1 := hc1) (x4 := x4) (x7 := x7), read_put]; simp only [rd, Memref.IsWhole.read_unread, e15, e16, e17, e18]; rfl
  · rw [l17_8 (hc0 := hc0) (hc1 := hc1) (x4 := x4) (x7 := x7), read_put]; simp only [rd, Memref.IsWhole.read_unread, e15, e16, e17, e18]; rfl

end Cert.Attn.RunA
-- ==== Proof.RunB.lean ====
module

public import proofs.«01_k».proof.Proof.Slots

/-! # The accumulators through the second tile's body

What each accumulator's buffer reads after each step of the diagonal, as the state of `Step.lean`. -/

set_option maxRecDepth 16384

@[expose] public section

noncomputable section

open Idealize.ShloMosaic Idealize.ShloMosaic.TcCoe Idealize.SL.Sem

namespace Cert.Attn.RunB

open Cert.KernelIdeal Cert.KernelIdeal.Gen Cert.KernelIdeal.Gen.kernelRun0_B.sl

variable {F : FTy → Type} [FloatOps F] [Named F]

variable (c : Dev nD) (i : grid0.Coords)
  (a3 : Memref sig .tc .vmem S1024x128 .bf16) (d : a3.IsWhole)
  (a4 : Memref sig .tc .vmem S2048x128 .bf16) (e : a4.IsWhole)
  (a5 : Memref sig .tc .vmem S2048x128 .bf16) (f : a5.IsWhole)
  (a6 : Memref sig .tc .vmem S1024x128 .f32) (g : a6.IsWhole)
  (a7 : Memref sig .tc .vmem S1024x128 .f32) (h : a7.IsWhole)
  (a8 : Memref sig .tc .vmem S1x1024x128 .f32) (j : a8.IsWhole)
  (a9 : Memref sig .tc .vmem S1024x128 .f32) (k : a9.IsWhole)
  (a10 : Memref sig .tc .vmem S8x128 .f32) (l : a10.IsWhole)
  (a11 : Memref sig .tc .vmem S1024x128 .bf16) (n : a11.IsWhole)
  (a12 : Memref sig .tc .vmem S2048x128 .bf16) (o : a12.IsWhole)
  (a13 : Memref sig .tc .vmem S2048x128 .bf16) (p : a13.IsWhole)
  (a14 : Memref sig .tc .vmem S1024x128 .bf16) (q : a14.IsWhole)
  (a15 : Memref sig .tc .vmem S2048x128 .f32) (r : a15.IsWhole)
  (a16 : Memref sig .tc .vmem S2048x128 .f32) (s : a16.IsWhole)
  (a17 : Memref sig .tc .vmem S1024x128 .f32) (t : a17.IsWhole)
  (a18 : Memref sig .tc .vmem S2x1024x1 .f32) (u : a18.IsWhole)
  (x0 : Vec F S1024x128 .bf16) (x1 x2 : Vec F S2048x128 .bf16) (x3 : Vec F S1024x128 .f32) (x5 : Vec F S1x1024x128 .f32) (x6 : Vec F S1024x128 .f32) (xs0 xs1 : Vec F S2048x128 .f32)

/-- The accumulators before the diagonal. -/
def base : Acc F :=
  ⟨(a15.view.read (Elt F) (a15.view.writes (Elt F) (r.unread xs0) (HS0_1 c i _ d _ e _ f _ g _ h _ j _ k _ l _ n _ o _ p _ q _ r _ s _ t _ u x0 x1 x2 x3 x5 x6 xs0 xs1).tail)),
   (a16.view.read (Elt F) (a16.view.writes (Elt F) (s.unread xs1) (HS1_1 c i _ d _ e _ f _ g _ h _ j _ k _ l _ n _ o _ p _ q _ r _ s _ t _ u x0 x1 x2 x3 x5 x6 xs0 xs1).tail)),
   (a17.view.read (Elt F) (a17.view.writes (Elt F) a17.view.junk (HS2_1_1 c i _ d _ e _ f _ g _ h _ j _ k _ l _ n _ o _ p _ q _ r _ s _ t _ u x0 x1 x2 x3 x5 x6 xs0 xs1).tail)),
   (a18.view.read (Elt F) (a18.view.writes (Elt F) a18.view.junk (HS3_1_1 c i _ d _ e _ f _ g _ h _ j _ k _ l _ n _ o _ p _ q _ r _ s _ t _ u x0 x1 x2 x3 x5 x6 xs0 xs1).tail))⟩

theorem l15_1 : (HS0_1 c i _ d _ e _ f _ g _ h _ j _ k _ l _ n _ o _ p _ q _ r _ s _ t _ u x0 x1 x2 x3 x5 x6 xs0 xs1)
    = ⟨(sl50 i), tn1024 (dlm1024 (lg1024 (qh0 (rd d x0)) (View.ld (rd e x1) (sl50 i))) (gr1024 (wtm1024 (lg1024 (qh0 (rd d x0)) (View.ld (rd e x1) (sl50 i))) (laneOf 0#32 i 0#32) (View.ld (rd j x5) slr) k0_pay57) (k0_pay64 (dof (rd g x3) (rd k x6))) (View.ld (rd f x2) (sl50 i))) (cu1024 (gr1024 (wtm1024 (lg1024 (qh0 (rd d x0)) (View.ld (rd e x1) (sl50 i))) (laneOf 0#32 i 0#32) (View.ld (rd j x5) slr) k0_pay57) (k0_pay64 (dof (rd g x3) (rd k x6))) (View.ld (rd f x2) (sl50 i))) k0_pay58 (View.ld (wr a18 (HS3_1_1 c i _ d _ e _ f _ g _ h _ j _ k _ l _ n _ o _ p _ q _ r _ s _ t _ u x0 x1 x2 x3 x5 x6 xs0 xs1).tail) (Rect.unit ![0, 0, 0] S1x1024x1.size inb_S2x1024x1_S1x1024x1_0_0_0)))) (qh0 (rd d x0)) (View.ld (wo r xs0 (HS0_1 c i _ d _ e _ f _ g _ h _ j _ k _ l _ n _ o _ p _ q _ r _ s _ t _ u x0 x1 x2 x3 x5 x6 xs0 xs1).tail) (sl50 i))⟩ :: (HS0_1 c i _ d _ e _ f _ g _ h _ j _ k _ l _ n _ o _ p _ q _ r _ s _ t _ u x0 x1 x2 x3 x5 x6 xs0 xs1).tail := rfl

theorem l16_1 : (HS1_1 c i _ d _ e _ f _ g _ h _ j _ k _ l _ n _ o _ p _ q _ r _ s _ t _ u x0 x1 x2 x3 x5 x6 xs0 xs1)
    = ⟨(sl50 i), tn1024 (wtm1024 (lg1024 (qh0 (rd d x0)) (View.ld (rd e x1) (sl50 i))) (laneOf 0#32 i 0#32) (View.ld (rd j x5) slr) k0_pay57) (k0_pay64 (dof (rd g x3) (rd k x6))) (View.ld (wo s xs1 (HS1_1 c i _ d _ e _ f _ g _ h _ j _ k _ l _ n _ o _ p _ q _ r _ s _ t _ u x0 x1 x2 x3 x5 x6 xs0 xs1).tail) (sl50 i))⟩ :: (HS1_1 c i _ d _ e _ f _ g _ h _ j _ k _ l _ n _ o _ p _ q _ r _ s _ t _ u x0 x1 x2 x3 x5 x6 xs0 xs1).tail := rfl

theorem l17_1 : (HS2_1_1 c i _ d _ e _ f _ g _ h _ j _ k _ l _ n _ o _ p _ q _ r _ s _ t _ u x0 x1 x2 x3 x5 x6 xs0 xs1)
    = ⟨(Rect.unit ![0, 0] S1024x64.size inb_S1024x128_S1024x64_0_0), nn1024 (dlm1024 (lg1024 (qh0 (rd d x0)) (View.ld (rd e x1) (sl50 i))) (gr1024 (wtm1024 (lg1024 (qh0 (rd d x0)) (View.ld (rd e x1) (sl50 i))) (laneOf 0#32 i 0#32) (View.ld (rd j x5) slr) k0_pay57) (k0_pay64 (dof (rd g x3) (rd k x6))) (View.ld (rd f x2) (sl50 i))) (cu1024 (gr1024 (wtm1024 (lg1024 (qh0 (rd d x0)) (View.ld (rd e x1) (sl50 i))) (laneOf 0#32 i 0#32) (View.ld (rd j x5) slr) k0_pay57) (k0_pay64 (dof (rd g x3) (rd k x6))) (View.ld (rd f x2) (sl50 i))) k0_pay58 (View.ld (wr a18 (HS3_1_1 c i _ d _ e _ f _ g _ h _ j _ k _ l _ n _ o _ p _ q _ r _ s _ t _ u x0 x1 x2 x3 x5 x6 xs0 xs1).tail) (Rect.unit ![0, 0, 0] S1x1024x1.size inb_S2x1024x1_S1x1024x1_0_0_0)))) (View.ld (rd e x1) (sl50 i)) (View.ld (wr a17 (HS2_1_1 c i _ d _ e _ f _ g _ h _ j _ k _ l _ n _ o _ p _ q _ r _ s _ t _ u x0 x1 x2 x3 x5 x6 xs0 xs1).tail) (Rect.unit ![0, 0] S1024x64.size inb_S1024x128_S1024x64_0_0))⟩ :: (HS2_1_1 c i _ d _ e _ f _ g _ h _ j _ k _ l _ n _ o _ p _ q _ r _ s _ t _ u x0 x1 x2 x3 x5 x6 xs0 xs1).tail := rfl

theorem l18_1 : (HS3_1_1 c i _ d _ e _ f _ g _ h _ j _ k _ l _ n _ o _ p _ q _ r _ s _ t _ u x0 x1 x2 x3 x5 x6 xs0 xs1)
    = ⟨(Rect.unit ![0, 0, 0] S1x1024x1.size inb_S2x1024x1_S1x1024x1_0_0_0), gc1024 (gr1024 (wtm1024 (lg1024 (qh0 (rd d x0)) (View.ld (rd e x1) (sl50 i))) (laneOf 0#32 i 0#32) (View.ld (rd j x5) slr) k0_pay57) (k0_pay64 (dof (rd g x3) (rd k x6))) (View.ld (rd f x2) (sl50 i))) (cu1024 (gr1024 (wtm1024 (lg1024 (qh0 (rd d x0)) (View.ld (rd e x1) (sl50 i))) (laneOf 0#32 i 0#32) (View.ld (rd j x5) slr) k0_pay57) (k0_pay64 (dof (rd g x3) (rd k x6))) (View.ld (rd f x2) (sl50 i))) k0_pay58 (View.ld (wr a18 (HS3_1_1 c i _ d _ e _ f _ g _ h _ j _ k _ l _ n _ o _ p _ q _ r _ s _ t _ u x0 x1 x2 x3 x5 x6 xs0 xs1).tail) (Rect.unit ![0, 0, 0] S1x1024x1.size inb_S2x1024x1_S1x1024x1_0_0_0)))⟩ :: (HS3_1_1 c i _ d _ e _ f _ g _ h _ j _ k _ l _ n _ o _ p _ q _ r _ s _ t _ u x0 x1 x2 x3 x5 x6 xs0 xs1).tail := rfl

theorem r1 : Holds (wo r xs0 (HS0_1 c i _ d _ e _ f _ g _ h _ j _ k _ l _ n _ o _ p _ q _ r _ s _ t _ u x0 x1 x2 x3 x5 x6 xs0 xs1))
    (wo s xs1 (HS1_1 c i _ d _ e _ f _ g _ h _ j _ k _ l _ n _ o _ p _ q _ r _ s _ t _ u x0 x1 x2 x3 x5 x6 xs0 xs1))
    (wr a17 (HS2_1_1 c i _ d _ e _ f _ g _ h _ j _ k _ l _ n _ o _ p _ q _ r _ s _ t _ u x0 x1 x2 x3 x5 x6 xs0 xs1))
    (wr a18 (HS3_1_1 c i _ d _ e _ f _ g _ h _ j _ k _ l _ n _ o _ p _ q _ r _ s _ t _ u x0 x1 x2 x3 x5 x6 xs0 xs1))
    (diag1 i x0 x1 x2 x3 x5 x6 (base c i _ d _ e _ f _ g _ h _ j _ k _ l _ n _ o _ p _ q _ r _ s _ t _ u x0 x1 x2 x3 x5 x6 xs0 xs1)) := by
  refine ⟨?_, ?_, ?_, ?_⟩
  · rw [wo, l15_1, read_put]; simp only [rd, Memref.IsWhole.read_unread]; rfl
  · rw [wo, l16_1, read_put]; simp only [rd, Memref.IsWhole.read_unread]; rfl
  · rw [wr, l17_1, read_put]; simp only [rd, Memref.IsWhole.read_unread]; rfl
  · rw [wr, l18_1, read_put]; simp only [rd, Memref.IsWhole.read_unread]; rfl

theorem l15_2 : (HS0_2 c i _ d _ e _ f _ g _ h _ j _ k _ l _ n _ o _ p _ q _ r _ s _ t _ u x0 x1 x2 x3 x5 x6 xs0 xs1)
    = ⟨(sl60 i), tn1024 (dlm1024 (lg1024 (qh1 (rd d x0)) (View.ld (rd e x1) (sl60 i))) (gr1024 (wtm1024 (lg1024 (qh1 (rd d x0)) (View.ld (rd e x1) (sl60 i))) (laneOf 64#32 i 0#32) (View.ld (rd j x5) slr) k0_pay57) (k0_pay65 (dof (rd g x3) (rd k x6))) (View.ld (rd f x2) (sl60 i))) (cu1024 (gr1024 (wtm1024 (lg1024 (qh1 (rd d x0)) (View.ld (rd e x1) (sl60 i))) (laneOf 64#32 i 0#32) (View.ld (rd j x5) slr) k0_pay57) (k0_pay65 (dof (rd g x3) (rd k x6))) (View.ld (rd f x2) (sl60 i))) k0_pay58 (View.ld (wr a18 (HS3_1_1 c i _ d _ e _ f _ g _ h _ j _ k _ l _ n _ o _ p _ q _ r _ s _ t _ u x0 x1 x2 x3 x5 x6 xs0 xs1)) (Rect.unit ![1, 0, 0] S1x1024x1.size inb_S2x1024x1_S1x1024x1_1_0_0)))) (qh1 (rd d x0)) (View.ld (wo r xs0 (HS0_1 c i _ d _ e _ f _ g _ h _ j _ k _ l _ n _ o _ p _ q _ r _ s _ t _ u x0 x1 x2 x3 x5 x6 xs0 xs1)) (sl60 i))⟩ :: (HS0_1 c i _ d _ e _ f _ g _ h _ j _ k _ l _ n _ o _ p _ q _ r _ s _ t _ u x0 x1 x2 x3 x5 x6 xs0 xs1) := rfl

theorem l16_2 : (HS1_2 c i _ d _ e _ f _ g _ h _ j _ k _ l _ n _ o _ p _ q _ r _ s _ t _ u x0 x1 x2 x3 x5 x6 xs0 xs1)
    = ⟨(sl60 i), tn1024 (wtm1024 (lg1024 (qh1 (rd d x0)) (View.ld (rd e x1) (sl60 i))) (laneOf 64#32 i 0#32) (View.ld (rd j x5) slr) k0_pay57) (k0_pay65 (dof (rd g x3) (rd k x6))) (View.ld (wo s xs1 (HS1_1 c i _ d _ e _ f _ g _ h _ j _ k _ l _ n _ o _ p _ q _ r _ s _ t _ u x0 x1 x2 x3 x5 x6 xs0 xs1)) (sl60 i))⟩ :: (HS1_1 c i _ d _ e _ f _ g _ h _ j _ k _ l _ n _ o _ p _ q _ r _ s _ t _ u x0 x1 x2 x3 x5 x6 xs0 xs1) := rfl

theorem l17_2 : (HS2_2 c i _ d _ e _ f _ g _ h _ j _ k _ l _ n _ o _ p _ q _ r _ s _ t _ u x0 x1 x2 x3 x5 x6 xs0 xs1)
    = ⟨(Rect.unit ![0, 64] S1024x64.size inb_S1024x128_S1024x64_0_64), nn1024 (dlm1024 (lg1024 (qh1 (rd d x0)) (View.ld (rd e x1) (sl60 i))) (gr1024 (wtm1024 (lg1024 (qh1 (rd d x0)) (View.ld (rd e x1) (sl60 i))) (laneOf 64#32 i 0#32) (View.ld (rd j x5) slr) k0_pay57) (k0_pay65 (dof (rd g x3) (rd k x6))) (View.ld (rd f x2) (sl60 i))) (cu1024 (gr1024 (wtm1024 (lg1024 (qh1 (rd d x0)) (View.ld (rd e x1) (sl60 i))) (laneOf 64#32 i 0#32) (View.ld (rd j x5) slr) k0_pay57) (k0_pay65 (dof (rd g x3) (rd k x6))) (View.ld (rd f x2) (sl60 i))) k0_pay58 (View.ld (wr a18 (HS3_1_1 c i _ d _ e _ f _ g _ h _ j _ k _ l _ n _ o _ p _ q _ r _ s _ t _ u x0 x1 x2 x3 x5 x6 xs0 xs1)) (Rect.unit ![1, 0, 0] S1x1024x1.size inb_S2x1024x1_S1x1024x1_1_0_0)))) (View.ld (rd e x1) (sl60 i)) (View.ld (wr a17 (HS2_1_1 c i _ d _ e _ f _ g _ h _ j _ k _ l _ n _ o _ p _ q _ r _ s _ t _ u x0 x1 x2 x3 x5 x6 xs0 xs1)) (Rect.unit ![0, 64] S1024x64.size inb_S1024x128_S1024x64_0_64))⟩ :: (HS2_1_1 c i _ d _ e _ f _ g _ h _ j _ k _ l _ n _ o _ p _ q _ r _ s _ t _ u x0 x1 x2 x3 x5 x6 xs0 xs1) := rfl

theorem l18_2 : (HS3_2 c i _ d _ e _ f _ g _ h _ j _ k _ l _ n _ o _ p _ q _ r _ s _ t _ u x0 x1 x2 x3 x5 x6 xs0 xs1)
    = ⟨(Rect.unit ![1, 0, 0] S1x1024x1.size inb_S2x1024x1_S1x1024x1_1_0_0), gc1024 (gr1024 (wtm1024 (lg1024 (qh1 (rd d x0)) (View.ld (rd e x1) (sl60 i))) (laneOf 64#32 i 0#32) (View.ld (rd j x5) slr) k0_pay57) (k0_pay65 (dof (rd g x3) (rd k x6))) (View.ld (rd f x2) (sl60 i))) (cu1024 (gr1024 (wtm1024 (lg1024 (qh1 (rd d x0)) (View.ld (rd e x1) (sl60 i))) (laneOf 64#32 i 0#32) (View.ld (rd j x5) slr) k0_pay57) (k0_pay65 (dof (rd g x3) (rd k x6))) (View.ld (rd f x2) (sl60 i))) k0_pay58 (View.ld (wr a18 (HS3_1_1 c i _ d _ e _ f _ g _ h _ j _ k _ l _ n _ o _ p _ q _ r _ s _ t _ u x0 x1 x2 x3 x5 x6 xs0 xs1)) (Rect.unit ![1, 0, 0] S1x1024x1.size inb_S2x1024x1_S1x1024x1_1_0_0)))⟩ :: (HS3_1_1 c i _ d _ e _ f _ g _ h _ j _ k _ l _ n _ o _ p _ q _ r _ s _ t _ u x0 x1 x2 x3 x5 x6 xs0 xs1) := rfl

theorem r2 : Holds (wo r xs0 (HS0_2 c i _ d _ e _ f _ g _ h _ j _ k _ l _ n _ o _ p _ q _ r _ s _ t _ u x0 x1 x2 x3 x5 x6 xs0 xs1))
    (wo s xs1 (HS1_2 c i _ d _ e _ f _ g _ h _ j _ k _ l _ n _ o _ p _ q _ r _ s _ t _ u x0 x1 x2 x3 x5 x6 xs0 xs1))
    (wr a17 (HS2_2 c i _ d _ e _ f _ g _ h _ j _ k _ l _ n _ o _ p _ q _ r _ s _ t _ u x0 x1 x2 x3 x5 x6 xs0 xs1))
    (wr a18 (HS3_2 c i _ d _ e _ f _ g _ h _ j _ k _ l _ n _ o _ p _ q _ r _ s _ t _ u x0 x1 x2 x3 x5 x6 xs0 xs1))
    (diag2 i x0 x1 x2 x3 x5 x6 (base c i _ d _ e _ f _ g _ h _ j _ k _ l _ n _ o _ p _ q _ r _ s _ t _ u x0 x1 x2 x3 x5 x6 xs0 xs1)) := by
  obtain ⟨e15, e16, e17, e18⟩ := r1 c i _ d _ e _ f _ g _ h _ j _ k _ l _ n _ o _ p _ q _ r _ s _ t _ u x0 x1 x2 x3 x5 x6 xs0 xs1
  refine ⟨?_, ?_, ?_, ?_⟩
  · rw [wo, l15_2, read_put]; simp only [rd, Memref.IsWhole.read_unread, e15, e16, e17, e18]; rfl
  · rw [wo, l16_2, read_put]; simp only [rd, Memref.IsWhole.read_unread, e15, e16, e17, e18]; rfl
  · rw [wr, l17_2, read_put]; simp only [rd, Memref.IsWhole.read_unread, e15, e16, e17, e18]; rfl
  · rw [wr, l18_2, read_put]; simp only [rd, Memref.IsWhole.read_unread, e15, e16, e17, e18]; rfl

theorem l15_3 : (HS0_3 c i _ d _ e _ f _ g _ h _ j _ k _ l _ n _ o _ p _ q _ r _ s _ t _ u x0 x1 x2 x3 x5 x6 xs0 xs1)
    = ⟨(sl51 i), tn768 (dlm768 (lg768 (cr1 (qh0 (rd d x0))) (View.ld (rd e x1) (sl51 i))) (gr768 (wtm768 (lg768 (cr1 (qh0 (rd d x0))) (View.ld (rd e x1) (sl51 i))) (laneOf 0#32 i 1#32) (View.ld (rd j x5) sr1) k0_pay57) (cr1 (k0_pay64 (dof (rd g x3) (rd k x6)))) (View.ld (rd f x2) (sl51 i))) (cu768 (gr768 (wtm768 (lg768 (cr1 (qh0 (rd d x0))) (View.ld (rd e x1) (sl51 i))) (laneOf 0#32 i 1#32) (View.ld (rd j x5) sr1) k0_pay57) (cr1 (k0_pay64 (dof (rd g x3) (rd k x6)))) (View.ld (rd f x2) (sl51 i))) k0_pay58 (View.ld (wr a18 (HS3_2 c i _ d _ e _ f _ g _ h _ j _ k _ l _ n _ o _ p _ q _ r _ s _ t _ u x0 x1 x2 x3 x5 x6 xs0 xs1)) (Rect.unit ![0, 256, 0] S1x768x1.size inb_S2x1024x1_S1x768x1_0_256_0)))) (cr1 (qh0 (rd d x0))) (View.ld (wo r xs0 (HS0_2 c i _ d _ e _ f _ g _ h _ j _ k _ l _ n _ o _ p _ q _ r _ s _ t _ u x0 x1 x2 x3 x5 x6 xs0 xs1)) (sl51 i))⟩ :: (HS0_2 c i _ d _ e _ f _ g _ h _ j _ k _ l _ n _ o _ p _ q _ r _ s _ t _ u x0 x1 x2 x3 x5 x6 xs0 xs1) := rfl

theorem l16_3 : (HS1_3 c i _ d _ e _ f _ g _ h _ j _ k _ l _ n _ o _ p _ q _ r _ s _ t _ u x0 x1 x2 x3 x5 x6 xs0 xs1)
    = ⟨(sl51 i), tn768 (wtm768 (lg768 (cr1 (qh0 (rd d x0))) (View.ld (rd e x1) (sl51 i))) (laneOf 0#32 i 1#32) (View.ld (rd j x5) sr1) k0_pay57) (cr1 (k0_pay64 (dof (rd g x3) (rd k x6)))) (View.ld (wo s xs1 (HS1_2 c i _ d _ e _ f _ g _ h _ j _ k _ l _ n _ o _ p _ q _ r _ s _ t _ u x0 x1 x2 x3 x5 x6 xs0 xs1)) (sl51 i))⟩ :: (HS1_2 c i _ d _ e _ f _ g _ h _ j _ k _ l _ n _ o _ p _ q _ r _ s _ t _ u x0 x1 x2 x3 x5 x6 xs0 xs1) := rfl

theorem l17_3 : (HS2_3 c i _ d _ e _ f _ g _ h _ j _ k _ l _ n _ o _ p _ q _ r _ s _ t _ u x0 x1 x2 x3 x5 x6 xs0 xs1)
    = ⟨(Rect.unit ![256, 0] S768x64.size inb_S1024x128_S768x64_256_0), nn768 (dlm768 (lg768 (cr1 (qh0 (rd d x0))) (View.ld (rd e x1) (sl51 i))) (gr768 (wtm768 (lg768 (cr1 (qh0 (rd d x0))) (View.ld (rd e x1) (sl51 i))) (laneOf 0#32 i 1#32) (View.ld (rd j x5) sr1) k0_pay57) (cr1 (k0_pay64 (dof (rd g x3) (rd k x6)))) (View.ld (rd f x2) (sl51 i))) (cu768 (gr768 (wtm768 (lg768 (cr1 (qh0 (rd d x0))) (View.ld (rd e x1) (sl51 i))) (laneOf 0#32 i 1#32) (View.ld (rd j x5) sr1) k0_pay57) (cr1 (k0_pay64 (dof (rd g x3) (rd k x6)))) (View.ld (rd f x2) (sl51 i))) k0_pay58 (View.ld (wr a18 (HS3_2 c i _ d _ e _ f _ g _ h _ j _ k _ l _ n _ o _ p _ q _ r _ s _ t _ u x0 x1 x2 x3 x5 x6 xs0 xs1)) (Rect.unit ![0, 256, 0] S1x768x1.size inb_S2x1024x1_S1x768x1_0_256_0)))) (View.ld (rd e x1) (sl51 i)) (View.ld (wr a17 (HS2_2 c i _ d _ e _ f _ g _ h _ j _ k _ l _ n _ o _ p _ q _ r _ s _ t _ u x0 x1 x2 x3 x5 x6 xs0 xs1)) (Rect.unit ![256, 0] S768x64.size inb_S1024x128_S768x64_256_0))⟩ :: (HS2_2 c i _ d _ e _ f _ g _ h _ j _ k _ l _ n _ o _ p _ q _ r _ s _ t _ u x0 x1 x2 x3 x5 x6 xs0 xs1) := rfl

theorem l18_3 : (HS3_3 c i _ d _ e _ f _ g _ h _ j _ k _ l _ n _ o _ p _ q _ r _ s _ t _ u x0 x1 x2 x3 x5 x6 xs0 xs1)
    = ⟨(Rect.unit ![0, 256, 0] S1x768x1.size inb_S2x1024x1_S1x768x1_0_256_0), gc768 (gr768 (wtm768 (lg768 (cr1 (qh0 (rd d x0))) (View.ld (rd e x1) (sl51 i))) (laneOf 0#32 i 1#32) (View.ld (rd j x5) sr1) k0_pay57) (cr1 (k0_pay64 (dof (rd g x3) (rd k x6)))) (View.ld (rd f x2) (sl51 i))) (cu768 (gr768 (wtm768 (lg768 (cr1 (qh0 (rd d x0))) (View.ld (rd e x1) (sl51 i))) (laneOf 0#32 i 1#32) (View.ld (rd j x5) sr1) k0_pay57) (cr1 (k0_pay64 (dof (rd g x3) (rd k x6)))) (View.ld (rd f x2) (sl51 i))) k0_pay58 (View.ld (wr a18 (HS3_2 c i _ d _ e _ f _ g _ h _ j _ k _ l _ n _ o _ p _ q _ r _ s _ t _ u x0 x1 x2 x3 x5 x6 xs0 xs1)) (Rect.unit ![0, 256, 0] S1x768x1.size inb_S2x1024x1_S1x768x1_0_256_0)))⟩ :: (HS3_2 c i _ d _ e _ f _ g _ h _ j _ k _ l _ n _ o _ p _ q _ r _ s _ t _ u x0 x1 x2 x3 x5 x6 xs0 xs1) := rfl

theorem r3 : Holds (wo r xs0 (HS0_3 c i _ d _ e _ f _ g _ h _ j _ k _ l _ n _ o _ p _ q _ r _ s _ t _ u x0 x1 x2 x3 x5 x6 xs0 xs1))
    (wo s xs1 (HS1_3 c i _ d _ e _ f _ g _ h _ j _ k _ l _ n _ o _ p _ q _ r _ s _ t _ u x0 x1 x2 x3 x5 x6 xs0 xs1))
    (wr a17 (HS2_3 c i _ d _ e _ f _ g _ h _ j _ k _ l _ n _ o _ p _ q _ r _ s _ t _ u x0 x1 x2 x3 x5 x6 xs0 xs1))
    (wr a18 (HS3_3 c i _ d _ e _ f _ g _ h _ j _ k _ l _ n _ o _ p _ q _ r _ s _ t _ u x0 x1 x2 x3 x5 x6 xs0 xs1))
    (diag3 i x0 x1 x2 x3 x5 x6 (base c i _ d _ e _ f _ g _ h _ j _ k _ l _ n _ o _ p _ q _ r _ s _ t _ u x0 x1 x2 x3 x5 x6 xs0 xs1)) := by
  obtain ⟨e15, e16, e17, e18⟩ := r2 c i _ d _ e _ f _ g _ h _ j _ k _ l _ n _ o _ p _ q _ r _ s _ t _ u x0 x1 x2 x3 x5 x6 xs0 xs1
  refine ⟨?_, ?_, ?_, ?_⟩
  · rw [wo, l15_3, read_put]; simp only [rd, Memref.IsWhole.read_unread, e15, e16, e17, e18]; rfl
  · rw [wo, l16_3, read_put]; simp only [rd, Memref.IsWhole.read_unread, e15, e16, e17, e18]; rfl
  · rw [wr, l17_3, read_put]; simp only [rd, Memref.IsWhole.read_unread, e15, e16, e17, e18]; rfl
  · rw [wr, l18_3, read_put]; simp only [rd, Memref.IsWhole.read_unread, e15, e16, e17, e18]; rfl

theorem l15_4 : (HS0_4 c i _ d _ e _ f _ g _ h _ j _ k _ l _ n _ o _ p _ q _ r _ s _ t _ u x0 x1 x2 x3 x5 x6 xs0 xs1)
    = ⟨(sl61 i), tn768 (dlm768 (lg768 (cr1 (qh1 (rd d x0))) (View.ld (rd e x1) (sl61 i))) (gr768 (wtm768 (lg768 (cr1 (qh1 (rd d x0))) (View.ld (rd e x1) (sl61 i))) (laneOf 64#32 i 1#32) (View.ld (rd j x5) sr1) k0_pay57) (cr1 (k0_pay65 (dof (rd g x3) (rd k x6)))) (View.ld (rd f x2) (sl61 i))) (cu768 (gr768 (wtm768 (lg768 (cr1 (qh1 (rd d x0))) (View.ld (rd e x1) (sl61 i))) (laneOf 64#32 i 1#32) (View.ld (rd j x5) sr1) k0_pay57) (cr1 (k0_pay65 (dof (rd g x3) (rd k x6)))) (View.ld (rd f x2) (sl61 i))) k0_pay58 (View.ld (wr a18 (HS3_3 c i _ d _ e _ f _ g _ h _ j _ k _ l _ n _ o _ p _ q _ r _ s _ t _ u x0 x1 x2 x3 x5 x6 xs0 xs1)) (Rect.unit ![1, 256, 0] S1x768x1.size inb_S2x1024x1_S1x768x1_1_256_0)))) (cr1 (qh1 (rd d x0))) (View.ld (wo r xs0 (HS0_3 c i _ d _ e _ f _ g _ h _ j _ k _ l _ n _ o _ p _ q _ r _ s _ t _ u x0 x1 x2 x3 x5 x6 xs0 xs1)) (sl61 i))⟩ :: (HS0_3 c i _ d _ e _ f _ g _ h _ j _ k _ l _ n _ o _ p _ q _ r _ s _ t _ u x0 x1 x2 x3 x5 x6 xs0 xs1) := rfl

theorem l16_4 : (HS1_4 c i _ d _ e _ f _ g _ h _ j _ k _ l _ n _ o _ p _ q _ r _ s _ t _ u x0 x1 x2 x3 x5 x6 xs0 xs1)
    = ⟨(sl61 i), tn768 (wtm768 (lg768 (cr1 (qh1 (rd d x0))) (View.ld (rd e x1) (sl61 i))) (laneOf 64#32 i 1#32) (View.ld (rd j x5) sr1) k0_pay57) (cr1 (k0_pay65 (dof (rd g x3) (rd k x6)))) (View.ld (wo s xs1 (HS1_3 c i _ d _ e _ f _ g _ h _ j _ k _ l _ n _ o _ p _ q _ r _ s _ t _ u x0 x1 x2 x3 x5 x6 xs0 xs1)) (sl61 i))⟩ :: (HS1_3 c i _ d _ e _ f _ g _ h _ j _ k _ l _ n _ o _ p _ q _ r _ s _ t _ u x0 x1 x2 x3 x5 x6 xs0 xs1) := rfl

theorem l17_4 : (HS2_4 c i _ d _ e _ f _ g _ h _ j _ k _ l _ n _ o _ p _ q _ r _ s _ t _ u x0 x1 x2 x3 x5 x6 xs0 xs1)
    = ⟨(Rect.unit ![256, 64] S768x64.size inb_S1024x128_S768x64_256_64), nn768 (dlm768 (lg768 (cr1 (qh1 (rd d x0))) (View.ld (rd e x1) (sl61 i))) (gr768 (wtm768 (lg768 (cr1 (qh1 (rd d x0))) (View.ld (rd e x1) (sl61 i))) (laneOf 64#32 i 1#32) (View.ld (rd j x5) sr1) k0_pay57) (cr1 (k0_pay65 (dof (rd g x3) (rd k x6)))) (View.ld (rd f x2) (sl61 i))) (cu768 (gr768 (wtm768 (lg768 (cr1 (qh1 (rd d x0))) (View.ld (rd e x1) (sl61 i))) (laneOf 64#32 i 1#32) (View.ld (rd j x5) sr1) k0_pay57) (cr1 (k0_pay65 (dof (rd g x3) (rd k x6)))) (View.ld (rd f x2) (sl61 i))) k0_pay58 (View.ld (wr a18 (HS3_3 c i _ d _ e _ f _ g _ h _ j _ k _ l _ n _ o _ p _ q _ r _ s _ t _ u x0 x1 x2 x3 x5 x6 xs0 xs1)) (Rect.unit ![1, 256, 0] S1x768x1.size inb_S2x1024x1_S1x768x1_1_256_0)))) (View.ld (rd e x1) (sl61 i)) (View.ld (wr a17 (HS2_3 c i _ d _ e _ f _ g _ h _ j _ k _ l _ n _ o _ p _ q _ r _ s _ t _ u x0 x1 x2 x3 x5 x6 xs0 xs1)) (Rect.unit ![256, 64] S768x64.size inb_S1024x128_S768x64_256_64))⟩ :: (HS2_3 c i _ d _ e _ f _ g _ h _ j _ k _ l _ n _ o _ p _ q _ r _ s _ t _ u x0 x1 x2 x3 x5 x6 xs0 xs1) := rfl

theorem l18_4 : (HS3_4 c i _ d _ e _ f _ g _ h _ j _ k _ l _ n _ o _ p _ q _ r _ s _ t _ u x0 x1 x2 x3 x5 x6 xs0 xs1)
    = ⟨(Rect.unit ![1, 256, 0] S1x768x1.size inb_S2x1024x1_S1x768x1_1_256_0), gc768 (gr768 (wtm768 (lg768 (cr1 (qh1 (rd d x0))) (View.ld (rd e x1) (sl61 i))) (laneOf 64#32 i 1#32) (View.ld (rd j x5) sr1) k0_pay57) (cr1 (k0_pay65 (dof (rd g x3) (rd k x6)))) (View.ld (rd f x2) (sl61 i))) (cu768 (gr768 (wtm768 (lg768 (cr1 (qh1 (rd d x0))) (View.ld (rd e x1) (sl61 i))) (laneOf 64#32 i 1#32) (View.ld (rd j x5) sr1) k0_pay57) (cr1 (k0_pay65 (dof (rd g x3) (rd k x6)))) (View.ld (rd f x2) (sl61 i))) k0_pay58 (View.ld (wr a18 (HS3_3 c i _ d _ e _ f _ g _ h _ j _ k _ l _ n _ o _ p _ q _ r _ s _ t _ u x0 x1 x2 x3 x5 x6 xs0 xs1)) (Rect.unit ![1, 256, 0] S1x768x1.size inb_S2x1024x1_S1x768x1_1_256_0)))⟩ :: (HS3_3 c i _ d _ e _ f _ g _ h _ j _ k _ l _ n _ o _ p _ q _ r _ s _ t _ u x0 x1 x2 x3 x5 x6 xs0 xs1) := rfl

theorem r4 : Holds (wo r xs0 (HS0_4 c i _ d _ e _ f _ g _ h _ j _ k _ l _ n _ o _ p _ q _ r _ s _ t _ u x0 x1 x2 x3 x5 x6 xs0 xs1))
    (wo s xs1 (HS1_4 c i _ d _ e _ f _ g _ h _ j _ k _ l _ n _ o _ p _ q _ r _ s _ t _ u x0 x1 x2 x3 x5 x6 xs0 xs1))
    (wr a17 (HS2_4 c i _ d _ e _ f _ g _ h _ j _ k _ l _ n _ o _ p _ q _ r _ s _ t _ u x0 x1 x2 x3 x5 x6 xs0 xs1))
    (wr a18 (HS3_4 c i _ d _ e _ f _ g _ h _ j _ k _ l _ n _ o _ p _ q _ r _ s _ t _ u x0 x1 x2 x3 x5 x6 xs0 xs1))
    (diag4 i x0 x1 x2 x3 x5 x6 (base c i _ d _ e _ f _ g _ h _ j _ k _ l _ n _ o _ p _ q _ r _ s _ t _ u x0 x1 x2 x3 x5 x6 xs0 xs1)) := by
  obtain ⟨e15, e16, e17, e18⟩ := r3 c i _ d _ e _ f _ g _ h _ j _ k _ l _ n _ o _ p _ q _ r _ s _ t _ u x0 x1 x2 x3 x5 x6 xs0 xs1
  refine ⟨?_, ?_, ?_, ?_⟩
  · rw [wo, l15_4, read_put]; simp only [rd, Memref.IsWhole.read_unread, e15, e16, e17, e18]; rfl
  · rw [wo, l16_4, read_put]; simp only [rd, Memref.IsWhole.read_unread, e15, e16, e17, e18]; rfl
  · rw [wr, l17_4, read_put]; simp only [rd, Memref.IsWhole.read_unread, e15, e16, e17, e18]; rfl
  · rw [wr, l18_4, read_put]; simp only [rd, Memref.IsWhole.read_unread, e15, e16, e17, e18]; rfl

theorem l15_5 : (HS0_5 c i _ d _ e _ f _ g _ h _ j _ k _ l _ n _ o _ p _ q _ r _ s _ t _ u x0 x1 x2 x3 x5 x6 xs0 xs1)
    = ⟨(sl52 i), tn512 (dlm512 (lg512 (cr2 (qh0 (rd d x0))) (View.ld (rd e x1) (sl52 i))) (gr512 (wtm512 (lg512 (cr2 (qh0 (rd d x0))) (View.ld (rd e x1) (sl52 i))) (laneOf 0#32 i 2#32) (View.ld (rd j x5) sr2) k0_pay57) (cr2 (k0_pay64 (dof (rd g x3) (rd k x6)))) (View.ld (rd f x2) (sl52 i))) (cu512 (gr512 (wtm512 (lg512 (cr2 (qh0 (rd d x0))) (View.ld (rd e x1) (sl52 i))) (laneOf 0#32 i 2#32) (View.ld (rd j x5) sr2) k0_pay57) (cr2 (k0_pay64 (dof (rd g x3) (rd k x6)))) (View.ld (rd f x2) (sl52 i))) k0_pay58 (View.ld (wr a18 (HS3_4 c i _ d _ e _ f _ g _ h _ j _ k _ l _ n _ o _ p _ q _ r _ s _ t _ u x0 x1 x2 x3 x5 x6 xs0 xs1)) (Rect.unit ![0, 512, 0] S1x512x1.size inb_S2x1024x1_S1x512x1_0_512_0)))) (cr2 (qh0 (rd d x0))) (View.ld (wo r xs0 (HS0_4 c i _ d _ e _ f _ g _ h _ j _ k _ l _ n _ o _ p _ q _ r _ s _ t _ u x0 x1 x2 x3 x5 x6 xs0 xs1)) (sl52 i))⟩ :: (HS0_4 c i _ d _ e _ f _ g _ h _ j _ k _ l _ n _ o _ p _ q _ r _ s _ t _ u x0 x1 x2 x3 x5 x6 xs0 xs1) := rfl

theorem l16_5 : (HS1_5 c i _ d _ e _ f _ g _ h _ j _ k _ l _ n _ o _ p _ q _ r _ s _ t _ u x0 x1 x2 x3 x5 x6 xs0 xs1)
    = ⟨(sl52 i), tn512 (wtm512 (lg512 (cr2 (qh0 (rd d x0))) (View.ld (rd e x1) (sl52 i))) (laneOf 0#32 i 2#32) (View.ld (rd j x5) sr2) k0_pay57) (cr2 (k0_pay64 (dof (rd g x3) (rd k x6)))) (View.ld (wo s xs1 (HS1_4 c i _ d _ e _ f _ g _ h _ j _ k _ l _ n _ o _ p _ q _ r _ s _ t _ u x0 x1 x2 x3 x5 x6 xs0 xs1)) (sl52 i))⟩ :: (HS1_4 c i _ d _ e _ f _ g _ h _ j _ k _ l _ n _ o _ p _ q _ r _ s _ t _ u x0 x1 x2 x3 x5 x6 xs0 xs1) := rfl

theorem l17_5 : (HS2_5 c i _ d _ e _ f _ g _ h _ j _ k _ l _ n _ o _ p _ q _ r _ s _ t _ u x0 x1 x2 x3 x5 x6 xs0 xs1)
    = ⟨(Rect.unit ![512, 0] S512x64.size inb_S1024x128_S512x64_512_0), nn512 (dlm512 (lg512 (cr2 (qh0 (rd d x0))) (View.ld (rd e x1) (sl52 i))) (gr512 (wtm512 (lg512 (cr2 (qh0 (rd d x0))) (View.ld (rd e x1) (sl52 i))) (laneOf 0#32 i 2#32) (View.ld (rd j x5) sr2) k0_pay57) (cr2 (k0_pay64 (dof (rd g x3) (rd k x6)))) (View.ld (rd f x2) (sl52 i))) (cu512 (gr512 (wtm512 (lg512 (cr2 (qh0 (rd d x0))) (View.ld (rd e x1) (sl52 i))) (laneOf 0#32 i 2#32) (View.ld (rd j x5) sr2) k0_pay57) (cr2 (k0_pay64 (dof (rd g x3) (rd k x6)))) (View.ld (rd f x2) (sl52 i))) k0_pay58 (View.ld (wr a18 (HS3_4 c i _ d _ e _ f _ g _ h _ j _ k _ l _ n _ o _ p _ q _ r _ s _ t _ u x0 x1 x2 x3 x5 x6 xs0 xs1)) (Rect.unit ![0, 512, 0] S1x512x1.size inb_S2x1024x1_S1x512x1_0_512_0)))) (View.ld (rd e x1) (sl52 i)) (View.ld (wr a17 (HS2_4 c i _ d _ e _ f _ g _ h _ j _ k _ l _ n _ o _ p _ q _ r _ s _ t _ u x0 x1 x2 x3 x5 x6 xs0 xs1)) (Rect.unit ![512, 0] S512x64.size inb_S1024x128_S512x64_512_0))⟩ :: (HS2_4 c i _ d _ e _ f _ g _ h _ j _ k _ l _ n _ o _ p _ q _ r _ s _ t _ u x0 x1 x2 x3 x5 x6 xs0 xs1) := rfl

theorem l18_5 : (HS3_5 c i _ d _ e _ f _ g _ h _ j _ k _ l _ n _ o _ p _ q _ r _ s _ t _ u x0 x1 x2 x3 x5 x6 xs0 xs1)
    = ⟨(Rect.unit ![0, 512, 0] S1x512x1.size inb_S2x1024x1_S1x512x1_0_512_0), gc512 (gr512 (wtm512 (lg512 (cr2 (qh0 (rd d x0))) (View.ld (rd e x1) (sl52 i))) (laneOf 0#32 i 2#32) (View.ld (rd j x5) sr2) k0_pay57) (cr2 (k0_pay64 (dof (rd g x3) (rd k x6)))) (View.ld (rd f x2) (sl52 i))) (cu512 (gr512 (wtm512 (lg512 (cr2 (qh0 (rd d x0))) (View.ld (rd e x1) (sl52 i))) (laneOf 0#32 i 2#32) (View.ld (rd j x5) sr2) k0_pay57) (cr2 (k0_pay64 (dof (rd g x3) (rd k x6)))) (View.ld (rd f x2) (sl52 i))) k0_pay58 (View.ld (wr a18 (HS3_4 c i _ d _ e _ f _ g _ h _ j _ k _ l _ n _ o _ p _ q _ r _ s _ t _ u x0 x1 x2 x3 x5 x6 xs0 xs1)) (Rect.unit ![0, 512, 0] S1x512x1.size inb_S2x1024x1_S1x512x1_0_512_0)))⟩ :: (HS3_4 c i _ d _ e _ f _ g _ h _ j _ k _ l _ n _ o _ p _ q _ r _ s _ t _ u x0 x1 x2 x3 x5 x6 xs0 xs1) := rfl

theorem r5 : Holds (wo r xs0 (HS0_5 c i _ d _ e _ f _ g _ h _ j _ k _ l _ n _ o _ p _ q _ r _ s _ t _ u x0 x1 x2 x3 x5 x6 xs0 xs1))
    (wo s xs1 (HS1_5 c i _ d _ e _ f _ g _ h _ j _ k _ l _ n _ o _ p _ q _ r _ s _ t _ u x0 x1 x2 x3 x5 x6 xs0 xs1))
    (wr a17 (HS2_5 c i _ d _ e _ f _ g _ h _ j _ k _ l _ n _ o _ p _ q _ r _ s _ t _ u x0 x1 x2 x3 x5 x6 xs0 xs1))
    (wr a18 (HS3_5 c i _ d _ e _ f _ g _ h _ j _ k _ l _ n _ o _ p _ q _ r _ s _ t _ u x0 x1 x2 x3 x5 x6 xs0 xs1))
    (diag5 i x0 x1 x2 x3 x5 x6 (base c i _ d _ e _ f _ g _ h _ j _ k _ l _ n _ o _ p _ q _ r _ s _ t _ u x0 x1 x2 x3 x5 x6 xs0 xs1)) := by
  obtain ⟨e15, e16, e17, e18⟩ := r4 c i _ d _ e _ f _ g _ h _ j _ k _ l _ n _ o _ p _ q _ r _ s _ t _ u x0 x1 x2 x3 x5 x6 xs0 xs1
  refine ⟨?_, ?_, ?_, ?_⟩
  · rw [wo, l15_5, read_put]; simp only [rd, Memref.IsWhole.read_unread, e15, e16, e17, e18]; rfl
  · rw [wo, l16_5, read_put]; simp only [rd, Memref.IsWhole.read_unread, e15, e16, e17, e18]; rfl
  · rw [wr, l17_5, read_put]; simp only [rd, Memref.IsWhole.read_unread, e15, e16, e17, e18]; rfl
  · rw [wr, l18_5, read_put]; simp only [rd, Memref.IsWhole.read_unread, e15, e16, e17, e18]; rfl

theorem l15_6 : (HS0_6 c i _ d _ e _ f _ g _ h _ j _ k _ l _ n _ o _ p _ q _ r _ s _ t _ u x0 x1 x2 x3 x5 x6 xs0 xs1)
    = ⟨(sl62 i), tn512 (dlm512 (lg512 (cr2 (qh1 (rd d x0))) (View.ld (rd e x1) (sl62 i))) (gr512 (wtm512 (lg512 (cr2 (qh1 (rd d x0))) (View.ld (rd e x1) (sl62 i))) (laneOf 64#32 i 2#32) (View.ld (rd j x5) sr2) k0_pay57) (cr2 (k0_pay65 (dof (rd g x3) (rd k x6)))) (View.ld (rd f x2) (sl62 i))) (cu512 (gr512 (wtm512 (lg512 (cr2 (qh1 (rd d x0))) (View.ld (rd e x1) (sl62 i))) (laneOf 64#32 i 2#32) (View.ld (rd j x5) sr2) k0_pay57) (cr2 (k0_pay65 (dof (rd g x3) (rd k x6)))) (View.ld (rd f x2) (sl62 i))) k0_pay58 (View.ld (wr a18 (HS3_5 c i _ d _ e _ f _ g _ h _ j _ k _ l _ n _ o _ p _ q _ r _ s _ t _ u x0 x1 x2 x3 x5 x6 xs0 xs1)) (Rect.unit ![1, 512, 0] S1x512x1.size inb_S2x1024x1_S1x512x1_1_512_0)))) (cr2 (qh1 (rd d x0))) (View.ld (wo r xs0 (HS0_5 c i _ d _ e _ f _ g _ h _ j _ k _ l _ n _ o _ p _ q _ r _ s _ t _ u x0 x1 x2 x3 x5 x6 xs0 xs1)) (sl62 i))⟩ :: (HS0_5 c i _ d _ e _ f _ g _ h _ j _ k _ l _ n _ o _ p _ q _ r _ s _ t _ u x0 x1 x2 x3 x5 x6 xs0 xs1) := rfl

theorem l16_6 : (HS1_6 c i _ d _ e _ f _ g _ h _ j _ k _ l _ n _ o _ p _ q _ r _ s _ t _ u x0 x1 x2 x3 x5 x6 xs0 xs1)
    = ⟨(sl62 i), tn512 (wtm512 (lg512 (cr2 (qh1 (rd d x0))) (View.ld (rd e x1) (sl62 i))) (laneOf 64#32 i 2#32) (View.ld (rd j x5) sr2) k0_pay57) (cr2 (k0_pay65 (dof (rd g x3) (rd k x6)))) (View.ld (wo s xs1 (HS1_5 c i _ d _ e _ f _ g _ h _ j _ k _ l _ n _ o _ p _ q _ r _ s _ t _ u x0 x1 x2 x3 x5 x6 xs0 xs1)) (sl62 i))⟩ :: (HS1_5 c i _ d _ e _ f _ g _ h _ j _ k _ l _ n _ o _ p _ q _ r _ s _ t _ u x0 x1 x2 x3 x5 x6 xs0 xs1) := rfl

theorem l17_6 : (HS2_6 c i _ d _ e _ f _ g _ h _ j _ k _ l _ n _ o _ p _ q _ r _ s _ t _ u x0 x1 x2 x3 x5 x6 xs0 xs1)
    = ⟨(Rect.unit ![512, 64] S512x64.size inb_S1024x128_S512x64_512_64), nn512 (dlm512 (lg512 (cr2 (qh1 (rd d x0))) (View.ld (rd e x1) (sl62 i))) (gr512 (wtm512 (lg512 (cr2 (qh1 (rd d x0))) (View.ld (rd e x1) (sl62 i))) (laneOf 64#32 i 2#32) (View.ld (rd j x5) sr2) k0_pay57) (cr2 (k0_pay65 (dof (rd g x3) (rd k x6)))) (View.ld (rd f x2) (sl62 i))) (cu512 (gr512 (wtm512 (lg512 (cr2 (qh1 (rd d x0))) (View.ld (rd e x1) (sl62 i))) (laneOf 64#32 i 2#32) (View.ld (rd j x5) sr2) k0_pay57) (cr2 (k0_pay65 (dof (rd g x3) (rd k x6)))) (View.ld (rd f x2) (sl62 i))) k0_pay58 (View.ld (wr a18 (HS3_5 c i _ d _ e _ f _ g _ h _ j _ k _ l _ n _ o _ p _ q _ r _ s _ t _ u x0 x1 x2 x3 x5 x6 xs0 xs1)) (Rect.unit ![1, 512, 0] S1x512x1.size inb_S2x1024x1_S1x512x1_1_512_0)))) (View.ld (rd e x1) (sl62 i)) (View.ld (wr a17 (HS2_5 c i _ d _ e _ f _ g _ h _ j _ k _ l _ n _ o _ p _ q _ r _ s _ t _ u x0 x1 x2 x3 x5 x6 xs0 xs1)) (Rect.unit ![512, 64] S512x64.size inb_S1024x128_S512x64_512_64))⟩ :: (HS2_5 c i _ d _ e _ f _ g _ h _ j _ k _ l _ n _ o _ p _ q _ r _ s _ t _ u x0 x1 x2 x3 x5 x6 xs0 xs1) := rfl

theorem l18_6 : (HS3_6 c i _ d _ e _ f _ g _ h _ j _ k _ l _ n _ o _ p _ q _ r _ s _ t _ u x0 x1 x2 x3 x5 x6 xs0 xs1)
    = ⟨(Rect.unit ![1, 512, 0] S1x512x1.size inb_S2x1024x1_S1x512x1_1_512_0), gc512 (gr512 (wtm512 (lg512 (cr2 (qh1 (rd d x0))) (View.ld (rd e x1) (sl62 i))) (laneOf 64#32 i 2#32) (View.ld (rd j x5) sr2) k0_pay57) (cr2 (k0_pay65 (dof (rd g x3) (rd k x6)))) (View.ld (rd f x2) (sl62 i))) (cu512 (gr512 (wtm512 (lg512 (cr2 (qh1 (rd d x0))) (View.ld (rd e x1) (sl62 i))) (laneOf 64#32 i 2#32) (View.ld (rd j x5) sr2) k0_pay57) (cr2 (k0_pay65 (dof (rd g x3) (rd k x6)))) (View.ld (rd f x2) (sl62 i))) k0_pay58 (View.ld (wr a18 (HS3_5 c i _ d _ e _ f _ g _ h _ j _ k _ l _ n _ o _ p _ q _ r _ s _ t _ u x0 x1 x2 x3 x5 x6 xs0 xs1)) (Rect.unit ![1, 512, 0] S1x512x1.size inb_S2x1024x1_S1x512x1_1_512_0)))⟩ :: (HS3_5 c i _ d _ e _ f _ g _ h _ j _ k _ l _ n _ o _ p _ q _ r _ s _ t _ u x0 x1 x2 x3 x5 x6 xs0 xs1) := rfl

theorem r6 : Holds (wo r xs0 (HS0_6 c i _ d _ e _ f _ g _ h _ j _ k _ l _ n _ o _ p _ q _ r _ s _ t _ u x0 x1 x2 x3 x5 x6 xs0 xs1))
    (wo s xs1 (HS1_6 c i _ d _ e _ f _ g _ h _ j _ k _ l _ n _ o _ p _ q _ r _ s _ t _ u x0 x1 x2 x3 x5 x6 xs0 xs1))
    (wr a17 (HS2_6 c i _ d _ e _ f _ g _ h _ j _ k _ l _ n _ o _ p _ q _ r _ s _ t _ u x0 x1 x2 x3 x5 x6 xs0 xs1))
    (wr a18 (HS3_6 c i _ d _ e _ f _ g _ h _ j _ k _ l _ n _ o _ p _ q _ r _ s _ t _ u x0 x1 x2 x3 x5 x6 xs0 xs1))
    (diag6 i x0 x1 x2 x3 x5 x6 (base c i _ d _ e _ f _ g _ h _ j _ k _ l _ n _ o _ p _ q _ r _ s _ t _ u x0 x1 x2 x3 x5 x6 xs0 xs1)) := by
  obtain ⟨e15, e16, e17, e18⟩ := r5 c i _ d _ e _ f _ g _ h _ j _ k _ l _ n _ o _ p _ q _ r _ s _ t _ u x0 x1 x2 x3 x5 x6 xs0 xs1
  refine ⟨?_, ?_, ?_, ?_⟩
  · rw [wo, l15_6, read_put]; simp only [rd, Memref.IsWhole.read_unread, e15, e16, e17, e18]; rfl
  · rw [wo, l16_6, read_put]; simp only [rd, Memref.IsWhole.read_unread, e15, e16, e17, e18]; rfl
  · rw [wr, l17_6, read_put]; simp only [rd, Memref.IsWhole.read_unread, e15, e16, e17, e18]; rfl
  · rw [wr, l18_6, read_put]; simp only [rd, Memref.IsWhole.read_unread, e15, e16, e17, e18]; rfl

theorem l15_7 : (HS0_7 c i _ d _ e _ f _ g _ h _ j _ k _ l _ n _ o _ p _ q _ r _ s _ t _ u x0 x1 x2 x3 x5 x6 xs0 xs1)
    = ⟨(sl53 i), tn256 (dlm256 (lg256 (cr3 (qh0 (rd d x0))) (View.ld (rd e x1) (sl53 i))) (gr256 (wtm256 (lg256 (cr3 (qh0 (rd d x0))) (View.ld (rd e x1) (sl53 i))) (laneOf 0#32 i 3#32) (View.ld (rd j x5) sr3) k0_pay57) (cr3 (k0_pay64 (dof (rd g x3) (rd k x6)))) (View.ld (rd f x2) (sl53 i))) (cu256 (gr256 (wtm256 (lg256 (cr3 (qh0 (rd d x0))) (View.ld (rd e x1) (sl53 i))) (laneOf 0#32 i 3#32) (View.ld (rd j x5) sr3) k0_pay57) (cr3 (k0_pay64 (dof (rd g x3) (rd k x6)))) (View.ld (rd f x2) (sl53 i))) k0_pay58 (View.ld (wr a18 (HS3_6 c i _ d _ e _ f _ g _ h _ j _ k _ l _ n _ o _ p _ q _ r _ s _ t _ u x0 x1 x2 x3 x5 x6 xs0 xs1)) (Rect.unit ![0, 768, 0] S1x256x1.size inb_S2x1024x1_S1x256x1_0_768_0)))) (cr3 (qh0 (rd d x0))) (View.ld (wo r xs0 (HS0_6 c i _ d _ e _ f _ g _ h _ j _ k _ l _ n _ o _ p _ q _ r _ s _ t _ u x0 x1 x2 x3 x5 x6 xs0 xs1)) (sl53 i))⟩ :: (HS0_6 c i _ d _ e _ f _ g _ h _ j _ k _ l _ n _ o _ p _ q _ r _ s _ t _ u x0 x1 x2 x3 x5 x6 xs0 xs1) := rfl

theorem l16_7 : (HS1_7 c i _ d _ e _ f _ g _ h _ j _ k _ l _ n _ o _ p _ q _ r _ s _ t _ u x0 x1 x2 x3 x5 x6 xs0 xs1)
    = ⟨(sl53 i), tn256 (wtm256 (lg256 (cr3 (qh0 (rd d x0))) (View.ld (rd e x1) (sl53 i))) (laneOf 0#32 i 3#32) (View.ld (rd j x5) sr3) k0_pay57) (cr3 (k0_pay64 (dof (rd g x3) (rd k x6)))) (View.ld (wo s xs1 (HS1_6 c i _ d _ e _ f _ g _ h _ j _ k _ l _ n _ o _ p _ q _ r _ s _ t _ u x0 x1 x2 x3 x5 x6 xs0 xs1)) (sl53 i))⟩ :: (HS1_6 c i _ d _ e _ f _ g _ h _ j _ k _ l _ n _ o _ p _ q _ r _ s _ t _ u x0 x1 x2 x3 x5 x6 xs0 xs1) := rfl

theorem l17_7 : (HS2_7 c i _ d _ e _ f _ g _ h _ j _ k _ l _ n _ o _ p _ q _ r _ s _ t _ u x0 x1 x2 x3 x5 x6 xs0 xs1)
    = ⟨(Rect.unit ![768, 0] S256x64.size inb_S1024x128_S256x64_768_0), nn256 (dlm256 (lg256 (cr3 (qh0 (rd d x0))) (View.ld (rd e x1) (sl53 i))) (gr256 (wtm256 (lg256 (cr3 (qh0 (rd d x0))) (View.ld (rd e x1) (sl53 i))) (laneOf 0#32 i 3#32) (View.ld (rd j x5) sr3) k0_pay57) (cr3 (k0_pay64 (dof (rd g x3) (rd k x6)))) (View.ld (rd f x2) (sl53 i))) (cu256 (gr256 (wtm256 (lg256 (cr3 (qh0 (rd d x0))) (View.ld (rd e x1) (sl53 i))) (laneOf 0#32 i 3#32) (View.ld (rd j x5) sr3) k0_pay57) (cr3 (k0_pay64 (dof (rd g x3) (rd k x6)))) (View.ld (rd f x2) (sl53 i))) k0_pay58 (View.ld (wr a18 (HS3_6 c i _ d _ e _ f _ g _ h _ j _ k _ l _ n _ o _ p _ q _ r _ s _ t _ u x0 x1 x2 x3 x5 x6 xs0 xs1)) (Rect.unit ![0, 768, 0] S1x256x1.size inb_S2x1024x1_S1x256x1_0_768_0)))) (View.ld (rd e x1) (sl53 i)) (View.ld (wr a17 (HS2_6 c i _ d _ e _ f _ g _ h _ j _ k _ l _ n _ o _ p _ q _ r _ s _ t _ u x0 x1 x2 x3 x5 x6 xs0 xs1)) (Rect.unit ![768, 0] S256x64.size inb_S1024x128_S256x64_768_0))⟩ :: (HS2_6 c i _ d _ e _ f _ g _ h _ j _ k _ l _ n _ o _ p _ q _ r _ s _ t _ u x0 x1 x2 x3 x5 x6 xs0 xs1) := rfl

theorem l18_7 : (HS3_7 c i _ d _ e _ f _ g _ h _ j _ k _ l _ n _ o _ p _ q _ r _ s _ t _ u x0 x1 x2 x3 x5 x6 xs0 xs1)
    = ⟨(Rect.unit ![0, 768, 0] S1x256x1.size inb_S2x1024x1_S1x256x1_0_768_0), gc256 (gr256 (wtm256 (lg256 (cr3 (qh0 (rd d x0))) (View.ld (rd e x1) (sl53 i))) (laneOf 0#32 i 3#32) (View.ld (rd j x5) sr3) k0_pay57) (cr3 (k0_pay64 (dof (rd g x3) (rd k x6)))) (View.ld (rd f x2) (sl53 i))) (cu256 (gr256 (wtm256 (lg256 (cr3 (qh0 (rd d x0))) (View.ld (rd e x1) (sl53 i))) (laneOf 0#32 i 3#32) (View.ld (rd j x5) sr3) k0_pay57) (cr3 (k0_pay64 (dof (rd g x3) (rd k x6)))) (View.ld (rd f x2) (sl53 i))) k0_pay58 (View.ld (wr a18 (HS3_6 c i _ d _ e _ f _ g _ h _ j _ k _ l _ n _ o _ p _ q _ r _ s _ t _ u x0 x1 x2 x3 x5 x6 xs0 xs1)) (Rect.unit ![0, 768, 0] S1x256x1.size inb_S2x1024x1_S1x256x1_0_768_0)))⟩ :: (HS3_6 c i _ d _ e _ f _ g _ h _ j _ k _ l _ n _ o _ p _ q _ r _ s _ t _ u x0 x1 x2 x3 x5 x6 xs0 xs1) := rfl

theorem r7 : Holds (wo r xs0 (HS0_7 c i _ d _ e _ f _ g _ h _ j _ k _ l _ n _ o _ p _ q _ r _ s _ t _ u x0 x1 x2 x3 x5 x6 xs0 xs1))
    (wo s xs1 (HS1_7 c i _ d _ e _ f _ g _ h _ j _ k _ l _ n _ o _ p _ q _ r _ s _ t _ u x0 x1 x2 x3 x5 x6 xs0 xs1))
    (wr a17 (HS2_7 c i _ d _ e _ f _ g _ h _ j _ k _ l _ n _ o _ p _ q _ r _ s _ t _ u x0 x1 x2 x3 x5 x6 xs0 xs1))
    (wr a18 (HS3_7 c i _ d _ e _ f _ g _ h _ j _ k _ l _ n _ o _ p _ q _ r _ s _ t _ u x0 x1 x2 x3 x5 x6 xs0 xs1))
    (diag7 i x0 x1 x2 x3 x5 x6 (base c i _ d _ e _ f _ g _ h _ j _ k _ l _ n _ o _ p _ q _ r _ s _ t _ u x0 x1 x2 x3 x5 x6 xs0 xs1)) := by
  obtain ⟨e15, e16, e17, e18⟩ := r6 c i _ d _ e _ f _ g _ h _ j _ k _ l _ n _ o _ p _ q _ r _ s _ t _ u x0 x1 x2 x3 x5 x6 xs0 xs1
  refine ⟨?_, ?_, ?_, ?_⟩
  · rw [wo, l15_7, read_put]; simp only [rd, Memref.IsWhole.read_unread, e15, e16, e17, e18]; rfl
  · rw [wo, l16_7, read_put]; simp only [rd, Memref.IsWhole.read_unread, e15, e16, e17, e18]; rfl
  · rw [wr, l17_7, read_put]; simp only [rd, Memref.IsWhole.read_unread, e15, e16, e17, e18]; rfl
  · rw [wr, l18_7, read_put]; simp only [rd, Memref.IsWhole.read_unread, e15, e16, e17, e18]; rfl

theorem l15_8 : (HS0_8 c i _ d _ e _ f _ g _ h _ j _ k _ l _ n _ o _ p _ q _ r _ s _ t _ u x0 x1 x2 x3 x5 x6 xs0 xs1)
    = ⟨(sl63 i), tn256 (dlm256 (lg256 (cr3 (qh1 (rd d x0))) (View.ld (rd e x1) (sl63 i))) (gr256 (wtm256 (lg256 (cr3 (qh1 (rd d x0))) (View.ld (rd e x1) (sl63 i))) (laneOf 64#32 i 3#32) (View.ld (rd j x5) sr3) k0_pay57) (cr3 (k0_pay65 (dof (rd g x3) (rd k x6)))) (View.ld (rd f x2) (sl63 i))) (cu256 (gr256 (wtm256 (lg256 (cr3 (qh1 (rd d x0))) (View.ld (rd e x1) (sl63 i))) (laneOf 64#32 i 3#32) (View.ld (rd j x5) sr3) k0_pay57) (cr3 (k0_pay65 (dof (rd g x3) (rd k x6)))) (View.ld (rd f x2) (sl63 i))) k0_pay58 (View.ld (wr a18 (HS3_7 c i _ d _ e _ f _ g _ h _ j _ k _ l _ n _ o _ p _ q _ r _ s _ t _ u x0 x1 x2 x3 x5 x6 xs0 xs1)) (Rect.unit ![1, 768, 0] S1x256x1.size inb_S2x1024x1_S1x256x1_1_768_0)))) (cr3 (qh1 (rd d x0))) (View.ld (wo r xs0 (HS0_7 c i _ d _ e _ f _ g _ h _ j _ k _ l _ n _ o _ p _ q _ r _ s _ t _ u x0 x1 x2 x3 x5 x6 xs0 xs1)) (sl63 i))⟩ :: (HS0_7 c i _ d _ e _ f _ g _ h _ j _ k _ l _ n _ o _ p _ q _ r _ s _ t _ u x0 x1 x2 x3 x5 x6 xs0 xs1) := rfl

theorem l16_8 : (HS1_8 c i _ d _ e _ f _ g _ h _ j _ k _ l _ n _ o _ p _ q _ r _ s _ t _ u x0 x1 x2 x3 x5 x6 xs0 xs1)
    = ⟨(sl63 i), tn256 (wtm256 (lg256 (cr3 (qh1 (rd d x0))) (View.ld (rd e x1) (sl63 i))) (laneOf 64#32 i 3#32) (View.ld (rd j x5) sr3) k0_pay57) (cr3 (k0_pay65 (dof (rd g x3) (rd k x6)))) (View.ld (wo s xs1 (HS1_7 c i _ d _ e _ f _ g _ h _ j _ k _ l _ n _ o _ p _ q _ r _ s _ t _ u x0 x1 x2 x3 x5 x6 xs0 xs1)) (sl63 i))⟩ :: (HS1_7 c i _ d _ e _ f _ g _ h _ j _ k _ l _ n _ o _ p _ q _ r _ s _ t _ u x0 x1 x2 x3 x5 x6 xs0 xs1) := rfl

theorem l17_8 : (HS2_8 c i _ d _ e _ f _ g _ h _ j _ k _ l _ n _ o _ p _ q _ r _ s _ t _ u x0 x1 x2 x3 x5 x6 xs0 xs1)
    = ⟨(Rect.unit ![768, 64] S256x64.size inb_S1024x128_S256x64_768_64), nn256 (dlm256 (lg256 (cr3 (qh1 (rd d x0))) (View.ld (rd e x1) (sl63 i))) (gr256 (wtm256 (lg256 (cr3 (qh1 (rd d x0))) (View.ld (rd e x1) (sl63 i))) (laneOf 64#32 i 3#32) (View.ld (rd j x5) sr3) k0_pay57) (cr3 (k0_pay65 (dof (rd g x3) (rd k x6)))) (View.ld (rd f x2) (sl63 i))) (cu256 (gr256 (wtm256 (lg256 (cr3 (qh1 (rd d x0))) (View.ld (rd e x1) (sl63 i))) (laneOf 64#32 i 3#32) (View.ld (rd j x5) sr3) k0_pay57) (cr3 (k0_pay65 (dof (rd g x3) (rd k x6)))) (View.ld (rd f x2) (sl63 i))) k0_pay58 (View.ld (wr a18 (HS3_7 c i _ d _ e _ f _ g _ h _ j _ k _ l _ n _ o _ p _ q _ r _ s _ t _ u x0 x1 x2 x3 x5 x6 xs0 xs1)) (Rect.unit ![1, 768, 0] S1x256x1.size inb_S2x1024x1_S1x256x1_1_768_0)))) (View.ld (rd e x1) (sl63 i)) (View.ld (wr a17 (HS2_7 c i _ d _ e _ f _ g _ h _ j _ k _ l _ n _ o _ p _ q _ r _ s _ t _ u x0 x1 x2 x3 x5 x6 xs0 xs1)) (Rect.unit ![768, 64] S256x64.size inb_S1024x128_S256x64_768_64))⟩ :: (HS2_7 c i _ d _ e _ f _ g _ h _ j _ k _ l _ n _ o _ p _ q _ r _ s _ t _ u x0 x1 x2 x3 x5 x6 xs0 xs1) := rfl

theorem r8 : (a15.view.read (Elt F) (a15.view.writes (Elt F) (r.unread xs0) (HS0_8 c i _ d _ e _ f _ g _ h _ j _ k _ l _ n _ o _ p _ q _ r _ s _ t _ u x0 x1 x2 x3 x5 x6 xs0 xs1))) = (diag8 i x0 x1 x2 x3 x5 x6 (base c i _ d _ e _ f _ g _ h _ j _ k _ l _ n _ o _ p _ q _ r _ s _ t _ u x0 x1 x2 x3 x5 x6 xs0 xs1)).dk
    ∧ (a16.view.read (Elt F) (a16.view.writes (Elt F) (s.unread xs1) (HS1_8 c i _ d _ e _ f _ g _ h _ j _ k _ l _ n _ o _ p _ q _ r _ s _ t _ u x0 x1 x2 x3 x5 x6 xs0 xs1))) = (diag8 i x0 x1 x2 x3 x5 x6 (base c i _ d _ e _ f _ g _ h _ j _ k _ l _ n _ o _ p _ q _ r _ s _ t _ u x0 x1 x2 x3 x5 x6 xs0 xs1)).dv
    ∧ (a17.view.read (Elt F) (a17.view.writes (Elt F) a17.view.junk (HS2_8 c i _ d _ e _ f _ g _ h _ j _ k _ l _ n _ o _ p _ q _ r _ s _ t _ u x0 x1 x2 x3 x5 x6 xs0 xs1))) = (diag8 i x0 x1 x2 x3 x5 x6 (base c i _ d _ e _ f _ g _ h _ j _ k _ l _ n _ o _ p _ q _ r _ s _ t _ u x0 x1 x2 x3 x5 x6 xs0 xs1)).dq := by
  obtain ⟨e15, e16, e17, e18⟩ := r7 c i _ d _ e _ f _ g _ h _ j _ k _ l _ n _ o _ p _ q _ r _ s _ t _ u x0 x1 x2 x3 x5 x6 xs0 xs1
  refine ⟨?_, ?_, ?_⟩
  · rw [l15_8, read_put]; simp only [rd, Memref.IsWhole.read_unread, e15, e16, e17, e18]; rfl
  · rw [l16_8, read_put]; simp only [rd, Memref.IsWhole.read_unread, e15, e16, e17, e18]; rfl
  · rw [l17_8, read_put]; simp only [rd, Memref.IsWhole.read_unread, e15, e16, e17, e18]; rfl

end Cert.Attn.RunB
-- ==== Proof.Trip.lean ====
module

public import proofs.«01_k».proof.Proof.Step

/-! # The accumulators through one trip over a full block

What each accumulator's buffer reads after a trip of the loop over the full blocks, and after all of them. -/

set_option maxRecDepth 16384

@[expose] public section

noncomputable section

open Idealize.ShloMosaic Idealize.ShloMosaic.TcCoe Idealize.SL.Sem

namespace Cert.Attn.Trip

open Cert.KernelIdeal Cert.KernelIdeal.Gen

variable {F : FTy → Type} [FloatOps F] [Named F]

variable (c : Dev nD) (i : grid0.Coords)
  (a3 : Memref sig .tc .vmem S1024x128 .bf16) (harg3 : a3.IsWhole)
  (a4 : Memref sig .tc .vmem S2048x128 .bf16) (harg4 : a4.IsWhole)
  (a5 : Memref sig .tc .vmem S2048x128 .bf16) (harg5 : a5.IsWhole)
  (a6 : Memref sig .tc .vmem S1024x128 .f32) (harg6 : a6.IsWhole)
  (a7 : Memref sig .tc .vmem S1024x128 .f32) (harg7 : a7.IsWhole)
  (a8 : Memref sig .tc .vmem S1x1024x128 .f32) (harg8 : a8.IsWhole)
  (a9 : Memref sig .tc .vmem S1024x128 .f32) (harg9 : a9.IsWhole)
  (a10 : Memref sig .tc .vmem S8x128 .f32) (harg10 : a10.IsWhole)
  (a11 : Memref sig .tc .vmem S1024x128 .bf16) (harg11 : a11.IsWhole)
  (a12 : Memref sig .tc .vmem S2048x128 .bf16) (harg12 : a12.IsWhole)
  (a13 : Memref sig .tc .vmem S2048x128 .bf16) (harg13 : a13.IsWhole)
  (a14 : Memref sig .tc .vmem S1024x128 .bf16) (harg14 : a14.IsWhole)
  (a15 : Memref sig .tc .vmem S2048x128 .f32) (harg15 : a15.IsWhole)
  (a16 : Memref sig .tc .vmem S2048x128 .f32) (harg16 : a16.IsWhole)
  (a17 : Memref sig .tc .vmem S1024x128 .f32) (harg17 : a17.IsWhole)
  (a18 : Memref sig .tc .vmem S2x1024x1 .f32) (harg18 : a18.IsWhole)
  (x0 : Vec F S1024x128 .bf16) (x1 x2 : Vec F S2048x128 .bf16) (x3 : Vec F S1024x128 .f32) (x5 : Vec F S1x1024x128 .f32) (x6 : Vec F S1024x128 .f32)
  (v39 v45 : Vec F S1024x64 .bf16) (h39 : k0_pay62 v39 = qh0 x0) (h45 : k0_pay63 v45 = qh1 x0)
  (f15 : BufTy.Contents (Elt F) a15.view.ty) (f16 : BufTy.Contents (Elt F) a16.view.ty)
  (f17 : BufTy.Contents (Elt F) a17.view.ty) (f18 : BufTy.Contents (Elt F) a18.view.ty)

theorem skip18 (X : Vec F S2x1024x1 .f32) (w : Vec F S1x1024x1 .f32) :
    View.ld (put X ![0, 0, 0] ![1, 1024, 1] w) (Rect.unit ![1, 0, 0] ![1, 1024, 1] inb_S2x1024x1_S1x1024x1_1_0_0)
      = View.ld X (Rect.unit ![1, 0, 0] ![1, 1024, 1] inb_S2x1024x1_S1x1024x1_1_0_0) := by
  funext x
  simp only [View.ld, put]
  rw [dif_neg]
  intro h
  have h0 := (h 0).2
  simp [Rect.unit, S1x1024x1] at h0

theorem skip15 (k : Fin (k0_t1_loop i).trips) (X : Vec F S2048x128 .f32) (w : Vec F S256x64 .f32) :
    View.ld (put X (k0_off1 i k) ![256, 64] w) (Rect.unit (k0_off2 i k) ![256, 64] (k0_off2_inb i k))
      = View.ld X (Rect.unit (k0_off2 i k) ![256, 64] (k0_off2_inb i k)) := by
  funext x
  simp only [View.ld, put]
  rw [dif_neg]
  intro h
  have h0 := (h 1).2
  have e1 : k0_off1 i k 1 = 0 := by rw [k0_off1_eq]; rfl
  have e2 : k0_off2 i k 1 = 64 := by rw [k0_off2_eq]; rfl
  rw [e1] at h0
  simp only [Rect.unit, LoadRect.idx] at h0
  simp [e2] at h0

theorem skip17 (X : Vec F S1024x128 .f32) (w : Vec F S1024x64 .f32) :
    View.ld (put X ![0, 0] ![1024, 64] w) (Rect.unit ![0, 64] ![1024, 64] inb_S1024x128_S1024x64_0_64)
      = View.ld X (Rect.unit ![0, 64] ![1024, 64] inb_S1024x128_S1024x64_0_64) := by
  funext x
  simp only [View.ld, put]
  rw [dif_neg]
  intro h
  have h0 := (h 1).2
  simp [Rect.unit, S1024x64] at h0

theorem l15 (k : Fin (k0_t1_loop i).trips) (acc : BitVec 32) : (tripL_k0_t1 Variants.none c none i a3 harg3 a4 harg4 a5 harg5 a6 harg6 a7 harg7 a8 harg8 a9 harg9 a10 harg10 a11 harg11 a12 harg12 a13 harg13 a14 harg14 a15 harg15 a16 harg16 a17 harg17 a18 harg18 (BitVec.ofNat 32 (i 2).val) k0_pay57 k0_pay58 (dof x3 x6) v39 v45 (harg4.unread x1) (harg5.unread x2) (harg8.unread x5) k acc f15 f16 f17 f18).1
    = [⟨(Rect.unit (k0_off2 i k) S256x64.size (k0_off2_inb i k)), tn1024 (dl1024 (lg1024 (k0_pay63 v45) (View.ld (a4.view.read (Elt F) (harg4.unread x1)) (Rect.unit (k0_off2 i k) S256x64.size (k0_off2_inb i k)))) (gr1024 (wt1024 (lg1024 (k0_pay63 v45) (View.ld (a4.view.read (Elt F) (harg4.unread x1)) (Rect.unit (k0_off2 i k) S256x64.size (k0_off2_inb i k)))) (sp1024 (lg1024 (k0_pay63 v45) (View.ld (a4.view.read (Elt F) (harg4.unread x1)) (Rect.unit (k0_off2 i k) S256x64.size (k0_off2_inb i k))))) (Scalar.addi 64#32 (Scf.iv 0#32 1#32 k)) (View.ld (a8.view.read (Elt F) (harg8.unread x5)) (Rect.unit ![0, 0, 0] S1x1024x128.size inb_S1x1024x128_S1x1024x128_0_0_0)) k0_pay57) (k0_pay65 (dof x3 x6)) (View.ld (a5.view.read (Elt F) (harg5.unread x2)) (Rect.unit (k0_off2 i k) S256x64.size (k0_off2_inb i k)))) (cu1024 (gr1024 (wt1024 (lg1024 (k0_pay63 v45) (View.ld (a4.view.read (Elt F) (harg4.unread x1)) (Rect.unit (k0_off2 i k) S256x64.size (k0_off2_inb i k)))) (sp1024 (lg1024 (k0_pay63 v45) (View.ld (a4.view.read (Elt F) (harg4.unread x1)) (Rect.unit (k0_off2 i k) S256x64.size (k0_off2_inb i k))))) (Scalar.addi 64#32 (Scf.iv 0#32 1#32 k)) (View.ld (a8.view.read (Elt F) (harg8.unread x5)) (Rect.unit ![0, 0, 0] S1x1024x128.size inb_S1x1024x128_S1x1024x128_0_0_0)) k0_pay57) (k0_pay65 (dof x3 x6)) (View.ld (a5.view.read (Elt F) (harg5.unread x2)) (Rect.unit (k0_off2 i k) S256x64.size (k0_off2_inb i k)))) k0_pay58 (View.ld (a18.view.read (Elt F) f18) (Rect.unit ![1, 0, 0] S1x1024x1.size inb_S2x1024x1_S1x1024x1_1_0_0)))) (k0_pay63 v45) (View.ld (a15.view.read (Elt F) f15) (Rect.unit (k0_off2 i k) S256x64.size (k0_off2_inb i k)))⟩,
      ⟨(Rect.unit (k0_off1 i k) S256x64.size (k0_off1_inb i k)), tn1024 (dl1024 (lg1024 (k0_pay62 v39) (View.ld (a4.view.read (Elt F) (harg4.unread x1)) (Rect.unit (k0_off1 i k) S256x64.size (k0_off1_inb i k)))) (gr1024 (wt1024 (lg1024 (k0_pay62 v39) (View.ld (a4.view.read (Elt F) (harg4.unread x1)) (Rect.unit (k0_off1 i k) S256x64.size (k0_off1_inb i k)))) (sp1024 (lg1024 (k0_pay62 v39) (View.ld (a4.view.read (Elt F) (harg4.unread x1)) (Rect.unit (k0_off1 i k) S256x64.size (k0_off1_inb i k))))) (Scalar.addi 0#32 (Scf.iv 0#32 1#32 k)) (View.ld (a8.view.read (Elt F) (harg8.unread x5)) (Rect.unit ![0, 0, 0] S1x1024x128.size inb_S1x1024x128_S1x1024x128_0_0_0)) k0_pay57) (k0_pay64 (dof x3 x6)) (View.ld (a5.view.read (Elt F) (harg5.unread x2)) (Rect.unit (k0_off1 i k) S256x64.size (k0_off1_inb i k)))) (cu1024 (gr1024 (wt1024 (lg1024 (k0_pay62 v39) (View.ld (a4.view.read (Elt F) (harg4.unread x1)) (Rect.unit (k0_off1 i k) S256x64.size (k0_off1_inb i k)))) (sp1024 (lg1024 (k0_pay62 v39) (View.ld (a4.view.read (Elt F) (harg4.unread x1)) (Rect.unit (k0_off1 i k) S256x64.size (k0_off1_inb i k))))) (Scalar.addi 0#32 (Scf.iv 0#32 1#32 k)) (View.ld (a8.view.read (Elt F) (harg8.unread x5)) (Rect.unit ![0, 0, 0] S1x1024x128.size inb_S1x1024x128_S1x1024x128_0_0_0)) k0_pay57) (k0_pay64 (dof x3 x6)) (View.ld (a5.view.read (Elt F) (harg5.unread x2)) (Rect.unit (k0_off1 i k) S256x64.size (k0_off1_inb i k)))) k0_pay58 (View.ld (a18.view.read (Elt F) f18) (Rect.unit ![0, 0, 0] S1x1024x1.size inb_S2x1024x1_S1x1024x1_0_0_0)))) (k0_pay62 v39) (View.ld (a15.view.read (Elt F) f15) (Rect.unit (k0_off1 i k) S256x64.size (k0_off1_inb i k)))⟩] := by
  simp only [tripL_k0_t1]; unfold trip_k0_t1; rfl

theorem l16 (k : Fin (k0_t1_loop i).trips) (acc : BitVec 32) : (tripL_k0_t1 Variants.none c none i a3 harg3 a4 harg4 a5 harg5 a6 harg6 a7 harg7 a8 harg8 a9 harg9 a10 harg10 a11 harg11 a12 harg12 a13 harg13 a14 harg14 a15 harg15 a16 harg16 a17 harg17 a18 harg18 (BitVec.ofNat 32 (i 2).val) k0_pay57 k0_pay58 (dof x3 x6) v39 v45 (harg4.unread x1) (harg5.unread x2) (harg8.unread x5) k acc f15 f16 f17 f18).2.1
    = [⟨(Rect.unit (k0_off2 i k) S256x64.size (k0_off2_inb i k)), tn1024 (wt1024 (lg1024 (k0_pay63 v45) (View.ld (a4.view.read (Elt F) (harg4.unread x1)) (Rect.unit (k0_off2 i k) S256x64.size (k0_off2_inb i k)))) (sp1024 (lg1024 (k0_pay63 v45) (View.ld (a4.view.read (Elt F) (harg4.unread x1)) (Rect.unit (k0_off2 i k) S256x64.size (k0_off2_inb i k))))) (Scalar.addi 64#32 (Scf.iv 0#32 1#32 k)) (View.ld (a8.view.read (Elt F) (harg8.unread x5)) (Rect.unit ![0, 0, 0] S1x1024x128.size inb_S1x1024x128_S1x1024x128_0_0_0)) k0_pay57) (k0_pay65 (dof x3 x6)) (View.ld (a16.view.read (Elt F) f16) (Rect.unit (k0_off2 i k) S256x64.size (k0_off2_inb i k)))⟩,
      ⟨(Rect.unit (k0_off1 i k) S256x64.size (k0_off1_inb i k)), tn1024 (wt1024 (lg1024 (k0_pay62 v39) (View.ld (a4.view.read (Elt F) (harg4.unread x1)) (Rect.unit (k0_off1 i k) S256x64.size (k0_off1_inb i k)))) (sp1024 (lg1024 (k0_pay62 v39) (View.ld (a4.view.read (Elt F) (harg4.unread x1)) (Rect.unit (k0_off1 i k) S256x64.size (k0_off1_inb i k))))) (Scalar.addi 0#32 (Scf.iv 0#32 1#32 k)) (View.ld (a8.view.read (Elt F) (harg8.unread x5)) (Rect.unit ![0, 0, 0] S1x1024x128.size inb_S1x1024x128_S1x1024x128_0_0_0)) k0_pay57) (k0_pay64 (dof x3 x6)) (View.ld (a16.view.read (Elt F) f16) (Rect.unit (k0_off1 i k) S256x64.size (k0_off1_inb i k)))⟩] := by
  simp only [tripL_k0_t1]; unfold trip_k0_t1; rfl

theorem l17 (k : Fin (k0_t1_loop i).trips) (acc : BitVec 32) : (tripL_k0_t1 Variants.none c none i a3 harg3 a4 harg4 a5 harg5 a6 harg6 a7 harg7 a8 harg8 a9 harg9 a10 harg10 a11 harg11 a12 harg12 a13 harg13 a14 harg14 a15 harg15 a16 harg16 a17 harg17 a18 harg18 (BitVec.ofNat 32 (i 2).val) k0_pay57 k0_pay58 (dof x3 x6) v39 v45 (harg4.unread x1) (harg5.unread x2) (harg8.unread x5) k acc f15 f16 f17 f18).2.2.1
    = [⟨(Rect.unit ![0, 64] S1024x64.size inb_S1024x128_S1024x64_0_64), nn1024 (dl1024 (lg1024 (k0_pay63 v45) (View.ld (a4.view.read (Elt F) (harg4.unread x1)) (Rect.unit (k0_off2 i k) S256x64.size (k0_off2_inb i k)))) (gr1024 (wt1024 (lg1024 (k0_pay63 v45) (View.ld (a4.view.read (Elt F) (harg4.unread x1)) (Rect.unit (k0_off2 i k) S256x64.size (k0_off2_inb i k)))) (sp1024 (lg1024 (k0_pay63 v45) (View.ld (a4.view.read (Elt F) (harg4.unread x1)) (Rect.unit (k0_off2 i k) S256x64.size (k0_off2_inb i k))))) (Scalar.addi 64#32 (Scf.iv 0#32 1#32 k)) (View.ld (a8.view.read (Elt F) (harg8.unread x5)) (Rect.unit ![0, 0, 0] S1x1024x128.size inb_S1x1024x128_S1x1024x128_0_0_0)) k0_pay57) (k0_pay65 (dof x3 x6)) (View.ld (a5.view.read (Elt F) (harg5.unread x2)) (Rect.unit (k0_off2 i k) S256x64.size (k0_off2_inb i k)))) (cu1024 (gr1024 (wt1024 (lg1024 (k0_pay63 v45) (View.ld (a4.view.read (Elt F) (harg4.unread x1)) (Rect.unit (k0_off2 i k) S256x64.size (k0_off2_inb i k)))) (sp1024 (lg1024 (k0_pay63 v45) (View.ld (a4.view.read (Elt F) (harg4.unread x1)) (Rect.unit (k0_off2 i k) S256x64.size (k0_off2_inb i k))))) (Scalar.addi 64#32 (Scf.iv 0#32 1#32 k)) (View.ld (a8.view.read (Elt F) (harg8.unread x5)) (Rect.unit ![0, 0, 0] S1x1024x128.size inb_S1x1024x128_S1x1024x128_0_0_0)) k0_pay57) (k0_pay65 (dof x3 x6)) (View.ld (a5.view.read (Elt F) (harg5.unread x2)) (Rect.unit (k0_off2 i k) S256x64.size (k0_off2_inb i k)))) k0_pay58 (View.ld (a18.view.read (Elt F) f18) (Rect.unit ![1, 0, 0] S1x1024x1.size inb_S2x1024x1_S1x1024x1_1_0_0)))) (View.ld (a4.view.read (Elt F) (harg4.unread x1)) (Rect.unit (k0_off2 i k) S256x64.size (k0_off2_inb i k))) (View.ld (a17.view.read (Elt F) f17) (Rect.unit ![0, 64] S1024x64.size inb_S1024x128_S1024x64_0_64))⟩,
      ⟨(Rect.unit ![0, 0] S1024x64.size inb_S1024x128_S1024x64_0_0), nn1024 (dl1024 (lg1024 (k0_pay62 v39) (View.ld (a4.view.read (Elt F) (harg4.unread x1)) (Rect.unit (k0_off1 i k) S256x64.size (k0_off1_inb i k)))) (gr1024 (wt1024 (lg1024 (k0_pay62 v39) (View.ld (a4.view.read (Elt F) (harg4.unread x1)) (Rect.unit (k0_off1 i k) S256x64.size (k0_off1_inb i k)))) (sp1024 (lg1024 (k0_pay62 v39) (View.ld (a4.view.read (Elt F) (harg4.unread x1)) (Rect.unit (k0_off1 i k) S256x64.size (k0_off1_inb i k))))) (Scalar.addi 0#32 (Scf.iv 0#32 1#32 k)) (View.ld (a8.view.read (Elt F) (harg8.unread x5)) (Rect.unit ![0, 0, 0] S1x1024x128.size inb_S1x1024x128_S1x1024x128_0_0_0)) k0_pay57) (k0_pay64 (dof x3 x6)) (View.ld (a5.view.read (Elt F) (harg5.unread x2)) (Rect.unit (k0_off1 i k) S256x64.size (k0_off1_inb i k)))) (cu1024 (gr1024 (wt1024 (lg1024 (k0_pay62 v39) (View.ld (a4.view.read (Elt F) (harg4.unread x1)) (Rect.unit (k0_off1 i k) S256x64.size (k0_off1_inb i k)))) (sp1024 (lg1024 (k0_pay62 v39) (View.ld (a4.view.read (Elt F) (harg4.unread x1)) (Rect.unit (k0_off1 i k) S256x64.size (k0_off1_inb i k))))) (Scalar.addi 0#32 (Scf.iv 0#32 1#32 k)) (View.ld (a8.view.read (Elt F) (harg8.unread x5)) (Rect.unit ![0, 0, 0] S1x1024x128.size inb_S1x1024x128_S1x1024x128_0_0_0)) k0_pay57) (k0_pay64 (dof x3 x6)) (View.ld (a5.view.read (Elt F) (harg5.unread x2)) (Rect.unit (k0_off1 i k) S256x64.size (k0_off1_inb i k)))) k0_pay58 (View.ld (a18.view.read (Elt F) f18) (Rect.unit ![0, 0, 0] S1x1024x1.size inb_S2x1024x1_S1x1024x1_0_0_0)))) (View.ld (a4.view.read (Elt F) (harg4.unread x1)) (Rect.unit (k0_off1 i k) S256x64.size (k0_off1_inb i k))) (View.ld (a17.view.read (Elt F) f17) (Rect.unit ![0, 0] S1024x64.size inb_S1024x128_S1024x64_0_0))⟩] := by
  simp only [tripL_k0_t1]; unfold trip_k0_t1; rfl

theorem l18 (k : Fin (k0_t1_loop i).trips) (acc : BitVec 32) : (tripL_k0_t1 Variants.none c none i a3 harg3 a4 harg4 a5 harg5 a6 harg6 a7 harg7 a8 harg8 a9 harg9 a10 harg10 a11 harg11 a12 harg12 a13 harg13 a14 harg14 a15 harg15 a16 harg16 a17 harg17 a18 harg18 (BitVec.ofNat 32 (i 2).val) k0_pay57 k0_pay58 (dof x3 x6) v39 v45 (harg4.unread x1) (harg5.unread x2) (harg8.unread x5) k acc f15 f16 f17 f18).2.2.2
    = [⟨(Rect.unit ![1, 0, 0] S1x1024x1.size inb_S2x1024x1_S1x1024x1_1_0_0), gc1024 (gr1024 (wt1024 (lg1024 (k0_pay63 v45) (View.ld (a4.view.read (Elt F) (harg4.unread x1)) (Rect.unit (k0_off2 i k) S256x64.size (k0_off2_inb i k)))) (sp1024 (lg1024 (k0_pay63 v45) (View.ld (a4.view.read (Elt F) (harg4.unread x1)) (Rect.unit (k0_off2 i k) S256x64.size (k0_off2_inb i k))))) (Scalar.addi 64#32 (Scf.iv 0#32 1#32 k)) (View.ld (a8.view.read (Elt F) (harg8.unread x5)) (Rect.unit ![0, 0, 0] S1x1024x128.size inb_S1x1024x128_S1x1024x128_0_0_0)) k0_pay57) (k0_pay65 (dof x3 x6)) (View.ld (a5.view.read (Elt F) (harg5.unread x2)) (Rect.unit (k0_off2 i k) S256x64.size (k0_off2_inb i k)))) (cu1024 (gr1024 (wt1024 (lg1024 (k0_pay63 v45) (View.ld (a4.view.read (Elt F) (harg4.unread x1)) (Rect.unit (k0_off2 i k) S256x64.size (k0_off2_inb i k)))) (sp1024 (lg1024 (k0_pay63 v45) (View.ld (a4.view.read (Elt F) (harg4.unread x1)) (Rect.unit (k0_off2 i k) S256x64.size (k0_off2_inb i k))))) (Scalar.addi 64#32 (Scf.iv 0#32 1#32 k)) (View.ld (a8.view.read (Elt F) (harg8.unread x5)) (Rect.unit ![0, 0, 0] S1x1024x128.size inb_S1x1024x128_S1x1024x128_0_0_0)) k0_pay57) (k0_pay65 (dof x3 x6)) (View.ld (a5.view.read (Elt F) (harg5.unread x2)) (Rect.unit (k0_off2 i k) S256x64.size (k0_off2_inb i k)))) k0_pay58 (View.ld (a18.view.read (Elt F) f18) (Rect.unit ![1, 0, 0] S1x1024x1.size inb_S2x1024x1_S1x1024x1_1_0_0)))⟩,
      ⟨(Rect.unit ![0, 0, 0] S1x1024x1.size inb_S2x1024x1_S1x1024x1_0_0_0), gc1024 (gr1024 (wt1024 (lg1024 (k0_pay62 v39) (View.ld (a4.view.read (Elt F) (harg4.unread x1)) (Rect.unit (k0_off1 i k) S256x64.size (k0_off1_inb i k)))) (sp1024 (lg1024 (k0_pay62 v39) (View.ld (a4.view.read (Elt F) (harg4.unread x1)) (Rect.unit (k0_off1 i k) S256x64.size (k0_off1_inb i k))))) (Scalar.addi 0#32 (Scf.iv 0#32 1#32 k)) (View.ld (a8.view.read (Elt F) (harg8.unread x5)) (Rect.unit ![0, 0, 0] S1x1024x128.size inb_S1x1024x128_S1x1024x128_0_0_0)) k0_pay57) (k0_pay64 (dof x3 x6)) (View.ld (a5.view.read (Elt F) (harg5.unread x2)) (Rect.unit (k0_off1 i k) S256x64.size (k0_off1_inb i k)))) (cu1024 (gr1024 (wt1024 (lg1024 (k0_pay62 v39) (View.ld (a4.view.read (Elt F) (harg4.unread x1)) (Rect.unit (k0_off1 i k) S256x64.size (k0_off1_inb i k)))) (sp1024 (lg1024 (k0_pay62 v39) (View.ld (a4.view.read (Elt F) (harg4.unread x1)) (Rect.unit (k0_off1 i k) S256x64.size (k0_off1_inb i k))))) (Scalar.addi 0#32 (Scf.iv 0#32 1#32 k)) (View.ld (a8.view.read (Elt F) (harg8.unread x5)) (Rect.unit ![0, 0, 0] S1x1024x128.size inb_S1x1024x128_S1x1024x128_0_0_0)) k0_pay57) (k0_pay64 (dof x3 x6)) (View.ld (a5.view.read (Elt F) (harg5.unread x2)) (Rect.unit (k0_off1 i k) S256x64.size (k0_off1_inb i k)))) k0_pay58 (View.ld (a18.view.read (Elt F) f18) (Rect.unit ![0, 0, 0] S1x1024x1.size inb_S2x1024x1_S1x1024x1_0_0_0)))⟩] := by
  simp only [tripL_k0_t1]; unfold trip_k0_t1; rfl

include h39 h45 in
theorem t15 (k : Fin (k0_t1_loop i).trips) (acc : BitVec 32) : a15.view.read (Elt F) (a15.view.writes (Elt F) f15 (tripL_k0_t1 Variants.none c none i a3 harg3 a4 harg4 a5 harg5 a6 harg6 a7 harg7 a8 harg8 a9 harg9 a10 harg10 a11 harg11 a12 harg12 a13 harg13 a14 harg14 a15 harg15 a16 harg16 a17 harg17 a18 harg18 (BitVec.ofNat 32 (i 2).val) k0_pay57 k0_pay58 (dof x3 x6) v39 v45 (harg4.unread x1) (harg5.unread x2) (harg8.unread x5) k acc f15 f16 f17 f18).1)
    = (fullB i x0 x1 x2 x3 x5 x6 k ⟨a15.view.read (Elt F) f15, a16.view.read (Elt F) f16, a17.view.read (Elt F) f17, a18.view.read (Elt F) f18⟩).dk := by
  rw [l15, h39, h45]; simp only [read_put, Memref.IsWhole.read_unread, View.writes_nil, fullB, fullA, stepF, skip15, skip18]

include h39 h45 in
theorem t16 (k : Fin (k0_t1_loop i).trips) (acc : BitVec 32) : a16.view.read (Elt F) (a16.view.writes (Elt F) f16 (tripL_k0_t1 Variants.none c none i a3 harg3 a4 harg4 a5 harg5 a6 harg6 a7 harg7 a8 harg8 a9 harg9 a10 harg10 a11 harg11 a12 harg12 a13 harg13 a14 harg14 a15 harg15 a16 harg16 a17 harg17 a18 harg18 (BitVec.ofNat 32 (i 2).val) k0_pay57 k0_pay58 (dof x3 x6) v39 v45 (harg4.unread x1) (harg5.unread x2) (harg8.unread x5) k acc f15 f16 f17 f18).2.1)
    = (fullB i x0 x1 x2 x3 x5 x6 k ⟨a15.view.read (Elt F) f15, a16.view.read (Elt F) f16, a17.view.read (Elt F) f17, a18.view.read (Elt F) f18⟩).dv := by
  rw [l16, h39, h45]; simp only [read_put, Memref.IsWhole.read_unread, View.writes_nil, fullB, fullA, stepF, skip15]

include h39 h45 in
theorem t17 (k : Fin (k0_t1_loop i).trips) (acc : BitVec 32) : a17.view.read (Elt F) (a17.view.writes (Elt F) f17 (tripL_k0_t1 Variants.none c none i a3 harg3 a4 harg4 a5 harg5 a6 harg6 a7 harg7 a8 harg8 a9 harg9 a10 harg10 a11 harg11 a12 harg12 a13 harg13 a14 harg14 a15 harg15 a16 harg16 a17 harg17 a18 harg18 (BitVec.ofNat 32 (i 2).val) k0_pay57 k0_pay58 (dof x3 x6) v39 v45 (harg4.unread x1) (harg5.unread x2) (harg8.unread x5) k acc f15 f16 f17 f18).2.2.1)
    = (fullB i x0 x1 x2 x3 x5 x6 k ⟨a15.view.read (Elt F) f15, a16.view.read (Elt F) f16, a17.view.read (Elt F) f17, a18.view.read (Elt F) f18⟩).dq := by
  rw [l17, h39, h45]; simp only [read_put, Memref.IsWhole.read_unread, View.writes_nil, fullB, fullA, stepF, skip17, skip18]

include h39 h45 in
theorem t18 (k : Fin (k0_t1_loop i).trips) (acc : BitVec 32) : a18.view.read (Elt F) (a18.view.writes (Elt F) f18 (tripL_k0_t1 Variants.none c none i a3 harg3 a4 harg4 a5 harg5 a6 harg6 a7 harg7 a8 harg8 a9 harg9 a10 harg10 a11 harg11 a12 harg12 a13 harg13 a14 harg14 a15 harg15 a16 harg16 a17 harg17 a18 harg18 (BitVec.ofNat 32 (i 2).val) k0_pay57 k0_pay58 (dof x3 x6) v39 v45 (harg4.unread x1) (harg5.unread x2) (harg8.unread x5) k acc f15 f16 f17 f18).2.2.2)
    = (fullB i x0 x1 x2 x3 x5 x6 k ⟨a15.view.read (Elt F) f15, a16.view.read (Elt F) f16, a17.view.read (Elt F) f17, a18.view.read (Elt F) f18⟩).gc := by
  rw [l18, h39, h45]; simp only [read_put, Memref.IsWhole.read_unread, View.writes_nil, fullB, fullA, stepF, skip18]

/-- What the accumulators read after the loop's first trips. -/
def after (init : BitVec 32) (k : ℕ) : Acc F :=
  ⟨a15.view.read (Elt F) (a15.view.writes (Elt F) f15 (st_k0_t1 Variants.none c none i a3 harg3 a4 harg4 a5 harg5 a6 harg6 a7 harg7 a8 harg8 a9 harg9 a10 harg10 a11 harg11 a12 harg12 a13 harg13 a14 harg14 a15 harg15 a16 harg16 a17 harg17 a18 harg18 (BitVec.ofNat 32 (i 2).val) k0_pay57 k0_pay58 (dof x3 x6) v39 v45 (harg4.unread x1) (harg5.unread x2) (harg8.unread x5) f15 f16 f17 f18 init k).2.1), a16.view.read (Elt F) (a16.view.writes (Elt F) f16 (st_k0_t1 Variants.none c none i a3 harg3 a4 harg4 a5 harg5 a6 harg6 a7 harg7 a8 harg8 a9 harg9 a10 harg10 a11 harg11 a12 harg12 a13 harg13 a14 harg14 a15 harg15 a16 harg16 a17 harg17 a18 harg18 (BitVec.ofNat 32 (i 2).val) k0_pay57 k0_pay58 (dof x3 x6) v39 v45 (harg4.unread x1) (harg5.unread x2) (harg8.unread x5) f15 f16 f17 f18 init k).2.2.1), a17.view.read (Elt F) (a17.view.writes (Elt F) f17 (st_k0_t1 Variants.none c none i a3 harg3 a4 harg4 a5 harg5 a6 harg6 a7 harg7 a8 harg8 a9 harg9 a10 harg10 a11 harg11 a12 harg12 a13 harg13 a14 harg14 a15 harg15 a16 harg16 a17 harg17 a18 harg18 (BitVec.ofNat 32 (i 2).val) k0_pay57 k0_pay58 (dof x3 x6) v39 v45 (harg4.unread x1) (harg5.unread x2) (harg8.unread x5) f15 f16 f17 f18 init k).2.2.2.1), a18.view.read (Elt F) (a18.view.writes (Elt F) f18 (st_k0_t1 Variants.none c none i a3 harg3 a4 harg4 a5 harg5 a6 harg6 a7 harg7 a8 harg8 a9 harg9 a10 harg10 a11 harg11 a12 harg12 a13 harg13 a14 harg14 a15 harg15 a16 harg16 a17 harg17 a18 harg18 (BitVec.ofNat 32 (i 2).val) k0_pay57 k0_pay58 (dof x3 x6) v39 v45 (harg4.unread x1) (harg5.unread x2) (harg8.unread x5) f15 f16 f17 f18 init k).2.2.2.2)⟩

theorem after_zero (init : BitVec 32) : after c i a3 harg3 a4 harg4 a5 harg5 a6 harg6 a7 harg7 a8 harg8 a9 harg9 a10 harg10 a11 harg11 a12 harg12 a13 harg13 a14 harg14 a15 harg15 a16 harg16 a17 harg17 a18 harg18 x1 x2 x3 x5 x6 v39 v45 f15 f16 f17 f18 init 0 = ⟨a15.view.read (Elt F) f15, a16.view.read (Elt F) f16, a17.view.read (Elt F) f17, a18.view.read (Elt F) f18⟩ := rfl

include h39 h45 in
theorem after_succ (init : BitVec 32) (k : Fin (k0_t1_loop i).trips) :
    after c i a3 harg3 a4 harg4 a5 harg5 a6 harg6 a7 harg7 a8 harg8 a9 harg9 a10 harg10 a11 harg11 a12 harg12 a13 harg13 a14 harg14 a15 harg15 a16 harg16 a17 harg17 a18 harg18 x1 x2 x3 x5 x6 v39 v45 f15 f16 f17 f18 init (k.val + 1)
      = fullB i x0 x1 x2 x3 x5 x6 k (after c i a3 harg3 a4 harg4 a5 harg5 a6 harg6 a7 harg7 a8 harg8 a9 harg9 a10 harg10 a11 harg11 a12 harg12 a13 harg13 a14 harg14 a15 harg15 a16 harg16 a17 harg17 a18 harg18 x1 x2 x3 x5 x6 v39 v45 f15 f16 f17 f18 init k.val) := by
  unfold after
  rw [st_k0_t1_succ]
  simp only [View.writes_append]
  rw [t15 (h39 := h39) (h45 := h45), t16 (h39 := h39) (h45 := h45), t17 (h39 := h39) (h45 := h45), t18 (h39 := h39) (h45 := h45)]

end Cert.Attn.Trip
-- ==== Proof.Base.lean ====
module

public import proofs.«01_k».proof.Proof.RunA
public import proofs.«01_k».proof.Proof.RunB
public import proofs.«01_k».proof.Proof.Trip

/-! # The accumulators before the diagonal

At a sequence's first query tile nothing lies before the diagonal and the accumulators are zero. At its
second tile the four key blocks of the first have been gone through. -/

set_option maxRecDepth 16384

@[expose] public section

noncomputable section

open Idealize.ShloMosaic Idealize.ShloMosaic.TcCoe Idealize.SL.Sem

namespace Cert.Attn

open Cert.KernelIdeal Cert.KernelIdeal.Gen

variable {F : FTy → Type} [FloatOps F] [Named F]

theorem put_whole2 {a b : ℕ} {e : EltTy} (X : Vec F ⟨2, ![a, b]⟩ e) (w : Vec F ⟨2, ![a, b]⟩ e) :
    put X ![0, 0] ![a, b] w = w := by
  funext y
  unfold put
  have h : ∀ d : Fin 2, (![0, 0] : Fin 2 → ℕ) d ≤ (y d : ℕ) ∧ (y d : ℕ) < (![0, 0] : Fin 2 → ℕ) d + (![a, b] : Fin 2 → ℕ) d := by
    intro d
    have := (y d).isLt
    fin_cases d
    · exact ⟨Nat.zero_le _, by simpa using this⟩
    · exact ⟨Nat.zero_le _, by simpa using this⟩
  rw [dif_pos h]
  congr 1
  funext d
  apply Fin.ext
  fin_cases d <;> simp [Rect.unitLocal]

theorem put_whole3 {a b c : ℕ} {e : EltTy} (X : Vec F ⟨3, ![a, b, c]⟩ e) (w : Vec F ⟨3, ![a, b, c]⟩ e) :
    put X ![0, 0, 0] ![a, b, c] w = w := by
  funext y
  unfold put
  have h : ∀ d : Fin 3, (![0, 0, 0] : Fin 3 → ℕ) d ≤ (y d : ℕ) ∧ (y d : ℕ) < (![0, 0, 0] : Fin 3 → ℕ) d + (![a, b, c] : Fin 3 → ℕ) d := by
    intro d
    have := (y d).isLt
    fin_cases d
    · exact ⟨Nat.zero_le _, by simpa using this⟩
    · exact ⟨Nat.zero_le _, by simpa using this⟩
    · exact ⟨Nat.zero_le _, by simpa using this⟩
  rw [dif_pos h]
  congr 1
  funext d
  apply Fin.ext
  fin_cases d <;> simp [Rect.unitLocal]

theorem trips1_A (i : grid0.Coords) (h : (i 2 : ℕ) = 0) : Scf.trips (k0_t1_loop i).lb (k0_t1_loop i).ub (k0_t1_loop i).st = 0 := by
  have hh : ∀ q : Fin 2, q.val = 0 → (let v66 : BitVec 32 := Scalar.addi 0#32 (Scalar.muli (Scalar.divsi (Scalar.subi (Scalar.muli 4#32 (BitVec.ofNat 32 q.val)) 0#32) 1#32) 1#32); Scf.trips 0#32 v66 1#32) = 0 := by decide +kernel
  exact hh (i 2) h
theorem trips1_B (i : grid0.Coords) (h : (i 2 : ℕ) = 1) : Scf.trips (k0_t1_loop i).lb (k0_t1_loop i).ub (k0_t1_loop i).st = 4 := by
  have hh : ∀ q : Fin 2, q.val = 1 → (let v66 : BitVec 32 := Scalar.addi 0#32 (Scalar.muli (Scalar.divsi (Scalar.subi (Scalar.muli 4#32 (BitVec.ofNat 32 q.val)) 0#32) 1#32) 1#32); Scf.trips 0#32 v66 1#32) = 4 := by decide +kernel
  exact hh (i 2) h
theorem trips2_A (i : grid0.Coords) (h : (i 2 : ℕ) = 0) : Scf.trips (k0_t2_loop i).lb (k0_t2_loop i).ub (k0_t2_loop i).st = 0 := by
  have hh : ∀ q : Fin 2, q.val = 0 → (let v66 : BitVec 32 := Scalar.addi 0#32 (Scalar.muli (Scalar.divsi (Scalar.subi (Scalar.muli 4#32 (BitVec.ofNat 32 q.val)) 0#32) 1#32) 1#32); Scf.trips v66 (Scalar.addi 0#32 (Scalar.subi (Scalar.muli 4#32 (BitVec.ofNat 32 q.val)) 0#32)) 1#32) = 0 := by decide +kernel
  exact hh (i 2) h
theorem trips2_B (i : grid0.Coords) (h : (i 2 : ℕ) = 1) : Scf.trips (k0_t2_loop i).lb (k0_t2_loop i).ub (k0_t2_loop i).st = 0 := by
  have hh : ∀ q : Fin 2, q.val = 1 → (let v66 : BitVec 32 := Scalar.addi 0#32 (Scalar.muli (Scalar.divsi (Scalar.subi (Scalar.muli 4#32 (BitVec.ofNat 32 q.val)) 0#32) 1#32) 1#32); Scf.trips v66 (Scalar.addi 0#32 (Scalar.subi (Scalar.muli 4#32 (BitVec.ofNat 32 q.val)) 0#32)) 1#32) = 0 := by decide +kernel
  exact hh (i 2) h

/-- The queries of a head as they lie in the buffer. -/
@[reducible] def rawq0 (a3 : Memref sig .tc .vmem S1024x128 .bf16) (f : BufTy.Contents (Elt F) a3.view.ty) :=
  View.readAt (Elt F) a3.view (Rect.unit (s := S1024x128) ![0, 0] S1024x64.size inb_S1024x128_S1024x64_0_0).toLoadRect f
/-- The same of the other head. -/
@[reducible] def rawq1 (a3 : Memref sig .tc .vmem S1024x128 .bf16) (f : BufTy.Contents (Elt F) a3.view.ty) :=
  View.readAt (Elt F) a3.view (Rect.unit (s := S1024x128) ![0, 64] S1024x64.size inb_S1024x128_S1024x64_0_64).toLoadRect f

theorem rawq0_pay (a3 : Memref sig .tc .vmem S1024x128 .bf16) (harg3 : a3.IsWhole) (x0 : Vec F S1024x128 .bf16) :
    k0_pay62 (rawq0 a3 (harg3.unread x0)) = qh0 x0 := by
  exact congrArg (fun z : Vec F S1024x128 .bf16 => qh0 z) (harg3.read_unread x0)
theorem rawq1_pay (a3 : Memref sig .tc .vmem S1024x128 .bf16) (harg3 : a3.IsWhole) (x0 : Vec F S1024x128 .bf16) :
    k0_pay63 (rawq1 a3 (harg3.unread x0)) = qh1 x0 := by
  exact congrArg (fun z : Vec F S1024x128 .bf16 => qh1 z) (harg3.read_unread x0)

theorem v38_eq (c : Dev nD) (a6 : Memref sig .tc .vmem S1024x128 .f32) (harg6 : a6.IsWhole) (a9 : Memref sig .tc .vmem S1024x128 .f32) (harg9 : a9.IsWhole)
    (x3 x6 : Vec F S1024x128 .f32) : kernelRun0_B.sl.v38 c a6 harg6 a9 harg9 x3 x6 = dof x3 x6 :=
  congrArg₂ (fun z w : Vec F S1024x128 .f32 => dof z w) (harg6.read_unread x3) (harg9.read_unread x6)

section
variable (c : Dev nD) (i : grid0.Coords)
  (a3 : Memref sig .tc .vmem S1024x128 .bf16) (harg3 : a3.IsWhole)
  (a4 : Memref sig .tc .vmem S2048x128 .bf16) (harg4 : a4.IsWhole)
  (a5 : Memref sig .tc .vmem S2048x128 .bf16) (harg5 : a5.IsWhole)
  (a6 : Memref sig .tc .vmem S1024x128 .f32) (harg6 : a6.IsWhole)
  (a7 : Memref sig .tc .vmem S1024x128 .f32) (harg7 : a7.IsWhole)
  (a8 : Memref sig .tc .vmem S1x1024x128 .f32) (harg8 : a8.IsWhole)
  (a9 : Memref sig .tc .vmem S1024x128 .f32) (harg9 : a9.IsWhole)
  (a10 : Memref sig .tc .vmem S8x128 .f32) (harg10 : a10.IsWhole)
  (a11 : Memref sig .tc .vmem S1024x128 .bf16) (harg11 : a11.IsWhole)
  (a12 : Memref sig .tc .vmem S2048x128 .bf16) (harg12 : a12.IsWhole)
  (a13 : Memref sig .tc .vmem S2048x128 .bf16) (harg13 : a13.IsWhole)
  (a14 : Memref sig .tc .vmem S1024x128 .bf16) (harg14 : a14.IsWhole)
  (a15 : Memref sig .tc .vmem S2048x128 .f32) (harg15 : a15.IsWhole)
  (a16 : Memref sig .tc .vmem S2048x128 .f32) (harg16 : a16.IsWhole)
  (a17 : Memref sig .tc .vmem S1024x128 .f32) (harg17 : a17.IsWhole)
  (a18 : Memref sig .tc .vmem S2x1024x1 .f32) (harg18 : a18.IsWhole)
  (x0 : Vec F S1024x128 .bf16) (x1 x2 : Vec F S2048x128 .bf16) (x3 : Vec F S1024x128 .f32) (x5 : Vec F S1x1024x128 .f32) (x6 : Vec F S1024x128 .f32)
theorem baseA (h : (i 2 : ℕ) = 0) : RunA.base c i a3 harg3 a4 harg4 a5 harg5 a6 harg6 a7 harg7 a8 harg8 a9 harg9 a10 harg10 a11 harg11 a12 harg12 a13 harg13 a14 harg14 a15 harg15 a16 harg16 a17 harg17 a18 harg18 x0 x1 x2 x3 x5 x6 = ⟨k0_pay55, k0_pay56, k0_pay66, k0_pay67⟩ := by
  unfold RunA.base
  simp only [kernelRun0_A.sl.HS0_1_1, kernelRun0_A.sl.HS1_1, kernelRun0_A.sl.HS2_1_1, kernelRun0_A.sl.HS3_1_1, kernelRun0_A.sl.HS0_1, kernelRun0_A.sl.HS2_1, kernelRun0_A.sl.HS3_1, List.tail_cons, trips1_A i h, trips2_A i h, st_k0_t1.eq_1, st_k0_t2.eq_1, List.nil_append, read_put, View.writes_nil]
  congr 1
  · exact put_whole2 _ _
  · exact put_whole2 _ _
  · exact put_whole2 _ _
  · exact put_whole3 _ _
end
section
variable (c : Dev nD) (i : grid0.Coords)
  (a3 : Memref sig .tc .vmem S1024x128 .bf16) (harg3 : a3.IsWhole)
  (a4 : Memref sig .tc .vmem S2048x128 .bf16) (harg4 : a4.IsWhole)
  (a5 : Memref sig .tc .vmem S2048x128 .bf16) (harg5 : a5.IsWhole)
  (a6 : Memref sig .tc .vmem S1024x128 .f32) (harg6 : a6.IsWhole)
  (a7 : Memref sig .tc .vmem S1024x128 .f32) (harg7 : a7.IsWhole)
  (a8 : Memref sig .tc .vmem S1x1024x128 .f32) (harg8 : a8.IsWhole)
  (a9 : Memref sig .tc .vmem S1024x128 .f32) (harg9 : a9.IsWhole)
  (a10 : Memref sig .tc .vmem S8x128 .f32) (harg10 : a10.IsWhole)
  (a11 : Memref sig .tc .vmem S1024x128 .bf16) (harg11 : a11.IsWhole)
  (a12 : Memref sig .tc .vmem S2048x128 .bf16) (harg12 : a12.IsWhole)
  (a13 : Memref sig .tc .vmem S2048x128 .bf16) (harg13 : a13.IsWhole)
  (a14 : Memref sig .tc .vmem S1024x128 .bf16) (harg14 : a14.IsWhole)
  (a15 : Memref sig .tc .vmem S2048x128 .f32) (harg15 : a15.IsWhole)
  (a16 : Memref sig .tc .vmem S2048x128 .f32) (harg16 : a16.IsWhole)
  (a17 : Memref sig .tc .vmem S1024x128 .f32) (harg17 : a17.IsWhole)
  (a18 : Memref sig .tc .vmem S2x1024x1 .f32) (harg18 : a18.IsWhole)
  (x0 : Vec F S1024x128 .bf16) (x1 x2 : Vec F S2048x128 .bf16) (x3 : Vec F S1024x128 .f32) (x5 : Vec F S1x1024x128 .f32) (x6 : Vec F S1024x128 .f32)
  (xs0 xs1 : Vec F S2048x128 .f32)
theorem baseB (h : (i 2 : ℕ) = 1) : RunB.base c i a3 harg3 a4 harg4 a5 harg5 a6 harg6 a7 harg7 a8 harg8 a9 harg9 a10 harg10 a11 harg11 a12 harg12 a13 harg13 a14 harg14 a15 harg15 a16 harg16 a17 harg17 a18 harg18 x0 x1 x2 x3 x5 x6 xs0 xs1 = (fullB i x0 x1 x2 x3 x5 x6 ⟨3, by rw [show (k0_t1_loop i).trips = 4 from trips1_B i h]; decide⟩ (fullB i x0 x1 x2 x3 x5 x6 ⟨2, by rw [show (k0_t1_loop i).trips = 4 from trips1_B i h]; decide⟩ (fullB i x0 x1 x2 x3 x5 x6 ⟨1, by rw [show (k0_t1_loop i).trips = 4 from trips1_B i h]; decide⟩ (fullB i x0 x1 x2 x3 x5 x6 ⟨0, by rw [show (k0_t1_loop i).trips = 4 from trips1_B i h]; decide⟩ ⟨xs0, xs1, k0_pay66, k0_pay67⟩)))) := by
  have h4 : (k0_t1_loop i).trips = 4 := trips1_B i h
  unfold RunB.base
  simp only [kernelRun0_B.sl.HS0_1, kernelRun0_B.sl.HS1_1, kernelRun0_B.sl.HS2_1_1, kernelRun0_B.sl.HS3_1_1, kernelRun0_B.sl.HS2_1, kernelRun0_B.sl.HS3_1, List.tail_cons, trips1_B i h, trips2_B i h, st_k0_t2.eq_1, List.nil_append, View.writes_append]
  have e := Trip.after_succ c i a3 harg3 a4 harg4 a5 harg5 a6 harg6 a7 harg7 a8 harg8 a9 harg9 a10 harg10 a11 harg11 a12 harg12 a13 harg13 a14 harg14 a15 harg15 a16 harg16 a17 harg17 a18 harg18 x0 x1 x2 x3 x5 x6 (v39 := rawq0 a3 (harg3.unread x0)) (v45 := rawq1 a3 (harg3.unread x0)) (rawq0_pay a3 harg3 x0) (rawq1_pay a3 harg3 x0)
    (harg15.unread xs0) (harg16.unread xs1) (a17.view.writes (Elt F) a17.view.junk kernelRun0_B.sl.HS2_1) (a18.view.writes (Elt F) a18.view.junk kernelRun0_B.sl.HS3_1) 0#32
  have e0 := e ⟨0, by rw [h4]; decide⟩
  have e1 := e ⟨1, by rw [h4]; decide⟩
  have e2 := e ⟨2, by rw [h4]; decide⟩
  have e3 := e ⟨3, by rw [h4]; decide⟩
  rw [e2, e1, e0, Trip.after_zero] at e3
  refine Eq.trans (Eq.trans ?_ e3) ?_
  · simp only [v38_eq]; rfl
  · simp only [kernelRun0_B.sl.HS2_1, kernelRun0_B.sl.HS3_1, read_put, View.writes_nil, Memref.IsWhole.read_unread]
    rw [show ∀ X w, put (F := F) (e := .f32) X ![0, 0] S1024x128.size w = w from put_whole2, show ∀ X w, put (F := F) (e := .f32) X ![0, 0, 0] S2x1024x1.size w = w from put_whole3]
end

end Cert.Attn
-- ==== Proof.Outs.lean ====
module

public import proofs.«01_k».proof.Proof.Base

/-! # What a grid point leaves

The result blocks and the carried accumulators of a first and of a second tile, as the state of `Step.lean` after the body's steps. -/

set_option maxRecDepth 16384

@[expose] public section

noncomputable section

open Idealize.ShloMosaic Idealize.ShloMosaic.TcCoe Idealize.SL.Sem

namespace Cert.Attn

open Cert.KernelIdeal Cert.KernelIdeal.Gen

variable {F : FTy → Type} [FloatOps F] [Named F]

/-- A load of a whole array. -/
theorem readAt_whole2 {κ : Kind} {sp : Space} {a b : ℕ} {e : EltTy} (v : View sig κ sp ⟨2, ![a, b]⟩ e) (f : v.ty.Contents (Elt F))
    (inb : ∀ d, (![0, 0] : Fin 2 → ℕ) d + (![a, b] : Fin 2 → ℕ) d ≤ (⟨2, ![a, b]⟩ : Shape).size d) :
    v.readAt (Elt F) (Rect.unit (s := ⟨2, ![a, b]⟩) ![0, 0] ![a, b] inb).toLoadRect f = v.read (Elt F) f := by
  rw [View.readAt_eq_ld]
  exact View.ld_unit_lit (S := ⟨2, ![a, b]⟩) _ _ (by intro d; fin_cases d <;> rfl)

section
variable (c : Dev nD) (i : grid0.Coords)
  (a3 : Memref sig .tc .vmem S1024x128 .bf16) (harg3 : a3.IsWhole)
  (a4 : Memref sig .tc .vmem S2048x128 .bf16) (harg4 : a4.IsWhole)
  (a5 : Memref sig .tc .vmem S2048x128 .bf16) (harg5 : a5.IsWhole)
  (a6 : Memref sig .tc .vmem S1024x128 .f32) (harg6 : a6.IsWhole)
  (a7 : Memref sig .tc .vmem S1024x128 .f32) (harg7 : a7.IsWhole)
  (a8 : Memref sig .tc .vmem S1x1024x128 .f32) (harg8 : a8.IsWhole)
  (a9 : Memref sig .tc .vmem S1024x128 .f32) (harg9 : a9.IsWhole)
  (a10 : Memref sig .tc .vmem S8x128 .f32) (harg10 : a10.IsWhole)
  (a11 : Memref sig .tc .vmem S1024x128 .bf16) (harg11 : a11.IsWhole)
  (a12 : Memref sig .tc .vmem S2048x128 .bf16) (harg12 : a12.IsWhole)
  (a13 : Memref sig .tc .vmem S2048x128 .bf16) (harg13 : a13.IsWhole)
  (a14 : Memref sig .tc .vmem S1024x128 .bf16) (harg14 : a14.IsWhole)
  (x0 : Vec F S1024x128 .bf16) (x1 x2 : Vec F S2048x128 .bf16) (x3 x4 : Vec F S1024x128 .f32) (x5 : Vec F S1x1024x128 .f32) (x6 : Vec F S1024x128 .f32) (x7 : Vec F S8x128 .f32)
/-- The state a first tile ends in. -/
theorem stateA (h : (i 2 : ℕ) = 0) (hc0 : cond0_0 i) (hc1 : ¬cond0_1 i) :
    sout0_A_0 c i a3 harg3 a4 harg4 a5 harg5 a6 harg6 a7 harg7 a8 harg8 a9 harg9 a10 harg10 a11 harg11 a12 harg12 a13 harg13 a14 harg14 scM0_0 (Memref.isWhole_whole _) scM0_1 (Memref.isWhole_whole _) scM0_2 (Memref.isWhole_whole _) scM0_3 (Memref.isWhole_whole _) hc0 hc1 x0 x1 x2 x3 x4 x5 x6 x7 = (diag8 i x0 x1 x2 x3 x5 x6 ⟨k0_pay55, k0_pay56, k0_pay66, k0_pay67⟩).dk
    ∧ sout0_A_1 c i a3 harg3 a4 harg4 a5 harg5 a6 harg6 a7 harg7 a8 harg8 a9 harg9 a10 harg10 a11 harg11 a12 harg12 a13 harg13 a14 harg14 scM0_0 (Memref.isWhole_whole _) scM0_1 (Memref.isWhole_whole _) scM0_2 (Memref.isWhole_whole _) scM0_3 (Memref.isWhole_whole _) hc0 hc1 x0 x1 x2 x3 x4 x5 x6 x7 = (diag8 i x0 x1 x2 x3 x5 x6 ⟨k0_pay55, k0_pay56, k0_pay66, k0_pay67⟩).dv := by
  have e := RunA.r8 c i a3 harg3 a4 harg4 a5 harg5 a6 harg6 a7 harg7 a8 harg8 a9 harg9 a10 harg10 a11 harg11 a12 harg12 a13 harg13 a14 harg14 scM0_0 (Memref.isWhole_whole _) scM0_1 (Memref.isWhole_whole _) scM0_2 (Memref.isWhole_whole _) scM0_3 (Memref.isWhole_whole _) x0 x1 x2 x3 x5 x6 hc0 hc1 x4 x7
  rw [baseA c i a3 harg3 a4 harg4 a5 harg5 a6 harg6 a7 harg7 a8 harg8 a9 harg9 a10 harg10 a11 harg11 a12 harg12 a13 harg13 a14 harg14 scM0_0 (Memref.isWhole_whole _) scM0_1 (Memref.isWhole_whole _) scM0_2 (Memref.isWhole_whole _) scM0_3 (Memref.isWhole_whole _) x0 x1 x2 x3 x5 x6 h] at e
  exact ⟨e.1, e.2.1⟩

/-- The gradients of the queries of a first tile. -/
theorem dqA (h : (i 2 : ℕ) = 0) (hc0 : cond0_0 i) (hc1 : ¬cond0_1 i) :
    out0_A_8 c i a3 harg3 a4 harg4 a5 harg5 a6 harg6 a7 harg7 a8 harg8 a9 harg9 a10 harg10 a11 harg11 a12 harg12 a13 harg13 a14 harg14 scM0_0 (Memref.isWhole_whole _) scM0_1 (Memref.isWhole_whole _) scM0_2 (Memref.isWhole_whole _) scM0_3 (Memref.isWhole_whole _) hc0 hc1 x0 x1 x2 x3 x4 x5 x6 x7 = k0_pay207 (diag8 i x0 x1 x2 x3 x5 x6 ⟨k0_pay55, k0_pay56, k0_pay66, k0_pay67⟩).dq := by
  have e := (RunA.r8 c i a3 harg3 a4 harg4 a5 harg5 a6 harg6 a7 harg7 a8 harg8 a9 harg9 a10 harg10 a11 harg11 a12 harg12 a13 harg13 a14 harg14 scM0_0 (Memref.isWhole_whole _) scM0_1 (Memref.isWhole_whole _) scM0_2 (Memref.isWhole_whole _) scM0_3 (Memref.isWhole_whole _) x0 x1 x2 x3 x5 x6 hc0 hc1 x4 x7).2.2
  rw [baseA c i a3 harg3 a4 harg4 a5 harg5 a6 harg6 a7 harg7 a8 harg8 a9 harg9 a10 harg10 a11 harg11 a12 harg12 a13 harg13 a14 harg14 scM0_0 (Memref.isWhole_whole _) scM0_1 (Memref.isWhole_whole _) scM0_2 (Memref.isWhole_whole _) scM0_3 (Memref.isWhole_whole _) x0 x1 x2 x3 x5 x6 h] at e
  rw [← e, ← readAt_whole2 scM0_2.view _ inb_S1024x128_S1024x128_0_0]
  refine (read_put VO0_8 VO0_8.junk inb_S1024x128_S1024x128_0_0 _ []).trans ?_
  exact put_whole2 _ _

/-- The gate's gradient of a first tile. -/
theorem dzA (hc0 : cond0_0 i) (hc1 : ¬cond0_1 i) :
    out0_A_11 c i a3 harg3 a4 harg4 a5 harg5 a6 harg6 a7 harg7 a8 harg8 a9 harg9 a10 harg10 a11 harg11 a12 harg12 a13 harg13 a14 harg14 scM0_0 (Memref.isWhole_whole _) scM0_1 (Memref.isWhole_whole _) scM0_2 (Memref.isWhole_whole _) scM0_3 (Memref.isWhole_whole _) hc0 hc1 x0 x1 x2 x3 x4 x5 x6 x7 = k0_pay60 x3 x6 x4 := by
  refine (read_put VO0_11 VO0_11.junk inb_S1024x128_S1024x128_0_0 _ []).trans ?_
  refine (put_whole2 _ _).trans ?_
  refine Eq.trans (b := k0_pay60 (a6.view.readAt (Elt F) (Rect.unit (s := S1024x128) ![0, 0] S1024x128.size inb_S1024x128_S1024x128_0_0).toLoadRect (harg6.unread x3)) (a9.view.readAt (Elt F) (Rect.unit (s := S1024x128) ![0, 0] S1024x128.size inb_S1024x128_S1024x128_0_0).toLoadRect (harg9.unread x6)) (a7.view.readAt (Elt F) (Rect.unit (s := S1024x128) ![0, 0] S1024x128.size inb_S1024x128_S1024x128_0_0).toLoadRect (harg7.unread x4))) (by rfl) ?_
  rw [show ∀ f, _ = _ from readAt_whole2 a6.view (inb := inb_S1024x128_S1024x128_0_0), show ∀ f, _ = _ from readAt_whole2 a9.view (inb := inb_S1024x128_S1024x128_0_0), show ∀ f, _ = _ from readAt_whole2 a7.view (inb := inb_S1024x128_S1024x128_0_0)]
  simp only [Memref.IsWhole.read_unread]

end

section
variable (c : Dev nD) (i : grid0.Coords)
  (a3 : Memref sig .tc .vmem S1024x128 .bf16) (harg3 : a3.IsWhole)
  (a4 : Memref sig .tc .vmem S2048x128 .bf16) (harg4 : a4.IsWhole)
  (a5 : Memref sig .tc .vmem S2048x128 .bf16) (harg5 : a5.IsWhole)
  (a6 : Memref sig .tc .vmem S1024x128 .f32) (harg6 : a6.IsWhole)
  (a7 : Memref sig .tc .vmem S1024x128 .f32) (harg7 : a7.IsWhole)
  (a8 : Memref sig .tc .vmem S1x1024x128 .f32) (harg8 : a8.IsWhole)
  (a9 : Memref sig .tc .vmem S1024x128 .f32) (harg9 : a9.IsWhole)
  (a10 : Memref sig .tc .vmem S8x128 .f32) (harg10 : a10.IsWhole)
  (a11 : Memref sig .tc .vmem S1024x128 .bf16) (harg11 : a11.IsWhole)
  (a12 : Memref sig .tc .vmem S2048x128 .bf16) (harg12 : a12.IsWhole)
  (a13 : Memref sig .tc .vmem S2048x128 .bf16) (harg13 : a13.IsWhole)
  (a14 : Memref sig .tc .vmem S1024x128 .bf16) (harg14 : a14.IsWhole)
  (x0 : Vec F S1024x128 .bf16) (x1 x2 : Vec F S2048x128 .bf16) (x3 x4 : Vec F S1024x128 .f32) (x5 : Vec F S1x1024x128 .f32) (x6 : Vec F S1024x128 .f32) (x7 : Vec F S8x128 .f32)
  (xs0 xs1 : Vec F S2048x128 .f32)
/-- The gradients of the queries, keys and values after a second tile. -/
theorem stateB (h : (i 2 : ℕ) = 1) (hc0 : ¬cond0_0 i) (hc1 : cond0_1 i) :
    out0_B_8 c i a3 harg3 a4 harg4 a5 harg5 a6 harg6 a7 harg7 a8 harg8 a9 harg9 a10 harg10 a11 harg11 a12 harg12 a13 harg13 a14 harg14 scM0_0 (Memref.isWhole_whole _) scM0_1 (Memref.isWhole_whole _) scM0_2 (Memref.isWhole_whole _) scM0_3 (Memref.isWhole_whole _) hc0 hc1 x0 x1 x2 x3 x4 x5 x6 x7 xs0 xs1 = k0_pay207 (diag8 i x0 x1 x2 x3 x5 x6 (fullB i x0 x1 x2 x3 x5 x6 ⟨3, by rw [show (k0_t1_loop i).trips = 4 from trips1_B i h]; decide⟩ (fullB i x0 x1 x2 x3 x5 x6 ⟨2, by rw [show (k0_t1_loop i).trips = 4 from trips1_B i h]; decide⟩ (fullB i x0 x1 x2 x3 x5 x6 ⟨1, by rw [show (k0_t1_loop i).trips = 4 from trips1_B i h]; decide⟩ (fullB i x0 x1 x2 x3 x5 x6 ⟨0, by rw [show (k0_t1_loop i).trips = 4 from trips1_B i h]; decide⟩ ⟨xs0, xs1, k0_pay66, k0_pay67⟩))))).dq
    ∧ out0_B_9 c i a3 harg3 a4 harg4 a5 harg5 a6 harg6 a7 harg7 a8 harg8 a9 harg9 a10 harg10 a11 harg11 a12 harg12 a13 harg13 a14 harg14 scM0_0 (Memref.isWhole_whole _) scM0_1 (Memref.isWhole_whole _) scM0_2 (Memref.isWhole_whole _) scM0_3 (Memref.isWhole_whole _) hc0 hc1 x0 x1 x2 x3 x4 x5 x6 x7 xs0 xs1 = k0_pay1 (diag8 i x0 x1 x2 x3 x5 x6 (fullB i x0 x1 x2 x3 x5 x6 ⟨3, by rw [show (k0_t1_loop i).trips = 4 from trips1_B i h]; decide⟩ (fullB i x0 x1 x2 x3 x5 x6 ⟨2, by rw [show (k0_t1_loop i).trips = 4 from trips1_B i h]; decide⟩ (fullB i x0 x1 x2 x3 x5 x6 ⟨1, by rw [show (k0_t1_loop i).trips = 4 from trips1_B i h]; decide⟩ (fullB i x0 x1 x2 x3 x5 x6 ⟨0, by rw [show (k0_t1_loop i).trips = 4 from trips1_B i h]; decide⟩ ⟨xs0, xs1, k0_pay66, k0_pay67⟩))))).dk
    ∧ out0_B_10 c i a3 harg3 a4 harg4 a5 harg5 a6 harg6 a7 harg7 a8 harg8 a9 harg9 a10 harg10 a11 harg11 a12 harg12 a13 harg13 a14 harg14 scM0_0 (Memref.isWhole_whole _) scM0_1 (Memref.isWhole_whole _) scM0_2 (Memref.isWhole_whole _) scM0_3 (Memref.isWhole_whole _) hc0 hc1 x0 x1 x2 x3 x4 x5 x6 x7 xs0 xs1 = k0_pay2 (diag8 i x0 x1 x2 x3 x5 x6 (fullB i x0 x1 x2 x3 x5 x6 ⟨3, by rw [show (k0_t1_loop i).trips = 4 from trips1_B i h]; decide⟩ (fullB i x0 x1 x2 x3 x5 x6 ⟨2, by rw [show (k0_t1_loop i).trips = 4 from trips1_B i h]; decide⟩ (fullB i x0 x1 x2 x3 x5 x6 ⟨1, by rw [show (k0_t1_loop i).trips = 4 from trips1_B i h]; decide⟩ (fullB i x0 x1 x2 x3 x5 x6 ⟨0, by rw [show (k0_t1_loop i).trips = 4 from trips1_B i h]; decide⟩ ⟨xs0, xs1, k0_pay66, k0_pay67⟩))))).dv := by
  have e := RunB.r8 c i a3 harg3 a4 harg4 a5 harg5 a6 harg6 a7 harg7 a8 harg8 a9 harg9 a10 harg10 a11 harg11 a12 harg12 a13 harg13 a14 harg14 scM0_0 (Memref.isWhole_whole _) scM0_1 (Memref.isWhole_whole _) scM0_2 (Memref.isWhole_whole _) scM0_3 (Memref.isWhole_whole _) x0 x1 x2 x3 x5 x6 xs0 xs1
  rw [baseB c i a3 harg3 a4 harg4 a5 harg5 a6 harg6 a7 harg7 a8 harg8 a9 harg9 a10 harg10 a11 harg11 a12 harg12 a13 harg13 a14 harg14 scM0_0 (Memref.isWhole_whole _) scM0_1 (Memref.isWhole_whole _) scM0_2 (Memref.isWhole_whole _) scM0_3 (Memref.isWhole_whole _) x0 x1 x2 x3 x5 x6 xs0 xs1 h] at e
  refine ⟨?_, ?_, ?_⟩
  · rw [← e.2.2, ← readAt_whole2 scM0_2.view _ inb_S1024x128_S1024x128_0_0]
    refine (read_put VO0_8 VO0_8.junk inb_S1024x128_S1024x128_0_0 _ []).trans ?_
    exact put_whole2 _ _
  · rw [← e.1, ← readAt_whole2 scM0_0.view _ inb_S2048x128_S2048x128_0_0]
    refine (read_put VO0_9 VO0_9.junk inb_S2048x128_S2048x128_0_0 _ []).trans ?_
    exact put_whole2 _ _
  · rw [← e.2.1, ← readAt_whole2 scM0_1.view _ inb_S2048x128_S2048x128_0_0]
    refine (read_put VO0_10 VO0_10.junk inb_S2048x128_S2048x128_0_0 _ []).trans ?_
    exact put_whole2 _ _

/-- The gate's gradient of a second tile. -/
theorem dzB (hc0 : ¬cond0_0 i) (hc1 : cond0_1 i) :
    out0_B_11 c i a3 harg3 a4 harg4 a5 harg5 a6 harg6 a7 harg7 a8 harg8 a9 harg9 a10 harg10 a11 harg11 a12 harg12 a13 harg13 a14 harg14 scM0_0 (Memref.isWhole_whole _) scM0_1 (Memref.isWhole_whole _) scM0_2 (Memref.isWhole_whole _) scM0_3 (Memref.isWhole_whole _) hc0 hc1 x0 x1 x2 x3 x4 x5 x6 x7 xs0 xs1 = k0_pay60 x3 x6 x4 := by
  refine (read_put VO0_11 VO0_11.junk inb_S1024x128_S1024x128_0_0 _ []).trans ?_
  refine (put_whole2 _ _).trans ?_
  refine Eq.trans (b := k0_pay60 (a6.view.readAt (Elt F) (Rect.unit (s := S1024x128) ![0, 0] S1024x128.size inb_S1024x128_S1024x128_0_0).toLoadRect (harg6.unread x3)) (a9.view.readAt (Elt F) (Rect.unit (s := S1024x128) ![0, 0] S1024x128.size inb_S1024x128_S1024x128_0_0).toLoadRect (harg9.unread x6)) (a7.view.readAt (Elt F) (Rect.unit (s := S1024x128) ![0, 0] S1024x128.size inb_S1024x128_S1024x128_0_0).toLoadRect (harg7.unread x4))) (by rfl) ?_
  rw [show ∀ f, _ = _ from readAt_whole2 a6.view (inb := inb_S1024x128_S1024x128_0_0), show ∀ f, _ = _ from readAt_whole2 a9.view (inb := inb_S1024x128_S1024x128_0_0), show ∀ f, _ = _ from readAt_whole2 a7.view (inb := inb_S1024x128_S1024x128_0_0)]
  simp only [Memref.IsWhole.read_unread]

end

end Cert.Attn
-- ==== Proof.Grid.lean ====
module

public import proofs.«01_k».proof.Proof.Host
public import proofs.«01_k».proof.Proof.Point
public import proofs.«01_k».proof.Proof.Tile
public import proofs.«01_k».proof.Proof.Outs
public import Idealize.ShloMosaic.Lib.Pipeline.ValueKit

/-! # The blocks of a grid point

A point reads a block of rows of the queries, of the gate and of the incoming gradient for two heads, and all rows of
the keys and values of those heads: the tile of `Tile.lean`. -/

set_option maxRecDepth 16384

@[expose] public section

noncomputable section

open Idealize.ShloMosaic Idealize.ShloMosaic.TcCoe Idealize.SL.Sem
open Idealize.ShloMosaic.Pipeline (Dat)

namespace Cert.Attn

open Cert.KernelIdeal Cert.KernelIdeal.Gen

section
variable {x : Vec Ideal S1024x128 .bf16} {z d : Vec Ideal S1024x128 .f32} {f g h : ℕ → ℕ → ℝ}

theorem qh0_is (hx : Is2 (a := 1024) (b := 128) x f) : Is2 (a := 1024) (b := 64) (qh0 (F := Ideal) x) (fun r c => f r c * (1 / 8)) := fun r c => by
  rw [EReal.coe_mul, ← Ref.ofBits_eighth, ← hx r ⟨c, by omega⟩]
  pointwise [qh0, k0_pay62]

theorem qh1_is (hx : Is2 (a := 1024) (b := 128) x f) : Is2 (a := 1024) (b := 64) (qh1 (F := Ideal) x) (fun r c => f r (64 + c) * (1 / 8)) := fun r c => by
  have := hx r ⟨64 + c, by omega⟩
  dsimp only at this
  rw [EReal.coe_mul, ← Ref.ofBits_eighth, ← this]
  pointwise [qh1, k0_pay63]

/-- The logistic function of the gate. -/
theorem sig_is (hz : Is2 (a := 1024) (b := 128) z f) : Is2 (a := 1024) (b := 128) (k0_pay59 (F := Ideal) z) (fun r c => (1 + Real.exp (-f r c))⁻¹) := fun r c => by
  have h := hz r c
  pointwise [k0_pay59]
  rw [h, zero_sub, ← EReal.coe_neg, Ideal.exp_coe, ← EReal.coe_one, ← EReal.coe_add, EReal.coe_one, div_one_real _ (one_add_exp_pos _)]

theorem pay61_is (hz : Is2 (a := 1024) (b := 128) z f) (hd : Is2 (a := 1024) (b := 128) d g) :
    Is2 (a := 1024) (b := 128) (k0_pay61 (F := Ideal) z d) (fun r c => g r c * (f r c * (1 + Real.exp (-f r c))⁻¹)) := fun r c => by
  rw [EReal.coe_mul, EReal.coe_mul, ← hz r c, ← hd r c, ← sig_is hz r c]
  pointwise [k0_pay61]

theorem dof_is (hz : Is2 (a := 1024) (b := 128) z f) (hd : Is2 (a := 1024) (b := 128) d g) :
    Is2 (a := 1024) (b := 128) (dof (F := Ideal) z d) (fun r c => g r c * (f r c * (1 + Real.exp (-f r c))⁻¹)) := by
  unfold dof
  rw [show View.ld z (Rect.unit ![0, 0] S1024x128.size inb_S1024x128_S1024x128_0_0) = z from View.ld_unit_lit (S := S1024x128) _ _ (by intro d; fin_cases d <;> rfl),
    show View.ld d (Rect.unit ![0, 0] S1024x128.size inb_S1024x128_S1024x128_0_0) = d from View.ld_unit_lit (S := S1024x128) _ _ (by intro d; fin_cases d <;> rfl)]
  exact pay61_is hz hd

theorem pay64_is {y : FVec Ideal S1024x128 .bf16} (hy : Is2 (a := 1024) (b := 128) y f) : Is2 (a := 1024) (b := 64) (k0_pay64 (F := Ideal) y) (fun r c => f r c) := fun r c => by
  refine Eq.trans ?_ (hy r ⟨c, by omega⟩)
  pointwise [k0_pay64]

theorem pay65_is {y : FVec Ideal S1024x128 .bf16} (hy : Is2 (a := 1024) (b := 128) y f) : Is2 (a := 1024) (b := 64) (k0_pay65 (F := Ideal) y) (fun r c => f r (64 + c)) := fun r c => by
  refine Eq.trans ?_ (hy r ⟨64 + c, by omega⟩)
  pointwise [k0_pay65]

/-- The gate's gradient. -/
theorem dz_tile {o : Vec Ideal S1024x128 .f32} (hz : Is2 (a := 1024) (b := 128) z f) (hd : Is2 (a := 1024) (b := 128) d g) (ho : Is2 (a := 1024) (b := 128) o h) :
    Is2 (a := 1024) (b := 128) (k0_pay60 (F := Ideal) z d o) (fun r c => h r c * g r c * (1 + Real.exp (-f r c))⁻¹
      + f r c * (h r c * g r c) * ((1 + Real.exp (-f r c))⁻¹ * (1 - (1 + Real.exp (-f r c))⁻¹))) := fun r c => by
  have h1 := hz r c
  have h2 := hd r c
  have h3 := ho r c
  have h4 := sig_is hz r c
  have e : k0_pay60 (F := Ideal) z d o (ix2 r c)
      = @HMul.hMul EReal EReal EReal _ (@HMul.hMul EReal EReal EReal _ (d (ix2 r c)) (o (ix2 r c)))
        (@HMul.hMul EReal EReal EReal _ (k0_pay59 (F := Ideal) z (ix2 r c)) (1 + @HMul.hMul EReal EReal EReal _ (z (ix2 r c)) (1 - (k0_pay59 (F := Ideal) z (ix2 r c) : EReal)))) := by
    pointwise [k0_pay60]
  refine e.trans ?_
  rw [h1, h2, h3, h4, ← EReal.coe_one, ← EReal.coe_sub, ← EReal.coe_mul, ← EReal.coe_mul, ← EReal.coe_add, ← EReal.coe_mul, ← EReal.coe_mul]
  congr 1
  ring

theorem pay207_is (hx : Is2 (a := 1024) (b := 128) z f) : Is2 (a := 1024) (b := 128) (k0_pay207 (F := Ideal) z) (fun r c => f r c * (1 / 8)) := fun r c => by
  rw [EReal.coe_mul, ← Ref.ofBits_eighth, ← hx r c]
  pointwise [k0_pay207]

end

variable (m : (ℓ : Loc nD τ sig) → Buf (Elt Ideal) ℓ) (c : Dev nD)

/-- The blocks of the windows: batch `t / 16`, heads `t / 2 % 8`, block of rows `t % 2`. -/
theorem idx : ∀ t : Fin cfg0.N, win0_0.index t = ![t.val / 16 * 2 + t.val % 2, t.val / 2 % 8] ∧ win0_1.index t = ![t.val / 16, 8 + t.val / 2 % 8]
    ∧ win0_2.index t = ![t.val / 16, 16 + t.val / 2 % 8] ∧ win0_3.index t = ![t.val / 16 * 2 + t.val % 2, 24 + t.val / 2 % 8]
    ∧ win0_4.index t = ![t.val / 16 * 2 + t.val % 2, t.val / 2 % 8] ∧ win0_5.index t = ![t.val / 2 % 8, t.val / 16 * 2 + t.val % 2, 0]
    ∧ win0_6.index t = ![t.val / 16 * 2 + t.val % 2, t.val / 2 % 8] ∧ win0_8.index t = ![t.val / 16 * 2 + t.val % 2, t.val / 2 % 8]
    ∧ win0_9.index t = ![t.val / 16, t.val / 2 % 8] ∧ win0_10.index t = ![t.val / 16, t.val / 2 % 8]
    ∧ win0_11.index t = ![t.val / 16 * 2 + t.val % 2, t.val / 2 % 8] :=
  (by decide +kernel : ∀ t : Fin grid0.N, _)

theorem lt32 (t : Fin cfg0.N) : t.val < 32 := t.isLt

variable (t : Fin cfg0.N)

theorem rd0 (X : Vec Ideal S4096x9216 .bf16) (r : Fin 1024) (s : Fin 128) : ((cfg0.win 0).blk t).view.read (Elt Ideal) X (ix2 r s)
    = X (ix2 ⟨2048 * (t.val / 16) + (1024 * (t.val % 2) + r), by have := lt32 t; omega⟩ ⟨128 * (t.val / 2 % 8) + s, by omega⟩) := by
  blk_point [idx t]

theorem blk0 (r : Fin 1024) (s : Fin 128) : iblk m c 0 t (ix2 r s)
    = V m c main_v46 (ix2 ⟨2048 * (t.val / 16) + (1024 * (t.val % 2) + r), by have := lt32 t; omega⟩ ⟨128 * (t.val / 2 % 8) + s, by omega⟩) :=
  rd0 t (V m c main_v46) r s

theorem rd1 (X : Vec Ideal S4096x9216 .bf16) (r : Fin 2048) (s : Fin 128) : ((cfg0.win 1).blk t).view.read (Elt Ideal) X (ix2 r s)
    = X (ix2 ⟨2048 * (t.val / 16) + r, by have := lt32 t; omega⟩ ⟨1024 + (128 * (t.val / 2 % 8) + s), by omega⟩) := by
  blk_point [idx t]

theorem blk1 (r : Fin 2048) (s : Fin 128) : iblk m c 1 t (ix2 r s)
    = V m c main_v46 (ix2 ⟨2048 * (t.val / 16) + r, by have := lt32 t; omega⟩ ⟨1024 + (128 * (t.val / 2 % 8) + s), by omega⟩) :=
  rd1 t (V m c main_v46) r s

theorem rd2 (X : Vec Ideal S4096x9216 .bf16) (r : Fin 2048) (s : Fin 128) : ((cfg0.win 2).blk t).view.read (Elt Ideal) X (ix2 r s)
    = X (ix2 ⟨2048 * (t.val / 16) + r, by have := lt32 t; omega⟩ ⟨2048 + (128 * (t.val / 2 % 8) + s), by omega⟩) := by
  blk_point [idx t]

theorem blk2 (r : Fin 2048) (s : Fin 128) : iblk m c 2 t (ix2 r s)
    = V m c main_v46 (ix2 ⟨2048 * (t.val / 16) + r, by have := lt32 t; omega⟩ ⟨2048 + (128 * (t.val / 2 % 8) + s), by omega⟩) :=
  rd2 t (V m c main_v46) r s

theorem rd3 (X : Vec Ideal S4096x9216 .f32) (r : Fin 1024) (s : Fin 128) : ((cfg0.win 3).blk t).view.read (Elt Ideal) X (ix2 r s)
    = X (ix2 ⟨2048 * (t.val / 16) + (1024 * (t.val % 2) + r), by have := lt32 t; omega⟩ ⟨3072 + (128 * (t.val / 2 % 8) + s), by omega⟩) := by
  blk_point [idx t]

theorem blk3 (r : Fin 1024) (s : Fin 128) : iblk m c 3 t (ix2 r s)
    = V m c main_arg0 (ix2 ⟨2048 * (t.val / 16) + (1024 * (t.val % 2) + r), by have := lt32 t; omega⟩ ⟨3072 + (128 * (t.val / 2 % 8) + s), by omega⟩) :=
  rd3 t (V m c main_arg0) r s

theorem rd4 (X : Vec Ideal S4096x1024 .f32) (r : Fin 1024) (s : Fin 128) : ((cfg0.win 4).blk t).view.read (Elt Ideal) X (ix2 r s)
    = X (ix2 ⟨2048 * (t.val / 16) + (1024 * (t.val % 2) + r), by have := lt32 t; omega⟩ ⟨128 * (t.val / 2 % 8) + s, by omega⟩) := by
  blk_point [idx t]

theorem blk4 (r : Fin 1024) (s : Fin 128) : iblk m c 4 t (ix2 r s)
    = V m c main_v44 (ix2 ⟨2048 * (t.val / 16) + (1024 * (t.val % 2) + r), by have := lt32 t; omega⟩ ⟨128 * (t.val / 2 % 8) + s, by omega⟩) :=
  rd4 t (V m c main_v44) r s

theorem rd6 (X : Vec Ideal S4096x1024 .f32) (r : Fin 1024) (s : Fin 128) : ((cfg0.win 6).blk t).view.read (Elt Ideal) X (ix2 r s)
    = X (ix2 ⟨2048 * (t.val / 16) + (1024 * (t.val % 2) + r), by have := lt32 t; omega⟩ ⟨128 * (t.val / 2 % 8) + s, by omega⟩) := by
  blk_point [idx t]

theorem blk6 (r : Fin 1024) (s : Fin 128) : iblk m c 6 t (ix2 r s)
    = V m c main_arg1 (ix2 ⟨2048 * (t.val / 16) + (1024 * (t.val % 2) + r), by have := lt32 t; omega⟩ ⟨128 * (t.val / 2 % 8) + s, by omega⟩) :=
  rd6 t (V m c main_arg1) r s

theorem rd5 (X : Vec Ideal S8x4096x128 .f32) (p : Fin 1) (r : Fin 1024) (s : Fin 128) : ((cfg0.win 5).blk t).view.read (Elt Ideal) X (ix3 p r s)
    = X (ix3 ⟨t.val / 2 % 8, by omega⟩ ⟨2048 * (t.val / 16) + (1024 * (t.val % 2) + r), by have := lt32 t; omega⟩ s) := by
  blk_point [idx t]

theorem blk5 (p : Fin 1) (r : Fin 1024) (s : Fin 128) : iblk m c 5 t (ix3 p r s)
    = V m c main_v45 (ix3 ⟨t.val / 2 % 8, by omega⟩ ⟨2048 * (t.val / 16) + (1024 * (t.val % 2) + r), by have := lt32 t; omega⟩ s) :=
  rd5 t (V m c main_v45) p r s

end Cert.Attn
-- ==== Proof.Whole.lean ====
module

public import proofs.«01_k».proof.Proof.Grid
public import proofs.«01_k».proof.Proof.Gen.KernelIdeal.Value
public import Idealize.ShloMosaic.Lib.Pipeline.ReadBack

/-! # The result arrays

Every grid point's blocks are the tile of `Tile.lean`; what it leaves are the gradients of its rows, and after a sequence's second
tile those of its keys and values.  So each result array is the whole computation's gradient. -/

set_option maxRecDepth 16384

@[expose] public section

noncomputable section

open Idealize.ShloMosaic Idealize.ShloMosaic.TcCoe Idealize.SL.Sem
open Idealize.ShloMosaic.Pipeline (Dat)

namespace Cert.Attn

open Cert.KernelIdeal Cert.KernelIdeal.Gen

variable {m : (ℓ : Loc nD τ sig) → Buf (Elt Ideal) ℓ} {c : Dev nD} {H D : ℕ → ℕ → ℝ}

/-- The arguments' elements that the attention reads are real numbers. -/
structure Real2 (m : (ℓ : Loc nD τ sig) → Buf (Elt Ideal) ℓ) (c : Dev nD) (H D : ℕ → ℕ → ℝ) : Prop where
  h : Host.FinX (m ((c : Thread nD τ).loc main_arg0)) H
  d : Is2 (a := 4096) (b := 1024) (m ((c : Thread nD τ).loc main_arg1)) D

theorem v46_at (hm : Real2 m c H D) (r : ℕ) (hr : r < 4096) (s : ℕ) (hs : s < 4096) :
    (V m c main_v46 (ix2 ⟨r, hr⟩ ⟨s, by omega⟩) : EReal) = ((H r s : ℝ) : EReal) := by
  rw [Host.V_v46]
  exact hm.h ⟨r, hr⟩ s hs

theorem z_blk (hm : Real2 m c H D) (t : Fin cfg0.N) : Is2 (a := 1024) (b := 128) (iblk m c 3 t)
    (fun r s => H (2048 * (t.val / 16) + (1024 * (t.val % 2) + r)) (3072 + (128 * (t.val / 2 % 8) + s))) := fun r s => by
  refine (blk3 m c t r s).trans ?_
  rw [V_main_arg0]
  have := lt32 t
  exact hm.h ⟨2048 * (t.val / 16) + (1024 * (t.val % 2) + r), by omega⟩ (3072 + (128 * (t.val / 2 % 8) + s)) (by omega)

theorem d_blk (hm : Real2 m c H D) (t : Fin cfg0.N) : Is2 (a := 1024) (b := 128) (iblk m c 6 t)
    (fun r s => D (2048 * (t.val / 16) + (1024 * (t.val % 2) + r)) (128 * (t.val / 2 % 8) + s)) := fun r s => by
  refine (blk6 m c t r s).trans ?_
  rw [V_main_arg1]
  have := lt32 t
  exact hm.d ⟨2048 * (t.val / 16) + (1024 * (t.val % 2) + r), by omega⟩ ⟨128 * (t.val / 2 % 8) + s, by omega⟩

theorem o_blk (hm : Real2 m c H D) (t : Fin cfg0.N) : Is2 (a := 1024) (b := 128) (iblk m c 4 t)
    (fun r s => Whole.o H (t.val / 16) (2 * (t.val / 2 % 8) + s / 64) (1024 * (t.val % 2) + r) (s % 64)) := fun r s => by
  refine (blk4 m c t r s).trans ?_
  rw [Host.V_v44]
  have := lt32 t
  refine (Host.ho_is hm.h.q ⟨2048 * (t.val / 16) + (1024 * (t.val % 2) + r), by omega⟩ ⟨128 * (t.val / 2 % 8) + s, by omega⟩).trans ?_
  dsimp only
  rw [show (2048 * (t.val / 16) + (1024 * (t.val % 2) + (r : ℕ))) / 2048 = t.val / 16 by omega,
    show (2048 * (t.val / 16) + (1024 * (t.val % 2) + (r : ℕ))) % 2048 = 1024 * (t.val % 2) + r by omega,
    show (128 * (t.val / 2 % 8) + (s : ℕ)) / 64 = 2 * (t.val / 2 % 8) + s / 64 by omega,
    show (128 * (t.val / 2 % 8) + (s : ℕ)) % 64 = s % 64 by omega]

theorem coord2 (t : Fin cfg0.N) : ((grid0.coords t) 2 : ℕ) = t.val % 2 := by
  have := Pipeline.Grid.coords_val (G := grid0) t 2 (S := 1) (B := 2) (by decide) rfl
  rw [this, Nat.div_one]

/-- The tile of a grid point. -/
abbrev tl (H D : ℕ → ℕ → ℝ) (t : Fin cfg0.N) : Data := tile H D (t.val / 16) (t.val / 2 % 8) (t.val % 2)

theorem point (hm : Real2 m c H D) (t : Fin cfg0.N) :
    IsPoint (tl H D t) (grid0.coords t) (iblk m c 0 t) (iblk m c 1 t) (iblk m c 2 t) (iblk m c 3 t) (iblk m c 5 t) (iblk m c 6 t) := by
  have ht := lt32 t
  have hq : Is2 (a := 1024) (b := 128) (iblk m c 0 t) (fun r s => H (2048 * (t.val / 16) + (1024 * (t.val % 2) + r)) (128 * (t.val / 2 % 8) + s)) :=
    fun r s => (blk0 m c t r s).trans (v46_at hm _ (by omega) _ (by omega))
  have hd := dof_is (z_blk hm t) (d_blk hm t)
  refine ⟨(coord2 t).symm, qh0_is hq, qh1_is hq, pay64_is hd, pay65_is hd, fun r s => ?_, fun r s => ?_, fun p r s => ?_⟩
  · exact (blk1 m c t r s).trans (v46_at hm _ (by omega) _ (by omega))
  · exact (blk2 m c t r s).trans (v46_at hm _ (by omega) _ (by omega))
  · refine (blk5 m c t p r s).trans ?_
    rw [Host.V_v45]
    refine (Host.hcar_is (Host.hc_is (Host.hsp_is hm.h.q)) ⟨t.val / 2 % 8, by omega⟩ ⟨2048 * (t.val / 16) + (1024 * (t.val % 2) + r), by omega⟩ s).trans ?_
    refine congrArg Real.toEReal ?_
    unfold tl tile
    dsimp only
    refine Finset.sum_congr rfl fun k _ => ?_
    rw [neg_neg, show (2048 * (t.val / 16) + (1024 * (t.val % 2) + (r : ℕ))) / 2048 = t.val / 16 by omega,
      show (2048 * (t.val / 16) + (1024 * (t.val % 2) + (r : ℕ))) % 2048 = 1024 * (t.val % 2) + r by omega]

/-- Rounding changes no value. -/
theorem pay1_is {x : Vec Ideal S2048x128 .f32} {f : ℕ → ℕ → ℝ} (hx : Is2 (a := 2048) (b := 128) x f) : Is2 (a := 2048) (b := 128) (k0_pay1 (F := Ideal) x) f := fun r s => by
  refine Eq.trans ?_ (hx r s)
  pointwise [k0_pay1]

/-- Rounding changes no value. -/
theorem pay2_is {x : Vec Ideal S2048x128 .f32} {f : ℕ → ℕ → ℝ} (hx : Is2 (a := 2048) (b := 128) x f) : Is2 (a := 2048) (b := 128) (k0_pay2 (F := Ideal) x) f := fun r s => by
  refine Eq.trans ?_ (hx r s)
  pointwise [k0_pay2]

/-- A statement about an array is one about an equal array. -/
theorem Is2.of_eq {a b : ℕ} {X Y : (⟨2, ![a, b]⟩ : Shape).Idx → EReal} {f : ℕ → ℕ → ℝ} (e : X = Y) (h : Is2 Y f) : Is2 X f := e ▸ h

/-- The first entry of a pair. -/
theorem fst_eq {α β : Type} {x : α × β} {a : α} {b : β} (h : x = (a, b)) : x.1 = a := h ▸ rfl

/-- The second entry of a pair. -/
theorem snd_eq {α β : Type} {x : α × β} {a : α} {b : β} (h : x = (a, b)) : x.2 = b := h ▸ rfl

/-- The accumulators a first tile leaves. -/
theorem state_pt (hm : Real2 m c H D) (t : Fin cfg0.N) (h0 : t.val % 2 = 0) :
    Is2 (a := 2048) (b := 128) (outsAt0 m c t.val t.isLt).2.2.2.2.1 ((tl H D t).dk (fun _ => 4) fun _ _ => 0)
    ∧ Is2 (a := 2048) (b := 128) (outsAt0 m c t.val t.isLt).2.2.2.2.2 ((tl H D t).dv (fun _ => 4) fun _ _ => 0) := by
  have e := first_acc (point hm t) ((coord2 t).trans h0)
  have s := stateA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (iblk m c 3 t) (iblk m c 4 t) (iblk m c 5 t) (iblk m c 6 t) (iblk m c 7 t) ((coord2 t).trans h0) ((hcond0_0 t).mpr h0) (fun h => absurd ((hcond0_1 t).mp h) (by omega))
  exact ⟨Is2.of_eq ((fst_eq (snd_eq (snd_eq (snd_eq (snd_eq (outsAt0_A m c t h0 (by omega))))))).trans s.1) e.dk,
    Is2.of_eq ((snd_eq (snd_eq (snd_eq (snd_eq (snd_eq (outsAt0_A m c t h0 (by omega))))))).trans s.2) e.dv⟩

/-- The accumulators a second tile finds. -/
theorem prev_pt (hm : Real2 m c H D) (t : Fin cfg0.N) (h1 : t.val % 2 = 1) :
    Is2 (a := 2048) (b := 128) (outsAt0 m c (t.val - 1) (Nat.lt_of_le_of_lt (Nat.sub_le _ _) t.isLt)).2.2.2.2.1 ((tile H D (t.val / 16) (t.val / 2 % 8) 0).dk (fun _ => 4) fun _ _ => 0)
    ∧ Is2 (a := 2048) (b := 128) (outsAt0 m c (t.val - 1) (Nat.lt_of_le_of_lt (Nat.sub_le _ _) t.isLt)).2.2.2.2.2 ((tile H D (t.val / 16) (t.val / 2 % 8) 0).dv (fun _ => 4) fun _ _ => 0) := by
  have hP : tl H D ⟨t.val - 1, Nat.lt_of_le_of_lt (Nat.sub_le _ _) t.isLt⟩ = tile H D (t.val / 16) (t.val / 2 % 8) 0 := by
    unfold tl; dsimp only; rw [show (t.val - 1) % 2 = 0 by omega, show (t.val - 1) / 16 = t.val / 16 by omega, show (t.val - 1) / 2 = t.val / 2 by omega]
  have p := state_pt hm ⟨t.val - 1, Nat.lt_of_le_of_lt (Nat.sub_le _ _) t.isLt⟩ (show (t.val - 1) % 2 = 0 by omega)
  rw [hP] at p
  exact p

/-- What a second tile leaves. -/
theorem last_pt (hm : Real2 m c H D) (t : Fin cfg0.N) (h1 : t.val % 2 = 1) :
    Is2 (a := 1024) (b := 128) (outsAt0 m c t.val t.isLt).1 (fun r s => (tl H D t).dq (fun _ => 8) r s * (1 / 8))
    ∧ Is2 (a := 2048) (b := 128) (outsAt0 m c t.val t.isLt).2.1 ((tl H D t).dk (fun _ => 8) ((tile H D (t.val / 16) (t.val / 2 % 8) 0).dk (fun _ => 4) fun _ _ => 0))
    ∧ Is2 (a := 2048) (b := 128) (outsAt0 m c t.val t.isLt).2.2.1 ((tl H D t).dv (fun _ => 8) ((tile H D (t.val / 16) (t.val / 2 % 8) 0).dv (fun _ => 4) fun _ _ => 0)) := by
  have p := prev_pt hm t h1
  have e := second_acc (point hm t) ((coord2 t).trans h1) _ _ p.1 p.2 ⟨0, by rw [show (k0_t1_loop (grid0.coords t)).trips = 4 from trips1_B _ ((coord2 t).trans h1)]; decide⟩ ⟨1, by rw [show (k0_t1_loop (grid0.coords t)).trips = 4 from trips1_B _ ((coord2 t).trans h1)]; decide⟩
    ⟨2, by rw [show (k0_t1_loop (grid0.coords t)).trips = 4 from trips1_B _ ((coord2 t).trans h1)]; decide⟩ ⟨3, by rw [show (k0_t1_loop (grid0.coords t)).trips = 4 from trips1_B _ ((coord2 t).trans h1)]; decide⟩ rfl rfl rfl rfl
  have s := stateB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 ((coord2 t).trans h1) (fun h => absurd ((hcond0_0 t).mp h) (by omega)) ((hcond0_1 t).mpr h1)
  exact ⟨Is2.of_eq ((fst_eq (outsAt0_B m c t (by omega) h1)).trans s.1) (pay207_is e.dq),
    Is2.of_eq ((fst_eq (snd_eq (outsAt0_B m c t (by omega) h1))).trans s.2.1) (pay1_is e.dk),
    Is2.of_eq ((fst_eq (snd_eq (snd_eq (outsAt0_B m c t (by omega) h1)))).trans s.2.2) (pay2_is e.dv)⟩

/-- The gradients of the queries a point leaves. -/
theorem dq_pt (hm : Real2 m c H D) (t : Fin cfg0.N) :
    Is2 (a := 1024) (b := 128) (outsAt0 m c t.val t.isLt).1 (fun r s => Whole.dq H D (t.val / 16) (1024 * (t.val % 2) + r) (2 * (t.val / 2 % 8) + s / 64) (s % 64)) := by
  have ht := lt32 t
  by_cases h0 : t.val % 2 = 0
  · have e := first_acc (point hm t) ((coord2 t).trans h0)
    have s := dqA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
      (iblk m c 0 t) (iblk m c 1 t) (iblk m c 2 t) (iblk m c 3 t) (iblk m c 4 t) (iblk m c 5 t) (iblk m c 6 t) (iblk m c 7 t) ((coord2 t).trans h0) ((hcond0_0 t).mpr h0) (fun h => absurd ((hcond0_1 t).mp h) (by omega))
    exact Is2.of_eq ((fst_eq (outsAt0_A m c t h0 (by omega))).trans s)
      ((pay207_is e.dq).congr fun r hr s hs => total_dq H D _ _ (t.val % 2) 4 (by omega) (by omega) r s hr)
  · exact (last_pt hm t (by omega)).1.congr fun r hr s hs => total_dq H D _ _ (t.val % 2) 8 (by omega) (by omega) r s hr

/-- The gradients of the keys and values a second tile leaves. -/
theorem dkv_pt (hm : Real2 m c H D) (t : Fin cfg0.N) (h1 : t.val % 2 = 1) :
    Is2 (a := 2048) (b := 128) (outsAt0 m c t.val t.isLt).2.1 (fun r s => Whole.dk H D (t.val / 16) r (2 * (t.val / 2 % 8) + s / 64) (s % 64))
    ∧ Is2 (a := 2048) (b := 128) (outsAt0 m c t.val t.isLt).2.2.1 (fun r s => Whole.dv H D (t.val / 16) r (2 * (t.val / 2 % 8) + s / 64) (s % 64)) := by
  have e := (last_pt hm t h1).2
  have hT : tl H D t = tile H D (t.val / 16) (t.val / 2 % 8) 1 := by unfold tl; rw [h1]
  rw [hT] at e
  exact ⟨e.1.congr fun r hr s _ => total_dk H D _ _ r s hr, e.2.congr fun r hr s _ => total_dv H D _ _ r s hr⟩

/-- The gate's gradient a point leaves. -/
theorem dz_pt (hm : Real2 m c H D) (t : Fin cfg0.N) :
    (outsAt0 m c t.val t.isLt).2.2.2.1 = k0_pay60 (F := Ideal) (iblk m c 3 t) (iblk m c 6 t) (iblk m c 4 t) := by
  by_cases h0 : t.val % 2 = 0
  · exact (fst_eq (snd_eq (snd_eq (snd_eq (outsAt0_A m c t h0 (by omega)))))).trans (dzA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
      (iblk m c 0 t) (iblk m c 1 t) (iblk m c 2 t) (iblk m c 3 t) (iblk m c 4 t) (iblk m c 5 t) (iblk m c 6 t) (iblk m c 7 t) ((hcond0_0 t).mpr h0) (fun h => absurd ((hcond0_1 t).mp h) (by omega)))
  · have h1 : t.val % 2 = 1 := by omega
    exact (fst_eq (snd_eq (snd_eq (snd_eq (outsAt0_B m c t h0 h1))))).trans (dzB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
      (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => absurd ((hcond0_0 t).mp h) (by omega)) ((hcond0_1 t).mpr h1))

theorem at8 (R : Vec Ideal S4096x1024 .bf16) (t : Fin cfg0.N) (r : Fin 1024) (s : Fin 128) :
    R ((win0_8.blk t).view.emb (ix2 r s)) = R (ix2 ⟨2048 * (t.val / 16) + (1024 * (t.val % 2) + r), by have := lt32 t; omega⟩ ⟨128 * (t.val / 2 % 8) + s, by omega⟩) := by
  blk_point [idx t]

theorem at9 (R : Vec Ideal S4096x1024 .bf16) (t : Fin cfg0.N) (r : Fin 2048) (s : Fin 128) :
    R ((win0_9.blk t).view.emb (ix2 r s)) = R (ix2 ⟨2048 * (t.val / 16) + r, by have := lt32 t; omega⟩ ⟨128 * (t.val / 2 % 8) + s, by omega⟩) := by
  blk_point [idx t]

theorem at10 (R : Vec Ideal S4096x1024 .bf16) (t : Fin cfg0.N) (r : Fin 2048) (s : Fin 128) :
    R ((win0_10.blk t).view.emb (ix2 r s)) = R (ix2 ⟨2048 * (t.val / 16) + r, by have := lt32 t; omega⟩ ⟨128 * (t.val / 2 % 8) + s, by omega⟩) := by
  blk_point [idx t]

theorem at11 (R : Vec Ideal S4096x1024 .bf16) (t : Fin cfg0.N) (r : Fin 1024) (s : Fin 128) :
    R ((win0_11.blk t).view.emb (ix2 r s)) = R (ix2 ⟨2048 * (t.val / 16) + (1024 * (t.val % 2) + r), by have := lt32 t; omega⟩ ⟨128 * (t.val / 2 % 8) + s, by omega⟩) := by
  blk_point [idx t]

/-- The queries' gradients. -/
theorem final8 (hm : Real2 m c H D) (R : FVec Ideal S4096x1024 .bf16)
    (hR : Is2 (a := 4096) (b := 1024) R (fun r s => Whole.dq H D (r / 2048) (r % 2048) (s / 64) (s % 64))) : (dats m 0 c).arrAt 8 cfg0.N = R := by
  refine (dats m 0 c).arrAt_eq_of_covers 8 _ (by decide +kernel) fun t hf y => ?_
  blk_simp
  rw [after0_8]
  have ht := lt32 t
  obtain ⟨r, s, rfl⟩ : ∃ (r : Fin 1024) (s : Fin 128), y = ix2 r s := ⟨y 0, y 1, eq_ix2 y⟩
  refine Eq.trans (dq_pt hm t r s) ((at8 R t r s).trans ((hR ⟨2048 * (t.val / 16) + (1024 * (t.val % 2) + r), by omega⟩ ⟨128 * (t.val / 2 % 8) + s, by omega⟩).trans ?_)).symm
  dsimp only
  rw [show (2048 * (t.val / 16) + (1024 * (t.val % 2) + r)) / 2048 = t.val / 16 by omega, show (2048 * (t.val / 16) + (1024 * (t.val % 2) + r)) % 2048 = 1024 * (t.val % 2) + r by omega,
    show (128 * (t.val / 2 % 8) + (s : ℕ)) / 64 = 2 * (t.val / 2 % 8) + s / 64 by omega, show (128 * (t.val / 2 % 8) + (s : ℕ)) % 64 = s % 64 by omega]

/-- The keys' gradients. -/
theorem final9 (hm : Real2 m c H D) (R : FVec Ideal S4096x1024 .bf16)
    (hR : Is2 (a := 4096) (b := 1024) R (fun r s => Whole.dk H D (r / 2048) (r % 2048) (s / 64) (s % 64))) : (dats m 0 c).arrAt 9 cfg0.N = R := by
  refine (dats m 0 c).arrAt_eq_of_covers 9 _ (by decide +kernel) fun t hf y => ?_
  blk_simp
  rw [after0_9]
  have ht := lt32 t
  obtain ⟨r, s, rfl⟩ : ∃ (r : Fin 2048) (s : Fin 128), y = ix2 r s := ⟨y 0, y 1, eq_ix2 y⟩
  refine Eq.trans ((dkv_pt hm t ((flush0_9 t).mp hf)).1 r s) ((at9 R t r s).trans ((hR ⟨2048 * (t.val / 16) + r, by omega⟩ ⟨128 * (t.val / 2 % 8) + s, by omega⟩).trans ?_)).symm
  dsimp only
  rw [show (2048 * (t.val / 16) + r) / 2048 = t.val / 16 by omega, show (2048 * (t.val / 16) + r) % 2048 = (r : ℕ) by omega,
    show (128 * (t.val / 2 % 8) + (s : ℕ)) / 64 = 2 * (t.val / 2 % 8) + s / 64 by omega, show (128 * (t.val / 2 % 8) + (s : ℕ)) % 64 = s % 64 by omega]

/-- The values' gradients. -/
theorem final10 (hm : Real2 m c H D) (R : FVec Ideal S4096x1024 .bf16)
    (hR : Is2 (a := 4096) (b := 1024) R (fun r s => Whole.dv H D (r / 2048) (r % 2048) (s / 64) (s % 64))) : (dats m 0 c).arrAt 10 cfg0.N = R := by
  refine (dats m 0 c).arrAt_eq_of_covers 10 _ (by decide +kernel) fun t hf y => ?_
  blk_simp
  rw [after0_10]
  have ht := lt32 t
  obtain ⟨r, s, rfl⟩ : ∃ (r : Fin 2048) (s : Fin 128), y = ix2 r s := ⟨y 0, y 1, eq_ix2 y⟩
  refine Eq.trans ((dkv_pt hm t ((flush0_10 t).mp hf)).2 r s) ((at10 R t r s).trans ((hR ⟨2048 * (t.val / 16) + r, by omega⟩ ⟨128 * (t.val / 2 % 8) + s, by omega⟩).trans ?_)).symm
  dsimp only
  rw [show (2048 * (t.val / 16) + r) / 2048 = t.val / 16 by omega, show (2048 * (t.val / 16) + r) % 2048 = (r : ℕ) by omega,
    show (128 * (t.val / 2 % 8) + (s : ℕ)) / 64 = 2 * (t.val / 2 % 8) + s / 64 by omega, show (128 * (t.val / 2 % 8) + (s : ℕ)) % 64 = s % 64 by omega]

/-- The gate's gradients. -/
theorem final11 (hm : Real2 m c H D) (R : FVec Ideal S4096x1024 .bf16)
    (hR : Is2 (a := 4096) (b := 1024) R (fun r s => Whole.o H (r / 2048) (s / 64) (r % 2048) (s % 64) * D r s * (1 + Real.exp (-Whole.z H r s))⁻¹ + Whole.z H r s * (Whole.o H (r / 2048) (s / 64) (r % 2048) (s % 64) * D r s) * ((1 + Real.exp (-Whole.z H r s))⁻¹ * (1 - (1 + Real.exp (-Whole.z H r s))⁻¹)))) : (dats m 0 c).arrAt 11 cfg0.N = R := by
  refine (dats m 0 c).arrAt_eq_of_covers 11 _ (by decide +kernel) fun t hf y => ?_
  blk_simp
  rw [after0_11]
  have ht := lt32 t
  obtain ⟨r, s, rfl⟩ : ∃ (r : Fin 1024) (s : Fin 128), y = ix2 r s := ⟨y 0, y 1, eq_ix2 y⟩
  refine Eq.trans ((congrFun (dz_pt hm t) (ix2 r s)).trans (dz_tile (z_blk hm t) (d_blk hm t) (o_blk hm t) r s)) ((at11 R t r s).trans ((hR ⟨2048 * (t.val / 16) + (1024 * (t.val % 2) + r), by omega⟩ ⟨128 * (t.val / 2 % 8) + s, by omega⟩).trans ?_)).symm
  dsimp only
  rw [show (2048 * (t.val / 16) + (1024 * (t.val % 2) + r)) / 2048 = t.val / 16 by omega, show (2048 * (t.val / 16) + (1024 * (t.val % 2) + r)) % 2048 = 1024 * (t.val % 2) + r by omega,
    show (128 * (t.val / 2 % 8) + (s : ℕ)) / 64 = 2 * (t.val / 2 % 8) + s / 64 by omega, show (128 * (t.val / 2 % 8) + (s : ℕ)) % 64 = s % 64 by omega]
  rfl

end Cert.Attn
-- ==== Proof.AttnValue.lean ====
module

public import proofs.«01_k».proof.Defs
public import proofs.«01_k».proof.Proof.Whole
public import proofs.«01_k».proof.Proof.Gen.ReferenceIdeal.Run
public import Idealize.ShloMosaic.Lib.ReduceAll
public import Idealize.ShloMosaic.Lib.Claim
public import Idealize.ShloMosaic.Lib.Quiescent

/-! # The attention's gradient is the derivative of its forward pass

The precondition says that the arguments' elements which the attention reads are real numbers. -/

set_option maxRecDepth 16384

@[expose] public section

noncomputable section

open Idealize.ShloMosaic Idealize.ShloMosaic.TcCoe Idealize.SL.Sem

namespace Cert.Attn

/-- The shapes of the precondition fit. -/
instance pre_facts : Cert.Pre_finite.Facts where
  slices_S4096x9216_S4096x4096_0_0 := ⟨rfl, by decide⟩
  bcast_S_S4096x4096 := by decide
  reducesTo_S4096x4096_S_d0_1 := by decide
  h_S_ := by decide
  bcast_S_S4096x1024 := by decide
  reducesTo_S4096x1024_S_d0_1 := by decide

/-- A number that subtracted from itself gives zero is real. -/
theorem real_of_sub (x : EReal) (h : x - x = 0) : x = ((x.toReal : ℝ) : EReal) := by
  induction x with
  | bot => simp at h
  | top => simp at h
  | coe x => rfl

/-- A comparison that comes out true. -/
theorem eq_of_oeq {x y : EReal} (h : Ideal.cmp .oeq x y = 1#1) : x = y := by
  by_contra hn
  simp [Ideal.cmp, hn] at h

/-- What the precondition says of the two arguments. -/
theorem finite_fn (x : FVec Ideal Cert.Pre_finite.S4096x9216 .f32) (y : FVec Ideal Cert.Pre_finite.S4096x1024 .f32)
    (h : Cert.Pre_finite.fn (F := Ideal) x y = fun _ => 1#1) :
    (∀ (r : Fin 4096) (c : Fin 4096), (x (ix2 r ⟨c, by omega⟩) : EReal) - x (ix2 r ⟨c, by omega⟩) = 0)
    ∧ ∀ (r : Fin 4096) (c : Fin 1024), (y (ix2 r c) : EReal) - y (ix2 r c) = 0 := by
  have h0 := congrFun h (fun d => d.elim0)
  dsimp only [Cert.Pre_finite.fn] at h0
  have hs : Subsingleton Cert.Pre_finite.S_.Idx := ⟨fun a b => funext fun d => d.elim0⟩
  obtain ⟨h1, h2⟩ := IntOp.andi_eq_one.1 h0
  have z : Ideal.ofBits .f32 0x00000000#32 = 0 := by simp [Ideal.ofBits, Ideal.ieee]
  refine ⟨fun r c => ?_, fun r c => ?_⟩
  · have e := Host.reduce_andi_all _ _ _ _ _ h1 (ix2 r c)
    refine Eq.trans (Eq.trans ?_ (eq_of_oeq e)) z
    pointwise
  · have e := Host.reduce_andi_all _ _ _ _ _ h2 (ix2 r c)
    exact (eq_of_oeq e).trans z

/-- The numbers an argument array holds. -/
def reals {a b : ℕ} (x : (⟨2, ![a, b]⟩ : Shape).Idx → EReal) (r c : ℕ) : ℝ :=
  if h : r < a ∧ c < b then (x (ix2 ⟨r, h.1⟩ ⟨c, h.2⟩)).toReal else 0

theorem reals_at {a b : ℕ} (x : (⟨2, ![a, b]⟩ : Shape).Idx → EReal) (r : Fin a) (c : Fin b) (h : x (ix2 r c) - x (ix2 r c) = 0) :
    x (ix2 r c) = ((reals x r c : ℝ) : EReal) := by
  unfold reals
  rw [dif_pos ⟨r.isLt, c.isLt⟩]
  exact real_of_sub _ h

/-- The precondition gives real numbers. -/
theorem real2 (m : (ℓ : Loc Cert.KernelIdeal.nD Cert.KernelIdeal.τ Cert.KernelIdeal.sig) → Buf (Elt Ideal) ℓ)
    (h : Cert.Pre_KernelIdeal_finite m) (c : Dev Cert.KernelIdeal.nD) :
    Real2 m c (reals (a := 4096) (b := 9216) (m ((c : Thread Cert.KernelIdeal.nD Cert.KernelIdeal.τ).loc Cert.KernelIdeal.main_arg0)))
      (reals (a := 4096) (b := 1024) (m ((c : Thread Cert.KernelIdeal.nD Cert.KernelIdeal.τ).loc Cert.KernelIdeal.main_arg1))) := by
  have e := finite_fn _ _ (h c)
  exact ⟨fun r k hk => reals_at _ r ⟨k, by omega⟩ (e.1 r ⟨k, hk⟩), fun r k => reals_at _ r k (e.2 r k)⟩

theorem frame_ideal_pre : Cert.quiescent_KernelIdeal_pre_finite := fun m ρ _ => Cert.KernelIdeal.Gen.frame m ρ

theorem frame_ref_pre : Cert.quiescent_ReferenceIdeal_pre_finite := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

section
variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD} {H D : ℕ → ℕ → ℝ}

theorem fin0 (h : Real2 m c H D) (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Ref.Fin0 (StableHlo.launchContents m' c) H := fun r k hk => (congrFun e _).trans (h.h r k hk)

theorem fin1 (h : Real2 m c H D) (e : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Ref.Fin1 (StableHlo.launchContents m' c) D := fun r k => (congrFun e _).trans (h.d r k)
end

/-- The kernel's four results are the reference's gradients of the queries, the keys, the values and the gate's argument. -/
theorem value : Cert.algebraic_KernelIdeal_ReferenceIdeal_pre_finite := by
  intro m g m' g' hpre hagree
  refine ⟨fun c => (Cert.KernelIdeal.Gen.dats m 0 c).arrAt 8 Cert.KernelIdeal.cfg0.N, fun c => (Cert.KernelIdeal.Gen.dats m 0 c).arrAt 9 Cert.KernelIdeal.cfg0.N,
    fun c => (Cert.KernelIdeal.Gen.dats m 0 c).arrAt 10 Cert.KernelIdeal.cfg0.N, fun c => (Cert.KernelIdeal.Gen.dats m 0 c).arrAt 11 Cert.KernelIdeal.cfg0.N, ?_, ?_⟩
  · exact (θ_run Cert.KernelIdeal.defs _ _).mono (fun r h c => ⟨(h.1 c).1 8, (h.1 c).1 9, (h.1 c).1 10, (h.1 c).1 11, h.2 c⟩)
      (θ_run_and (Cert.KernelIdeal.Gen.run_main m g) (Cert.KernelIdeal.Gen.unchanged m g))
  · refine (θ_run Cert.ReferenceIdeal.defs _ _).mono (fun r h c => ?_) (Cert.ReferenceIdeal.Value.run (F := Ideal) m' g')
    obtain ⟨h0, h1, h2, h3, h4⟩ := h c
    have k := real2 m hpre c
    have f0 := fin0 k (hagree c).1
    have f1 := fin1 k (hagree c).2
    have e8 := final8 k (Ref.res59 (StableHlo.launchContents m' c)) (Ref.dq_is f0 f1)
    have e9 := final9 k (Ref.res60 (StableHlo.launchContents m' c)) (Ref.dk_is f0 f1)
    have e10 := final10 k (Ref.res61 (StableHlo.launchContents m' c)) (Ref.dv_is f0 f1)
    have e11 := final11 k (Ref.res62 (StableHlo.launchContents m' c)) (Ref.dz_is f0 f1)
    exact ⟨h0.trans e8.symm, h1.trans e9.symm, h2.trans e10.symm, h3.trans e11.symm, h4⟩

end Cert.Attn
-- ==== Proof.Fwd.lean ====
module

public import proofs.«01_k».proof.Defs
public import proofs.«01_k».proof.Proof.Gen.Fwd.Frame
public import proofs.«01_k».proof.Proof.Gen.FwdIdeal.Frame
public import proofs.«01_k».proof.Proof.Gen.FwdRefIdeal.Run
public import Idealize.ShloMosaic.Lib.Claim
public import Idealize.ShloMosaic.Lib.Quiescent

/-! # The frames of the attention's forward call, and the name of its constant -/

set_option maxRecDepth 16384

@[expose] public section

noncomputable section

open Idealize.ShloMosaic Idealize.ShloMosaic.TcCoe Idealize.SL.Sem

namespace Cert.Fw

theorem frame : Cert.quiescent_Fwd := fun m ρ _ => Cert.Fwd.Gen.frame m ρ

theorem frame_ideal : Cert.quiescent_FwdIdeal := fun m ρ _ => Cert.FwdIdeal.Gen.frame m ρ

theorem frame_ref : Cert.quiescent_FwdRefIdeal := fun m ρ _ =>
  (θ_run Cert.FwdRefIdeal.defs _ _).mono (fun r h => ⟨fun c => (h c).2.2.2, sem_eq_zero_of_no_sems (by decide) r.2⟩)
    (Cert.FwdRefIdeal.Value.run (F := Ideal) m ρ)

/-- The constant's name stands for `-1 / log 2`. -/
theorem preserves : Cert.preserves_Fwd_FwdIdeal :=
  IdealRules.named_const.statement Cert.FwdIdeal.κ "minus_log2_e" .f32 0xBFB8AA3B#32 ((-((Real.log 2)⁻¹) : ℝ) : EReal) rfl

end Cert.Fw
-- ==== Proof.FwdStep.lean ====
module

public import proofs.«01_k».proof.Proof.Inv
public import proofs.«01_k».proof.Proof.Gen.FwdIdeal.Frame

/-! # One block of keys in the attention's forward call

The call walks the blocks of keys from the last to the first and keeps, for each head, the sum of the softplus of the
keys done, the sum of the weighted values, and the former before each block. -/

set_option maxRecDepth 16384

@[expose] public section

noncomputable section

open Idealize.ShloMosaic Idealize.ShloMosaic.TcCoe Idealize.SL.Sem
open Finset (range)

namespace Cert.Fw

open Cert.Attn Cert.KernelIdeal Cert.KernelIdeal.Gen

variable {F : FTy → Type} [FloatOps F] [Named F]

/-- The saved sums, the sums of the softplus, the sums of the weighted values. -/
structure St (F : FTy → Type) where
  c : Vec F (⟨3, ![1, 1024, 128]⟩ : Shape) .f32
  car : Vec F (⟨3, ![2, 1024, 1]⟩ : Shape) .f32
  acc : Vec F (⟨2, ![1024, 128]⟩ : Shape) .f32

/-- The lines of a block on `n` rows: the logits, the softplus, its sum over the later keys, the weights, the weighted
values added, the new sum of the softplus, and the former sum set in its lane. -/
structure Rows (F : FTy → Type) (n : ℕ) where
  lg : FVec F (⟨2, ![n, 64]⟩ : Shape) .bf16 → Vec F (⟨2, ![256, 64]⟩ : Shape) .bf16 → FVec F (⟨2, ![n, 256]⟩ : Shape) .f32
  sp : FVec F (⟨2, ![n, 256]⟩ : Shape) .f32 → FVec F (⟨2, ![n, 256]⟩ : Shape) .f32
  cu : FVec F (⟨2, ![n, 256]⟩ : Shape) .f32 → FVec F (⟨2, ![512, 256]⟩ : Shape) .bf16 → Vec F (⟨3, ![1, n, 1]⟩ : Shape) .f32 → FVec F (⟨2, ![n, 256]⟩ : Shape) .f32
  wt : FVec F (⟨2, ![n, 256]⟩ : Shape) .f32 → FVec F (⟨2, ![n, 256]⟩ : Shape) .f32 → FVec F (⟨2, ![n, 256]⟩ : Shape) .f32 → FVec F (⟨2, ![n, 256]⟩ : Shape) .f32
  nn : FVec F (⟨2, ![n, 256]⟩ : Shape) .f32 → Vec F (⟨2, ![256, 64]⟩ : Shape) .bf16 → Vec F (⟨2, ![n, 64]⟩ : Shape) .f32 → Vec F (⟨2, ![n, 64]⟩ : Shape) .f32
  nc : FVec F (⟨2, ![n, 256]⟩ : Shape) .f32 → FVec F (⟨2, ![n, 256]⟩ : Shape) .f32 → Vec F (⟨3, ![1, n, 1]⟩ : Shape) .f32
  cs : BitVec 32 → Vec F (⟨3, ![1, n, 1]⟩ : Shape) .f32 → Vec F (⟨3, ![1, n, 128]⟩ : Shape) .f32 → Vec F (⟨3, ![1, n, 128]⟩ : Shape) .f32

section
variable {n : ℕ} (R : Rows F n) (lane : BitVec 32) (q : FVec F (⟨2, ![n, 64]⟩ : Shape) .bf16) (x1 x2 : Vec F (⟨2, ![2048, 128]⟩ : Shape) .bf16)
    (off : Fin 2 → ℕ) (i0 : ∀ a, off a + (![256, 64] : Fin 2 → ℕ) a ≤ (⟨2, ![2048, 128]⟩ : Shape).size a)
    (o1 : Fin 3 → ℕ) (i1 : ∀ a, o1 a + (![1, n, 128] : Fin 3 → ℕ) a ≤ (⟨3, ![1, 1024, 128]⟩ : Shape).size a)
    (o2 : Fin 3 → ℕ) (i2 : ∀ a, o2 a + (![1, n, 1] : Fin 3 → ℕ) a ≤ (⟨3, ![2, 1024, 1]⟩ : Shape).size a)
    (o3 : Fin 2 → ℕ) (i3 : ∀ a, o3 a + (![n, 64] : Fin 2 → ℕ) a ≤ (⟨2, ![1024, 128]⟩ : Shape).size a)
    (c : Vec F (⟨3, ![1, 1024, 128]⟩ : Shape) .f32) (car : Vec F (⟨3, ![2, 1024, 1]⟩ : Shape) .f32) (acc : Vec F (⟨2, ![1024, 128]⟩ : Shape) .f32)

/-- The block's logits. -/
def lo : FVec F (⟨2, ![n, 256]⟩ : Shape) .f32 := R.lg q (View.ld x1 (Rect.unit off ![256, 64] i0))
/-- The softplus summed over the later keys. -/
def su : FVec F (⟨2, ![n, 256]⟩ : Shape) .f32 := R.cu (R.sp (lo R q x1 off i0)) k0_pay57 (View.ld car (Rect.unit o2 ![1, n, 1] i2))
/-- What the block stores in the saved sums. -/
def wc : Vec F (⟨3, ![1, n, 128]⟩ : Shape) .f32 := R.cs lane (View.ld car (Rect.unit o2 ![1, n, 1] i2)) (View.ld c (Rect.unit o1 ![1, n, 128] i1))
/-- What it stores in the sums of the softplus. -/
def wn : Vec F (⟨3, ![1, n, 1]⟩ : Shape) .f32 := R.nc (R.sp (lo R q x1 off i0)) (su R q x1 off i0 o2 i2 car)
/-- What it stores in the sums of the weighted values. -/
def wa : Vec F (⟨2, ![n, 64]⟩ : Shape) .f32 :=
  R.nn (R.wt (lo R q x1 off i0) (R.sp (lo R q x1 off i0)) (su R q x1 off i0 o2 i2 car)) (View.ld x2 (Rect.unit off ![256, 64] i0)) (View.ld acc (Rect.unit o3 ![n, 64] i3))

/-- One block of one head: `off` places the head's keys, `o1`, `o2`, `o3` the rows in the three arrays. -/
def step (s : St F) : St F where
  c := put s.c o1 ![1, n, 128] (wc R lane o1 i1 o2 i2 s.c s.car)
  car := put s.car o2 ![1, n, 1] (wn R q x1 off i0 o2 i2 s.car)
  acc := put s.acc o3 ![n, 64] (wa R q x1 x2 off i0 o2 i2 o3 i3 s.car s.acc)
end

/-- What each line is at finite values; `m` says which keys a row sees. -/
structure Rows.Ok {n : ℕ} (R : Rows Ideal n) (m : ℕ → ℕ → Prop) [∀ r s, Decidable (m r s)] : Prop where
  lg : ∀ {q ks Q K}, Is2 q Q → Is2 ks K → Is2 (R.lg q ks) (fun r s => ∑ c ∈ range 64, Q r c * K s c)
  sp : ∀ {l L}, Is2 l L → Is2 (R.sp l) (fun r s => if m r s then spR (L r s) else 0)
  cu : ∀ {g u gc G U C}, Is2 g G → Is2 u U → Is3 gc C → Is2 (R.cu g u gc) (fun r s => C 0 r 0 + ∑ k ∈ range 256, G r k * U k s)
  wt : ∀ {l p c L P C}, Is2 l L → Is2 p P → Is2 c C → Is2 (R.wt l p c) (fun r s => if m r s then Real.exp (L r s - (P r s + C r s)) else 0)
  nn : ∀ {a ks old A K O}, Is2 a A → Is2 ks K → Is2 old O → Is2 (R.nn a ks old) (fun r c => O r c + ∑ s ∈ range 256, A r s * K s c)
  nc : ∀ {p c P C}, Is2 p P → Is2 c C → Is3 (R.nc p c) (fun _ r _ => C r 0 + P r 0)
  cs : ∀ {cy x C X} (p : ℕ), p < 128 → Is3 cy C → Is3 x X → Is3 (R.cs (BitVec.ofNat 32 p) cy x) (fun _ r j => X 0 r j + if j = p then C 0 r 0 else 0)

/-! ## 1024 rows -/

/-- The weights. -/
def w1024 (l p c : FVec F S1024x256 .f32) : FVec F S1024x256 .f32 := exp (subf l (addf p c))
/-- The weights where the mask holds. -/
def wm1024 (l p c : FVec F S1024x256 .f32) : FVec F S1024x256 .f32 := select mask1024 (w1024 l p c) (broadcast S1024x256 (Scalar.ofBits .f32 0x00000000#32 : F .f32))
/-- The new sum of the softplus. -/
def nc1024 (p c : FVec F S1024x256 .f32) : FVec F S1x1024x1 .f32 :=
  shapeCast S1x1024x1 (addf (extractStridedSlice S1024x1 ![0, 0] c Cert.FwdIdeal.Gen.slices_S1024x256_o0_0_S1024x1)
    (extractStridedSlice S1024x1 ![0, 0] p Cert.FwdIdeal.Gen.slices_S1024x256_o0_0_S1024x1)) shapeCasts_S1024x1_S1x1024x1
/-- The former sum set in its lane. -/
def cs1024 (lane : BitVec 32) (cy : Vec F S1x1024x1 .f32) (x : Vec F S1x1024x128 .f32) : FVec F S1x1024x128 .f32 :=
  shapeCast S1x1024x128 (addf (shapeCast S1024x128 x shapeCasts_S1x1024x128_S1024x128)
    (select (cmpi .eq (iota .tc S1024x128 32 [1] iota_S1024x128_d1_w32) (broadcast S1024x128 lane))
      (broadcastTo S1024x128 (shapeCast S1024x1 (shapeCast S1024x1 cy shapeCasts_S1x1024x1_S1024x1) Cert.FwdIdeal.Gen.shapeCasts_S1024x1_S1024x1) Cert.FwdIdeal.Gen.broadcasts_S1024x1_S1024x128)
      (broadcast S1024x128 (Scalar.ofBits .f32 0x00000000#32 : F .f32)))) Cert.FwdIdeal.Gen.shapeCasts_S1024x128_S1x1024x128

theorem w1024_is {l p c : FVec Ideal S1024x256 .f32} {L P C : ℕ → ℕ → ℝ} (hl : Is2 l L) (hp : Is2 p P) (hc : Is2 c C) :
    Is2 (w1024 (F := Ideal) l p c) (fun r s => Real.exp (L r s - (P r s + C r s))) := by
  intro r s
  have e : w1024 (F := Ideal) l p c (ix2 r s) = Ideal.exp (l (ix2 r s) - (p (ix2 r s) + c (ix2 r s))) := by pointwise [w1024]
  rw [e, hl, hp, hc, ← EReal.coe_add, ← EReal.coe_sub, Ideal.exp_coe]

theorem wm1024_is {l p c : FVec Ideal S1024x256 .f32} {L P C : ℕ → ℕ → ℝ} (hl : Is2 l L) (hp : Is2 p P) (hc : Is2 c C) :
    Is2 (wm1024 (F := Ideal) l p c) (fun r s => if s < r then Real.exp (L r s - (P r s + C r s)) else 0) := by
  intro r s
  have e : wm1024 (F := Ideal) l p c (ix2 r s) = Scalar.select (IntOp.cmpi .slt (BitVec.ofNat 32 s) (BitVec.ofNat 32 r)) (w1024 (F := Ideal) l p c (ix2 r s)) 0 := by
    pointwise [wm1024, mask1024]
  rw [e, w1024_is hl hp hc, sel_slt (by omega) (by omega)]
  exact coe_ite _ _

theorem nc1024_is {p c : FVec Ideal S1024x256 .f32} {P C : ℕ → ℕ → ℝ} (hp : Is2 p P) (hc : Is2 c C) :
    Is3 (nc1024 (F := Ideal) p c) (fun _ r _ => C r 0 + P r 0) := by
  intro i r t
  have e : nc1024 (F := Ideal) p c (ix3 i r t) = c (ix2 r 0) + p (ix2 r 0) := by pointwise [nc1024]
  rw [e, hp, hc, EReal.coe_add]; rfl

theorem cs1024_is {cy : Vec Ideal S1x1024x1 .f32} {x : Vec Ideal S1x1024x128 .f32} {C X : ℕ → ℕ → ℕ → ℝ} (p : ℕ) (hp : p < 128) (hc : Is3 cy C) (hx : Is3 x X) :
    Is3 (cs1024 (F := Ideal) (BitVec.ofNat 32 p) cy x) (fun _ r j => X 0 r j + if j = p then C 0 r 0 else 0) := by
  intro i r j
  have e : cs1024 (F := Ideal) (BitVec.ofNat 32 p) cy x (ix3 i r j)
      = x (ix3 0 r j) + Scalar.select (IntOp.cmpi .eq (BitVec.ofNat 32 j) (BitVec.ofNat 32 p)) (cy (ix3 0 r 0)) 0 := by pointwise [cs1024]
  rw [e, sel_eq (by omega) (by omega), hc, hx, EReal.coe_add]
  exact congrArg _ (coe_ite _ _)

/-- The lines of a block that holds the rows' own keys. -/
def rows1024m : Rows F 1024 := ⟨lg1024, spm1024, cu1024, wm1024, nn1024, nc1024, cs1024⟩

theorem rows1024m_ok : (rows1024m (F := Ideal)).Ok (fun r s => s < r) :=
  ⟨lg1024_is, spm1024_is, cu1024_is, wm1024_is, nn1024_is, nc1024_is, cs1024_is⟩

/-! ## 768 rows -/

/-- The weights. -/
def w768 (l p c : FVec F S768x256 .f32) : FVec F S768x256 .f32 := exp (subf l (addf p c))
/-- The weights where the mask holds. -/
def wm768 (l p c : FVec F S768x256 .f32) : FVec F S768x256 .f32 := select mask768 (w768 l p c) (broadcast S768x256 (Scalar.ofBits .f32 0x00000000#32 : F .f32))
/-- The new sum of the softplus. -/
def nc768 (p c : FVec F S768x256 .f32) : FVec F S1x768x1 .f32 :=
  shapeCast S1x768x1 (addf (extractStridedSlice S768x1 ![0, 0] c Cert.FwdIdeal.Gen.slices_S768x256_o0_0_S768x1)
    (extractStridedSlice S768x1 ![0, 0] p Cert.FwdIdeal.Gen.slices_S768x256_o0_0_S768x1)) shapeCasts_S768x1_S1x768x1
/-- The former sum set in its lane. -/
def cs768 (lane : BitVec 32) (cy : Vec F S1x768x1 .f32) (x : Vec F S1x768x128 .f32) : FVec F S1x768x128 .f32 :=
  shapeCast S1x768x128 (addf (shapeCast S768x128 x shapeCasts_S1x768x128_S768x128)
    (select (cmpi .eq (iota .tc S768x128 32 [1] iota_S768x128_d1_w32) (broadcast S768x128 lane))
      (broadcastTo S768x128 (shapeCast S768x1 (shapeCast S768x1 cy shapeCasts_S1x768x1_S768x1) Cert.FwdIdeal.Gen.shapeCasts_S768x1_S768x1) Cert.FwdIdeal.Gen.broadcasts_S768x1_S768x128)
      (broadcast S768x128 (Scalar.ofBits .f32 0x00000000#32 : F .f32)))) Cert.FwdIdeal.Gen.shapeCasts_S768x128_S1x768x128

theorem w768_is {l p c : FVec Ideal S768x256 .f32} {L P C : ℕ → ℕ → ℝ} (hl : Is2 l L) (hp : Is2 p P) (hc : Is2 c C) :
    Is2 (w768 (F := Ideal) l p c) (fun r s => Real.exp (L r s - (P r s + C r s))) := by
  intro r s
  have e : w768 (F := Ideal) l p c (ix2 r s) = Ideal.exp (l (ix2 r s) - (p (ix2 r s) + c (ix2 r s))) := by pointwise [w768]
  rw [e, hl, hp, hc, ← EReal.coe_add, ← EReal.coe_sub, Ideal.exp_coe]

theorem wm768_is {l p c : FVec Ideal S768x256 .f32} {L P C : ℕ → ℕ → ℝ} (hl : Is2 l L) (hp : Is2 p P) (hc : Is2 c C) :
    Is2 (wm768 (F := Ideal) l p c) (fun r s => if s < r then Real.exp (L r s - (P r s + C r s)) else 0) := by
  intro r s
  have e : wm768 (F := Ideal) l p c (ix2 r s) = Scalar.select (IntOp.cmpi .slt (BitVec.ofNat 32 s) (BitVec.ofNat 32 r)) (w768 (F := Ideal) l p c (ix2 r s)) 0 := by
    pointwise [wm768, mask768]
  rw [e, w768_is hl hp hc, sel_slt (by omega) (by omega)]
  exact coe_ite _ _

theorem nc768_is {p c : FVec Ideal S768x256 .f32} {P C : ℕ → ℕ → ℝ} (hp : Is2 p P) (hc : Is2 c C) :
    Is3 (nc768 (F := Ideal) p c) (fun _ r _ => C r 0 + P r 0) := by
  intro i r t
  have e : nc768 (F := Ideal) p c (ix3 i r t) = c (ix2 r 0) + p (ix2 r 0) := by pointwise [nc768]
  rw [e, hp, hc, EReal.coe_add]; rfl

theorem cs768_is {cy : Vec Ideal S1x768x1 .f32} {x : Vec Ideal S1x768x128 .f32} {C X : ℕ → ℕ → ℕ → ℝ} (p : ℕ) (hp : p < 128) (hc : Is3 cy C) (hx : Is3 x X) :
    Is3 (cs768 (F := Ideal) (BitVec.ofNat 32 p) cy x) (fun _ r j => X 0 r j + if j = p then C 0 r 0 else 0) := by
  intro i r j
  have e : cs768 (F := Ideal) (BitVec.ofNat 32 p) cy x (ix3 i r j)
      = x (ix3 0 r j) + Scalar.select (IntOp.cmpi .eq (BitVec.ofNat 32 j) (BitVec.ofNat 32 p)) (cy (ix3 0 r 0)) 0 := by pointwise [cs768]
  rw [e, sel_eq (by omega) (by omega), hc, hx, EReal.coe_add]
  exact congrArg _ (coe_ite _ _)

/-- The lines of a block that holds the rows' own keys. -/
def rows768m : Rows F 768 := ⟨lg768, spm768, cu768, wm768, nn768, nc768, cs768⟩

theorem rows768m_ok : (rows768m (F := Ideal)).Ok (fun r s => s < r) :=
  ⟨lg768_is, spm768_is, cu768_is, wm768_is, nn768_is, nc768_is, cs768_is⟩

/-! ## 512 rows -/

/-- The weights. -/
def w512 (l p c : FVec F S512x256 .f32) : FVec F S512x256 .f32 := exp (subf l (addf p c))
/-- The weights where the mask holds. -/
def wm512 (l p c : FVec F S512x256 .f32) : FVec F S512x256 .f32 := select mask512 (w512 l p c) (broadcast S512x256 (Scalar.ofBits .f32 0x00000000#32 : F .f32))
/-- The new sum of the softplus. -/
def nc512 (p c : FVec F S512x256 .f32) : FVec F S1x512x1 .f32 :=
  shapeCast S1x512x1 (addf (extractStridedSlice S512x1 ![0, 0] c Cert.FwdIdeal.Gen.slices_S512x256_o0_0_S512x1)
    (extractStridedSlice S512x1 ![0, 0] p Cert.FwdIdeal.Gen.slices_S512x256_o0_0_S512x1)) shapeCasts_S512x1_S1x512x1
/-- The former sum set in its lane. -/
def cs512 (lane : BitVec 32) (cy : Vec F S1x512x1 .f32) (x : Vec F S1x512x128 .f32) : FVec F S1x512x128 .f32 :=
  shapeCast S1x512x128 (addf (shapeCast S512x128 x shapeCasts_S1x512x128_S512x128)
    (select (cmpi .eq (iota .tc S512x128 32 [1] iota_S512x128_d1_w32) (broadcast S512x128 lane))
      (broadcastTo S512x128 (shapeCast S512x1 (shapeCast S512x1 cy shapeCasts_S1x512x1_S512x1) Cert.FwdIdeal.Gen.shapeCasts_S512x1_S512x1) Cert.FwdIdeal.Gen.broadcasts_S512x1_S512x128)
      (broadcast S512x128 (Scalar.ofBits .f32 0x00000000#32 : F .f32)))) Cert.FwdIdeal.Gen.shapeCasts_S512x128_S1x512x128

theorem w512_is {l p c : FVec Ideal S512x256 .f32} {L P C : ℕ → ℕ → ℝ} (hl : Is2 l L) (hp : Is2 p P) (hc : Is2 c C) :
    Is2 (w512 (F := Ideal) l p c) (fun r s => Real.exp (L r s - (P r s + C r s))) := by
  intro r s
  have e : w512 (F := Ideal) l p c (ix2 r s) = Ideal.exp (l (ix2 r s) - (p (ix2 r s) + c (ix2 r s))) := by pointwise [w512]
  rw [e, hl, hp, hc, ← EReal.coe_add, ← EReal.coe_sub, Ideal.exp_coe]

theorem wm512_is {l p c : FVec Ideal S512x256 .f32} {L P C : ℕ → ℕ → ℝ} (hl : Is2 l L) (hp : Is2 p P) (hc : Is2 c C) :
    Is2 (wm512 (F := Ideal) l p c) (fun r s => if s < r then Real.exp (L r s - (P r s + C r s)) else 0) := by
  intro r s
  have e : wm512 (F := Ideal) l p c (ix2 r s) = Scalar.select (IntOp.cmpi .slt (BitVec.ofNat 32 s) (BitVec.ofNat 32 r)) (w512 (F := Ideal) l p c (ix2 r s)) 0 := by
    pointwise [wm512, mask512]
  rw [e, w512_is hl hp hc, sel_slt (by omega) (by omega)]
  exact coe_ite _ _

theorem nc512_is {p c : FVec Ideal S512x256 .f32} {P C : ℕ → ℕ → ℝ} (hp : Is2 p P) (hc : Is2 c C) :
    Is3 (nc512 (F := Ideal) p c) (fun _ r _ => C r 0 + P r 0) := by
  intro i r t
  have e : nc512 (F := Ideal) p c (ix3 i r t) = c (ix2 r 0) + p (ix2 r 0) := by pointwise [nc512]
  rw [e, hp, hc, EReal.coe_add]; rfl

theorem cs512_is {cy : Vec Ideal S1x512x1 .f32} {x : Vec Ideal S1x512x128 .f32} {C X : ℕ → ℕ → ℕ → ℝ} (p : ℕ) (hp : p < 128) (hc : Is3 cy C) (hx : Is3 x X) :
    Is3 (cs512 (F := Ideal) (BitVec.ofNat 32 p) cy x) (fun _ r j => X 0 r j + if j = p then C 0 r 0 else 0) := by
  intro i r j
  have e : cs512 (F := Ideal) (BitVec.ofNat 32 p) cy x (ix3 i r j)
      = x (ix3 0 r j) + Scalar.select (IntOp.cmpi .eq (BitVec.ofNat 32 j) (BitVec.ofNat 32 p)) (cy (ix3 0 r 0)) 0 := by pointwise [cs512]
  rw [e, sel_eq (by omega) (by omega), hc, hx, EReal.coe_add]
  exact congrArg _ (coe_ite _ _)

/-- The lines of a block that holds the rows' own keys. -/
def rows512m : Rows F 512 := ⟨lg512, spm512, cu512, wm512, nn512, nc512, cs512⟩

theorem rows512m_ok : (rows512m (F := Ideal)).Ok (fun r s => s < r) :=
  ⟨lg512_is, spm512_is, cu512_is, wm512_is, nn512_is, nc512_is, cs512_is⟩

/-! ## 256 rows -/

/-- The weights. -/
def w256 (l p c : FVec F S256x256 .f32) : FVec F S256x256 .f32 := exp (subf l (addf p c))
/-- The weights where the mask holds. -/
def wm256 (l p c : FVec F S256x256 .f32) : FVec F S256x256 .f32 := select mask256 (w256 l p c) (broadcast S256x256 (Scalar.ofBits .f32 0x00000000#32 : F .f32))
/-- The new sum of the softplus. -/
def nc256 (p c : FVec F S256x256 .f32) : FVec F S1x256x1 .f32 :=
  shapeCast S1x256x1 (addf (extractStridedSlice S256x1 ![0, 0] c Cert.FwdIdeal.Gen.slices_S256x256_o0_0_S256x1)
    (extractStridedSlice S256x1 ![0, 0] p Cert.FwdIdeal.Gen.slices_S256x256_o0_0_S256x1)) shapeCasts_S256x1_S1x256x1
/-- The former sum set in its lane. -/
def cs256 (lane : BitVec 32) (cy : Vec F S1x256x1 .f32) (x : Vec F S1x256x128 .f32) : FVec F S1x256x128 .f32 :=
  shapeCast S1x256x128 (addf (shapeCast S256x128 x shapeCasts_S1x256x128_S256x128)
    (select (cmpi .eq (iota .tc S256x128 32 [1] iota_S256x128_d1_w32) (broadcast S256x128 lane))
      (broadcastTo S256x128 (shapeCast S256x1 (shapeCast S256x1 cy shapeCasts_S1x256x1_S256x1) Cert.FwdIdeal.Gen.shapeCasts_S256x1_S256x1) Cert.FwdIdeal.Gen.broadcasts_S256x1_S256x128)
      (broadcast S256x128 (Scalar.ofBits .f32 0x00000000#32 : F .f32)))) Cert.FwdIdeal.Gen.shapeCasts_S256x128_S1x256x128

theorem w256_is {l p c : FVec Ideal S256x256 .f32} {L P C : ℕ → ℕ → ℝ} (hl : Is2 l L) (hp : Is2 p P) (hc : Is2 c C) :
    Is2 (w256 (F := Ideal) l p c) (fun r s => Real.exp (L r s - (P r s + C r s))) := by
  intro r s
  have e : w256 (F := Ideal) l p c (ix2 r s) = Ideal.exp (l (ix2 r s) - (p (ix2 r s) + c (ix2 r s))) := by pointwise [w256]
  rw [e, hl, hp, hc, ← EReal.coe_add, ← EReal.coe_sub, Ideal.exp_coe]

theorem wm256_is {l p c : FVec Ideal S256x256 .f32} {L P C : ℕ → ℕ → ℝ} (hl : Is2 l L) (hp : Is2 p P) (hc : Is2 c C) :
    Is2 (wm256 (F := Ideal) l p c) (fun r s => if s < r then Real.exp (L r s - (P r s + C r s)) else 0) := by
  intro r s
  have e : wm256 (F := Ideal) l p c (ix2 r s) = Scalar.select (IntOp.cmpi .slt (BitVec.ofNat 32 s) (BitVec.ofNat 32 r)) (w256 (F := Ideal) l p c (ix2 r s)) 0 := by
    pointwise [wm256, mask256]
  rw [e, w256_is hl hp hc, sel_slt (by omega) (by omega)]
  exact coe_ite _ _

theorem nc256_is {p c : FVec Ideal S256x256 .f32} {P C : ℕ → ℕ → ℝ} (hp : Is2 p P) (hc : Is2 c C) :
    Is3 (nc256 (F := Ideal) p c) (fun _ r _ => C r 0 + P r 0) := by
  intro i r t
  have e : nc256 (F := Ideal) p c (ix3 i r t) = c (ix2 r 0) + p (ix2 r 0) := by pointwise [nc256]
  rw [e, hp, hc, EReal.coe_add]; rfl

theorem cs256_is {cy : Vec Ideal S1x256x1 .f32} {x : Vec Ideal S1x256x128 .f32} {C X : ℕ → ℕ → ℕ → ℝ} (p : ℕ) (hp : p < 128) (hc : Is3 cy C) (hx : Is3 x X) :
    Is3 (cs256 (F := Ideal) (BitVec.ofNat 32 p) cy x) (fun _ r j => X 0 r j + if j = p then C 0 r 0 else 0) := by
  intro i r j
  have e : cs256 (F := Ideal) (BitVec.ofNat 32 p) cy x (ix3 i r j)
      = x (ix3 0 r j) + Scalar.select (IntOp.cmpi .eq (BitVec.ofNat 32 j) (BitVec.ofNat 32 p)) (cy (ix3 0 r 0)) 0 := by pointwise [cs256]
  rw [e, sel_eq (by omega) (by omega), hc, hx, EReal.coe_add]
  exact congrArg _ (coe_ite _ _)

/-- The lines of a block that holds the rows' own keys. -/
def rows256m : Rows F 256 := ⟨lg256, spm256, cu256, wm256, nn256, nc256, cs256⟩

theorem rows256m_ok : (rows256m (F := Ideal)).Ok (fun r s => s < r) :=
  ⟨lg256_is, spm256_is, cu256_is, wm256_is, nn256_is, nc256_is, cs256_is⟩

/-- The lines of a block of earlier keys. -/
def rows1024 : Rows F 1024 := ⟨lg1024, sp1024, cu1024, w1024, nn1024, nc1024, cs1024⟩

theorem rows1024_ok : (rows1024 (F := Ideal)).Ok (fun _ _ => True) :=
  ⟨lg1024_is, fun h => (sp1024_is h).congr fun _ _ _ _ => (if_pos trivial).symm, cu1024_is, fun h h' h'' => (w1024_is h h' h'').congr fun _ _ _ _ => (if_pos trivial).symm, nn1024_is, nc1024_is, cs1024_is⟩

end Cert.Fw
-- ==== Proof.FwdRun.lean ====
module

public import proofs.«01_k».proof.Proof.FwdStep
public import proofs.«01_k».proof.Proof.Outs

/-! # The blocks of a tile's own keys in the attention's forward call

The stores of each block, read back, are the block's step of what was read before. -/

set_option maxRecDepth 16384

@[expose] public section

noncomputable section

open Idealize.ShloMosaic Idealize.ShloMosaic.TcCoe Idealize.SL.Sem

namespace Cert.Fw

open Cert.Attn (put read_put qh0 qh1 put_whole2 put_whole3)
open Cert.FwdIdeal Cert.FwdIdeal.Gen

variable {F : FTy → Type} [FloatOps F] [Named F]

/-- What the three buffers read after their stores. -/
def rd (a10 : Memref sig .tc .vmem S1x1024x128 .f32) (a11 : Memref sig .tc .vmem S2x1024x1 .f32) (a12 : Memref sig .tc .vmem S1024x128 .f32)
    (l7 : List (View.Piece (Elt F) S1x1024x128 .f32)) (l0 : List (View.Piece (Elt F) S2x1024x1 .f32)) (l1 : List (View.Piece (Elt F) S1024x128 .f32)) : St F :=
  ⟨a10.view.read (Elt F) (a10.view.writes (Elt F) a10.view.junk l7), a11.view.read (Elt F) (a11.view.writes (Elt F) a11.view.junk l0),
    a12.view.read (Elt F) (a12.view.writes (Elt F) a12.view.junk l1)⟩

/-- The lane of a head and a block of the tile's own keys. -/
def ln (h : BitVec 32) (i : grid0.Coords) (j : BitVec 32) : BitVec 32 :=
  Scalar.addi h (Scalar.addi (Scalar.muli 4#32 (BitVec.ofNat 32 (i 2).val)) j)

/-- Block 3 of the tile's own keys, head 0. -/
def g1 (i : grid0.Coords) (x0 : Vec F S1024x128 .bf16) (x1 x2 : Vec F S2048x128 .bf16) (s : St F) : St F :=
  step rows256m (ln 0#32 i 3#32) (extractStridedSlice S256x64 ![768, 0] (qh0 x0) slices_S1024x64_o768_0_S256x64) x1 x2 (k0_off1 i 3#32) (k0_off1_inb i 3)
      ![0, 768, 0] inb_S1x1024x128_S1x256x128_0_768_0 ![0, 768, 0] inb_S2x1024x1_S1x256x1_0_768_0 ![768, 0] inb_S1024x128_S256x64_768_0 s
/-- Block 3 of the tile's own keys, head 1. -/
def g2 (i : grid0.Coords) (x0 : Vec F S1024x128 .bf16) (x1 x2 : Vec F S2048x128 .bf16) (s : St F) : St F :=
  step rows256m (ln 64#32 i 3#32) (extractStridedSlice S256x64 ![768, 0] (qh1 x0) slices_S1024x64_o768_0_S256x64) x1 x2 (k0_off2 i 3#32) (k0_off2_inb i 3)
      ![0, 768, 0] inb_S1x1024x128_S1x256x128_0_768_0 ![1, 768, 0] inb_S2x1024x1_S1x256x1_1_768_0 ![768, 64] inb_S1024x128_S256x64_768_64 s
/-- Block 2 of the tile's own keys, head 0. -/
def g3 (i : grid0.Coords) (x0 : Vec F S1024x128 .bf16) (x1 x2 : Vec F S2048x128 .bf16) (s : St F) : St F :=
  step rows512m (ln 0#32 i 2#32) (extractStridedSlice S512x64 ![512, 0] (qh0 x0) slices_S1024x64_o512_0_S512x64) x1 x2 (k0_off1 i 2#32) (k0_off1_inb i 2)
      ![0, 512, 0] inb_S1x1024x128_S1x512x128_0_512_0 ![0, 512, 0] inb_S2x1024x1_S1x512x1_0_512_0 ![512, 0] inb_S1024x128_S512x64_512_0 s
/-- Block 2 of the tile's own keys, head 1. -/
def g4 (i : grid0.Coords) (x0 : Vec F S1024x128 .bf16) (x1 x2 : Vec F S2048x128 .bf16) (s : St F) : St F :=
  step rows512m (ln 64#32 i 2#32) (extractStridedSlice S512x64 ![512, 0] (qh1 x0) slices_S1024x64_o512_0_S512x64) x1 x2 (k0_off2 i 2#32) (k0_off2_inb i 2)
      ![0, 512, 0] inb_S1x1024x128_S1x512x128_0_512_0 ![1, 512, 0] inb_S2x1024x1_S1x512x1_1_512_0 ![512, 64] inb_S1024x128_S512x64_512_64 s
/-- Block 1 of the tile's own keys, head 0. -/
def g5 (i : grid0.Coords) (x0 : Vec F S1024x128 .bf16) (x1 x2 : Vec F S2048x128 .bf16) (s : St F) : St F :=
  step rows768m (ln 0#32 i 1#32) (extractStridedSlice S768x64 ![256, 0] (qh0 x0) slices_S1024x64_o256_0_S768x64) x1 x2 (k0_off1 i 1#32) (k0_off1_inb i 1)
      ![0, 256, 0] inb_S1x1024x128_S1x768x128_0_256_0 ![0, 256, 0] inb_S2x1024x1_S1x768x1_0_256_0 ![256, 0] inb_S1024x128_S768x64_256_0 s
/-- Block 1 of the tile's own keys, head 1. -/
def g6 (i : grid0.Coords) (x0 : Vec F S1024x128 .bf16) (x1 x2 : Vec F S2048x128 .bf16) (s : St F) : St F :=
  step rows768m (ln 64#32 i 1#32) (extractStridedSlice S768x64 ![256, 0] (qh1 x0) slices_S1024x64_o256_0_S768x64) x1 x2 (k0_off2 i 1#32) (k0_off2_inb i 1)
      ![0, 256, 0] inb_S1x1024x128_S1x768x128_0_256_0 ![1, 256, 0] inb_S2x1024x1_S1x768x1_1_256_0 ![256, 64] inb_S1024x128_S768x64_256_64 s
/-- Block 0 of the tile's own keys, head 0. -/
def g7 (i : grid0.Coords) (x0 : Vec F S1024x128 .bf16) (x1 x2 : Vec F S2048x128 .bf16) (s : St F) : St F :=
  step rows1024m (ln 0#32 i 0#32) (qh0 x0) x1 x2 (k0_off1 i 0#32) (k0_off1_inb i 0)
      ![0, 0, 0] inb_S1x1024x128_S1x1024x128_0_0_0 ![0, 0, 0] inb_S2x1024x1_S1x1024x1_0_0_0 ![0, 0] inb_S1024x128_S1024x64_0_0 s
/-- Block 0 of the tile's own keys, head 1. -/
def g8 (i : grid0.Coords) (x0 : Vec F S1024x128 .bf16) (x1 x2 : Vec F S2048x128 .bf16) (s : St F) : St F :=
  step rows1024m (ln 64#32 i 0#32) (qh1 x0) x1 x2 (k0_off2 i 0#32) (k0_off2_inb i 0)
      ![0, 0, 0] inb_S1x1024x128_S1x1024x128_0_0_0 ![1, 0, 0] inb_S2x1024x1_S1x1024x1_1_0_0 ![0, 64] inb_S1024x128_S1024x64_0_64 s
/-- Zeros. -/
def ini : St F := ⟨Cert.FwdIdeal.Gen.k0_pay39, Cert.FwdIdeal.Gen.k0_pay37, Cert.FwdIdeal.Gen.k0_pay38⟩
/-- All the blocks of the tile's own keys. -/
def own (i : grid0.Coords) (x0 : Vec F S1024x128 .bf16) (x1 x2 : Vec F S2048x128 .bf16) : St F :=
  g8 i x0 x1 x2 (g7 i x0 x1 x2 (g6 i x0 x1 x2 (g5 i x0 x1 x2 (g4 i x0 x1 x2 (g3 i x0 x1 x2 (g2 i x0 x1 x2 (g1 i x0 x1 x2 ini)))))))

theorem St.mk_eq {a a' : Vec F S1x1024x128 .f32} {b b' : Vec F S2x1024x1 .f32} {d d' : Vec F S1024x128 .f32} (h : a = a') (h' : b = b') (h'' : d = d') :
    (⟨a, b, d⟩ : St F) = ⟨a', b', d'⟩ := by rw [h, h', h'']

section
variable (c : Dev nD) (i : grid0.Coords)
  (a3 : Memref sig .tc .vmem S1024x128 .bf16) (harg3 : a3.IsWhole)
  (a4 : Memref sig .tc .vmem S2048x128 .bf16) (harg4 : a4.IsWhole)
  (a5 : Memref sig .tc .vmem S2048x128 .bf16) (harg5 : a5.IsWhole)
  (a10 : Memref sig .tc .vmem S1x1024x128 .f32)
  (a11 : Memref sig .tc .vmem S2x1024x1 .f32)
  (a12 : Memref sig .tc .vmem S1024x128 .f32)
  (x0 : Vec F S1024x128 .bf16) (x1 x2 : Vec F S2048x128 .bf16)

theorem r0_eq : kernelRun0_A.sl.r c a3 harg3 x0 = qh0 x0 :=
  congrArg (fun z : Vec F S1024x128 .bf16 => qh0 z) (harg3.read_unread x0)
theorem r1_eq : kernelRun0_A.sl.r_1 c a3 harg3 x0 = qh1 x0 :=
  congrArg (fun z : Vec F S1024x128 .bf16 => qh1 z) (harg3.read_unread x0)

/-- The stores of block 3, head 0. -/
theorem s1 : rd a10 a11 a12 (kernelRun0_A.sl.H7_2 c i a10 a11) (kernelRun0_A.sl.HS0_2 c i a3 harg3 a4 harg4 a11 x0 x1) (kernelRun0_A.sl.HS1_2 c i a3 harg3 a4 harg4 a5 harg5 a11 a12 x0 x1 x2)
    = g1 i x0 x1 x2 (rd a10 a11 a12 (kernelRun0_A.sl.H7_1 (F := F)) (kernelRun0_A.sl.HS0_1 (F := F)) (kernelRun0_A.sl.HS1_1 (F := F))) := by
  have e : rd a10 a11 a12 (kernelRun0_A.sl.H7_2 c i a10 a11) (kernelRun0_A.sl.HS0_2 c i a3 harg3 a4 harg4 a11 x0 x1) (kernelRun0_A.sl.HS1_2 c i a3 harg3 a4 harg4 a5 harg5 a11 a12 x0 x1 x2)
    = step rows256m (ln 0#32 i 3#32) (extractStridedSlice S256x64 ![768, 0] (kernelRun0_A.sl.r c a3 harg3 x0) slices_S1024x64_o768_0_S256x64) (a4.view.read (Elt F) (harg4.unread x1)) (a5.view.read (Elt F) (harg5.unread x2)) (k0_off1 i 3#32) (k0_off1_inb i 3)
      ![0, 768, 0] inb_S1x1024x128_S1x256x128_0_768_0 ![0, 768, 0] inb_S2x1024x1_S1x256x1_0_768_0 ![768, 0] inb_S1024x128_S256x64_768_0 (rd a10 a11 a12 (kernelRun0_A.sl.H7_1 (F := F)) (kernelRun0_A.sl.HS0_1 (F := F)) (kernelRun0_A.sl.HS1_1 (F := F))) :=
    St.mk_eq ((read_put ..).trans rfl) ((read_put ..).trans rfl) ((read_put ..).trans rfl)
  rw [e, r0_eq, harg4.read_unread, harg5.read_unread]; rfl

/-- The stores of block 3, head 1. -/
theorem s2 : rd a10 a11 a12 (kernelRun0_A.sl.H7_3 c i a3 harg3 a4 harg4 a10 a11 x0 x1) (kernelRun0_A.sl.HS0_3 c i a3 harg3 a4 harg4 a11 x0 x1) (kernelRun0_A.sl.HS1_3 c i a3 harg3 a4 harg4 a5 harg5 a11 a12 x0 x1 x2)
    = g2 i x0 x1 x2 (rd a10 a11 a12 (kernelRun0_A.sl.H7_2 c i a10 a11) (kernelRun0_A.sl.HS0_2 c i a3 harg3 a4 harg4 a11 x0 x1) (kernelRun0_A.sl.HS1_2 c i a3 harg3 a4 harg4 a5 harg5 a11 a12 x0 x1 x2)) := by
  have e : rd a10 a11 a12 (kernelRun0_A.sl.H7_3 c i a3 harg3 a4 harg4 a10 a11 x0 x1) (kernelRun0_A.sl.HS0_3 c i a3 harg3 a4 harg4 a11 x0 x1) (kernelRun0_A.sl.HS1_3 c i a3 harg3 a4 harg4 a5 harg5 a11 a12 x0 x1 x2)
    = step rows256m (ln 64#32 i 3#32) (extractStridedSlice S256x64 ![768, 0] (kernelRun0_A.sl.r_1 c a3 harg3 x0) slices_S1024x64_o768_0_S256x64) (a4.view.read (Elt F) (harg4.unread x1)) (a5.view.read (Elt F) (harg5.unread x2)) (k0_off2 i 3#32) (k0_off2_inb i 3)
      ![0, 768, 0] inb_S1x1024x128_S1x256x128_0_768_0 ![1, 768, 0] inb_S2x1024x1_S1x256x1_1_768_0 ![768, 64] inb_S1024x128_S256x64_768_64 (rd a10 a11 a12 (kernelRun0_A.sl.H7_2 c i a10 a11) (kernelRun0_A.sl.HS0_2 c i a3 harg3 a4 harg4 a11 x0 x1) (kernelRun0_A.sl.HS1_2 c i a3 harg3 a4 harg4 a5 harg5 a11 a12 x0 x1 x2)) :=
    St.mk_eq ((read_put ..).trans rfl) ((read_put ..).trans rfl) ((read_put ..).trans rfl)
  rw [e, r1_eq, harg4.read_unread, harg5.read_unread]; rfl

/-- The stores of block 2, head 0. -/
theorem s3 : rd a10 a11 a12 (kernelRun0_A.sl.H7_4 c i a3 harg3 a4 harg4 a10 a11 x0 x1) (kernelRun0_A.sl.HS0_4 c i a3 harg3 a4 harg4 a11 x0 x1) (kernelRun0_A.sl.HS1_4 c i a3 harg3 a4 harg4 a5 harg5 a11 a12 x0 x1 x2)
    = g3 i x0 x1 x2 (rd a10 a11 a12 (kernelRun0_A.sl.H7_3 c i a3 harg3 a4 harg4 a10 a11 x0 x1) (kernelRun0_A.sl.HS0_3 c i a3 harg3 a4 harg4 a11 x0 x1) (kernelRun0_A.sl.HS1_3 c i a3 harg3 a4 harg4 a5 harg5 a11 a12 x0 x1 x2)) := by
  have e : rd a10 a11 a12 (kernelRun0_A.sl.H7_4 c i a3 harg3 a4 harg4 a10 a11 x0 x1) (kernelRun0_A.sl.HS0_4 c i a3 harg3 a4 harg4 a11 x0 x1) (kernelRun0_A.sl.HS1_4 c i a3 harg3 a4 harg4 a5 harg5 a11 a12 x0 x1 x2)
    = step rows512m (ln 0#32 i 2#32) (extractStridedSlice S512x64 ![512, 0] (kernelRun0_A.sl.r c a3 harg3 x0) slices_S1024x64_o512_0_S512x64) (a4.view.read (Elt F) (harg4.unread x1)) (a5.view.read (Elt F) (harg5.unread x2)) (k0_off1 i 2#32) (k0_off1_inb i 2)
      ![0, 512, 0] inb_S1x1024x128_S1x512x128_0_512_0 ![0, 512, 0] inb_S2x1024x1_S1x512x1_0_512_0 ![512, 0] inb_S1024x128_S512x64_512_0 (rd a10 a11 a12 (kernelRun0_A.sl.H7_3 c i a3 harg3 a4 harg4 a10 a11 x0 x1) (kernelRun0_A.sl.HS0_3 c i a3 harg3 a4 harg4 a11 x0 x1) (kernelRun0_A.sl.HS1_3 c i a3 harg3 a4 harg4 a5 harg5 a11 a12 x0 x1 x2)) :=
    St.mk_eq ((read_put ..).trans rfl) ((read_put ..).trans rfl) ((read_put ..).trans rfl)
  rw [e, r0_eq, harg4.read_unread, harg5.read_unread]; rfl

/-- The stores of block 2, head 1. -/
theorem s4 : rd a10 a11 a12 (kernelRun0_A.sl.H7_5 c i a3 harg3 a4 harg4 a10 a11 x0 x1) (kernelRun0_A.sl.HS0_5 c i a3 harg3 a4 harg4 a11 x0 x1) (kernelRun0_A.sl.HS1_5 c i a3 harg3 a4 harg4 a5 harg5 a11 a12 x0 x1 x2)
    = g4 i x0 x1 x2 (rd a10 a11 a12 (kernelRun0_A.sl.H7_4 c i a3 harg3 a4 harg4 a10 a11 x0 x1) (kernelRun0_A.sl.HS0_4 c i a3 harg3 a4 harg4 a11 x0 x1) (kernelRun0_A.sl.HS1_4 c i a3 harg3 a4 harg4 a5 harg5 a11 a12 x0 x1 x2)) := by
  have e : rd a10 a11 a12 (kernelRun0_A.sl.H7_5 c i a3 harg3 a4 harg4 a10 a11 x0 x1) (kernelRun0_A.sl.HS0_5 c i a3 harg3 a4 harg4 a11 x0 x1) (kernelRun0_A.sl.HS1_5 c i a3 harg3 a4 harg4 a5 harg5 a11 a12 x0 x1 x2)
    = step rows512m (ln 64#32 i 2#32) (extractStridedSlice S512x64 ![512, 0] (kernelRun0_A.sl.r_1 c a3 harg3 x0) slices_S1024x64_o512_0_S512x64) (a4.view.read (Elt F) (harg4.unread x1)) (a5.view.read (Elt F) (harg5.unread x2)) (k0_off2 i 2#32) (k0_off2_inb i 2)
      ![0, 512, 0] inb_S1x1024x128_S1x512x128_0_512_0 ![1, 512, 0] inb_S2x1024x1_S1x512x1_1_512_0 ![512, 64] inb_S1024x128_S512x64_512_64 (rd a10 a11 a12 (kernelRun0_A.sl.H7_4 c i a3 harg3 a4 harg4 a10 a11 x0 x1) (kernelRun0_A.sl.HS0_4 c i a3 harg3 a4 harg4 a11 x0 x1) (kernelRun0_A.sl.HS1_4 c i a3 harg3 a4 harg4 a5 harg5 a11 a12 x0 x1 x2)) :=
    St.mk_eq ((read_put ..).trans rfl) ((read_put ..).trans rfl) ((read_put ..).trans rfl)
  rw [e, r1_eq, harg4.read_unread, harg5.read_unread]; rfl

/-- The stores of block 1, head 0. -/
theorem s5 : rd a10 a11 a12 (kernelRun0_A.sl.H7_6 c i a3 harg3 a4 harg4 a10 a11 x0 x1) (kernelRun0_A.sl.HS0_6 c i a3 harg3 a4 harg4 a11 x0 x1) (kernelRun0_A.sl.HS1_6 c i a3 harg3 a4 harg4 a5 harg5 a11 a12 x0 x1 x2)
    = g5 i x0 x1 x2 (rd a10 a11 a12 (kernelRun0_A.sl.H7_5 c i a3 harg3 a4 harg4 a10 a11 x0 x1) (kernelRun0_A.sl.HS0_5 c i a3 harg3 a4 harg4 a11 x0 x1) (kernelRun0_A.sl.HS1_5 c i a3 harg3 a4 harg4 a5 harg5 a11 a12 x0 x1 x2)) := by
  have e : rd a10 a11 a12 (kernelRun0_A.sl.H7_6 c i a3 harg3 a4 harg4 a10 a11 x0 x1) (kernelRun0_A.sl.HS0_6 c i a3 harg3 a4 harg4 a11 x0 x1) (kernelRun0_A.sl.HS1_6 c i a3 harg3 a4 harg4 a5 harg5 a11 a12 x0 x1 x2)
    = step rows768m (ln 0#32 i 1#32) (extractStridedSlice S768x64 ![256, 0] (kernelRun0_A.sl.r c a3 harg3 x0) slices_S1024x64_o256_0_S768x64) (a4.view.read (Elt F) (harg4.unread x1)) (a5.view.read (Elt F) (harg5.unread x2)) (k0_off1 i 1#32) (k0_off1_inb i 1)
      ![0, 256, 0] inb_S1x1024x128_S1x768x128_0_256_0 ![0, 256, 0] inb_S2x1024x1_S1x768x1_0_256_0 ![256, 0] inb_S1024x128_S768x64_256_0 (rd a10 a11 a12 (kernelRun0_A.sl.H7_5 c i a3 harg3 a4 harg4 a10 a11 x0 x1) (kernelRun0_A.sl.HS0_5 c i a3 harg3 a4 harg4 a11 x0 x1) (kernelRun0_A.sl.HS1_5 c i a3 harg3 a4 harg4 a5 harg5 a11 a12 x0 x1 x2)) :=
    St.mk_eq ((read_put ..).trans rfl) ((read_put ..).trans rfl) ((read_put ..).trans rfl)
  rw [e, r0_eq, harg4.read_unread, harg5.read_unread]; rfl

/-- The stores of block 1, head 1. -/
theorem s6 : rd a10 a11 a12 (kernelRun0_A.sl.H7_7 c i a3 harg3 a4 harg4 a10 a11 x0 x1) (kernelRun0_A.sl.HS0_7 c i a3 harg3 a4 harg4 a11 x0 x1) (kernelRun0_A.sl.HS1_7 c i a3 harg3 a4 harg4 a5 harg5 a11 a12 x0 x1 x2)
    = g6 i x0 x1 x2 (rd a10 a11 a12 (kernelRun0_A.sl.H7_6 c i a3 harg3 a4 harg4 a10 a11 x0 x1) (kernelRun0_A.sl.HS0_6 c i a3 harg3 a4 harg4 a11 x0 x1) (kernelRun0_A.sl.HS1_6 c i a3 harg3 a4 harg4 a5 harg5 a11 a12 x0 x1 x2)) := by
  have e : rd a10 a11 a12 (kernelRun0_A.sl.H7_7 c i a3 harg3 a4 harg4 a10 a11 x0 x1) (kernelRun0_A.sl.HS0_7 c i a3 harg3 a4 harg4 a11 x0 x1) (kernelRun0_A.sl.HS1_7 c i a3 harg3 a4 harg4 a5 harg5 a11 a12 x0 x1 x2)
    = step rows768m (ln 64#32 i 1#32) (extractStridedSlice S768x64 ![256, 0] (kernelRun0_A.sl.r_1 c a3 harg3 x0) slices_S1024x64_o256_0_S768x64) (a4.view.read (Elt F) (harg4.unread x1)) (a5.view.read (Elt F) (harg5.unread x2)) (k0_off2 i 1#32) (k0_off2_inb i 1)
      ![0, 256, 0] inb_S1x1024x128_S1x768x128_0_256_0 ![1, 256, 0] inb_S2x1024x1_S1x768x1_1_256_0 ![256, 64] inb_S1024x128_S768x64_256_64 (rd a10 a11 a12 (kernelRun0_A.sl.H7_6 c i a3 harg3 a4 harg4 a10 a11 x0 x1) (kernelRun0_A.sl.HS0_6 c i a3 harg3 a4 harg4 a11 x0 x1) (kernelRun0_A.sl.HS1_6 c i a3 harg3 a4 harg4 a5 harg5 a11 a12 x0 x1 x2)) :=
    St.mk_eq ((read_put ..).trans rfl) ((read_put ..).trans rfl) ((read_put ..).trans rfl)
  rw [e, r1_eq, harg4.read_unread, harg5.read_unread]; rfl

/-- The stores of block 0, head 0. -/
theorem s7 : rd a10 a11 a12 (kernelRun0_A.sl.H7_8 c i a3 harg3 a4 harg4 a10 a11 x0 x1) (kernelRun0_A.sl.HS0_8 c i a3 harg3 a4 harg4 a11 x0 x1) (kernelRun0_A.sl.HS1_8 c i a3 harg3 a4 harg4 a5 harg5 a11 a12 x0 x1 x2)
    = g7 i x0 x1 x2 (rd a10 a11 a12 (kernelRun0_A.sl.H7_7 c i a3 harg3 a4 harg4 a10 a11 x0 x1) (kernelRun0_A.sl.HS0_7 c i a3 harg3 a4 harg4 a11 x0 x1) (kernelRun0_A.sl.HS1_7 c i a3 harg3 a4 harg4 a5 harg5 a11 a12 x0 x1 x2)) := by
  have e : rd a10 a11 a12 (kernelRun0_A.sl.H7_8 c i a3 harg3 a4 harg4 a10 a11 x0 x1) (kernelRun0_A.sl.HS0_8 c i a3 harg3 a4 harg4 a11 x0 x1) (kernelRun0_A.sl.HS1_8 c i a3 harg3 a4 harg4 a5 harg5 a11 a12 x0 x1 x2)
    = step rows1024m (ln 0#32 i 0#32) (kernelRun0_A.sl.r c a3 harg3 x0) (a4.view.read (Elt F) (harg4.unread x1)) (a5.view.read (Elt F) (harg5.unread x2)) (k0_off1 i 0#32) (k0_off1_inb i 0)
      ![0, 0, 0] inb_S1x1024x128_S1x1024x128_0_0_0 ![0, 0, 0] inb_S2x1024x1_S1x1024x1_0_0_0 ![0, 0] inb_S1024x128_S1024x64_0_0 (rd a10 a11 a12 (kernelRun0_A.sl.H7_7 c i a3 harg3 a4 harg4 a10 a11 x0 x1) (kernelRun0_A.sl.HS0_7 c i a3 harg3 a4 harg4 a11 x0 x1) (kernelRun0_A.sl.HS1_7 c i a3 harg3 a4 harg4 a5 harg5 a11 a12 x0 x1 x2)) :=
    St.mk_eq ((read_put ..).trans rfl) ((read_put ..).trans rfl) ((read_put ..).trans rfl)
  rw [e, r0_eq, harg4.read_unread, harg5.read_unread]; rfl

/-- The stores of block 0, head 1. -/
theorem s8 : rd a10 a11 a12 (kernelRun0_A.sl.H7_9 c i a3 harg3 a4 harg4 a10 a11 x0 x1) (kernelRun0_A.sl.HS0_9 c i a3 harg3 a4 harg4 a11 x0 x1) (kernelRun0_A.sl.HS1_9 c i a3 harg3 a4 harg4 a5 harg5 a11 a12 x0 x1 x2)
    = g8 i x0 x1 x2 (rd a10 a11 a12 (kernelRun0_A.sl.H7_8 c i a3 harg3 a4 harg4 a10 a11 x0 x1) (kernelRun0_A.sl.HS0_8 c i a3 harg3 a4 harg4 a11 x0 x1) (kernelRun0_A.sl.HS1_8 c i a3 harg3 a4 harg4 a5 harg5 a11 a12 x0 x1 x2)) := by
  have e : rd a10 a11 a12 (kernelRun0_A.sl.H7_9 c i a3 harg3 a4 harg4 a10 a11 x0 x1) (kernelRun0_A.sl.HS0_9 c i a3 harg3 a4 harg4 a11 x0 x1) (kernelRun0_A.sl.HS1_9 c i a3 harg3 a4 harg4 a5 harg5 a11 a12 x0 x1 x2)
    = step rows1024m (ln 64#32 i 0#32) (kernelRun0_A.sl.r_1 c a3 harg3 x0) (a4.view.read (Elt F) (harg4.unread x1)) (a5.view.read (Elt F) (harg5.unread x2)) (k0_off2 i 0#32) (k0_off2_inb i 0)
      ![0, 0, 0] inb_S1x1024x128_S1x1024x128_0_0_0 ![1, 0, 0] inb_S2x1024x1_S1x1024x1_1_0_0 ![0, 64] inb_S1024x128_S1024x64_0_64 (rd a10 a11 a12 (kernelRun0_A.sl.H7_8 c i a3 harg3 a4 harg4 a10 a11 x0 x1) (kernelRun0_A.sl.HS0_8 c i a3 harg3 a4 harg4 a11 x0 x1) (kernelRun0_A.sl.HS1_8 c i a3 harg3 a4 harg4 a5 harg5 a11 a12 x0 x1 x2)) :=
    St.mk_eq ((read_put ..).trans rfl) ((read_put ..).trans rfl) ((read_put ..).trans rfl)
  rw [e, r1_eq, harg4.read_unread, harg5.read_unread]; rfl

/-- The stores before the blocks. -/
theorem s0 : rd a10 a11 a12 (kernelRun0_A.sl.H7_1 (F := F)) (kernelRun0_A.sl.HS0_1 (F := F)) (kernelRun0_A.sl.HS1_1 (F := F)) = ini :=
  St.mk_eq ((read_put ..).trans (put_whole3 _ _)) ((read_put ..).trans (put_whole3 _ _)) ((read_put ..).trans (put_whole2 _ _))

/-- The stores of all the blocks. -/
theorem own_eq : rd a10 a11 a12 (kernelRun0_A.sl.H7_9 c i a3 harg3 a4 harg4 a10 a11 x0 x1) (kernelRun0_A.sl.HS0_9 c i a3 harg3 a4 harg4 a11 x0 x1) (kernelRun0_A.sl.HS1_9 c i a3 harg3 a4 harg4 a5 harg5 a11 a12 x0 x1 x2) = own i x0 x1 x2 := by
  rw [s8, s7, s6, s5, s4, s3, s2, s1, s0]; rfl

end

end Cert.Fw
-- ==== Proof.FwdTrip.lean ====
module

public import proofs.«01_k».proof.Proof.FwdRun

/-! # The loop over the earlier keys in the attention's forward call -/

set_option maxRecDepth 16384

@[expose] public section

noncomputable section

open Idealize.ShloMosaic Idealize.ShloMosaic.TcCoe Idealize.SL.Sem

namespace Cert.Fw

open Cert.Attn (put read_put qh0 qh1 put_whole3)
open Cert.FwdIdeal Cert.FwdIdeal.Gen

variable {F : FTy → Type} [FloatOps F] [Named F]

/-- The lane of a head and the block of a trip: the blocks are walked from the last. -/
def lt (h : BitVec 32) (i : grid0.Coords) (k : ℕ) : BitVec 32 :=
  Scalar.addi h (Scalar.subi (Scalar.subi (Scalar.muli 4#32 (BitVec.ofNat 32 (i 2).val)) 1#32) (Scf.iv 0#32 1#32 k))

/-- A trip's block of the first head. -/
def tA (i : grid0.Coords) (x0 : Vec F S1024x128 .bf16) (x1 x2 : Vec F S2048x128 .bf16) (k : Fin (k0_t1_loop i).trips) (s : St F) : St F :=
  step rows1024 (lt 0#32 i k) (qh0 x0) x1 x2 (k0_off3 i k) (k0_off3_inb i k) ![0, 0, 0] inb_S1x1024x128_S1x1024x128_0_0_0 ![0, 0, 0] inb_S2x1024x1_S1x1024x1_0_0_0 ![0, 0] inb_S1024x128_S1024x64_0_0 s
/-- A trip's blocks of both heads. -/
def tB (i : grid0.Coords) (x0 : Vec F S1024x128 .bf16) (x1 x2 : Vec F S2048x128 .bf16) (k : Fin (k0_t1_loop i).trips) (s : St F) : St F :=
  step rows1024 (lt 64#32 i k) (qh1 x0) x1 x2 (k0_off4 i k) (k0_off4_inb i k) ![0, 0, 0] inb_S1x1024x128_S1x1024x128_0_0_0 ![1, 0, 0] inb_S2x1024x1_S1x1024x1_1_0_0 ![0, 64] inb_S1024x128_S1024x64_0_64 (tA i x0 x1 x2 k s)

/-- A buffer read after two stores. -/
theorem rp2 {κ : Kind} {sp : Space} {s : Shape} {e : EltTy} (v : View sig κ sp s e) (f : v.ty.Contents (Elt F)) {off size off' size' : Fin s.rank → ℕ}
    (inb : ∀ a, off a + size a ≤ s.size a) (inb' : ∀ a, off' a + size' a ≤ s.size a) (w : (Rect.unit off size inb).shape.Idx → Elt F e) (w' : (Rect.unit off' size' inb').shape.Idx → Elt F e) :
    v.read (Elt F) (v.writes (Elt F) f [⟨Rect.unit off size inb, w⟩, ⟨Rect.unit off' size' inb', w'⟩]) = put (put (v.read (Elt F) f) off' size' w') off size w := by
  rw [read_put, read_put, View.writes_nil]

theorem skip11 (X : Vec F S2x1024x1 .f32) (w : Vec F S1x1024x1 .f32) (h) :
    View.ld (put X ![0, 0, 0] ![1, 1024, 1] w) (Rect.unit ![1, 0, 0] ![1, 1024, 1] h) = View.ld X (Rect.unit ![1, 0, 0] ![1, 1024, 1] h) :=
  Cert.Attn.Trip.skip18 X w

theorem skip12 (X : Vec F S1024x128 .f32) (w : Vec F S1024x64 .f32) (h) :
    View.ld (put X ![0, 0] ![1024, 64] w) (Rect.unit ![0, 64] ![1024, 64] h) = View.ld X (Rect.unit ![0, 64] ![1024, 64] h) :=
  Cert.Attn.Trip.skip17 X w

section
variable (c : Dev nD) (i : grid0.Coords)
  (a3 : Memref sig .tc .vmem S1024x128 .bf16) (harg3 : a3.IsWhole)
  (a4 : Memref sig .tc .vmem S2048x128 .bf16) (harg4 : a4.IsWhole)
  (a5 : Memref sig .tc .vmem S2048x128 .bf16) (harg5 : a5.IsWhole)
  (a6 : Memref sig .tc .vmem S1024x128 .f32) (harg6 : a6.IsWhole)
  (a7 : Memref sig .tc .vmem S8x128 .f32) (harg7 : a7.IsWhole)
  (a8 : Memref sig .tc .vmem S1024x128 .f32) (harg8 : a8.IsWhole)
  (a9 : Memref sig .tc .vmem S1024x128 .bf16) (harg9 : a9.IsWhole)
  (a10 : Memref sig .tc .vmem S1x1024x128 .f32) (harg10 : a10.IsWhole)
  (a11 : Memref sig .tc .vmem S2x1024x1 .f32) (harg11 : a11.IsWhole)
  (a12 : Memref sig .tc .vmem S1024x128 .f32) (harg12 : a12.IsWhole)
  (x0 : Vec F S1024x128 .bf16) (x1 x2 : Vec F S2048x128 .bf16)
  (f10 : BufTy.Contents (Elt F) a10.view.ty) (f11 : BufTy.Contents (Elt F) a11.view.ty) (f12 : BufTy.Contents (Elt F) a12.view.ty)

theorem l10 (k : Fin (k0_t1_loop i).trips) (acc : BitVec 32) : (tripL_k0_t1 Variants.none c none i a3 harg3 a4 harg4 a5 harg5 a6 harg6 a7 harg7 a8 harg8 a9 harg9 a10 harg10 a11 harg11 a12 harg12 (BitVec.ofNat 32 (i 2).val) Cert.FwdIdeal.Gen.k0_pay34 (kernelRun0_A.sl.r c a3 harg3 x0) (kernelRun0_A.sl.r_1 c a3 harg3 x0) 0#32 (harg4.unread x1) (harg5.unread x2) k acc f10 f11 f12).1
    = [⟨Rect.unit ![0, 0, 0] S1x1024x128.size inb_S1x1024x128_S1x1024x128_0_0_0, wc rows1024 (lt 64#32 i k) ![0, 0, 0] inb_S1x1024x128_S1x1024x128_0_0_0 ![1, 0, 0] inb_S2x1024x1_S1x1024x1_1_0_0 (a10.view.read (Elt F) (a10.view.writes (Elt F) a10.view.junk [⟨Rect.unit ![0, 0, 0] S1x1024x128.size inb_S1x1024x128_S1x1024x128_0_0_0, wc rows1024 (lt 0#32 i k) ![0, 0, 0] inb_S1x1024x128_S1x1024x128_0_0_0 ![0, 0, 0] inb_S2x1024x1_S1x1024x1_0_0_0 (a10.view.read (Elt F) f10) (a11.view.read (Elt F) f11)⟩])) (a11.view.read (Elt F) f11)⟩,
      ⟨Rect.unit ![0, 0, 0] S1x1024x128.size inb_S1x1024x128_S1x1024x128_0_0_0, wc rows1024 (lt 0#32 i k) ![0, 0, 0] inb_S1x1024x128_S1x1024x128_0_0_0 ![0, 0, 0] inb_S2x1024x1_S1x1024x1_0_0_0 (a10.view.read (Elt F) f10) (a11.view.read (Elt F) f11)⟩] := by
  simp only [tripL_k0_t1]; unfold trip_k0_t1; rfl

theorem l11 (k : Fin (k0_t1_loop i).trips) (acc : BitVec 32) : (tripL_k0_t1 Variants.none c none i a3 harg3 a4 harg4 a5 harg5 a6 harg6 a7 harg7 a8 harg8 a9 harg9 a10 harg10 a11 harg11 a12 harg12 (BitVec.ofNat 32 (i 2).val) Cert.FwdIdeal.Gen.k0_pay34 (kernelRun0_A.sl.r c a3 harg3 x0) (kernelRun0_A.sl.r_1 c a3 harg3 x0) 0#32 (harg4.unread x1) (harg5.unread x2) k acc f10 f11 f12).2.1
    = [⟨Rect.unit ![1, 0, 0] S1x1024x1.size inb_S2x1024x1_S1x1024x1_1_0_0, wn rows1024 (kernelRun0_A.sl.r_1 c a3 harg3 x0) (a4.view.read (Elt F) (harg4.unread x1)) (k0_off4 i k) (k0_off4_inb i k) ![1, 0, 0] inb_S2x1024x1_S1x1024x1_1_0_0 (a11.view.read (Elt F) f11)⟩,
      ⟨Rect.unit ![0, 0, 0] S1x1024x1.size inb_S2x1024x1_S1x1024x1_0_0_0, wn rows1024 (kernelRun0_A.sl.r c a3 harg3 x0) (a4.view.read (Elt F) (harg4.unread x1)) (k0_off3 i k) (k0_off3_inb i k) ![0, 0, 0] inb_S2x1024x1_S1x1024x1_0_0_0 (a11.view.read (Elt F) f11)⟩] := by
  simp only [tripL_k0_t1]; unfold trip_k0_t1; rfl

theorem l12 (k : Fin (k0_t1_loop i).trips) (acc : BitVec 32) : (tripL_k0_t1 Variants.none c none i a3 harg3 a4 harg4 a5 harg5 a6 harg6 a7 harg7 a8 harg8 a9 harg9 a10 harg10 a11 harg11 a12 harg12 (BitVec.ofNat 32 (i 2).val) Cert.FwdIdeal.Gen.k0_pay34 (kernelRun0_A.sl.r c a3 harg3 x0) (kernelRun0_A.sl.r_1 c a3 harg3 x0) 0#32 (harg4.unread x1) (harg5.unread x2) k acc f10 f11 f12).2.2
    = [⟨Rect.unit ![0, 64] S1024x64.size inb_S1024x128_S1024x64_0_64, wa rows1024 (kernelRun0_A.sl.r_1 c a3 harg3 x0) (a4.view.read (Elt F) (harg4.unread x1)) (a5.view.read (Elt F) (harg5.unread x2)) (k0_off4 i k) (k0_off4_inb i k) ![1, 0, 0] inb_S2x1024x1_S1x1024x1_1_0_0 ![0, 64] inb_S1024x128_S1024x64_0_64 (a11.view.read (Elt F) f11) (a12.view.read (Elt F) f12)⟩,
      ⟨Rect.unit ![0, 0] S1024x64.size inb_S1024x128_S1024x64_0_0, wa rows1024 (kernelRun0_A.sl.r c a3 harg3 x0) (a4.view.read (Elt F) (harg4.unread x1)) (a5.view.read (Elt F) (harg5.unread x2)) (k0_off3 i k) (k0_off3_inb i k) ![0, 0, 0] inb_S2x1024x1_S1x1024x1_0_0_0 ![0, 0] inb_S1024x128_S1024x64_0_0 (a11.view.read (Elt F) f11) (a12.view.read (Elt F) f12)⟩] := by
  simp only [tripL_k0_t1]; unfold trip_k0_t1; rfl

/-- The stores of a trip, read back. -/
theorem trip_eq (k : Fin (k0_t1_loop i).trips) (acc : BitVec 32) : (⟨a10.view.read (Elt F) (a10.view.writes (Elt F) f10 (tripL_k0_t1 Variants.none c none i a3 harg3 a4 harg4 a5 harg5 a6 harg6 a7 harg7 a8 harg8 a9 harg9 a10 harg10 a11 harg11 a12 harg12 (BitVec.ofNat 32 (i 2).val) Cert.FwdIdeal.Gen.k0_pay34 (kernelRun0_A.sl.r c a3 harg3 x0) (kernelRun0_A.sl.r_1 c a3 harg3 x0) 0#32 (harg4.unread x1) (harg5.unread x2) k acc f10 f11 f12).1), a11.view.read (Elt F) (a11.view.writes (Elt F) f11 (tripL_k0_t1 Variants.none c none i a3 harg3 a4 harg4 a5 harg5 a6 harg6 a7 harg7 a8 harg8 a9 harg9 a10 harg10 a11 harg11 a12 harg12 (BitVec.ofNat 32 (i 2).val) Cert.FwdIdeal.Gen.k0_pay34 (kernelRun0_A.sl.r c a3 harg3 x0) (kernelRun0_A.sl.r_1 c a3 harg3 x0) 0#32 (harg4.unread x1) (harg5.unread x2) k acc f10 f11 f12).2.1), a12.view.read (Elt F) (a12.view.writes (Elt F) f12 (tripL_k0_t1 Variants.none c none i a3 harg3 a4 harg4 a5 harg5 a6 harg6 a7 harg7 a8 harg8 a9 harg9 a10 harg10 a11 harg11 a12 harg12 (BitVec.ofNat 32 (i 2).val) Cert.FwdIdeal.Gen.k0_pay34 (kernelRun0_A.sl.r c a3 harg3 x0) (kernelRun0_A.sl.r_1 c a3 harg3 x0) 0#32 (harg4.unread x1) (harg5.unread x2) k acc f10 f11 f12).2.2)⟩ : St F)
    = tB i x0 x1 x2 k (⟨a10.view.read (Elt F) f10, a11.view.read (Elt F) f11, a12.view.read (Elt F) f12⟩ : St F) := by
  rw [l10, l11, l12, r0_eq, r1_eq, harg4.read_unread, harg5.read_unread]
  refine St.mk_eq ((rp2 ..).trans ?_) ((rp2 ..).trans ?_) ((rp2 ..).trans ?_)
  · rw [show a10.view.read (Elt F) (a10.view.writes (Elt F) a10.view.junk [⟨Rect.unit ![0, 0, 0] S1x1024x128.size inb_S1x1024x128_S1x1024x128_0_0_0, wc rows1024 (lt 0#32 i k) ![0, 0, 0] inb_S1x1024x128_S1x1024x128_0_0_0 ![0, 0, 0] inb_S2x1024x1_S1x1024x1_0_0_0 (a10.view.read (Elt F) f10) (a11.view.read (Elt F) f11)⟩]) = _ from (read_put ..).trans (put_whole3 _ _)]
    simp only [tB, tA, step]
    simp only [wc, skip11, show ∀ (X w : Vec F S1x1024x128 .f32), put (F := F) (s := S1x1024x128) (e := .f32) X ![0, 0, 0] ![1, 1024, 128] w = w from put_whole3]
  · simp only [tB, tA, step, wn, su, skip11]
  · simp only [tB, tA, step, wa, su, skip11, skip12]

/-- What the buffers read after the loop's first trips. -/
def after (init : BitVec 32) (k : ℕ) : St F :=
  ⟨a10.view.read (Elt F) (a10.view.writes (Elt F) f10 (st_k0_t1 Variants.none c none i a3 harg3 a4 harg4 a5 harg5 a6 harg6 a7 harg7 a8 harg8 a9 harg9 a10 harg10 a11 harg11 a12 harg12 (BitVec.ofNat 32 (i 2).val) Cert.FwdIdeal.Gen.k0_pay34 (kernelRun0_A.sl.r c a3 harg3 x0) (kernelRun0_A.sl.r_1 c a3 harg3 x0) 0#32 (harg4.unread x1) (harg5.unread x2) f10 f11 f12 init k).2.1), a11.view.read (Elt F) (a11.view.writes (Elt F) f11 (st_k0_t1 Variants.none c none i a3 harg3 a4 harg4 a5 harg5 a6 harg6 a7 harg7 a8 harg8 a9 harg9 a10 harg10 a11 harg11 a12 harg12 (BitVec.ofNat 32 (i 2).val) Cert.FwdIdeal.Gen.k0_pay34 (kernelRun0_A.sl.r c a3 harg3 x0) (kernelRun0_A.sl.r_1 c a3 harg3 x0) 0#32 (harg4.unread x1) (harg5.unread x2) f10 f11 f12 init k).2.2.1), a12.view.read (Elt F) (a12.view.writes (Elt F) f12 (st_k0_t1 Variants.none c none i a3 harg3 a4 harg4 a5 harg5 a6 harg6 a7 harg7 a8 harg8 a9 harg9 a10 harg10 a11 harg11 a12 harg12 (BitVec.ofNat 32 (i 2).val) Cert.FwdIdeal.Gen.k0_pay34 (kernelRun0_A.sl.r c a3 harg3 x0) (kernelRun0_A.sl.r_1 c a3 harg3 x0) 0#32 (harg4.unread x1) (harg5.unread x2) f10 f11 f12 init k).2.2.2)⟩

theorem after_zero (init : BitVec 32) : after c i a3 harg3 a4 harg4 a5 harg5 a6 harg6 a7 harg7 a8 harg8 a9 harg9 a10 harg10 a11 harg11 a12 harg12 x0 x1 x2 f10 f11 f12 init 0 = (⟨a10.view.read (Elt F) f10, a11.view.read (Elt F) f11, a12.view.read (Elt F) f12⟩ : St F) := rfl

theorem after_succ (init : BitVec 32) (k : Fin (k0_t1_loop i).trips) :
    after c i a3 harg3 a4 harg4 a5 harg5 a6 harg6 a7 harg7 a8 harg8 a9 harg9 a10 harg10 a11 harg11 a12 harg12 x0 x1 x2 f10 f11 f12 init (k.val + 1) = tB i x0 x1 x2 k (after c i a3 harg3 a4 harg4 a5 harg5 a6 harg6 a7 harg7 a8 harg8 a9 harg9 a10 harg10 a11 harg11 a12 harg12 x0 x1 x2 f10 f11 f12 init k.val) := by
  unfold after
  rw [st_k0_t1_succ]
  simp only [View.writes_append]
  exact trip_eq ..
end

end Cert.Fw
-- ==== Proof.FwdOut.lean ====
module

public import proofs.«01_k».proof.Proof.FwdTrip

/-! # What one grid point of the attention's forward call leaves -/

set_option maxRecDepth 16384

@[expose] public section

noncomputable section

open Idealize.ShloMosaic Idealize.ShloMosaic.TcCoe Idealize.SL.Sem

namespace Cert.Fw

open Cert.Attn (put read_put qh0 qh1 put_whole2 put_whole3)
open Cert.FwdIdeal Cert.FwdIdeal.Gen

variable {F : FTy → Type} [FloatOps F] [Named F]

theorem trips1 (i : grid0.Coords) : (k0_t1_loop i).trips = 4 * (i 2 : ℕ) := by
  have hh : ∀ q : Fin 2, Scf.trips 0#32 (Scalar.addi 0#32 (Scalar.muli (Scalar.divsi (Scalar.subi (Scalar.muli 4#32 (BitVec.ofNat 32 q.val)) 0#32) 1#32) 1#32)) 1#32 = 4 * q.val := by decide +kernel
  exact hh (i 2)
theorem trips2 (i : grid0.Coords) : Scf.trips (k0_t2_loop i).lb (k0_t2_loop i).ub (k0_t2_loop i).st = 0 := by
  have hh : ∀ q : Fin 2, Scf.trips (Scalar.addi 0#32 (Scalar.muli (Scalar.divsi (Scalar.subi (Scalar.muli 4#32 (BitVec.ofNat 32 q.val)) 0#32) 1#32) 1#32)) (Scalar.addi 0#32 (Scalar.subi (Scalar.muli 4#32 (BitVec.ofNat 32 q.val)) 0#32)) 1#32 = 0 := by decide +kernel
  exact hh (i 2)

/-- A load of a whole array. -/
theorem whole2 {κ : Kind} {sp : Space} {a b : ℕ} {e : EltTy} (v : View sig κ sp ⟨2, ![a, b]⟩ e) (f : v.ty.Contents (Elt F))
    (inb : ∀ d, (![0, 0] : Fin 2 → ℕ) d + (![a, b] : Fin 2 → ℕ) d ≤ (⟨2, ![a, b]⟩ : Shape).size d) :
    v.readAt (Elt F) (Rect.unit (s := ⟨2, ![a, b]⟩) ![0, 0] ![a, b] inb).toLoadRect f = v.read (Elt F) f := by
  rw [View.readAt_eq_ld]
  exact View.ld_unit_lit (S := ⟨2, ![a, b]⟩) _ _ (by intro d; fin_cases d <;> rfl)

section
variable (c : Dev nD) (i : grid0.Coords)
  (arg3 : Memref sig .tc .vmem S1024x128 .bf16) (harg3 : arg3.IsWhole)
  (arg4 : Memref sig .tc .vmem S2048x128 .bf16) (harg4 : arg4.IsWhole)
  (arg5 : Memref sig .tc .vmem S2048x128 .bf16) (harg5 : arg5.IsWhole)
  (arg6 : Memref sig .tc .vmem S1024x128 .f32) (harg6 : arg6.IsWhole)
  (arg7 : Memref sig .tc .vmem S8x128 .f32) (harg7 : arg7.IsWhole)
  (arg8 : Memref sig .tc .vmem S1024x128 .f32) (harg8 : arg8.IsWhole)
  (arg9 : Memref sig .tc .vmem S1024x128 .bf16) (harg9 : arg9.IsWhole)
  (arg10 : Memref sig .tc .vmem S1x1024x128 .f32) (harg10 : arg10.IsWhole)
  (arg11 : Memref sig .tc .vmem S2x1024x1 .f32) (harg11 : arg11.IsWhole)
  (arg12 : Memref sig .tc .vmem S1024x128 .f32) (harg12 : arg12.IsWhole)
  (x0 : Vec F S1024x128 .bf16) (x1 x2 : Vec F S2048x128 .bf16) (x3 : Vec F S1024x128 .f32) (x4 : Vec F S8x128 .f32)

theorem v557_eq : kernelRun0_A.sl.v557 c i arg3 harg3 arg4 harg4 arg5 harg5 arg6 harg6 arg7 harg7 arg8 harg8 arg9 harg9 arg10 harg10 arg11 harg11 arg12 harg12 x0 x1 x2 = (after c i arg3 harg3 arg4 harg4 arg5 harg5 arg6 harg6 arg7 harg7 arg8 harg8 arg9 harg9 arg10 harg10 arg11 harg11 arg12 harg12 x0 x1 x2 (arg10.view.writes (Elt F) arg10.view.junk (kernelRun0_A.sl.H7_9 c i arg3 harg3 arg4 harg4 arg10 arg11 x0 x1)) (arg11.view.writes (Elt F) arg11.view.junk (kernelRun0_A.sl.HS0_9 c i arg3 harg3 arg4 harg4 arg11 x0 x1)) (arg12.view.writes (Elt F) arg12.view.junk (kernelRun0_A.sl.HS1_9 c i arg3 harg3 arg4 harg4 arg5 harg5 arg11 arg12 x0 x1 x2)) 0#32  (k0_t1_loop i).trips).acc := by
  unfold kernelRun0_A.sl.v557
  refine (whole2 _ _ inb_S1024x128_S1024x128_0_0).trans ?_
  rw [trips2, st_k0_t2.eq_1]
  simp only [List.nil_append, View.writes_append, after, Scf.Loop.trips]

theorem out5_eq : out0_A_5 c i arg3 harg3 arg4 harg4 arg5 harg5 arg6 harg6 arg7 harg7 arg8 harg8 arg9 harg9 arg10 harg10 arg11 harg11 arg12 harg12 x0 x1 x2 x3 x4 = (after c i arg3 harg3 arg4 harg4 arg5 harg5 arg6 harg6 arg7 harg7 arg8 harg8 arg9 harg9 arg10 harg10 arg11 harg11 arg12 harg12 x0 x1 x2 (arg10.view.writes (Elt F) arg10.view.junk (kernelRun0_A.sl.H7_9 c i arg3 harg3 arg4 harg4 arg10 arg11 x0 x1)) (arg11.view.writes (Elt F) arg11.view.junk (kernelRun0_A.sl.HS0_9 c i arg3 harg3 arg4 harg4 arg11 x0 x1)) (arg12.view.writes (Elt F) arg12.view.junk (kernelRun0_A.sl.HS1_9 c i arg3 harg3 arg4 harg4 arg5 harg5 arg11 arg12 x0 x1 x2)) 0#32  (k0_t1_loop i).trips).acc :=
  (read_put VO0_5 VO0_5.junk inb_S1024x128_S1024x128_0_0 _ []).trans ((put_whole2 _ _).trans (v557_eq ..))

theorem out6_eq : out0_A_6 c i arg3 harg3 arg4 harg4 arg5 harg5 arg6 harg6 arg7 harg7 arg8 harg8 arg9 harg9 arg10 harg10 arg11 harg11 arg12 harg12 x0 x1 x2 x3 x4 = Cert.FwdIdeal.Gen.k0_pay1 ((after c i arg3 harg3 arg4 harg4 arg5 harg5 arg6 harg6 arg7 harg7 arg8 harg8 arg9 harg9 arg10 harg10 arg11 harg11 arg12 harg12 x0 x1 x2 (arg10.view.writes (Elt F) arg10.view.junk (kernelRun0_A.sl.H7_9 c i arg3 harg3 arg4 harg4 arg10 arg11 x0 x1)) (arg11.view.writes (Elt F) arg11.view.junk (kernelRun0_A.sl.HS0_9 c i arg3 harg3 arg4 harg4 arg11 x0 x1)) (arg12.view.writes (Elt F) arg12.view.junk (kernelRun0_A.sl.HS1_9 c i arg3 harg3 arg4 harg4 arg5 harg5 arg11 arg12 x0 x1 x2)) 0#32  (k0_t1_loop i).trips).acc) x3 := by
  unfold out0_A_6 kernelRun0_A
  refine (read_put VO0_6 VO0_6.junk inb_S1024x128_S1024x128_0_0 _ []).trans ?_
  refine (put_whole2 _ _).trans ?_
  refine Eq.trans (b := Cert.FwdIdeal.Gen.k0_pay1 (kernelRun0_A.sl.v557 c i arg3 harg3 arg4 harg4 arg5 harg5 arg6 harg6 arg7 harg7 arg8 harg8 arg9 harg9 arg10 harg10 arg11 harg11 arg12 harg12 x0 x1 x2) (arg6.view.readAt (Elt F) (Rect.unit (s := S1024x128) ![0, 0] S1024x128.size inb_S1024x128_S1024x128_0_0).toLoadRect (harg6.unread x3))) (by rfl) ?_
  rw [v557_eq, show ∀ f, _ = _ from whole2 arg6.view (inb := inb_S1024x128_S1024x128_0_0), harg6.read_unread]

theorem out7_eq : out0_A_7 c i arg3 harg3 arg4 harg4 arg5 harg5 arg6 harg6 arg7 harg7 arg8 harg8 arg9 harg9 arg10 harg10 arg11 harg11 arg12 harg12 x0 x1 x2 x3 x4 = (after c i arg3 harg3 arg4 harg4 arg5 harg5 arg6 harg6 arg7 harg7 arg8 harg8 arg9 harg9 arg10 harg10 arg11 harg11 arg12 harg12 x0 x1 x2 (arg10.view.writes (Elt F) arg10.view.junk (kernelRun0_A.sl.H7_9 c i arg3 harg3 arg4 harg4 arg10 arg11 x0 x1)) (arg11.view.writes (Elt F) arg11.view.junk (kernelRun0_A.sl.HS0_9 c i arg3 harg3 arg4 harg4 arg11 x0 x1)) (arg12.view.writes (Elt F) arg12.view.junk (kernelRun0_A.sl.HS1_9 c i arg3 harg3 arg4 harg4 arg5 harg5 arg11 arg12 x0 x1 x2)) 0#32  (k0_t1_loop i).trips).c := by
  unfold out0_A_7
  rw [View.read_writes_junk_eq_canon, ← View.read_writes_junk_eq_canon arg10.view]
  unfold kernelRun0_A
  have e := trips2 i
  simp only [k0_t2_loop] at e
  simp only [e, st_k0_t2.eq_1, List.nil_append, View.writes_append, after, Scf.Loop.trips]

/-- The state after a tile of the first rows. -/
theorem after_A (h : (i 2 : ℕ) = 0) : (after c i arg3 harg3 arg4 harg4 arg5 harg5 arg6 harg6 arg7 harg7 arg8 harg8 arg9 harg9 arg10 harg10 arg11 harg11 arg12 harg12 x0 x1 x2 (arg10.view.writes (Elt F) arg10.view.junk (kernelRun0_A.sl.H7_9 c i arg3 harg3 arg4 harg4 arg10 arg11 x0 x1)) (arg11.view.writes (Elt F) arg11.view.junk (kernelRun0_A.sl.HS0_9 c i arg3 harg3 arg4 harg4 arg11 x0 x1)) (arg12.view.writes (Elt F) arg12.view.junk (kernelRun0_A.sl.HS1_9 c i arg3 harg3 arg4 harg4 arg5 harg5 arg11 arg12 x0 x1 x2)) 0#32  (k0_t1_loop i).trips) = own i x0 x1 x2 := by
  rw [trips1, h]
  exact (after_zero ..).trans (own_eq ..)

/-- The state after a tile of the last rows. -/
theorem after_B (h : (i 2 : ℕ) = 1) (k0 k1 k2 k3 : Fin (k0_t1_loop i).trips) (h0 : k0.val = 0) (h1 : k1.val = 1) (h2 : k2.val = 2) (h3 : k3.val = 3) :
    (after c i arg3 harg3 arg4 harg4 arg5 harg5 arg6 harg6 arg7 harg7 arg8 harg8 arg9 harg9 arg10 harg10 arg11 harg11 arg12 harg12 x0 x1 x2 (arg10.view.writes (Elt F) arg10.view.junk (kernelRun0_A.sl.H7_9 c i arg3 harg3 arg4 harg4 arg10 arg11 x0 x1)) (arg11.view.writes (Elt F) arg11.view.junk (kernelRun0_A.sl.HS0_9 c i arg3 harg3 arg4 harg4 arg11 x0 x1)) (arg12.view.writes (Elt F) arg12.view.junk (kernelRun0_A.sl.HS1_9 c i arg3 harg3 arg4 harg4 arg5 harg5 arg11 arg12 x0 x1 x2)) 0#32  (k0_t1_loop i).trips) = tB i x0 x1 x2 k3 (tB i x0 x1 x2 k2 (tB i x0 x1 x2 k1 (tB i x0 x1 x2 k0 (own i x0 x1 x2)))) := by
  have e := after_succ c i arg3 harg3 arg4 harg4 arg5 harg5 arg6 harg6 arg7 harg7 arg8 harg8 arg9 harg9 arg10 harg10 arg11 harg11 arg12 harg12 x0 x1 x2 (arg10.view.writes (Elt F) arg10.view.junk (kernelRun0_A.sl.H7_9 c i arg3 harg3 arg4 harg4 arg10 arg11 x0 x1)) (arg11.view.writes (Elt F) arg11.view.junk (kernelRun0_A.sl.HS0_9 c i arg3 harg3 arg4 harg4 arg11 x0 x1)) (arg12.view.writes (Elt F) arg12.view.junk (kernelRun0_A.sl.HS1_9 c i arg3 harg3 arg4 harg4 arg5 harg5 arg11 arg12 x0 x1 x2)) 0#32
  have e0 := e k0
  have e1 := e k1
  have e2 := e k2
  have e3 := e k3
  rw [h0] at e0; rw [h1] at e1; rw [h2] at e2; rw [h3] at e3
  rw [trips1, h]
  refine e3.trans (congrArg _ (e2.trans (congrArg _ (e1.trans (congrArg _ (e0.trans (congrArg _ ?_)))))))
  exact (after_zero ..).trans (own_eq ..)
end

end Cert.Fw
-- ==== Proof.FwdInv.lean ====
module

public import proofs.«01_k».proof.Proof.FwdOut
public import proofs.«01_k».proof.Proof.Tile

/-! # What the attention's forward call holds after each block of keys -/

set_option maxRecDepth 16384

@[expose] public section

noncomputable section

open Idealize.ShloMosaic Idealize.ShloMosaic.TcCoe Idealize.SL.Sem
open Finset (range)

namespace Cert.Fw

open Cert.Attn

/-- The sum of `f` over the keys of the blocks from `n` on. -/
def tail (f : ℕ → ℝ) (n : ℕ) : ℝ := ∑ k ∈ range 2048, if 256 * n ≤ k then f k else 0

theorem tail_step (f : ℕ → ℝ) (n : ℕ) (hn : n < 8) : tail f n = tail f (n + 1) + ∑ k ∈ range 256, f (256 * n + k) := by
  unfold tail
  have : (2048 : ℕ) = 256 * n + (256 + (2048 - 256 * n - 256)) := by omega
  rw [this, Finset.sum_range_add, Finset.sum_range_add, Finset.sum_range_add _ (256 * n), Finset.sum_range_add _ 256,
    Finset.sum_eq_zero (s := range (256 * n)), Finset.sum_eq_zero (s := range (256 * n)),
    Finset.sum_eq_zero (s := range 256) (f := fun k => if 256 * (n + 1) ≤ 256 * n + k then f (256 * n + k) else 0), zero_add, zero_add, zero_add, add_comm]
  · congr 1
    · exact Finset.sum_congr rfl fun k hk => by rw [if_pos (by omega), if_pos (by omega)]
    · exact Finset.sum_congr rfl fun k hk => by rw [if_pos (by omega)]
  · intro k hk; have := Finset.mem_range.mp hk; rw [if_neg (by omega)]
  · intro k hk; have := Finset.mem_range.mp hk; rw [if_neg (by omega)]
  · intro k hk; have := Finset.mem_range.mp hk; rw [if_neg (by omega)]

theorem tail_zero (f : ℕ → ℝ) (n : ℕ) (h : ∀ k, 256 * n ≤ k → k < 2048 → f k = 0) : tail f n = 0 :=
  Finset.sum_eq_zero fun k hk => by
    split_ifs with hk'
    · exact h k hk' (Finset.mem_range.mp hk)
    · rfl

theorem tail_all (f : ℕ → ℝ) : tail f 0 = ∑ k ∈ range 2048, f k :=
  Finset.sum_congr rfl fun k hk => by rw [if_pos (by omega)]

/-- The sum of a head's softplus over the blocks from `n` on. -/
def W (T : Data) (h r n : ℕ) : ℝ := tail (T.SP h r) n

theorem sp_zero (T : Data) {h r s : ℕ} (hs : 1024 * T.qi + r ≤ s) : T.SP h r s = 0 := by unfold Data.SP; rw [if_neg (by omega)]
theorem a_zero' (T : Data) {h r s : ℕ} (hs : 1024 * T.qi + r ≤ s) : T.A h r s = 0 := by unfold Data.A; rw [if_neg (by omega)]

/-- What the buffers hold when the blocks of head `h` from `N h` on are done. -/
structure IsFw (T : Data) (N : ℕ → ℕ) (s : St Ideal) : Prop where
  c : Is3 s.c (fun _ r j => if N (j / 64) ≤ j % 64 then W T (j / 64) r (j % 64 + 1) else 0)
  car : Is3 s.car (fun h r _ => W T h r (N h))
  acc : Is2 s.acc (fun r c => tail (fun k => T.A (c / 64) r k * T.V k c) (N (c / 64)))

/-- One more block `kb` of head `h`. -/
theorem IsFw.next {n : ℕ} {R : Rows Ideal n} {m : ℕ → ℕ → Prop} [∀ r s, Decidable (m r s)] (hR : R.Ok m) {T : Data} {N : ℕ → ℕ} {s : St Ideal}
    (hs : IsFw T N s) {kb h r0 : ℕ} (hn : r0 + n = 1024) (hqi : 256 * kb = 1024 * T.qi + r0 ∨ r0 = 0)
    (hm : ∀ r < n, ∀ s < 256, (m r s ↔ 256 * kb + s < 1024 * T.qi + (r0 + r))) (hh : h < 2) (hkb : kb < 8) (hN : N h = kb + 1)
    (hX : ∀ r, T.X r (64 * h + kb) = W T h r (kb + 1))
    {lane : BitVec 32} (hlane : lane = BitVec.ofNat 32 (64 * h + kb)) {q : FVec Ideal (⟨2, ![n, 64]⟩ : Shape) .bf16} (hq : Is2 q (fun r c => T.Q (r0 + r) (64 * h + c)))
    {x1 x2 : Vec Ideal (⟨2, ![2048, 128]⟩ : Shape) .bf16} (hk : Is2 x1 T.K) (hv : Is2 x2 T.V)
    {off : Fin 2 → ℕ} (hoff : off = ![256 * kb, 64 * h]) (i0 : ∀ a, off a + (![256, 64] : Fin 2 → ℕ) a ≤ (⟨2, ![2048, 128]⟩ : Shape).size a)
    {o1 : Fin 3 → ℕ} (ho1 : o1 = ![0, r0, 0]) (i1 : ∀ a, o1 a + (![1, n, 128] : Fin 3 → ℕ) a ≤ (⟨3, ![1, 1024, 128]⟩ : Shape).size a)
    {o2 : Fin 3 → ℕ} (ho2 : o2 = ![h, r0, 0]) (i2 : ∀ a, o2 a + (![1, n, 1] : Fin 3 → ℕ) a ≤ (⟨3, ![2, 1024, 1]⟩ : Shape).size a)
    {o3 : Fin 2 → ℕ} (ho3 : o3 = ![r0, 64 * h]) (i3 : ∀ a, o3 a + (![n, 64] : Fin 2 → ℕ) a ≤ (⟨2, ![1024, 128]⟩ : Shape).size a) :
    IsFw T (fun j => if j = h then kb else N j) (step R lane q x1 x2 off i0 o1 i1 o2 i2 o3 i3 s) := by
  subst hlane
  have hK := ld2_bf16 hk hoff i0
  have hV := ld2_bf16 hv hoff i0
  have hl := hR.lg hq hK
  have hC := ld3_f32 hs.car ho2 i2
  have hSP : Is2 _ (fun r s => T.SP h (r0 + r) (256 * kb + s)) := (hR.sp hl).congr fun r hr s hs => by
    unfold Data.SP Data.L
    by_cases e : m r s
    · rw [if_pos e, if_pos ((hm r hr s hs).1 e)]
    · rw [if_neg e, if_neg (fun e' => e ((hm r hr s hs).2 e'))]
  have hcu : Is2 _ (fun r s => W T h (r0 + r) (kb + 1) + ∑ k ∈ range 256, T.SP h (r0 + r) (256 * kb + k) * (if s < k % 256 then 1 else 0)) :=
    (hR.cu hSP after_is hC).congr fun r hr s hs => by simp only [add_zero, hN]
  have hA : Is2 _ (fun r s => T.A h (r0 + r) (256 * kb + s)) := (hR.wt hl hSP hcu).congr fun r hr s hs => by
    have e1 : (256 * kb + s) / 256 = kb := by omega
    have e2 : (256 * kb + s) % 256 = s := by omega
    unfold Data.A
    rw [e1, e2, hX]
    by_cases e : m r s
    · rw [if_pos e, if_pos ((hm r hr s hs).1 e)]; rfl
    · rw [if_neg e, if_neg (fun e' => e ((hm r hr s hs).2 e'))]
  have hz : ∀ r < r0, W T h r (kb + 1) = 0 := fun r hr => tail_zero _ _ fun k hk _ => sp_zero T (by omega)
  refine ⟨?_, ?_, ?_⟩
  · refine (put3_is hs.c (hR.cs (64 * h + kb) (by omega) hC (ld3_f32 hs.c ho1 i1)) ho1).congr fun i hi r hr j hj => ?_
    by_cases hb : (0 ≤ i ∧ i < 0 + 1) ∧ (r0 ≤ r ∧ r < r0 + n) ∧ (0 ≤ j ∧ j < 0 + 128)
    · rw [if_pos hb, show r0 + (r - r0) = r by omega]
      simp only [Nat.sub_zero, zero_add, add_zero, hN]
      by_cases e : j = 64 * h + kb
      · rw [show j / 64 = h by omega, show j % 64 = kb by omega, hN, if_neg (by omega), if_pos e, if_pos rfl, if_pos le_rfl, zero_add]
      · rw [if_neg e, add_zero]
        by_cases e' : j / 64 = h
        · rw [e', hN, if_pos rfl]
          by_cases e2 : kb + 1 ≤ j % 64
          · rw [if_pos e2, if_pos (by omega)]
          · rw [if_neg e2, if_neg (by omega)]
        · rw [if_neg e']
    · rw [if_neg hb]
      by_cases e' : j / 64 = h
      · rw [e', hN, if_pos rfl]
        by_cases e2 : kb + 1 ≤ j % 64
        · rw [if_pos e2, if_pos (by omega)]
        · rw [if_neg e2]
          split_ifs with e3
          · rw [show j % 64 = kb by omega, hz r (by omega)]
          · rfl
      · rw [if_neg e']
  · refine (put3_is hs.car (hR.nc hSP hcu) ho2).congr fun i hi r hr j hj => ?_
    by_cases e' : i = h
    · subst e'
      rw [if_pos rfl, hN]
      have hs' : W T i r kb = W T i r (kb + 1) + ∑ k ∈ range 256, T.SP i r (256 * kb + k) := tail_step _ _ hkb
      by_cases hb : (i ≤ i ∧ i < i + 1) ∧ (r0 ≤ r ∧ r < r0 + n) ∧ (0 ≤ j ∧ j < 0 + 1)
      · rw [if_pos hb, show r0 + (r - r0) = r by omega, hs', add_assoc, Finset.sum_range_succ' _ 255, Finset.sum_range_succ' _ 255]
        simp only [Nat.zero_mod, lt_irrefl, if_false, mul_zero, add_zero]
        refine congrArg (_ + ·) (congrArg (· + _) (Finset.sum_congr rfl fun k hk => ?_))
        have := Finset.mem_range.mp hk
        rw [if_pos (by omega), mul_one]
      · rw [if_neg hb, hs', left_eq_add]
        exact Finset.sum_eq_zero fun k _ => sp_zero T (by omega)
    · rw [if_neg (by omega), if_neg e']
  · refine (put2_is hs.acc (hR.nn hA hV (ld2_f32 hs.acc ho3 i3)) ho3).congr fun r hr c hc => ?_
    by_cases e' : c / 64 = h
    · rw [e', if_pos rfl, hN, tail_step _ kb hkb]
      by_cases hb : (r0 ≤ r ∧ r < r0 + n) ∧ (64 * h ≤ c ∧ c < 64 * h + 64)
      · rw [if_pos hb, show r0 + (r - r0) = r by omega, show 64 * h + (c - 64 * h) = c by omega, e', hN]
      · rw [if_neg hb, left_eq_add]
        exact Finset.sum_eq_zero fun k _ => by rw [a_zero' T (by omega), zero_mul]
    · rw [if_neg (by omega), if_neg e']

/-- Zeros, before any block. -/
theorem ini_is (T : Data) : IsFw T (fun _ => 4 * T.qi + 4) (ini (F := Ideal)) := by
  refine ⟨?_, ?_, ?_⟩
  · intro i r j
    refine Eq.trans (b := (0 : EReal)) (by pointwise [ini, Cert.FwdIdeal.Gen.k0_pay39]) ?_
    beta_reduce
    split_ifs with h
    · rw [show W T _ _ _ = 0 from tail_zero _ _ fun k hk _ => sp_zero T (by omega)]; rfl
    · rfl
  · intro i r j
    refine Eq.trans (b := (0 : EReal)) (by pointwise [ini, Cert.FwdIdeal.Gen.k0_pay37]) ?_
    beta_reduce
    rw [show W T _ _ _ = 0 from tail_zero _ _ fun k hk _ => sp_zero T (by omega)]; rfl
  · intro r c
    refine Eq.trans (b := (0 : EReal)) (by pointwise [ini, Cert.FwdIdeal.Gen.k0_pay38]) ?_
    beta_reduce
    rw [show tail _ _ = 0 from tail_zero _ _ fun k hk _ => by rw [a_zero' T (by omega), zero_mul]]; rfl

end Cert.Fw
-- ==== Proof.FwdPoint.lean ====
module

public import proofs.«01_k».proof.Proof.FwdInv
public import proofs.«01_k».proof.Proof.Point

/-! # A whole grid point of the attention's forward call -/

set_option maxRecDepth 16384

@[expose] public section

noncomputable section

open Idealize.ShloMosaic Idealize.ShloMosaic.TcCoe Idealize.SL.Sem
open Finset (range)

namespace Cert.Fw

open Cert.Attn (Is2 Is3 Data two qh0 qh1)
open Cert.FwdIdeal Cert.FwdIdeal.Gen

/-- A grid point's windows at finite values. -/
structure IsPt (T : Data) (i : grid0.Coords) (x0 : Vec Ideal S1024x128 .bf16) (x1 x2 : Vec Ideal S2048x128 .bf16) : Prop where
  qi : T.qi = (i 2 : ℕ)
  q0 : Is2 (qh0 x0) (fun r c => T.Q r c)
  q1 : Is2 (qh1 x0) (fun r c => T.Q r (64 + c))
  k : Is2 x1 T.K
  v : Is2 x2 T.V
  x : ∀ h < 2, ∀ kb < 8, ∀ r, T.X r (64 * h + kb) = W T h r (kb + 1)

theorem IsFw.congrN {T : Data} {N N' : ℕ → ℕ} {s : St Ideal} (hs : IsFw T N s) (h0 : N 0 = N' 0) (h1 : N 1 = N' 1) : IsFw T N' s := by
  have e : ∀ h < 2, N h = N' h := fun h hh => by interval_cases h <;> assumption
  exact ⟨hs.c.congr fun i _ r _ j hj => by rw [e (j / 64) (by omega)], hs.car.congr fun h hh r _ t _ => by rw [e h hh],
    hs.acc.congr fun r _ c hc => by rw [e (c / 64) (by omega)]⟩

theorem ln_eq (i : grid0.Coords) (h j : ℕ) : ln (BitVec.ofNat 32 (64 * h)) i (BitVec.ofNat 32 j) = BitVec.ofNat 32 (64 * h + (4 * (i 2 : ℕ) + j)) := by
  unfold ln
  simp only [Scalar.addi, Scalar.muli, IntOp.addi, IntOp.muli]
  simp only [BitVec.ofNat_add, BitVec.ofNat_mul]

theorem lt_eq (i : grid0.Coords) (hi : (i 2 : ℕ) = 1) (k : ℕ) (hk : k < 4) (h : ℕ) (hh : h < 2) :
    lt (BitVec.ofNat 32 (64 * h)) i k = BitVec.ofNat 32 (64 * h + (3 - k)) := by
  unfold lt
  rw [hi]
  interval_cases k <;> interval_cases h <;> decide

theorem off3 (i : grid0.Coords) (hi : (i 2 : ℕ) = 1) (k : Fin (k0_t1_loop i).trips) (hk : (k : ℕ) < 4) : k0_off3 i k = ![256 * (3 - (k : ℕ)), 64 * 0] := by
  unfold k0_off3
  rw [hi]
  generalize (k : ℕ) = n at hk ⊢
  interval_cases n <;> decide

theorem off4 (i : grid0.Coords) (hi : (i 2 : ℕ) = 1) (k : Fin (k0_t1_loop i).trips) (hk : (k : ℕ) < 4) : k0_off4 i k = ![256 * (3 - (k : ℕ)), 64 * 1] := by
  unfold k0_off4
  rw [hi]
  generalize (k : ℕ) = n at hk ⊢
  interval_cases n <;> decide

section
variable {T : Data} {i : grid0.Coords} {x0 : Vec Ideal S1024x128 .bf16} {x1 x2 : Vec Ideal S2048x128 .bf16} (hp : IsPt T i x0 x1 x2)
include hp

theorem g1_is {s : St Ideal} (hs : IsFw T (two (4 * T.qi + 4) (4 * T.qi + 4)) s) : IsFw T (two (4 * T.qi + 3) (4 * T.qi + 4)) (g1 (F := Ideal) i x0 x1 x2 s) := by
  have hi : (i 2 : ℕ) < 2 := (i 2).isLt
  have hqi := hp.qi
  refine (hs.next rows256m_ok (kb := 4 * T.qi + 3) (h := 0) (r0 := 768) (by rfl) (by omega) (fun r _ s _ => by omega) (by omega) (by omega) (by rfl)
    (hp.x 0 (by omega) _ (by omega)) (by rw [hqi]; exact ln_eq i 0 3) (((Cert.Attn.slice_is hp.q0 _) : Is2 _ _).congr fun r _ c _ => ?_) hp.k hp.v
    (by rw [show k0_off1 i 3#32 = _ from k0_off1_eq i 3, hqi]; refine congrArg₂ (fun a b => ![a, b]) ?_ (by rfl); show 1024 * (i 2 : ℕ) + 256 * 3 = _; omega) _
    (by rfl) _ (by rfl) _ (by rfl) _).congrN (by rfl) (by rfl)
  congr 1 <;> omega

theorem g2_is {s : St Ideal} (hs : IsFw T (two (4 * T.qi + 3) (4 * T.qi + 4)) s) : IsFw T (two (4 * T.qi + 3) (4 * T.qi + 3)) (g2 (F := Ideal) i x0 x1 x2 s) := by
  have hi : (i 2 : ℕ) < 2 := (i 2).isLt
  have hqi := hp.qi
  refine (hs.next rows256m_ok (kb := 4 * T.qi + 3) (h := 1) (r0 := 768) (by rfl) (by omega) (fun r _ s _ => by omega) (by omega) (by omega) (by rfl)
    (hp.x 1 (by omega) _ (by omega)) (by rw [hqi]; exact ln_eq i 1 3) (((Cert.Attn.slice_is hp.q1 _) : Is2 _ _).congr fun r _ c _ => ?_) hp.k hp.v
    (by rw [show k0_off2 i 3#32 = _ from k0_off2_eq i 3, hqi]; refine congrArg₂ (fun a b => ![a, b]) ?_ (by rfl); show 1024 * (i 2 : ℕ) + 256 * 3 = _; omega) _
    (by rfl) _ (by rfl) _ (by rfl) _).congrN (by rfl) (by rfl)
  congr 1 <;> omega

theorem g3_is {s : St Ideal} (hs : IsFw T (two (4 * T.qi + 3) (4 * T.qi + 3)) s) : IsFw T (two (4 * T.qi + 2) (4 * T.qi + 3)) (g3 (F := Ideal) i x0 x1 x2 s) := by
  have hi : (i 2 : ℕ) < 2 := (i 2).isLt
  have hqi := hp.qi
  refine (hs.next rows512m_ok (kb := 4 * T.qi + 2) (h := 0) (r0 := 512) (by rfl) (by omega) (fun r _ s _ => by omega) (by omega) (by omega) (by rfl)
    (hp.x 0 (by omega) _ (by omega)) (by rw [hqi]; exact ln_eq i 0 2) (((Cert.Attn.slice_is hp.q0 _) : Is2 _ _).congr fun r _ c _ => ?_) hp.k hp.v
    (by rw [show k0_off1 i 2#32 = _ from k0_off1_eq i 2, hqi]; refine congrArg₂ (fun a b => ![a, b]) ?_ (by rfl); show 1024 * (i 2 : ℕ) + 256 * 2 = _; omega) _
    (by rfl) _ (by rfl) _ (by rfl) _).congrN (by rfl) (by rfl)
  congr 1 <;> omega

theorem g4_is {s : St Ideal} (hs : IsFw T (two (4 * T.qi + 2) (4 * T.qi + 3)) s) : IsFw T (two (4 * T.qi + 2) (4 * T.qi + 2)) (g4 (F := Ideal) i x0 x1 x2 s) := by
  have hi : (i 2 : ℕ) < 2 := (i 2).isLt
  have hqi := hp.qi
  refine (hs.next rows512m_ok (kb := 4 * T.qi + 2) (h := 1) (r0 := 512) (by rfl) (by omega) (fun r _ s _ => by omega) (by omega) (by omega) (by rfl)
    (hp.x 1 (by omega) _ (by omega)) (by rw [hqi]; exact ln_eq i 1 2) (((Cert.Attn.slice_is hp.q1 _) : Is2 _ _).congr fun r _ c _ => ?_) hp.k hp.v
    (by rw [show k0_off2 i 2#32 = _ from k0_off2_eq i 2, hqi]; refine congrArg₂ (fun a b => ![a, b]) ?_ (by rfl); show 1024 * (i 2 : ℕ) + 256 * 2 = _; omega) _
    (by rfl) _ (by rfl) _ (by rfl) _).congrN (by rfl) (by rfl)
  congr 1 <;> omega

theorem g5_is {s : St Ideal} (hs : IsFw T (two (4 * T.qi + 2) (4 * T.qi + 2)) s) : IsFw T (two (4 * T.qi + 1) (4 * T.qi + 2)) (g5 (F := Ideal) i x0 x1 x2 s) := by
  have hi : (i 2 : ℕ) < 2 := (i 2).isLt
  have hqi := hp.qi
  refine (hs.next rows768m_ok (kb := 4 * T.qi + 1) (h := 0) (r0 := 256) (by rfl) (by omega) (fun r _ s _ => by omega) (by omega) (by omega) (by rfl)
    (hp.x 0 (by omega) _ (by omega)) (by rw [hqi]; exact ln_eq i 0 1) (((Cert.Attn.slice_is hp.q0 _) : Is2 _ _).congr fun r _ c _ => ?_) hp.k hp.v
    (by rw [show k0_off1 i 1#32 = _ from k0_off1_eq i 1, hqi]; refine congrArg₂ (fun a b => ![a, b]) ?_ (by rfl); show 1024 * (i 2 : ℕ) + 256 * 1 = _; omega) _
    (by rfl) _ (by rfl) _ (by rfl) _).congrN (by rfl) (by rfl)
  congr 1 <;> omega

theorem g6_is {s : St Ideal} (hs : IsFw T (two (4 * T.qi + 1) (4 * T.qi + 2)) s) : IsFw T (two (4 * T.qi + 1) (4 * T.qi + 1)) (g6 (F := Ideal) i x0 x1 x2 s) := by
  have hi : (i 2 : ℕ) < 2 := (i 2).isLt
  have hqi := hp.qi
  refine (hs.next rows768m_ok (kb := 4 * T.qi + 1) (h := 1) (r0 := 256) (by rfl) (by omega) (fun r _ s _ => by omega) (by omega) (by omega) (by rfl)
    (hp.x 1 (by omega) _ (by omega)) (by rw [hqi]; exact ln_eq i 1 1) (((Cert.Attn.slice_is hp.q1 _) : Is2 _ _).congr fun r _ c _ => ?_) hp.k hp.v
    (by rw [show k0_off2 i 1#32 = _ from k0_off2_eq i 1, hqi]; refine congrArg₂ (fun a b => ![a, b]) ?_ (by rfl); show 1024 * (i 2 : ℕ) + 256 * 1 = _; omega) _
    (by rfl) _ (by rfl) _ (by rfl) _).congrN (by rfl) (by rfl)
  congr 1 <;> omega

theorem g7_is {s : St Ideal} (hs : IsFw T (two (4 * T.qi + 1) (4 * T.qi + 1)) s) : IsFw T (two (4 * T.qi + 0) (4 * T.qi + 1)) (g7 (F := Ideal) i x0 x1 x2 s) := by
  have hi : (i 2 : ℕ) < 2 := (i 2).isLt
  have hqi := hp.qi
  refine (hs.next rows1024m_ok (kb := 4 * T.qi + 0) (h := 0) (r0 := 0) (by rfl) (by omega) (fun r _ s _ => by omega) (by omega) (by omega) (by rfl)
    (hp.x 0 (by omega) _ (by omega)) (by rw [hqi]; exact ln_eq i 0 0) (((hp.q0) : Is2 _ _).congr fun r _ c _ => ?_) hp.k hp.v
    (by rw [show k0_off1 i 0#32 = _ from k0_off1_eq i 0, hqi]; refine congrArg₂ (fun a b => ![a, b]) ?_ (by rfl); show 1024 * (i 2 : ℕ) + 256 * 0 = _; omega) _
    (by rfl) _ (by rfl) _ (by rfl) _).congrN (by rfl) (by rfl)
  congr 1 <;> omega

theorem g8_is {s : St Ideal} (hs : IsFw T (two (4 * T.qi + 0) (4 * T.qi + 1)) s) : IsFw T (two (4 * T.qi + 0) (4 * T.qi + 0)) (g8 (F := Ideal) i x0 x1 x2 s) := by
  have hi : (i 2 : ℕ) < 2 := (i 2).isLt
  have hqi := hp.qi
  refine (hs.next rows1024m_ok (kb := 4 * T.qi + 0) (h := 1) (r0 := 0) (by rfl) (by omega) (fun r _ s _ => by omega) (by omega) (by omega) (by rfl)
    (hp.x 1 (by omega) _ (by omega)) (by rw [hqi]; exact ln_eq i 1 0) (((hp.q1) : Is2 _ _).congr fun r _ c _ => ?_) hp.k hp.v
    (by rw [show k0_off2 i 0#32 = _ from k0_off2_eq i 0, hqi]; refine congrArg₂ (fun a b => ![a, b]) ?_ (by rfl); show 1024 * (i 2 : ℕ) + 256 * 0 = _; omega) _
    (by rfl) _ (by rfl) _ (by rfl) _).congrN (by rfl) (by rfl)
  congr 1 <;> omega

theorem own_is : IsFw T (two (4 * T.qi) (4 * T.qi)) (own (F := Ideal) i x0 x1 x2) :=
  g8_is hp (g7_is hp (g6_is hp (g5_is hp (g4_is hp (g3_is hp (g2_is hp (g1_is hp ((ini_is T).congrN (by rfl) (by rfl)))))))))

theorem tA_is (hi : (i 2 : ℕ) = 1) (k : Fin (k0_t1_loop i).trips) (hk : (k : ℕ) < 4) {n : ℕ} (hn : n = 3 - (k : ℕ) + 1) {s : St Ideal} (hs : IsFw T (two n n) s) :
    IsFw T (two (3 - k) n) (tA (F := Ideal) i x0 x1 x2 k s) := by
  have hqi := hp.qi
  refine (IsFw.next rows1024_ok hs (kb := 3 - (k : ℕ)) (h := 0) (r0 := 0) (by rfl) (by omega) (fun r _ s _ => by simp only [true_iff]; omega) (by omega) (by omega) hn
    (hp.x 0 (by omega) _ (by omega)) (lt_eq i hi k hk 0 (by omega)) ((hp.q0 : Is2 _ _).congr fun r _ c _ => ?_) hp.k hp.v (off3 i hi k hk) _
    (by rfl) _ (by rfl) _ (by rfl) _).congrN (by rfl) (by rfl)
  congr 1 <;> omega

theorem tB_is (hi : (i 2 : ℕ) = 1) (k : Fin (k0_t1_loop i).trips) (hk : (k : ℕ) < 4) {n : ℕ} (hn : n = 3 - (k : ℕ) + 1) {s : St Ideal} (hs : IsFw T (two n n) s) :
    IsFw T (two (3 - k) (3 - k)) (tB (F := Ideal) i x0 x1 x2 k s) := by
  have hqi := hp.qi
  refine (IsFw.next rows1024_ok (tA_is hp hi k hk hn hs) (kb := 3 - (k : ℕ)) (h := 1) (r0 := 0) (by rfl) (by omega) (fun r _ s _ => by simp only [true_iff]; omega) (by omega) (by omega) hn
    (hp.x 1 (by omega) _ (by omega)) (lt_eq i hi k hk 1 (by omega)) ((hp.q1 : Is2 _ _).congr fun r _ c _ => ?_) hp.k hp.v (off4 i hi k hk) _
    (by rfl) _ (by rfl) _ (by rfl) _).congrN (by rfl) (by rfl)
  congr 1 <;> omega

theorem trips_is (hi : (i 2 : ℕ) = 1) (k0 k1 k2 k3 : Fin (k0_t1_loop i).trips) (h0 : k0.val = 0) (h1 : k1.val = 1) (h2 : k2.val = 2) (h3 : k3.val = 3) :
    IsFw T (two 0 0) (tB (F := Ideal) i x0 x1 x2 k3 (tB i x0 x1 x2 k2 (tB i x0 x1 x2 k1 (tB i x0 x1 x2 k0 (own i x0 x1 x2))))) := by
  have hqi := hp.qi
  have e : IsFw T (two 4 4) (own (F := Ideal) i x0 x1 x2) := (own_is hp).congrN (by show 4 * T.qi = 4; omega) (by show 4 * T.qi = 4; omega)
  have e0 := tB_is hp hi k0 (by omega) (by omega) e
  have e1 := tB_is hp hi k1 (by omega) (by omega) e0
  have e2 := tB_is hp hi k2 (by omega) (by omega) e1
  have e3 := tB_is hp hi k3 (by omega) (by omega) e2
  rw [h3] at e3
  exact e3
end

end Cert.Fw
-- ==== Proof.FwdWhole.lean ====
module

public import proofs.«01_k».proof.Proof.FwdPoint
public import proofs.«01_k».proof.Proof.Grid
public import proofs.«01_k».proof.Proof.Gen.FwdIdeal.Value
public import Idealize.ShloMosaic.Lib.Pipeline.ReadBack

/-! # The results of the attention's forward call -/

set_option maxRecDepth 16384

@[expose] public section

noncomputable section

open Idealize.ShloMosaic Idealize.ShloMosaic.TcCoe Idealize.SL.Sem
open Idealize.ShloMosaic.Pipeline (Dat)

namespace Cert.Fw

open Cert.Attn (Is2 Is3 Data two Whole.sp Whole.o tile)
open Cert.FwdIdeal Cert.FwdIdeal.Gen

variable {m : (ℓ : Loc nD τ sig) → Buf (Elt Ideal) ℓ} {c : Dev nD} {H : ℕ → ℕ → ℝ}

/-- The blocks of the windows: batch `t / 16`, heads `t / 2 % 8`, block of rows `t % 2`. -/
theorem idx : ∀ t : Fin cfg0.N, win0_0.index t = ![t.val / 16 * 2 + t.val % 2, t.val / 2 % 8] ∧ win0_1.index t = ![t.val / 16, 8 + t.val / 2 % 8]
    ∧ win0_2.index t = ![t.val / 16, 16 + t.val / 2 % 8] ∧ win0_3.index t = ![t.val / 16 * 2 + t.val % 2, 24 + t.val / 2 % 8]
    ∧ win0_5.index t = ![t.val / 16 * 2 + t.val % 2, t.val / 2 % 8] ∧ win0_6.index t = ![t.val / 16 * 2 + t.val % 2, t.val / 2 % 8]
    ∧ win0_7.index t = ![t.val / 2 % 8, t.val / 16 * 2 + t.val % 2, 0] :=
  (by decide +kernel : ∀ t : Fin grid0.N, _)

theorem lt32 (t : Fin cfg0.N) : t.val < 32 := t.isLt

/-- The row of the whole arrays that a tile's row is. -/
def row (t : Fin cfg0.N) (r : Fin 1024) : Fin 4096 := ⟨2048 * (t.val / 16) + (1024 * (t.val % 2) + r), by have := lt32 t; omega⟩
/-- The row that a sequence's row is. -/
def seq (t : Fin cfg0.N) (r : Fin 2048) : Fin 4096 := ⟨2048 * (t.val / 16) + r, by have := lt32 t; omega⟩
/-- The column that a tile's column is, among those of one kind. -/
def col (t : Fin cfg0.N) (s : Fin 128) : Fin 1024 := ⟨128 * (t.val / 2 % 8) + s, by omega⟩

section
variable (t : Fin cfg0.N)

theorem rd0 (X : Vec Ideal S4096x9216 .bf16) (r : Fin 1024) (s : Fin 128) : ((cfg0.win 0).blk t).view.read (Elt Ideal) X (ix2 r s) = X (ix2 (row t r) ⟨col t s, by omega⟩) := by
  unfold row col; blk_point [idx t]
theorem rd1 (X : Vec Ideal S4096x9216 .bf16) (r : Fin 2048) (s : Fin 128) : ((cfg0.win 1).blk t).view.read (Elt Ideal) X (ix2 r s) = X (ix2 (seq t r) ⟨1024 + col t s, by omega⟩) := by
  unfold seq col; blk_point [idx t]
theorem rd2 (X : Vec Ideal S4096x9216 .bf16) (r : Fin 2048) (s : Fin 128) : ((cfg0.win 2).blk t).view.read (Elt Ideal) X (ix2 r s) = X (ix2 (seq t r) ⟨2048 + col t s, by omega⟩) := by
  unfold seq col; blk_point [idx t]
theorem rd3 (X : Vec Ideal S4096x9216 .f32) (r : Fin 1024) (s : Fin 128) : ((cfg0.win 3).blk t).view.read (Elt Ideal) X (ix2 r s) = X (ix2 (row t r) ⟨3072 + col t s, by omega⟩) := by
  unfold row col; blk_point [idx t]
theorem at5 (R : Vec Ideal S4096x1024 .f32) (r : Fin 1024) (s : Fin 128) : R ((win0_5.blk t).view.emb (ix2 r s)) = R (ix2 (row t r) (col t s)) := by
  unfold row col; blk_point [idx t]
theorem at6 (R : Vec Ideal S4096x1024 .bf16) (r : Fin 1024) (s : Fin 128) : R ((win0_6.blk t).view.emb (ix2 r s)) = R (ix2 (row t r) (col t s)) := by
  unfold row col; blk_point [idx t]
theorem at7 (R : Vec Ideal S8x4096x128 .f32) (p : Fin 1) (r : Fin 1024) (s : Fin 128) : R ((win0_7.blk t).view.emb (ix3 p r s)) = R (ix3 ⟨t.val / 2 % 8, by omega⟩ (row t r) s) := by
  unfold row; blk_point [idx t]
end

/-- The queries, keys and values are real numbers. -/
abbrev FinM (m : (ℓ : Loc nD τ sig) → Buf (Elt Ideal) ℓ) (c : Dev nD) (H : ℕ → ℕ → ℝ) : Prop := Cert.Attn.Host.FinQ (m ((c : Thread nD τ).loc main_arg0)) H

theorem V_v0 : V m c main_v0 = (truncf .bf16 (m ((c : Thread nD τ).loc main_arg0) : FVec Ideal S4096x9216 .f32) bitsLt_bf16_f32 : FVec Ideal S4096x9216 .bf16) := by
  unfold V
  simp only [hostOps0]
  after_results_simp

theorem v0_at (hm : FinM m c H) (r : Fin 4096) (s : ℕ) (hs : s < 3072) : (V m c main_v0 (ix2 r ⟨s, by omega⟩) : EReal) = ((H r s : ℝ) : EReal) := by
  rw [V_v0]
  exact hm r s hs

theorem coord2 (t : Fin cfg0.N) : ((grid0.coords t) 2 : ℕ) = t.val % 2 := by
  have := Pipeline.Grid.coords_val (G := grid0) t 2 (S := 1) (B := 2) (by decide) rfl
  rw [this, Nat.div_one]

/-- The tile of a grid point. -/
abbrev tl (H : ℕ → ℕ → ℝ) (t : Fin cfg0.N) : Data := tile H (fun _ _ => 0) (t.val / 16) (t.val / 2 % 8) (t.val % 2)

theorem tl_W (t : Fin cfg0.N) (h r n : ℕ) : W (tl H t) h r n = ∑ k ∈ Finset.range 2048, if 256 * n ≤ k then Whole.sp H (t.val / 16) (2 * (t.val / 2 % 8) + h) (1024 * (t.val % 2) + r) k else 0 := by
  unfold W tail
  exact Finset.sum_congr rfl fun k _ => by rw [Cert.Attn.tile_SP]

theorem point (hm : FinM m c H) (t : Fin cfg0.N) : IsPt (tl H t) (grid0.coords t) (iblk m c 0 t) (iblk m c 1 t) (iblk m c 2 t) := by
  have ht := lt32 t
  have hq : Is2 (a := 1024) (b := 128) (iblk m c 0 t) (fun r s => H (2048 * (t.val / 16) + (1024 * (t.val % 2) + r)) (128 * (t.val / 2 % 8) + s)) :=
    fun r s => (rd0 t (V m c main_v0) r s).trans (v0_at hm _ _ (by omega))
  refine ⟨(coord2 t).symm, Cert.Attn.qh0_is hq, Cert.Attn.qh1_is hq, fun r s => ?_, fun r s => ?_, fun h hh kb hk r => ?_⟩
  · exact (rd1 t (V m c main_v0) r s).trans (v0_at hm _ _ (by have := (col t s).isLt; omega))
  · exact (rd2 t (V m c main_v0) r s).trans (v0_at hm _ _ (by have := (col t s).isLt; omega))
  · rw [tl_W]
    unfold tl tile
    dsimp only
    rw [show (64 * h + kb) % 64 = kb by omega, show (64 * h + kb) / 64 = h by omega]

theorem pack {S : St Ideal} {x5 : Vec Ideal S1024x128 .f32} {x6 : Vec Ideal S1024x128 .bf16} {x7 : Vec Ideal S1x1024x128 .f32} {z : Vec Ideal S1024x128 .f32} (e5 : x5 = S.acc)
    (e6 : x6 = Cert.FwdIdeal.Gen.k0_pay1 (F := Ideal) S.acc z) (e7 : x7 = S.c) : (x5, x6, x7) = (S.acc, Cert.FwdIdeal.Gen.k0_pay1 (F := Ideal) S.acc z, S.c) := by
  rw [e5, e6, e7]

/-- What a grid point leaves. -/
theorem left (hm : FinM m c H) (t : Fin cfg0.N) : ∃ s : St Ideal, IsFw (tl H t) (two 0 0) s ∧
    outsAt0 m c t = (s.acc, Cert.FwdIdeal.Gen.k0_pay1 (F := Ideal) s.acc (iblk m c 3 t), s.c) := by
  have hp := point hm t
  have e5 := out5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t)
  have e6 := out6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t)
  have e7 := out7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t)
  unfold outsAt0
  refine ⟨_, ?_, pack e5 e6 e7⟩
  rcases Nat.mod_two_eq_zero_or_one t.val with h | h
  · have hc := (coord2 t).trans h
    rw [after_A (h := hc)]
    exact (own_is hp).congrN (by show 4 * (t.val % 2) = 0; omega) (by show 4 * (t.val % 2) = 0; omega)
  · have hc := (coord2 t).trans h
    have e : (k0_t1_loop (grid0.coords t)).trips = 4 := by rw [trips1, hc]
    rw [after_B (h := hc) (k0 := ⟨0, by omega⟩) (k1 := ⟨1, by omega⟩) (k2 := ⟨2, by omega⟩) (k3 := ⟨3, by omega⟩) (h0 := rfl) (h1 := rfl) (h2 := rfl) (h3 := rfl)]
    exact trips_is hp hc _ _ _ _ rfl rfl rfl rfl

/-- The attention's result before the gate. -/
theorem o_pt {t : Fin cfg0.N} {s : St Ideal} (hs : IsFw (tl H t) (two 0 0) s) (r : Fin 1024) (j : Fin 128) : (s.acc (ix2 r j) : EReal)
    = ((Whole.o H ((row t r : ℕ) / 2048) ((col t j : ℕ) / 64) ((row t r : ℕ) % 2048) ((col t j : ℕ) % 64) : ℝ) : EReal) := by
  have ht := lt32 t
  refine (hs.acc r j).trans (congrArg Real.toEReal ?_)
  have hN : two 0 0 ((j : ℕ) / 64) = 0 := by unfold two; split_ifs <;> rfl
  dsimp only
  rw [hN, tail_all]
  unfold Whole.o row col
  dsimp only
  rw [show (2048 * (t.val / 16) + (1024 * (t.val % 2) + (r : ℕ))) / 2048 = t.val / 16 by omega, show (2048 * (t.val / 16) + (1024 * (t.val % 2) + (r : ℕ))) % 2048 = 1024 * (t.val % 2) + r by omega,
    show (128 * (t.val / 2 % 8) + (j : ℕ)) / 64 = 2 * (t.val / 2 % 8) + j / 64 by omega, show (128 * (t.val / 2 % 8) + (j : ℕ)) % 64 = j % 64 by omega]
  refine Finset.sum_congr rfl fun k hk => ?_
  rw [Cert.Attn.tile_A _ _ _ _ _ _ _ _ (Finset.mem_range.mp hk), mul_comm]
  refine congrArg (· * _) ?_
  show H _ _ = H _ _
  rw [Cert.Attn.lane']

/-- The results before the gate. -/
theorem final5 (hm : FinM m c H) (R : FVec Ideal S4096x1024 .f32)
    (hR : Is2 (a := 4096) (b := 1024) R (fun r s => Whole.o H (r / 2048) (s / 64) (r % 2048) (s % 64))) : (dats m 0 c).arrAt 5 cfg0.N = R := by
  refine (dats m 0 c).arrAt_eq_of_covers 5 _ (by decide +kernel) fun t hf y => ?_
  blk_simp
  rw [after0_5]
  obtain ⟨s, hs, e⟩ := left hm t
  obtain ⟨r, j, rfl⟩ : ∃ (r : Fin 1024) (j : Fin 128), y = ix2 r j := ⟨y 0, y 1, eq_ix2 y⟩
  rw [e]
  exact ((at5 t R r j).trans ((hR _ _).trans (o_pt hs r j).symm)).symm

/-- The gate's logistic function times its argument. -/
def silu (z : EReal) : EReal := z * Ideal.div 1 (1 + Ideal.exp (-z))

theorem pay1_at (o z : Vec Ideal S1024x128 .f32) (r : Fin 1024) (j : Fin 128) :
    (Cert.FwdIdeal.Gen.k0_pay1 (F := Ideal) o z (ix2 r j) : EReal) = @HMul.hMul EReal EReal EReal _ (o (ix2 r j)) (silu (z (ix2 r j))) := by
  pointwise [Cert.FwdIdeal.Gen.k0_pay1, silu]
  rw [zero_sub]

/-- The gated results. -/
theorem final6 (hm : FinM m c H) (R : FVec Ideal S4096x1024 .bf16)
    (hR : ∀ (r : Fin 4096) (s : Fin 1024), (R (ix2 r s) : EReal)
      = @HMul.hMul EReal EReal EReal _ ((Whole.o H ((r : ℕ) / 2048) ((s : ℕ) / 64) ((r : ℕ) % 2048) ((s : ℕ) % 64) : ℝ) : EReal) (silu (m ((c : Thread nD τ).loc main_arg0) (ix2 r ⟨3072 + s, by omega⟩)))) :
    (dats m 0 c).arrAt 6 cfg0.N = R := by
  refine (dats m 0 c).arrAt_eq_of_covers 6 _ (by decide +kernel) fun t hf y => ?_
  blk_simp
  rw [after0_6]
  obtain ⟨s, hs, e⟩ := left hm t
  obtain ⟨r, j, rfl⟩ : ∃ (r : Fin 1024) (j : Fin 128), y = ix2 r j := ⟨y 0, y 1, eq_ix2 y⟩
  rw [e]
  refine ((at6 t R r j).trans ((hR _ _).trans (Eq.trans ?_ (pay1_at s.acc (iblk m c 3 t) r j).symm))).symm
  rw [o_pt hs r j, show iblk m c 3 t (ix2 r j) = _ from rd3 t (V m c main_arg0) r j, V_main_arg0]

/-- The sums saved for the gradient. -/
theorem final7 (hm : FinM m c H) (R : FVec Ideal S8x4096x128 .f32)
    (hR : Is3 (a := 8) (b := 4096) (c := 128) R (fun p r j => ∑ s ∈ Finset.range 2048, if 256 * (j % 64 + 1) ≤ s then Whole.sp H (r / 2048) (2 * p + j / 64) (r % 2048) s else 0)) :
    (dats m 0 c).arrAt 7 cfg0.N = R := by
  refine (dats m 0 c).arrAt_eq_of_covers 7 _ (by decide +kernel) fun t hf y => ?_
  blk_simp
  rw [after0_7]
  have ht := lt32 t
  obtain ⟨s, hs, e⟩ := left hm t
  obtain ⟨p, r, j, rfl⟩ : ∃ (p : Fin 1) (r : Fin 1024) (j : Fin 128), y = ix3 p r j := ⟨y 0, y 1, y 2, eq_ix3 y⟩
  rw [e]
  refine ((at7 t R p r j).trans ((hR _ _ _).trans (Eq.trans (congrArg Real.toEReal ?_) (hs.c p r j).symm))).symm
  have hN : two 0 0 ((j : ℕ) / 64) = 0 := by unfold two; split_ifs <;> rfl
  dsimp only
  rw [hN, if_pos (Nat.zero_le _), tl_W]
  unfold row
  dsimp only
  rw [show (2048 * (t.val / 16) + (1024 * (t.val % 2) + (r : ℕ))) / 2048 = t.val / 16 by omega, show (2048 * (t.val / 16) + (1024 * (t.val % 2) + (r : ℕ))) % 2048 = 1024 * (t.val % 2) + r by omega]

end Cert.Fw
-- ==== Proof.FwdValue.lean ====
module

public import proofs.«01_k».proof.Defs
public import proofs.«01_k».proof.Proof.FwdWhole
public import proofs.«01_k».proof.Proof.AttnValue
public import proofs.«01_k».proof.Proof.Gen.FwdRefIdeal.Run

/-! # The attention's forward call computes the attention

The precondition says that the queries, keys and values are real numbers; of the gate nothing is asked. -/

set_option maxRecDepth 16384

@[expose] public section

noncomputable section

open Idealize.ShloMosaic Idealize.ShloMosaic.TcCoe Idealize.SL.Sem

namespace Cert.Fw

open Cert.Attn (Is2 Is3)

/-- The shapes of the precondition fit. -/
instance pre_facts : Cert.Pre_finite_qkv.Facts where
  slices_S4096x9216_S4096x3072_0_0 := ⟨rfl, by decide⟩
  bcast_S_S4096x3072 := by decide
  reducesTo_S4096x3072_S_d0_1 := by decide
  h_S_ := by decide

/-- What the precondition says of the argument. -/
theorem finite_fn (x : FVec Ideal Cert.Pre_finite_qkv.S4096x9216 .f32) (h : Cert.Pre_finite_qkv.fn (F := Ideal) x = fun _ => 1#1) (r : Fin 4096) (c : Fin 3072) :
    (x (ix2 r ⟨c, by omega⟩) : EReal) - x (ix2 r ⟨c, by omega⟩) = 0 := by
  have h0 := congrFun h (fun d => d.elim0)
  dsimp only [Cert.Pre_finite_qkv.fn] at h0
  have hs : Subsingleton Cert.Pre_finite_qkv.S_.Idx := ⟨fun a b => funext fun d => d.elim0⟩
  have z : Ideal.ofBits .f32 0x00000000#32 = 0 := by simp [Ideal.ofBits, Ideal.ieee]
  have e := Host.reduce_andi_all _ _ _ _ _ h0 (ix2 r c)
  refine Eq.trans (Eq.trans ?_ (Cert.Attn.eq_of_oeq e)) z
  pointwise

/-- The precondition gives real numbers. -/
theorem finm (m : (ℓ : Loc Cert.FwdIdeal.nD Cert.FwdIdeal.τ Cert.FwdIdeal.sig) → Buf (Elt Ideal) ℓ) (h : Cert.Pre_FwdIdeal_finite_qkv m) (c : Dev Cert.FwdIdeal.nD) :
    FinM m c (Cert.Attn.reals (a := 4096) (b := 9216) (m ((c : Thread Cert.FwdIdeal.nD Cert.FwdIdeal.τ).loc Cert.FwdIdeal.main_arg0))) :=
  fun r k hk => Cert.Attn.reals_at _ r ⟨k, by omega⟩ (finite_fn _ (h c) r ⟨k, hk⟩)

theorem frame_ideal_pre : Cert.quiescent_FwdIdeal_pre_finite_qkv := fun m ρ _ => Cert.FwdIdeal.Gen.frame m ρ

theorem frame_ref_pre : Cert.quiescent_FwdRefIdeal_pre_finite_qkv := fun m ρ _ =>
  (θ_run Cert.FwdRefIdeal.defs _ _).mono (fun r h => ⟨fun c => (h c).2.2.2, sem_eq_zero_of_no_sems (by decide) r.2⟩)
    (Cert.FwdRefIdeal.Value.run (F := Ideal) m ρ)

section
variable (m' : (ℓ : Loc Cert.FwdRefIdeal.nD Cert.FwdRefIdeal.τ Cert.FwdRefIdeal.sig) → Buf (Elt Ideal) ℓ) (c : Dev Cert.FwdIdeal.nD)

/-- The reference's argument. -/
abbrev ax : FVec Ideal Cert.KernelIdeal.S4096x9216 .f32 := m' ((c.tc : Thread Cert.FwdRefIdeal.nD Cert.FwdRefIdeal.τ).loc Cert.FwdRefIdeal.main_arg0)

theorem res0 : Cert.FwdRefIdeal.Value.res_main_v44 m' c = Cert.Attn.Host.ho (ax m' c) := by
  unfold Cert.FwdRefIdeal.Value.res_main_v44
  rfl

theorem res2 : Cert.FwdRefIdeal.Value.res_main_v45 m' c = Cert.Attn.Host.hcar (Cert.Attn.Host.hc (Cert.Attn.Host.hsp (ax m' c))) := by
  unfold Cert.FwdRefIdeal.Value.res_main_v45
  rfl

/-- The gate. -/
def gate (x : FVec Ideal Cert.KernelIdeal.S4096x9216 .f32) : FVec Ideal Cert.FwdRefIdeal.S4096x1024 .f32 :=
  mulf (extractStridedSlice Cert.FwdRefIdeal.S4096x1024 ![0, 3072] x Cert.FwdRefIdeal.Gen.slices_S4096x9216_S4096x1024_0_3072)
    (Host.divf (broadcastInDim Cert.FwdRefIdeal.S4096x1024 ![] Cert.FwdRefIdeal.Gen.bcast_S_S4096x1024 (constant Cert.FwdRefIdeal.S_ .f32 0x3F800000#32))
      (addf (broadcastInDim Cert.FwdRefIdeal.S4096x1024 ![] Cert.FwdRefIdeal.Gen.bcast_S_S4096x1024 (constant Cert.FwdRefIdeal.S_ .f32 0x3F800000#32))
        (Host.exp (Host.negf (extractStridedSlice Cert.FwdRefIdeal.S4096x1024 ![0, 3072] x Cert.FwdRefIdeal.Gen.slices_S4096x9216_S4096x1024_0_3072)))))

theorem res1 : Cert.FwdRefIdeal.Value.res_main_v49 m' c
    = (truncf .bf16 (mulf (Cert.Attn.Host.ho (ax m' c)) (gate (ax m' c)) : FVec Ideal Cert.FwdRefIdeal.S4096x1024 .f32) Cert.FwdRefIdeal.Gen.bitsLt_bf16_f32 : FVec Ideal Cert.FwdRefIdeal.S4096x1024 .bf16) := by
  unfold Cert.FwdRefIdeal.Value.res_main_v49
  rfl

theorem gate_at (x : FVec Ideal Cert.KernelIdeal.S4096x9216 .f32) (r : Fin 4096) (s : Fin 1024) : (gate x (ix2 r s) : EReal) = silu (x (ix2 r ⟨3072 + s, by omega⟩)) := by
  pointwise [gate, silu]
end

/-- The kernel's three results are the reference's: the attention before the gate, after it, and the sums saved. -/
theorem value : Cert.algebraic_FwdIdeal_FwdRefIdeal_pre_finite_qkv := by
  intro m g m' g' hpre hagree
  refine ⟨fun c => (Cert.FwdIdeal.Gen.dats m 0 c).arrAt 5 Cert.FwdIdeal.cfg0.N, fun c => (Cert.FwdIdeal.Gen.dats m 0 c).arrAt 6 Cert.FwdIdeal.cfg0.N,
    fun c => (Cert.FwdIdeal.Gen.dats m 0 c).arrAt 7 Cert.FwdIdeal.cfg0.N, ?_, ?_⟩
  · exact (θ_run Cert.FwdIdeal.defs _ _).mono (fun r h c => ⟨(h.1 c).1 5, (h.1 c).1 6, (h.1 c).1 7, h.2 c⟩)
      (θ_run_and (Cert.FwdIdeal.Gen.run_main m g) (Cert.FwdIdeal.Gen.unchanged m g))
  · refine (θ_run Cert.FwdRefIdeal.defs _ _).mono (fun r h c => ?_) (Cert.FwdRefIdeal.Value.run (F := Ideal) m' g')
    obtain ⟨h0, h1, h2, h3⟩ := h c
    have k := finm m hpre c
    have ea : ax m' c = m ((c : Thread Cert.FwdIdeal.nD Cert.FwdIdeal.τ).loc Cert.FwdIdeal.main_arg0) := hagree c
    have k' : Cert.Attn.Host.FinQ (ax m' c) (Cert.Attn.reals (a := 4096) (b := 9216) (m ((c : Thread Cert.FwdIdeal.nD Cert.FwdIdeal.τ).loc Cert.FwdIdeal.main_arg0))) := by
      rw [ea]; exact k
    have e5 := final5 k _ (Cert.Attn.Host.ho_is k')
    have e6 := final6 k (truncf .bf16 (mulf (Cert.Attn.Host.ho (ax m' c)) (gate (ax m' c)) : FVec Ideal Cert.FwdRefIdeal.S4096x1024 .f32) Cert.FwdRefIdeal.Gen.bitsLt_bf16_f32 : FVec Ideal Cert.FwdRefIdeal.S4096x1024 .bf16) fun a b => by
      have hg := (gate_at (ax m' c) a b).trans (congrArg (fun u : FVec Ideal Cert.KernelIdeal.S4096x9216 .f32 => silu (u (ix2 a ⟨3072 + b, by omega⟩))) ea)
      have ho := Cert.Attn.Host.ho_is k' a b
      beta_reduce at hg ho
      rw [← hg, ← ho]
      pointwise
    have e7 := final7 k _ ((Cert.Attn.Host.hcar_is (Cert.Attn.Host.hc_is (Cert.Attn.Host.hsp_is k'))).congr fun p hp r hr j hj => by simp only [neg_neg])
    exact ⟨h0.trans ((res0 m' c).trans e5.symm), h1.trans ((res1 m' c).trans e6.symm), h2.trans ((res2 m' c).trans e7.symm), h3⟩

end Cert.Fw
-- ==== Proof.LnRule.lean ====
module

public import proofs.«01_k».proof.Defs
public import Idealize.ShloMosaic.Lib.Claim
public import Idealize.ShloMosaic.Lib.Pipeline.ValueKit

/-! # The normalisation of a row

Written as the programs compute it, over the extended reals. -/

@[expose] public section

noncomputable section

open Idealize.ShloMosaic

namespace Cert.Ln

/-- The mean of a row. -/
def mean (x : Fin 1024 → EReal) : EReal := Ideal.div (∑ k, x k) (Ideal.ofBits .f32 0x44800000#32)

/-- The row less its mean. -/
def cen (x : Fin 1024 → EReal) (k : Fin 1024) : EReal := x k - mean x

/-- One over the deviation. -/
def dev (x : Fin 1024 → EReal) : EReal :=
  Ideal.rsqrt (Ideal.div (∑ k, cen x k * cen x k) (Ideal.ofBits .f32 0x44800000#32) + Ideal.ofBits .f32 0x3727C5AC#32)

/-- The normalised row. -/
def hat (x : Fin 1024 → EReal) (k : Fin 1024) : EReal := cen x k * dev x

/-- Scaled and shifted. -/
def ln (x g b : Fin 1024 → EReal) (k : Fin 1024) : EReal := hat x k * g k + b k

/-- Equal rows, equal results. -/
theorem ln_congr {x x' g g' b b' : Fin 1024 → EReal} {k k' : Fin 1024} (h : x = x') (h1 : g = g') (h2 : b = b') (h3 : k = k') : ln x g b k = ln x' g' b' k' := by
  rw [h, h1, h2, h3]

end Cert.Ln
-- ==== Proof.ConvTap.lean ====
module

public import proofs.«01_k».proof.Defs
public import proofs.«01_k».proof.Proof.LnRule
public import proofs.«01_k».proof.Proof.Gen.ConvFIdeal.Value
public import Idealize.ShloMosaic.Lib.Pipeline.ValueKit

/-! # What the convolution's call stores

A point holds its block of 256 rows after the 32 rows before it, and adds the 31 taps up by their row modulo eight, each group from a
copy moved by that many rows. -/

set_option maxRecDepth 16384
@[expose] public section
noncomputable section
open Idealize.ShloMosaic Idealize.ShloMosaic.TcCoe Idealize.SL.Sem
namespace Cert.ConvFIdeal.Conv
open Cert.ConvFIdeal Cert.ConvFIdeal.Gen Cert.Ln

/-- Row `r` of the rows a point sums over: 32 rows before the block, then the block's. -/
def padv (x : FVec Ideal S256x1024 .f32) (y : FVec Ideal S32x1024 .f32) (r : ℕ) (k : Fin 1024) : EReal :=
  if h : r < 32 then y (ix2 ⟨r, h⟩ k) else if h : r - 32 < 256 then x (ix2 ⟨r - 32, h⟩ k) else 0

theorem canon_pad (x : FVec Ideal S256x1024 .f32) (y : FVec Ideal S32x1024 .f32) (i1 i2) (j : S288x1024.Idx) :
    View.canon (Val := Elt Ideal) (e := .f32) (s := S288x1024) [⟨Rect.unit ![32, 0] ![256, 1024] i1, x⟩, ⟨Rect.unit ![0, 0] ![32, 1024] i2, y⟩] j = padv x y (j 0).val (j 1) := by
  have h0 : (j 0).val < 288 := (j 0).isLt
  have h1 : (j 1).val < 1024 := (j 1).isLt
  unfold padv
  by_cases h : (j 0).val < 32
  · rw [dif_pos h, View.canon_cons_of_not_mem]
    · have e : (Rect.unit (s := S288x1024) ![0, 0] ![32, 1024] i2).emb (ix2 ⟨(j 0).val, h⟩ (j 1)) = j := by
        funext a; refine Fin.ext ?_
        fin_cases a
        · show 0 + 1 * (j 0).val = (j 0).val; omega
        · show 0 + 1 * (j 1).val = (j 1).val; omega
      conv_lhs => rw [← e]
      exact View.canon_cons_emb _ _ _ _
    · intro hm
      have := ((Rect.mem_set_unit (inb := i1)).1 hm) 0
      simp at this
      omega
  · have h' : (j 0).val - 32 < 256 := by omega
    rw [dif_neg h, dif_pos h']
    have e : (Rect.unit (s := S288x1024) ![32, 0] ![256, 1024] i1).emb (ix2 ⟨(j 0).val - 32, h'⟩ (j 1)) = j := by
      funext a; refine Fin.ext ?_
      fin_cases a
      · show 32 + 1 * ((j 0).val - 32) = (j 0).val; omega
      · show 0 + 1 * (j 1).val = (j 1).val; omega
    conv_lhs => rw [← e]
    exact View.canon_cons_emb _ _ _ _

/-- `n` of them, from row `o`. -/
def padr (x : FVec Ideal S256x1024 .f32) (y : FVec Ideal S32x1024 .f32) (o n : ℕ) : FVec Ideal ⟨2, ![n, 1024]⟩ .f32 := fun j => padv x y (o + (j 0).val) (j 1)

/-- 256 of 280 rows, from row `a`. -/
def cutr (P : FVec Ideal ⟨2, ![280, 1024]⟩ .f32) (a : ℕ) : FVec Ideal S256x1024 .f32 := fun j =>
  if h : a + (j 0).val < 280 then P (ix2 (⟨a + (j 0).val, h⟩ : Fin 280) (j 1 : Fin 1024)) else 0

theorem cut_pad (x : FVec Ideal S256x1024 .f32) (y : FVec Ideal S32x1024 .f32) (o a : ℕ) (h : a + 256 ≤ 280) : cutr (padr x y o 280) a = padr x y (o + a) 256 := by
  funext j
  have h0j : (j 0).val < 256 := (j 0).isLt
  unfold cutr
  rw [dif_pos (by omega)]
  show padv x y (o + (a + (j 0).val)) (j 1) = padv x y (o + a + (j 0).val) (j 1)
  rw [Nat.add_assoc]

/-- A read of the rows. -/
theorem pad_read {sig : RefSig} {κ : Kind} {sp : Space} (v : View sig κ sp S288x1024 .f32) (x : FVec Ideal S256x1024 .f32) (y : FVec Ideal S32x1024 .f32) (i1 i2) (o n : ℕ) (i3) :
    v.readCov (Val := Elt Ideal) [⟨Rect.unit ![32, 0] ![256, 1024] i1, x⟩, ⟨Rect.unit ![0, 0] ![32, 1024] i2, y⟩] (Rect.unit ![o, 0] ![n, 1024] i3).toLoadRect
      = padr x y o n := by
  rw [View.readCov_eq_canon']
  funext j
  rw [canon_pad]
  unfold padr
  congr 1
  · show o + 1 * (j 0).val = o + (j 0).val; omega
  · refine Fin.ext ?_; show 0 + 1 * (j 1).val = (j 1).val; omega

/-- A read of a staged copy. -/
theorem stage_read {sig : RefSig} {κ : Kind} {sp : Space} (v : View sig κ sp S2x288x1024 .f32) (P : FVec Ideal ⟨2, ![280, 1024]⟩ .f32) (L) (s a : ℕ) (ha : a + 256 ≤ 280)
    (i1 i2 i3 h0 hs) (hq : ((Rect.unit (s := S288x1024) ![0, 0] ![280, 1024] i2).consLift ![1, 288, 1024] h0 hs).shape.numel = (Rect.unit (s := S288x1024) ![0, 0] ![280, 1024] i2).shape.numel) (st h0' hs' st' hr) :
    LoadRect.valAlong (s₀ := (Rect.unit (s := S2x288x1024) ![s, 0, 0] ![1, 288, 1024] i1).shape) (lr := (Rect.unit (s := S288x1024) ![a, 0] ![256, 1024] i3).toLoadRect)
      (LR := (Rect.unit (s := S288x1024) ![a, 0] ![256, 1024] i3).toLoadRect.consLift ![1, 288, 1024] h0' hs') hr (v.readCov (Val := Elt Ideal)
      (⟨(Rect.unit (s := S2x288x1024) ![s, 0, 0] ![1, 288, 1024] i1).within ((Rect.unit (s := S288x1024) ![0, 0] ![280, 1024] i2).consLift ![1, 288, 1024] h0 hs) st, Rect.payAlong (s₀ := (Rect.unit (s := S2x288x1024) ![s, 0, 0] ![1, 288, 1024] i1).shape) (V := Elt Ideal .f32) hq P⟩ :: L)
      ((Rect.unit (s := S2x288x1024) ![s, 0, 0] ![1, 288, 1024] i1).withinL ((Rect.unit (s := S288x1024) ![a, 0] ![256, 1024] i3).toLoadRect.consLift ![1, 288, 1024] h0' hs') st'))
      = cutr P a := by
  funext j
  have h0j : (j 0).val < 256 := (j 0).isLt
  show v.readCov _ _ _ = _
  unfold cutr
  rw [dif_pos (by omega)]
  have hx : Shape.reshapeEquiv hr j = Fin.cons ⟨0, Nat.one_pos⟩ j := Shape.reshapeEquiv_cons_one (d := ![256, 1024]) _ _
  rw [View.readCov_eq_canon', hx]
  let z : (Rect.unit (s := S288x1024) ![0, 0] ![280, 1024] i2).shape.Idx := ix2 (⟨a + (j 0).val, by omega⟩ : Fin 280) (j 1 : Fin 1024)
  let x : ((Rect.unit (s := S288x1024) ![0, 0] ![280, 1024] i2).consLift ![1, 288, 1024] h0 hs).shape.Idx := Fin.cons ⟨0, Nat.one_pos⟩ z
  refine Eq.trans (b := View.canon (Val := Elt Ideal) (e := .f32) (_ :: L) ((Rect.unit (s := S2x288x1024) ![s, 0, 0] ![1, 288, 1024] i1).emb (((Rect.unit (s := S288x1024) ![0, 0] ![280, 1024] i2).consLift ![1, 288, 1024] h0 hs).emb x))) ?_ ((View.canon_cons_within_emb _ _ st _ L x).trans (Rect.payAlong_consLift _ _ h0 hs P hq x z fun i => rfl))
  refine congrArg _ (funext fun b => Fin.ext ?_)
  fin_cases b
  · show s + 0 + 1 * 0 = s + 1 * (0 + 1 * 0)
    omega
  · show 0 + a + 1 * (j 0).val = 0 + 1 * (0 + 1 * (a + (j 0).val))
    omega
  · show 0 + 0 + 1 * (j 1).val = 0 + 1 * (0 + 1 * (j 1).val)
    omega

/-- One over one and the exponential of the negative. -/
def sg (z : EReal) : EReal := Ideal.div (Ideal.ofBits .f32 0x3F800000#32) (Ideal.ofBits .f32 0x3F800000#32 + Ideal.exp (-z))

theorem zero_bits : Ideal.ofBits .f32 0x00000000#32 = (0 : EReal) := by simp [Ideal.ofBits, Ideal.ieee]

/-- Tap `k`'s term of a row. -/
def term (w : FVec Ideal S32x1024 .f32) (x : FVec Ideal S256x1024 .f32) (y : FVec Ideal S32x1024 .f32) (r : ℕ) (c : Fin 1024) (k : ℕ) : EReal :=
  w (ix2 (Fin.ofNat 32 k) c) * padv x y (2 + k + r) c

/-- The order of the terms of a sum. -/
theorem order (b : EReal) (T : ℕ → EReal) :
    b + T 6 + T 14 + T 22 + T 30 + T 7 + T 15 + T 23 + T 0 + T 8 + T 16 + T 24 + T 1 + T 9 + T 17 + T 25 + T 2 + T 10 + T 18 + T 26 + T 3 + T 11 + T 19 + T 27
      + T 4 + T 12 + T 20 + T 28 + T 5 + T 13 + T 21 + T 29 = (∑ k ∈ Finset.range 31, T k) + b := by
  simp only [Finset.sum_range_succ, Finset.sum_range_zero]
  abel

/-- A point's row after the last taps, normalised. -/
theorem pay28_at (a p q u : FVec Ideal S256x1024 .f32) (w g b : FVec Ideal S1x1024 .f32) (j : S256x1024.Idx) :
    (k0_pay28 (F := Ideal) a p q w u g b j : EReal) = ln (fun k => a (ix2 (j 0) k) + q (ix2 (j 0) k) * p (ix2 (j 0) k) + w (ix2 0 k) * u (ix2 (j 0) k)) (fun k => g (ix2 0 k)) (fun k => b (ix2 0 k)) (j 1) := by
  unfold ln hat dev cen mean
  pointwise [k0_pay28]

theorem pay1_at (s a p q u z : FVec Ideal S256x1024 .f32) (w g b : FVec Ideal S1x1024 .f32) (j : S256x1024.Idx) :
    (k0_pay1 (F := Ideal) s (k0_pay29 a p q w u g b) z j : EReal) = s j * sg (k0_pay28 a p q w u g b j) * (z j * sg (z j)) := by
  unfold sg
  rw [← zero_sub (k0_pay28 a p q w u g b j : EReal), ← zero_sub (z j : EReal), ← zero_bits]
  pointwise [k0_pay1, k0_pay29]

theorem pay5_at (x v : FVec Ideal S256x1024 .f32) (j : S256x1024.Idx) : (k0_pay5 (F := Ideal) x (k0_pay3 v) k0_pay4 j : EReal) = x j * sg (v j) := by
  unfold sg
  rw [← zero_sub (v j : EReal), ← zero_bits]
  pointwise [k0_pay5, k0_pay3, k0_pay4]

/-- Whether a sequence begins at block `n`, in the program's words. -/
def fresh (n : ℕ) : BitVec 1 :=
  have v1 : BitVec 32 := Scalar.select (Scalar.cmpi .eq 8#32 0#32) 1#32 8#32
  have v2 : BitVec 32 := Scalar.remsi (BitVec.ofNat 32 n) v1
  Scalar.cmpi .eq (Scalar.select (Scalar.andi (Scalar.xori (Scalar.cmpi .slt v2 0#32) (Scalar.cmpi .slt v1 0#32)) (Scalar.cmpi .ne v2 0#32)) (Scalar.addi v2 v1) v2) 0#32

theorem fresh_eq : ∀ t : Fin 16, fresh (grid0.coords t 0).val = if t.val % 8 = 0 then 1#1 else 0#1 := by decide +kernel

theorem pay2_sel (i : grid0.Coords) (x v : FVec Ideal S32x1024 .f32) (j : S32x1024.Idx) :
    (k0_pay2 (F := Ideal) i x v j : EReal) = Scalar.select (fresh (i 0).val) (Ideal.ofBits .f32 0x00000000#32) (x j * sg (v j)) := by
  unfold sg
  rw [← zero_sub (v j : EReal), ← zero_bits]
  generalize hf : fresh (i 0).val = f
  have hk : k0_pay2 (F := Ideal) i x v = shapeCast S32x1024 (Scalar.select f (broadcast S32x1024 (Scalar.ofBits (F := Ideal) .f32 0x00000000#32))
      (mulf x (divf (broadcast S32x1024 (Scalar.ofBits (F := Ideal) .f32 0x3F800000#32)) (addf (broadcast S32x1024 (Scalar.ofBits (F := Ideal) .f32 0x3F800000#32)) (exp (subf (broadcast S32x1024 (Scalar.ofBits (F := Ideal) .f32 0x00000000#32)) v)))))) shapeCasts_S32x1024_S32x1024 := by
    rw [← hf]
    rfl
  rw [hk]
  rcases BitVec.eq_zero_or_eq_one f with h | h <;> rw [h] <;> pointwise

theorem pay2_at (t : Fin 16) (x v : FVec Ideal S32x1024 .f32) (j : S32x1024.Idx) :
    (k0_pay2 (F := Ideal) (grid0.coords t) x v j : EReal) = if t.val % 8 = 0 then 0 else x j * sg (v j) := by
  rw [pay2_sel, fresh_eq, zero_bits]
  split <;> rfl

variable (m : (ℓ : Loc nD τ sig) → Buf (Elt Ideal) ℓ)

set_option maxHeartbeats 4000000 in
/-- What a point stores. -/
theorem stored (c : Dev nD) (t : Fin cfg0.N) (j : S256x1024.Idx) :
    (outsAt0 m c t j : EReal)
      = (fun (s z : EReal) => s * sg s * (z * sg z)) (ln (fun k => (∑ i ∈ Finset.range 31, term (iblk m c 5 t) (k0_pay5 (iblk m c 0 t) (k0_pay3 (iblk m c 1 t)) k0_pay4) (k0_pay2 (grid0.coords t) (iblk m c 2 t) (iblk m c 3 t)) (j 0).val k i)
          + (iblk m c 6 t (ix2 0 k) : EReal)) (fun k => iblk m c 7 t (ix2 0 k)) (fun k => iblk m c 8 t (ix2 0 k)) (j 1)) (iblk m c 4 t j) := by
  unfold outsAt0 out0_A_9; frame_out
  have s7 : ∀ x, k0_pay7 (F := Ideal) x = x := fun x => shapeCast_self _ _
  have s9 : ∀ x, k0_pay9 (F := Ideal) x = x := fun x => shapeCast_self _ _
  have s12 : ∀ x, k0_pay12 (F := Ideal) x = x := fun x => shapeCast_self _ _
  have s15 : ∀ x, k0_pay15 (F := Ideal) x = x := fun x => shapeCast_self _ _
  have s19 : ∀ x, k0_pay19 (F := Ideal) x = x := fun x => shapeCast_self _ _
  have s22 : ∀ x, k0_pay22 (F := Ideal) x = x := fun x => shapeCast_self _ _
  have s25 : ∀ x, k0_pay25 (F := Ideal) x = x := fun x => shapeCast_self _ _
  simp only [pad_read, s7, s9, s12, s15, s19, s22, s25]
  repeat rw [stage_read _ _ _ _ _ (by omega)]
  simp (discharger := omega) only [cut_pad, Nat.reduceAdd]
  rw [pay1_at, pay28_at]
  generalize k0_pay5 (F := Ideal) (iblk m c 0 t) (k0_pay3 (iblk m c 1 t)) k0_pay4 = x
  generalize k0_pay2 (F := Ideal) (grid0.coords t) (iblk m c 2 t) (iblk m c 3 t) = y
  generalize (iblk m c 5 t : FVec Ideal S32x1024 .f32) = w
  generalize (iblk m c 6 t : FVec Ideal S1x1024 .f32) = b
  have key : ∀ (s s' z : EReal), s = s' → s * sg s * (z * sg z) = s' * sg s' * (z * sg z) := fun _ _ _ h => by rw [h]
  refine key _ _ _ (ln_congr (funext fun k => ?_) rfl rfl rfl)
  rw [← order]
  unfold term
  pointwise [k0_pay6, k0_pay8, k0_pay10, k0_pay11, k0_pay13, k0_pay14, k0_pay16, k0_pay17, k0_pay18, k0_pay20, k0_pay21, k0_pay23, k0_pay24, k0_pay26, k0_pay27]
  rfl

/-- The blocks of the windows. -/
theorem idx : ∀ t : Fin cfg0.N, win0_0.index t = ![t.val, 4] ∧ win0_1.index t = ![t.val, 5] ∧ win0_2.index t = ![8 * t.val - 1, 4] ∧ win0_3.index t = ![8 * t.val - 1, 5]
    ∧ win0_4.index t = ![t.val, 6] ∧ win0_5.index t = ![0, 0] ∧ win0_6.index t = ![0, 0] ∧ win0_7.index t = ![0, 0] ∧ win0_8.index t = ![0, 0] ∧ win0_9.index t = ![t.val, 0] :=
  (by decide +kernel : ∀ t : Fin grid0.N, _)

theorem in0 (c : Dev nD) (t : Fin 16) (r : Fin 256) (k : Fin 1024) :
    (iblk m c 0 t (ix2 r k) : EReal) = m ((c : Thread nD τ).loc main_arg0) (ix2 (⟨256 * t.val + r.val, by omega⟩ : Fin 4096) (⟨4096 + k.val, by omega⟩ : Fin 9216)) := by
  blk_point [iblk, V_main_arg0, idx t]

theorem in1 (c : Dev nD) (t : Fin 16) (r : Fin 256) (k : Fin 1024) :
    (iblk m c 1 t (ix2 r k) : EReal) = m ((c : Thread nD τ).loc main_arg0) (ix2 (⟨256 * t.val + r.val, by omega⟩ : Fin 4096) (⟨5120 + k.val, by omega⟩ : Fin 9216)) := by
  blk_point [iblk, V_main_arg0, idx t]

theorem in2 (c : Dev nD) (t : Fin 16) (r : Fin 32) (k : Fin 1024) :
    (iblk m c 2 t (ix2 r k) : EReal) = m ((c : Thread nD τ).loc main_arg0) (ix2 (⟨32 * (8 * t.val - 1) + r.val, by omega⟩ : Fin 4096) (⟨4096 + k.val, by omega⟩ : Fin 9216)) := by
  blk_point [iblk, V_main_arg0, idx t]

theorem in3 (c : Dev nD) (t : Fin 16) (r : Fin 32) (k : Fin 1024) :
    (iblk m c 3 t (ix2 r k) : EReal) = m ((c : Thread nD τ).loc main_arg0) (ix2 (⟨32 * (8 * t.val - 1) + r.val, by omega⟩ : Fin 4096) (⟨5120 + k.val, by omega⟩ : Fin 9216)) := by
  blk_point [iblk, V_main_arg0, idx t]

theorem in4 (c : Dev nD) (t : Fin 16) (r : Fin 256) (k : Fin 1024) :
    (iblk m c 4 t (ix2 r k) : EReal) = m ((c : Thread nD τ).loc main_arg0) (ix2 (⟨256 * t.val + r.val, by omega⟩ : Fin 4096) (⟨6144 + k.val, by omega⟩ : Fin 9216)) := by
  blk_point [iblk, V_main_arg0, idx t]

theorem ent5 (c : Dev nD) : V m c main_v0 = pad S32x1024 ![0, 0] ![1, 0] ![0, 0] (m ((c : Thread nD τ).loc main_arg1)) (sitofp (F := Ideal) .f32 (constantI S_ 32 0#32)) pads_S31x1024_S32x1024_010_000 h_S_ := by
  unfold V
  simp only [List.flatten_cons, List.flatten_nil, hostOps0, hostOps0_1, hostOps0_2, List.cons_append, List.nil_append, List.append_nil]
  after_results
  rfl

theorem in5 (c : Dev nD) (t : Fin 16) (r : ℕ) (hr : r < 31) (k : Fin 1024) :
    (iblk m c 5 t (ix2 (Fin.ofNat 32 r) k) : EReal) = m ((c : Thread nD τ).loc main_arg1) (ix2 (⟨r, hr⟩ : Fin 31) k) := by
  have e : ((win0_5.blk t).view.emb (ix2 (Fin.ofNat 32 r) k) : S32x1024.Idx) = ix2 ⟨r, by omega⟩ k := by
    have e0 : win0_5.index t 0 = 0 := congrFun (idx t).2.2.2.2.2.1 0
    have e1 : win0_5.index t 1 = 0 := congrFun (idx t).2.2.2.2.2.1 1
    funext a
    refine Fin.ext ?_
    fin_cases a
    · show win0_5.index t 0 * 32 + 1 * (r % 32) = r
      omega
    · show win0_5.index t 1 * 1024 + 1 * k.val = k.val
      omega
  show V m c main_v0 _ = _
  rw [e, ent5]
  pointwise
  refine dif_pos fun a => ?_
  fin_cases a
  · exact ⟨Nat.zero_le _, Nat.mod_one _, by show (r - 0) / 1 < 31; omega⟩
  · exact ⟨Nat.zero_le _, Nat.mod_one _, by show (k.val - 0) / 1 < 1024; omega⟩

theorem ent6 (c : Dev nD) : V m c main_v1 = shapeCast S1x1024 (m ((c : Thread nD τ).loc main_arg2)) shapeCasts_S1024_S1x1024 := by
  unfold V
  simp only [List.flatten_cons, List.flatten_nil, hostOps0, hostOps0_1, hostOps0_2, List.cons_append, List.nil_append, List.append_nil]
  after_results
  rfl

theorem in6 (c : Dev nD) (t : Fin 16) (k : Fin 1024) : (iblk m c 6 t (ix2 0 k) : EReal) = m ((c : Thread nD τ).loc main_arg2) (ix1 k) := by
  have e : ((win0_6.blk t).view.emb (ix2 0 k) : S1x1024.Idx) = ix2 0 k := by
    have e0 : win0_6.index t 0 = 0 := congrFun (idx t).2.2.2.2.2.2.1 0
    have e1 : win0_6.index t 1 = 0 := congrFun (idx t).2.2.2.2.2.2.1 1
    funext a
    refine Fin.ext ?_
    fin_cases a
    · show win0_6.index t 0 * 1 + 1 * 0 = 0
      omega
    · show win0_6.index t 1 * 1024 + 1 * k.val = k.val
      omega
  show V m c main_v1 _ = _
  rw [e, ent6]
  pointwise

theorem ent7 (c : Dev nD) : V m c main_v2 = shapeCast S1x1024 (m ((c : Thread nD τ).loc main_arg3)) shapeCasts_S1024_S1x1024 := by
  unfold V
  simp only [List.flatten_cons, List.flatten_nil, hostOps0, hostOps0_1, hostOps0_2, List.cons_append, List.nil_append, List.append_nil]
  after_results
  rfl

theorem in7 (c : Dev nD) (t : Fin 16) (k : Fin 1024) : (iblk m c 7 t (ix2 0 k) : EReal) = m ((c : Thread nD τ).loc main_arg3) (ix1 k) := by
  have e : ((win0_7.blk t).view.emb (ix2 0 k) : S1x1024.Idx) = ix2 0 k := by
    have e0 : win0_7.index t 0 = 0 := congrFun (idx t).2.2.2.2.2.2.2.1 0
    have e1 : win0_7.index t 1 = 0 := congrFun (idx t).2.2.2.2.2.2.2.1 1
    funext a
    refine Fin.ext ?_
    fin_cases a
    · show win0_7.index t 0 * 1 + 1 * 0 = 0
      omega
    · show win0_7.index t 1 * 1024 + 1 * k.val = k.val
      omega
  show V m c main_v2 _ = _
  rw [e, ent7]
  pointwise

theorem ent8 (c : Dev nD) : V m c main_v3 = shapeCast S1x1024 (m ((c : Thread nD τ).loc main_arg4)) shapeCasts_S1024_S1x1024 := by
  unfold V
  simp only [List.flatten_cons, List.flatten_nil, hostOps0, hostOps0_1, hostOps0_2, List.cons_append, List.nil_append, List.append_nil]
  after_results
  rfl

theorem in8 (c : Dev nD) (t : Fin 16) (k : Fin 1024) : (iblk m c 8 t (ix2 0 k) : EReal) = m ((c : Thread nD τ).loc main_arg4) (ix1 k) := by
  have e : ((win0_8.blk t).view.emb (ix2 0 k) : S1x1024.Idx) = ix2 0 k := by
    have e0 : win0_8.index t 0 = 0 := congrFun (idx t).2.2.2.2.2.2.2.2.1 0
    have e1 : win0_8.index t 1 = 0 := congrFun (idx t).2.2.2.2.2.2.2.2.1 1
    funext a
    refine Fin.ext ?_
    fin_cases a
    · show win0_8.index t 0 * 1 + 1 * 0 = 0
      omega
    · show win0_8.index t 1 * 1024 + 1 * k.val = k.val
      omega
  show V m c main_v3 _ = _
  rw [e, ent8]
  pointwise

/-- The gated value of row `R`. -/
def gated (h : FVec Ideal ⟨2, ![4096, 9216]⟩ .f32) (R : ℕ) (k : Fin 1024) : EReal :=
  if hR : R < 4096 then h (ix2 (⟨R, hR⟩ : Fin 4096) (⟨4096 + k.val, by omega⟩ : Fin 9216)) * sg (h (ix2 (⟨R, hR⟩ : Fin 4096) (⟨5120 + k.val, by omega⟩ : Fin 9216))) else 0

/-- What tap `i` of row `R` multiplies: nothing comes from before the sequence. -/
def src (h : FVec Ideal ⟨2, ![4096, 9216]⟩ .f32) (R i : ℕ) (k : Fin 1024) : EReal := if R % 2048 + i < 30 then 0 else gated h (R + i - 30) k

/-- The kernel reads these. -/
theorem src_at (c : Dev nD) (t : Fin 16) (r : Fin 256) (i : ℕ) (hi : i < 31) (k : Fin 1024) :
    padv (k0_pay5 (iblk m c 0 t) (k0_pay3 (iblk m c 1 t)) k0_pay4) (k0_pay2 (grid0.coords t) (iblk m c 2 t) (iblk m c 3 t)) (2 + i + r.val) k
      = src (m ((c : Thread nD τ).loc main_arg0)) (256 * t.val + r.val) i k := by
  unfold padv src
  by_cases h : 2 + i + r.val < 32
  · rw [dif_pos h, pay2_at]
    by_cases h8 : t.val % 8 = 0
    · rw [if_pos h8, if_pos (by omega)]
    · rw [if_neg h8, if_neg (by omega)]
      unfold gated
      rw [dif_pos (by omega), in2, in3]
      congr 4 <;> (try refine Fin.ext ?_) <;> (show 32 * (8 * t.val - 1) + (2 + i + r.val) = 256 * t.val + r.val + i - 30; omega)
  · rw [dif_neg h, dif_pos (by omega), pay5_at, if_neg (by omega)]
    unfold gated
    rw [dif_pos (by omega), in0, in1]
    congr 4 <;> (try refine Fin.ext ?_) <;> (show 256 * t.val + (2 + i + r.val - 32) = 256 * t.val + r.val + i - 30; omega)

/-- A row after the taps. -/
def conv (h : FVec Ideal ⟨2, ![4096, 9216]⟩ .f32) (w : FVec Ideal ⟨2, ![31, 1024]⟩ .f32) (b : FVec Ideal ⟨1, ![1024]⟩ .f32) (R : ℕ) (k : Fin 1024) : EReal :=
  (∑ i ∈ Finset.range 31, w (ix2 (Fin.ofNat 31 i) k) * src h R i k) + b (ix1 k)

/-- The result. -/
def res (h : FVec Ideal ⟨2, ![4096, 9216]⟩ .f32) (w : FVec Ideal ⟨2, ![31, 1024]⟩ .f32) (b g e : FVec Ideal ⟨1, ![1024]⟩ .f32) (R : Fin 4096) (k : Fin 1024) : EReal :=
  (fun (s z : EReal) => s * sg s * (z * sg z)) (ln (conv h w b R.val) (fun k => g (ix1 k)) (fun k => e (ix1 k)) k) (h (ix2 R (⟨6144 + k.val, by omega⟩ : Fin 9216)))

/-- The result after the run. -/
theorem final (c : Dev nD) (R : FVec Ideal S4096x1024 .bf16)
    (hR : ∀ j, (R j : EReal) = res (m ((c : Thread nD τ).loc main_arg0)) (m ((c : Thread nD τ).loc main_arg1)) (m ((c : Thread nD τ).loc main_arg2))
      (m ((c : Thread nD τ).loc main_arg3)) (m ((c : Thread nD τ).loc main_arg4)) (j 0) (j 1)) :
    (dats m 0 c).arrAt 9 cfg0.N = R := by
  refine (dats m 0 c).arrAt_eq_of_covers 9 _ (by decide +kernel) fun t _ y => ?_
  blk_simp
  rw [after0_9, hR]
  have ht : t.val < 16 := t.isLt
  have hy : (y 0).val < 256 := (y 0).isLt
  have e : (win0_9.blk t).view.emb y = ix2 (⟨256 * t.val + (y 0).val, by omega⟩ : Fin 4096) (y 1 : Fin 1024) := by
    have e0 : win0_9.index t 0 = t.val := congrFun (idx t).2.2.2.2.2.2.2.2.2 0
    have e1 : win0_9.index t 1 = 0 := congrFun (idx t).2.2.2.2.2.2.2.2.2 1
    funext a
    refine Fin.ext ?_
    fin_cases a
    · show win0_9.index t 0 * 256 + 1 * (y 0).val = 256 * t.val + (y 0).val
      omega
    · show win0_9.index t 1 * 1024 + 1 * (y 1).val = (y 1).val
      omega
  rw [e]
  refine (stored m c t y).trans ?_
  have key : ∀ s s' z z' : EReal, s = s' → z = z' → s * sg s * (z * sg z) = s' * sg s' * (z' * sg z') := fun s s' z z' h1 h2 => by rw [h1, h2]
  refine key _ _ _ _ (ln_congr (funext fun k => ?_) (funext fun k => in7 m c t k) (funext fun k => in8 m c t k) rfl) ?_
  · unfold conv
    refine congrArg₂ (· + ·) (Finset.sum_congr rfl fun i hi => ?_) (in6 m c t k)
    have hi' : i < 31 := Finset.mem_range.1 hi
    have e : Fin.ofNat 31 i = ⟨i, hi'⟩ := Fin.ext (Nat.mod_eq_of_lt hi')
    rw [e]
    exact congrArg₂ (· * ·) (in5 m c t i hi' k) (src_at m c t ⟨(y 0).val, hy⟩ i hi' k)
  · refine Eq.trans ?_ (in4 m c t ⟨(y 0).val, hy⟩ (y 1))
    refine congrArg (iblk m c 4 t) (funext fun a => ?_)
    fin_cases a <;> rfl

end Cert.ConvFIdeal.Conv
-- ==== Proof.ConvFwd.lean ====
module

public import proofs.«01_k».proof.Proof.ConvTap
public import proofs.«01_k».proof.Proof.Gen.ConvFRefIdeal.Run
public import Idealize.ShloMosaic.Lib.Claim
public import Idealize.ShloMosaic.Lib.KernelVsHost
public import Idealize.ShloMosaic.Lib.Quiescent
public import Idealize.ShloMosaic.Lib.Pipeline.ValueKit

/-! # The convolution's branch -/

set_option maxRecDepth 16384

@[expose] public section

noncomputable section

open Idealize.ShloMosaic Idealize.ShloMosaic.TcCoe Idealize.SL.Sem

namespace Cert.ConvFRefIdeal.Conv

open Cert.ConvFRefIdeal Cert.ConvFRefIdeal.Gen Cert.ConvFRefIdeal.Value Cert.Ln Cert.ConvFIdeal.Conv

variable (V : Valuation τ sig (Elt Ideal))

/-- The rows of the sequences. -/
theorem rows_at (b : Fin 2) (s : Fin 2048) (k : Fin 9216) :
    (res_main_v0 V (ix3 b s k) : EReal) = V (Proc.devRef .tc main_arg0) (ix2 (⟨b.val * 2048 + s.val, by omega⟩ : Fin 4096) k) := by
  pointwise [res_main_v0]

/-- What a tap multiplies. -/
theorem tap_at (b : Fin 2) (s : Fin 2048) (i : ℕ) (hi : i < 31) (k : Fin 1024) :
    (res_main_v11 V (ix3 b (⟨i + s.val, by omega⟩ : Fin 2078) k) : EReal) = src (V (Proc.devRef .tc main_arg0)) (b.val * 2048 + s.val) i k := by
  unfold src
  by_cases h : s.val + i < 30
  · rw [if_pos (by omega)]
    unfold res_main_v11
    rw [pad_apply_of_not_inside _ _ _ _ _ _ _ _ 1 (fun q => by have : 30 ≤ i + s.val := q.1; omega)]
    pointwise
    simp [FloatOps.sitofp]
  · rw [if_neg (by omega)]
    unfold res_main_v11 gated sg
    rw [pad_apply_of_inside _ _ _ _ _ _ _ _ (ix3 b (⟨i + s.val - 30, by omega⟩ : Fin 2048) k) (fun a => ?_), dif_pos (by omega)]
    · have e : ∀ q : Fin 9216, (res_main_v0 V (ix3 b (⟨i + s.val - 30, by omega⟩ : Fin 2048) q) : EReal)
          = V (Proc.devRef .tc main_arg0) (ix2 (⟨b.val * 2048 + s.val + i - 30, by omega⟩ : Fin 4096) q) := fun q =>
        (rows_at V b _ q).trans (congrArg (fun r : Fin 4096 => V (Proc.devRef .tc main_arg0) (ix2 r q)) (Fin.ext (by show b.val * 2048 + (i + s.val - 30) = b.val * 2048 + s.val + i - 30; omega)))
      pointwise
      rw [e, e]
    · fin_cases a
      · show b.val = 0 + b.val * 1; omega
      · show i + s.val = 30 + (i + s.val - 30) * 1; omega
      · show k.val = 0 + k.val * 1; omega

/-- The sum of the taps. -/
theorem taps_at (b : Fin 2) (s : Fin 2048) (k : Fin 1024) :
    (res_main_v232 V (ix3 b s k) : EReal) = conv (V (Proc.devRef .tc main_arg0)) (V (Proc.devRef .tc main_arg1)) (V (Proc.devRef .tc main_arg2)) (b.val * 2048 + s.val) k := by
  unfold conv
  rw [Finset.sum_range]
  refine Eq.trans ?_ (congrArg (· + _) (Finset.sum_congr rfl fun (i : Fin 31) _ =>
    congrArg (fun x : EReal => HMul.hMul (α := EReal) (β := EReal) (γ := EReal) (V (Proc.devRef .tc main_arg1) (ix2 (Fin.ofNat 31 i.val) k)) x) (tap_at V b s i.val i.isLt k)))
  simp only [Fin.sum_univ_castSucc, Fin.sum_univ_zero]
  rw [← zero_bits]
  pointwise [res_main_v232, res_main_v166, res_main_v89]
  iterate 31 refine congrArg₂ (· + ·) ?_ rfl
  exact congrArg (fun q : Fin 2078 => HMul.hMul (α := EReal) (β := EReal) (γ := EReal) (V (Proc.devRef .tc main_arg1) (ix2 0 k)) (res_main_v11 V (ix3 b q k))) (Fin.ext (Nat.zero_add _).symm)

/-- The normalised row. -/
theorem norm_at (b : Fin 2) (s : Fin 2048) (k : Fin 1024) :
    (res_main_v256 V (ix3 b s k) : EReal) = ln (conv (V (Proc.devRef .tc main_arg0)) (V (Proc.devRef .tc main_arg1)) (V (Proc.devRef .tc main_arg2)) (b.val * 2048 + s.val))
      (fun k => V (Proc.devRef .tc main_arg3) (ix1 k)) (fun k => V (Proc.devRef .tc main_arg4) (ix1 k)) k := by
  refine Eq.trans ?_ (ln_congr (funext fun k => taps_at V b s k) rfl rfl rfl)
  unfold ln hat dev cen mean
  pointwise [res_main_v256, res_main_v238, res_main_v236]

/-- The result. -/
theorem last_at (j : S4096x1024.Idx) :
    (shapeCast S4096x1024 (truncf .bf16 (mulf (mulf (res_main_v256 V) (Host.divf (broadcastInDim S2x2048x1024 ![] bcast_S_S2x2048x1024 (constant S_ .f32 0x3F800000#32)) (addf (broadcastInDim S2x2048x1024 ![] bcast_S_S2x2048x1024 (constant S_ .f32 0x3F800000#32)) (Host.exp (Host.negf (res_main_v256 V)))))) (mulf (res_main_v3 V) (Host.divf (broadcastInDim S2x2048x1024 ![] bcast_S_S2x2048x1024 (constant S_ .f32 0x3F800000#32)) (addf (broadcastInDim S2x2048x1024 ![] bcast_S_S2x2048x1024 (constant S_ .f32 0x3F800000#32)) (Host.exp (Host.negf (res_main_v3 V))))))) bitsLt_bf16_f32) shapeCasts_S2x2048x1024_S4096x1024 j : EReal)
      = res (V (Proc.devRef .tc main_arg0)) (V (Proc.devRef .tc main_arg1)) (V (Proc.devRef .tc main_arg2)) (V (Proc.devRef .tc main_arg3)) (V (Proc.devRef .tc main_arg4)) (j 0) (j 1) := by
  unfold res sg
  pointwise [res_main_v3]
  have e : (j 0).val / 2048 * 2048 + (j 0).val % 2048 = (j 0).val := Nat.div_add_mod' _ _
  have h0 : (j 0).val < 4096 := (j 0).isLt
  have n := norm_at V ⟨(j 0).val / 2048, by omega⟩ ⟨(j 0).val % 2048, by omega⟩ (j 1)
  have r := rows_at V ⟨(j 0).val / 2048, by omega⟩ ⟨(j 0).val % 2048, by omega⟩ ⟨6144 + (j 1).val, by have : (j 1).val < 1024 := (j 1).isLt; omega⟩
  simp only [e] at n r
  exact congrArg₂ (fun s z : EReal => s * Ideal.div 1 (1 + Ideal.exp (-s)) * (z * Ideal.div 1 (1 + Ideal.exp (-z)))) n r

end Cert.ConvFRefIdeal.Conv

namespace Cert.Conv

open Cert.Ln Cert.ConvFIdeal.Conv

/-- The result is the reference's. -/
theorem forward_value : Cert.algebraic_ConvFIdeal_ConvFRefIdeal := by
  intro m g m' g' hpre hagree
  open Cert.ConvFIdeal Cert.ConvFIdeal.Gen in
  refine ⟨fun c => (dats m 0 c).arrAt 9 cfg0.N, ?_⟩
  refine ⟨?_, ?_⟩
  · exact (θ_run Cert.ConvFIdeal.defs _ _).mono (fun r h c => ⟨(h.1 c).1 9, h.2 c⟩) (θ_run_and (Cert.ConvFIdeal.Gen.run_main m g) (Cert.ConvFIdeal.Gen.unchanged m g))
  · refine (θ_run Cert.ConvFRefIdeal.defs _ _).mono (fun r h c => ?_) (Cert.ConvFRefIdeal.Value.run (F := Ideal) m' g')
    obtain ⟨h0, h2⟩ := h c
    obtain ⟨e0, e1, e2, e3, e4⟩ := hagree c
    refine ⟨h0.trans (Cert.ConvFIdeal.Conv.final m c _ fun j => ?_).symm, h2⟩
    rw [← e0, ← e1, ← e2, ← e3, ← e4]
    exact Cert.ConvFRefIdeal.Conv.last_at _ j

end Cert.Conv
-- ==== Proof.LnGrad.lean ====
module

public import proofs.«01_k».proof.Proof.Finite
public import proofs.«01_k».proof.Proof.LnRule

/-! # The gradient of the normalisation in its argument

The kernels subtract from the incoming gradient its mean and its part along the normalised row; the reference's
derivative goes through the variance and the two means one by one. The two agree when the incoming gradient is a row of
real numbers; the row that was normalised may hold infinities, for then both are zero. -/

@[expose] public section

noncomputable section

open Idealize.ShloMosaic

namespace Cert.Ln

/-- The number of columns. -/
abbrev cols : EReal := Ideal.ofBits .f32 0x44800000#32

/-- The variance with the small number added. -/
def spread (x : Fin 1024 → EReal) : EReal := Ideal.div (∑ k, cen x k * cen x k) cols + Ideal.ofBits .f32 0x3727C5AC#32

/-- The gradient as the kernels compute it. -/
def bwd (x e : Fin 1024 → EReal) (k : Fin 1024) : EReal :=
  dev x * (e k - Ideal.div (∑ k, e k) cols - hat x k * Ideal.div (∑ k, e k * hat x k) cols)

theorem bwd_congr {x x' e e' : Fin 1024 → EReal} {k k' : Fin 1024} (h : x = x') (h1 : e = e') (h2 : k = k') : bwd x e k = bwd x' e' k' := by
  rw [h, h1, h2]

/-- The part of the derivative through the variance. -/
def via (x e : Fin 1024 → EReal) (k : Fin 1024) : EReal :=
  Ideal.div ((∑ k, cen x k * e k) * (Ideal.ofBits .f32 0xBF000000#32 * Ideal.div (dev x) (spread x))) cols * (Ideal.ofBits .f32 0x40000000#32 * cen x k)

/-- The gradient as the reference's derivative computes it. -/
def vjp (x e : Fin 1024 → EReal) (k : Fin 1024) : EReal :=
  e k * dev x + via x e k + Ideal.div ((∑ k, -(e k * dev x)) + ∑ k, -via x e k) cols

theorem cols_eq : cols = ((1024 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem half_eq : Ideal.ofBits .f32 0xBF000000#32 = ((-(1 / 2) : ℝ) : EReal) := by
  simp [Ideal.ofBits, Ideal.ieee, -EReal.coe_mul]; norm_num

theorem small : ∃ r : ℝ, 0 < r ∧ Ideal.ofBits .f32 0x3727C5AC#32 = (r : EReal) := by
  refine ⟨10995116 / 1099511627776, by norm_num, ?_⟩
  simp [Ideal.ofBits, Ideal.ieee, -EReal.coe_mul]; norm_num

/-- The identity over the real numbers: `c` has sum zero and `r * r * a = 1`. -/
theorem real_rule (c e : Fin 1024 → ℝ) (r a : ℝ) (hc : ∑ k, c k = 0) (hr : r * r * a = 1) (k : Fin 1024) :
    e k * r + (∑ k, c k * e k) * (-(1 / 2) * (r * (1 / a))) * (1 / 1024) * (2 * c k)
      + ((∑ k, -(e k * r)) + ∑ k', -((∑ k, c k * e k) * (-(1 / 2) * (r * (1 / a))) * (1 / 1024) * (2 * c k'))) * (1 / 1024)
    = r * (e k - (∑ k, e k) * (1 / 1024) - c k * r * ((∑ k, e k * (c k * r)) * (1 / 1024))) := by
  have ha : a ≠ 0 := fun h => by simp [h] at hr
  have hi : 1 / a = r * r := by field_simp; linarith
  have h1 : (∑ k, -(e k * r)) = -((∑ k, e k) * r) := by rw [Finset.sum_neg_distrib, Finset.sum_mul]
  have h2 : (∑ k, e k * (c k * r)) = (∑ k, c k * e k) * r := by
    rw [Finset.sum_mul]; exact Finset.sum_congr rfl fun k _ => by ring
  have h3 (q : ℝ) : (∑ k', -(q * (2 * c k'))) = 0 := by
    rw [Finset.sum_neg_distrib, ← Finset.mul_sum, ← Finset.mul_sum, hc]; ring
  rw [h1, h2, h3, hi]; ring

/-- Rows of real numbers. -/
theorem vjp_real (X E : Fin 1024 → ℝ) (k : Fin 1024) :
    vjp (fun k => (X k : EReal)) (fun k => (E k : EReal)) k = bwd (fun k => (X k : EReal)) (fun k => (E k : EReal)) k := by
  obtain ⟨ε, hε, eε⟩ := small
  have hn : (1024 : ℝ) ≠ 0 := by norm_num
  set μ : ℝ := (∑ k, X k) * (1 / 1024) with hμ
  have ec (k : Fin 1024) : cen (fun k => (X k : EReal)) k = ((X k - μ : ℝ) : EReal) := by
    show (X k : EReal) - Ideal.div (∑ k, (X k : EReal)) cols = _
    rw [← Cert.Attn.coe_sum, cols_eq, Ideal.div_coe hn, ← EReal.coe_mul, ← EReal.coe_sub]
  set a : ℝ := (∑ k, (X k - μ) * (X k - μ)) * (1 / 1024) + ε with ha
  have ea : spread (fun k => (X k : EReal)) = (a : EReal) := by
    unfold spread
    simp only [ec, ← EReal.coe_mul]
    rw [← Cert.Attn.coe_sum, cols_eq, Ideal.div_coe hn, ← EReal.coe_mul, eε, ← EReal.coe_add]
  have pa : 0 < a := by
    have : 0 ≤ ∑ k, (X k - μ) * (X k - μ) := Finset.sum_nonneg fun k _ => mul_self_nonneg _
    positivity
  set r : ℝ := (√a)⁻¹ with hr
  have er : dev (fun k => (X k : EReal)) = (r : EReal) := by
    show Ideal.rsqrt (spread (fun k => (X k : EReal))) = _
    rw [ea, Ideal.rsqrt_coe, if_neg (not_lt.2 pa.le), if_neg pa.ne']
  have rr : r * r * a = 1 := by
    have := Real.mul_self_sqrt pa.le
    have hs : √a ≠ 0 := (Real.sqrt_pos.2 pa).ne'
    rw [hr]
    field_simp
    nlinarith
  have c0 : ∑ k, (X k - μ) = 0 := by
    rw [Finset.sum_sub_distrib, Finset.sum_const, Finset.card_univ, Fintype.card_fin, hμ, nsmul_eq_mul]
    push_cast; ring
  have key := real_rule (fun k => X k - μ) E r a c0 rr k
  unfold vjp via bwd hat
  simp only [ec, er, ea, cols_eq, two_eq, half_eq, Ideal.div_coe hn, Ideal.div_coe pa.ne', ← EReal.coe_mul, ← Cert.Attn.coe_sum,
    ← EReal.coe_neg, ← EReal.coe_add, ← EReal.coe_sub]
  exact congrArg _ key

/-- An infinity in the row makes every centred number infinite and the deviation's inverse zero. -/
theorem dev_zero (x : Fin 1024 → EReal) (k₀ : Fin 1024) (h : x k₀ = ⊤ ∨ x k₀ = ⊥) : dev x = 0 ∧ spread x = ⊤ := by
  obtain ⟨ε, hε, eε⟩ := small
  have hs : (∑ k, x k) = ⊤ ∨ (∑ k, x k) = ⊥ := by
    rw [← Finset.add_sum_erase _ _ (Finset.mem_univ k₀)]
    rcases h with h | h
    · rw [h]
      by_cases hb : (∑ k ∈ Finset.univ.erase k₀, x k) = ⊥
      · right; rw [hb]; rfl
      · left; exact EReal.top_add_of_ne_bot hb
    · right; rw [h]; exact EReal.bot_add _
  have hp : (0 : EReal) < ((1 / 1024 : ℝ) : EReal) := by exact_mod_cast (by norm_num : (0 : ℝ) < 1 / 1024)
  have hm : mean x = ⊤ ∨ mean x = ⊥ := by
    unfold mean
    rw [show Ideal.ofBits .f32 0x44800000#32 = ((1024 : ℝ) : EReal) from cols_eq, Ideal.div_coe (by norm_num)]
    rcases hs with hs | hs
    · left; rw [hs]; exact EReal.top_mul_of_pos hp
    · right; rw [hs]; exact EReal.bot_mul_of_pos hp
  have hc (k : Fin 1024) : cen x k * cen x k = ⊤ := by
    have : cen x k = ⊤ ∨ cen x k = ⊥ := by
      unfold cen
      rcases hm with hm | hm
      · right; rw [hm, sub_eq_add_neg, EReal.neg_top, EReal.add_bot]
      · rw [hm, sub_eq_add_neg, EReal.neg_bot]
        by_cases hb : x k = ⊥
        · right; rw [hb]; rfl
        · left; exact EReal.add_top_of_ne_bot hb
    rcases this with h | h <;> rw [h] <;> rfl
  have hv : spread x = ⊤ := by
    unfold spread
    simp only [hc]
    have : (∑ _k : Fin 1024, (⊤ : EReal)) = ⊤ := by
      rw [← Finset.add_sum_erase _ _ (Finset.mem_univ k₀)]
      refine EReal.top_add_of_ne_bot fun hb => ?_
      have : (0 : EReal) ≤ ∑ k ∈ Finset.univ.erase k₀, (⊤ : EReal) := Finset.sum_nonneg fun _ _ => le_top
      rw [hb] at this
      exact absurd this (by simp)
    rw [this, cols_eq, Ideal.div_coe (by norm_num), EReal.top_mul_of_pos hp, eε]
    exact EReal.top_add_coe _
  refine ⟨?_, hv⟩
  show Ideal.rsqrt (spread x) = 0
  rw [hv]; exact Ideal.rsqrt_top

/-- A number less itself is zero only if it is a real number. -/
theorem of_sub {y : EReal} (h : y - y = 0) : y = (y.toReal : EReal) := by
  refine (EReal.coe_toReal (fun e => ?_) fun e => ?_).symm <;> rw [e] at h <;> exact absurd h (by decide)

theorem sub_coe (r : ℝ) : (r : EReal) - r = 0 := by
  rw [← EReal.coe_sub, sub_self, EReal.coe_zero]

theorem mul_fin {p q : EReal} (hp : p - p = 0) (hq : q - q = 0) : p * q - p * q = 0 := by
  rw [of_sub hp, of_sub hq, ← EReal.coe_mul]
  exact sub_coe _

/-- A comparison that comes out true. -/
theorem eq_of_oeq {x y : EReal} (h : Ideal.cmp .oeq x y = 1#1) : x = y := by
  by_contra hn
  simp [Ideal.cmp, hn] at h

/-- The two gradients agree. -/
theorem vjp_eq (x e : Fin 1024 → EReal) (he : ∀ k, e k - e k = 0) (k : Fin 1024) : vjp x e k = bwd x e k := by
  have hE (k : Fin 1024) := of_sub (he k)
  by_cases hx : ∃ k, x k = ⊤ ∨ x k = ⊥
  · obtain ⟨k₀, h⟩ := hx
    obtain ⟨d0, s0⟩ := dev_zero x k₀ h
    have dz (y : ℝ) (hy : y ≠ 0) : Ideal.div 0 (y : EReal) = 0 := by rw [Ideal.div_coe hy, zero_mul]
    have dt : Ideal.div 0 (⊤ : EReal) = 0 := by simp [Ideal.div]
    have n0 : (1024 : ℝ) ≠ 0 := by norm_num
    unfold vjp via bwd
    simp only [d0, s0, dt, cols_eq, mul_zero, zero_mul, dz _ n0, add_zero, neg_zero, Finset.sum_const_zero]
  · push Not at hx
    have hX (k : Fin 1024) : x k = ((x k).toReal : EReal) := (EReal.coe_toReal (hx k).1 (hx k).2).symm
    rw [funext hX, funext hE]
    exact vjp_real _ _ k

end Cert.Ln
-- ==== Proof.LnBack.lean ====
module

public import proofs.«01_k».proof.Defs
public import proofs.«01_k».proof.Proof.LnGrad
public import proofs.«01_k».proof.Proof.Gen.LnBIdeal.Value
public import proofs.«01_k».proof.Proof.Gen.LnBRefIdeal.Run
public import Idealize.ShloMosaic.Lib.ReduceAll
public import Idealize.ShloMosaic.Lib.Claim
public import Idealize.ShloMosaic.Lib.Quiescent
public import Idealize.ShloMosaic.Lib.Pipeline.ValueKit
public import Idealize.ShloMosaic.Lib.Pipeline.ReadBack

/-! # The first normalisation's gradient

The gradient of the rows leaves the kernel block by block; those of the gains and of the shifts are added up over the
eight blocks of rows. -/

set_option maxRecDepth 16384

@[expose] public section

noncomputable section

open Idealize.ShloMosaic Idealize.ShloMosaic.TcCoe Idealize.SL.Sem

namespace Cert.LnBIdeal.Norm

open Cert.LnBIdeal Cert.LnBIdeal.Gen Cert.Ln

variable (m : (ℓ : Loc nD τ sig) → Buf (Elt Ideal) ℓ)

/-- The gradient that arrives: the residual's part, scaled, and the input projection's. -/
def inc (p q : EReal) : EReal := Ideal.ofBits .f32 0x3F9837F0#32 * p + q

/-- A row's part in the gradient of a gain. -/
def part (x : Fin 1024 → EReal) (p q : EReal) (k : Fin 1024) : EReal := hat x k * inc p q

theorem part_congr {x x' : Fin 1024 → EReal} {p p' q q' : EReal} {k k' : Fin 1024} (h : x = x') (h1 : p = p') (h2 : q = q') (h3 : k = k') :
    part x p q k = part x' p' q' k' := by
  rw [h, h1, h2, h3]

/-- The blocks of the windows. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![0, 0] ∧ t.val < 8 :=
  (by decide +kernel : ∀ t : Fin grid0.N, _)

/-- The rows' gradient that a point stores. -/
theorem pay_at (x p q : FVec Ideal S512x1024 .f32) (g : FVec Ideal S1x1024 .f32) (j : S512x1024.Idx) :
    (k0_pay2 (F := Ideal) (k0_pay6 x) (k0_pay7 x) (k0_pay8 p q) g j : EReal)
      = bwd (fun k => x (ix2 (j 0) k)) (fun k => inc (p (ix2 (j 0) k)) (q (ix2 (j 0) k)) * g (ix2 0 k)) (j 1) := by
  unfold bwd hat dev cen mean inc
  pointwise [k0_pay2, k0_pay5, k0_pay6, k0_pay7, k0_pay8]

/-- What a point adds to the gains' gradient. -/
theorem gain_step (x p q : FVec Ideal S512x1024 .f32) (acc : FVec Ideal S1x1024 .f32) (j : S1x1024.Idx) :
    (k0_pay9 (F := Ideal) x p q acc j : EReal) = acc j + ∑ r : Fin 512, part (fun k => x (ix2 r k)) (p (ix2 r (j 1))) (q (ix2 r (j 1))) (j 1) := by
  simp only [part, mul_comm (hat _ _) (inc _ _)]
  unfold hat dev cen mean inc
  pointwise! [k0_pay9, k0_pay5, k0_pay6, k0_pay7, k0_pay8]

/-- What a point adds to the shifts' gradient. -/
theorem shift_step (p q : FVec Ideal S512x1024 .f32) (acc : FVec Ideal S1x1024 .f32) (j : S1x1024.Idx) :
    (k0_pay1 (F := Ideal) (k0_pay10 acc) (k0_pay11 p q) j : EReal) = acc j + ∑ r : Fin 512, inc (p (ix2 r (j 1))) (q (ix2 r (j 1))) := by
  unfold inc
  pointwise! [k0_pay1, k0_pay10, k0_pay11, k0_pay8]

theorem zero3 (j : S1x1024.Idx) : (k0_pay3 (F := Ideal) j : EReal) = 0 := by
  pointwise! [k0_pay3]

theorem zero4 (j : S1x1024.Idx) : (k0_pay4 (F := Ideal) j : EReal) = 0 := by
  pointwise! [k0_pay4]

/-- The gains reach the kernel as one row. -/
theorem ent (c : Dev nD) : V m c main_v0 = shapeCast S1x1024 (m ((c : Thread nD τ).loc main_arg1)) shapeCasts_S1024_S1x1024 := by
  unfold V
  after_results
  rfl

/-- The gains a point reads. -/
theorem gain (c : Dev nD) (t : Fin cfg0.N) (k : Fin 1024) : (iblk m c 3 t (ix2 0 k) : EReal) = m ((c : Thread nD τ).loc main_arg1) (ix1 k) := by
  have e : ((win0_3.blk t).view.emb (ix2 0 k) : S1x1024.Idx) = ix2 0 k := by
    have e0 : win0_3.index t 0 = 0 := congrFun (idx t).2.2.2.1 0
    have e1 : win0_3.index t 1 = 0 := congrFun (idx t).2.2.2.1 1
    funext a
    refine Fin.ext ?_
    fin_cases a
    · show win0_3.index t 0 * 1 + 1 * 0 = 0
      omega
    · show win0_3.index t 1 * 1024 + 1 * k.val = k.val
      omega
  show V m c main_v0 _ = _
  rw [e, ent]
  pointwise

/-- The rows' gradient at a point. -/
theorem out4 (c : Dev nD) (t : Fin cfg0.N) (j : S512x1024.Idx) :
    ((outsAt0 m c t.val t.isLt).1 j : EReal) = bwd (fun k => iblk m c 0 t (ix2 (j 0) k))
      (fun k => inc (iblk m c 1 t (ix2 (j 0) k)) (iblk m c 2 t (ix2 (j 0) k)) * iblk m c 3 t (ix2 0 k)) (j 1) := by
  by_cases h : t.val % 8 = 0
  · rw [outsAt0_A m c t h]
    frame_out
    exact pay_at _ _ _ _ _
  · rw [outsAt0_B m c t h]
    frame_out
    exact pay_at _ _ _ _ _

theorem start5 (c : Dev nD) (t : Fin cfg0.N) (h : t.val % 8 = 0) (j : S1x1024.Idx) :
    ((outsAt0 m c t.val t.isLt).2.1 j : EReal) = 0 + ∑ r : Fin 512, part (fun k => iblk m c 0 t (ix2 r k)) (iblk m c 1 t (ix2 r (j 1))) (iblk m c 2 t (ix2 r (j 1))) (j 1) := by
  rw [outsAt0_A m c t h]
  frame_out
  rw [gain_step, zero3]

theorem step5 (c : Dev nD) (t : Fin cfg0.N) (h : ¬t.val % 8 = 0) (j : S1x1024.Idx) :
    ((outsAt0 m c t.val t.isLt).2.1 j : EReal) = (outsAt0 m c (t.val - 1) (Nat.lt_of_le_of_lt (Nat.sub_le _ _) t.isLt)).2.1 j
      + ∑ r : Fin 512, part (fun k => iblk m c 0 t (ix2 r k)) (iblk m c 1 t (ix2 r (j 1))) (iblk m c 2 t (ix2 r (j 1))) (j 1) := by
  rw [outsAt0_B m c t h]
  frame_out
  rw [gain_step]

theorem start6 (c : Dev nD) (t : Fin cfg0.N) (h : t.val % 8 = 0) (j : S1x1024.Idx) :
    ((outsAt0 m c t.val t.isLt).2.2 j : EReal) = 0 + ∑ r : Fin 512, inc (iblk m c 1 t (ix2 r (j 1))) (iblk m c 2 t (ix2 r (j 1))) := by
  rw [outsAt0_A m c t h]
  frame_out
  rw [shift_step, zero4]

theorem step6 (c : Dev nD) (t : Fin cfg0.N) (h : ¬t.val % 8 = 0) (j : S1x1024.Idx) :
    ((outsAt0 m c t.val t.isLt).2.2 j : EReal) = (outsAt0 m c (t.val - 1) (Nat.lt_of_le_of_lt (Nat.sub_le _ _) t.isLt)).2.2 j
      + ∑ r : Fin 512, inc (iblk m c 1 t (ix2 r (j 1))) (iblk m c 2 t (ix2 r (j 1))) := by
  rw [outsAt0_B m c t h]
  frame_out
  rw [shift_step]

/-- The rows' gradient after the run. -/
theorem final4 (c : Dev nD) (R : FVec Ideal S4096x1024 .f32)
    (hR : ∀ j, (R j : EReal) = bwd (fun k => m ((c : Thread nD τ).loc main_arg0) (ix2 (j 0) k))
      (fun k => inc (m ((c : Thread nD τ).loc main_arg3) (ix2 (j 0) k)) (m ((c : Thread nD τ).loc main_arg4) (ix2 (j 0) k)) * m ((c : Thread nD τ).loc main_arg1) (ix1 k)) (j 1)) :
    (dats m 0 c).arrAt 4 cfg0.N = R := by
  refine (dats m 0 c).arrAt_eq_of_covers 4 _ (by decide +kernel) fun t _ y => ?_
  blk_simp
  rw [after0_4, out4, hR]
  refine bwd_congr (funext fun k => ?_) (funext fun k => ?_) ?_
  · blk_point [iblk, V_main_arg0, idx t]
  · rw [gain m c t k]
    refine congrArg (· * _) (congrArg₂ inc ?_ ?_)
    · blk_point [iblk, V_main_arg3, idx t]
    · blk_point [iblk, V_main_arg4, idx t]
  · refine Fin.ext ?_
    have e : win0_4.index t 1 = 0 := congrFun (idx t).2.2.2.2.1 1
    show (y 1).val = win0_4.index t 1 * 1024 + 1 * (y 1).val
    omega

/-- The gains' gradient after the run. -/
theorem final5 (c : Dev nD) (R : FVec Ideal S1x1024 .f32)
    (hR : ∀ j, (R j : EReal) = ∑ r : Fin 4096, part (fun k => m ((c : Thread nD τ).loc main_arg0) (ix2 r k))
      (m ((c : Thread nD τ).loc main_arg3) (ix2 r (j 1))) (m ((c : Thread nD τ).loc main_arg4) (ix2 r (j 1))) (j 1)) :
    (dats m 0 c).arrAt 5 cfg0.N = R := by
  refine (dats m 0 c).arrAt_eq_of_covers 5 _ (by decide +kernel) fun t hf y => ?_
  have ht := (flush0_5 t).mp hf
  blk_simp
  rw [after0_5, Pipeline.eq_sum_fin_of_reset_step_apply_of_flush (fun n h => (outsAt0 m c n h).2.1) 8 (fun _ => 0) _
    (fun t h j => start5 m c t h j) (fun t h j => step5 m c t h j) t ht _, zero_add, hR]
  refine Fin.sum_mul_add_congr fun s k hl => part_congr (funext fun i => ?_) ?_ ?_ ?_
  · blk_point [iblk, V_main_arg0, idx t, idx ⟨_, Pipeline.run_point_lt_of_flush t ht s⟩]
  · blk_point [iblk, V_main_arg3, idx t, idx ⟨_, Pipeline.run_point_lt_of_flush t ht s⟩]
  · blk_point [iblk, V_main_arg4, idx t, idx ⟨_, Pipeline.run_point_lt_of_flush t ht s⟩]
  · refine Fin.ext ?_
    have e : win0_5.index t 1 = 0 := congrFun (idx t).2.2.2.2.2.1 1
    show (y 1).val = win0_5.index t 1 * 1024 + 1 * (y 1).val
    omega

/-- The shifts' gradient after the run. -/
theorem final6 (c : Dev nD) (R : FVec Ideal S1x1024 .f32)
    (hR : ∀ j, (R j : EReal) = ∑ r : Fin 4096, inc (m ((c : Thread nD τ).loc main_arg3) (ix2 r (j 1))) (m ((c : Thread nD τ).loc main_arg4) (ix2 r (j 1)))) :
    (dats m 0 c).arrAt 6 cfg0.N = R := by
  refine (dats m 0 c).arrAt_eq_of_covers 6 _ (by decide +kernel) fun t hf y => ?_
  have ht := (flush0_6 t).mp hf
  blk_simp
  rw [after0_6, Pipeline.eq_sum_fin_of_reset_step_apply_of_flush (fun n h => (outsAt0 m c n h).2.2) 8 (fun _ => 0) _
    (fun t h j => start6 m c t h j) (fun t h j => step6 m c t h j) t ht _, zero_add, hR]
  refine Fin.sum_mul_add_congr fun s k hl => congrArg₂ inc ?_ ?_
  · blk_point [iblk, V_main_arg3, idx t, idx ⟨_, Pipeline.run_point_lt_of_flush t ht s⟩]
  · blk_point [iblk, V_main_arg4, idx t, idx ⟨_, Pipeline.run_point_lt_of_flush t ht s⟩]

end Cert.LnBIdeal.Norm

namespace Cert.Ln

/-- The rows' gradient of the reference. -/
theorem ref_dx (m : (ℓ : Loc Cert.LnBRefIdeal.nD Cert.LnBRefIdeal.τ Cert.LnBRefIdeal.sig) → Buf (Elt Ideal) ℓ) (c : Dev Cert.LnBRefIdeal.nD) (j : Cert.LnBRefIdeal.S4096x1024.Idx) :
    (Cert.LnBRefIdeal.Value.res_main_v64 m c j : EReal) = vjp (fun k => m ((c : Thread Cert.LnBRefIdeal.nD Cert.LnBRefIdeal.τ).loc Cert.LnBRefIdeal.main_arg0) (ix2 (j 0) k))
      (fun k => Cert.LnBIdeal.Norm.inc (m ((c : Thread Cert.LnBRefIdeal.nD Cert.LnBRefIdeal.τ).loc Cert.LnBRefIdeal.main_arg3) (ix2 (j 0) k)) (m ((c : Thread Cert.LnBRefIdeal.nD Cert.LnBRefIdeal.τ).loc Cert.LnBRefIdeal.main_arg4) (ix2 (j 0) k))
        * m ((c : Thread Cert.LnBRefIdeal.nD Cert.LnBRefIdeal.τ).loc Cert.LnBRefIdeal.main_arg1) (ix1 k)) (j 1) := by
  unfold vjp via spread dev cen mean cols Cert.LnBIdeal.Norm.inc
  pointwise [Cert.LnBRefIdeal.Value.res_main_v64]
  simp only [Fin.sum_univ_one]

/-- The shapes of the precondition fit. -/
instance pre_facts_gains : Cert.Pre_finite_gains.Facts where
  bcast_S_S1024 := by decide
  reducesTo_S1024_S_d0 := by decide
  h_S_ := by decide
  bcast_S_S4096x1024 := by decide
  reducesTo_S4096x1024_S_d0_1 := by decide

/-- What the precondition says of the arguments. -/
theorem finite_gains (x : FVec Ideal Cert.Pre_finite_gains.S4096x1024 .f32) (g b : FVec Ideal Cert.Pre_finite_gains.S1024 .f32) (p q : FVec Ideal Cert.Pre_finite_gains.S4096x1024 .f32)
    (h : Cert.Pre_finite_gains.fn (F := Ideal) x g b p q = fun _ => 1#1) :
    (∀ k, (g k : EReal) - g k = 0) ∧ (∀ j, (p j : EReal) - p j = 0) ∧ ∀ j, (q j : EReal) - q j = 0 := by
  have h0 := congrFun h (fun d => d.elim0)
  dsimp only [Cert.Pre_finite_gains.fn] at h0
  have hs : Subsingleton Cert.Pre_finite_gains.S_.Idx := ⟨fun a b => funext fun d => d.elim0⟩
  obtain ⟨h1, h3⟩ := IntOp.andi_eq_one.1 h0
  obtain ⟨h1, h2⟩ := IntOp.andi_eq_one.1 h1
  have z : Ideal.ofBits .f32 0x00000000#32 = 0 := by simp [Ideal.ofBits, Ideal.ieee]
  exact ⟨fun k => (eq_of_oeq (Host.reduce_andi_all _ _ _ _ _ h1 k)).trans z, fun j => (eq_of_oeq (Host.reduce_andi_all _ _ _ _ _ h2 j)).trans z,
    fun j => (eq_of_oeq (Host.reduce_andi_all _ _ _ _ _ h3 j)).trans z⟩

theorem inc_fin {p q : EReal} (hp : p - p = 0) (hq : q - q = 0) : Cert.LnBIdeal.Norm.inc p q - Cert.LnBIdeal.Norm.inc p q = 0 := by
  obtain ⟨a, ha⟩ : ∃ a : ℝ, Ideal.ofBits .f32 0x3F9837F0#32 = (a : EReal) :=
    ⟨9975792 / 8388608, by simp [Ideal.ofBits, Ideal.ieee, -EReal.coe_mul]; norm_num⟩
  rw [of_sub hp, of_sub hq]
  unfold Cert.LnBIdeal.Norm.inc
  rw [ha, ← EReal.coe_mul, ← EReal.coe_add]
  exact sub_coe _

/-- The three results are the reference's. -/
theorem backward_value : Cert.algebraic_LnBIdeal_LnBRefIdeal_pre_finite_gains := by
  intro m g m' g' hpre hagree
  open Cert.LnBIdeal Cert.LnBIdeal.Gen in
  refine ⟨fun c => (dats m 0 c).arrAt 4 cfg0.N, fun c => (dats m 0 c).arrAt 5 cfg0.N, fun c => (dats m 0 c).arrAt 6 cfg0.N, ?_, ?_⟩
  · exact (θ_run Cert.LnBIdeal.defs _ _).mono (fun r h c => ⟨(h.1 c).1 4, (h.1 c).1 5, (h.1 c).1 6, h.2 c⟩) (θ_run_and (Cert.LnBIdeal.Gen.run_main m g) (Cert.LnBIdeal.Gen.unchanged m g))
  · refine (θ_run Cert.LnBRefIdeal.defs _ _).mono (fun r h c => ?_) (Cert.LnBRefIdeal.Value.run (F := Ideal) m' g')
    obtain ⟨h0, h1, h2, h3⟩ := h c
    obtain ⟨e0, e1, e2, e3, e4⟩ := hagree c
    obtain ⟨f1, f3, f4⟩ := finite_gains _ _ _ _ _ (hpre c)
    refine ⟨h0.trans (Cert.LnBIdeal.Norm.final4 m c _ fun j => ?_).symm, h1.trans (Cert.LnBIdeal.Norm.final5 m c _ fun j => ?_).symm,
      h2.trans (Cert.LnBIdeal.Norm.final6 m c _ fun j => ?_).symm, h3⟩
    · clear h h0 h1 h2 h3
      rw [← e1] at f1
      rw [← e3] at f3
      rw [← e4] at f4
      rw [← e0, ← e1, ← e3, ← e4]
      refine (ref_dx m' c j).trans (vjp_eq _ _ (fun k => ?_) _)
      refine mul_fin (inc_fin ?_ ?_) ?_
      · exact f3 _
      · exact f4 _
      · exact f1 _
    · clear h h0 h1 h2 h3
      rw [e0, e3, e4]
      unfold Cert.LnBIdeal.Norm.part hat dev cen mean Cert.LnBIdeal.Norm.inc
      pointwise
      simp only [Fin.sum_univ_one]
    · clear h h0 h1 h2 h3
      rw [e3, e4]
      unfold Cert.LnBIdeal.Norm.inc
      pointwise
      simp only [Fin.sum_univ_one]

end Cert.Ln
-- ==== Proof.LnFwd.lean ====
module

public import proofs.«01_k».proof.Defs
public import proofs.«01_k».proof.Proof.LnRule
public import proofs.«01_k».proof.Proof.Gen.LnFIdeal.Value
public import proofs.«01_k».proof.Proof.Gen.LnFRefIdeal.Run
public import Idealize.ShloMosaic.Lib.Claim
public import Idealize.ShloMosaic.Lib.Quiescent
public import Idealize.ShloMosaic.Lib.Pipeline.ValueKit

/-! # The first normalisation -/

set_option maxRecDepth 16384

@[expose] public section

noncomputable section

open Idealize.ShloMosaic Idealize.ShloMosaic.TcCoe Idealize.SL.Sem

namespace Cert.LnFIdeal.Norm

open Cert.LnFIdeal Cert.LnFIdeal.Gen Cert.Ln

variable (m : (ℓ : Loc nD τ sig) → Buf (Elt Ideal) ℓ)

/-- The blocks of the windows. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- What a point stores. -/
theorem pay_at (x : FVec Ideal S512x1024 .f32) (g b : FVec Ideal S1x1024 .f32) (j : S512x1024.Idx) :
    (k0_pay1 (F := Ideal) x g b j : EReal) = ln (fun k => x (ix2 (j 0) k)) (fun k => g (ix2 0 k)) (fun k => b (ix2 0 k)) (j 1) := by
  unfold ln hat dev cen mean
  pointwise [k0_pay1]

/-- The same rounded. -/
theorem pay2_at (x : FVec Ideal S512x1024 .f32) (g b : FVec Ideal S1x1024 .f32) (j : S512x1024.Idx) :
    (k0_pay2 (F := Ideal) x g b j : EReal) = ln (fun k => x (ix2 (j 0) k)) (fun k => g (ix2 0 k)) (fun k => b (ix2 0 k)) (j 1) :=
  Eq.trans (by pointwise [k0_pay2]) (pay_at x g b j)

/-- The gains reach the kernel as one row. -/
theorem ent1 (c : Dev nD) : V m c main_v0 = shapeCast S1x1024 (m ((c : Thread nD τ).loc main_arg1)) shapeCasts_S1024_S1x1024 := by
  unfold V
  after_results
  rfl

/-- The shifts reach the kernel as one row. -/
theorem ent2 (c : Dev nD) : V m c main_v1 = shapeCast S1x1024 (m ((c : Thread nD τ).loc main_arg2)) shapeCasts_S1024_S1x1024 := by
  unfold V
  after_results
  rfl

/-- The gains a point reads. -/
theorem gain (c : Dev nD) (t : Fin cfg0.N) (k : Fin 1024) : (iblk m c 1 t (ix2 0 k) : EReal) = m ((c : Thread nD τ).loc main_arg1) (ix1 k) := by
  have e : ((win0_1.blk t).view.emb (ix2 0 k) : S1x1024.Idx) = ix2 0 k := by
    have e0 : win0_1.index t 0 = 0 := congrFun (idx t).2.1 0
    have e1 : win0_1.index t 1 = 0 := congrFun (idx t).2.1 1
    funext a
    refine Fin.ext ?_
    fin_cases a
    · show win0_1.index t 0 * 1 + 1 * 0 = 0
      omega
    · show win0_1.index t 1 * 1024 + 1 * k.val = k.val
      omega
  show V m c main_v0 _ = _
  rw [e, ent1]
  pointwise

/-- The shifts a point reads. -/
theorem shift (c : Dev nD) (t : Fin cfg0.N) (k : Fin 1024) : (iblk m c 2 t (ix2 0 k) : EReal) = m ((c : Thread nD τ).loc main_arg2) (ix1 k) := by
  have e : ((win0_2.blk t).view.emb (ix2 0 k) : S1x1024.Idx) = ix2 0 k := by
    have e0 : win0_2.index t 0 = 0 := congrFun (idx t).2.2.1 0
    have e1 : win0_2.index t 1 = 0 := congrFun (idx t).2.2.1 1
    funext a
    refine Fin.ext ?_
    fin_cases a
    · show win0_2.index t 0 * 1 + 1 * 0 = 0
      omega
    · show win0_2.index t 1 * 1024 + 1 * k.val = k.val
      omega
  show V m c main_v1 _ = _
  rw [e, ent2]
  pointwise

/-- The result in `f32` after the run. -/
theorem final3 (c : Dev nD) (R : FVec Ideal S4096x1024 .f32)
    (hR : ∀ j, (R j : EReal) = ln (fun k => m ((c : Thread nD τ).loc main_arg0) (ix2 (j 0) k)) (fun k => m ((c : Thread nD τ).loc main_arg1) (ix1 k)) (fun k => m ((c : Thread nD τ).loc main_arg2) (ix1 k)) (j 1)) :
    (dats m 0 c).arrAt 3 cfg0.N = R := by
  refine (dats m 0 c).arrAt_eq_of_covers 3 _ (by decide +kernel) fun t _ y => ?_
  blk_simp
  rw [after0_3]; unfold out0_3; frame_out
  rw [pay_at, hR]
  refine ln_congr (funext fun k => ?_) (funext fun k => gain m c t k) (funext fun k => shift m c t k) ?_
  · blk_point [iblk, V_main_arg0, idx t]
  · refine Fin.ext ?_
    have e : win0_3.index t 1 = 0 := congrFun (idx t).2.2.2.1 1
    show (y 1).val = win0_3.index t 1 * 1024 + 1 * (y 1).val
    omega

/-- The result in `bf16` after the run. -/
theorem final4 (c : Dev nD) (R : FVec Ideal S4096x1024 .bf16)
    (hR : ∀ j, (R j : EReal) = ln (fun k => m ((c : Thread nD τ).loc main_arg0) (ix2 (j 0) k)) (fun k => m ((c : Thread nD τ).loc main_arg1) (ix1 k)) (fun k => m ((c : Thread nD τ).loc main_arg2) (ix1 k)) (j 1)) :
    (dats m 0 c).arrAt 4 cfg0.N = R := by
  refine (dats m 0 c).arrAt_eq_of_covers 4 _ (by decide +kernel) fun t _ y => ?_
  blk_simp
  rw [after0_4]; unfold out0_4; frame_out
  rw [pay2_at, hR]
  refine ln_congr (funext fun k => ?_) (funext fun k => gain m c t k) (funext fun k => shift m c t k) ?_
  · blk_point [iblk, V_main_arg0, idx t]
  · refine Fin.ext ?_
    have e : win0_4.index t 1 = 0 := congrFun (idx t).2.2.2.2 1
    show (y 1).val = win0_4.index t 1 * 1024 + 1 * (y 1).val
    omega

end Cert.LnFIdeal.Norm

namespace Cert.Ln

/-- The two results are the reference's. -/
theorem forward_value : Cert.algebraic_LnFIdeal_LnFRefIdeal := by
  intro m g m' g' hpre hagree
  open Cert.LnFIdeal Cert.LnFIdeal.Gen in
  refine ⟨fun c => (dats m 0 c).arrAt 3 cfg0.N, fun c => (dats m 0 c).arrAt 4 cfg0.N, ?_, ?_⟩
  · exact (θ_run Cert.LnFIdeal.defs _ _).mono (fun r h c => ⟨(h.1 c).1 3, (h.1 c).1 4, h.2 c⟩) (θ_run_and (Cert.LnFIdeal.Gen.run_main m g) (Cert.LnFIdeal.Gen.unchanged m g))
  · refine (θ_run Cert.LnFRefIdeal.defs _ _).mono (fun r h c => ?_) (Cert.LnFRefIdeal.Value.run (F := Ideal) m' g')
    obtain ⟨h0, h1, h2⟩ := h c
    obtain ⟨e0, e1, e2⟩ := hagree c
    refine ⟨h0.trans (Cert.LnFIdeal.Norm.final3 m c _ fun j => ?_).symm, h1.trans (Cert.LnFIdeal.Norm.final4 m c _ fun j => ?_).symm, h2⟩
    · rw [e0, e1, e2]
      unfold ln hat dev cen mean
      pointwise
    · rw [e0, e1, e2]
      unfold ln hat dev cen mean
      pointwise

end Cert.Ln
-- ==== Proof.LossRule.lean ====
module

public import proofs.«01_k».proof.Proof.LnGrad

/-! # The loss and the gradient of the last normalisation's result, number by number

A row's error is the normalised row, scaled and shifted, less the target. The kernel multiplies it by a thousandth and
twenty-fourth; the reference's derivative doubles it and multiplies by half of that. The reference halves the sum of the
rows' losses; the kernel halves each block's. -/

@[expose] public section

noncomputable section

open Idealize.ShloMosaic

namespace Cert.Ln

/-- The last normalisation's argument. -/
def mix (p q : EReal) : EReal := Ideal.ofBits .f32 0x3F9837F0#32 * p + q

/-- A row's error. -/
def miss (x : Fin 1024 → EReal) (g b t : EReal) (k : Fin 1024) : EReal := hat x k * g + b - t

/-- A row's gradient of the loss in the normalisation's result. -/
def steep (x : Fin 1024 → EReal) (g b t : EReal) (k : Fin 1024) : EReal := miss x g b t k * Ideal.ofBits .f32 0x3A800000#32

/-- A row's loss, halved. -/
def rowLoss (x g b t : Fin 1024 → EReal) : EReal :=
  Ideal.ofBits .f32 0x3F000000#32 * Ideal.div (∑ k, miss x (g k) (b k) (t k) k * miss x (g k) (b k) (t k) k) cols

/-- A row's part in the gradient of a gain. -/
def tilt (x : Fin 1024 → EReal) (g b t : EReal) (k : Fin 1024) : EReal := steep x g b t k * hat x k

theorem steep_congr {x x' : Fin 1024 → EReal} {g g' b b' t t' : EReal} {k k' : Fin 1024} (h : x = x') (h1 : g = g') (h2 : b = b') (h3 : t = t') (h4 : k = k') :
    steep x g b t k = steep x' g' b' t' k' := by
  rw [h, h1, h2, h3, h4]

theorem tilt_congr {x x' : Fin 1024 → EReal} {g g' b b' t t' : EReal} {k k' : Fin 1024} (h : x = x') (h1 : g = g') (h2 : b = b') (h3 : t = t') (h4 : k = k') :
    tilt x g b t k = tilt x' g' b' t' k' := by
  rw [h, h1, h2, h3, h4]

theorem rowLoss_congr {x x' g g' b b' t t' : Fin 1024 → EReal} (h : x = x') (h1 : g = g') (h2 : b = b') (h3 : t = t') : rowLoss x g b t = rowLoss x' g' b' t' := by
  rw [h, h1, h2, h3]

theorem half_pos_eq : Ideal.ofBits .f32 0x3F000000#32 = ((1 / 2 : ℝ) : EReal) := by
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

theorem frac_eq : Ideal.ofBits .f32 0x3A800000#32 = ((1 / 1024 : ℝ) : EReal) := by
  simp [Ideal.ofBits, Ideal.ieee, -EReal.coe_mul]; norm_num

/-- The derivative of half the mean of the squares. -/
theorem chain (y : EReal) : Ideal.div (Ideal.ofBits .f32 0x3F000000#32 * Ideal.ofBits .f32 0x3F800000#32) cols * (Ideal.ofBits .f32 0x40000000#32 * y)
    = y * Ideal.ofBits .f32 0x3A800000#32 := by
  rw [half_pos_eq, one_eq, frac_eq, cols_eq, two_eq, ← EReal.coe_mul, Ideal.div_coe (by norm_num), ← EReal.coe_mul, ← mul_assoc, ← EReal.coe_mul, mul_comm]
  norm_num

/-- A gain's gradient, as the reference's derivative has it. -/
theorem tilt_sum (x : Fin 4096 → Fin 1024 → EReal) (g b : EReal) (t : Fin 4096 → EReal) (k : Fin 1024) : (∑ r, tilt (x r) g b (t r) k)
    = ∑ r, hat (x r) k * (Ideal.div (Ideal.ofBits .f32 0x3F000000#32 * Ideal.ofBits .f32 0x3F800000#32) cols * (Ideal.ofBits .f32 0x40000000#32 * miss (x r) g b (t r) k)) := by
  refine Finset.sum_congr rfl fun r _ => ?_
  unfold tilt steep
  rw [chain, mul_comm]

/-- A shift's gradient, as the reference's derivative has it. -/
theorem steep_sum (x : Fin 4096 → Fin 1024 → EReal) (g b : EReal) (t : Fin 4096 → EReal) (k : Fin 1024) : (∑ r, steep (x r) g b (t r) k)
    = ∑ r, Ideal.div (Ideal.ofBits .f32 0x3F000000#32 * Ideal.ofBits .f32 0x3F800000#32) cols * (Ideal.ofBits .f32 0x40000000#32 * miss (x r) g b (t r) k) := by
  refine Finset.sum_congr rfl fun r _ => ?_
  unfold steep
  rw [chain]

/-- Halving a sum halves its terms. -/
theorem half_sum {ι : Type} (s : Finset ι) (f : ι → EReal) :
    Ideal.ofBits .f32 0x3F000000#32 * ∑ i ∈ s, f i = ∑ i ∈ s, Ideal.ofBits .f32 0x3F000000#32 * f i := by
  classical
  rw [half_pos_eq]
  induction s using Finset.induction_on with
  | empty => simp
  | insert a s h ih =>
    rw [Finset.sum_insert h, Finset.sum_insert h, ← ih]
    exact EReal.left_distrib_of_nonneg_of_ne_top (by exact_mod_cast (by norm_num : (0 : ℝ) ≤ 1 / 2)) (EReal.coe_ne_top _) _ _

theorem add_fin {p q : EReal} (hp : p - p = 0) (hq : q - q = 0) : p + q - (p + q) = 0 := by
  rw [of_sub hp, of_sub hq, ← EReal.coe_add]
  exact sub_coe _

theorem sub_fin {p q : EReal} (hp : p - p = 0) (hq : q - q = 0) : p - q - (p - q) = 0 := by
  rw [of_sub hp, of_sub hq, ← EReal.coe_sub]
  exact sub_coe _

/-- A normalised row is a row of real numbers, whatever it was before. -/
theorem hat_fin (x : Fin 1024 → EReal) (k : Fin 1024) : hat x k - hat x k = 0 := by
  by_cases hx : ∃ k, x k = ⊤ ∨ x k = ⊥
  · obtain ⟨k₀, h⟩ := hx
    unfold hat
    rw [(dev_zero x k₀ h).1, mul_zero, sub_zero]
  · push Not at hx
    have hX (k : Fin 1024) : x k = ((x k).toReal : EReal) := (EReal.coe_toReal (hx k).1 (hx k).2).symm
    rw [funext hX]
    suffices main : ∀ X : Fin 1024 → ℝ, hat (fun k => ((X k : ℝ) : EReal)) k - hat (fun k => ((X k : ℝ) : EReal)) k = 0 from main _
    intro X
    obtain ⟨ε, hε, eε⟩ := small
    have hn : (1024 : ℝ) ≠ 0 := by norm_num
    have ec (k : Fin 1024) : cen (fun k => ((X k : ℝ) : EReal)) k = ((X k - (∑ k, X k) * (1 / 1024) : ℝ) : EReal) := by
      show (X k : EReal) - Ideal.div (∑ k, (X k : EReal)) cols = _
      rw [← Cert.Attn.coe_sum, cols_eq, Ideal.div_coe hn, ← EReal.coe_mul, ← EReal.coe_sub]
    have ea : spread (fun k => ((X k : ℝ) : EReal)) = (((∑ k, (X k - (∑ k, X k) * (1 / 1024)) * (X k - (∑ k, X k) * (1 / 1024))) * (1 / 1024) + ε : ℝ) : EReal) := by
      unfold spread
      simp only [ec, ← EReal.coe_mul]
      rw [← Cert.Attn.coe_sum, cols_eq, Ideal.div_coe hn, ← EReal.coe_mul, eε, ← EReal.coe_add]
    have pa : 0 < (∑ k, (X k - (∑ k, X k) * (1 / 1024)) * (X k - (∑ k, X k) * (1 / 1024))) * (1 / 1024) + ε := by
      have : 0 ≤ ∑ k, (X k - (∑ k, X k) * (1 / 1024)) * (X k - (∑ k, X k) * (1 / 1024)) := Finset.sum_nonneg fun k _ => mul_self_nonneg _
      positivity
    refine mul_fin (by rw [ec]; exact sub_coe _) ?_
    show Ideal.rsqrt (spread (fun k => ((X k : ℝ) : EReal))) - Ideal.rsqrt (spread (fun k => ((X k : ℝ) : EReal))) = 0
    rw [ea, Ideal.rsqrt_coe, if_neg (not_lt.2 pa.le), if_neg pa.ne']
    exact sub_coe _

theorem steep_fin (x : Fin 1024 → EReal) {g b t : EReal} (hg : g - g = 0) (hb : b - b = 0) (ht : t - t = 0) (k : Fin 1024) : steep x g b t k - steep x g b t k = 0 := by
  unfold steep miss
  refine mul_fin (sub_fin (add_fin (mul_fin (hat_fin x k) hg) hb) ht) ?_
  rw [frac_eq]; exact sub_coe _

end Cert.Ln
-- ==== Proof.LossValue.lean ====
module

public import proofs.«01_k».proof.Defs
public import proofs.«01_k».proof.Proof.LossRule
public import proofs.«01_k».proof.Proof.LnBack
public import proofs.«01_k».proof.Proof.Gen.LossIdeal.Value
public import proofs.«01_k».proof.Proof.Gen.LossRefIdeal.Run

/-! # The last normalisation with the loss and its gradient

The rows' gradient leaves the kernel block by block, in two precisions; the loss and the gradients of the gains and of
the shifts are added up over the eight blocks of rows. -/

set_option maxRecDepth 16384

@[expose] public section

noncomputable section

open Idealize.ShloMosaic Idealize.ShloMosaic.TcCoe Idealize.SL.Sem

namespace Cert.LossIdeal.Norm

open Cert.LossIdeal Cert.LossIdeal.Gen Cert.Ln

variable (m : (ℓ : Loc nD τ sig) → Buf (Elt Ideal) ℓ)

/-- The blocks of the windows. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![0, 0] ∧ win0_9.index t = ![0, 0] ∧ t.val < 8 :=
  (by decide +kernel : ∀ t : Fin grid0.N, _)

variable (x p q : FVec Ideal S512x1024 .f32) (g b : FVec Ideal S1x1024 .f32)

/-- The rows' gradient that a point stores. -/
theorem pay_at (j : S512x1024.Idx) :
    (k0_pay1 (F := Ideal) (k0_pay7 x p) (k0_pay8 x p) (k0_pay16 (k0_pay9 x p g b q) g) (k0_pay17 (k0_pay9 x p g b q) g)
      (k0_pay18 (k0_pay8 x p) (k0_pay9 x p g b q) g) j : EReal)
      = bwd (fun k => mix (x (ix2 (j 0) k)) (p (ix2 (j 0) k)))
        (fun k => steep (fun k => mix (x (ix2 (j 0) k)) (p (ix2 (j 0) k))) (g (ix2 0 k)) (b (ix2 0 k)) (q (ix2 (j 0) k)) k * g (ix2 0 k)) (j 1) := by
  unfold bwd steep miss hat dev cen mean mix
  pointwise [k0_pay1, k0_pay6, k0_pay7, k0_pay8, k0_pay9, k0_pay13, k0_pay16, k0_pay17, k0_pay18]

/-- The same, rounded. -/
theorem pay_round (v1 v4 : FVec Ideal S512x1 .f32) (v2 v3 : FVec Ideal S512x1024 .f32) (v5 : FVec Ideal S512x1 .f32) (j : S512x1024.Idx) :
    (k0_pay2 (F := Ideal) v1 v2 v3 v4 v5 j : EReal) = k0_pay1 (F := Ideal) v1 v2 v3 v4 v5 j := by
  pointwise [k0_pay2]

/-- What a point adds to the loss. -/
theorem loss_step (acc : FVec Ideal S1x1 .f32) (j : S1x1.Idx) :
    (k0_pay12 (F := Ideal) (k0_pay10 x p g b q) k0_pay11 acc j : EReal) = acc j + ∑ r : Fin 512,
      rowLoss (fun k => mix (x (ix2 r k)) (p (ix2 r k))) (fun k => g (ix2 0 k)) (fun k => b (ix2 0 k)) (fun k => q (ix2 r k)) := by
  unfold rowLoss
  rw [← half_sum]
  unfold miss hat dev cen mean mix
  pointwise! [k0_pay12, k0_pay11, k0_pay10, k0_pay6, k0_pay7, k0_pay8, k0_pay9]

/-- What a point adds to the gains' gradient. -/
theorem gain_step (acc : FVec Ideal S1x1024 .f32) (j : S1x1024.Idx) :
    (k0_pay14 (F := Ideal) (k0_pay8 x p) (k0_pay9 x p g b q) acc j : EReal) = acc j + ∑ r : Fin 512,
      tilt (fun k => mix (x (ix2 r k)) (p (ix2 r k))) (g (ix2 0 (j 1))) (b (ix2 0 (j 1))) (q (ix2 r (j 1))) (j 1) := by
  unfold tilt steep miss hat dev cen mean mix
  pointwise! [k0_pay14, k0_pay13, k0_pay6, k0_pay7, k0_pay8, k0_pay9]

/-- What a point adds to the shifts' gradient. -/
theorem shift_step (acc : FVec Ideal S1x1024 .f32) (j : S1x1024.Idx) :
    (k0_pay15 (F := Ideal) (k0_pay9 x p g b q) acc j : EReal) = acc j + ∑ r : Fin 512,
      steep (fun k => mix (x (ix2 r k)) (p (ix2 r k))) (g (ix2 0 (j 1))) (b (ix2 0 (j 1))) (q (ix2 r (j 1))) (j 1) := by
  unfold steep miss hat dev cen mean mix
  pointwise! [k0_pay15, k0_pay13, k0_pay6, k0_pay7, k0_pay8, k0_pay9]

theorem zero3 (j : S1x1.Idx) : (k0_pay3 (F := Ideal) j : EReal) = 0 := by
  pointwise! [k0_pay3]

theorem zero4 (j : S1x1024.Idx) : (k0_pay4 (F := Ideal) j : EReal) = 0 := by
  pointwise! [k0_pay4]

theorem zero5 (j : S1x1024.Idx) : (k0_pay5 (F := Ideal) j : EReal) = 0 := by
  pointwise! [k0_pay5]

/-- The gains reach the kernel as one row. -/
theorem ent0 (c : Dev nD) : V m c main_v0 = shapeCast S1x1024 (m ((c : Thread nD τ).loc main_arg3)) shapeCasts_S1024_S1x1024 := by
  unfold V
  after_results
  rfl

/-- So do the shifts. -/
theorem ent1 (c : Dev nD) : V m c main_v1 = shapeCast S1x1024 (m ((c : Thread nD τ).loc main_arg4)) shapeCasts_S1024_S1x1024 := by
  unfold V
  after_results
  rfl

/-- The gains a point reads. -/
theorem gain (c : Dev nD) (t : Fin cfg0.N) (k : Fin 1024) : (iblk m c 3 t (ix2 0 k) : EReal) = m ((c : Thread nD τ).loc main_arg3) (ix1 k) := by
  have e : ((win0_3.blk t).view.emb (ix2 0 k) : S1x1024.Idx) = ix2 0 k := by
    have e0 : win0_3.index t 0 = 0 := congrFun (idx t).2.2.2.1 0
    have e1 : win0_3.index t 1 = 0 := congrFun (idx t).2.2.2.1 1
    funext a
    refine Fin.ext ?_
    fin_cases a
    · show win0_3.index t 0 * 1 + 1 * 0 = 0
      omega
    · show win0_3.index t 1 * 1024 + 1 * k.val = k.val
      omega
  show V m c main_v0 _ = _
  rw [e, ent0]
  pointwise

/-- The shifts a point reads. -/
theorem shift (c : Dev nD) (t : Fin cfg0.N) (k : Fin 1024) : (iblk m c 4 t (ix2 0 k) : EReal) = m ((c : Thread nD τ).loc main_arg4) (ix1 k) := by
  have e : ((win0_4.blk t).view.emb (ix2 0 k) : S1x1024.Idx) = ix2 0 k := by
    have e0 : win0_4.index t 0 = 0 := congrFun (idx t).2.2.2.2.1 0
    have e1 : win0_4.index t 1 = 0 := congrFun (idx t).2.2.2.2.1 1
    funext a
    refine Fin.ext ?_
    fin_cases a
    · show win0_4.index t 0 * 1 + 1 * 0 = 0
      omega
    · show win0_4.index t 1 * 1024 + 1 * k.val = k.val
      omega
  show V m c main_v1 _ = _
  rw [e, ent1]
  pointwise

/-- The row of the normalisation that a point reads. -/
abbrev rowAt (c : Dev nD) (t : Fin cfg0.N) (r : Fin 512) (k : Fin 1024) : EReal := mix (iblk m c 0 t (ix2 r k)) (iblk m c 1 t (ix2 r k))

/-- A row of the normalisation. -/
abbrev row (c : Dev nD) (r : Fin 4096) (k : Fin 1024) : EReal := mix (m ((c : Thread nD τ).loc main_arg0) (ix2 r k)) (m ((c : Thread nD τ).loc main_arg1) (ix2 r k))

/-- The rows' gradient at a point. -/
theorem out6 (c : Dev nD) (t : Fin cfg0.N) (j : S512x1024.Idx) :
    ((outsAt0 m c t.val t.isLt).2.1 j : EReal) = bwd (rowAt m c t (j 0))
      (fun k => steep (rowAt m c t (j 0)) (iblk m c 3 t (ix2 0 k)) (iblk m c 4 t (ix2 0 k)) (iblk m c 2 t (ix2 (j 0) k)) k * iblk m c 3 t (ix2 0 k)) (j 1) := by
  by_cases h : t.val % 8 = 0
  · rw [outsAt0_A m c t h]
    frame_out
    exact pay_at _ _ _ _ _ _
  · rw [outsAt0_B m c t h]
    frame_out
    exact pay_at _ _ _ _ _ _

theorem out7 (c : Dev nD) (t : Fin cfg0.N) (j : S512x1024.Idx) :
    ((outsAt0 m c t.val t.isLt).2.2.1 j : EReal) = (outsAt0 m c t.val t.isLt).2.1 j := by
  by_cases h : t.val % 8 = 0
  · rw [outsAt0_A m c t h]
    frame_out
    exact pay_round _ _ _ _ _ _
  · rw [outsAt0_B m c t h]
    frame_out
    exact pay_round _ _ _ _ _ _

theorem start5 (c : Dev nD) (t : Fin cfg0.N) (h : t.val % 8 = 0) (j : S1x1.Idx) :
    ((outsAt0 m c t.val t.isLt).1 j : EReal) = 0 + ∑ r : Fin 512, rowLoss (rowAt m c t r) (fun k => iblk m c 3 t (ix2 0 k)) (fun k => iblk m c 4 t (ix2 0 k)) (fun k => iblk m c 2 t (ix2 r k)) := by
  rw [outsAt0_A m c t h]
  frame_out
  rw [loss_step, zero3]

theorem step5 (c : Dev nD) (t : Fin cfg0.N) (h : ¬t.val % 8 = 0) (j : S1x1.Idx) :
    ((outsAt0 m c t.val t.isLt).1 j : EReal) = (outsAt0 m c (t.val - 1) (Nat.lt_of_le_of_lt (Nat.sub_le _ _) t.isLt)).1 j
      + ∑ r : Fin 512, rowLoss (rowAt m c t r) (fun k => iblk m c 3 t (ix2 0 k)) (fun k => iblk m c 4 t (ix2 0 k)) (fun k => iblk m c 2 t (ix2 r k)) := by
  rw [outsAt0_B m c t h]
  frame_out
  rw [loss_step]

theorem start8 (c : Dev nD) (t : Fin cfg0.N) (h : t.val % 8 = 0) (j : S1x1024.Idx) :
    ((outsAt0 m c t.val t.isLt).2.2.2.1 j : EReal) = 0 + ∑ r : Fin 512, tilt (rowAt m c t r) (iblk m c 3 t (ix2 0 (j 1))) (iblk m c 4 t (ix2 0 (j 1))) (iblk m c 2 t (ix2 r (j 1))) (j 1) := by
  rw [outsAt0_A m c t h]
  frame_out
  rw [gain_step, zero4]

theorem step8 (c : Dev nD) (t : Fin cfg0.N) (h : ¬t.val % 8 = 0) (j : S1x1024.Idx) :
    ((outsAt0 m c t.val t.isLt).2.2.2.1 j : EReal) = (outsAt0 m c (t.val - 1) (Nat.lt_of_le_of_lt (Nat.sub_le _ _) t.isLt)).2.2.2.1 j
      + ∑ r : Fin 512, tilt (rowAt m c t r) (iblk m c 3 t (ix2 0 (j 1))) (iblk m c 4 t (ix2 0 (j 1))) (iblk m c 2 t (ix2 r (j 1))) (j 1) := by
  rw [outsAt0_B m c t h]
  frame_out
  rw [gain_step]

theorem start9 (c : Dev nD) (t : Fin cfg0.N) (h : t.val % 8 = 0) (j : S1x1024.Idx) :
    ((outsAt0 m c t.val t.isLt).2.2.2.2 j : EReal) = 0 + ∑ r : Fin 512, steep (rowAt m c t r) (iblk m c 3 t (ix2 0 (j 1))) (iblk m c 4 t (ix2 0 (j 1))) (iblk m c 2 t (ix2 r (j 1))) (j 1) := by
  rw [outsAt0_A m c t h]
  frame_out
  rw [shift_step, zero5]

theorem step9 (c : Dev nD) (t : Fin cfg0.N) (h : ¬t.val % 8 = 0) (j : S1x1024.Idx) :
    ((outsAt0 m c t.val t.isLt).2.2.2.2 j : EReal) = (outsAt0 m c (t.val - 1) (Nat.lt_of_le_of_lt (Nat.sub_le _ _) t.isLt)).2.2.2.2 j
      + ∑ r : Fin 512, steep (rowAt m c t r) (iblk m c 3 t (ix2 0 (j 1))) (iblk m c 4 t (ix2 0 (j 1))) (iblk m c 2 t (ix2 r (j 1))) (j 1) := by
  rw [outsAt0_B m c t h]
  frame_out
  rw [shift_step]

/-- A row at a point is a row of the arrays. -/
theorem row_eq (c : Dev nD) (t : Fin cfg0.N) (r : Fin 512) (r' : Fin 4096) (h : t.val * 512 + r.val = r'.val) : rowAt m c t r = row m c r' := by
  refine funext fun k => congrArg₂ mix ?_ ?_
  · blk_point [iblk, V_main_arg0, idx t]
  · blk_point [iblk, V_main_arg1, idx t]

/-- The rows' gradient after the run. -/
theorem final6 (c : Dev nD) (R : FVec Ideal S4096x1024 .f32)
    (hR : ∀ j, (R j : EReal) = bwd (row m c (j 0))
      (fun k => steep (row m c (j 0)) (m ((c : Thread nD τ).loc main_arg3) (ix1 k)) (m ((c : Thread nD τ).loc main_arg4) (ix1 k)) (m ((c : Thread nD τ).loc main_arg2) (ix2 (j 0) k)) k * m ((c : Thread nD τ).loc main_arg3) (ix1 k)) (j 1)) :
    (dats m 0 c).arrAt 6 cfg0.N = R := by
  refine (dats m 0 c).arrAt_eq_of_covers 6 _ (by decide +kernel) fun t _ y => ?_
  blk_simp
  rw [after0_6, out6, hR]
  have e0 : win0_6.index t 0 = t.val := congrFun (idx t).2.2.2.2.2.2.1 0
  have e1 : win0_6.index t 1 = 0 := congrFun (idx t).2.2.2.2.2.2.1 1
  have hr := row_eq m c t (y 0) ((win0_6.blk t).view.emb y 0) (by
    show t.val * 512 + (y 0).val = win0_6.index t 0 * 512 + 1 * (y 0).val
    omega)
  refine bwd_congr hr (funext fun k => ?_) ?_
  · rw [gain m c t k, shift m c t k]
    refine congrArg (· * _) (steep_congr hr rfl rfl ?_ rfl)
    blk_point [iblk, V_main_arg2, idx t]
  · refine Fin.ext ?_
    show (y 1).val = win0_6.index t 1 * 1024 + 1 * (y 1).val
    omega

/-- The rows' gradient after the run, rounded. -/
theorem final7 (c : Dev nD) (R : FVec Ideal S4096x1024 .bf16)
    (hR : ∀ j, (R j : EReal) = bwd (row m c (j 0))
      (fun k => steep (row m c (j 0)) (m ((c : Thread nD τ).loc main_arg3) (ix1 k)) (m ((c : Thread nD τ).loc main_arg4) (ix1 k)) (m ((c : Thread nD τ).loc main_arg2) (ix2 (j 0) k)) k * m ((c : Thread nD τ).loc main_arg3) (ix1 k)) (j 1)) :
    (dats m 0 c).arrAt 7 cfg0.N = R := by
  refine (dats m 0 c).arrAt_eq_of_covers 7 _ (by decide +kernel) fun t _ y => ?_
  blk_simp
  rw [after0_7, out7, out6, hR]
  have e0 : win0_7.index t 0 = t.val := congrFun (idx t).2.2.2.2.2.2.2.1 0
  have e1 : win0_7.index t 1 = 0 := congrFun (idx t).2.2.2.2.2.2.2.1 1
  have hr := row_eq m c t (y 0) ((win0_7.blk t).view.emb y 0) (by
    show t.val * 512 + (y 0).val = win0_7.index t 0 * 512 + 1 * (y 0).val
    omega)
  refine bwd_congr hr (funext fun k => ?_) ?_
  · rw [gain m c t k, shift m c t k]
    refine congrArg (· * _) (steep_congr hr rfl rfl ?_ rfl)
    blk_point [iblk, V_main_arg2, idx t]
  · refine Fin.ext ?_
    show (y 1).val = win0_7.index t 1 * 1024 + 1 * (y 1).val
    omega

/-- The loss after the run. -/
theorem final5 (c : Dev nD) (R : FVec Ideal S1x1 .f32) (hR : ∀ j, (R j : EReal) = ∑ r : Fin 4096, rowLoss (row m c r) (fun k => m ((c : Thread nD τ).loc main_arg3) (ix1 k)) (fun k => m ((c : Thread nD τ).loc main_arg4) (ix1 k)) (fun k => m ((c : Thread nD τ).loc main_arg2) (ix2 r k))) :
    (dats m 0 c).arrAt 5 cfg0.N = R := by
  refine (dats m 0 c).arrAt_eq_of_covers 5 _ (by decide +kernel) fun t hf y => ?_
  have ht := (flush0_5 t).mp hf
  blk_simp
  rw [after0_5, Pipeline.eq_sum_fin_of_reset_step_apply_of_flush (fun n h => (outsAt0 m c n h).1) 8 (fun _ => 0) _
    (fun t h j => start5 m c t h j) (fun t h j => step5 m c t h j) t ht _, zero_add, hR]
  refine Fin.sum_mul_add_congr fun s k hl => rowLoss_congr (row_eq m c _ _ _ ?_) (funext fun i => gain m c _ i) (funext fun i => shift m c _ i) (funext fun i => ?_)
  · have h8 : t.val < 8 := (idx t).2.2.2.2.2.2.2.2.2.2
    show (8 * (t.val / 8) + s.val) * 512 + k.val = s.val * 512 + k.val
    omega
  · blk_point [iblk, V_main_arg2, idx t, idx ⟨_, Pipeline.run_point_lt_of_flush t ht s⟩]

/-- The gains' gradient after the run. -/
theorem final8 (c : Dev nD) (R : FVec Ideal S1x1024 .f32) (hR : ∀ j, (R j : EReal) = ∑ r : Fin 4096, tilt (row m c r) (m ((c : Thread nD τ).loc main_arg3) (ix1 (j 1))) (m ((c : Thread nD τ).loc main_arg4) (ix1 (j 1))) (m ((c : Thread nD τ).loc main_arg2) (ix2 r (j 1))) (j 1)) :
    (dats m 0 c).arrAt 8 cfg0.N = R := by
  refine (dats m 0 c).arrAt_eq_of_covers 8 _ (by decide +kernel) fun t hf y => ?_
  have ht := (flush0_8 t).mp hf
  blk_simp
  rw [after0_8, Pipeline.eq_sum_fin_of_reset_step_apply_of_flush (fun n h => (outsAt0 m c n h).2.2.2.1) 8 (fun _ => 0) _
    (fun t h j => start8 m c t h j) (fun t h j => step8 m c t h j) t ht _, zero_add, hR]
  have e : (win0_8.blk t).view.emb y 1 = y 1 := by
    refine Fin.ext ?_
    have e : win0_8.index t 1 = 0 := congrFun (idx t).2.2.2.2.2.2.2.2.1 1
    show win0_8.index t 1 * 1024 + 1 * (y 1).val = (y 1).val
    omega
  rw [e]
  refine Fin.sum_mul_add_congr fun s k hl => tilt_congr (row_eq m c _ _ _ ?_) (gain m c _ _) (shift m c _ _) ?_ rfl
  · have h8 : t.val < 8 := (idx t).2.2.2.2.2.2.2.2.2.2
    show (8 * (t.val / 8) + s.val) * 512 + k.val = s.val * 512 + k.val
    omega
  · blk_point [iblk, V_main_arg2, idx t, idx ⟨_, Pipeline.run_point_lt_of_flush t ht s⟩]

/-- The shifts' gradient after the run. -/
theorem final9 (c : Dev nD) (R : FVec Ideal S1x1024 .f32) (hR : ∀ j, (R j : EReal) = ∑ r : Fin 4096, steep (row m c r) (m ((c : Thread nD τ).loc main_arg3) (ix1 (j 1))) (m ((c : Thread nD τ).loc main_arg4) (ix1 (j 1))) (m ((c : Thread nD τ).loc main_arg2) (ix2 r (j 1))) (j 1)) :
    (dats m 0 c).arrAt 9 cfg0.N = R := by
  refine (dats m 0 c).arrAt_eq_of_covers 9 _ (by decide +kernel) fun t hf y => ?_
  have ht := (flush0_9 t).mp hf
  blk_simp
  rw [after0_9, Pipeline.eq_sum_fin_of_reset_step_apply_of_flush (fun n h => (outsAt0 m c n h).2.2.2.2) 8 (fun _ => 0) _
    (fun t h j => start9 m c t h j) (fun t h j => step9 m c t h j) t ht _, zero_add, hR]
  have e : (win0_9.blk t).view.emb y 1 = y 1 := by
    refine Fin.ext ?_
    have e : win0_9.index t 1 = 0 := congrFun (idx t).2.2.2.2.2.2.2.2.2.1 1
    show win0_9.index t 1 * 1024 + 1 * (y 1).val = (y 1).val
    omega
  rw [e]
  refine Fin.sum_mul_add_congr fun s k hl => steep_congr (row_eq m c _ _ _ ?_) (gain m c _ _) (shift m c _ _) ?_ rfl
  · have h8 : t.val < 8 := (idx t).2.2.2.2.2.2.2.2.2.2
    show (8 * (t.val / 8) + s.val) * 512 + k.val = s.val * 512 + k.val
    omega
  · blk_point [iblk, V_main_arg2, idx t, idx ⟨_, Pipeline.run_point_lt_of_flush t ht s⟩]

end Cert.LossIdeal.Norm
-- ==== Proof.LossBack.lean ====
module

public import proofs.«01_k».proof.Proof.LossValue

/-! # The last normalisation's call against the reference

What the reference's results are, number by number, and the claim. -/

set_option maxRecDepth 16384

@[expose] public section

noncomputable section

open Idealize.ShloMosaic Idealize.ShloMosaic.TcCoe Idealize.SL.Sem

namespace Cert.Ln

open Cert.LossRefIdeal

variable (m : (ℓ : Loc nD τ sig) → Buf (Elt Ideal) ℓ) (c : Dev nD)

/-- A row of the reference's normalisation. -/
abbrev refRow (r : Fin 4096) (k : Fin 1024) : EReal := mix (m ((c : Thread nD τ).loc main_arg0) (ix2 r k)) (m ((c : Thread nD τ).loc main_arg1) (ix2 r k))

/-- The rows' gradient of the reference. -/
theorem ref_pre (j : S4096x1024.Idx) :
    (Value.res_main_v79 m c j : EReal) = vjp (refRow m c (j 0)) (fun k => Ideal.div (Ideal.ofBits .f32 0x3F000000#32 * Ideal.ofBits .f32 0x3F800000#32) cols
      * (Ideal.ofBits .f32 0x40000000#32 * miss (refRow m c (j 0)) (m ((c : Thread nD τ).loc main_arg3) (ix1 k)) (m ((c : Thread nD τ).loc main_arg4) (ix1 k)) (m ((c : Thread nD τ).loc main_arg2) (ix2 (j 0) k)) k)
      * m ((c : Thread nD τ).loc main_arg3) (ix1 k)) (j 1) := by
  unfold vjp via spread miss hat dev cen mean cols refRow mix
  pointwise [Value.res_main_v79]
  simp only [Fin.sum_univ_one]

/-- The rounded copy. -/
theorem ref_round (j : S4096x1024.Idx) : (Value.res_main_v81 m c j : EReal) = Value.res_main_v79 m c j := by
  rfl

/-- The loss of the reference. -/
theorem ref_loss (j : S1x1.Idx) : (Value.res_main_v80 m c j : EReal) = ∑ r : Fin 4096, rowLoss (refRow m c r)
    (fun k => m ((c : Thread nD τ).loc main_arg3) (ix1 k)) (fun k => m ((c : Thread nD τ).loc main_arg4) (ix1 k)) (fun k => m ((c : Thread nD τ).loc main_arg2) (ix2 r k)) := by
  unfold rowLoss
  rw [← half_sum]
  unfold miss hat dev cen mean cols refRow mix
  pointwise [Value.res_main_v80]

/-- The gains' gradient of the reference. -/
theorem ref_gain (j : S1x1024.Idx) : (Value.res_main_v82 m c j : EReal) = ∑ r : Fin 4096, tilt (refRow m c r)
    (m ((c : Thread nD τ).loc main_arg3) (ix1 (j 1))) (m ((c : Thread nD τ).loc main_arg4) (ix1 (j 1))) (m ((c : Thread nD τ).loc main_arg2) (ix2 r (j 1))) (j 1) := by
  refine Eq.trans ?_ (tilt_sum _ _ _ _ _).symm
  unfold miss hat dev cen mean cols refRow mix
  pointwise [Value.res_main_v82]
  simp only [Fin.sum_univ_one]

/-- The shapes of the precondition fit. -/
instance pre_facts_target : Cert.Pre_finite_target.Facts where
  bcast_S_S1024 := by decide
  reducesTo_S1024_S_d0 := by decide
  h_S_ := by decide
  bcast_S_S4096x1024 := by decide
  reducesTo_S4096x1024_S_d0_1 := by decide

/-- What the precondition says of the arguments. -/
theorem finite_target (x y p : FVec Ideal Cert.Pre_finite_target.S4096x1024 .f32) (g b : FVec Ideal Cert.Pre_finite_target.S1024 .f32)
    (h : Cert.Pre_finite_target.fn (F := Ideal) x y p g b = fun _ => 1#1) :
    (∀ j, (p j : EReal) - p j = 0) ∧ (∀ k, (g k : EReal) - g k = 0) ∧ ∀ k, (b k : EReal) - b k = 0 := by
  have h0 := congrFun h (fun d => d.elim0)
  dsimp only [Cert.Pre_finite_target.fn] at h0
  have hs : Subsingleton Cert.Pre_finite_target.S_.Idx := ⟨fun a b => funext fun d => d.elim0⟩
  obtain ⟨h1, h3⟩ := IntOp.andi_eq_one.1 h0
  obtain ⟨h1, h2⟩ := IntOp.andi_eq_one.1 h1
  have z : Ideal.ofBits .f32 0x00000000#32 = 0 := by simp [Ideal.ofBits, Ideal.ieee]
  exact ⟨fun k => (eq_of_oeq (Host.reduce_andi_all _ _ _ _ _ h1 k)).trans z, fun j => (eq_of_oeq (Host.reduce_andi_all _ _ _ _ _ h2 j)).trans z,
    fun j => (eq_of_oeq (Host.reduce_andi_all _ _ _ _ _ h3 j)).trans z⟩

/-- The rows' gradient of the reference, as the kernel computes it. -/
theorem ref_pre' (h2 : ∀ j, (fun y : EReal => y - y = 0) (m ((c : Thread nD τ).loc main_arg2) j))
    (h3 : ∀ k, (fun y : EReal => y - y = 0) (m ((c : Thread nD τ).loc main_arg3) k))
    (h4 : ∀ k, (fun y : EReal => y - y = 0) (m ((c : Thread nD τ).loc main_arg4) k)) (j : S4096x1024.Idx) :
    (Value.res_main_v79 m c j : EReal) = bwd (refRow m c (j 0)) (fun k => steep (refRow m c (j 0)) (m ((c : Thread nD τ).loc main_arg3) (ix1 k))
      (m ((c : Thread nD τ).loc main_arg4) (ix1 k)) (m ((c : Thread nD τ).loc main_arg2) (ix2 (j 0) k)) k * m ((c : Thread nD τ).loc main_arg3) (ix1 k)) (j 1) := by
  rw [ref_pre]
  simp only [chain]
  refine vjp_eq _ _ (fun k => mul_fin (steep_fin _ ?_ ?_ ?_ _) ?_) _
  · exact h3 _
  · exact h4 _
  · exact h2 _
  · exact h3 _

/-- The five results are the reference's. -/
theorem loss_value : Cert.algebraic_LossIdeal_LossRefIdeal_pre_finite_target := by
  intro m g m' g' hpre hagree
  open Cert.LossIdeal Cert.LossIdeal.Gen in
  refine ⟨fun c => (dats m 0 c).arrAt 5 cfg0.N, fun c => (dats m 0 c).arrAt 6 cfg0.N, fun c => (dats m 0 c).arrAt 7 cfg0.N,
    fun c => (dats m 0 c).arrAt 8 cfg0.N, fun c => (dats m 0 c).arrAt 9 cfg0.N, ?_, ?_⟩
  · exact (θ_run Cert.LossIdeal.defs _ _).mono (fun r h c => ⟨(h.1 c).1 5, (h.1 c).1 6, (h.1 c).1 7, (h.1 c).1 8, (h.1 c).1 9, h.2 c⟩)
      (θ_run_and (Cert.LossIdeal.Gen.run_main m g) (Cert.LossIdeal.Gen.unchanged m g))
  · refine (θ_run Cert.LossRefIdeal.defs _ _).mono (fun r h c => ?_) (Cert.LossRefIdeal.Value.run (F := Ideal) m' g')
    obtain ⟨r0, r1, r2, r3, r4, r5⟩ := h c
    obtain ⟨e0, e1, e2, e3, e4⟩ := hagree c
    obtain ⟨f2, f3, f4⟩ := finite_target _ _ _ _ _ (hpre c)
    rw [← e2] at f2
    rw [← e3] at f3
    rw [← e4] at f4
    refine ⟨r0.trans (Cert.LossIdeal.Norm.final5 m c _ fun j => ?_).symm, r1.trans (Cert.LossIdeal.Norm.final6 m c _ fun j => ?_).symm,
      r2.trans (Cert.LossIdeal.Norm.final7 m c _ fun j => ?_).symm, r3.trans (Cert.LossIdeal.Norm.final8 m c _ fun j => ?_).symm,
      r4.trans (Cert.LossIdeal.Norm.final9 m c _ fun j => ?_).symm, r5⟩ <;> clear h r0 r1 r2 r3 r4 r5 <;> unfold Cert.LossIdeal.Norm.row <;> rw [← e0, ← e1, ← e2, ← e3, ← e4]
    · exact ref_loss m' c j
    · exact ref_pre' m' c f2 f3 f4 j
    · exact (ref_round m' c j).trans (ref_pre' m' c f2 f3 f4 j)
    · exact ref_gain m' c j
    · refine Eq.trans ?_ (steep_sum (refRow m' c) _ _ _ _).symm
      unfold miss hat dev cen mean cols refRow mix
      pointwise
      simp only [Fin.sum_univ_one]

end Cert.Ln
-- ==== Proof.Merge.lean ====
module

public import proofs.«01_k».proof.Defs
public import proofs.«01_k».proof.Proof.Gen.MergeFIdeal.Value
public import proofs.«01_k».proof.Proof.Gen.MergeFRefIdeal.Run
public import proofs.«01_k».proof.Proof.Gen.MergeBIdeal.Value
public import proofs.«01_k».proof.Proof.Gen.MergeBRefIdeal.Run
public import Idealize.ShloMosaic.Lib.Claim
public import Idealize.ShloMosaic.Lib.Quiescent
public import Idealize.ShloMosaic.Lib.Pipeline.ValueKit

/-! # The gated merge of the two branches and its gradient

Both work row by row on eight blocks of 512 rows: every element is a formula of the elements at its place in the gates,
the branches and the incoming gradient. -/

set_option maxRecDepth 16384

@[expose] public section

noncomputable section

open Idealize.ShloMosaic Idealize.ShloMosaic.TcCoe Idealize.SL.Sem

namespace Cert.Merge

/-- The logistic. -/
def sg (z : EReal) : EReal := Ideal.div 1 (1 + Ideal.exp (-z))

end Cert.Merge

namespace Cert.MergeFIdeal.Merged

open Cert.MergeFIdeal Cert.MergeFIdeal.Gen Cert.Merge

variable (m : (ℓ : Loc nD τ sig) → Buf (Elt Ideal) ℓ)

/-- The merge at a place. -/
def at2 (h : FVec Ideal S4096x9216 .f32) (y1 y2 : FVec Ideal S4096x1024 .f32) (j : S4096x1024.Idx) : EReal :=
  sg (h (ix2 (j 0) (⟨7168 + (j 1).val, by idx_bounds j; omega⟩ : Fin 9216))) * y1 j
    + sg (h (ix2 (j 0) (⟨8192 + (j 1).val, by idx_bounds j; omega⟩ : Fin 9216))) * y2 j

/-- The blocks of the windows. -/
theorem idx : ∀ t : Fin cfg0.N, win0_0.index t = ![t.val, 7] ∧ win0_1.index t = ![t.val, 8] ∧ win0_2.index t = ![t.val, 0]
    ∧ win0_3.index t = ![t.val, 0] ∧ win0_4.index t = ![t.val, 0] :=
  (by decide +kernel : ∀ t : Fin grid0.N, _)

/-- What a point stores. -/
theorem pay_at (x0 x1 x2 x3 : FVec Ideal S512x1024 .f32) (j : S512x1024.Idx) :
    (k0_pay1 (F := Ideal) x0 x1 x2 x3 j : EReal) = sg (x0 j) * x1 j + sg (x2 j) * x3 j := by
  unfold sg
  rw [← zero_sub (x0 j : EReal), ← zero_sub (x2 j : EReal)]
  pointwise [k0_pay1]

/-- The result array after the run. -/
theorem final (c : Dev nD) (R : FVec Ideal S4096x1024 .bf16)
    (hR : ∀ j, (R j : EReal) = at2 (m ((c : Thread nD τ).loc main_arg0)) (m ((c : Thread nD τ).loc main_arg1)) (m ((c : Thread nD τ).loc main_arg2)) j) :
    (dats m 0 c).arrAt 4 cfg0.N = R := by
  refine (dats m 0 c).arrAt_eq_of_covers 4 _ (by decide +kernel) fun t _ y => ?_
  blk_simp
  rw [after0_4]; unfold out0_4; frame_out
  rw [pay_at, hR]
  unfold at2 sg
  blk_point [iblk, V, idx t]

end Cert.MergeFIdeal.Merged

namespace Cert.MergeBIdeal.Merged

open Cert.MergeBIdeal Cert.MergeBIdeal.Gen Cert.Merge

variable (m : (ℓ : Loc nD τ sig) → Buf (Elt Ideal) ℓ)

/-- The blocks of the windows. -/
theorem idx : ∀ t : Fin cfg0.N, win0_0.index t = ![t.val, 7] ∧ win0_1.index t = ![t.val, 8] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- What a point stores of a branch's gradient. -/
theorem pay4_at (x0 x1 : FVec Ideal S512x1024 .f32) (j : S512x1024.Idx) : (k0_pay4 (F := Ideal) x0 x1 j : EReal) = sg (x1 j) * x0 j := by
  unfold sg
  rw [← zero_sub (x1 j : EReal)]
  pointwise [k0_pay4, k0_pay2]

/-- The same of the other branch. -/
theorem pay5_at (x0 x1 : FVec Ideal S512x1024 .f32) (j : S512x1024.Idx) : (k0_pay5 (F := Ideal) x0 x1 j : EReal) = sg (x1 j) * x0 j := by
  unfold sg
  rw [← zero_sub (x1 j : EReal)]
  pointwise [k0_pay5, k0_pay3]

/-- What a point stores of a gate's gradient. -/
theorem pay6_at (x0 x1 x2 : FVec Ideal S512x1024 .f32) (j : S512x1024.Idx) :
    (k0_pay6 (F := Ideal) x0 x1 x2 j : EReal) = x0 j * x2 j * (sg (x1 j) * (1 - sg (x1 j))) := by
  unfold sg
  rw [← mul_assoc (x0 j * x2 j : EReal)]
  rw [← zero_sub (x1 j : EReal)]
  pointwise [k0_pay6, k0_pay2]

/-- The same of the other gate. -/
theorem pay1_at (x0 x1 x2 : FVec Ideal S512x1024 .f32) (j : S512x1024.Idx) :
    (k0_pay1 (F := Ideal) (k0_pay3 x1) (k0_pay7 x0 x2) j : EReal) = x0 j * x2 j * (sg (x1 j) * (1 - sg (x1 j))) := by
  unfold sg
  rw [← mul_assoc (x0 j * x2 j : EReal)]
  rw [← zero_sub (x1 j : EReal)]
  pointwise [k0_pay1, k0_pay7, k0_pay3]

/-- A branch's gradient after the run. -/
theorem final5 (c : Dev nD) (R : FVec Ideal S4096x1024 .bf16)
    (hR : ∀ j, (R j : EReal) = sg (m ((c : Thread nD τ).loc main_arg0) (ix2 (j 0) (⟨7168 + (j 1).val, by idx_bounds j; omega⟩ : Fin 9216)))
      * m ((c : Thread nD τ).loc main_arg3) j) :
    (dats m 0 c).arrAt 5 cfg0.N = R := by
  refine (dats m 0 c).arrAt_eq_of_covers 5 _ (by decide +kernel) fun t _ y => ?_
  blk_simp
  rw [after0_5]; unfold out0_5; frame_out
  rw [pay4_at, hR]
  unfold sg
  blk_point [iblk, V, idx t]

/-- The other branch's gradient after the run. -/
theorem final6 (c : Dev nD) (R : FVec Ideal S4096x1024 .bf16)
    (hR : ∀ j, (R j : EReal) = sg (m ((c : Thread nD τ).loc main_arg0) (ix2 (j 0) (⟨8192 + (j 1).val, by idx_bounds j; omega⟩ : Fin 9216)))
      * m ((c : Thread nD τ).loc main_arg3) j) :
    (dats m 0 c).arrAt 6 cfg0.N = R := by
  refine (dats m 0 c).arrAt_eq_of_covers 6 _ (by decide +kernel) fun t _ y => ?_
  blk_simp
  rw [after0_6]; unfold out0_6; frame_out
  rw [pay5_at, hR]
  unfold sg
  blk_point [iblk, V, idx t]

/-- A gate's gradient at a place: the incoming gradient times the branch times the slope of the logistic. -/
def gate (h : FVec Ideal S4096x9216 .f32) (y d : FVec Ideal S4096x1024 .f32) (r : Fin 4096) (p : Fin 1024) (q : Fin 9216) : EReal :=
  d (ix2 r p) * y (ix2 r p) * (sg (h (ix2 r q)) * (1 - sg (h (ix2 r q))))

/-- The gates' gradients after the run: the first 1024 columns from one branch, the others from the other. -/
theorem final7 (c : Dev nD) (R : FVec Ideal S4096x2048 .bf16)
    (h1 : ∀ (j : S4096x2048.Idx) (h : (j 1).val < 1024), (R j : EReal) =
      gate (m ((c : Thread nD τ).loc main_arg0)) (m ((c : Thread nD τ).loc main_arg1)) (m ((c : Thread nD τ).loc main_arg3))
        (j 0) ⟨(j 1).val, h⟩ ⟨7168 + (j 1).val, by omega⟩)
    (h2 : ∀ (j : S4096x2048.Idx) (h : 1024 ≤ (j 1).val), (R j : EReal) =
      gate (m ((c : Thread nD τ).loc main_arg0)) (m ((c : Thread nD τ).loc main_arg2)) (m ((c : Thread nD τ).loc main_arg3))
        (j 0) ⟨(j 1).val - 1024, by idx_bounds j; omega⟩ ⟨8192 + ((j 1).val - 1024), by idx_bounds j; omega⟩) :
    (dats m 0 c).arrAt 7 cfg0.N = R := by
  refine (dats m 0 c).arrAt_eq_of_covers 7 _ (by decide +kernel) fun t _ y => ?_
  blk_simp
  rw [after0_7]; unfold out0_7; frame_out
  refine View.canon_eq_of_allAt _ _ _ (cover0_7 _ _ y) (View.allAt_cons _ _ _ (fun x hx => ?_) (View.allAt_cons _ _ _ (fun x hx => ?_) (View.allAt_nil _ _)))
  · subst hx
    rw [pay1_at, h2]
    · unfold sg gate sg
      blk_point [iblk, V, idx t]
    · show 1024 ≤ win0_7.index t 1 * 2048 + 1 * (1024 + 1 * (x 1).val)
      omega
  · subst hx
    rw [pay6_at, h1]
    · unfold sg gate sg
      blk_point [iblk, V, idx t]
    · have e : win0_7.index t 1 = 0 := congrFun (idx t).2.2.2.2.2.2.2 1
      have hx : (x 1).val < 1024 := (x 1).isLt
      show win0_7.index t 1 * 2048 + 1 * (0 + 1 * (x 1).val) < 1024
      omega

end Cert.MergeBIdeal.Merged

namespace Cert.Merge

/-- Every element of the kernel's merge is the reference's. -/
theorem forward_value : Cert.algebraic_MergeFIdeal_MergeFRefIdeal := by
  pair_intro
  · run_from Cert.MergeFIdeal.Gen.run_main m g
  · run_from Cert.MergeFRefIdeal.Value.run m' g'
    refine (Cert.MergeFIdeal.Merged.final m _ _ fun j => ?_).symm
    unfold Cert.MergeFIdeal.Merged.at2 sg
    pointwise

/-- Every element of the three gradients is the reference's. -/
theorem backward_value : Cert.algebraic_MergeBIdeal_MergeBRefIdeal := by
  pair_intro
  · run_from Cert.MergeBIdeal.Gen.run_main m g
  · run_from Cert.MergeBRefIdeal.Value.run m' g'
    · refine (Cert.MergeBIdeal.Merged.final5 m _ _ fun j => ?_).symm
      unfold sg
      pointwise
    · refine (Cert.MergeBIdeal.Merged.final6 m _ _ fun j => ?_).symm
      unfold sg
      pointwise
    · refine (Cert.MergeBIdeal.Merged.final7 m _ _ (fun j h => ?_) (fun j h => ?_)).symm
      · unfold Cert.MergeBIdeal.Merged.gate sg
        pointwise
        rw [dif_pos h, (hagree c).2.2.2]
      · unfold Cert.MergeBIdeal.Merged.gate sg
        pointwise
        rw [dif_neg (by omega), (hagree c).2.2.2]

end Cert.Merge
-- ==== Proof.OptRule.lean ====
module

public import proofs.«01_k».proof.Defs
public import Idealize.ShloMosaic.Lib.Claim
public import Idealize.ShloMosaic.Lib.Pipeline.ValueKit

/-! # The optimiser's rule at an element

The constants are the `f32` numbers the step is written with. -/

@[expose] public section

noncomputable section

open Idealize.ShloMosaic

namespace Cert.Opt

/-- The first moment from the gradient and the old one. -/
def mom (g m : EReal) : EReal := Ideal.ofBits .f32 0x3F666666#32 * m + Ideal.ofBits .f32 0x3DCCCCCD#32 * g

/-- The second moment from the gradient and the old one. -/
def var (g v : EReal) : EReal := Ideal.ofBits .f32 0x3F7FBE77#32 * v + Ideal.ofBits .f32 0x3A83126F#32 * (g * g)

/-- The change of a weight. -/
def upd (g m v w : EReal) : EReal :=
  Ideal.ofBits .f32 0xBA83126F#32
    * (Ideal.div (Ideal.div (mom g m) (Ideal.ofBits .f32 0x3F26BD02#32)) (Ideal.sqrt (Ideal.div (var g v) (Ideal.ofBits .f32 0x3C231ACC#32)) + Ideal.ofBits .f32 0x322BCC77#32)
      + Ideal.ofBits .f32 0x3C23D70A#32 * w)

end Cert.Opt
-- ==== Proof.OptConv.lean ====
module

public import proofs.«01_k».proof.Defs
public import proofs.«01_k».proof.Proof.OptRule
public import proofs.«01_k».proof.Proof.Gen.AdamConvIdeal.Value
public import proofs.«01_k».proof.Proof.Gen.AdamConvRefIdeal.Run
public import Idealize.ShloMosaic.Lib.Claim
public import Idealize.ShloMosaic.Lib.Quiescent
public import Idealize.ShloMosaic.Lib.Pipeline.ValueKit

/-! # The optimiser's call on the convolution's filters

The eight parts of the gradient are summed and every element is updated by the rule. -/

set_option maxRecDepth 16384

@[expose] public section

noncomputable section

open Idealize.ShloMosaic Idealize.ShloMosaic.TcCoe Idealize.SL.Sem

namespace Cert.AdamConvIdeal.Opt

open Cert.AdamConvIdeal Cert.AdamConvIdeal.Gen Cert.AdamConvIdeal.Value Cert.Opt

variable (a0 : Vec Ideal S8x32x128 .f32) (a1 a2 a3 : Vec Ideal S32x128 .f32) (j : S32x128.Idx)

/-- The gradient is the sum of the eight parts. -/
theorem g_at : (G4 (F := Ideal) a0 a1 a2 a3 j : EReal) = ∑ p : Fin 8, (a0 (ix3 p (j 0) (j 1)) : EReal) := by
  rw [Fin.sum_univ_eight]
  pointwise [G4, k0_pay5, k0_pay3]

/-- The first moment. -/
theorem m_at : (G6 (F := Ideal) a0 a1 a2 a3 j : EReal) = mom (∑ p : Fin 8, (a0 (ix3 p (j 0) (j 1)) : EReal)) (a2 j) := by
  rw [← g_at a0 a1 a2 a3 j]
  unfold mom G6 G4
  pointwise [k0_pay6, k0_pay4, k0_pay5]

/-- The second moment. -/
theorem v_at : (G7 (F := Ideal) a0 a1 a2 a3 j : EReal) = var (∑ p : Fin 8, (a0 (ix3 p (j 0) (j 1)) : EReal)) (a3 j) := by
  rw [← g_at a0 a1 a2 a3 j]
  unfold var G7 G4
  pointwise [k0_pay1, k0_pay5]

/-- The change of the weight. -/
theorem d_at : (G5 (F := Ideal) a0 a1 a2 a3 j : EReal) = upd (∑ p : Fin 8, (a0 (ix3 p (j 0) (j 1)) : EReal)) (a2 j) (a3 j) (a1 j) := by
  rw [← g_at a0 a1 a2 a3 j]
  unfold upd mom var G5 G4
  pointwise [k0_pay2, k0_pay1, k0_pay6, k0_pay4, k0_pay5]

/-- The four results are the reference's. -/
theorem value : Cert.algebraic_AdamConvIdeal_AdamConvRefIdeal := by
  intro m g m' g' hpre hagree
  refine ⟨fun c => G4 (m ((c : Thread nD τ).loc main_arg0)) (m ((c : Thread nD τ).loc main_arg1)) (m ((c : Thread nD τ).loc main_arg2)) (m ((c : Thread nD τ).loc main_arg3)),
    fun c => G5 (m ((c : Thread nD τ).loc main_arg0)) (m ((c : Thread nD τ).loc main_arg1)) (m ((c : Thread nD τ).loc main_arg2)) (m ((c : Thread nD τ).loc main_arg3)),
    fun c => G6 (m ((c : Thread nD τ).loc main_arg0)) (m ((c : Thread nD τ).loc main_arg1)) (m ((c : Thread nD τ).loc main_arg2)) (m ((c : Thread nD τ).loc main_arg3)),
    fun c => G7 (m ((c : Thread nD τ).loc main_arg0)) (m ((c : Thread nD τ).loc main_arg1)) (m ((c : Thread nD τ).loc main_arg2)) (m ((c : Thread nD τ).loc main_arg3)), ?_, ?_⟩
  · exact Cert.AdamConvIdeal.Value.run m g
  · refine (θ_run Cert.AdamConvRefIdeal.defs _ _).mono (fun r h c => ?_) (Cert.AdamConvRefIdeal.Value.run (F := Ideal) m' g')
    obtain ⟨h0, h1, h2, h3, h4⟩ := h c
    obtain ⟨e0, e1, e2, e3⟩ := hagree c
    refine ⟨h0.trans (funext fun j => ?_), h1.trans (funext fun j => ?_), h2.trans (funext fun j => ?_), h3.trans (funext fun j => ?_), h4⟩
    · rw [e0]
      refine Eq.trans ?_ (g_at _ _ _ _ j).symm
      pointwise
    · rw [e0, e1, e2, e3]
      refine Eq.trans ?_ (d_at _ _ _ _ j).symm
      unfold upd mom var
      pointwise
    · rw [e0, e2]
      refine Eq.trans ?_ (m_at _ _ _ _ j).symm
      unfold mom
      pointwise
    · rw [e0, e3]
      refine Eq.trans ?_ (v_at _ _ _ _ j).symm
      unfold var
      pointwise

end Cert.AdamConvIdeal.Opt
-- ==== Proof.OptIn.lean ====
module

public import proofs.«01_k».proof.Defs
public import proofs.«01_k».proof.Proof.OptRule
public import proofs.«01_k».proof.Proof.Gen.AdamInIdeal.Value
public import proofs.«01_k».proof.Proof.Gen.AdamInRefIdeal.Run
public import Idealize.ShloMosaic.Lib.Claim
public import Idealize.ShloMosaic.Lib.Quiescent
public import Idealize.ShloMosaic.Lib.Pipeline.ValueKit

/-! # The optimiser's call on the input projection's weights

The parts of the gradient arrive in two arrays, the upper 512 rows and the lower 512. A point takes 128 rows: the first
four points read the first array, the last four the second. -/

set_option maxRecDepth 16384

@[expose] public section

noncomputable section

open Idealize.ShloMosaic Idealize.ShloMosaic.TcCoe Idealize.SL.Sem

namespace Cert.AdamInIdeal.Opt

open Cert.AdamInIdeal Cert.AdamInIdeal.Gen Cert.Opt

/-- The array a point reads: the quotient of the point by four. -/
def slab (i : grid0.Coords) : BitVec 32 :=
  Scalar.select (Scalar.andi (Scalar.cmpi .ne (Scalar.subi (Scalar.extui (Scalar.cmpi .sgt (BitVec.ofNat 32 (i 0).val) 0#32)) (Scalar.extui (Scalar.cmpi .slt (BitVec.ofNat 32 (i 0).val) 0#32))) (Scalar.subi (Scalar.extui (Scalar.cmpi .sgt 4#32 0#32)) (Scalar.extui (Scalar.cmpi .slt 4#32 0#32)))) (Scalar.cmpi .ne (Scalar.remsi (BitVec.ofNat 32 (i 0).val) 4#32) 0#32)) (Scalar.subi (Scalar.divsi (BitVec.ofNat 32 (i 0).val) 4#32) 1#32) (Scalar.divsi (BitVec.ofNat 32 (i 0).val) 4#32)

theorem slab_lo : ∀ t : Fin cfg0.N, t.val < 4 → slab (grid0.coords t) = 0#32 := by decide +kernel

theorem slab_hi : ∀ t : Fin cfg0.N, 4 ≤ t.val → slab (grid0.coords t) = 1#32 := by decide +kernel

variable (i : grid0.Coords) (x0 x1 : Vec Ideal S8x128x1152 .bf16) (x2 x3 x4 : Vec Ideal S128x1152 .f32) (j : S128x1152.Idx)

/-- The gradient a point computes. -/
def grad : FVec Ideal S128x1152 .f32 :=
  k0_pay6 (slab i) (k0_pay10 i x0 x1 x2 x3 x4) (k0_pay11 i x0 x1 x2 x3 x4) 1#32 (View.ld x1 r0_6) (View.ld x0 r0_7) (View.ld x1 r0_7)

/-- In the first half it sums the first array's parts. -/
theorem grad_lo (s : slab i = 0#32) : (grad i x0 x1 x2 x3 x4 j : EReal) = ∑ p : Fin 8, (x0 (ix3 p (j 0) (j 1)) : EReal) := by
  rw [Fin.sum_univ_eight]
  have s' := s
  unfold slab at s'
  unfold grad k0_pay10 k0_pay11 k0_pay6 k0_pay4 k0_pay2
  simp only [s, s', show Scalar.cmpi .eq (0#32) (1#32) = 0#1 from rfl, show ∀ a b : FVec Ideal S128x1152 .bf16, Scalar.select 0#1 a b = b from fun a b => rfl]
  pointwise [k0_pay3, k0_pay5]

/-- In the second half the second's. -/
theorem grad_hi (s : slab i = 1#32) : (grad i x0 x1 x2 x3 x4 j : EReal) = ∑ p : Fin 8, (x1 (ix3 p (j 0) (j 1)) : EReal) := by
  rw [Fin.sum_univ_eight]
  have s' := s
  unfold slab at s'
  unfold grad k0_pay10 k0_pay11 k0_pay6 k0_pay4 k0_pay2
  simp only [s, s', show Scalar.cmpi .eq (1#32) (1#32) = 1#1 from rfl, show ∀ a b : FVec Ideal S128x1152 .bf16, Scalar.select 1#1 a b = a from fun a b => rfl]
  pointwise [k0_pay3, k0_pay5]

theorem mom_at : (k0_pay7 (F := Ideal) (slab i) (k0_pay10 i x0 x1 x2 x3 x4) (k0_pay11 i x0 x1 x2 x3 x4) 1#32 (View.ld x1 r0_6) (View.ld x0 r0_7) (View.ld x1 r0_7) x3 j : EReal)
    = mom (grad i x0 x1 x2 x3 x4 j) (x3 j) := by
  unfold mom grad
  pointwise [k0_pay7]

theorem var_at : (k0_pay8 (F := Ideal) (slab i) (k0_pay10 i x0 x1 x2 x3 x4) (k0_pay11 i x0 x1 x2 x3 x4) 1#32 (View.ld x1 r0_6) (View.ld x0 r0_7) (View.ld x1 r0_7) x4 j : EReal)
    = var (grad i x0 x1 x2 x3 x4 j) (x4 j) := by
  unfold var grad
  pointwise [k0_pay8]

theorem upd_at : (k0_pay1 (F := Ideal) (k0_pay9 (slab i) (k0_pay10 i x0 x1 x2 x3 x4) (k0_pay11 i x0 x1 x2 x3 x4) 1#32 (View.ld x1 r0_6) (View.ld x0 r0_7) (View.ld x1 r0_7) x3 x4) x2 j : EReal)
    = upd (grad i x0 x1 x2 x3 x4 j) (x3 j) (x4 j) (x2 j) := by
  unfold upd mom var grad
  pointwise [k0_pay1, k0_pay9, k0_pay8, k0_pay7]

variable (m : (ℓ : Loc nD τ sig) → Buf (Elt Ideal) ℓ) (c : Dev nD)

/-- The gradient at a place of the whole array. -/
def gsum (a b : FVec Ideal S8x512x1152 .bf16) (j : S1024x1152.Idx) : EReal :=
  if h : (j 0).val < 512 then ∑ p : Fin 8, (a (ix3 p (⟨(j 0).val, h⟩ : Fin 512) (j 1)) : EReal)
  else ∑ p : Fin 8, (b (ix3 p (⟨(j 0).val - 512, by idx_bounds j; omega⟩ : Fin 512) (j 1)) : EReal)

/-- The blocks of the windows. -/
theorem idx : ∀ t : Fin cfg0.N, win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] :=
  (by decide +kernel : ∀ t : Fin grid0.N, _)

theorem idx_lo : ∀ t : Fin cfg0.N, t.val < 4 → win0_0.index t = ![0, t.val, 0] := (by decide +kernel : ∀ t : Fin grid0.N, _)

theorem idx_hi : ∀ t : Fin cfg0.N, 4 ≤ t.val → win0_1.index t = ![0, t.val - 4, 0] := (by decide +kernel : ∀ t : Fin grid0.N, _)

/-- The gradient of a point is the gradient of its rows. -/
theorem grad_blk (t : Fin cfg0.N) (y : S128x1152.Idx) (k : S1024x1152.Idx) (k0 : (k 0).val = t.val * 128 + (y 0).val) (k1 : k 1 = y 1) :
    (grad (grid0.coords t) (iblk m c 0 t) (iblk m c 1 t) (iblk m c 2 t) (iblk m c 3 t) (iblk m c 4 t) y : EReal)
      = gsum (m ((c : Thread nD τ).loc main_arg0)) (m ((c : Thread nD τ).loc main_arg1)) k := by
  have hy : (y 0).val < 128 := (y 0).isLt
  unfold gsum
  by_cases ht : t.val < 4
  · rw [grad_lo _ _ _ _ _ _ _ (slab_lo t ht), dif_pos (by omega)]
    refine Finset.sum_congr rfl fun p _ => ?_
    blk_point [iblk, V, idx_lo t ht, k0, k1]
  · rw [grad_hi _ _ _ _ _ _ _ (slab_hi t (by omega)), dif_neg (by omega)]
    refine Finset.sum_congr rfl fun p _ => ?_
    blk_point [iblk, V, idx_hi t (by omega), k0, k1]

/-- Equal arguments, equal results. -/
theorem mom_congr {g g' a a' : EReal} (h : g = g') (h1 : a = a') : mom g a = mom g' a' := by rw [h, h1]

theorem var_congr {g g' a a' : EReal} (h : g = g') (h1 : a = a') : var g a = var g' a' := by rw [h, h1]

theorem upd_congr {g g' a a' b b' d d' : EReal} (h : g = g') (h1 : a = a') (h2 : b = b') (h3 : d = d') : upd g a b d = upd g' a' b' d' := by rw [h, h1, h2, h3]

/-- The gradient after the run. -/
theorem final5 (R : FVec Ideal S1024x1152 .f32) (hR : ∀ j, (R j : EReal) = gsum (m ((c : Thread nD τ).loc main_arg0)) (m ((c : Thread nD τ).loc main_arg1)) j) :
    (dats m 0 c).arrAt 5 cfg0.N = R := by
  refine (dats m 0 c).arrAt_eq_of_covers 5 _ (by decide +kernel) fun t _ y => ?_
  blk_simp
  rw [after0_5]; unfold out0_5; frame_out
  rw [hR]
  refine grad_blk m c t y _ ?_ ?_
  · have e : win0_5.index t 0 = t.val := congrFun (idx t).2.2.2.1 0
    show win0_5.index t 0 * 128 + 1 * (y 0).val = t.val * 128 + (y 0).val
    omega
  · have e : win0_5.index t 1 = 0 := congrFun (idx t).2.2.2.1 1
    refine Fin.ext ?_
    show win0_5.index t 1 * 1152 + 1 * (y 1).val = (y 1).val
    omega

/-- The changes of the weights after the run. -/
theorem final6 (R : FVec Ideal S1024x1152 .f32) (hR : ∀ j, (R j : EReal) = upd (gsum (m ((c : Thread nD τ).loc main_arg0)) (m ((c : Thread nD τ).loc main_arg1)) j) (m ((c : Thread nD τ).loc main_arg3) j) (m ((c : Thread nD τ).loc main_arg4) j) (m ((c : Thread nD τ).loc main_arg2) j)) :
    (dats m 0 c).arrAt 6 cfg0.N = R := by
  refine (dats m 0 c).arrAt_eq_of_covers 6 _ (by decide +kernel) fun t _ y => ?_
  blk_simp
  rw [after0_6]; unfold out0_6; frame_out
  rw [hR]
  refine (upd_at _ _ _ _ _ _ _).trans (upd_congr (grad_blk m c t y _ ?_ ?_) ?_ ?_ ?_)
  · have e : win0_6.index t 0 = t.val := congrFun (idx t).2.2.2.2.1 0
    show win0_6.index t 0 * 128 + 1 * (y 0).val = t.val * 128 + (y 0).val
    omega
  · have e : win0_6.index t 1 = 0 := congrFun (idx t).2.2.2.2.1 1
    refine Fin.ext ?_
    show win0_6.index t 1 * 1152 + 1 * (y 1).val = (y 1).val
    omega
  · blk_point [iblk, V, idx t]
  · blk_point [iblk, V, idx t]
  · blk_point [iblk, V, idx t]

/-- The first moments after the run. -/
theorem final7 (R : FVec Ideal S1024x1152 .f32) (hR : ∀ j, (R j : EReal) = mom (gsum (m ((c : Thread nD τ).loc main_arg0)) (m ((c : Thread nD τ).loc main_arg1)) j) (m ((c : Thread nD τ).loc main_arg3) j)) :
    (dats m 0 c).arrAt 7 cfg0.N = R := by
  refine (dats m 0 c).arrAt_eq_of_covers 7 _ (by decide +kernel) fun t _ y => ?_
  blk_simp
  rw [after0_7]; unfold out0_7; frame_out
  rw [hR]
  refine (mom_at _ _ _ _ _ _ _).trans (mom_congr (grad_blk m c t y _ ?_ ?_) ?_)
  · have e : win0_7.index t 0 = t.val := congrFun (idx t).2.2.2.2.2.1 0
    show win0_7.index t 0 * 128 + 1 * (y 0).val = t.val * 128 + (y 0).val
    omega
  · have e : win0_7.index t 1 = 0 := congrFun (idx t).2.2.2.2.2.1 1
    refine Fin.ext ?_
    show win0_7.index t 1 * 1152 + 1 * (y 1).val = (y 1).val
    omega
  · blk_point [iblk, V, idx t]

/-- The second moments after the run. -/
theorem final8 (R : FVec Ideal S1024x1152 .f32) (hR : ∀ j, (R j : EReal) = var (gsum (m ((c : Thread nD τ).loc main_arg0)) (m ((c : Thread nD τ).loc main_arg1)) j) (m ((c : Thread nD τ).loc main_arg4) j)) :
    (dats m 0 c).arrAt 8 cfg0.N = R := by
  refine (dats m 0 c).arrAt_eq_of_covers 8 _ (by decide +kernel) fun t _ y => ?_
  blk_simp
  rw [after0_8]; unfold out0_8; frame_out
  rw [hR]
  refine (var_at _ _ _ _ _ _ _).trans (var_congr (grad_blk m c t y _ ?_ ?_) ?_)
  · have e : win0_8.index t 0 = t.val := congrFun (idx t).2.2.2.2.2.2 0
    show win0_8.index t 0 * 128 + 1 * (y 0).val = t.val * 128 + (y 0).val
    omega
  · have e : win0_8.index t 1 = 0 := congrFun (idx t).2.2.2.2.2.2 1
    refine Fin.ext ?_
    show win0_8.index t 1 * 1152 + 1 * (y 1).val = (y 1).val
    omega
  · blk_point [iblk, V, idx t]

/-- The reference's gradient. -/
def rsum (a b : FVec Ideal Cert.AdamInRefIdeal.S8x512x1152 .bf16) : FVec Ideal Cert.AdamInRefIdeal.S1024x1152 .f32 :=
  Host.reduceAdd (extf .f32 (concatenate Cert.AdamInRefIdeal.S8x1024x1152 1 [⟨Cert.AdamInRefIdeal.S8x512x1152, a⟩, ⟨Cert.AdamInRefIdeal.S8x512x1152, b⟩]
    Cert.AdamInRefIdeal.Gen.concatenates_S8x512x1152_S8x512x1152_S8x1024x1152_d1) Cert.AdamInRefIdeal.Gen.bitsLt_bf16_f32)
    (constant Cert.AdamInRefIdeal.S_ .f32 0x00000000#32) Cert.AdamInRefIdeal.Gen.reducesTo_S8x1024x1152_S1024x1152_d0 Cert.AdamInRefIdeal.Gen.h_S_

/-- At a place. -/
theorem rsum_at (a b : FVec Ideal S8x512x1152 .bf16) (j : S1024x1152.Idx) : (rsum a b j : EReal) = gsum a b j := by
  unfold gsum
  split
  · rename_i h
    pointwise [rsum]
    exact Finset.sum_congr rfl fun p _ => dif_pos h
  · rename_i h
    pointwise [rsum]
    exact Finset.sum_congr rfl fun p _ => dif_neg h

/-- The four results are the reference's. -/
theorem value : Cert.algebraic_AdamInIdeal_AdamInRefIdeal := by
  intro m g m' g' hpre hagree
  refine ⟨fun c => (dats m 0 c).arrAt 5 cfg0.N, fun c => (dats m 0 c).arrAt 6 cfg0.N, fun c => (dats m 0 c).arrAt 7 cfg0.N, fun c => (dats m 0 c).arrAt 8 cfg0.N, ?_, ?_⟩
  · exact (θ_run defs _ _).mono (fun r h c => ⟨(h.1 c).1 5, (h.1 c).1 6, (h.1 c).1 7, (h.1 c).1 8, h.2 c⟩) (θ_run_and (run_main m g) (unchanged m g))
  · refine (θ_run Cert.AdamInRefIdeal.defs _ _).mono (fun r h c => ?_) (Cert.AdamInRefIdeal.Value.run (F := Ideal) m' g')
    obtain ⟨h0, h1, h2, h3, h4⟩ := h c
    obtain ⟨e0, e1, e2, e3, e4⟩ := hagree c
    refine ⟨h0.trans (final5 m c _ fun j => ?_).symm, h1.trans (final6 m c _ fun j => ?_).symm, h2.trans (final7 m c _ fun j => ?_).symm, h3.trans (final8 m c _ fun j => ?_).symm, h4⟩
    · rw [e0, e1]
      exact rsum_at _ _ j
    · rw [e0, e1, e2, e3, e4]
      refine Eq.trans ?_ (upd_congr (rsum_at _ _ j) rfl rfl rfl)
      unfold upd mom var rsum
      pointwise
    · rw [e0, e1, e3]
      refine Eq.trans ?_ (mom_congr (rsum_at _ _ j) rfl)
      unfold mom rsum
      pointwise
    · rw [e0, e1, e4]
      refine Eq.trans ?_ (var_congr (rsum_at _ _ j) rfl)
      unfold var rsum
      pointwise

end Cert.AdamInIdeal.Opt
-- ==== Proof.OptProj.lean ====
module

public import proofs.«01_k».proof.Defs
public import proofs.«01_k».proof.Proof.OptRule
public import proofs.«01_k».proof.Proof.Gen.AdamProjIdeal.Value
public import proofs.«01_k».proof.Proof.Gen.AdamProjRefIdeal.Run
public import Idealize.ShloMosaic.Lib.Claim
public import Idealize.ShloMosaic.Lib.Quiescent
public import Idealize.ShloMosaic.Lib.Pipeline.ValueKit

/-! # The optimiser's call on the projection's weights

The eight parts of the gradient are summed and every element is updated by the rule. -/

set_option maxRecDepth 16384

@[expose] public section

noncomputable section

open Idealize.ShloMosaic Idealize.ShloMosaic.TcCoe Idealize.SL.Sem

namespace Cert.AdamProjIdeal.Opt

open Cert.AdamProjIdeal Cert.AdamProjIdeal.Gen Cert.AdamProjIdeal.Value Cert.Opt

variable (a0 : Vec Ideal S8x384x1024 .bf16) (a1 a2 a3 : Vec Ideal S384x1024 .f32) (j : S384x1024.Idx)

/-- The gradient is the sum of the eight parts. -/
theorem g_at : (G4 (F := Ideal) a0 a1 a2 a3 j : EReal) = ∑ p : Fin 8, (a0 (ix3 p (j 0) (j 1)) : EReal) := by
  rw [Fin.sum_univ_eight]
  pointwise [G4, k0_pay5, k0_pay4]

/-- The first moment. -/
theorem m_at : (G6 (F := Ideal) a0 a1 a2 a3 j : EReal) = mom (∑ p : Fin 8, (a0 (ix3 p (j 0) (j 1)) : EReal)) (a2 j) := by
  rw [← g_at a0 a1 a2 a3 j]
  unfold mom G6 G4
  pointwise [k0_pay1, k0_pay5]

/-- The second moment. -/
theorem v_at : (G7 (F := Ideal) a0 a1 a2 a3 j : EReal) = var (∑ p : Fin 8, (a0 (ix3 p (j 0) (j 1)) : EReal)) (a3 j) := by
  rw [← g_at a0 a1 a2 a3 j]
  unfold var G7 G4
  pointwise [k0_pay2, k0_pay5]

/-- The change of the weight. -/
theorem d_at : (G5 (F := Ideal) a0 a1 a2 a3 j : EReal) = upd (∑ p : Fin 8, (a0 (ix3 p (j 0) (j 1)) : EReal)) (a2 j) (a3 j) (a1 j) := by
  rw [← g_at a0 a1 a2 a3 j]
  unfold upd mom var G5 G4
  pointwise [k0_pay3, k0_pay2, k0_pay1, k0_pay5]

/-- The four results are the reference's. -/
theorem value : Cert.algebraic_AdamProjIdeal_AdamProjRefIdeal := by
  intro m g m' g' hpre hagree
  refine ⟨fun c => G4 (m ((c : Thread nD τ).loc main_arg0)) (m ((c : Thread nD τ).loc main_arg1)) (m ((c : Thread nD τ).loc main_arg2)) (m ((c : Thread nD τ).loc main_arg3)),
    fun c => G5 (m ((c : Thread nD τ).loc main_arg0)) (m ((c : Thread nD τ).loc main_arg1)) (m ((c : Thread nD τ).loc main_arg2)) (m ((c : Thread nD τ).loc main_arg3)),
    fun c => G6 (m ((c : Thread nD τ).loc main_arg0)) (m ((c : Thread nD τ).loc main_arg1)) (m ((c : Thread nD τ).loc main_arg2)) (m ((c : Thread nD τ).loc main_arg3)),
    fun c => G7 (m ((c : Thread nD τ).loc main_arg0)) (m ((c : Thread nD τ).loc main_arg1)) (m ((c : Thread nD τ).loc main_arg2)) (m ((c : Thread nD τ).loc main_arg3)), ?_, ?_⟩
  · exact Cert.AdamProjIdeal.Value.run m g
  · refine (θ_run Cert.AdamProjRefIdeal.defs _ _).mono (fun r h c => ?_) (Cert.AdamProjRefIdeal.Value.run (F := Ideal) m' g')
    obtain ⟨h0, h1, h2, h3, h4⟩ := h c
    obtain ⟨e0, e1, e2, e3⟩ := hagree c
    refine ⟨h0.trans (funext fun j => ?_), h1.trans (funext fun j => ?_), h2.trans (funext fun j => ?_), h3.trans (funext fun j => ?_), h4⟩
    · rw [e0]
      refine Eq.trans ?_ (g_at _ _ _ _ j).symm
      pointwise
    · rw [e0, e1, e2, e3]
      refine Eq.trans ?_ (d_at _ _ _ _ j).symm
      unfold upd mom var
      pointwise
    · rw [e0, e2]
      refine Eq.trans ?_ (m_at _ _ _ _ j).symm
      unfold mom
      pointwise
    · rw [e0, e3]
      refine Eq.trans ?_ (v_at _ _ _ _ j).symm
      unfold var
      pointwise

end Cert.AdamProjIdeal.Opt
-- ==== Proof.OptVec.lean ====
module

public import proofs.«01_k».proof.Defs
public import proofs.«01_k».proof.Proof.OptRule
public import proofs.«01_k».proof.Proof.Gen.AdamVecIdeal.Value
public import proofs.«01_k».proof.Proof.Gen.AdamVecRefIdeal.Run
public import Idealize.ShloMosaic.Lib.Claim
public import Idealize.ShloMosaic.Lib.Quiescent
public import Idealize.ShloMosaic.Lib.Pipeline.ValueKit

/-! # The optimiser's call on the seven vectors

The eight parts of the gradient are summed and every element is updated by the rule. -/

set_option maxRecDepth 16384

@[expose] public section

noncomputable section

open Idealize.ShloMosaic Idealize.ShloMosaic.TcCoe Idealize.SL.Sem

namespace Cert.AdamVecIdeal.Opt

open Cert.AdamVecIdeal Cert.AdamVecIdeal.Gen Cert.AdamVecIdeal.Value Cert.Opt

variable (a0 : Vec Ideal S8x8x1024 .f32) (a1 a2 a3 : Vec Ideal S8x1024 .f32) (j : S8x1024.Idx)

/-- The gradient is the sum of the eight parts. -/
theorem g_at : (G4 (F := Ideal) a0 a1 a2 a3 j : EReal) = ∑ p : Fin 8, (a0 (ix3 p (j 0) (j 1)) : EReal) := by
  rw [Fin.sum_univ_eight]
  pointwise [G4, k0_pay5, k0_pay3]

/-- The first moment. -/
theorem m_at : (G6 (F := Ideal) a0 a1 a2 a3 j : EReal) = mom (∑ p : Fin 8, (a0 (ix3 p (j 0) (j 1)) : EReal)) (a2 j) := by
  rw [← g_at a0 a1 a2 a3 j]
  unfold mom G6 G4
  pointwise [k0_pay6, k0_pay4, k0_pay5]

/-- The second moment. -/
theorem v_at : (G7 (F := Ideal) a0 a1 a2 a3 j : EReal) = var (∑ p : Fin 8, (a0 (ix3 p (j 0) (j 1)) : EReal)) (a3 j) := by
  rw [← g_at a0 a1 a2 a3 j]
  unfold var G7 G4
  pointwise [k0_pay1, k0_pay5]

/-- The change of the weight. -/
theorem d_at : (G5 (F := Ideal) a0 a1 a2 a3 j : EReal) = upd (∑ p : Fin 8, (a0 (ix3 p (j 0) (j 1)) : EReal)) (a2 j) (a3 j) (a1 j) := by
  rw [← g_at a0 a1 a2 a3 j]
  unfold upd mom var G5 G4
  pointwise [k0_pay2, k0_pay1, k0_pay6, k0_pay4, k0_pay5]

/-- The four results are the reference's. -/
theorem value : Cert.algebraic_AdamVecIdeal_AdamVecRefIdeal := by
  intro m g m' g' hpre hagree
  refine ⟨fun c => G4 (m ((c : Thread nD τ).loc main_arg0)) (m ((c : Thread nD τ).loc main_arg1)) (m ((c : Thread nD τ).loc main_arg2)) (m ((c : Thread nD τ).loc main_arg3)),
    fun c => G5 (m ((c : Thread nD τ).loc main_arg0)) (m ((c : Thread nD τ).loc main_arg1)) (m ((c : Thread nD τ).loc main_arg2)) (m ((c : Thread nD τ).loc main_arg3)),
    fun c => G6 (m ((c : Thread nD τ).loc main_arg0)) (m ((c : Thread nD τ).loc main_arg1)) (m ((c : Thread nD τ).loc main_arg2)) (m ((c : Thread nD τ).loc main_arg3)),
    fun c => G7 (m ((c : Thread nD τ).loc main_arg0)) (m ((c : Thread nD τ).loc main_arg1)) (m ((c : Thread nD τ).loc main_arg2)) (m ((c : Thread nD τ).loc main_arg3)), ?_, ?_⟩
  · exact Cert.AdamVecIdeal.Value.run m g
  · refine (θ_run Cert.AdamVecRefIdeal.defs _ _).mono (fun r h c => ?_) (Cert.AdamVecRefIdeal.Value.run (F := Ideal) m' g')
    obtain ⟨h0, h1, h2, h3, h4⟩ := h c
    obtain ⟨e0, e1, e2, e3⟩ := hagree c
    refine ⟨h0.trans (funext fun j => ?_), h1.trans (funext fun j => ?_), h2.trans (funext fun j => ?_), h3.trans (funext fun j => ?_), h4⟩
    · rw [e0]
      refine Eq.trans ?_ (g_at _ _ _ _ j).symm
      pointwise
    · rw [e0, e1, e2, e3]
      refine Eq.trans ?_ (d_at _ _ _ _ j).symm
      unfold upd mom var
      pointwise
    · rw [e0, e2]
      refine Eq.trans ?_ (m_at _ _ _ _ j).symm
      unfold mom
      pointwise
    · rw [e0, e3]
      refine Eq.trans ?_ (v_at _ _ _ _ j).symm
      unfold var
      pointwise

end Cert.AdamVecIdeal.Opt
-- ==== Proof.InX.lean ====
module

public import proofs.«01_k».proof.Proof.Gen.InXIdeal.Value
public import proofs.«01_k».proof.Proof.Gen.InXRefIdeal.Run
public import Idealize.ShloMosaic.Lib.Pipeline.ValueKit
public import Idealize.ShloMosaic.Lib.Pipeline.ReadBack

/-! # The gradient of the input projection with respect to its operand

The grid walks four blocks of 1024 rows, and for each the eight ranks' columns of the weight: the first rank's product
starts the accumulator, the others are added, and the last point writes the block back.  The eight partial sums of
1152 terms are the reference's one sum of 9216. -/

set_option maxRecDepth 16384

@[expose] public section

noncomputable section

open Idealize.ShloMosaic Idealize.ShloMosaic.TcCoe Idealize.SL.Sem
open Idealize.ShloMosaic.Pipeline (Dat)

namespace Cert.InXIdeal.Product

open Cert.InXIdeal Cert.InXIdeal.Gen

variable (m : (ℓ : Loc nD τ sig) → Buf (Elt Ideal) ℓ)

/-- The reference's product over the incoming gradient and the weight. -/
abbrev REF (dh : FVec Ideal S4096x9216 .f32) (w : FVec Ideal S1024x9216 .f32) : FVec Ideal S4096x1024 .f32 :=
  Host.dotGeneral Cert.InXRefIdeal.dot_S4096x9216_S1024x9216_S4096x1024_1_1_0_0_n_n none dh w

/-- The blocks of the windows: rows `t / 8`, rank `t % 8`. -/
theorem idx : ∀ t : Fin cfg0.N, win0_0.index t = ![t.val / 8, t.val % 8] ∧ win0_1.index t = ![t.val % 8, 0, 0]
    ∧ win0_3.index t = ![t.val / 8, 0] :=
  (by decide +kernel : ∀ t : Fin grid0.N, _)

/-- The first rank's product. -/
theorem hstart (x0 : FVec Ideal S1024x1152 .bf16) (x1 : FVec Ideal S1x1024x1152 .bf16) (j : S1024x1024.Idx) :
    k0_pay2 (F := Ideal) x0 x1 j = ∑ k : Fin 1152, x0 (ix2 (j 0) k) * x1 (ix3 (0 : Fin 1) (j 1) k) := by
  pointwise [k0_pay2, k0_pay1]

/-- Every further rank's product is added. -/
theorem hstep (x0 : FVec Ideal S1024x1152 .bf16) (x1 : FVec Ideal S1x1024x1152 .bf16) (acc : FVec Ideal S1024x1024 .f32)
    (j : S1024x1024.Idx) :
    k0_pay3 (F := Ideal) x0 x1 acc j = acc j + ∑ k : Fin 1152, x0 (ix2 (j 0) k) * x1 (ix3 (0 : Fin 1) (j 1) k) := by
  pointwise [k0_pay3, k0_pay1]

/-- The reference's product at an index. -/
theorem href (dh : FVec Ideal S4096x9216 .f32) (w : FVec Ideal S1024x9216 .f32) (j : S4096x1024.Idx) :
    REF dh w j = ∑ l : Fin 9216, dh (ix2 (j 0) l) * w (ix2 (j 1) l) := by
  pointwise [REF]

/-- At the last rank the accumulator is what the output block receives. -/
theorem out_eq (c : Dev nD) (t : Fin cfg0.N) (h : t.val % 8 = 7) :
    (outsAt0 m c t.val t.isLt).1 = (outsAt0 m c t.val t.isLt).2 := by
  rw [outsAt0_C m c t (by omega) (by omega) h]
  frame_out

/-- The result array after the run. -/
theorem final (c : Dev nD) : (dats m 0 c).arrAt 3 cfg0.N
    = REF (m ((c : Thread nD τ).loc main_arg2)) (m ((c : Thread nD τ).loc main_arg1)) := by
  refine (dats m 0 c).arrAt_eq_of_covers 3 _ (by decide +kernel) fun t hf y => ?_
  have ht := (flush0_3 t).mp hf
  blk_simp
  rw [after0_3, out_eq m c t ht, Pipeline.eq_sum_fin_of_reset_step_apply_of_flush (fun n h => (outsAt0 m c n h).2) 8 (fun _ => 0) _
    (fun t h j => by
      rw [outsAt0_A m c t h (by omega) (by omega)]; frame_out; rw [hstart, ← zero_add (Finset.sum _ _)])
    (fun t h j => by
      by_cases h7 : t.val % 8 = 7
      · rw [outsAt0_C m c t h (by omega) h7]; frame_out; simp only [read_unread_whole]; rw [hstep]
      · rw [outsAt0_B m c t h (by omega) h7]; frame_out; simp only [read_unread_whole]; rw [hstep])
    t ht _, zero_add, href]
  refine Fin.sum_mul_add_congr fun s k hl => ?_
  blk_point [iblk, V, idx t, idx ⟨_, Pipeline.run_point_lt_of_flush t ht s⟩]

end Cert.InXIdeal.Product
-- ==== Proof.InU.lean ====
module

public import proofs.«01_k».proof.Proof.Gen.InUIdeal.Value
public import proofs.«01_k».proof.Proof.Gen.InURefIdeal.Run
public import Idealize.ShloMosaic.Lib.Pipeline.ValueKit
public import Idealize.ShloMosaic.Lib.Pipeline.ReadBack

/-! # The gradient of the input projection's weight, its upper half of rows

For each of the eight ranks' columns the grid walks the 4096 rows of the operand in four blocks of 1024: the first
block's product starts the accumulator, the others are added, and the last point writes the rounded sum back. -/

set_option maxRecDepth 16384

@[expose] public section

noncomputable section

open Idealize.ShloMosaic Idealize.ShloMosaic.TcCoe Idealize.SL.Sem
open Idealize.ShloMosaic.Pipeline (Dat)

namespace Cert.InUIdeal.Product

open Cert.InUIdeal Cert.InUIdeal.Gen

variable (m : (ℓ : Loc nD τ sig) → Buf (Elt Ideal) ℓ)

/-- The reference's gradient over the operand and the incoming gradient. -/
abbrev REF (h : FVec Ideal S4096x1024 .f32) (dy : FVec Ideal S4096x9216 .f32) : FVec Ideal S8x512x1152 .bf16 :=
  extractStridedSlice Cert.InURefIdeal.S8x512x1152 ![0, 0, 0] (transpose Cert.InURefIdeal.S8x1024x1152 [1, 0, 2] (shapeCast Cert.InURefIdeal.S1024x8x1152 (truncf .bf16 (transpose Cert.InURefIdeal.S1024x9216 [1, 0] (Host.dotGeneral Cert.InURefIdeal.dot_S4096x9216_S4096x1024_S9216x1024_0_0_1_1_n_n none dy h) Cert.InURefIdeal.Gen.transposes_S9216x1024_S1024x9216_1_0) Cert.InURefIdeal.Gen.bitsLt_bf16_f32) Cert.InURefIdeal.Gen.shapeCasts_S1024x9216_S1024x8x1152) Cert.InURefIdeal.Gen.transposes_S1024x8x1152_S8x1024x1152_1_0_2) Cert.InURefIdeal.Gen.slices_S8x1024x1152_S8x512x1152_0_0_0

/-- The blocks of the windows. -/
theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- The first rows' product. -/
theorem hstart (x0 : FVec Ideal S1024x512 .bf16) (x1 : FVec Ideal S1024x1152 .bf16) (j : S512x1152.Idx) :
    k0_pay2 (F := Ideal) x0 x1 j = ∑ k : Fin 1024, x1 (ix2 k (j 1)) * x0 (ix2 k (j 0)) := by
  pointwise! [k0_pay2, k0_pay1]

/-- Every further block of rows is added. -/
theorem hstep (x0 : FVec Ideal S1024x512 .bf16) (x1 : FVec Ideal S1024x1152 .bf16) (acc : FVec Ideal S512x1152 .f32)
    (j : S512x1152.Idx) :
    k0_pay3 (F := Ideal) x0 x1 acc j = acc j + ∑ k : Fin 1024, x1 (ix2 k (j 1)) * x0 (ix2 k (j 0)) := by
  pointwise! [k0_pay3, k0_pay1]

/-- The reference's gradient at an index. -/
theorem href (h : FVec Ideal S4096x1024 .f32) (dy : FVec Ideal S4096x9216 .f32) (j : S8x512x1152.Idx) :
    REF h dy j = ∑ k : Fin 4096, dy (ix2 k (⟨(j 0).val * 1152 + (j 2).val, by idx_bounds j; omega⟩ : Fin 9216)) * h (ix2 k (⟨0 + (j 1).val, by idx_bounds j; omega⟩ : Fin 1024)) := by
  pointwise [REF]

/-- At the last rows the output block receives the rounded accumulator. -/
theorem out_eq (c : Dev nD) (t : Fin cfg0.N) (h : t.val % 4 = 3) (j : S1x512x1152.Idx) :
    (outsAt0 m c t.val t.isLt).1 j = (outsAt0 m c t.val t.isLt).2 (ix2 (j 1) (j 2)) := by
  rw [outsAt0_C m c t (by omega) (by omega) h]
  frame_out
  pointwise [k0_pay4]

/-- The result array after the run. -/
theorem final (c : Dev nD) : (dats m 0 c).arrAt 2 cfg0.N
    = REF (m ((c : Thread nD τ).loc main_arg0)) (m ((c : Thread nD τ).loc main_arg2)) := by
  refine (dats m 0 c).arrAt_eq_of_covers 2 _ (by decide +kernel) fun t hf y => ?_
  have ht := (flush0_2 t).mp hf
  blk_simp
  rw [after0_2, out_eq m c t ht, Pipeline.eq_sum_fin_of_reset_step_apply_of_flush (fun n h => (outsAt0 m c n h).2) 4 (fun _ => 0) _
    (fun t h j => by
      rw [outsAt0_A m c t h (by omega) (by omega)]; frame_out; rw [hstart, ← zero_add (Finset.sum _ _)])
    (fun t h j => by
      by_cases h7 : t.val % 4 = 3
      · rw [outsAt0_C m c t h (by omega) h7]; frame_out; simp only [read_unread_whole]; rw [hstep]
      · rw [outsAt0_B m c t h (by omega) h7]; frame_out; simp only [read_unread_whole]; rw [hstep])
    t ht _, zero_add, href]
  refine Fin.sum_mul_add_congr fun s k hl => ?_
  blk_point [iblk, V, idx t, idx ⟨_, Pipeline.run_point_lt_of_flush t ht s⟩]

end Cert.InUIdeal.Product
-- ==== Proof.InL.lean ====
module

public import proofs.«01_k».proof.Proof.Gen.InLIdeal.Value
public import proofs.«01_k».proof.Proof.Gen.InLRefIdeal.Run
public import Idealize.ShloMosaic.Lib.Pipeline.ValueKit
public import Idealize.ShloMosaic.Lib.Pipeline.ReadBack

/-! # The gradient of the input projection's weight, its lower half of rows

For each of the eight ranks' columns the grid walks the 4096 rows of the operand in four blocks of 1024: the first
block's product starts the accumulator, the others are added, and the last point writes the rounded sum back. -/

set_option maxRecDepth 16384

@[expose] public section

noncomputable section

open Idealize.ShloMosaic Idealize.ShloMosaic.TcCoe Idealize.SL.Sem
open Idealize.ShloMosaic.Pipeline (Dat)

namespace Cert.InLIdeal.Product

open Cert.InLIdeal Cert.InLIdeal.Gen

variable (m : (ℓ : Loc nD τ sig) → Buf (Elt Ideal) ℓ)

/-- The reference's gradient over the operand and the incoming gradient. -/
abbrev REF (h : FVec Ideal S4096x1024 .f32) (dy : FVec Ideal S4096x9216 .f32) : FVec Ideal S8x512x1152 .bf16 :=
  extractStridedSlice Cert.InLRefIdeal.S8x512x1152 ![0, 512, 0] (transpose Cert.InLRefIdeal.S8x1024x1152 [1, 0, 2] (shapeCast Cert.InLRefIdeal.S1024x8x1152 (truncf .bf16 (transpose Cert.InLRefIdeal.S1024x9216 [1, 0] (Host.dotGeneral Cert.InLRefIdeal.dot_S4096x9216_S4096x1024_S9216x1024_0_0_1_1_n_n none dy h) Cert.InLRefIdeal.Gen.transposes_S9216x1024_S1024x9216_1_0) Cert.InLRefIdeal.Gen.bitsLt_bf16_f32) Cert.InLRefIdeal.Gen.shapeCasts_S1024x9216_S1024x8x1152) Cert.InLRefIdeal.Gen.transposes_S1024x8x1152_S8x1024x1152_1_0_2) Cert.InLRefIdeal.Gen.slices_S8x1024x1152_S8x512x1152_0_512_0

/-- The blocks of the windows. -/
theorem idx : ∀ t : Fin cfg0.N, win0_0.index t = ![t.val % 4, 1] ∧ win0_1.index t = ![t.val % 4, t.val / 4] ∧ win0_3.index t = ![t.val / 4, 0, 0] :=
  (by decide +kernel : ∀ t : Fin grid0.N, _)

/-- The first rows' product. -/
theorem hstart (x0 : FVec Ideal S1024x512 .bf16) (x1 : FVec Ideal S1024x1152 .bf16) (j : S512x1152.Idx) :
    k0_pay2 (F := Ideal) x0 x1 j = ∑ k : Fin 1024, x1 (ix2 k (j 1)) * x0 (ix2 k (j 0)) := by
  pointwise! [k0_pay2, k0_pay1]

/-- Every further block of rows is added. -/
theorem hstep (x0 : FVec Ideal S1024x512 .bf16) (x1 : FVec Ideal S1024x1152 .bf16) (acc : FVec Ideal S512x1152 .f32)
    (j : S512x1152.Idx) :
    k0_pay3 (F := Ideal) x0 x1 acc j = acc j + ∑ k : Fin 1024, x1 (ix2 k (j 1)) * x0 (ix2 k (j 0)) := by
  pointwise! [k0_pay3, k0_pay1]

/-- The reference's gradient at an index. -/
theorem href (h : FVec Ideal S4096x1024 .f32) (dy : FVec Ideal S4096x9216 .f32) (j : S8x512x1152.Idx) :
    REF h dy j = ∑ k : Fin 4096, dy (ix2 k (⟨(j 0).val * 1152 + (j 2).val, by idx_bounds j; omega⟩ : Fin 9216)) * h (ix2 k (⟨512 + (j 1).val, by idx_bounds j; omega⟩ : Fin 1024)) := by
  pointwise [REF]

/-- At the last rows the output block receives the rounded accumulator. -/
theorem out_eq (c : Dev nD) (t : Fin cfg0.N) (h : t.val % 4 = 3) (j : S1x512x1152.Idx) :
    (outsAt0 m c t.val t.isLt).1 j = (outsAt0 m c t.val t.isLt).2 (ix2 (j 1) (j 2)) := by
  rw [outsAt0_C m c t (by omega) (by omega) h]
  frame_out
  pointwise [k0_pay4]

/-- The result array after the run. -/
theorem final (c : Dev nD) : (dats m 0 c).arrAt 3 cfg0.N
    = REF (m ((c : Thread nD τ).loc main_arg0)) (m ((c : Thread nD τ).loc main_arg2)) := by
  refine (dats m 0 c).arrAt_eq_of_covers 3 _ (by decide +kernel) fun t hf y => ?_
  have ht := (flush0_3 t).mp hf
  blk_simp
  rw [after0_3, out_eq m c t ht, Pipeline.eq_sum_fin_of_reset_step_apply_of_flush (fun n h => (outsAt0 m c n h).2) 4 (fun _ => 0) _
    (fun t h j => by
      rw [outsAt0_A m c t h (by omega) (by omega)]; frame_out; rw [hstart, ← zero_add (Finset.sum _ _)])
    (fun t h j => by
      by_cases h7 : t.val % 4 = 3
      · rw [outsAt0_C m c t h (by omega) h7]; frame_out; simp only [read_unread_whole]; rw [hstep]
      · rw [outsAt0_B m c t h (by omega) h7]; frame_out; simp only [read_unread_whole]; rw [hstep])
    t ht _, zero_add, href]
  refine Fin.sum_mul_add_congr fun s k hl => ?_
  blk_point [iblk, V, idx t, idx ⟨_, Pipeline.run_point_lt_of_flush t ht s⟩]

end Cert.InLIdeal.Product
-- ==== Proof.ProjX.lean ====
module

public import proofs.«01_k».proof.Proof.Gen.ProjXIdeal.Value
public import proofs.«01_k».proof.Proof.Gen.ProjXRefIdeal.Run
public import Idealize.ShloMosaic.Lib.Pipeline.ValueKit

/-! # The gradient of a projection with respect to its operand

Every grid point takes 512 rows of the incoming gradient and the whole weight, and stores the product of the rows with
the weight's transpose: the block of the reference's product at those rows. -/

set_option maxRecDepth 16384

@[expose] public section

noncomputable section

open Idealize.ShloMosaic Idealize.ShloMosaic.TcCoe Idealize.SL.Sem
open Idealize.ShloMosaic.Pipeline (Dat)

namespace Cert.ProjXIdeal.Product

open Cert.ProjXIdeal Cert.ProjXIdeal.Gen

variable (m : (ℓ : Loc nD τ sig) → Buf (Elt Ideal) ℓ)

/-- The reference's product over the incoming gradient and the weight. -/
abbrev REF (dy : FVec Ideal S4096x1024 .f32) (w : FVec Ideal S1024x1024 .f32) : FVec Ideal S4096x1024 .f32 :=
  Host.dotGeneral Cert.ProjXRefIdeal.dot_S4096x1024_S1024x1024_S4096x1024_1_1_0_0_n_n none dy w

/-- The blocks of the three windows: row block `t`, the whole weight, row block `t`. -/
theorem idx : ∀ t : Fin cfg0.N, win0_0.index t = ![t.val, 0] ∧ win0_1.index t = ![0, 0] ∧ win0_2.index t = ![t.val, 0] :=
  (by decide +kernel : ∀ t : Fin grid0.N, _)

/-- The product of a block of rows with the weight's transpose. -/
theorem hpay (x0 : FVec Ideal S512x1024 .bf16) (x1 : FVec Ideal S1024x1024 .bf16) (j : S512x1024.Idx) :
    k0_pay1 (F := Ideal) x0 x1 j = ∑ k : Fin 1024, x0 (ix2 (j 0) k) * x1 (ix2 (j 1) k) := by
  pointwise [k0_pay1]

/-- The reference's product at an index. -/
theorem href (dy : FVec Ideal S4096x1024 .f32) (w : FVec Ideal S1024x1024 .f32) (j : S4096x1024.Idx) :
    REF dy w j = ∑ k : Fin 1024, dy (ix2 (j 0) k) * w (ix2 (j 1) k) := by
  pointwise [REF]

/-- The result array after the run. -/
theorem final (c : Dev nD) : (dats m 0 c).arrAt 2 cfg0.N
    = REF (m ((c : Thread nD τ).loc main_arg2)) (m ((c : Thread nD τ).loc main_arg1)) := by
  refine (dats m 0 c).arrAt_eq_of_covers 2 _ (by decide +kernel) fun t _ y => ?_
  blk_simp
  rw [after0_2]; unfold outsAt0; frame_out
  rw [hpay, href]
  refine Fin.sum_fin_congr fun k => ?_
  blk_point [iblk, V, idx t]

end Cert.ProjXIdeal.Product
-- ==== Proof.ProjW.lean ====
module

public import proofs.«01_k».proof.Proof.Gen.ProjWIdeal.Value
public import proofs.«01_k».proof.Proof.Gen.ProjWRefIdeal.Run
public import Idealize.ShloMosaic.Lib.Pipeline.ValueKit
public import Idealize.ShloMosaic.Lib.Pipeline.ReadBack

/-! # The gradient of a projection with respect to its weight

The grid walks the 4096 rows in eight blocks of 512: the first block's product starts the accumulator, the others are
added, and the last point writes the rounded sum back. -/

set_option maxRecDepth 16384

@[expose] public section

noncomputable section

open Idealize.ShloMosaic Idealize.ShloMosaic.TcCoe Idealize.SL.Sem
open Idealize.ShloMosaic.Pipeline (Dat)

namespace Cert.ProjWIdeal.Product

open Cert.ProjWIdeal Cert.ProjWIdeal.Gen

variable (m : (ℓ : Loc nD τ sig) → Buf (Elt Ideal) ℓ)

/-- The reference's gradient over the operand and the incoming gradient. -/
abbrev REF (h : FVec Ideal S4096x1024 .f32) (dy : FVec Ideal S4096x1024 .f32) : FVec Ideal S1024x1024 .bf16 :=
  truncf .bf16 (transpose Cert.ProjWRefIdeal.S1024x1024 [1, 0] (Host.dotGeneral Cert.ProjWRefIdeal.dot_S4096x1024_S4096x1024_S1024x1024_0_0_1_1_n_n none dy h) Cert.ProjWRefIdeal.Gen.transposes_S1024x1024_S1024x1024_1_0) Cert.ProjWRefIdeal.Gen.bitsLt_bf16_f32

/-- The blocks of the windows. -/
theorem idx : ∀ t : Fin cfg0.N, win0_0.index t = ![t.val, 0] ∧ win0_1.index t = ![t.val, 0] ∧ win0_2.index t = ![0, 0] ∧ t.val < 8 :=
  (by decide +kernel : ∀ t : Fin grid0.N, _)

/-- The first rows' product. -/
theorem hstart (x0 : FVec Ideal S512x1024 .bf16) (x1 : FVec Ideal S512x1024 .bf16) (j : S1024x1024.Idx) :
    k0_pay2 (F := Ideal) x0 x1 j = ∑ k : Fin 512, x1 (ix2 k (j 1)) * x0 (ix2 k (j 0)) := by
  pointwise! [k0_pay2, k0_pay1]

/-- Every further block of rows is added. -/
theorem hstep (x0 : FVec Ideal S512x1024 .bf16) (x1 : FVec Ideal S512x1024 .bf16) (acc : FVec Ideal S1024x1024 .f32)
    (j : S1024x1024.Idx) :
    k0_pay3 (F := Ideal) x0 x1 acc j = acc j + ∑ k : Fin 512, x1 (ix2 k (j 1)) * x0 (ix2 k (j 0)) := by
  pointwise! [k0_pay3, k0_pay1]

/-- The reference's gradient at an index. -/
theorem href (h : FVec Ideal S4096x1024 .f32) (dy : FVec Ideal S4096x1024 .f32) (j : S1024x1024.Idx) :
    REF h dy j = ∑ k : Fin 4096, dy (ix2 k (j 1)) * h (ix2 k (j 0)) := by
  pointwise [REF]

/-- At the last rows the output block receives the rounded accumulator. -/
theorem out_eq (c : Dev nD) (t : Fin cfg0.N) (h : t.val % 8 = 7) (j : S1024x1024.Idx) :
    (outsAt0 m c t.val t.isLt).1 j = (outsAt0 m c t.val t.isLt).2 j := by
  rw [outsAt0_C m c t (by omega) (by omega) h]
  frame_out
  pointwise [k0_pay4]

/-- The result array after the run. -/
theorem final (c : Dev nD) : (dats m 0 c).arrAt 2 cfg0.N
    = REF (m ((c : Thread nD τ).loc main_arg0)) (m ((c : Thread nD τ).loc main_arg2)) := by
  refine (dats m 0 c).arrAt_eq_of_covers 2 _ (by decide +kernel) fun t hf y => ?_
  have ht := (flush0_2 t).mp hf
  blk_simp
  rw [after0_2, out_eq m c t ht, Pipeline.eq_sum_fin_of_reset_step_apply_of_flush (fun n h => (outsAt0 m c n h).2) 8 (fun _ => 0) _
    (fun t h j => by
      rw [outsAt0_A m c t h (by have := (idx t).2.2.2; omega) (by omega)]; frame_out; rw [hstart, ← zero_add (Finset.sum _ _)])
    (fun t h j => by
      by_cases h7 : t.val % 8 = 7
      · rw [outsAt0_C m c t h (by omega) h7]; frame_out; simp only [read_unread_whole]; rw [hstep]
      · rw [outsAt0_B m c t h (by omega) h7]; frame_out; simp only [read_unread_whole]; rw [hstep])
    t ht _, zero_add, href]
  refine Fin.sum_mul_add_congr fun s k hl => ?_
  blk_point [iblk, V, idx t, idx ⟨_, Pipeline.run_point_lt_of_flush t ht s⟩]

end Cert.ProjWIdeal.Product
-- ==== Proof.ProjY.lean ====
module

public import proofs.«01_k».proof.Proof.Gen.ProjYIdeal.Value
public import proofs.«01_k».proof.Proof.Gen.ProjYRefIdeal.Run
public import Idealize.ShloMosaic.Lib.Pipeline.ValueKit

/-! # A projection

Every grid point takes 512 rows of the operand and the whole weight, and stores the product of the rows with
the weight: the block of the reference's product at those rows. -/

set_option maxRecDepth 16384

@[expose] public section

noncomputable section

open Idealize.ShloMosaic Idealize.ShloMosaic.TcCoe Idealize.SL.Sem
open Idealize.ShloMosaic.Pipeline (Dat)

namespace Cert.ProjYIdeal.Product

open Cert.ProjYIdeal Cert.ProjYIdeal.Gen

variable (m : (ℓ : Loc nD τ sig) → Buf (Elt Ideal) ℓ)

/-- The reference's product over the operand and the weight. -/
abbrev REF (a : FVec Ideal S4096x1024 .f32) (w : FVec Ideal S1024x1024 .f32) : FVec Ideal S4096x1024 .f32 :=
  Host.dotGeneral Cert.ProjYRefIdeal.dot_S4096x1024_S1024x1024_S4096x1024_1_0_0_1_n_n none a w

/-- The blocks of the three windows: row block `t`, the whole weight, row block `t`. -/
theorem idx : ∀ t : Fin cfg0.N, win0_0.index t = ![t.val, 0] ∧ win0_1.index t = ![0, 0] ∧ win0_2.index t = ![t.val, 0] :=
  (by decide +kernel : ∀ t : Fin grid0.N, _)

/-- The product of a block of rows with the weight. -/
theorem hpay (x0 : FVec Ideal S512x1024 .bf16) (x1 : FVec Ideal S1024x1024 .bf16) (j : S512x1024.Idx) :
    k0_pay1 (F := Ideal) x0 x1 j = ∑ k : Fin 1024, x0 (ix2 (j 0) k) * x1 (ix2 k (j 1)) := by
  pointwise [k0_pay1]

/-- The reference's product at an index. -/
theorem href (a : FVec Ideal S4096x1024 .f32) (w : FVec Ideal S1024x1024 .f32) (j : S4096x1024.Idx) :
    REF a w j = ∑ k : Fin 1024, a (ix2 (j 0) k) * w (ix2 k (j 1)) := by
  pointwise [REF]

/-- The result array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  rw [hpay, href]
  refine Fin.sum_fin_congr fun k => ?_
  blk_point [iblk, V, idx t]

end Cert.ProjYIdeal.Product
-- ==== Proof.Products.lean ====
module

public import proofs.«01_k».proof.Defs
public import proofs.«01_k».proof.Proof.Gen.InX.Frame
public import proofs.«01_k».proof.Proof.InX
public import proofs.«01_k».proof.Proof.Gen.InU.Frame
public import proofs.«01_k».proof.Proof.InU
public import proofs.«01_k».proof.Proof.Gen.InL.Frame
public import proofs.«01_k».proof.Proof.InL
public import proofs.«01_k».proof.Proof.Gen.ProjX.Frame
public import proofs.«01_k».proof.Proof.ProjX
public import proofs.«01_k».proof.Proof.Gen.ProjW.Frame
public import proofs.«01_k».proof.Proof.ProjW
public import proofs.«01_k».proof.Proof.ProjY
public import proofs.«01_k».proof.Proof.Gen.ProjY.Frame
public import Idealize.ShloMosaic.Lib.Claim
public import Idealize.ShloMosaic.Lib.Quiescent

/-! # The claims about the products of the backward pass

For each of the five product kernels: the three frames, and that over the reals the kernel's result array is the
reference's gradient. -/

set_option maxRecDepth 16384

@[expose] public section

noncomputable section

open Idealize.ShloMosaic Idealize.ShloMosaic.TcCoe Idealize.SL.Sem

namespace Cert.Products

/-! ## The gradient of the input projection in its operand -/

theorem inX_frame : Cert.quiescent_InX := fun m ρ _ => Cert.InX.Gen.frame m ρ

theorem inX_frame_ideal : Cert.quiescent_InXIdeal := fun m ρ _ => Cert.InXIdeal.Gen.frame m ρ

theorem inX_frame_ref : Cert.quiescent_InXRefIdeal := fun m ρ _ =>
  (θ_run Cert.InXRefIdeal.defs _ _).mono (fun r h => ⟨fun c => (h c).2, sem_eq_zero_of_no_sems (by decide) r.2⟩)
    (Cert.InXRefIdeal.Value.run (F := Ideal) m ρ)

/-- The kernel's result array is the reference's gradient. -/
theorem inX_value : Cert.algebraic_InXIdeal_InXRefIdeal := by
  pair_intro
  · run_from Cert.InXIdeal.Gen.run_main m g
  · run_from Cert.InXRefIdeal.Value.run m' g'
    exact (Cert.InXIdeal.Product.final m _).symm

/-! ## The upper half of the gradient of the input projection's weight -/

theorem inU_frame : Cert.quiescent_InU := fun m ρ _ => Cert.InU.Gen.frame m ρ

theorem inU_frame_ideal : Cert.quiescent_InUIdeal := fun m ρ _ => Cert.InUIdeal.Gen.frame m ρ

theorem inU_frame_ref : Cert.quiescent_InURefIdeal := fun m ρ _ =>
  (θ_run Cert.InURefIdeal.defs _ _).mono (fun r h => ⟨fun c => (h c).2, sem_eq_zero_of_no_sems (by decide) r.2⟩)
    (Cert.InURefIdeal.Value.run (F := Ideal) m ρ)

/-- The kernel's result array is the reference's gradient. -/
theorem inU_value : Cert.algebraic_InUIdeal_InURefIdeal := by
  pair_intro
  · run_from Cert.InUIdeal.Gen.run_main m g
  · run_from Cert.InURefIdeal.Value.run m' g'
    exact (Cert.InUIdeal.Product.final m _).symm

/-! ## The lower half of the gradient of the input projection's weight -/

theorem inL_frame : Cert.quiescent_InL := fun m ρ _ => Cert.InL.Gen.frame m ρ

theorem inL_frame_ideal : Cert.quiescent_InLIdeal := fun m ρ _ => Cert.InLIdeal.Gen.frame m ρ

theorem inL_frame_ref : Cert.quiescent_InLRefIdeal := fun m ρ _ =>
  (θ_run Cert.InLRefIdeal.defs _ _).mono (fun r h => ⟨fun c => (h c).2, sem_eq_zero_of_no_sems (by decide) r.2⟩)
    (Cert.InLRefIdeal.Value.run (F := Ideal) m ρ)

/-- The kernel's result array is the reference's gradient. -/
theorem inL_value : Cert.algebraic_InLIdeal_InLRefIdeal := by
  pair_intro
  · run_from Cert.InLIdeal.Gen.run_main m g
  · run_from Cert.InLRefIdeal.Value.run m' g'
    exact (Cert.InLIdeal.Product.final m _).symm

/-! ## The gradient of a projection in its operand -/

theorem projX_frame : Cert.quiescent_ProjX := fun m ρ _ => Cert.ProjX.Gen.frame m ρ

theorem projX_frame_ideal : Cert.quiescent_ProjXIdeal := fun m ρ _ => Cert.ProjXIdeal.Gen.frame m ρ

theorem projX_frame_ref : Cert.quiescent_ProjXRefIdeal := fun m ρ _ =>
  (θ_run Cert.ProjXRefIdeal.defs _ _).mono (fun r h => ⟨fun c => (h c).2, sem_eq_zero_of_no_sems (by decide) r.2⟩)
    (Cert.ProjXRefIdeal.Value.run (F := Ideal) m ρ)

/-- The kernel's result array is the reference's gradient. -/
theorem projX_value : Cert.algebraic_ProjXIdeal_ProjXRefIdeal := by
  pair_intro
  · run_from Cert.ProjXIdeal.Gen.run_main m g
  · run_from Cert.ProjXRefIdeal.Value.run m' g'
    exact (Cert.ProjXIdeal.Product.final m _).symm

/-! ## The gradient of a projection's weight -/

theorem projW_frame : Cert.quiescent_ProjW := fun m ρ _ => Cert.ProjW.Gen.frame m ρ

theorem projW_frame_ideal : Cert.quiescent_ProjWIdeal := fun m ρ _ => Cert.ProjWIdeal.Gen.frame m ρ

theorem projW_frame_ref : Cert.quiescent_ProjWRefIdeal := fun m ρ _ =>
  (θ_run Cert.ProjWRefIdeal.defs _ _).mono (fun r h => ⟨fun c => (h c).2, sem_eq_zero_of_no_sems (by decide) r.2⟩)
    (Cert.ProjWRefIdeal.Value.run (F := Ideal) m ρ)

/-- The kernel's result array is the reference's gradient. -/
theorem projW_value : Cert.algebraic_ProjWIdeal_ProjWRefIdeal := by
  pair_intro
  · run_from Cert.ProjWIdeal.Gen.run_main m g
  · run_from Cert.ProjWRefIdeal.Value.run m' g'
    exact (Cert.ProjWIdeal.Product.final m _).symm

/-! ## A projection -/

theorem projY_frame : Cert.quiescent_ProjY := fun m ρ _ => Cert.ProjY.Gen.frame m ρ

theorem projY_frame_ideal : Cert.quiescent_ProjYIdeal := fun m ρ _ => Cert.ProjYIdeal.Gen.frame m ρ

theorem projY_frame_ref : Cert.quiescent_ProjYRefIdeal := fun m ρ _ =>
  (θ_run Cert.ProjYRefIdeal.defs _ _).mono (fun r h => ⟨fun c => (h c).2, sem_eq_zero_of_no_sems (by decide) r.2⟩)
    (Cert.ProjYRefIdeal.Value.run (F := Ideal) m ρ)

/-- The kernel's result array is the reference's product. -/
theorem projY_value : Cert.algebraic_ProjYIdeal_ProjYRefIdeal := by
  pair_intro
  · run_from Cert.ProjYIdeal.Gen.run_main m g
  · run_from Cert.ProjYRefIdeal.Value.run m' g'
    exact (Cert.ProjYIdeal.Product.final m _).symm

end Cert.Products
-- ==== Proof.Rows.lean ====
module

public import proofs.«01_k».proof.Defs
public import proofs.«01_k».proof.Proof.Gen.MergeF.Frame
public import proofs.«01_k».proof.Proof.Gen.MergeFIdeal.Value
public import proofs.«01_k».proof.Proof.Gen.MergeFRefIdeal.Run
public import proofs.«01_k».proof.Proof.Gen.MergeB.Frame
public import proofs.«01_k».proof.Proof.Gen.MergeBIdeal.Value
public import proofs.«01_k».proof.Proof.Gen.MergeBRefIdeal.Run
public import proofs.«01_k».proof.Proof.Gen.LnF.Frame
public import proofs.«01_k».proof.Proof.Gen.LnFIdeal.Value
public import proofs.«01_k».proof.Proof.Gen.LnFRefIdeal.Run
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamProj.Frame
public import proofs.«01_k».proof.Proof.Gen.AdamProjIdeal.Value
public import proofs.«01_k».proof.Proof.Gen.AdamProjRefIdeal.Run
public import proofs.«01_k».proof.Proof.Gen.AdamConv.Frame
public import proofs.«01_k».proof.Proof.Gen.AdamConvIdeal.Value
public import proofs.«01_k».proof.Proof.Gen.AdamConvRefIdeal.Run
public import proofs.«01_k».proof.Proof.Gen.AdamVec.Frame
public import proofs.«01_k».proof.Proof.Gen.AdamVecIdeal.Value
public import proofs.«01_k».proof.Proof.Gen.AdamVecRefIdeal.Run
public import proofs.«01_k».proof.Proof.Gen.LnB.Frame
public import proofs.«01_k».proof.Proof.Gen.LnBIdeal.Value
public import proofs.«01_k».proof.Proof.Gen.LnBRefIdeal.Run
public import proofs.«01_k».proof.Proof.Gen.Loss.Frame
public import proofs.«01_k».proof.Proof.Gen.LossIdeal.Value
public import proofs.«01_k».proof.Proof.Gen.LossRefIdeal.Run
public import proofs.«01_k».proof.Proof.Gen.ConvF.Frame
public import proofs.«01_k».proof.Proof.Gen.ConvFIdeal.Value
public import proofs.«01_k».proof.Proof.Gen.ConvFRefIdeal.Run
public import proofs.«01_k».proof.Proof.LossBack
public import Idealize.ShloMosaic.Lib.Claim
public import Idealize.ShloMosaic.Lib.Quiescent

/-! # The frames of the elementwise calls

The two halves of the merge, the two normalisations and their gradients, the convolution's branch and the four calls of the optimiser end with no copy outstanding
and every argument as it was; so do their references. -/

set_option maxRecDepth 16384

@[expose] public section

noncomputable section

open Idealize.ShloMosaic Idealize.ShloMosaic.TcCoe Idealize.SL.Sem

namespace Cert.Rows

theorem mergeF_frame : Cert.quiescent_MergeF := fun m ρ _ => Cert.MergeF.Gen.frame m ρ

theorem mergeF_frame_ideal : Cert.quiescent_MergeFIdeal := fun m ρ _ => Cert.MergeFIdeal.Gen.frame m ρ

theorem mergeF_frame_ref : Cert.quiescent_MergeFRefIdeal := fun m ρ _ =>
  (θ_run Cert.MergeFRefIdeal.defs _ _).mono
    (fun r h => ⟨fun c => (h c).2, sem_eq_zero_of_no_sems (by decide) r.2⟩)
    (Cert.MergeFRefIdeal.Value.run (F := Ideal) m ρ)

theorem mergeB_frame : Cert.quiescent_MergeB := fun m ρ _ => Cert.MergeB.Gen.frame m ρ

theorem mergeB_frame_ideal : Cert.quiescent_MergeBIdeal := fun m ρ _ => Cert.MergeBIdeal.Gen.frame m ρ

theorem mergeB_frame_ref : Cert.quiescent_MergeBRefIdeal := fun m ρ _ =>
  (θ_run Cert.MergeBRefIdeal.defs _ _).mono
    (fun r h => ⟨fun c => (h c).2.2.2, sem_eq_zero_of_no_sems (by decide) r.2⟩)
    (Cert.MergeBRefIdeal.Value.run (F := Ideal) m ρ)

theorem lnF_frame : Cert.quiescent_LnF := fun m ρ _ => Cert.LnF.Gen.frame m ρ

theorem lnF_frame_ideal : Cert.quiescent_LnFIdeal := fun m ρ _ => Cert.LnFIdeal.Gen.frame m ρ

theorem lnF_frame_ref : Cert.quiescent_LnFRefIdeal := fun m ρ _ =>
  (θ_run Cert.LnFRefIdeal.defs _ _).mono
    (fun r h => ⟨fun c => (h c).2.2, sem_eq_zero_of_no_sems (by decide) r.2⟩)
    (Cert.LnFRefIdeal.Value.run (F := Ideal) m ρ)

theorem adamIn_frame : Cert.quiescent_AdamIn := fun m ρ _ => Cert.AdamIn.Gen.frame m ρ

theorem adamIn_frame_ideal : Cert.quiescent_AdamInIdeal := fun m ρ _ => Cert.AdamInIdeal.Gen.frame m ρ

theorem adamIn_frame_ref : Cert.quiescent_AdamInRefIdeal := fun m ρ _ =>
  (θ_run Cert.AdamInRefIdeal.defs _ _).mono
    (fun r h => ⟨fun c => (h c).2.2.2.2, sem_eq_zero_of_no_sems (by decide) r.2⟩)
    (Cert.AdamInRefIdeal.Value.run (F := Ideal) m ρ)

theorem adamProj_frame : Cert.quiescent_AdamProj := fun m ρ _ => Cert.AdamProj.Gen.frame m ρ

theorem adamProj_frame_ideal : Cert.quiescent_AdamProjIdeal := fun m ρ _ => Cert.AdamProjIdeal.Gen.frame m ρ

theorem adamProj_frame_ref : Cert.quiescent_AdamProjRefIdeal := fun m ρ _ =>
  (θ_run Cert.AdamProjRefIdeal.defs _ _).mono
    (fun r h => ⟨fun c => (h c).2.2.2.2, sem_eq_zero_of_no_sems (by decide) r.2⟩)
    (Cert.AdamProjRefIdeal.Value.run (F := Ideal) m ρ)

theorem adamConv_frame : Cert.quiescent_AdamConv := fun m ρ _ => Cert.AdamConv.Gen.frame m ρ

theorem adamConv_frame_ideal : Cert.quiescent_AdamConvIdeal := fun m ρ _ => Cert.AdamConvIdeal.Gen.frame m ρ

theorem adamConv_frame_ref : Cert.quiescent_AdamConvRefIdeal := fun m ρ _ =>
  (θ_run Cert.AdamConvRefIdeal.defs _ _).mono
    (fun r h => ⟨fun c => (h c).2.2.2.2, sem_eq_zero_of_no_sems (by decide) r.2⟩)
    (Cert.AdamConvRefIdeal.Value.run (F := Ideal) m ρ)

theorem adamVec_frame : Cert.quiescent_AdamVec := fun m ρ _ => Cert.AdamVec.Gen.frame m ρ

theorem adamVec_frame_ideal : Cert.quiescent_AdamVecIdeal := fun m ρ _ => Cert.AdamVecIdeal.Gen.frame m ρ

theorem adamVec_frame_ref : Cert.quiescent_AdamVecRefIdeal := fun m ρ _ =>
  (θ_run Cert.AdamVecRefIdeal.defs _ _).mono
    (fun r h => ⟨fun c => (h c).2.2.2.2, sem_eq_zero_of_no_sems (by decide) r.2⟩)
    (Cert.AdamVecRefIdeal.Value.run (F := Ideal) m ρ)

theorem lnB_frame : Cert.quiescent_LnB := fun m ρ _ => Cert.LnB.Gen.frame m ρ

theorem lnB_frame_ideal : Cert.quiescent_LnBIdeal := fun m ρ _ => Cert.LnBIdeal.Gen.frame m ρ

theorem lnB_frame_ideal_pre : Cert.quiescent_LnBIdeal_pre_finite_gains := fun m ρ _ => Cert.LnBIdeal.Gen.frame m ρ

theorem lnB_frame_ref : Cert.quiescent_LnBRefIdeal := fun m ρ _ =>
  (θ_run Cert.LnBRefIdeal.defs _ _).mono
    (fun r h => ⟨fun c => (h c).2.2.2, sem_eq_zero_of_no_sems (by decide) r.2⟩)
    (Cert.LnBRefIdeal.Value.run (F := Ideal) m ρ)

theorem lnB_frame_ref_pre : Cert.quiescent_LnBRefIdeal_pre_finite_gains := fun m ρ _ =>
  (θ_run Cert.LnBRefIdeal.defs _ _).mono
    (fun r h => ⟨fun c => (h c).2.2.2, sem_eq_zero_of_no_sems (by decide) r.2⟩)
    (Cert.LnBRefIdeal.Value.run (F := Ideal) m ρ)

theorem loss_frame : Cert.quiescent_Loss := fun m ρ _ => Cert.Loss.Gen.frame m ρ

theorem loss_frame_ideal : Cert.quiescent_LossIdeal := fun m ρ _ => Cert.LossIdeal.Gen.frame m ρ

theorem loss_frame_ideal_pre : Cert.quiescent_LossIdeal_pre_finite_target := fun m ρ _ => Cert.LossIdeal.Gen.frame m ρ

theorem loss_frame_ref : Cert.quiescent_LossRefIdeal := fun m ρ _ =>
  (θ_run Cert.LossRefIdeal.defs _ _).mono
    (fun r h => ⟨fun c => (h c).2.2.2.2.2, sem_eq_zero_of_no_sems (by decide) r.2⟩)
    (Cert.LossRefIdeal.Value.run (F := Ideal) m ρ)

theorem loss_frame_ref_pre : Cert.quiescent_LossRefIdeal_pre_finite_target := fun m ρ _ =>
  (θ_run Cert.LossRefIdeal.defs _ _).mono
    (fun r h => ⟨fun c => (h c).2.2.2.2.2, sem_eq_zero_of_no_sems (by decide) r.2⟩)
    (Cert.LossRefIdeal.Value.run (F := Ideal) m ρ)

theorem convF_frame : Cert.quiescent_ConvF := fun m ρ _ => Cert.ConvF.Gen.frame m ρ

theorem convF_frame_ideal : Cert.quiescent_ConvFIdeal := fun m ρ _ => Cert.ConvFIdeal.Gen.frame m ρ

theorem convF_frame_ref : Cert.quiescent_ConvFRefIdeal := fun m ρ _ =>
  (θ_run Cert.ConvFRefIdeal.defs _ _).mono
    (fun r h => ⟨fun c => (h c).2, sem_eq_zero_of_no_sems (by decide) r.2⟩)
    (Cert.ConvFRefIdeal.Value.run (F := Ideal) m ρ)

end Cert.Rows
-- ==== Proof.lean ====
module

public import proofs.«01_k».proof.Defs
public import proofs.«01_k».proof.Proof.Attn
public import proofs.«01_k».proof.Proof.AttnValue
public import proofs.«01_k».proof.Proof.Fwd
public import proofs.«01_k».proof.Proof.FwdValue
public import proofs.«01_k».proof.Proof.Gen.KernelIdeal.Value
public import proofs.«01_k».proof.Proof.Gen.FwdIdeal.Value
public import proofs.«01_k».proof.Proof.Gen.FwdRefIdeal.Run
public import proofs.«01_k».proof.Proof.Gen.ProjYIdeal.Value
public import proofs.«01_k».proof.Proof.Gen.ProjYRefIdeal.Run
public import proofs.«01_k».proof.Proof.ConvFwd
public import proofs.«01_k».proof.Proof.LnBack
public import proofs.«01_k».proof.Proof.LnFwd
public import proofs.«01_k».proof.Proof.LossBack
public import proofs.«01_k».proof.Proof.Merge
public import proofs.«01_k».proof.Proof.OptConv
public import proofs.«01_k».proof.Proof.OptIn
public import proofs.«01_k».proof.Proof.OptProj
public import proofs.«01_k».proof.Proof.OptVec
public import proofs.«01_k».proof.Proof.Products
public import proofs.«01_k».proof.Proof.Rows
public import Idealize.ShloMosaic.Adequacy
public import Idealize.ShloMosaic.Init

/-! # The certificate

The claims about the attention's gradient come from `Proof/Attn.lean` and
`Proof/AttnValue.lean`, those about the products of the backward pass from
`Proof/Products.lean`, those about the attention's forward call from
`Proof/Fwd.lean` and `Proof/FwdValue.lean`, those about the merge, the two
normalisations, the convolution's branch and the optimiser from `Proof/Rows.lean`, `Proof/Merge.lean`, `Proof/LnFwd.lean`,
`Proof/LnBack.lean`, `Proof/LossBack.lean`, `Proof/ConvFwd.lean` and
`Proof/OptIn.lean`, `Proof/OptProj.lean`, `Proof/OptConv.lean`, `Proof/OptVec.lean`. -/

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.InX.Gen.facts, Cert.InXIdeal.Gen.facts, Cert.InXRefIdeal.Gen.facts, Cert.InU.Gen.facts, Cert.InUIdeal.Gen.facts, Cert.InURefIdeal.Gen.facts, Cert.InL.Gen.facts, Cert.InLIdeal.Gen.facts, Cert.InLRefIdeal.Gen.facts, Cert.ProjX.Gen.facts, Cert.ProjXIdeal.Gen.facts, Cert.ProjXRefIdeal.Gen.facts, Cert.ProjW.Gen.facts, Cert.ProjWIdeal.Gen.facts, Cert.ProjWRefIdeal.Gen.facts, Cert.ProjY.Gen.facts, Cert.ProjYIdeal.Gen.facts, Cert.ProjYRefIdeal.Gen.facts, Cert.Fwd.Gen.facts, Cert.FwdIdeal.Gen.facts, Cert.FwdRefIdeal.Gen.facts, Cert.MergeF.Gen.facts, Cert.MergeFIdeal.Gen.facts, Cert.MergeFRefIdeal.Gen.facts, Cert.MergeB.Gen.facts, Cert.MergeBIdeal.Gen.facts, Cert.MergeBRefIdeal.Gen.facts, Cert.LnF.Gen.facts, Cert.LnFIdeal.Gen.facts, Cert.LnFRefIdeal.Gen.facts, Cert.AdamIn.Gen.facts, Cert.AdamInIdeal.Gen.facts, Cert.AdamInRefIdeal.Gen.facts, Cert.AdamProj.Gen.facts, Cert.AdamProjIdeal.Gen.facts, Cert.AdamProjRefIdeal.Gen.facts, Cert.AdamConv.Gen.facts, Cert.AdamConvIdeal.Gen.facts, Cert.AdamConvRefIdeal.Gen.facts, Cert.AdamVec.Gen.facts, Cert.AdamVecIdeal.Gen.facts, Cert.AdamVecRefIdeal.Gen.facts, Cert.LnB.Gen.facts, Cert.LnBIdeal.Gen.facts, Cert.LnBRefIdeal.Gen.facts, Cert.Loss.Gen.facts, Cert.LossIdeal.Gen.facts, Cert.LossRefIdeal.Gen.facts, Cert.ConvF.Gen.facts, Cert.ConvFIdeal.Gen.facts, Cert.ConvFRefIdeal.Gen.facts,
  Attn.pre_facts, Fw.pre_facts, Ln.pre_facts_gains, Ln.pre_facts_target,
  Attn.frame, Attn.frame_ideal, Attn.frame_ideal_pre, Attn.frame_ref, Attn.frame_ref_pre,
  Products.inX_frame, Products.inX_frame_ideal, Products.inX_frame_ref,
  Products.inU_frame, Products.inU_frame_ideal, Products.inU_frame_ref,
  Products.inL_frame, Products.inL_frame_ideal, Products.inL_frame_ref,
  Products.projX_frame, Products.projX_frame_ideal, Products.projX_frame_ref,
  Products.projW_frame, Products.projW_frame_ideal, Products.projW_frame_ref,
  Products.projY_frame, Products.projY_frame_ideal, Products.projY_frame_ref,
  Fw.frame, Fw.frame_ideal, Fw.frame_ideal_pre, Fw.frame_ref, Fw.frame_ref_pre,
  Rows.mergeF_frame, Rows.mergeF_frame_ideal, Rows.mergeF_frame_ref,
  Rows.mergeB_frame, Rows.mergeB_frame_ideal, Rows.mergeB_frame_ref,
  Rows.lnF_frame, Rows.lnF_frame_ideal, Rows.lnF_frame_ref,
  Rows.adamIn_frame, Rows.adamIn_frame_ideal, Rows.adamIn_frame_ref,
  Rows.adamProj_frame, Rows.adamProj_frame_ideal, Rows.adamProj_frame_ref,
  Rows.adamConv_frame, Rows.adamConv_frame_ideal, Rows.adamConv_frame_ref,
  Rows.adamVec_frame, Rows.adamVec_frame_ideal, Rows.adamVec_frame_ref,
  Rows.lnB_frame, Rows.lnB_frame_ideal, Rows.lnB_frame_ideal_pre, Rows.lnB_frame_ref, Rows.lnB_frame_ref_pre,
  Rows.loss_frame, Rows.loss_frame_ideal, Rows.loss_frame_ideal_pre, Rows.loss_frame_ref, Rows.loss_frame_ref_pre,
  Rows.convF_frame, Rows.convF_frame_ideal, Rows.convF_frame_ref,
  Attn.preserves, Attn.value,
  trivial, Products.inX_value,
  trivial, Products.inU_value,
  trivial, Products.inL_value,
  trivial, Products.projX_value,
  trivial, Products.projW_value,
  trivial, Products.projY_value,
  Fw.preserves, Fw.value,
  trivial, Merge.forward_value,
  trivial, Merge.backward_value,
  trivial, Ln.forward_value,
  trivial, AdamInIdeal.Opt.value,
  trivial, AdamProjIdeal.Opt.value,
  trivial, AdamConvIdeal.Opt.value,
  trivial, AdamVecIdeal.Opt.value,
  trivial, Ln.backward_value,
  trivial, Ln.loss_value,
  trivial, Conv.forward_value⟩

end Cert.Proof
